-- ==== Defs.lean ====
def Pre_Kernel (m : (ℓ : Loc Cert.Kernel.nD Cert.Kernel.τ Cert.Kernel.sig) → Buf (Elt Bits) ℓ) : Prop :=
  True

def Pre_Kernel_below_two [hPre_below_two : Cert.Pre_below_two.Facts] (m : (ℓ : Loc Cert.Kernel.nD Cert.Kernel.τ Cert.Kernel.sig) → Buf (Elt Bits) ℓ) : Prop :=
  ∀ c : Dev Cert.Kernel.nD,
    (Cert.Pre_below_two.fn (F := Bits) (m ((c.tc : Thread Cert.Kernel.nD Cert.Kernel.τ).loc Cert.Kernel.main_arg0))) = (fun _ => 1#1)

def Pre_Reference (m : (ℓ : Loc Cert.Reference.nD Cert.Reference.τ Cert.Reference.sig) → Buf (Elt Bits) ℓ) : Prop :=
  True

def Pre_Reference_below_two [hPre_below_two : Cert.Pre_below_two.Facts] (m : (ℓ : Loc Cert.Reference.nD Cert.Reference.τ Cert.Reference.sig) → Buf (Elt Bits) ℓ) : Prop :=
  ∀ c : Dev Cert.Reference.nD,
    (Cert.Pre_below_two.fn (F := Bits) (m ((c.tc : Thread Cert.Reference.nD Cert.Reference.τ).loc Cert.Reference.main_arg0))) = (fun _ => 1#1)

def Pre_Whole (m : (ℓ : Loc Cert.Whole.nD Cert.Whole.τ Cert.Whole.sig) → Buf (Elt Bits) ℓ) : Prop :=
  True

def Pre_Plain (m : (ℓ : Loc Cert.Plain.nD Cert.Plain.τ Cert.Plain.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_below_two [hKernel : Cert.Kernel.Facts] [hPre_below_two : Cert.Pre_below_two.Facts] : Prop :=
  ∀ (m : (ℓ : Loc Cert.Kernel.nD Cert.Kernel.τ Cert.Kernel.sig) → Buf (Elt Bits) ℓ) (g : Dev Cert.Kernel.nD → PrngReg), Pre_Kernel_below_two m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_below_two [hReference : Cert.Reference.Facts] [hPre_below_two : Cert.Pre_below_two.Facts] : Prop :=
  ∀ (m : (ℓ : Loc Cert.Reference.nD Cert.Reference.τ Cert.Reference.sig) → Buf (Elt Bits) ℓ) (g : Dev Cert.Reference.nD → PrngReg), Pre_Reference_below_two m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (Cert.Whole.threads (F := Bits)) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1))
      ∧ r.2.sem = fun _ => 0)

def bitexact_Kernel_Reference_pre_below_two [hKernel : Cert.Kernel.Facts] [hReference : Cert.Reference.Facts] [hPre_below_two : Cert.Pre_below_two.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_below_two m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v4)) (v1 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_v5) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_values) = v0 c
          ∧ r.2.mem ((c.tc : Thread Cert.Reference.nD Cert.Reference.τ).loc Cert.Reference.main_indices) = v1 c
          ∧ r.2.mem ((c.tc : Thread Cert.Reference.nD Cert.Reference.τ).loc Cert.Reference.main_arg0) = m' ((c.tc : Thread Cert.Reference.nD Cert.Reference.τ).loc Cert.Reference.main_arg0))

def bitexact_Whole_Plain [hWhole : Cert.Whole.Facts] [hPlain : Cert.Plain.Facts] : Prop :=
  ∀ (m : (ℓ : Loc Cert.Whole.nD Cert.Whole.τ Cert.Whole.sig) → Buf (Elt Bits) ℓ) (g : Dev Cert.Whole.nD → PrngReg)
    (m' : (ℓ : Loc Cert.Plain.nD Cert.Plain.τ Cert.Plain.sig) → Buf (Elt Bits) ℓ) (g' : Dev Cert.Plain.nD → PrngReg), Pre_Whole m →
    (∀ c : Dev Cert.Whole.nD,
      m' ((c.tc : Thread Cert.Plain.nD Cert.Plain.τ).loc Cert.Plain.main_arg0) = m ((c.tc : Thread Cert.Whole.nD Cert.Whole.τ).loc Cert.Whole.main_arg0)
      ∧ m' ((c.tc : Thread Cert.Plain.nD Cert.Plain.τ).loc Cert.Plain.main_arg1) = m ((c.tc : Thread Cert.Whole.nD Cert.Whole.τ).loc Cert.Whole.main_arg1)) →
    ∃ (v0 : (c : Dev Cert.Whole.nD) → Buf (Elt Bits) ((c.tc : Thread Cert.Whole.nD Cert.Whole.τ).loc Cert.Whole.main_v26)) (v1 : (c : Dev Cert.Whole.nD) → Buf (Elt Bits) ((c.tc : Thread Cert.Whole.nD Cert.Whole.τ).loc Cert.Whole.main_v31)),
      θ_run (Cert.Whole.defs (F := Bits)) (Cert.Whole.threads (F := Bits)) ⟨m, fun _ => 0, g⟩ (fun r => ∀ c : Dev Cert.Whole.nD,
          r.2.mem ((c.tc : Thread Cert.Whole.nD Cert.Whole.τ).loc Cert.Whole.main_v26) = v0 c
          ∧ r.2.mem ((c.tc : Thread Cert.Whole.nD Cert.Whole.τ).loc Cert.Whole.main_v31) = v1 c
          ∧ r.2.mem ((c.tc : Thread Cert.Whole.nD Cert.Whole.τ).loc Cert.Whole.main_arg0) = m ((c.tc : Thread Cert.Whole.nD Cert.Whole.τ).loc Cert.Whole.main_arg0)
          ∧ r.2.mem ((c.tc : Thread Cert.Whole.nD Cert.Whole.τ).loc Cert.Whole.main_arg1) = m ((c.tc : Thread Cert.Whole.nD Cert.Whole.τ).loc Cert.Whole.main_arg1))
      ∧ θ_run (Cert.Plain.defs (F := Bits)) (onTc (τ := Cert.Plain.τ) (Cert.Plain.main (F := Bits))) ⟨m', fun _ => 0, g'⟩ (fun r => ∀ c : Dev Cert.Plain.nD,
          r.2.mem ((c.tc : Thread Cert.Plain.nD Cert.Plain.τ).loc Cert.Plain.main_v28) = v0 c
          ∧ r.2.mem ((c.tc : Thread Cert.Plain.nD Cert.Plain.τ).loc Cert.Plain.main_v33) = v1 c
          ∧ r.2.mem ((c.tc : Thread Cert.Plain.nD Cert.Plain.τ).loc Cert.Plain.main_arg0) = m' ((c.tc : Thread Cert.Plain.nD Cert.Plain.τ).loc Cert.Plain.main_arg0)
          ∧ r.2.mem ((c.tc : Thread Cert.Plain.nD Cert.Plain.τ).loc Cert.Plain.main_arg1) = m' ((c.tc : Thread Cert.Plain.nD Cert.Plain.τ).loc Cert.Plain.main_arg1))

def Claim : Prop :=
  ∃ (hKernel : Cert.Kernel.Facts) (hReference : Cert.Reference.Facts) (hWhole : Cert.Whole.Facts) (hPlain : Cert.Plain.Facts) (hPre_below_two : Cert.Pre_below_two.Facts),
    quiescent_Kernel (hKernel := hKernel)
    ∧ quiescent_Kernel_pre_below_two (hKernel := hKernel) (hPre_below_two := hPre_below_two)
    ∧ quiescent_Reference (hReference := hReference)
    ∧ quiescent_Reference_pre_below_two (hReference := hReference) (hPre_below_two := hPre_below_two)
    ∧ quiescent_Whole (hWhole := hWhole)
    ∧ quiescent_Plain (hPlain := hPlain)
    ∧ bitexact_Kernel_Reference_pre_below_two (hKernel := hKernel) (hReference := hReference) (hPre_below_two := hPre_below_two)
    ∧ bitexact_Whole_Plain (hWhole := hWhole) (hPlain := hPlain)
-- ==== Pre_below_two.lean ====
abbrev S100000 : Shape := ⟨1, ![100000]⟩
abbrev S_ : Shape := ⟨0, ![]⟩

class Facts : Prop where
  bcast_S_S100000 : S_.BroadcastsInDim S100000 (![] : Fin 0 → Fin S100000.rank)

variable [Facts]

def fn {F : FTy → Type} [BitOps F] (main_arg0 : FVec F S100000 .f32) : IVec S100000 1 :=
  let main_v0 : IVec S100000 32 := bitcastToInt main_arg0
  let main_c : IVec S_ 32 := constantI S_ 32 0#32
  let main_v1 : IVec S100000 32 := broadcastInDim S100000 ![] bcast_S_S100000 main_c
  let main_v2 : IVec S100000 1 := cmpi .sge main_v0 main_v1
  let main_c_0 : IVec S_ 32 := constantI S_ 32 1073741823#32
  let main_v3 : IVec S100000 32 := broadcastInDim S100000 ![] bcast_S_S100000 main_c_0
  let main_v4 : IVec S100000 1 := cmpi .sle main_v0 main_v3
  let main_v5 : IVec S100000 1 := andi main_v2 main_v4
  main_v5
-- ==== Kernel.lean ====
abbrev S100000 : Shape := ⟨1, ![100000]⟩
abbrev S50176 : Shape := ⟨1, ![50176]⟩
abbrev S16 : Shape := ⟨1, ![16]⟩
abbrev S100352 : Shape := ⟨1, ![100352]⟩
abbrev S32768 : Shape := ⟨1, ![32768]⟩
abbrev S256 : Shape := ⟨1, ![256]⟩
abbrev S6272 : Shape := ⟨1, ![6272]⟩
abbrev S2048 : Shape := ⟨1, ![2048]⟩
abbrev S_ : Shape := ⟨0, ![]⟩
abbrev S5920 : Shape := ⟨1, ![5920]⟩
abbrev S50000 : Shape := ⟨1, ![50000]⟩

abbrev nBuf : Table → Nat
  | .hbm => 10
  | .shared => 6
  | .local .scVector .vmem => 12
  | _ => 0

abbrev bufTy : (tb : Table) → Fin (nBuf tb) → BufTy
  | .hbm, ⟨0, _⟩ => ⟨S100000, .f32⟩
  | .hbm, ⟨1, _⟩ => ⟨S50176, .i32⟩
  | .hbm, ⟨2, _⟩ => ⟨S50176, .i32⟩
  | .hbm, ⟨3, _⟩ => ⟨S16, .f32⟩
  | .hbm, ⟨4, _⟩ => ⟨S50000, .i32⟩
  | .hbm, ⟨5, _⟩ => ⟨S_, .i32⟩
  | .hbm, ⟨6, _⟩ => ⟨S50000, .i32⟩
  | .hbm, ⟨7, _⟩ => ⟨S50000, .i32⟩
  | .hbm, ⟨8, _⟩ => ⟨S50000, .f32⟩
  | .hbm, ⟨9, _⟩ => ⟨S50000, .i32⟩
  | .shared, ⟨0, _⟩ => ⟨S100352, .i32⟩
  | .shared, ⟨1, _⟩ => ⟨S100352, .i32⟩
  | .shared, ⟨2, _⟩ => ⟨S100352, .i32⟩
  | .shared, ⟨3, _⟩ => ⟨S100352, .i32⟩
  | .shared, ⟨4, _⟩ => ⟨S32768, .i32⟩
  | .shared, ⟨5, _⟩ => ⟨S256, .f32⟩
  | .local .scVector .vmem, ⟨0, _⟩ => ⟨S6272, .f32⟩
  | .local .scVector .vmem, ⟨1, _⟩ => ⟨S6272, .i32⟩
  | .local .scVector .vmem, ⟨2, _⟩ => ⟨S6272, .i32⟩
  | .local .scVector .vmem, ⟨3, _⟩ => ⟨S6272, .i32⟩
  | .local .scVector .vmem, ⟨4, _⟩ => ⟨S2048, .i32⟩
  | .local .scVector .vmem, ⟨5, _⟩ => ⟨S2048, .i32⟩
  | .local .scVector .vmem, ⟨6, _⟩ => ⟨S32768, .i32⟩
  | .local .scVector .vmem, ⟨7, _⟩ => ⟨S256, .f32⟩
  | .local .scVector .vmem, ⟨8, _⟩ => ⟨S16, .i32⟩
  | .local .scVector .vmem, ⟨9, _⟩ => ⟨S16, .i32⟩
  | .local .scVector .vmem, ⟨10, _⟩ => ⟨S16, .i32⟩
  | .local .scVector .vmem, ⟨11, _⟩ => ⟨S16, .f32⟩
  | _, _ => ⟨S100000, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 29 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | _ => false

abbrev sig : RefSig :=
  ofTables nBuf rfl bufTy 5 29 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev main_v0_2_scv : Ref sig .scVector := ⟨.hbm, 3, rfl⟩
abbrev cc0_scratch0 : Ref sig .scVector := ⟨.shared, 0, rfl⟩
abbrev cc0_scratch1 : Ref sig .scVector := ⟨.shared, 1, rfl⟩
abbrev cc0_scratch2 : Ref sig .scVector := ⟨.shared, 2, rfl⟩
abbrev cc0_scratch3 : Ref sig .scVector := ⟨.shared, 3, rfl⟩
abbrev cc0_scratch4 : Ref sig .scVector := ⟨.shared, 4, rfl⟩
abbrev cc0_scratch5 : Ref sig .scVector := ⟨.shared, 5, rfl⟩
abbrev cc0_scratch6 : Ref sig .scVector := ⟨.vmem, 0, rfl⟩
abbrev cc0_scratch7 : Ref sig .scVector := ⟨.vmem, 1, rfl⟩
abbrev cc0_scratch8 : Ref sig .scVector := ⟨.vmem, 2, rfl⟩
abbrev cc0_scratch9 : Ref sig .scVector := ⟨.vmem, 3, rfl⟩
abbrev cc0_scratch10 : Ref sig .scVector := ⟨.vmem, 4, rfl⟩
abbrev cc0_scratch11 : Ref sig .scVector := ⟨.vmem, 5, rfl⟩
abbrev cc0_scratch12 : Ref sig .scVector := ⟨.vmem, 6, rfl⟩
abbrev cc0_scratch13 : Ref sig .scVector := ⟨.vmem, 7, rfl⟩
abbrev cc0_scratch14 : Ref sig .scVector := ⟨.vmem, 8, rfl⟩
abbrev cc0_scratch15 : Ref sig .scVector := ⟨.vmem, 9, rfl⟩
abbrev cc0_scratch16 : Ref sig .scVector := ⟨.vmem, 10, rfl⟩
abbrev cc0_scratch17 : Ref sig .scVector := ⟨.vmem, 11, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [BitOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_cond2 (i : grid0.Coords) : BitVec 1 :=
  let arg1 : BitVec 32 := BitVec.ofNat 32 (i 1).val
  let c15_i32_24 : BitVec 32 := 15#32
  let v35 : BitVec 1 := Scalar.cmpi .slt arg1 c15_i32_24
  let v36 : BitVec 32 := Scalar.extui v35
  let c0_i32_25 : BitVec 32 := 0#32
  let v37 : BitVec 1 := Scalar.cmpi .ne v36 c0_i32_25
  v37

def k0_off1 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
def k0_cond3 (i : grid0.Coords) : BitVec 1 :=
  let arg1 : BitVec 32 := BitVec.ofNat 32 (i 1).val
  let c15_i32_26 : BitVec 32 := 15#32
  let v38 : BitVec 1 := Scalar.cmpi .eq arg1 c15_i32_26
  let v39 : BitVec 32 := Scalar.extui v38
  let c0_i32_27 : BitVec 32 := 0#32
  let v40 : BitVec 1 := Scalar.cmpi .ne v39 c0_i32_27
  v40

def k0_off2 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
@[reducible] def k0_t1_loop (i : grid0.Coords) : Scf.Loop 32 :=
  let c0_i32_28 : BitVec 32 := 0#32
  let arg1 : BitVec 32 := BitVec.ofNat 32 (i 1).val
  let c15_i32 : BitVec 32 := 15#32
  let v2 : BitVec 1 := Scalar.cmpi .eq arg1 c15_i32
  let c370_i32 : BitVec 32 := 370#32
  let c392_i32 : BitVec 32 := 392#32
  let v3 : BitVec 32 := Scalar.select v2 c370_i32 c392_i32
  let v42 : BitVec 32 := Scalar.subi v3 c0_i32_28
  let c1_i32 : BitVec 32 := 1#32
  let v44 : BitVec 32 := Scalar.divsi v42 c1_i32
  let v45 : BitVec 32 := Scalar.muli v44 c1_i32
  let v46 : BitVec 32 := Scalar.addi c0_i32_28 v45
  let c1_i32_29 : BitVec 32 := 1#32
  ⟨c0_i32_28, v46, c1_i32_29⟩
def k0_off3 (i : grid0.Coords) (k0_t1 : Fin (k0_t1_loop i).trips) : Fin 1 → Nat :=
  let c0_i32_28 : BitVec 32 := 0#32
  let c1_i32_29 : BitVec 32 := 1#32
  let arg24 : BitVec 32 := Scf.iv c0_i32_28 c1_i32_29 k0_t1
  let c16_i32_34 : BitVec 32 := 16#32
  let v54 : BitVec 32 := Scalar.muli arg24 c16_i32_34
  let v55 : Index := Scalar.indexCast v54
  ![v55.toNat]
@[reducible] def k0_t2_loop (i : grid0.Coords) : Scf.Loop 32 :=
  let c0_i32_28 : BitVec 32 := 0#32
  let arg1 : BitVec 32 := BitVec.ofNat 32 (i 1).val
  let c15_i32 : BitVec 32 := 15#32
  let v2 : BitVec 1 := Scalar.cmpi .eq arg1 c15_i32
  let c370_i32 : BitVec 32 := 370#32
  let c392_i32 : BitVec 32 := 392#32
  let v3 : BitVec 32 := Scalar.select v2 c370_i32 c392_i32
  let v42 : BitVec 32 := Scalar.subi v3 c0_i32_28
  let c1_i32 : BitVec 32 := 1#32
  let v44 : BitVec 32 := Scalar.divsi v42 c1_i32
  let v45 : BitVec 32 := Scalar.muli v44 c1_i32
  let v46 : BitVec 32 := Scalar.addi c0_i32_28 v45
  let v43 : BitVec 32 := Scalar.addi c0_i32_28 v42
  let c1_i32_30 : BitVec 32 := 1#32
  ⟨v46, v43, c1_i32_30⟩
def k0_off4 (i : grid0.Coords) (k0_t2 : Fin (k0_t2_loop i).trips) : Fin 1 → Nat :=
  let c0_i32_28 : BitVec 32 := 0#32
  let arg1 : BitVec 32 := BitVec.ofNat 32 (i 1).val
  let c15_i32 : BitVec 32 := 15#32
  let v2 : BitVec 1 := Scalar.cmpi .eq arg1 c15_i32
  let c370_i32 : BitVec 32 := 370#32
  let c392_i32 : BitVec 32 := 392#32
  let v3 : BitVec 32 := Scalar.select v2 c370_i32 c392_i32
  let v42 : BitVec 32 := Scalar.subi v3 c0_i32_28
  let c1_i32 : BitVec 32 := 1#32
  let v44 : BitVec 32 := Scalar.divsi v42 c1_i32
  let v45 : BitVec 32 := Scalar.muli v44 c1_i32
  let v46 : BitVec 32 := Scalar.addi c0_i32_28 v45
  let c1_i32_30 : BitVec 32 := 1#32
  let arg24 : BitVec 32 := Scf.iv v46 c1_i32_30 k0_t2
  let c16_i32_34 : BitVec 32 := 16#32
  let v54 : BitVec 32 := Scalar.muli arg24 c16_i32_34
  let v55 : Index := Scalar.indexCast v54
  ![v55.toNat]
def k0_cond4 (i : grid0.Coords) : BitVec 1 :=
  let arg1 : BitVec 32 := BitVec.ofNat 32 (i 1).val
  let c15_i32_31 : BitVec 32 := 15#32
  let v49 : BitVec 1 := Scalar.cmpi .eq arg1 c15_i32_31
  let v50 : BitVec 32 := Scalar.extui v49
  let c0_i32_32 : BitVec 32 := 0#32
  let v51 : BitVec 1 := Scalar.cmpi .ne v50 c0_i32_32
  v51

@[reducible] def k0_t3_loop : Scf.Loop 32 :=
  let c370_i32_35 : BitVec 32 := 370#32
  let c22_i32 : BitVec 32 := 22#32
  let v54 : BitVec 32 := Scalar.addi c370_i32_35 c22_i32
  let c1_i32_36 : BitVec 32 := 1#32
  ⟨c370_i32_35, v54, c1_i32_36⟩
def k0_off5 (k0_t3 : Fin k0_t3_loop.trips) : Fin 1 → Nat :=
  let c370_i32_35 : BitVec 32 := 370#32
  let c1_i32_36 : BitVec 32 := 1#32
  let arg24 : BitVec 32 := Scf.iv c370_i32_35 c1_i32_36 k0_t3
  let c16_i32_38 : BitVec 32 := 16#32
  let v57 : BitVec 32 := Scalar.muli arg24 c16_i32_38
  let v58 : Index := Scalar.indexCast v57
  ![v58.toNat]
def k0_off6 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
def k0_off7 (i : grid0.Coords) : Fin 1 → Nat :=
  let arg1 : BitVec 32 := BitVec.ofNat 32 (i 1).val
  let c16_i32 : BitVec 32 := 16#32
  let v53 : BitVec 32 := Scalar.muli arg1 c16_i32
  ![v53.toNat]
def k0_cond5 (i : grid0.Coords) : BitVec 1 :=
  let arg0 : BitVec 32 := BitVec.ofNat 32 (i 0).val
  let c0_i32_1 : BitVec 32 := 0#32
  let v7 : BitVec 1 := Scalar.cmpi .eq arg0 c0_i32_1
  let v8 : BitVec 32 := Scalar.extui v7
  let c0_i32_2 : BitVec 32 := 0#32
  let v9 : BitVec 1 := Scalar.cmpi .ne v8 c0_i32_2
  v9

@[reducible] def k0_t4_loop : Scf.Loop 32 :=
  let c0_i32_25 : BitVec 32 := 0#32
  let c128_i32 : BitVec 32 := 128#32
  let v35 : BitVec 32 := Scalar.addi c0_i32_25 c128_i32
  let c1_i32 : BitVec 32 := 1#32
  ⟨c0_i32_25, v35, c1_i32⟩
def k0_off8 (k0_t4 : Fin k0_t4_loop.trips) : Fin 1 → Nat :=
  let c0_i32_25 : BitVec 32 := 0#32
  let c1_i32 : BitVec 32 := 1#32
  let arg24 : BitVec 32 := Scf.iv c0_i32_25 c1_i32 k0_t4
  let c16_i32 : BitVec 32 := 16#32
  let v41 : BitVec 32 := Scalar.muli arg24 c16_i32
  let v42 : Index := Scalar.indexCast v41
  ![v42.toNat]
def k0_off9 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
@[reducible] def k0_t5_loop : Scf.Loop 32 :=
  let c0_i32_28 : BitVec 32 := 0#32
  let c392_i32_29 : BitVec 32 := 392#32
  let v37 : BitVec 32 := Scalar.addi c0_i32_28 c392_i32_29
  let c1_i32_30 : BitVec 32 := 1#32
  ⟨c0_i32_28, v37, c1_i32_30⟩
def k0_off10 (k0_t5 : Fin k0_t5_loop.trips) : Fin 1 → Nat :=
  let c0_i32_28 : BitVec 32 := 0#32
  let c1_i32_30 : BitVec 32 := 1#32
  let arg24 : BitVec 32 := Scf.iv c0_i32_28 c1_i32_30 k0_t5
  let c16_i32 : BitVec 32 := 16#32
  let v40 : BitVec 32 := Scalar.muli arg24 c16_i32
  let v41 : Index := Scalar.indexCast v40
  ![v41.toNat]

def k0_chk1 (i : grid0.Coords) (v53 : IVec S16 32) : Prop :=
  (∀ (k0_h5 : k0_cond5 i = 1#1), ∀ a x, ((![v53] : Fin 1 → IVec S16 32) a x).toNat < S16.size a)
theorem k0_idx1_inb : ∀ (i : grid0.Coords) (v53 : IVec S16 32) (k0_hw1 : k0_chk1 i v53), ∀ (k0_h5 : k0_cond5 i = 1#1), ∀ a x, ((![v53] : Fin 1 → IVec S16 32) a x).toNat < S16.size a := fun i v53 k0_hw1 k0_h5 => k0_hw1 k0_h5

def k0_chk2 (i : grid0.Coords) (v64 : IVec S16 32) : Prop :=
  (∀ (k0_h5 : k0_cond5 i = 1#1), ∀ a x, ((![v64] : Fin 1 → IVec S16 32) a x).toNat < S16.size a)
theorem k0_idx2_inb : ∀ (i : grid0.Coords) (v64 : IVec S16 32) (k0_hw2 : k0_chk2 i v64), ∀ (k0_h5 : k0_cond5 i = 1#1), ∀ a x, ((![v64] : Fin 1 → IVec S16 32) a x).toNat < S16.size a := fun i v64 k0_hw2 k0_h5 => k0_hw2 k0_h5

def k0_chk3 (i : grid0.Coords) (v75 : IVec S16 32) : Prop :=
  (∀ (k0_h5 : k0_cond5 i = 1#1), ∀ a x, ((![v75] : Fin 1 → IVec S16 32) a x).toNat < S16.size a)
theorem k0_idx3_inb : ∀ (i : grid0.Coords) (v75 : IVec S16 32) (k0_hw3 : k0_chk3 i v75), ∀ (k0_h5 : k0_cond5 i = 1#1), ∀ a x, ((![v75] : Fin 1 → IVec S16 32) a x).toNat < S16.size a := fun i v75 k0_hw3 k0_h5 => k0_hw3 k0_h5

def k0_chk4 (i : grid0.Coords) (v86 : IVec S16 32) : Prop :=
  (∀ (k0_h5 : k0_cond5 i = 1#1), ∀ a x, ((![v86] : Fin 1 → IVec S16 32) a x).toNat < S16.size a)
theorem k0_idx4_inb : ∀ (i : grid0.Coords) (v86 : IVec S16 32) (k0_hw4 : k0_chk4 i v86), ∀ (k0_h5 : k0_cond5 i = 1#1), ∀ a x, ((![v86] : Fin 1 → IVec S16 32) a x).toNat < S16.size a := fun i v86 k0_hw4 k0_h5 => k0_hw4 k0_h5

def k0_chk5 (i : grid0.Coords) (v97 : IVec S16 32) : Prop :=
  (∀ (k0_h5 : k0_cond5 i = 1#1), ∀ a x, ((![v97] : Fin 1 → IVec S16 32) a x).toNat < S16.size a)
theorem k0_idx5_inb : ∀ (i : grid0.Coords) (v97 : IVec S16 32) (k0_hw5 : k0_chk5 i v97), ∀ (k0_h5 : k0_cond5 i = 1#1), ∀ a x, ((![v97] : Fin 1 → IVec S16 32) a x).toNat < S16.size a := fun i v97 k0_hw5 k0_h5 => k0_hw5 k0_h5

def k0_chk6 (i : grid0.Coords) (v108 : IVec S16 32) : Prop :=
  (∀ (k0_h5 : k0_cond5 i = 1#1), ∀ a x, ((![v108] : Fin 1 → IVec S16 32) a x).toNat < S16.size a)
theorem k0_idx6_inb : ∀ (i : grid0.Coords) (v108 : IVec S16 32) (k0_hw6 : k0_chk6 i v108), ∀ (k0_h5 : k0_cond5 i = 1#1), ∀ a x, ((![v108] : Fin 1 → IVec S16 32) a x).toNat < S16.size a := fun i v108 k0_hw6 k0_h5 => k0_hw6 k0_h5

def k0_chk7 (i : grid0.Coords) (v119 : IVec S16 32) : Prop :=
  (∀ (k0_h5 : k0_cond5 i = 1#1), ∀ a x, ((![v119] : Fin 1 → IVec S16 32) a x).toNat < S16.size a)
theorem k0_idx7_inb : ∀ (i : grid0.Coords) (v119 : IVec S16 32) (k0_hw7 : k0_chk7 i v119), ∀ (k0_h5 : k0_cond5 i = 1#1), ∀ a x, ((![v119] : Fin 1 → IVec S16 32) a x).toNat < S16.size a := fun i v119 k0_hw7 k0_h5 => k0_hw7 k0_h5

def k0_chk8 (i : grid0.Coords) (v130 : IVec S16 32) : Prop :=
  (∀ (k0_h5 : k0_cond5 i = 1#1), ∀ a x, ((![v130] : Fin 1 → IVec S16 32) a x).toNat < S16.size a)
theorem k0_idx8_inb : ∀ (i : grid0.Coords) (v130 : IVec S16 32) (k0_hw8 : k0_chk8 i v130), ∀ (k0_h5 : k0_cond5 i = 1#1), ∀ a x, ((![v130] : Fin 1 → IVec S16 32) a x).toNat < S16.size a := fun i v130 k0_hw8 k0_h5 => k0_hw8 k0_h5

def k0_chk9 (i : grid0.Coords) (v141 : IVec S16 32) : Prop :=
  (∀ (k0_h5 : k0_cond5 i = 1#1), ∀ a x, ((![v141] : Fin 1 → IVec S16 32) a x).toNat < S16.size a)
theorem k0_idx9_inb : ∀ (i : grid0.Coords) (v141 : IVec S16 32) (k0_hw9 : k0_chk9 i v141), ∀ (k0_h5 : k0_cond5 i = 1#1), ∀ a x, ((![v141] : Fin 1 → IVec S16 32) a x).toNat < S16.size a := fun i v141 k0_hw9 k0_h5 => k0_hw9 k0_h5

def k0_chk10 (i : grid0.Coords) (v152 : IVec S16 32) : Prop :=
  (∀ (k0_h5 : k0_cond5 i = 1#1), ∀ a x, ((![v152] : Fin 1 → IVec S16 32) a x).toNat < S16.size a)
theorem k0_idx10_inb : ∀ (i : grid0.Coords) (v152 : IVec S16 32) (k0_hw10 : k0_chk10 i v152), ∀ (k0_h5 : k0_cond5 i = 1#1), ∀ a x, ((![v152] : Fin 1 → IVec S16 32) a x).toNat < S16.size a := fun i v152 k0_hw10 k0_h5 => k0_hw10 k0_h5

def k0_chk11 (i : grid0.Coords) (v163 : IVec S16 32) : Prop :=
  (∀ (k0_h5 : k0_cond5 i = 1#1), ∀ a x, ((![v163] : Fin 1 → IVec S16 32) a x).toNat < S16.size a)
theorem k0_idx11_inb : ∀ (i : grid0.Coords) (v163 : IVec S16 32) (k0_hw11 : k0_chk11 i v163), ∀ (k0_h5 : k0_cond5 i = 1#1), ∀ a x, ((![v163] : Fin 1 → IVec S16 32) a x).toNat < S16.size a := fun i v163 k0_hw11 k0_h5 => k0_hw11 k0_h5

def k0_chk12 (i : grid0.Coords) (v174 : IVec S16 32) : Prop :=
  (∀ (k0_h5 : k0_cond5 i = 1#1), ∀ a x, ((![v174] : Fin 1 → IVec S16 32) a x).toNat < S16.size a)
theorem k0_idx12_inb : ∀ (i : grid0.Coords) (v174 : IVec S16 32) (k0_hw12 : k0_chk12 i v174), ∀ (k0_h5 : k0_cond5 i = 1#1), ∀ a x, ((![v174] : Fin 1 → IVec S16 32) a x).toNat < S16.size a := fun i v174 k0_hw12 k0_h5 => k0_hw12 k0_h5

def k0_chk13 (i : grid0.Coords) (v185 : IVec S16 32) : Prop :=
  (∀ (k0_h5 : k0_cond5 i = 1#1), ∀ a x, ((![v185] : Fin 1 → IVec S16 32) a x).toNat < S16.size a)
theorem k0_idx13_inb : ∀ (i : grid0.Coords) (v185 : IVec S16 32) (k0_hw13 : k0_chk13 i v185), ∀ (k0_h5 : k0_cond5 i = 1#1), ∀ a x, ((![v185] : Fin 1 → IVec S16 32) a x).toNat < S16.size a := fun i v185 k0_hw13 k0_h5 => k0_hw13 k0_h5

def k0_chk14 (i : grid0.Coords) (v196 : IVec S16 32) : Prop :=
  (∀ (k0_h5 : k0_cond5 i = 1#1), ∀ a x, ((![v196] : Fin 1 → IVec S16 32) a x).toNat < S16.size a)
theorem k0_idx14_inb : ∀ (i : grid0.Coords) (v196 : IVec S16 32) (k0_hw14 : k0_chk14 i v196), ∀ (k0_h5 : k0_cond5 i = 1#1), ∀ a x, ((![v196] : Fin 1 → IVec S16 32) a x).toNat < S16.size a := fun i v196 k0_hw14 k0_h5 => k0_hw14 k0_h5

def k0_chk15 (i : grid0.Coords) (v207 : IVec S16 32) : Prop :=
  (∀ (k0_h5 : k0_cond5 i = 1#1), ∀ a x, ((![v207] : Fin 1 → IVec S16 32) a x).toNat < S16.size a)
theorem k0_idx15_inb : ∀ (i : grid0.Coords) (v207 : IVec S16 32) (k0_hw15 : k0_chk15 i v207), ∀ (k0_h5 : k0_cond5 i = 1#1), ∀ a x, ((![v207] : Fin 1 → IVec S16 32) a x).toNat < S16.size a := fun i v207 k0_hw15 k0_h5 => k0_hw15 k0_h5

def k0_chk16 (i : grid0.Coords) (v218 : IVec S16 32) : Prop :=
  (∀ (k0_h5 : k0_cond5 i = 1#1), ∀ a x, ((![v218] : Fin 1 → IVec S16 32) a x).toNat < S16.size a)
theorem k0_idx16_inb : ∀ (i : grid0.Coords) (v218 : IVec S16 32) (k0_hw16 : k0_chk16 i v218), ∀ (k0_h5 : k0_cond5 i = 1#1), ∀ a x, ((![v218] : Fin 1 → IVec S16 32) a x).toNat < S16.size a := fun i v218 k0_hw16 k0_h5 => k0_hw16 k0_h5

def k0_chk17 (i : grid0.Coords) (v229 : IVec S16 32) : Prop :=
  (∀ (k0_h5 : k0_cond5 i = 1#1), ∀ a x, ((![v229] : Fin 1 → IVec S16 32) a x).toNat < S16.size a)
theorem k0_idx17_inb : ∀ (i : grid0.Coords) (v229 : IVec S16 32) (k0_hw17 : k0_chk17 i v229), ∀ (k0_h5 : k0_cond5 i = 1#1), ∀ a x, ((![v229] : Fin 1 → IVec S16 32) a x).toNat < S16.size a := fun i v229 k0_hw17 k0_h5 => k0_hw17 k0_h5

def k0_chk18 (i : grid0.Coords) (v240 : IVec S16 32) : Prop :=
  (∀ (k0_h5 : k0_cond5 i = 1#1), ∀ a x, ((![v240] : Fin 1 → IVec S16 32) a x).toNat < S16.size a)
theorem k0_idx18_inb : ∀ (i : grid0.Coords) (v240 : IVec S16 32) (k0_hw18 : k0_chk18 i v240), ∀ (k0_h5 : k0_cond5 i = 1#1), ∀ a x, ((![v240] : Fin 1 → IVec S16 32) a x).toNat < S16.size a := fun i v240 k0_hw18 k0_h5 => k0_hw18 k0_h5

def k0_chk19 (i : grid0.Coords) (v251 : IVec S16 32) : Prop :=
  (∀ (k0_h5 : k0_cond5 i = 1#1), ∀ a x, ((![v251] : Fin 1 → IVec S16 32) a x).toNat < S16.size a)
theorem k0_idx19_inb : ∀ (i : grid0.Coords) (v251 : IVec S16 32) (k0_hw19 : k0_chk19 i v251), ∀ (k0_h5 : k0_cond5 i = 1#1), ∀ a x, ((![v251] : Fin 1 → IVec S16 32) a x).toNat < S16.size a := fun i v251 k0_hw19 k0_h5 => k0_hw19 k0_h5

def k0_chk20 (i : grid0.Coords) (v262 : IVec S16 32) : Prop :=
  (∀ (k0_h5 : k0_cond5 i = 1#1), ∀ a x, ((![v262] : Fin 1 → IVec S16 32) a x).toNat < S16.size a)
theorem k0_idx20_inb : ∀ (i : grid0.Coords) (v262 : IVec S16 32) (k0_hw20 : k0_chk20 i v262), ∀ (k0_h5 : k0_cond5 i = 1#1), ∀ a x, ((![v262] : Fin 1 → IVec S16 32) a x).toNat < S16.size a := fun i v262 k0_hw20 k0_h5 => k0_hw20 k0_h5

def k0_chk21 (i : grid0.Coords) (v273 : IVec S16 32) : Prop :=
  (∀ (k0_h5 : k0_cond5 i = 1#1), ∀ a x, ((![v273] : Fin 1 → IVec S16 32) a x).toNat < S16.size a)
theorem k0_idx21_inb : ∀ (i : grid0.Coords) (v273 : IVec S16 32) (k0_hw21 : k0_chk21 i v273), ∀ (k0_h5 : k0_cond5 i = 1#1), ∀ a x, ((![v273] : Fin 1 → IVec S16 32) a x).toNat < S16.size a := fun i v273 k0_hw21 k0_h5 => k0_hw21 k0_h5

def k0_chk22 (i : grid0.Coords) (v284 : IVec S16 32) : Prop :=
  (∀ (k0_h5 : k0_cond5 i = 1#1), ∀ a x, ((![v284] : Fin 1 → IVec S16 32) a x).toNat < S16.size a)
theorem k0_idx22_inb : ∀ (i : grid0.Coords) (v284 : IVec S16 32) (k0_hw22 : k0_chk22 i v284), ∀ (k0_h5 : k0_cond5 i = 1#1), ∀ a x, ((![v284] : Fin 1 → IVec S16 32) a x).toNat < S16.size a := fun i v284 k0_hw22 k0_h5 => k0_hw22 k0_h5

def k0_chk23 (i : grid0.Coords) (v295 : IVec S16 32) : Prop :=
  (∀ (k0_h5 : k0_cond5 i = 1#1), ∀ a x, ((![v295] : Fin 1 → IVec S16 32) a x).toNat < S16.size a)
theorem k0_idx23_inb : ∀ (i : grid0.Coords) (v295 : IVec S16 32) (k0_hw23 : k0_chk23 i v295), ∀ (k0_h5 : k0_cond5 i = 1#1), ∀ a x, ((![v295] : Fin 1 → IVec S16 32) a x).toNat < S16.size a := fun i v295 k0_hw23 k0_h5 => k0_hw23 k0_h5

def k0_chk24 (i : grid0.Coords) (v306 : IVec S16 32) : Prop :=
  (∀ (k0_h5 : k0_cond5 i = 1#1), ∀ a x, ((![v306] : Fin 1 → IVec S16 32) a x).toNat < S16.size a)
theorem k0_idx24_inb : ∀ (i : grid0.Coords) (v306 : IVec S16 32) (k0_hw24 : k0_chk24 i v306), ∀ (k0_h5 : k0_cond5 i = 1#1), ∀ a x, ((![v306] : Fin 1 → IVec S16 32) a x).toNat < S16.size a := fun i v306 k0_hw24 k0_h5 => k0_hw24 k0_h5

def k0_chk25 (i : grid0.Coords) (v317 : IVec S16 32) : Prop :=
  (∀ (k0_h5 : k0_cond5 i = 1#1), ∀ a x, ((![v317] : Fin 1 → IVec S16 32) a x).toNat < S16.size a)
theorem k0_idx25_inb : ∀ (i : grid0.Coords) (v317 : IVec S16 32) (k0_hw25 : k0_chk25 i v317), ∀ (k0_h5 : k0_cond5 i = 1#1), ∀ a x, ((![v317] : Fin 1 → IVec S16 32) a x).toNat < S16.size a := fun i v317 k0_hw25 k0_h5 => k0_hw25 k0_h5

def k0_chk26 (i : grid0.Coords) (v328 : IVec S16 32) : Prop :=
  (∀ (k0_h5 : k0_cond5 i = 1#1), ∀ a x, ((![v328] : Fin 1 → IVec S16 32) a x).toNat < S16.size a)
theorem k0_idx26_inb : ∀ (i : grid0.Coords) (v328 : IVec S16 32) (k0_hw26 : k0_chk26 i v328), ∀ (k0_h5 : k0_cond5 i = 1#1), ∀ a x, ((![v328] : Fin 1 → IVec S16 32) a x).toNat < S16.size a := fun i v328 k0_hw26 k0_h5 => k0_hw26 k0_h5

def k0_chk27 (i : grid0.Coords) (v339 : IVec S16 32) : Prop :=
  (∀ (k0_h5 : k0_cond5 i = 1#1), ∀ a x, ((![v339] : Fin 1 → IVec S16 32) a x).toNat < S16.size a)
theorem k0_idx27_inb : ∀ (i : grid0.Coords) (v339 : IVec S16 32) (k0_hw27 : k0_chk27 i v339), ∀ (k0_h5 : k0_cond5 i = 1#1), ∀ a x, ((![v339] : Fin 1 → IVec S16 32) a x).toNat < S16.size a := fun i v339 k0_hw27 k0_h5 => k0_hw27 k0_h5

def k0_chk28 (i : grid0.Coords) (v350 : IVec S16 32) : Prop :=
  (∀ (k0_h5 : k0_cond5 i = 1#1), ∀ a x, ((![v350] : Fin 1 → IVec S16 32) a x).toNat < S16.size a)
theorem k0_idx28_inb : ∀ (i : grid0.Coords) (v350 : IVec S16 32) (k0_hw28 : k0_chk28 i v350), ∀ (k0_h5 : k0_cond5 i = 1#1), ∀ a x, ((![v350] : Fin 1 → IVec S16 32) a x).toNat < S16.size a := fun i v350 k0_hw28 k0_h5 => k0_hw28 k0_h5

def k0_chk29 (i : grid0.Coords) (v361 : IVec S16 32) : Prop :=
  (∀ (k0_h5 : k0_cond5 i = 1#1), ∀ a x, ((![v361] : Fin 1 → IVec S16 32) a x).toNat < S16.size a)
theorem k0_idx29_inb : ∀ (i : grid0.Coords) (v361 : IVec S16 32) (k0_hw29 : k0_chk29 i v361), ∀ (k0_h5 : k0_cond5 i = 1#1), ∀ a x, ((![v361] : Fin 1 → IVec S16 32) a x).toNat < S16.size a := fun i v361 k0_hw29 k0_h5 => k0_hw29 k0_h5

def k0_chk30 (i : grid0.Coords) (v372 : IVec S16 32) : Prop :=
  (∀ (k0_h5 : k0_cond5 i = 1#1), ∀ a x, ((![v372] : Fin 1 → IVec S16 32) a x).toNat < S16.size a)
theorem k0_idx30_inb : ∀ (i : grid0.Coords) (v372 : IVec S16 32) (k0_hw30 : k0_chk30 i v372), ∀ (k0_h5 : k0_cond5 i = 1#1), ∀ a x, ((![v372] : Fin 1 → IVec S16 32) a x).toNat < S16.size a := fun i v372 k0_hw30 k0_h5 => k0_hw30 k0_h5

def k0_chk31 (i : grid0.Coords) (v46 : IVec S16 32) : Prop :=
  (∀ (k0_h5 : k0_cond5 i = 1#1), ∀ a x, ((![v46] : Fin 1 → IVec S16 32) a x).toNat < S2048.size a)
theorem k0_idx31_inb : ∀ (i : grid0.Coords) (v46 : IVec S16 32) (k0_hw31 : k0_chk31 i v46), ∀ (k0_h5 : k0_cond5 i = 1#1), ∀ a x, ((![v46] : Fin 1 → IVec S16 32) a x).toNat < S2048.size a := fun i v46 k0_hw31 k0_h5 => k0_hw31 k0_h5
def k0_off11 (i : grid0.Coords) : Fin 1 → Nat :=
  let arg1 : BitVec 32 := BitVec.ofNat 32 (i 1).val
  let c2048_i32 : BitVec 32 := 2048#32
  let v39 : BitVec 32 := Scalar.muli arg1 c2048_i32
  ![v39.toNat]
def k0_cond6 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

@[reducible] def k0_t6_loop : Scf.Loop 32 :=
  let c0_i32_25 : BitVec 32 := 0#32
  let c128_i32 : BitVec 32 := 128#32
  let v36 : BitVec 32 := Scalar.addi c0_i32_25 c128_i32
  let c1_i32 : BitVec 32 := 1#32
  ⟨c0_i32_25, v36, c1_i32⟩
def k0_off12 (k0_t6 : Fin k0_t6_loop.trips) (c0_i32_38 : BitVec 32) : Fin 1 → Nat :=
  let c0_i32_25 : BitVec 32 := 0#32
  let c1_i32 : BitVec 32 := 1#32
  let arg24 : BitVec 32 := Scf.iv c0_i32_25 c1_i32 k0_t6
  let c16_i32 : BitVec 32 := 16#32
  let v43 : BitVec 32 := Scalar.muli arg24 c16_i32
  let v44 : BitVec 32 := Scalar.addi c0_i32_38 v43
  let v45 : Index := Scalar.indexCast v44
  ![v45.toNat]

def k0_chk32 (i : grid0.Coords) (v207 : IVec S16 32) : Prop :=
  (∀ (k0_h6 : k0_cond6 i = 1#1), ∀ a x, ((![v207] : Fin 1 → IVec S16 32) a x).toNat < S16.size a)
theorem k0_idx32_inb : ∀ (i : grid0.Coords) (v207 : IVec S16 32) (k0_hw32 : k0_chk32 i v207), ∀ (k0_h6 : k0_cond6 i = 1#1), ∀ a x, ((![v207] : Fin 1 → IVec S16 32) a x).toNat < S16.size a := fun i v207 k0_hw32 k0_h6 => k0_hw32 k0_h6

def k0_chk33 (i : grid0.Coords) (v217 : IVec S16 32) : Prop :=
  (∀ (k0_h6 : k0_cond6 i = 1#1), ∀ a x, ((![v217] : Fin 1 → IVec S16 32) a x).toNat < S16.size a)
theorem k0_idx33_inb : ∀ (i : grid0.Coords) (v217 : IVec S16 32) (k0_hw33 : k0_chk33 i v217), ∀ (k0_h6 : k0_cond6 i = 1#1), ∀ a x, ((![v217] : Fin 1 → IVec S16 32) a x).toNat < S16.size a := fun i v217 k0_hw33 k0_h6 => k0_hw33 k0_h6

def k0_chk34 (i : grid0.Coords) (v227 : IVec S16 32) : Prop :=
  (∀ (k0_h6 : k0_cond6 i = 1#1), ∀ a x, ((![v227] : Fin 1 → IVec S16 32) a x).toNat < S16.size a)
theorem k0_idx34_inb : ∀ (i : grid0.Coords) (v227 : IVec S16 32) (k0_hw34 : k0_chk34 i v227), ∀ (k0_h6 : k0_cond6 i = 1#1), ∀ a x, ((![v227] : Fin 1 → IVec S16 32) a x).toNat < S16.size a := fun i v227 k0_hw34 k0_h6 => k0_hw34 k0_h6

def k0_chk35 (i : grid0.Coords) (v237 : IVec S16 32) : Prop :=
  (∀ (k0_h6 : k0_cond6 i = 1#1), ∀ a x, ((![v237] : Fin 1 → IVec S16 32) a x).toNat < S16.size a)
theorem k0_idx35_inb : ∀ (i : grid0.Coords) (v237 : IVec S16 32) (k0_hw35 : k0_chk35 i v237), ∀ (k0_h6 : k0_cond6 i = 1#1), ∀ a x, ((![v237] : Fin 1 → IVec S16 32) a x).toNat < S16.size a := fun i v237 k0_hw35 k0_h6 => k0_hw35 k0_h6

def k0_chk36 (i : grid0.Coords) (v244 : IVec S16 32) : Prop :=
  (∀ (k0_h6 : k0_cond6 i = 1#1), ∀ a x, ((![v244] : Fin 1 → IVec S16 32) a x).toNat < S16.size a)
theorem k0_idx36_inb : ∀ (i : grid0.Coords) (v244 : IVec S16 32) (k0_hw36 : k0_chk36 i v244), ∀ (k0_h6 : k0_cond6 i = 1#1), ∀ a x, ((![v244] : Fin 1 → IVec S16 32) a x).toNat < S16.size a := fun i v244 k0_hw36 k0_h6 => k0_hw36 k0_h6
def k0_off13 (k0_t6 : Fin k0_t6_loop.trips) : Fin 1 → Nat :=
  let c0_i32_25 : BitVec 32 := 0#32
  let c1_i32 : BitVec 32 := 1#32
  let arg24 : BitVec 32 := Scf.iv c0_i32_25 c1_i32 k0_t6
  let c16_i32_76 : BitVec 32 := 16#32
  let v249 : BitVec 32 := Scalar.muli arg24 c16_i32_76
  let v250 : Index := Scalar.indexCast v249
  ![v250.toNat]
def k0_off14 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
@[reducible] def k0_t7_loop : Scf.Loop 32 :=
  let c0_i32_28 : BitVec 32 := 0#32
  let c392_i32_29 : BitVec 32 := 392#32
  let v38 : BitVec 32 := Scalar.addi c0_i32_28 c392_i32_29
  let c1_i32_30 : BitVec 32 := 1#32
  ⟨c0_i32_28, v38, c1_i32_30⟩
def k0_off15 (k0_t7 : Fin k0_t7_loop.trips) : Fin 1 → Nat :=
  let c0_i32_28 : BitVec 32 := 0#32
  let c1_i32_30 : BitVec 32 := 1#32
  let arg24 : BitVec 32 := Scf.iv c0_i32_28 c1_i32_30 k0_t7
  let c16_i32 : BitVec 32 := 16#32
  let v42 : BitVec 32 := Scalar.muli arg24 c16_i32
  let v43 : Index := Scalar.indexCast v42
  ![v43.toNat]

def k0_chk37 (i : grid0.Coords) (v55 : IVec S16 32) : Prop :=
  (∀ (k0_h6 : k0_cond6 i = 1#1), ∀ a x, ((![v55] : Fin 1 → IVec S16 32) a x).toNat < S16.size a)
theorem k0_idx37_inb : ∀ (i : grid0.Coords) (v55 : IVec S16 32) (k0_hw37 : k0_chk37 i v55), ∀ (k0_h6 : k0_cond6 i = 1#1), ∀ a x, ((![v55] : Fin 1 → IVec S16 32) a x).toNat < S16.size a := fun i v55 k0_hw37 k0_h6 => k0_hw37 k0_h6

def k0_chk38 (i : grid0.Coords) (v66 : IVec S16 32) : Prop :=
  (∀ (k0_h6 : k0_cond6 i = 1#1), ∀ a x, ((![v66] : Fin 1 → IVec S16 32) a x).toNat < S16.size a)
theorem k0_idx38_inb : ∀ (i : grid0.Coords) (v66 : IVec S16 32) (k0_hw38 : k0_chk38 i v66), ∀ (k0_h6 : k0_cond6 i = 1#1), ∀ a x, ((![v66] : Fin 1 → IVec S16 32) a x).toNat < S16.size a := fun i v66 k0_hw38 k0_h6 => k0_hw38 k0_h6

def k0_chk39 (i : grid0.Coords) (v77 : IVec S16 32) : Prop :=
  (∀ (k0_h6 : k0_cond6 i = 1#1), ∀ a x, ((![v77] : Fin 1 → IVec S16 32) a x).toNat < S16.size a)
theorem k0_idx39_inb : ∀ (i : grid0.Coords) (v77 : IVec S16 32) (k0_hw39 : k0_chk39 i v77), ∀ (k0_h6 : k0_cond6 i = 1#1), ∀ a x, ((![v77] : Fin 1 → IVec S16 32) a x).toNat < S16.size a := fun i v77 k0_hw39 k0_h6 => k0_hw39 k0_h6

def k0_chk40 (i : grid0.Coords) (v88 : IVec S16 32) : Prop :=
  (∀ (k0_h6 : k0_cond6 i = 1#1), ∀ a x, ((![v88] : Fin 1 → IVec S16 32) a x).toNat < S16.size a)
theorem k0_idx40_inb : ∀ (i : grid0.Coords) (v88 : IVec S16 32) (k0_hw40 : k0_chk40 i v88), ∀ (k0_h6 : k0_cond6 i = 1#1), ∀ a x, ((![v88] : Fin 1 → IVec S16 32) a x).toNat < S16.size a := fun i v88 k0_hw40 k0_h6 => k0_hw40 k0_h6

def k0_chk41 (i : grid0.Coords) (v99 : IVec S16 32) : Prop :=
  (∀ (k0_h6 : k0_cond6 i = 1#1), ∀ a x, ((![v99] : Fin 1 → IVec S16 32) a x).toNat < S16.size a)
theorem k0_idx41_inb : ∀ (i : grid0.Coords) (v99 : IVec S16 32) (k0_hw41 : k0_chk41 i v99), ∀ (k0_h6 : k0_cond6 i = 1#1), ∀ a x, ((![v99] : Fin 1 → IVec S16 32) a x).toNat < S16.size a := fun i v99 k0_hw41 k0_h6 => k0_hw41 k0_h6

def k0_chk42 (i : grid0.Coords) (v110 : IVec S16 32) : Prop :=
  (∀ (k0_h6 : k0_cond6 i = 1#1), ∀ a x, ((![v110] : Fin 1 → IVec S16 32) a x).toNat < S16.size a)
theorem k0_idx42_inb : ∀ (i : grid0.Coords) (v110 : IVec S16 32) (k0_hw42 : k0_chk42 i v110), ∀ (k0_h6 : k0_cond6 i = 1#1), ∀ a x, ((![v110] : Fin 1 → IVec S16 32) a x).toNat < S16.size a := fun i v110 k0_hw42 k0_h6 => k0_hw42 k0_h6

def k0_chk43 (i : grid0.Coords) (v121 : IVec S16 32) : Prop :=
  (∀ (k0_h6 : k0_cond6 i = 1#1), ∀ a x, ((![v121] : Fin 1 → IVec S16 32) a x).toNat < S16.size a)
theorem k0_idx43_inb : ∀ (i : grid0.Coords) (v121 : IVec S16 32) (k0_hw43 : k0_chk43 i v121), ∀ (k0_h6 : k0_cond6 i = 1#1), ∀ a x, ((![v121] : Fin 1 → IVec S16 32) a x).toNat < S16.size a := fun i v121 k0_hw43 k0_h6 => k0_hw43 k0_h6

def k0_chk44 (i : grid0.Coords) (v132 : IVec S16 32) : Prop :=
  (∀ (k0_h6 : k0_cond6 i = 1#1), ∀ a x, ((![v132] : Fin 1 → IVec S16 32) a x).toNat < S16.size a)
theorem k0_idx44_inb : ∀ (i : grid0.Coords) (v132 : IVec S16 32) (k0_hw44 : k0_chk44 i v132), ∀ (k0_h6 : k0_cond6 i = 1#1), ∀ a x, ((![v132] : Fin 1 → IVec S16 32) a x).toNat < S16.size a := fun i v132 k0_hw44 k0_h6 => k0_hw44 k0_h6

def k0_chk45 (i : grid0.Coords) (v143 : IVec S16 32) : Prop :=
  (∀ (k0_h6 : k0_cond6 i = 1#1), ∀ a x, ((![v143] : Fin 1 → IVec S16 32) a x).toNat < S16.size a)
theorem k0_idx45_inb : ∀ (i : grid0.Coords) (v143 : IVec S16 32) (k0_hw45 : k0_chk45 i v143), ∀ (k0_h6 : k0_cond6 i = 1#1), ∀ a x, ((![v143] : Fin 1 → IVec S16 32) a x).toNat < S16.size a := fun i v143 k0_hw45 k0_h6 => k0_hw45 k0_h6

def k0_chk46 (i : grid0.Coords) (v154 : IVec S16 32) : Prop :=
  (∀ (k0_h6 : k0_cond6 i = 1#1), ∀ a x, ((![v154] : Fin 1 → IVec S16 32) a x).toNat < S16.size a)
theorem k0_idx46_inb : ∀ (i : grid0.Coords) (v154 : IVec S16 32) (k0_hw46 : k0_chk46 i v154), ∀ (k0_h6 : k0_cond6 i = 1#1), ∀ a x, ((![v154] : Fin 1 → IVec S16 32) a x).toNat < S16.size a := fun i v154 k0_hw46 k0_h6 => k0_hw46 k0_h6

def k0_chk47 (i : grid0.Coords) (v165 : IVec S16 32) : Prop :=
  (∀ (k0_h6 : k0_cond6 i = 1#1), ∀ a x, ((![v165] : Fin 1 → IVec S16 32) a x).toNat < S16.size a)
theorem k0_idx47_inb : ∀ (i : grid0.Coords) (v165 : IVec S16 32) (k0_hw47 : k0_chk47 i v165), ∀ (k0_h6 : k0_cond6 i = 1#1), ∀ a x, ((![v165] : Fin 1 → IVec S16 32) a x).toNat < S16.size a := fun i v165 k0_hw47 k0_h6 => k0_hw47 k0_h6

def k0_chk48 (i : grid0.Coords) (v176 : IVec S16 32) : Prop :=
  (∀ (k0_h6 : k0_cond6 i = 1#1), ∀ a x, ((![v176] : Fin 1 → IVec S16 32) a x).toNat < S16.size a)
theorem k0_idx48_inb : ∀ (i : grid0.Coords) (v176 : IVec S16 32) (k0_hw48 : k0_chk48 i v176), ∀ (k0_h6 : k0_cond6 i = 1#1), ∀ a x, ((![v176] : Fin 1 → IVec S16 32) a x).toNat < S16.size a := fun i v176 k0_hw48 k0_h6 => k0_hw48 k0_h6

def k0_chk49 (i : grid0.Coords) (v187 : IVec S16 32) : Prop :=
  (∀ (k0_h6 : k0_cond6 i = 1#1), ∀ a x, ((![v187] : Fin 1 → IVec S16 32) a x).toNat < S16.size a)
theorem k0_idx49_inb : ∀ (i : grid0.Coords) (v187 : IVec S16 32) (k0_hw49 : k0_chk49 i v187), ∀ (k0_h6 : k0_cond6 i = 1#1), ∀ a x, ((![v187] : Fin 1 → IVec S16 32) a x).toNat < S16.size a := fun i v187 k0_hw49 k0_h6 => k0_hw49 k0_h6

def k0_chk50 (i : grid0.Coords) (v198 : IVec S16 32) : Prop :=
  (∀ (k0_h6 : k0_cond6 i = 1#1), ∀ a x, ((![v198] : Fin 1 → IVec S16 32) a x).toNat < S16.size a)
theorem k0_idx50_inb : ∀ (i : grid0.Coords) (v198 : IVec S16 32) (k0_hw50 : k0_chk50 i v198), ∀ (k0_h6 : k0_cond6 i = 1#1), ∀ a x, ((![v198] : Fin 1 → IVec S16 32) a x).toNat < S16.size a := fun i v198 k0_hw50 k0_h6 => k0_hw50 k0_h6

def k0_chk51 (i : grid0.Coords) (v209 : IVec S16 32) : Prop :=
  (∀ (k0_h6 : k0_cond6 i = 1#1), ∀ a x, ((![v209] : Fin 1 → IVec S16 32) a x).toNat < S16.size a)
theorem k0_idx51_inb : ∀ (i : grid0.Coords) (v209 : IVec S16 32) (k0_hw51 : k0_chk51 i v209), ∀ (k0_h6 : k0_cond6 i = 1#1), ∀ a x, ((![v209] : Fin 1 → IVec S16 32) a x).toNat < S16.size a := fun i v209 k0_hw51 k0_h6 => k0_hw51 k0_h6

def k0_chk52 (i : grid0.Coords) (v220 : IVec S16 32) : Prop :=
  (∀ (k0_h6 : k0_cond6 i = 1#1), ∀ a x, ((![v220] : Fin 1 → IVec S16 32) a x).toNat < S16.size a)
theorem k0_idx52_inb : ∀ (i : grid0.Coords) (v220 : IVec S16 32) (k0_hw52 : k0_chk52 i v220), ∀ (k0_h6 : k0_cond6 i = 1#1), ∀ a x, ((![v220] : Fin 1 → IVec S16 32) a x).toNat < S16.size a := fun i v220 k0_hw52 k0_h6 => k0_hw52 k0_h6

def k0_chk53 (i : grid0.Coords) (v231 : IVec S16 32) : Prop :=
  (∀ (k0_h6 : k0_cond6 i = 1#1), ∀ a x, ((![v231] : Fin 1 → IVec S16 32) a x).toNat < S16.size a)
theorem k0_idx53_inb : ∀ (i : grid0.Coords) (v231 : IVec S16 32) (k0_hw53 : k0_chk53 i v231), ∀ (k0_h6 : k0_cond6 i = 1#1), ∀ a x, ((![v231] : Fin 1 → IVec S16 32) a x).toNat < S16.size a := fun i v231 k0_hw53 k0_h6 => k0_hw53 k0_h6

def k0_chk54 (i : grid0.Coords) (v242 : IVec S16 32) : Prop :=
  (∀ (k0_h6 : k0_cond6 i = 1#1), ∀ a x, ((![v242] : Fin 1 → IVec S16 32) a x).toNat < S16.size a)
theorem k0_idx54_inb : ∀ (i : grid0.Coords) (v242 : IVec S16 32) (k0_hw54 : k0_chk54 i v242), ∀ (k0_h6 : k0_cond6 i = 1#1), ∀ a x, ((![v242] : Fin 1 → IVec S16 32) a x).toNat < S16.size a := fun i v242 k0_hw54 k0_h6 => k0_hw54 k0_h6

def k0_chk55 (i : grid0.Coords) (v253 : IVec S16 32) : Prop :=
  (∀ (k0_h6 : k0_cond6 i = 1#1), ∀ a x, ((![v253] : Fin 1 → IVec S16 32) a x).toNat < S16.size a)
theorem k0_idx55_inb : ∀ (i : grid0.Coords) (v253 : IVec S16 32) (k0_hw55 : k0_chk55 i v253), ∀ (k0_h6 : k0_cond6 i = 1#1), ∀ a x, ((![v253] : Fin 1 → IVec S16 32) a x).toNat < S16.size a := fun i v253 k0_hw55 k0_h6 => k0_hw55 k0_h6

def k0_chk56 (i : grid0.Coords) (v264 : IVec S16 32) : Prop :=
  (∀ (k0_h6 : k0_cond6 i = 1#1), ∀ a x, ((![v264] : Fin 1 → IVec S16 32) a x).toNat < S16.size a)
theorem k0_idx56_inb : ∀ (i : grid0.Coords) (v264 : IVec S16 32) (k0_hw56 : k0_chk56 i v264), ∀ (k0_h6 : k0_cond6 i = 1#1), ∀ a x, ((![v264] : Fin 1 → IVec S16 32) a x).toNat < S16.size a := fun i v264 k0_hw56 k0_h6 => k0_hw56 k0_h6

def k0_chk57 (i : grid0.Coords) (v275 : IVec S16 32) : Prop :=
  (∀ (k0_h6 : k0_cond6 i = 1#1), ∀ a x, ((![v275] : Fin 1 → IVec S16 32) a x).toNat < S16.size a)
theorem k0_idx57_inb : ∀ (i : grid0.Coords) (v275 : IVec S16 32) (k0_hw57 : k0_chk57 i v275), ∀ (k0_h6 : k0_cond6 i = 1#1), ∀ a x, ((![v275] : Fin 1 → IVec S16 32) a x).toNat < S16.size a := fun i v275 k0_hw57 k0_h6 => k0_hw57 k0_h6

def k0_chk58 (i : grid0.Coords) (v286 : IVec S16 32) : Prop :=
  (∀ (k0_h6 : k0_cond6 i = 1#1), ∀ a x, ((![v286] : Fin 1 → IVec S16 32) a x).toNat < S16.size a)
theorem k0_idx58_inb : ∀ (i : grid0.Coords) (v286 : IVec S16 32) (k0_hw58 : k0_chk58 i v286), ∀ (k0_h6 : k0_cond6 i = 1#1), ∀ a x, ((![v286] : Fin 1 → IVec S16 32) a x).toNat < S16.size a := fun i v286 k0_hw58 k0_h6 => k0_hw58 k0_h6

def k0_chk59 (i : grid0.Coords) (v297 : IVec S16 32) : Prop :=
  (∀ (k0_h6 : k0_cond6 i = 1#1), ∀ a x, ((![v297] : Fin 1 → IVec S16 32) a x).toNat < S16.size a)
theorem k0_idx59_inb : ∀ (i : grid0.Coords) (v297 : IVec S16 32) (k0_hw59 : k0_chk59 i v297), ∀ (k0_h6 : k0_cond6 i = 1#1), ∀ a x, ((![v297] : Fin 1 → IVec S16 32) a x).toNat < S16.size a := fun i v297 k0_hw59 k0_h6 => k0_hw59 k0_h6

def k0_chk60 (i : grid0.Coords) (v308 : IVec S16 32) : Prop :=
  (∀ (k0_h6 : k0_cond6 i = 1#1), ∀ a x, ((![v308] : Fin 1 → IVec S16 32) a x).toNat < S16.size a)
theorem k0_idx60_inb : ∀ (i : grid0.Coords) (v308 : IVec S16 32) (k0_hw60 : k0_chk60 i v308), ∀ (k0_h6 : k0_cond6 i = 1#1), ∀ a x, ((![v308] : Fin 1 → IVec S16 32) a x).toNat < S16.size a := fun i v308 k0_hw60 k0_h6 => k0_hw60 k0_h6

def k0_chk61 (i : grid0.Coords) (v319 : IVec S16 32) : Prop :=
  (∀ (k0_h6 : k0_cond6 i = 1#1), ∀ a x, ((![v319] : Fin 1 → IVec S16 32) a x).toNat < S16.size a)
theorem k0_idx61_inb : ∀ (i : grid0.Coords) (v319 : IVec S16 32) (k0_hw61 : k0_chk61 i v319), ∀ (k0_h6 : k0_cond6 i = 1#1), ∀ a x, ((![v319] : Fin 1 → IVec S16 32) a x).toNat < S16.size a := fun i v319 k0_hw61 k0_h6 => k0_hw61 k0_h6

def k0_chk62 (i : grid0.Coords) (v330 : IVec S16 32) : Prop :=
  (∀ (k0_h6 : k0_cond6 i = 1#1), ∀ a x, ((![v330] : Fin 1 → IVec S16 32) a x).toNat < S16.size a)
theorem k0_idx62_inb : ∀ (i : grid0.Coords) (v330 : IVec S16 32) (k0_hw62 : k0_chk62 i v330), ∀ (k0_h6 : k0_cond6 i = 1#1), ∀ a x, ((![v330] : Fin 1 → IVec S16 32) a x).toNat < S16.size a := fun i v330 k0_hw62 k0_h6 => k0_hw62 k0_h6

def k0_chk63 (i : grid0.Coords) (v341 : IVec S16 32) : Prop :=
  (∀ (k0_h6 : k0_cond6 i = 1#1), ∀ a x, ((![v341] : Fin 1 → IVec S16 32) a x).toNat < S16.size a)
theorem k0_idx63_inb : ∀ (i : grid0.Coords) (v341 : IVec S16 32) (k0_hw63 : k0_chk63 i v341), ∀ (k0_h6 : k0_cond6 i = 1#1), ∀ a x, ((![v341] : Fin 1 → IVec S16 32) a x).toNat < S16.size a := fun i v341 k0_hw63 k0_h6 => k0_hw63 k0_h6

def k0_chk64 (i : grid0.Coords) (v352 : IVec S16 32) : Prop :=
  (∀ (k0_h6 : k0_cond6 i = 1#1), ∀ a x, ((![v352] : Fin 1 → IVec S16 32) a x).toNat < S16.size a)
theorem k0_idx64_inb : ∀ (i : grid0.Coords) (v352 : IVec S16 32) (k0_hw64 : k0_chk64 i v352), ∀ (k0_h6 : k0_cond6 i = 1#1), ∀ a x, ((![v352] : Fin 1 → IVec S16 32) a x).toNat < S16.size a := fun i v352 k0_hw64 k0_h6 => k0_hw64 k0_h6

def k0_chk65 (i : grid0.Coords) (v363 : IVec S16 32) : Prop :=
  (∀ (k0_h6 : k0_cond6 i = 1#1), ∀ a x, ((![v363] : Fin 1 → IVec S16 32) a x).toNat < S16.size a)
theorem k0_idx65_inb : ∀ (i : grid0.Coords) (v363 : IVec S16 32) (k0_hw65 : k0_chk65 i v363), ∀ (k0_h6 : k0_cond6 i = 1#1), ∀ a x, ((![v363] : Fin 1 → IVec S16 32) a x).toNat < S16.size a := fun i v363 k0_hw65 k0_h6 => k0_hw65 k0_h6

def k0_chk66 (i : grid0.Coords) (v374 : IVec S16 32) : Prop :=
  (∀ (k0_h6 : k0_cond6 i = 1#1), ∀ a x, ((![v374] : Fin 1 → IVec S16 32) a x).toNat < S16.size a)
theorem k0_idx66_inb : ∀ (i : grid0.Coords) (v374 : IVec S16 32) (k0_hw66 : k0_chk66 i v374), ∀ (k0_h6 : k0_cond6 i = 1#1), ∀ a x, ((![v374] : Fin 1 → IVec S16 32) a x).toNat < S16.size a := fun i v374 k0_hw66 k0_h6 => k0_hw66 k0_h6

def k0_chk67 (i : grid0.Coords) (v48 : IVec S16 32) : Prop :=
  (∀ (k0_h6 : k0_cond6 i = 1#1), ∀ a x, ((![v48] : Fin 1 → IVec S16 32) a x).toNat < S2048.size a) ∧
  (∀ (k0_h6 : k0_cond6 i = 1#1), ∀ a x, ((![v48] : Fin 1 → IVec S16 32) a x).toNat < S2048.size a)
theorem k0_idx67_inb : ∀ (i : grid0.Coords) (v48 : IVec S16 32) (k0_hw67 : k0_chk67 i v48), ∀ (k0_h6 : k0_cond6 i = 1#1), ∀ a x, ((![v48] : Fin 1 → IVec S16 32) a x).toNat < S2048.size a := fun i v48 k0_hw67 k0_h6 => k0_hw67.1 k0_h6
theorem k0_idx68_inb : ∀ (i : grid0.Coords) (v48 : IVec S16 32) (k0_hw67 : k0_chk67 i v48), ∀ (k0_h6 : k0_cond6 i = 1#1), ∀ a x, ((![v48] : Fin 1 → IVec S16 32) a x).toNat < S2048.size a := fun i v48 k0_hw67 k0_h6 => k0_hw67.2 k0_h6
def k0_off16 (k0_t7 : Fin k0_t7_loop.trips) : Fin 1 → Nat :=
  let c0_i32_28 : BitVec 32 := 0#32
  let c1_i32_30 : BitVec 32 := 1#32
  let arg24 : BitVec 32 := Scf.iv c0_i32_28 c1_i32_30 k0_t7
  let c16_i32_121 : BitVec 32 := 16#32
  let v388 : BitVec 32 := Scalar.muli arg24 c16_i32_121
  let v389 : Index := Scalar.indexCast v388
  ![v389.toNat]
@[reducible] def k0_t8_loop : Scf.Loop 32 :=
  let c0_i32_33 : BitVec 32 := 0#32
  let c392_i32_34 : BitVec 32 := 392#32
  let v40 : BitVec 32 := Scalar.addi c0_i32_33 c392_i32_34
  let c1_i32_35 : BitVec 32 := 1#32
  ⟨c0_i32_33, v40, c1_i32_35⟩
def k0_off17 (k0_t8 : Fin k0_t8_loop.trips) : Fin 1 → Nat :=
  let c0_i32_33 : BitVec 32 := 0#32
  let c1_i32_35 : BitVec 32 := 1#32
  let arg24 : BitVec 32 := Scf.iv c0_i32_33 c1_i32_35 k0_t8
  let c16_i32 : BitVec 32 := 16#32
  let v42 : BitVec 32 := Scalar.muli arg24 c16_i32
  let v43 : Index := Scalar.indexCast v42
  ![v43.toNat]
def k0_cond7 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

@[reducible] def k0_t9_loop : Scf.Loop 32 :=
  let c0_i32_25 : BitVec 32 := 0#32
  let c128_i32 : BitVec 32 := 128#32
  let v35 : BitVec 32 := Scalar.addi c0_i32_25 c128_i32
  let c1_i32 : BitVec 32 := 1#32
  ⟨c0_i32_25, v35, c1_i32⟩
def k0_off18 (k0_t9 : Fin k0_t9_loop.trips) : Fin 1 → Nat :=
  let c0_i32_25 : BitVec 32 := 0#32
  let c1_i32 : BitVec 32 := 1#32
  let arg24 : BitVec 32 := Scf.iv c0_i32_25 c1_i32 k0_t9
  let c16_i32 : BitVec 32 := 16#32
  let v41 : BitVec 32 := Scalar.muli arg24 c16_i32
  let v42 : Index := Scalar.indexCast v41
  ![v42.toNat]
def k0_off19 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
@[reducible] def k0_t10_loop : Scf.Loop 32 :=
  let c0_i32_28 : BitVec 32 := 0#32
  let c392_i32_29 : BitVec 32 := 392#32
  let v37 : BitVec 32 := Scalar.addi c0_i32_28 c392_i32_29
  let c1_i32_30 : BitVec 32 := 1#32
  ⟨c0_i32_28, v37, c1_i32_30⟩
def k0_off20 (k0_t10 : Fin k0_t10_loop.trips) : Fin 1 → Nat :=
  let c0_i32_28 : BitVec 32 := 0#32
  let c1_i32_30 : BitVec 32 := 1#32
  let arg24 : BitVec 32 := Scf.iv c0_i32_28 c1_i32_30 k0_t10
  let c16_i32 : BitVec 32 := 16#32
  let v40 : BitVec 32 := Scalar.muli arg24 c16_i32
  let v41 : Index := Scalar.indexCast v40
  ![v41.toNat]

def k0_chk68 (i : grid0.Coords) (v53 : IVec S16 32) : Prop :=
  (∀ (k0_h7 : k0_cond7 i = 1#1), ∀ a x, ((![v53] : Fin 1 → IVec S16 32) a x).toNat < S16.size a)
theorem k0_idx69_inb : ∀ (i : grid0.Coords) (v53 : IVec S16 32) (k0_hw68 : k0_chk68 i v53), ∀ (k0_h7 : k0_cond7 i = 1#1), ∀ a x, ((![v53] : Fin 1 → IVec S16 32) a x).toNat < S16.size a := fun i v53 k0_hw68 k0_h7 => k0_hw68 k0_h7

def k0_chk69 (i : grid0.Coords) (v64 : IVec S16 32) : Prop :=
  (∀ (k0_h7 : k0_cond7 i = 1#1), ∀ a x, ((![v64] : Fin 1 → IVec S16 32) a x).toNat < S16.size a)
theorem k0_idx70_inb : ∀ (i : grid0.Coords) (v64 : IVec S16 32) (k0_hw69 : k0_chk69 i v64), ∀ (k0_h7 : k0_cond7 i = 1#1), ∀ a x, ((![v64] : Fin 1 → IVec S16 32) a x).toNat < S16.size a := fun i v64 k0_hw69 k0_h7 => k0_hw69 k0_h7

def k0_chk70 (i : grid0.Coords) (v75 : IVec S16 32) : Prop :=
  (∀ (k0_h7 : k0_cond7 i = 1#1), ∀ a x, ((![v75] : Fin 1 → IVec S16 32) a x).toNat < S16.size a)
theorem k0_idx71_inb : ∀ (i : grid0.Coords) (v75 : IVec S16 32) (k0_hw70 : k0_chk70 i v75), ∀ (k0_h7 : k0_cond7 i = 1#1), ∀ a x, ((![v75] : Fin 1 → IVec S16 32) a x).toNat < S16.size a := fun i v75 k0_hw70 k0_h7 => k0_hw70 k0_h7

def k0_chk71 (i : grid0.Coords) (v86 : IVec S16 32) : Prop :=
  (∀ (k0_h7 : k0_cond7 i = 1#1), ∀ a x, ((![v86] : Fin 1 → IVec S16 32) a x).toNat < S16.size a)
theorem k0_idx72_inb : ∀ (i : grid0.Coords) (v86 : IVec S16 32) (k0_hw71 : k0_chk71 i v86), ∀ (k0_h7 : k0_cond7 i = 1#1), ∀ a x, ((![v86] : Fin 1 → IVec S16 32) a x).toNat < S16.size a := fun i v86 k0_hw71 k0_h7 => k0_hw71 k0_h7

def k0_chk72 (i : grid0.Coords) (v97 : IVec S16 32) : Prop :=
  (∀ (k0_h7 : k0_cond7 i = 1#1), ∀ a x, ((![v97] : Fin 1 → IVec S16 32) a x).toNat < S16.size a)
theorem k0_idx73_inb : ∀ (i : grid0.Coords) (v97 : IVec S16 32) (k0_hw72 : k0_chk72 i v97), ∀ (k0_h7 : k0_cond7 i = 1#1), ∀ a x, ((![v97] : Fin 1 → IVec S16 32) a x).toNat < S16.size a := fun i v97 k0_hw72 k0_h7 => k0_hw72 k0_h7

def k0_chk73 (i : grid0.Coords) (v108 : IVec S16 32) : Prop :=
  (∀ (k0_h7 : k0_cond7 i = 1#1), ∀ a x, ((![v108] : Fin 1 → IVec S16 32) a x).toNat < S16.size a)
theorem k0_idx74_inb : ∀ (i : grid0.Coords) (v108 : IVec S16 32) (k0_hw73 : k0_chk73 i v108), ∀ (k0_h7 : k0_cond7 i = 1#1), ∀ a x, ((![v108] : Fin 1 → IVec S16 32) a x).toNat < S16.size a := fun i v108 k0_hw73 k0_h7 => k0_hw73 k0_h7

def k0_chk74 (i : grid0.Coords) (v119 : IVec S16 32) : Prop :=
  (∀ (k0_h7 : k0_cond7 i = 1#1), ∀ a x, ((![v119] : Fin 1 → IVec S16 32) a x).toNat < S16.size a)
theorem k0_idx75_inb : ∀ (i : grid0.Coords) (v119 : IVec S16 32) (k0_hw74 : k0_chk74 i v119), ∀ (k0_h7 : k0_cond7 i = 1#1), ∀ a x, ((![v119] : Fin 1 → IVec S16 32) a x).toNat < S16.size a := fun i v119 k0_hw74 k0_h7 => k0_hw74 k0_h7

def k0_chk75 (i : grid0.Coords) (v130 : IVec S16 32) : Prop :=
  (∀ (k0_h7 : k0_cond7 i = 1#1), ∀ a x, ((![v130] : Fin 1 → IVec S16 32) a x).toNat < S16.size a)
theorem k0_idx76_inb : ∀ (i : grid0.Coords) (v130 : IVec S16 32) (k0_hw75 : k0_chk75 i v130), ∀ (k0_h7 : k0_cond7 i = 1#1), ∀ a x, ((![v130] : Fin 1 → IVec S16 32) a x).toNat < S16.size a := fun i v130 k0_hw75 k0_h7 => k0_hw75 k0_h7

def k0_chk76 (i : grid0.Coords) (v141 : IVec S16 32) : Prop :=
  (∀ (k0_h7 : k0_cond7 i = 1#1), ∀ a x, ((![v141] : Fin 1 → IVec S16 32) a x).toNat < S16.size a)
theorem k0_idx77_inb : ∀ (i : grid0.Coords) (v141 : IVec S16 32) (k0_hw76 : k0_chk76 i v141), ∀ (k0_h7 : k0_cond7 i = 1#1), ∀ a x, ((![v141] : Fin 1 → IVec S16 32) a x).toNat < S16.size a := fun i v141 k0_hw76 k0_h7 => k0_hw76 k0_h7

def k0_chk77 (i : grid0.Coords) (v152 : IVec S16 32) : Prop :=
  (∀ (k0_h7 : k0_cond7 i = 1#1), ∀ a x, ((![v152] : Fin 1 → IVec S16 32) a x).toNat < S16.size a)
theorem k0_idx78_inb : ∀ (i : grid0.Coords) (v152 : IVec S16 32) (k0_hw77 : k0_chk77 i v152), ∀ (k0_h7 : k0_cond7 i = 1#1), ∀ a x, ((![v152] : Fin 1 → IVec S16 32) a x).toNat < S16.size a := fun i v152 k0_hw77 k0_h7 => k0_hw77 k0_h7

def k0_chk78 (i : grid0.Coords) (v163 : IVec S16 32) : Prop :=
  (∀ (k0_h7 : k0_cond7 i = 1#1), ∀ a x, ((![v163] : Fin 1 → IVec S16 32) a x).toNat < S16.size a)
theorem k0_idx79_inb : ∀ (i : grid0.Coords) (v163 : IVec S16 32) (k0_hw78 : k0_chk78 i v163), ∀ (k0_h7 : k0_cond7 i = 1#1), ∀ a x, ((![v163] : Fin 1 → IVec S16 32) a x).toNat < S16.size a := fun i v163 k0_hw78 k0_h7 => k0_hw78 k0_h7

def k0_chk79 (i : grid0.Coords) (v174 : IVec S16 32) : Prop :=
  (∀ (k0_h7 : k0_cond7 i = 1#1), ∀ a x, ((![v174] : Fin 1 → IVec S16 32) a x).toNat < S16.size a)
theorem k0_idx80_inb : ∀ (i : grid0.Coords) (v174 : IVec S16 32) (k0_hw79 : k0_chk79 i v174), ∀ (k0_h7 : k0_cond7 i = 1#1), ∀ a x, ((![v174] : Fin 1 → IVec S16 32) a x).toNat < S16.size a := fun i v174 k0_hw79 k0_h7 => k0_hw79 k0_h7

def k0_chk80 (i : grid0.Coords) (v185 : IVec S16 32) : Prop :=
  (∀ (k0_h7 : k0_cond7 i = 1#1), ∀ a x, ((![v185] : Fin 1 → IVec S16 32) a x).toNat < S16.size a)
theorem k0_idx81_inb : ∀ (i : grid0.Coords) (v185 : IVec S16 32) (k0_hw80 : k0_chk80 i v185), ∀ (k0_h7 : k0_cond7 i = 1#1), ∀ a x, ((![v185] : Fin 1 → IVec S16 32) a x).toNat < S16.size a := fun i v185 k0_hw80 k0_h7 => k0_hw80 k0_h7

def k0_chk81 (i : grid0.Coords) (v196 : IVec S16 32) : Prop :=
  (∀ (k0_h7 : k0_cond7 i = 1#1), ∀ a x, ((![v196] : Fin 1 → IVec S16 32) a x).toNat < S16.size a)
theorem k0_idx82_inb : ∀ (i : grid0.Coords) (v196 : IVec S16 32) (k0_hw81 : k0_chk81 i v196), ∀ (k0_h7 : k0_cond7 i = 1#1), ∀ a x, ((![v196] : Fin 1 → IVec S16 32) a x).toNat < S16.size a := fun i v196 k0_hw81 k0_h7 => k0_hw81 k0_h7

def k0_chk82 (i : grid0.Coords) (v207 : IVec S16 32) : Prop :=
  (∀ (k0_h7 : k0_cond7 i = 1#1), ∀ a x, ((![v207] : Fin 1 → IVec S16 32) a x).toNat < S16.size a)
theorem k0_idx83_inb : ∀ (i : grid0.Coords) (v207 : IVec S16 32) (k0_hw82 : k0_chk82 i v207), ∀ (k0_h7 : k0_cond7 i = 1#1), ∀ a x, ((![v207] : Fin 1 → IVec S16 32) a x).toNat < S16.size a := fun i v207 k0_hw82 k0_h7 => k0_hw82 k0_h7

def k0_chk83 (i : grid0.Coords) (v218 : IVec S16 32) : Prop :=
  (∀ (k0_h7 : k0_cond7 i = 1#1), ∀ a x, ((![v218] : Fin 1 → IVec S16 32) a x).toNat < S16.size a)
theorem k0_idx84_inb : ∀ (i : grid0.Coords) (v218 : IVec S16 32) (k0_hw83 : k0_chk83 i v218), ∀ (k0_h7 : k0_cond7 i = 1#1), ∀ a x, ((![v218] : Fin 1 → IVec S16 32) a x).toNat < S16.size a := fun i v218 k0_hw83 k0_h7 => k0_hw83 k0_h7

def k0_chk84 (i : grid0.Coords) (v229 : IVec S16 32) : Prop :=
  (∀ (k0_h7 : k0_cond7 i = 1#1), ∀ a x, ((![v229] : Fin 1 → IVec S16 32) a x).toNat < S16.size a)
theorem k0_idx85_inb : ∀ (i : grid0.Coords) (v229 : IVec S16 32) (k0_hw84 : k0_chk84 i v229), ∀ (k0_h7 : k0_cond7 i = 1#1), ∀ a x, ((![v229] : Fin 1 → IVec S16 32) a x).toNat < S16.size a := fun i v229 k0_hw84 k0_h7 => k0_hw84 k0_h7

def k0_chk85 (i : grid0.Coords) (v240 : IVec S16 32) : Prop :=
  (∀ (k0_h7 : k0_cond7 i = 1#1), ∀ a x, ((![v240] : Fin 1 → IVec S16 32) a x).toNat < S16.size a)
theorem k0_idx86_inb : ∀ (i : grid0.Coords) (v240 : IVec S16 32) (k0_hw85 : k0_chk85 i v240), ∀ (k0_h7 : k0_cond7 i = 1#1), ∀ a x, ((![v240] : Fin 1 → IVec S16 32) a x).toNat < S16.size a := fun i v240 k0_hw85 k0_h7 => k0_hw85 k0_h7

def k0_chk86 (i : grid0.Coords) (v251 : IVec S16 32) : Prop :=
  (∀ (k0_h7 : k0_cond7 i = 1#1), ∀ a x, ((![v251] : Fin 1 → IVec S16 32) a x).toNat < S16.size a)
theorem k0_idx87_inb : ∀ (i : grid0.Coords) (v251 : IVec S16 32) (k0_hw86 : k0_chk86 i v251), ∀ (k0_h7 : k0_cond7 i = 1#1), ∀ a x, ((![v251] : Fin 1 → IVec S16 32) a x).toNat < S16.size a := fun i v251 k0_hw86 k0_h7 => k0_hw86 k0_h7

def k0_chk87 (i : grid0.Coords) (v262 : IVec S16 32) : Prop :=
  (∀ (k0_h7 : k0_cond7 i = 1#1), ∀ a x, ((![v262] : Fin 1 → IVec S16 32) a x).toNat < S16.size a)
theorem k0_idx88_inb : ∀ (i : grid0.Coords) (v262 : IVec S16 32) (k0_hw87 : k0_chk87 i v262), ∀ (k0_h7 : k0_cond7 i = 1#1), ∀ a x, ((![v262] : Fin 1 → IVec S16 32) a x).toNat < S16.size a := fun i v262 k0_hw87 k0_h7 => k0_hw87 k0_h7

def k0_chk88 (i : grid0.Coords) (v273 : IVec S16 32) : Prop :=
  (∀ (k0_h7 : k0_cond7 i = 1#1), ∀ a x, ((![v273] : Fin 1 → IVec S16 32) a x).toNat < S16.size a)
theorem k0_idx89_inb : ∀ (i : grid0.Coords) (v273 : IVec S16 32) (k0_hw88 : k0_chk88 i v273), ∀ (k0_h7 : k0_cond7 i = 1#1), ∀ a x, ((![v273] : Fin 1 → IVec S16 32) a x).toNat < S16.size a := fun i v273 k0_hw88 k0_h7 => k0_hw88 k0_h7

def k0_chk89 (i : grid0.Coords) (v284 : IVec S16 32) : Prop :=
  (∀ (k0_h7 : k0_cond7 i = 1#1), ∀ a x, ((![v284] : Fin 1 → IVec S16 32) a x).toNat < S16.size a)
theorem k0_idx90_inb : ∀ (i : grid0.Coords) (v284 : IVec S16 32) (k0_hw89 : k0_chk89 i v284), ∀ (k0_h7 : k0_cond7 i = 1#1), ∀ a x, ((![v284] : Fin 1 → IVec S16 32) a x).toNat < S16.size a := fun i v284 k0_hw89 k0_h7 => k0_hw89 k0_h7

def k0_chk90 (i : grid0.Coords) (v295 : IVec S16 32) : Prop :=
  (∀ (k0_h7 : k0_cond7 i = 1#1), ∀ a x, ((![v295] : Fin 1 → IVec S16 32) a x).toNat < S16.size a)
theorem k0_idx91_inb : ∀ (i : grid0.Coords) (v295 : IVec S16 32) (k0_hw90 : k0_chk90 i v295), ∀ (k0_h7 : k0_cond7 i = 1#1), ∀ a x, ((![v295] : Fin 1 → IVec S16 32) a x).toNat < S16.size a := fun i v295 k0_hw90 k0_h7 => k0_hw90 k0_h7

def k0_chk91 (i : grid0.Coords) (v306 : IVec S16 32) : Prop :=
  (∀ (k0_h7 : k0_cond7 i = 1#1), ∀ a x, ((![v306] : Fin 1 → IVec S16 32) a x).toNat < S16.size a)
theorem k0_idx92_inb : ∀ (i : grid0.Coords) (v306 : IVec S16 32) (k0_hw91 : k0_chk91 i v306), ∀ (k0_h7 : k0_cond7 i = 1#1), ∀ a x, ((![v306] : Fin 1 → IVec S16 32) a x).toNat < S16.size a := fun i v306 k0_hw91 k0_h7 => k0_hw91 k0_h7

def k0_chk92 (i : grid0.Coords) (v317 : IVec S16 32) : Prop :=
  (∀ (k0_h7 : k0_cond7 i = 1#1), ∀ a x, ((![v317] : Fin 1 → IVec S16 32) a x).toNat < S16.size a)
theorem k0_idx93_inb : ∀ (i : grid0.Coords) (v317 : IVec S16 32) (k0_hw92 : k0_chk92 i v317), ∀ (k0_h7 : k0_cond7 i = 1#1), ∀ a x, ((![v317] : Fin 1 → IVec S16 32) a x).toNat < S16.size a := fun i v317 k0_hw92 k0_h7 => k0_hw92 k0_h7

def k0_chk93 (i : grid0.Coords) (v328 : IVec S16 32) : Prop :=
  (∀ (k0_h7 : k0_cond7 i = 1#1), ∀ a x, ((![v328] : Fin 1 → IVec S16 32) a x).toNat < S16.size a)
theorem k0_idx94_inb : ∀ (i : grid0.Coords) (v328 : IVec S16 32) (k0_hw93 : k0_chk93 i v328), ∀ (k0_h7 : k0_cond7 i = 1#1), ∀ a x, ((![v328] : Fin 1 → IVec S16 32) a x).toNat < S16.size a := fun i v328 k0_hw93 k0_h7 => k0_hw93 k0_h7

def k0_chk94 (i : grid0.Coords) (v339 : IVec S16 32) : Prop :=
  (∀ (k0_h7 : k0_cond7 i = 1#1), ∀ a x, ((![v339] : Fin 1 → IVec S16 32) a x).toNat < S16.size a)
theorem k0_idx95_inb : ∀ (i : grid0.Coords) (v339 : IVec S16 32) (k0_hw94 : k0_chk94 i v339), ∀ (k0_h7 : k0_cond7 i = 1#1), ∀ a x, ((![v339] : Fin 1 → IVec S16 32) a x).toNat < S16.size a := fun i v339 k0_hw94 k0_h7 => k0_hw94 k0_h7

def k0_chk95 (i : grid0.Coords) (v350 : IVec S16 32) : Prop :=
  (∀ (k0_h7 : k0_cond7 i = 1#1), ∀ a x, ((![v350] : Fin 1 → IVec S16 32) a x).toNat < S16.size a)
theorem k0_idx96_inb : ∀ (i : grid0.Coords) (v350 : IVec S16 32) (k0_hw95 : k0_chk95 i v350), ∀ (k0_h7 : k0_cond7 i = 1#1), ∀ a x, ((![v350] : Fin 1 → IVec S16 32) a x).toNat < S16.size a := fun i v350 k0_hw95 k0_h7 => k0_hw95 k0_h7

def k0_chk96 (i : grid0.Coords) (v361 : IVec S16 32) : Prop :=
  (∀ (k0_h7 : k0_cond7 i = 1#1), ∀ a x, ((![v361] : Fin 1 → IVec S16 32) a x).toNat < S16.size a)
theorem k0_idx97_inb : ∀ (i : grid0.Coords) (v361 : IVec S16 32) (k0_hw96 : k0_chk96 i v361), ∀ (k0_h7 : k0_cond7 i = 1#1), ∀ a x, ((![v361] : Fin 1 → IVec S16 32) a x).toNat < S16.size a := fun i v361 k0_hw96 k0_h7 => k0_hw96 k0_h7

def k0_chk97 (i : grid0.Coords) (v372 : IVec S16 32) : Prop :=
  (∀ (k0_h7 : k0_cond7 i = 1#1), ∀ a x, ((![v372] : Fin 1 → IVec S16 32) a x).toNat < S16.size a)
theorem k0_idx98_inb : ∀ (i : grid0.Coords) (v372 : IVec S16 32) (k0_hw97 : k0_chk97 i v372), ∀ (k0_h7 : k0_cond7 i = 1#1), ∀ a x, ((![v372] : Fin 1 → IVec S16 32) a x).toNat < S16.size a := fun i v372 k0_hw97 k0_h7 => k0_hw97 k0_h7

def k0_chk98 (i : grid0.Coords) (v46 : IVec S16 32) : Prop :=
  (∀ (k0_h7 : k0_cond7 i = 1#1), ∀ a x, ((![v46] : Fin 1 → IVec S16 32) a x).toNat < S2048.size a)
theorem k0_idx99_inb : ∀ (i : grid0.Coords) (v46 : IVec S16 32) (k0_hw98 : k0_chk98 i v46), ∀ (k0_h7 : k0_cond7 i = 1#1), ∀ a x, ((![v46] : Fin 1 → IVec S16 32) a x).toNat < S2048.size a := fun i v46 k0_hw98 k0_h7 => k0_hw98 k0_h7
def k0_off21 (i : grid0.Coords) : Fin 1 → Nat :=
  let arg1 : BitVec 32 := BitVec.ofNat 32 (i 1).val
  let c2048_i32 : BitVec 32 := 2048#32
  let v39 : BitVec 32 := Scalar.muli arg1 c2048_i32
  ![v39.toNat]
def k0_cond8 (i : grid0.Coords) : BitVec 1 :=
  let arg0 : BitVec 32 := BitVec.ofNat 32 (i 0).val
  let c0_i32_10 : BitVec 32 := 0#32
  let v16 : BitVec 1 := Scalar.cmpi .eq arg0 c0_i32_10
  let v17 : BitVec 32 := Scalar.extui v16
  let c0_i32_11 : BitVec 32 := 0#32
  let v18 : BitVec 1 := Scalar.cmpi .ne v17 c0_i32_11
  v18

@[reducible] def k0_t11_loop : Scf.Loop 32 :=
  let c0_i32_25 : BitVec 32 := 0#32
  let c128_i32 : BitVec 32 := 128#32
  let v36 : BitVec 32 := Scalar.addi c0_i32_25 c128_i32
  let c1_i32 : BitVec 32 := 1#32
  ⟨c0_i32_25, v36, c1_i32⟩
def k0_off22 (k0_t11 : Fin k0_t11_loop.trips) (c0_i32_38 : BitVec 32) : Fin 1 → Nat :=
  let c0_i32_25 : BitVec 32 := 0#32
  let c1_i32 : BitVec 32 := 1#32
  let arg24 : BitVec 32 := Scf.iv c0_i32_25 c1_i32 k0_t11
  let c16_i32 : BitVec 32 := 16#32
  let v43 : BitVec 32 := Scalar.muli arg24 c16_i32
  let v44 : BitVec 32 := Scalar.addi c0_i32_38 v43
  let v45 : Index := Scalar.indexCast v44
  ![v45.toNat]

def k0_chk99 (i : grid0.Coords) (v207 : IVec S16 32) : Prop :=
  (∀ (k0_h8 : k0_cond8 i = 1#1), ∀ a x, ((![v207] : Fin 1 → IVec S16 32) a x).toNat < S16.size a)
theorem k0_idx100_inb : ∀ (i : grid0.Coords) (v207 : IVec S16 32) (k0_hw99 : k0_chk99 i v207), ∀ (k0_h8 : k0_cond8 i = 1#1), ∀ a x, ((![v207] : Fin 1 → IVec S16 32) a x).toNat < S16.size a := fun i v207 k0_hw99 k0_h8 => k0_hw99 k0_h8

def k0_chk100 (i : grid0.Coords) (v217 : IVec S16 32) : Prop :=
  (∀ (k0_h8 : k0_cond8 i = 1#1), ∀ a x, ((![v217] : Fin 1 → IVec S16 32) a x).toNat < S16.size a)
theorem k0_idx101_inb : ∀ (i : grid0.Coords) (v217 : IVec S16 32) (k0_hw100 : k0_chk100 i v217), ∀ (k0_h8 : k0_cond8 i = 1#1), ∀ a x, ((![v217] : Fin 1 → IVec S16 32) a x).toNat < S16.size a := fun i v217 k0_hw100 k0_h8 => k0_hw100 k0_h8

def k0_chk101 (i : grid0.Coords) (v227 : IVec S16 32) : Prop :=
  (∀ (k0_h8 : k0_cond8 i = 1#1), ∀ a x, ((![v227] : Fin 1 → IVec S16 32) a x).toNat < S16.size a)
theorem k0_idx102_inb : ∀ (i : grid0.Coords) (v227 : IVec S16 32) (k0_hw101 : k0_chk101 i v227), ∀ (k0_h8 : k0_cond8 i = 1#1), ∀ a x, ((![v227] : Fin 1 → IVec S16 32) a x).toNat < S16.size a := fun i v227 k0_hw101 k0_h8 => k0_hw101 k0_h8

def k0_chk102 (i : grid0.Coords) (v237 : IVec S16 32) : Prop :=
  (∀ (k0_h8 : k0_cond8 i = 1#1), ∀ a x, ((![v237] : Fin 1 → IVec S16 32) a x).toNat < S16.size a)
theorem k0_idx103_inb : ∀ (i : grid0.Coords) (v237 : IVec S16 32) (k0_hw102 : k0_chk102 i v237), ∀ (k0_h8 : k0_cond8 i = 1#1), ∀ a x, ((![v237] : Fin 1 → IVec S16 32) a x).toNat < S16.size a := fun i v237 k0_hw102 k0_h8 => k0_hw102 k0_h8

def k0_chk103 (i : grid0.Coords) (v244 : IVec S16 32) : Prop :=
  (∀ (k0_h8 : k0_cond8 i = 1#1), ∀ a x, ((![v244] : Fin 1 → IVec S16 32) a x).toNat < S16.size a)
theorem k0_idx104_inb : ∀ (i : grid0.Coords) (v244 : IVec S16 32) (k0_hw103 : k0_chk103 i v244), ∀ (k0_h8 : k0_cond8 i = 1#1), ∀ a x, ((![v244] : Fin 1 → IVec S16 32) a x).toNat < S16.size a := fun i v244 k0_hw103 k0_h8 => k0_hw103 k0_h8
def k0_off23 (k0_t11 : Fin k0_t11_loop.trips) : Fin 1 → Nat :=
  let c0_i32_25 : BitVec 32 := 0#32
  let c1_i32 : BitVec 32 := 1#32
  let arg24 : BitVec 32 := Scf.iv c0_i32_25 c1_i32 k0_t11
  let c16_i32_76 : BitVec 32 := 16#32
  let v249 : BitVec 32 := Scalar.muli arg24 c16_i32_76
  let v250 : Index := Scalar.indexCast v249
  ![v250.toNat]
def k0_off24 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
@[reducible] def k0_t12_loop : Scf.Loop 32 :=
  let c0_i32_28 : BitVec 32 := 0#32
  let c392_i32_29 : BitVec 32 := 392#32
  let v38 : BitVec 32 := Scalar.addi c0_i32_28 c392_i32_29
  let c1_i32_30 : BitVec 32 := 1#32
  ⟨c0_i32_28, v38, c1_i32_30⟩
def k0_off25 (k0_t12 : Fin k0_t12_loop.trips) : Fin 1 → Nat :=
  let c0_i32_28 : BitVec 32 := 0#32
  let c1_i32_30 : BitVec 32 := 1#32
  let arg24 : BitVec 32 := Scf.iv c0_i32_28 c1_i32_30 k0_t12
  let c16_i32 : BitVec 32 := 16#32
  let v42 : BitVec 32 := Scalar.muli arg24 c16_i32
  let v43 : Index := Scalar.indexCast v42
  ![v43.toNat]

def k0_chk104 (i : grid0.Coords) (v55 : IVec S16 32) : Prop :=
  (∀ (k0_h8 : k0_cond8 i = 1#1), ∀ a x, ((![v55] : Fin 1 → IVec S16 32) a x).toNat < S16.size a)
theorem k0_idx105_inb : ∀ (i : grid0.Coords) (v55 : IVec S16 32) (k0_hw104 : k0_chk104 i v55), ∀ (k0_h8 : k0_cond8 i = 1#1), ∀ a x, ((![v55] : Fin 1 → IVec S16 32) a x).toNat < S16.size a := fun i v55 k0_hw104 k0_h8 => k0_hw104 k0_h8

def k0_chk105 (i : grid0.Coords) (v66 : IVec S16 32) : Prop :=
  (∀ (k0_h8 : k0_cond8 i = 1#1), ∀ a x, ((![v66] : Fin 1 → IVec S16 32) a x).toNat < S16.size a)
theorem k0_idx106_inb : ∀ (i : grid0.Coords) (v66 : IVec S16 32) (k0_hw105 : k0_chk105 i v66), ∀ (k0_h8 : k0_cond8 i = 1#1), ∀ a x, ((![v66] : Fin 1 → IVec S16 32) a x).toNat < S16.size a := fun i v66 k0_hw105 k0_h8 => k0_hw105 k0_h8

def k0_chk106 (i : grid0.Coords) (v77 : IVec S16 32) : Prop :=
  (∀ (k0_h8 : k0_cond8 i = 1#1), ∀ a x, ((![v77] : Fin 1 → IVec S16 32) a x).toNat < S16.size a)
theorem k0_idx107_inb : ∀ (i : grid0.Coords) (v77 : IVec S16 32) (k0_hw106 : k0_chk106 i v77), ∀ (k0_h8 : k0_cond8 i = 1#1), ∀ a x, ((![v77] : Fin 1 → IVec S16 32) a x).toNat < S16.size a := fun i v77 k0_hw106 k0_h8 => k0_hw106 k0_h8

def k0_chk107 (i : grid0.Coords) (v88 : IVec S16 32) : Prop :=
  (∀ (k0_h8 : k0_cond8 i = 1#1), ∀ a x, ((![v88] : Fin 1 → IVec S16 32) a x).toNat < S16.size a)
theorem k0_idx108_inb : ∀ (i : grid0.Coords) (v88 : IVec S16 32) (k0_hw107 : k0_chk107 i v88), ∀ (k0_h8 : k0_cond8 i = 1#1), ∀ a x, ((![v88] : Fin 1 → IVec S16 32) a x).toNat < S16.size a := fun i v88 k0_hw107 k0_h8 => k0_hw107 k0_h8

def k0_chk108 (i : grid0.Coords) (v99 : IVec S16 32) : Prop :=
  (∀ (k0_h8 : k0_cond8 i = 1#1), ∀ a x, ((![v99] : Fin 1 → IVec S16 32) a x).toNat < S16.size a)
theorem k0_idx109_inb : ∀ (i : grid0.Coords) (v99 : IVec S16 32) (k0_hw108 : k0_chk108 i v99), ∀ (k0_h8 : k0_cond8 i = 1#1), ∀ a x, ((![v99] : Fin 1 → IVec S16 32) a x).toNat < S16.size a := fun i v99 k0_hw108 k0_h8 => k0_hw108 k0_h8

def k0_chk109 (i : grid0.Coords) (v110 : IVec S16 32) : Prop :=
  (∀ (k0_h8 : k0_cond8 i = 1#1), ∀ a x, ((![v110] : Fin 1 → IVec S16 32) a x).toNat < S16.size a)
theorem k0_idx110_inb : ∀ (i : grid0.Coords) (v110 : IVec S16 32) (k0_hw109 : k0_chk109 i v110), ∀ (k0_h8 : k0_cond8 i = 1#1), ∀ a x, ((![v110] : Fin 1 → IVec S16 32) a x).toNat < S16.size a := fun i v110 k0_hw109 k0_h8 => k0_hw109 k0_h8

def k0_chk110 (i : grid0.Coords) (v121 : IVec S16 32) : Prop :=
  (∀ (k0_h8 : k0_cond8 i = 1#1), ∀ a x, ((![v121] : Fin 1 → IVec S16 32) a x).toNat < S16.size a)
theorem k0_idx111_inb : ∀ (i : grid0.Coords) (v121 : IVec S16 32) (k0_hw110 : k0_chk110 i v121), ∀ (k0_h8 : k0_cond8 i = 1#1), ∀ a x, ((![v121] : Fin 1 → IVec S16 32) a x).toNat < S16.size a := fun i v121 k0_hw110 k0_h8 => k0_hw110 k0_h8

def k0_chk111 (i : grid0.Coords) (v132 : IVec S16 32) : Prop :=
  (∀ (k0_h8 : k0_cond8 i = 1#1), ∀ a x, ((![v132] : Fin 1 → IVec S16 32) a x).toNat < S16.size a)
theorem k0_idx112_inb : ∀ (i : grid0.Coords) (v132 : IVec S16 32) (k0_hw111 : k0_chk111 i v132), ∀ (k0_h8 : k0_cond8 i = 1#1), ∀ a x, ((![v132] : Fin 1 → IVec S16 32) a x).toNat < S16.size a := fun i v132 k0_hw111 k0_h8 => k0_hw111 k0_h8

def k0_chk112 (i : grid0.Coords) (v143 : IVec S16 32) : Prop :=
  (∀ (k0_h8 : k0_cond8 i = 1#1), ∀ a x, ((![v143] : Fin 1 → IVec S16 32) a x).toNat < S16.size a)
theorem k0_idx113_inb : ∀ (i : grid0.Coords) (v143 : IVec S16 32) (k0_hw112 : k0_chk112 i v143), ∀ (k0_h8 : k0_cond8 i = 1#1), ∀ a x, ((![v143] : Fin 1 → IVec S16 32) a x).toNat < S16.size a := fun i v143 k0_hw112 k0_h8 => k0_hw112 k0_h8

def k0_chk113 (i : grid0.Coords) (v154 : IVec S16 32) : Prop :=
  (∀ (k0_h8 : k0_cond8 i = 1#1), ∀ a x, ((![v154] : Fin 1 → IVec S16 32) a x).toNat < S16.size a)
theorem k0_idx114_inb : ∀ (i : grid0.Coords) (v154 : IVec S16 32) (k0_hw113 : k0_chk113 i v154), ∀ (k0_h8 : k0_cond8 i = 1#1), ∀ a x, ((![v154] : Fin 1 → IVec S16 32) a x).toNat < S16.size a := fun i v154 k0_hw113 k0_h8 => k0_hw113 k0_h8

def k0_chk114 (i : grid0.Coords) (v165 : IVec S16 32) : Prop :=
  (∀ (k0_h8 : k0_cond8 i = 1#1), ∀ a x, ((![v165] : Fin 1 → IVec S16 32) a x).toNat < S16.size a)
theorem k0_idx115_inb : ∀ (i : grid0.Coords) (v165 : IVec S16 32) (k0_hw114 : k0_chk114 i v165), ∀ (k0_h8 : k0_cond8 i = 1#1), ∀ a x, ((![v165] : Fin 1 → IVec S16 32) a x).toNat < S16.size a := fun i v165 k0_hw114 k0_h8 => k0_hw114 k0_h8

def k0_chk115 (i : grid0.Coords) (v176 : IVec S16 32) : Prop :=
  (∀ (k0_h8 : k0_cond8 i = 1#1), ∀ a x, ((![v176] : Fin 1 → IVec S16 32) a x).toNat < S16.size a)
theorem k0_idx116_inb : ∀ (i : grid0.Coords) (v176 : IVec S16 32) (k0_hw115 : k0_chk115 i v176), ∀ (k0_h8 : k0_cond8 i = 1#1), ∀ a x, ((![v176] : Fin 1 → IVec S16 32) a x).toNat < S16.size a := fun i v176 k0_hw115 k0_h8 => k0_hw115 k0_h8

def k0_chk116 (i : grid0.Coords) (v187 : IVec S16 32) : Prop :=
  (∀ (k0_h8 : k0_cond8 i = 1#1), ∀ a x, ((![v187] : Fin 1 → IVec S16 32) a x).toNat < S16.size a)
theorem k0_idx117_inb : ∀ (i : grid0.Coords) (v187 : IVec S16 32) (k0_hw116 : k0_chk116 i v187), ∀ (k0_h8 : k0_cond8 i = 1#1), ∀ a x, ((![v187] : Fin 1 → IVec S16 32) a x).toNat < S16.size a := fun i v187 k0_hw116 k0_h8 => k0_hw116 k0_h8

def k0_chk117 (i : grid0.Coords) (v198 : IVec S16 32) : Prop :=
  (∀ (k0_h8 : k0_cond8 i = 1#1), ∀ a x, ((![v198] : Fin 1 → IVec S16 32) a x).toNat < S16.size a)
theorem k0_idx118_inb : ∀ (i : grid0.Coords) (v198 : IVec S16 32) (k0_hw117 : k0_chk117 i v198), ∀ (k0_h8 : k0_cond8 i = 1#1), ∀ a x, ((![v198] : Fin 1 → IVec S16 32) a x).toNat < S16.size a := fun i v198 k0_hw117 k0_h8 => k0_hw117 k0_h8

def k0_chk118 (i : grid0.Coords) (v209 : IVec S16 32) : Prop :=
  (∀ (k0_h8 : k0_cond8 i = 1#1), ∀ a x, ((![v209] : Fin 1 → IVec S16 32) a x).toNat < S16.size a)
theorem k0_idx119_inb : ∀ (i : grid0.Coords) (v209 : IVec S16 32) (k0_hw118 : k0_chk118 i v209), ∀ (k0_h8 : k0_cond8 i = 1#1), ∀ a x, ((![v209] : Fin 1 → IVec S16 32) a x).toNat < S16.size a := fun i v209 k0_hw118 k0_h8 => k0_hw118 k0_h8

def k0_chk119 (i : grid0.Coords) (v220 : IVec S16 32) : Prop :=
  (∀ (k0_h8 : k0_cond8 i = 1#1), ∀ a x, ((![v220] : Fin 1 → IVec S16 32) a x).toNat < S16.size a)
theorem k0_idx120_inb : ∀ (i : grid0.Coords) (v220 : IVec S16 32) (k0_hw119 : k0_chk119 i v220), ∀ (k0_h8 : k0_cond8 i = 1#1), ∀ a x, ((![v220] : Fin 1 → IVec S16 32) a x).toNat < S16.size a := fun i v220 k0_hw119 k0_h8 => k0_hw119 k0_h8

def k0_chk120 (i : grid0.Coords) (v231 : IVec S16 32) : Prop :=
  (∀ (k0_h8 : k0_cond8 i = 1#1), ∀ a x, ((![v231] : Fin 1 → IVec S16 32) a x).toNat < S16.size a)
theorem k0_idx121_inb : ∀ (i : grid0.Coords) (v231 : IVec S16 32) (k0_hw120 : k0_chk120 i v231), ∀ (k0_h8 : k0_cond8 i = 1#1), ∀ a x, ((![v231] : Fin 1 → IVec S16 32) a x).toNat < S16.size a := fun i v231 k0_hw120 k0_h8 => k0_hw120 k0_h8

def k0_chk121 (i : grid0.Coords) (v242 : IVec S16 32) : Prop :=
  (∀ (k0_h8 : k0_cond8 i = 1#1), ∀ a x, ((![v242] : Fin 1 → IVec S16 32) a x).toNat < S16.size a)
theorem k0_idx122_inb : ∀ (i : grid0.Coords) (v242 : IVec S16 32) (k0_hw121 : k0_chk121 i v242), ∀ (k0_h8 : k0_cond8 i = 1#1), ∀ a x, ((![v242] : Fin 1 → IVec S16 32) a x).toNat < S16.size a := fun i v242 k0_hw121 k0_h8 => k0_hw121 k0_h8

def k0_chk122 (i : grid0.Coords) (v253 : IVec S16 32) : Prop :=
  (∀ (k0_h8 : k0_cond8 i = 1#1), ∀ a x, ((![v253] : Fin 1 → IVec S16 32) a x).toNat < S16.size a)
theorem k0_idx123_inb : ∀ (i : grid0.Coords) (v253 : IVec S16 32) (k0_hw122 : k0_chk122 i v253), ∀ (k0_h8 : k0_cond8 i = 1#1), ∀ a x, ((![v253] : Fin 1 → IVec S16 32) a x).toNat < S16.size a := fun i v253 k0_hw122 k0_h8 => k0_hw122 k0_h8

def k0_chk123 (i : grid0.Coords) (v264 : IVec S16 32) : Prop :=
  (∀ (k0_h8 : k0_cond8 i = 1#1), ∀ a x, ((![v264] : Fin 1 → IVec S16 32) a x).toNat < S16.size a)
theorem k0_idx124_inb : ∀ (i : grid0.Coords) (v264 : IVec S16 32) (k0_hw123 : k0_chk123 i v264), ∀ (k0_h8 : k0_cond8 i = 1#1), ∀ a x, ((![v264] : Fin 1 → IVec S16 32) a x).toNat < S16.size a := fun i v264 k0_hw123 k0_h8 => k0_hw123 k0_h8

def k0_chk124 (i : grid0.Coords) (v275 : IVec S16 32) : Prop :=
  (∀ (k0_h8 : k0_cond8 i = 1#1), ∀ a x, ((![v275] : Fin 1 → IVec S16 32) a x).toNat < S16.size a)
theorem k0_idx125_inb : ∀ (i : grid0.Coords) (v275 : IVec S16 32) (k0_hw124 : k0_chk124 i v275), ∀ (k0_h8 : k0_cond8 i = 1#1), ∀ a x, ((![v275] : Fin 1 → IVec S16 32) a x).toNat < S16.size a := fun i v275 k0_hw124 k0_h8 => k0_hw124 k0_h8

def k0_chk125 (i : grid0.Coords) (v286 : IVec S16 32) : Prop :=
  (∀ (k0_h8 : k0_cond8 i = 1#1), ∀ a x, ((![v286] : Fin 1 → IVec S16 32) a x).toNat < S16.size a)
theorem k0_idx126_inb : ∀ (i : grid0.Coords) (v286 : IVec S16 32) (k0_hw125 : k0_chk125 i v286), ∀ (k0_h8 : k0_cond8 i = 1#1), ∀ a x, ((![v286] : Fin 1 → IVec S16 32) a x).toNat < S16.size a := fun i v286 k0_hw125 k0_h8 => k0_hw125 k0_h8

def k0_chk126 (i : grid0.Coords) (v297 : IVec S16 32) : Prop :=
  (∀ (k0_h8 : k0_cond8 i = 1#1), ∀ a x, ((![v297] : Fin 1 → IVec S16 32) a x).toNat < S16.size a)
theorem k0_idx127_inb : ∀ (i : grid0.Coords) (v297 : IVec S16 32) (k0_hw126 : k0_chk126 i v297), ∀ (k0_h8 : k0_cond8 i = 1#1), ∀ a x, ((![v297] : Fin 1 → IVec S16 32) a x).toNat < S16.size a := fun i v297 k0_hw126 k0_h8 => k0_hw126 k0_h8

def k0_chk127 (i : grid0.Coords) (v308 : IVec S16 32) : Prop :=
  (∀ (k0_h8 : k0_cond8 i = 1#1), ∀ a x, ((![v308] : Fin 1 → IVec S16 32) a x).toNat < S16.size a)
theorem k0_idx128_inb : ∀ (i : grid0.Coords) (v308 : IVec S16 32) (k0_hw127 : k0_chk127 i v308), ∀ (k0_h8 : k0_cond8 i = 1#1), ∀ a x, ((![v308] : Fin 1 → IVec S16 32) a x).toNat < S16.size a := fun i v308 k0_hw127 k0_h8 => k0_hw127 k0_h8

def k0_chk128 (i : grid0.Coords) (v319 : IVec S16 32) : Prop :=
  (∀ (k0_h8 : k0_cond8 i = 1#1), ∀ a x, ((![v319] : Fin 1 → IVec S16 32) a x).toNat < S16.size a)
theorem k0_idx129_inb : ∀ (i : grid0.Coords) (v319 : IVec S16 32) (k0_hw128 : k0_chk128 i v319), ∀ (k0_h8 : k0_cond8 i = 1#1), ∀ a x, ((![v319] : Fin 1 → IVec S16 32) a x).toNat < S16.size a := fun i v319 k0_hw128 k0_h8 => k0_hw128 k0_h8

def k0_chk129 (i : grid0.Coords) (v330 : IVec S16 32) : Prop :=
  (∀ (k0_h8 : k0_cond8 i = 1#1), ∀ a x, ((![v330] : Fin 1 → IVec S16 32) a x).toNat < S16.size a)
theorem k0_idx130_inb : ∀ (i : grid0.Coords) (v330 : IVec S16 32) (k0_hw129 : k0_chk129 i v330), ∀ (k0_h8 : k0_cond8 i = 1#1), ∀ a x, ((![v330] : Fin 1 → IVec S16 32) a x).toNat < S16.size a := fun i v330 k0_hw129 k0_h8 => k0_hw129 k0_h8

def k0_chk130 (i : grid0.Coords) (v341 : IVec S16 32) : Prop :=
  (∀ (k0_h8 : k0_cond8 i = 1#1), ∀ a x, ((![v341] : Fin 1 → IVec S16 32) a x).toNat < S16.size a)
theorem k0_idx131_inb : ∀ (i : grid0.Coords) (v341 : IVec S16 32) (k0_hw130 : k0_chk130 i v341), ∀ (k0_h8 : k0_cond8 i = 1#1), ∀ a x, ((![v341] : Fin 1 → IVec S16 32) a x).toNat < S16.size a := fun i v341 k0_hw130 k0_h8 => k0_hw130 k0_h8

def k0_chk131 (i : grid0.Coords) (v352 : IVec S16 32) : Prop :=
  (∀ (k0_h8 : k0_cond8 i = 1#1), ∀ a x, ((![v352] : Fin 1 → IVec S16 32) a x).toNat < S16.size a)
theorem k0_idx132_inb : ∀ (i : grid0.Coords) (v352 : IVec S16 32) (k0_hw131 : k0_chk131 i v352), ∀ (k0_h8 : k0_cond8 i = 1#1), ∀ a x, ((![v352] : Fin 1 → IVec S16 32) a x).toNat < S16.size a := fun i v352 k0_hw131 k0_h8 => k0_hw131 k0_h8

def k0_chk132 (i : grid0.Coords) (v363 : IVec S16 32) : Prop :=
  (∀ (k0_h8 : k0_cond8 i = 1#1), ∀ a x, ((![v363] : Fin 1 → IVec S16 32) a x).toNat < S16.size a)
theorem k0_idx133_inb : ∀ (i : grid0.Coords) (v363 : IVec S16 32) (k0_hw132 : k0_chk132 i v363), ∀ (k0_h8 : k0_cond8 i = 1#1), ∀ a x, ((![v363] : Fin 1 → IVec S16 32) a x).toNat < S16.size a := fun i v363 k0_hw132 k0_h8 => k0_hw132 k0_h8

def k0_chk133 (i : grid0.Coords) (v374 : IVec S16 32) : Prop :=
  (∀ (k0_h8 : k0_cond8 i = 1#1), ∀ a x, ((![v374] : Fin 1 → IVec S16 32) a x).toNat < S16.size a)
theorem k0_idx134_inb : ∀ (i : grid0.Coords) (v374 : IVec S16 32) (k0_hw133 : k0_chk133 i v374), ∀ (k0_h8 : k0_cond8 i = 1#1), ∀ a x, ((![v374] : Fin 1 → IVec S16 32) a x).toNat < S16.size a := fun i v374 k0_hw133 k0_h8 => k0_hw133 k0_h8

def k0_chk134 (i : grid0.Coords) (v48 : IVec S16 32) : Prop :=
  (∀ (k0_h8 : k0_cond8 i = 1#1), ∀ a x, ((![v48] : Fin 1 → IVec S16 32) a x).toNat < S2048.size a) ∧
  (∀ (k0_h8 : k0_cond8 i = 1#1), ∀ a x, ((![v48] : Fin 1 → IVec S16 32) a x).toNat < S2048.size a)
theorem k0_idx135_inb : ∀ (i : grid0.Coords) (v48 : IVec S16 32) (k0_hw134 : k0_chk134 i v48), ∀ (k0_h8 : k0_cond8 i = 1#1), ∀ a x, ((![v48] : Fin 1 → IVec S16 32) a x).toNat < S2048.size a := fun i v48 k0_hw134 k0_h8 => k0_hw134.1 k0_h8
theorem k0_idx136_inb : ∀ (i : grid0.Coords) (v48 : IVec S16 32) (k0_hw134 : k0_chk134 i v48), ∀ (k0_h8 : k0_cond8 i = 1#1), ∀ a x, ((![v48] : Fin 1 → IVec S16 32) a x).toNat < S2048.size a := fun i v48 k0_hw134 k0_h8 => k0_hw134.2 k0_h8
def k0_off26 (k0_t12 : Fin k0_t12_loop.trips) : Fin 1 → Nat :=
  let c0_i32_28 : BitVec 32 := 0#32
  let c1_i32_30 : BitVec 32 := 1#32
  let arg24 : BitVec 32 := Scf.iv c0_i32_28 c1_i32_30 k0_t12
  let c16_i32_121 : BitVec 32 := 16#32
  let v388 : BitVec 32 := Scalar.muli arg24 c16_i32_121
  let v389 : Index := Scalar.indexCast v388
  ![v389.toNat]
@[reducible] def k0_t13_loop : Scf.Loop 32 :=
  let c0_i32_33 : BitVec 32 := 0#32
  let c392_i32_34 : BitVec 32 := 392#32
  let v40 : BitVec 32 := Scalar.addi c0_i32_33 c392_i32_34
  let c1_i32_35 : BitVec 32 := 1#32
  ⟨c0_i32_33, v40, c1_i32_35⟩
def k0_off27 (k0_t13 : Fin k0_t13_loop.trips) : Fin 1 → Nat :=
  let c0_i32_33 : BitVec 32 := 0#32
  let c1_i32_35 : BitVec 32 := 1#32
  let arg24 : BitVec 32 := Scf.iv c0_i32_33 c1_i32_35 k0_t13
  let c16_i32 : BitVec 32 := 16#32
  let v42 : BitVec 32 := Scalar.muli arg24 c16_i32
  let v43 : Index := Scalar.indexCast v42
  ![v43.toNat]
def k0_cond9 (i : grid0.Coords) : BitVec 1 :=
  let arg0 : BitVec 32 := BitVec.ofNat 32 (i 0).val
  let c0_i32_13 : BitVec 32 := 0#32
  let v19 : BitVec 1 := Scalar.cmpi .eq arg0 c0_i32_13
  let v20 : BitVec 32 := Scalar.extui v19
  let c0_i32_14 : BitVec 32 := 0#32
  let v21 : BitVec 1 := Scalar.cmpi .ne v20 c0_i32_14
  v21

@[reducible] def k0_t14_loop : Scf.Loop 32 :=
  let c0_i32_25 : BitVec 32 := 0#32
  let c128_i32 : BitVec 32 := 128#32
  let v35 : BitVec 32 := Scalar.addi c0_i32_25 c128_i32
  let c1_i32 : BitVec 32 := 1#32
  ⟨c0_i32_25, v35, c1_i32⟩
def k0_off28 (k0_t14 : Fin k0_t14_loop.trips) : Fin 1 → Nat :=
  let c0_i32_25 : BitVec 32 := 0#32
  let c1_i32 : BitVec 32 := 1#32
  let arg24 : BitVec 32 := Scf.iv c0_i32_25 c1_i32 k0_t14
  let c16_i32 : BitVec 32 := 16#32
  let v41 : BitVec 32 := Scalar.muli arg24 c16_i32
  let v42 : Index := Scalar.indexCast v41
  ![v42.toNat]
def k0_off29 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
@[reducible] def k0_t15_loop : Scf.Loop 32 :=
  let c0_i32_28 : BitVec 32 := 0#32
  let c392_i32_29 : BitVec 32 := 392#32
  let v37 : BitVec 32 := Scalar.addi c0_i32_28 c392_i32_29
  let c1_i32_30 : BitVec 32 := 1#32
  ⟨c0_i32_28, v37, c1_i32_30⟩
def k0_off30 (k0_t15 : Fin k0_t15_loop.trips) : Fin 1 → Nat :=
  let c0_i32_28 : BitVec 32 := 0#32
  let c1_i32_30 : BitVec 32 := 1#32
  let arg24 : BitVec 32 := Scf.iv c0_i32_28 c1_i32_30 k0_t15
  let c16_i32 : BitVec 32 := 16#32
  let v40 : BitVec 32 := Scalar.muli arg24 c16_i32
  let v41 : Index := Scalar.indexCast v40
  ![v41.toNat]

def k0_chk135 (i : grid0.Coords) (v53 : IVec S16 32) : Prop :=
  (∀ (k0_h9 : k0_cond9 i = 1#1), ∀ a x, ((![v53] : Fin 1 → IVec S16 32) a x).toNat < S16.size a)
theorem k0_idx137_inb : ∀ (i : grid0.Coords) (v53 : IVec S16 32) (k0_hw135 : k0_chk135 i v53), ∀ (k0_h9 : k0_cond9 i = 1#1), ∀ a x, ((![v53] : Fin 1 → IVec S16 32) a x).toNat < S16.size a := fun i v53 k0_hw135 k0_h9 => k0_hw135 k0_h9

def k0_chk136 (i : grid0.Coords) (v64 : IVec S16 32) : Prop :=
  (∀ (k0_h9 : k0_cond9 i = 1#1), ∀ a x, ((![v64] : Fin 1 → IVec S16 32) a x).toNat < S16.size a)
theorem k0_idx138_inb : ∀ (i : grid0.Coords) (v64 : IVec S16 32) (k0_hw136 : k0_chk136 i v64), ∀ (k0_h9 : k0_cond9 i = 1#1), ∀ a x, ((![v64] : Fin 1 → IVec S16 32) a x).toNat < S16.size a := fun i v64 k0_hw136 k0_h9 => k0_hw136 k0_h9

def k0_chk137 (i : grid0.Coords) (v75 : IVec S16 32) : Prop :=
  (∀ (k0_h9 : k0_cond9 i = 1#1), ∀ a x, ((![v75] : Fin 1 → IVec S16 32) a x).toNat < S16.size a)
theorem k0_idx139_inb : ∀ (i : grid0.Coords) (v75 : IVec S16 32) (k0_hw137 : k0_chk137 i v75), ∀ (k0_h9 : k0_cond9 i = 1#1), ∀ a x, ((![v75] : Fin 1 → IVec S16 32) a x).toNat < S16.size a := fun i v75 k0_hw137 k0_h9 => k0_hw137 k0_h9

def k0_chk138 (i : grid0.Coords) (v86 : IVec S16 32) : Prop :=
  (∀ (k0_h9 : k0_cond9 i = 1#1), ∀ a x, ((![v86] : Fin 1 → IVec S16 32) a x).toNat < S16.size a)
theorem k0_idx140_inb : ∀ (i : grid0.Coords) (v86 : IVec S16 32) (k0_hw138 : k0_chk138 i v86), ∀ (k0_h9 : k0_cond9 i = 1#1), ∀ a x, ((![v86] : Fin 1 → IVec S16 32) a x).toNat < S16.size a := fun i v86 k0_hw138 k0_h9 => k0_hw138 k0_h9

def k0_chk139 (i : grid0.Coords) (v97 : IVec S16 32) : Prop :=
  (∀ (k0_h9 : k0_cond9 i = 1#1), ∀ a x, ((![v97] : Fin 1 → IVec S16 32) a x).toNat < S16.size a)
theorem k0_idx141_inb : ∀ (i : grid0.Coords) (v97 : IVec S16 32) (k0_hw139 : k0_chk139 i v97), ∀ (k0_h9 : k0_cond9 i = 1#1), ∀ a x, ((![v97] : Fin 1 → IVec S16 32) a x).toNat < S16.size a := fun i v97 k0_hw139 k0_h9 => k0_hw139 k0_h9

def k0_chk140 (i : grid0.Coords) (v108 : IVec S16 32) : Prop :=
  (∀ (k0_h9 : k0_cond9 i = 1#1), ∀ a x, ((![v108] : Fin 1 → IVec S16 32) a x).toNat < S16.size a)
theorem k0_idx142_inb : ∀ (i : grid0.Coords) (v108 : IVec S16 32) (k0_hw140 : k0_chk140 i v108), ∀ (k0_h9 : k0_cond9 i = 1#1), ∀ a x, ((![v108] : Fin 1 → IVec S16 32) a x).toNat < S16.size a := fun i v108 k0_hw140 k0_h9 => k0_hw140 k0_h9

def k0_chk141 (i : grid0.Coords) (v119 : IVec S16 32) : Prop :=
  (∀ (k0_h9 : k0_cond9 i = 1#1), ∀ a x, ((![v119] : Fin 1 → IVec S16 32) a x).toNat < S16.size a)
theorem k0_idx143_inb : ∀ (i : grid0.Coords) (v119 : IVec S16 32) (k0_hw141 : k0_chk141 i v119), ∀ (k0_h9 : k0_cond9 i = 1#1), ∀ a x, ((![v119] : Fin 1 → IVec S16 32) a x).toNat < S16.size a := fun i v119 k0_hw141 k0_h9 => k0_hw141 k0_h9

def k0_chk142 (i : grid0.Coords) (v130 : IVec S16 32) : Prop :=
  (∀ (k0_h9 : k0_cond9 i = 1#1), ∀ a x, ((![v130] : Fin 1 → IVec S16 32) a x).toNat < S16.size a)
theorem k0_idx144_inb : ∀ (i : grid0.Coords) (v130 : IVec S16 32) (k0_hw142 : k0_chk142 i v130), ∀ (k0_h9 : k0_cond9 i = 1#1), ∀ a x, ((![v130] : Fin 1 → IVec S16 32) a x).toNat < S16.size a := fun i v130 k0_hw142 k0_h9 => k0_hw142 k0_h9

def k0_chk143 (i : grid0.Coords) (v141 : IVec S16 32) : Prop :=
  (∀ (k0_h9 : k0_cond9 i = 1#1), ∀ a x, ((![v141] : Fin 1 → IVec S16 32) a x).toNat < S16.size a)
theorem k0_idx145_inb : ∀ (i : grid0.Coords) (v141 : IVec S16 32) (k0_hw143 : k0_chk143 i v141), ∀ (k0_h9 : k0_cond9 i = 1#1), ∀ a x, ((![v141] : Fin 1 → IVec S16 32) a x).toNat < S16.size a := fun i v141 k0_hw143 k0_h9 => k0_hw143 k0_h9

def k0_chk144 (i : grid0.Coords) (v152 : IVec S16 32) : Prop :=
  (∀ (k0_h9 : k0_cond9 i = 1#1), ∀ a x, ((![v152] : Fin 1 → IVec S16 32) a x).toNat < S16.size a)
theorem k0_idx146_inb : ∀ (i : grid0.Coords) (v152 : IVec S16 32) (k0_hw144 : k0_chk144 i v152), ∀ (k0_h9 : k0_cond9 i = 1#1), ∀ a x, ((![v152] : Fin 1 → IVec S16 32) a x).toNat < S16.size a := fun i v152 k0_hw144 k0_h9 => k0_hw144 k0_h9

def k0_chk145 (i : grid0.Coords) (v163 : IVec S16 32) : Prop :=
  (∀ (k0_h9 : k0_cond9 i = 1#1), ∀ a x, ((![v163] : Fin 1 → IVec S16 32) a x).toNat < S16.size a)
theorem k0_idx147_inb : ∀ (i : grid0.Coords) (v163 : IVec S16 32) (k0_hw145 : k0_chk145 i v163), ∀ (k0_h9 : k0_cond9 i = 1#1), ∀ a x, ((![v163] : Fin 1 → IVec S16 32) a x).toNat < S16.size a := fun i v163 k0_hw145 k0_h9 => k0_hw145 k0_h9

def k0_chk146 (i : grid0.Coords) (v174 : IVec S16 32) : Prop :=
  (∀ (k0_h9 : k0_cond9 i = 1#1), ∀ a x, ((![v174] : Fin 1 → IVec S16 32) a x).toNat < S16.size a)
theorem k0_idx148_inb : ∀ (i : grid0.Coords) (v174 : IVec S16 32) (k0_hw146 : k0_chk146 i v174), ∀ (k0_h9 : k0_cond9 i = 1#1), ∀ a x, ((![v174] : Fin 1 → IVec S16 32) a x).toNat < S16.size a := fun i v174 k0_hw146 k0_h9 => k0_hw146 k0_h9

def k0_chk147 (i : grid0.Coords) (v185 : IVec S16 32) : Prop :=
  (∀ (k0_h9 : k0_cond9 i = 1#1), ∀ a x, ((![v185] : Fin 1 → IVec S16 32) a x).toNat < S16.size a)
theorem k0_idx149_inb : ∀ (i : grid0.Coords) (v185 : IVec S16 32) (k0_hw147 : k0_chk147 i v185), ∀ (k0_h9 : k0_cond9 i = 1#1), ∀ a x, ((![v185] : Fin 1 → IVec S16 32) a x).toNat < S16.size a := fun i v185 k0_hw147 k0_h9 => k0_hw147 k0_h9

def k0_chk148 (i : grid0.Coords) (v196 : IVec S16 32) : Prop :=
  (∀ (k0_h9 : k0_cond9 i = 1#1), ∀ a x, ((![v196] : Fin 1 → IVec S16 32) a x).toNat < S16.size a)
theorem k0_idx150_inb : ∀ (i : grid0.Coords) (v196 : IVec S16 32) (k0_hw148 : k0_chk148 i v196), ∀ (k0_h9 : k0_cond9 i = 1#1), ∀ a x, ((![v196] : Fin 1 → IVec S16 32) a x).toNat < S16.size a := fun i v196 k0_hw148 k0_h9 => k0_hw148 k0_h9

def k0_chk149 (i : grid0.Coords) (v207 : IVec S16 32) : Prop :=
  (∀ (k0_h9 : k0_cond9 i = 1#1), ∀ a x, ((![v207] : Fin 1 → IVec S16 32) a x).toNat < S16.size a)
theorem k0_idx151_inb : ∀ (i : grid0.Coords) (v207 : IVec S16 32) (k0_hw149 : k0_chk149 i v207), ∀ (k0_h9 : k0_cond9 i = 1#1), ∀ a x, ((![v207] : Fin 1 → IVec S16 32) a x).toNat < S16.size a := fun i v207 k0_hw149 k0_h9 => k0_hw149 k0_h9

def k0_chk150 (i : grid0.Coords) (v218 : IVec S16 32) : Prop :=
  (∀ (k0_h9 : k0_cond9 i = 1#1), ∀ a x, ((![v218] : Fin 1 → IVec S16 32) a x).toNat < S16.size a)
theorem k0_idx152_inb : ∀ (i : grid0.Coords) (v218 : IVec S16 32) (k0_hw150 : k0_chk150 i v218), ∀ (k0_h9 : k0_cond9 i = 1#1), ∀ a x, ((![v218] : Fin 1 → IVec S16 32) a x).toNat < S16.size a := fun i v218 k0_hw150 k0_h9 => k0_hw150 k0_h9

def k0_chk151 (i : grid0.Coords) (v229 : IVec S16 32) : Prop :=
  (∀ (k0_h9 : k0_cond9 i = 1#1), ∀ a x, ((![v229] : Fin 1 → IVec S16 32) a x).toNat < S16.size a)
theorem k0_idx153_inb : ∀ (i : grid0.Coords) (v229 : IVec S16 32) (k0_hw151 : k0_chk151 i v229), ∀ (k0_h9 : k0_cond9 i = 1#1), ∀ a x, ((![v229] : Fin 1 → IVec S16 32) a x).toNat < S16.size a := fun i v229 k0_hw151 k0_h9 => k0_hw151 k0_h9

def k0_chk152 (i : grid0.Coords) (v240 : IVec S16 32) : Prop :=
  (∀ (k0_h9 : k0_cond9 i = 1#1), ∀ a x, ((![v240] : Fin 1 → IVec S16 32) a x).toNat < S16.size a)
theorem k0_idx154_inb : ∀ (i : grid0.Coords) (v240 : IVec S16 32) (k0_hw152 : k0_chk152 i v240), ∀ (k0_h9 : k0_cond9 i = 1#1), ∀ a x, ((![v240] : Fin 1 → IVec S16 32) a x).toNat < S16.size a := fun i v240 k0_hw152 k0_h9 => k0_hw152 k0_h9

def k0_chk153 (i : grid0.Coords) (v251 : IVec S16 32) : Prop :=
  (∀ (k0_h9 : k0_cond9 i = 1#1), ∀ a x, ((![v251] : Fin 1 → IVec S16 32) a x).toNat < S16.size a)
theorem k0_idx155_inb : ∀ (i : grid0.Coords) (v251 : IVec S16 32) (k0_hw153 : k0_chk153 i v251), ∀ (k0_h9 : k0_cond9 i = 1#1), ∀ a x, ((![v251] : Fin 1 → IVec S16 32) a x).toNat < S16.size a := fun i v251 k0_hw153 k0_h9 => k0_hw153 k0_h9

def k0_chk154 (i : grid0.Coords) (v262 : IVec S16 32) : Prop :=
  (∀ (k0_h9 : k0_cond9 i = 1#1), ∀ a x, ((![v262] : Fin 1 → IVec S16 32) a x).toNat < S16.size a)
theorem k0_idx156_inb : ∀ (i : grid0.Coords) (v262 : IVec S16 32) (k0_hw154 : k0_chk154 i v262), ∀ (k0_h9 : k0_cond9 i = 1#1), ∀ a x, ((![v262] : Fin 1 → IVec S16 32) a x).toNat < S16.size a := fun i v262 k0_hw154 k0_h9 => k0_hw154 k0_h9

def k0_chk155 (i : grid0.Coords) (v273 : IVec S16 32) : Prop :=
  (∀ (k0_h9 : k0_cond9 i = 1#1), ∀ a x, ((![v273] : Fin 1 → IVec S16 32) a x).toNat < S16.size a)
theorem k0_idx157_inb : ∀ (i : grid0.Coords) (v273 : IVec S16 32) (k0_hw155 : k0_chk155 i v273), ∀ (k0_h9 : k0_cond9 i = 1#1), ∀ a x, ((![v273] : Fin 1 → IVec S16 32) a x).toNat < S16.size a := fun i v273 k0_hw155 k0_h9 => k0_hw155 k0_h9

def k0_chk156 (i : grid0.Coords) (v284 : IVec S16 32) : Prop :=
  (∀ (k0_h9 : k0_cond9 i = 1#1), ∀ a x, ((![v284] : Fin 1 → IVec S16 32) a x).toNat < S16.size a)
theorem k0_idx158_inb : ∀ (i : grid0.Coords) (v284 : IVec S16 32) (k0_hw156 : k0_chk156 i v284), ∀ (k0_h9 : k0_cond9 i = 1#1), ∀ a x, ((![v284] : Fin 1 → IVec S16 32) a x).toNat < S16.size a := fun i v284 k0_hw156 k0_h9 => k0_hw156 k0_h9

def k0_chk157 (i : grid0.Coords) (v295 : IVec S16 32) : Prop :=
  (∀ (k0_h9 : k0_cond9 i = 1#1), ∀ a x, ((![v295] : Fin 1 → IVec S16 32) a x).toNat < S16.size a)
theorem k0_idx159_inb : ∀ (i : grid0.Coords) (v295 : IVec S16 32) (k0_hw157 : k0_chk157 i v295), ∀ (k0_h9 : k0_cond9 i = 1#1), ∀ a x, ((![v295] : Fin 1 → IVec S16 32) a x).toNat < S16.size a := fun i v295 k0_hw157 k0_h9 => k0_hw157 k0_h9

def k0_chk158 (i : grid0.Coords) (v306 : IVec S16 32) : Prop :=
  (∀ (k0_h9 : k0_cond9 i = 1#1), ∀ a x, ((![v306] : Fin 1 → IVec S16 32) a x).toNat < S16.size a)
theorem k0_idx160_inb : ∀ (i : grid0.Coords) (v306 : IVec S16 32) (k0_hw158 : k0_chk158 i v306), ∀ (k0_h9 : k0_cond9 i = 1#1), ∀ a x, ((![v306] : Fin 1 → IVec S16 32) a x).toNat < S16.size a := fun i v306 k0_hw158 k0_h9 => k0_hw158 k0_h9

def k0_chk159 (i : grid0.Coords) (v317 : IVec S16 32) : Prop :=
  (∀ (k0_h9 : k0_cond9 i = 1#1), ∀ a x, ((![v317] : Fin 1 → IVec S16 32) a x).toNat < S16.size a)
theorem k0_idx161_inb : ∀ (i : grid0.Coords) (v317 : IVec S16 32) (k0_hw159 : k0_chk159 i v317), ∀ (k0_h9 : k0_cond9 i = 1#1), ∀ a x, ((![v317] : Fin 1 → IVec S16 32) a x).toNat < S16.size a := fun i v317 k0_hw159 k0_h9 => k0_hw159 k0_h9

def k0_chk160 (i : grid0.Coords) (v328 : IVec S16 32) : Prop :=
  (∀ (k0_h9 : k0_cond9 i = 1#1), ∀ a x, ((![v328] : Fin 1 → IVec S16 32) a x).toNat < S16.size a)
theorem k0_idx162_inb : ∀ (i : grid0.Coords) (v328 : IVec S16 32) (k0_hw160 : k0_chk160 i v328), ∀ (k0_h9 : k0_cond9 i = 1#1), ∀ a x, ((![v328] : Fin 1 → IVec S16 32) a x).toNat < S16.size a := fun i v328 k0_hw160 k0_h9 => k0_hw160 k0_h9

def k0_chk161 (i : grid0.Coords) (v339 : IVec S16 32) : Prop :=
  (∀ (k0_h9 : k0_cond9 i = 1#1), ∀ a x, ((![v339] : Fin 1 → IVec S16 32) a x).toNat < S16.size a)
theorem k0_idx163_inb : ∀ (i : grid0.Coords) (v339 : IVec S16 32) (k0_hw161 : k0_chk161 i v339), ∀ (k0_h9 : k0_cond9 i = 1#1), ∀ a x, ((![v339] : Fin 1 → IVec S16 32) a x).toNat < S16.size a := fun i v339 k0_hw161 k0_h9 => k0_hw161 k0_h9

def k0_chk162 (i : grid0.Coords) (v350 : IVec S16 32) : Prop :=
  (∀ (k0_h9 : k0_cond9 i = 1#1), ∀ a x, ((![v350] : Fin 1 → IVec S16 32) a x).toNat < S16.size a)
theorem k0_idx164_inb : ∀ (i : grid0.Coords) (v350 : IVec S16 32) (k0_hw162 : k0_chk162 i v350), ∀ (k0_h9 : k0_cond9 i = 1#1), ∀ a x, ((![v350] : Fin 1 → IVec S16 32) a x).toNat < S16.size a := fun i v350 k0_hw162 k0_h9 => k0_hw162 k0_h9

def k0_chk163 (i : grid0.Coords) (v361 : IVec S16 32) : Prop :=
  (∀ (k0_h9 : k0_cond9 i = 1#1), ∀ a x, ((![v361] : Fin 1 → IVec S16 32) a x).toNat < S16.size a)
theorem k0_idx165_inb : ∀ (i : grid0.Coords) (v361 : IVec S16 32) (k0_hw163 : k0_chk163 i v361), ∀ (k0_h9 : k0_cond9 i = 1#1), ∀ a x, ((![v361] : Fin 1 → IVec S16 32) a x).toNat < S16.size a := fun i v361 k0_hw163 k0_h9 => k0_hw163 k0_h9

def k0_chk164 (i : grid0.Coords) (v372 : IVec S16 32) : Prop :=
  (∀ (k0_h9 : k0_cond9 i = 1#1), ∀ a x, ((![v372] : Fin 1 → IVec S16 32) a x).toNat < S16.size a)
theorem k0_idx166_inb : ∀ (i : grid0.Coords) (v372 : IVec S16 32) (k0_hw164 : k0_chk164 i v372), ∀ (k0_h9 : k0_cond9 i = 1#1), ∀ a x, ((![v372] : Fin 1 → IVec S16 32) a x).toNat < S16.size a := fun i v372 k0_hw164 k0_h9 => k0_hw164 k0_h9

def k0_chk165 (i : grid0.Coords) (v46 : IVec S16 32) : Prop :=
  (∀ (k0_h9 : k0_cond9 i = 1#1), ∀ a x, ((![v46] : Fin 1 → IVec S16 32) a x).toNat < S2048.size a)
theorem k0_idx167_inb : ∀ (i : grid0.Coords) (v46 : IVec S16 32) (k0_hw165 : k0_chk165 i v46), ∀ (k0_h9 : k0_cond9 i = 1#1), ∀ a x, ((![v46] : Fin 1 → IVec S16 32) a x).toNat < S2048.size a := fun i v46 k0_hw165 k0_h9 => k0_hw165 k0_h9
def k0_off31 (i : grid0.Coords) : Fin 1 → Nat :=
  let arg1 : BitVec 32 := BitVec.ofNat 32 (i 1).val
  let c2048_i32 : BitVec 32 := 2048#32
  let v39 : BitVec 32 := Scalar.muli arg1 c2048_i32
  ![v39.toNat]
def k0_cond10 (i : grid0.Coords) : BitVec 1 :=
  let arg0 : BitVec 32 := BitVec.ofNat 32 (i 0).val
  let c0_i32_16 : BitVec 32 := 0#32
  let v22 : BitVec 1 := Scalar.cmpi .eq arg0 c0_i32_16
  let v23 : BitVec 32 := Scalar.extui v22
  let c0_i32_17 : BitVec 32 := 0#32
  let v24 : BitVec 1 := Scalar.cmpi .ne v23 c0_i32_17
  v24

@[reducible] def k0_t16_loop : Scf.Loop 32 :=
  let c0_i32_25 : BitVec 32 := 0#32
  let c128_i32 : BitVec 32 := 128#32
  let v36 : BitVec 32 := Scalar.addi c0_i32_25 c128_i32
  let c1_i32 : BitVec 32 := 1#32
  ⟨c0_i32_25, v36, c1_i32⟩
def k0_off32 (k0_t16 : Fin k0_t16_loop.trips) (c0_i32_38 : BitVec 32) : Fin 1 → Nat :=
  let c0_i32_25 : BitVec 32 := 0#32
  let c1_i32 : BitVec 32 := 1#32
  let arg24 : BitVec 32 := Scf.iv c0_i32_25 c1_i32 k0_t16
  let c16_i32 : BitVec 32 := 16#32
  let v43 : BitVec 32 := Scalar.muli arg24 c16_i32
  let v44 : BitVec 32 := Scalar.addi c0_i32_38 v43
  let v45 : Index := Scalar.indexCast v44
  ![v45.toNat]

def k0_chk166 (i : grid0.Coords) (v207 : IVec S16 32) : Prop :=
  (∀ (k0_h10 : k0_cond10 i = 1#1), ∀ a x, ((![v207] : Fin 1 → IVec S16 32) a x).toNat < S16.size a)
theorem k0_idx168_inb : ∀ (i : grid0.Coords) (v207 : IVec S16 32) (k0_hw166 : k0_chk166 i v207), ∀ (k0_h10 : k0_cond10 i = 1#1), ∀ a x, ((![v207] : Fin 1 → IVec S16 32) a x).toNat < S16.size a := fun i v207 k0_hw166 k0_h10 => k0_hw166 k0_h10

def k0_chk167 (i : grid0.Coords) (v217 : IVec S16 32) : Prop :=
  (∀ (k0_h10 : k0_cond10 i = 1#1), ∀ a x, ((![v217] : Fin 1 → IVec S16 32) a x).toNat < S16.size a)
theorem k0_idx169_inb : ∀ (i : grid0.Coords) (v217 : IVec S16 32) (k0_hw167 : k0_chk167 i v217), ∀ (k0_h10 : k0_cond10 i = 1#1), ∀ a x, ((![v217] : Fin 1 → IVec S16 32) a x).toNat < S16.size a := fun i v217 k0_hw167 k0_h10 => k0_hw167 k0_h10

def k0_chk168 (i : grid0.Coords) (v227 : IVec S16 32) : Prop :=
  (∀ (k0_h10 : k0_cond10 i = 1#1), ∀ a x, ((![v227] : Fin 1 → IVec S16 32) a x).toNat < S16.size a)
theorem k0_idx170_inb : ∀ (i : grid0.Coords) (v227 : IVec S16 32) (k0_hw168 : k0_chk168 i v227), ∀ (k0_h10 : k0_cond10 i = 1#1), ∀ a x, ((![v227] : Fin 1 → IVec S16 32) a x).toNat < S16.size a := fun i v227 k0_hw168 k0_h10 => k0_hw168 k0_h10

def k0_chk169 (i : grid0.Coords) (v237 : IVec S16 32) : Prop :=
  (∀ (k0_h10 : k0_cond10 i = 1#1), ∀ a x, ((![v237] : Fin 1 → IVec S16 32) a x).toNat < S16.size a)
theorem k0_idx171_inb : ∀ (i : grid0.Coords) (v237 : IVec S16 32) (k0_hw169 : k0_chk169 i v237), ∀ (k0_h10 : k0_cond10 i = 1#1), ∀ a x, ((![v237] : Fin 1 → IVec S16 32) a x).toNat < S16.size a := fun i v237 k0_hw169 k0_h10 => k0_hw169 k0_h10

def k0_chk170 (i : grid0.Coords) (v244 : IVec S16 32) : Prop :=
  (∀ (k0_h10 : k0_cond10 i = 1#1), ∀ a x, ((![v244] : Fin 1 → IVec S16 32) a x).toNat < S16.size a)
theorem k0_idx172_inb : ∀ (i : grid0.Coords) (v244 : IVec S16 32) (k0_hw170 : k0_chk170 i v244), ∀ (k0_h10 : k0_cond10 i = 1#1), ∀ a x, ((![v244] : Fin 1 → IVec S16 32) a x).toNat < S16.size a := fun i v244 k0_hw170 k0_h10 => k0_hw170 k0_h10
def k0_off33 (k0_t16 : Fin k0_t16_loop.trips) : Fin 1 → Nat :=
  let c0_i32_25 : BitVec 32 := 0#32
  let c1_i32 : BitVec 32 := 1#32
  let arg24 : BitVec 32 := Scf.iv c0_i32_25 c1_i32 k0_t16
  let c16_i32_76 : BitVec 32 := 16#32
  let v249 : BitVec 32 := Scalar.muli arg24 c16_i32_76
  let v250 : Index := Scalar.indexCast v249
  ![v250.toNat]
def k0_off34 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
@[reducible] def k0_t17_loop : Scf.Loop 32 :=
  let c0_i32_28 : BitVec 32 := 0#32
  let c392_i32_29 : BitVec 32 := 392#32
  let v38 : BitVec 32 := Scalar.addi c0_i32_28 c392_i32_29
  let c1_i32_30 : BitVec 32 := 1#32
  ⟨c0_i32_28, v38, c1_i32_30⟩
def k0_off35 (k0_t17 : Fin k0_t17_loop.trips) : Fin 1 → Nat :=
  let c0_i32_28 : BitVec 32 := 0#32
  let c1_i32_30 : BitVec 32 := 1#32
  let arg24 : BitVec 32 := Scf.iv c0_i32_28 c1_i32_30 k0_t17
  let c16_i32 : BitVec 32 := 16#32
  let v42 : BitVec 32 := Scalar.muli arg24 c16_i32
  let v43 : Index := Scalar.indexCast v42
  ![v43.toNat]

def k0_chk171 (i : grid0.Coords) (v55 : IVec S16 32) : Prop :=
  (∀ (k0_h10 : k0_cond10 i = 1#1), ∀ a x, ((![v55] : Fin 1 → IVec S16 32) a x).toNat < S16.size a)
theorem k0_idx173_inb : ∀ (i : grid0.Coords) (v55 : IVec S16 32) (k0_hw171 : k0_chk171 i v55), ∀ (k0_h10 : k0_cond10 i = 1#1), ∀ a x, ((![v55] : Fin 1 → IVec S16 32) a x).toNat < S16.size a := fun i v55 k0_hw171 k0_h10 => k0_hw171 k0_h10

def k0_chk172 (i : grid0.Coords) (v66 : IVec S16 32) : Prop :=
  (∀ (k0_h10 : k0_cond10 i = 1#1), ∀ a x, ((![v66] : Fin 1 → IVec S16 32) a x).toNat < S16.size a)
theorem k0_idx174_inb : ∀ (i : grid0.Coords) (v66 : IVec S16 32) (k0_hw172 : k0_chk172 i v66), ∀ (k0_h10 : k0_cond10 i = 1#1), ∀ a x, ((![v66] : Fin 1 → IVec S16 32) a x).toNat < S16.size a := fun i v66 k0_hw172 k0_h10 => k0_hw172 k0_h10

def k0_chk173 (i : grid0.Coords) (v77 : IVec S16 32) : Prop :=
  (∀ (k0_h10 : k0_cond10 i = 1#1), ∀ a x, ((![v77] : Fin 1 → IVec S16 32) a x).toNat < S16.size a)
theorem k0_idx175_inb : ∀ (i : grid0.Coords) (v77 : IVec S16 32) (k0_hw173 : k0_chk173 i v77), ∀ (k0_h10 : k0_cond10 i = 1#1), ∀ a x, ((![v77] : Fin 1 → IVec S16 32) a x).toNat < S16.size a := fun i v77 k0_hw173 k0_h10 => k0_hw173 k0_h10

def k0_chk174 (i : grid0.Coords) (v88 : IVec S16 32) : Prop :=
  (∀ (k0_h10 : k0_cond10 i = 1#1), ∀ a x, ((![v88] : Fin 1 → IVec S16 32) a x).toNat < S16.size a)
theorem k0_idx176_inb : ∀ (i : grid0.Coords) (v88 : IVec S16 32) (k0_hw174 : k0_chk174 i v88), ∀ (k0_h10 : k0_cond10 i = 1#1), ∀ a x, ((![v88] : Fin 1 → IVec S16 32) a x).toNat < S16.size a := fun i v88 k0_hw174 k0_h10 => k0_hw174 k0_h10

def k0_chk175 (i : grid0.Coords) (v99 : IVec S16 32) : Prop :=
  (∀ (k0_h10 : k0_cond10 i = 1#1), ∀ a x, ((![v99] : Fin 1 → IVec S16 32) a x).toNat < S16.size a)
theorem k0_idx177_inb : ∀ (i : grid0.Coords) (v99 : IVec S16 32) (k0_hw175 : k0_chk175 i v99), ∀ (k0_h10 : k0_cond10 i = 1#1), ∀ a x, ((![v99] : Fin 1 → IVec S16 32) a x).toNat < S16.size a := fun i v99 k0_hw175 k0_h10 => k0_hw175 k0_h10

def k0_chk176 (i : grid0.Coords) (v110 : IVec S16 32) : Prop :=
  (∀ (k0_h10 : k0_cond10 i = 1#1), ∀ a x, ((![v110] : Fin 1 → IVec S16 32) a x).toNat < S16.size a)
theorem k0_idx178_inb : ∀ (i : grid0.Coords) (v110 : IVec S16 32) (k0_hw176 : k0_chk176 i v110), ∀ (k0_h10 : k0_cond10 i = 1#1), ∀ a x, ((![v110] : Fin 1 → IVec S16 32) a x).toNat < S16.size a := fun i v110 k0_hw176 k0_h10 => k0_hw176 k0_h10

def k0_chk177 (i : grid0.Coords) (v121 : IVec S16 32) : Prop :=
  (∀ (k0_h10 : k0_cond10 i = 1#1), ∀ a x, ((![v121] : Fin 1 → IVec S16 32) a x).toNat < S16.size a)
theorem k0_idx179_inb : ∀ (i : grid0.Coords) (v121 : IVec S16 32) (k0_hw177 : k0_chk177 i v121), ∀ (k0_h10 : k0_cond10 i = 1#1), ∀ a x, ((![v121] : Fin 1 → IVec S16 32) a x).toNat < S16.size a := fun i v121 k0_hw177 k0_h10 => k0_hw177 k0_h10

def k0_chk178 (i : grid0.Coords) (v132 : IVec S16 32) : Prop :=
  (∀ (k0_h10 : k0_cond10 i = 1#1), ∀ a x, ((![v132] : Fin 1 → IVec S16 32) a x).toNat < S16.size a)
theorem k0_idx180_inb : ∀ (i : grid0.Coords) (v132 : IVec S16 32) (k0_hw178 : k0_chk178 i v132), ∀ (k0_h10 : k0_cond10 i = 1#1), ∀ a x, ((![v132] : Fin 1 → IVec S16 32) a x).toNat < S16.size a := fun i v132 k0_hw178 k0_h10 => k0_hw178 k0_h10

def k0_chk179 (i : grid0.Coords) (v143 : IVec S16 32) : Prop :=
  (∀ (k0_h10 : k0_cond10 i = 1#1), ∀ a x, ((![v143] : Fin 1 → IVec S16 32) a x).toNat < S16.size a)
theorem k0_idx181_inb : ∀ (i : grid0.Coords) (v143 : IVec S16 32) (k0_hw179 : k0_chk179 i v143), ∀ (k0_h10 : k0_cond10 i = 1#1), ∀ a x, ((![v143] : Fin 1 → IVec S16 32) a x).toNat < S16.size a := fun i v143 k0_hw179 k0_h10 => k0_hw179 k0_h10

def k0_chk180 (i : grid0.Coords) (v154 : IVec S16 32) : Prop :=
  (∀ (k0_h10 : k0_cond10 i = 1#1), ∀ a x, ((![v154] : Fin 1 → IVec S16 32) a x).toNat < S16.size a)
theorem k0_idx182_inb : ∀ (i : grid0.Coords) (v154 : IVec S16 32) (k0_hw180 : k0_chk180 i v154), ∀ (k0_h10 : k0_cond10 i = 1#1), ∀ a x, ((![v154] : Fin 1 → IVec S16 32) a x).toNat < S16.size a := fun i v154 k0_hw180 k0_h10 => k0_hw180 k0_h10

def k0_chk181 (i : grid0.Coords) (v165 : IVec S16 32) : Prop :=
  (∀ (k0_h10 : k0_cond10 i = 1#1), ∀ a x, ((![v165] : Fin 1 → IVec S16 32) a x).toNat < S16.size a)
theorem k0_idx183_inb : ∀ (i : grid0.Coords) (v165 : IVec S16 32) (k0_hw181 : k0_chk181 i v165), ∀ (k0_h10 : k0_cond10 i = 1#1), ∀ a x, ((![v165] : Fin 1 → IVec S16 32) a x).toNat < S16.size a := fun i v165 k0_hw181 k0_h10 => k0_hw181 k0_h10

def k0_chk182 (i : grid0.Coords) (v176 : IVec S16 32) : Prop :=
  (∀ (k0_h10 : k0_cond10 i = 1#1), ∀ a x, ((![v176] : Fin 1 → IVec S16 32) a x).toNat < S16.size a)
theorem k0_idx184_inb : ∀ (i : grid0.Coords) (v176 : IVec S16 32) (k0_hw182 : k0_chk182 i v176), ∀ (k0_h10 : k0_cond10 i = 1#1), ∀ a x, ((![v176] : Fin 1 → IVec S16 32) a x).toNat < S16.size a := fun i v176 k0_hw182 k0_h10 => k0_hw182 k0_h10

def k0_chk183 (i : grid0.Coords) (v187 : IVec S16 32) : Prop :=
  (∀ (k0_h10 : k0_cond10 i = 1#1), ∀ a x, ((![v187] : Fin 1 → IVec S16 32) a x).toNat < S16.size a)
theorem k0_idx185_inb : ∀ (i : grid0.Coords) (v187 : IVec S16 32) (k0_hw183 : k0_chk183 i v187), ∀ (k0_h10 : k0_cond10 i = 1#1), ∀ a x, ((![v187] : Fin 1 → IVec S16 32) a x).toNat < S16.size a := fun i v187 k0_hw183 k0_h10 => k0_hw183 k0_h10

def k0_chk184 (i : grid0.Coords) (v198 : IVec S16 32) : Prop :=
  (∀ (k0_h10 : k0_cond10 i = 1#1), ∀ a x, ((![v198] : Fin 1 → IVec S16 32) a x).toNat < S16.size a)
theorem k0_idx186_inb : ∀ (i : grid0.Coords) (v198 : IVec S16 32) (k0_hw184 : k0_chk184 i v198), ∀ (k0_h10 : k0_cond10 i = 1#1), ∀ a x, ((![v198] : Fin 1 → IVec S16 32) a x).toNat < S16.size a := fun i v198 k0_hw184 k0_h10 => k0_hw184 k0_h10

def k0_chk185 (i : grid0.Coords) (v209 : IVec S16 32) : Prop :=
  (∀ (k0_h10 : k0_cond10 i = 1#1), ∀ a x, ((![v209] : Fin 1 → IVec S16 32) a x).toNat < S16.size a)
theorem k0_idx187_inb : ∀ (i : grid0.Coords) (v209 : IVec S16 32) (k0_hw185 : k0_chk185 i v209), ∀ (k0_h10 : k0_cond10 i = 1#1), ∀ a x, ((![v209] : Fin 1 → IVec S16 32) a x).toNat < S16.size a := fun i v209 k0_hw185 k0_h10 => k0_hw185 k0_h10

def k0_chk186 (i : grid0.Coords) (v220 : IVec S16 32) : Prop :=
  (∀ (k0_h10 : k0_cond10 i = 1#1), ∀ a x, ((![v220] : Fin 1 → IVec S16 32) a x).toNat < S16.size a)
theorem k0_idx188_inb : ∀ (i : grid0.Coords) (v220 : IVec S16 32) (k0_hw186 : k0_chk186 i v220), ∀ (k0_h10 : k0_cond10 i = 1#1), ∀ a x, ((![v220] : Fin 1 → IVec S16 32) a x).toNat < S16.size a := fun i v220 k0_hw186 k0_h10 => k0_hw186 k0_h10

def k0_chk187 (i : grid0.Coords) (v231 : IVec S16 32) : Prop :=
  (∀ (k0_h10 : k0_cond10 i = 1#1), ∀ a x, ((![v231] : Fin 1 → IVec S16 32) a x).toNat < S16.size a)
theorem k0_idx189_inb : ∀ (i : grid0.Coords) (v231 : IVec S16 32) (k0_hw187 : k0_chk187 i v231), ∀ (k0_h10 : k0_cond10 i = 1#1), ∀ a x, ((![v231] : Fin 1 → IVec S16 32) a x).toNat < S16.size a := fun i v231 k0_hw187 k0_h10 => k0_hw187 k0_h10

def k0_chk188 (i : grid0.Coords) (v242 : IVec S16 32) : Prop :=
  (∀ (k0_h10 : k0_cond10 i = 1#1), ∀ a x, ((![v242] : Fin 1 → IVec S16 32) a x).toNat < S16.size a)
theorem k0_idx190_inb : ∀ (i : grid0.Coords) (v242 : IVec S16 32) (k0_hw188 : k0_chk188 i v242), ∀ (k0_h10 : k0_cond10 i = 1#1), ∀ a x, ((![v242] : Fin 1 → IVec S16 32) a x).toNat < S16.size a := fun i v242 k0_hw188 k0_h10 => k0_hw188 k0_h10

def k0_chk189 (i : grid0.Coords) (v253 : IVec S16 32) : Prop :=
  (∀ (k0_h10 : k0_cond10 i = 1#1), ∀ a x, ((![v253] : Fin 1 → IVec S16 32) a x).toNat < S16.size a)
theorem k0_idx191_inb : ∀ (i : grid0.Coords) (v253 : IVec S16 32) (k0_hw189 : k0_chk189 i v253), ∀ (k0_h10 : k0_cond10 i = 1#1), ∀ a x, ((![v253] : Fin 1 → IVec S16 32) a x).toNat < S16.size a := fun i v253 k0_hw189 k0_h10 => k0_hw189 k0_h10

def k0_chk190 (i : grid0.Coords) (v264 : IVec S16 32) : Prop :=
  (∀ (k0_h10 : k0_cond10 i = 1#1), ∀ a x, ((![v264] : Fin 1 → IVec S16 32) a x).toNat < S16.size a)
theorem k0_idx192_inb : ∀ (i : grid0.Coords) (v264 : IVec S16 32) (k0_hw190 : k0_chk190 i v264), ∀ (k0_h10 : k0_cond10 i = 1#1), ∀ a x, ((![v264] : Fin 1 → IVec S16 32) a x).toNat < S16.size a := fun i v264 k0_hw190 k0_h10 => k0_hw190 k0_h10

def k0_chk191 (i : grid0.Coords) (v275 : IVec S16 32) : Prop :=
  (∀ (k0_h10 : k0_cond10 i = 1#1), ∀ a x, ((![v275] : Fin 1 → IVec S16 32) a x).toNat < S16.size a)
theorem k0_idx193_inb : ∀ (i : grid0.Coords) (v275 : IVec S16 32) (k0_hw191 : k0_chk191 i v275), ∀ (k0_h10 : k0_cond10 i = 1#1), ∀ a x, ((![v275] : Fin 1 → IVec S16 32) a x).toNat < S16.size a := fun i v275 k0_hw191 k0_h10 => k0_hw191 k0_h10

def k0_chk192 (i : grid0.Coords) (v286 : IVec S16 32) : Prop :=
  (∀ (k0_h10 : k0_cond10 i = 1#1), ∀ a x, ((![v286] : Fin 1 → IVec S16 32) a x).toNat < S16.size a)
theorem k0_idx194_inb : ∀ (i : grid0.Coords) (v286 : IVec S16 32) (k0_hw192 : k0_chk192 i v286), ∀ (k0_h10 : k0_cond10 i = 1#1), ∀ a x, ((![v286] : Fin 1 → IVec S16 32) a x).toNat < S16.size a := fun i v286 k0_hw192 k0_h10 => k0_hw192 k0_h10

def k0_chk193 (i : grid0.Coords) (v297 : IVec S16 32) : Prop :=
  (∀ (k0_h10 : k0_cond10 i = 1#1), ∀ a x, ((![v297] : Fin 1 → IVec S16 32) a x).toNat < S16.size a)
theorem k0_idx195_inb : ∀ (i : grid0.Coords) (v297 : IVec S16 32) (k0_hw193 : k0_chk193 i v297), ∀ (k0_h10 : k0_cond10 i = 1#1), ∀ a x, ((![v297] : Fin 1 → IVec S16 32) a x).toNat < S16.size a := fun i v297 k0_hw193 k0_h10 => k0_hw193 k0_h10

def k0_chk194 (i : grid0.Coords) (v308 : IVec S16 32) : Prop :=
  (∀ (k0_h10 : k0_cond10 i = 1#1), ∀ a x, ((![v308] : Fin 1 → IVec S16 32) a x).toNat < S16.size a)
theorem k0_idx196_inb : ∀ (i : grid0.Coords) (v308 : IVec S16 32) (k0_hw194 : k0_chk194 i v308), ∀ (k0_h10 : k0_cond10 i = 1#1), ∀ a x, ((![v308] : Fin 1 → IVec S16 32) a x).toNat < S16.size a := fun i v308 k0_hw194 k0_h10 => k0_hw194 k0_h10

def k0_chk195 (i : grid0.Coords) (v319 : IVec S16 32) : Prop :=
  (∀ (k0_h10 : k0_cond10 i = 1#1), ∀ a x, ((![v319] : Fin 1 → IVec S16 32) a x).toNat < S16.size a)
theorem k0_idx197_inb : ∀ (i : grid0.Coords) (v319 : IVec S16 32) (k0_hw195 : k0_chk195 i v319), ∀ (k0_h10 : k0_cond10 i = 1#1), ∀ a x, ((![v319] : Fin 1 → IVec S16 32) a x).toNat < S16.size a := fun i v319 k0_hw195 k0_h10 => k0_hw195 k0_h10

def k0_chk196 (i : grid0.Coords) (v330 : IVec S16 32) : Prop :=
  (∀ (k0_h10 : k0_cond10 i = 1#1), ∀ a x, ((![v330] : Fin 1 → IVec S16 32) a x).toNat < S16.size a)
theorem k0_idx198_inb : ∀ (i : grid0.Coords) (v330 : IVec S16 32) (k0_hw196 : k0_chk196 i v330), ∀ (k0_h10 : k0_cond10 i = 1#1), ∀ a x, ((![v330] : Fin 1 → IVec S16 32) a x).toNat < S16.size a := fun i v330 k0_hw196 k0_h10 => k0_hw196 k0_h10

def k0_chk197 (i : grid0.Coords) (v341 : IVec S16 32) : Prop :=
  (∀ (k0_h10 : k0_cond10 i = 1#1), ∀ a x, ((![v341] : Fin 1 → IVec S16 32) a x).toNat < S16.size a)
theorem k0_idx199_inb : ∀ (i : grid0.Coords) (v341 : IVec S16 32) (k0_hw197 : k0_chk197 i v341), ∀ (k0_h10 : k0_cond10 i = 1#1), ∀ a x, ((![v341] : Fin 1 → IVec S16 32) a x).toNat < S16.size a := fun i v341 k0_hw197 k0_h10 => k0_hw197 k0_h10

def k0_chk198 (i : grid0.Coords) (v352 : IVec S16 32) : Prop :=
  (∀ (k0_h10 : k0_cond10 i = 1#1), ∀ a x, ((![v352] : Fin 1 → IVec S16 32) a x).toNat < S16.size a)
theorem k0_idx200_inb : ∀ (i : grid0.Coords) (v352 : IVec S16 32) (k0_hw198 : k0_chk198 i v352), ∀ (k0_h10 : k0_cond10 i = 1#1), ∀ a x, ((![v352] : Fin 1 → IVec S16 32) a x).toNat < S16.size a := fun i v352 k0_hw198 k0_h10 => k0_hw198 k0_h10

def k0_chk199 (i : grid0.Coords) (v363 : IVec S16 32) : Prop :=
  (∀ (k0_h10 : k0_cond10 i = 1#1), ∀ a x, ((![v363] : Fin 1 → IVec S16 32) a x).toNat < S16.size a)
theorem k0_idx201_inb : ∀ (i : grid0.Coords) (v363 : IVec S16 32) (k0_hw199 : k0_chk199 i v363), ∀ (k0_h10 : k0_cond10 i = 1#1), ∀ a x, ((![v363] : Fin 1 → IVec S16 32) a x).toNat < S16.size a := fun i v363 k0_hw199 k0_h10 => k0_hw199 k0_h10

def k0_chk200 (i : grid0.Coords) (v374 : IVec S16 32) : Prop :=
  (∀ (k0_h10 : k0_cond10 i = 1#1), ∀ a x, ((![v374] : Fin 1 → IVec S16 32) a x).toNat < S16.size a)
theorem k0_idx202_inb : ∀ (i : grid0.Coords) (v374 : IVec S16 32) (k0_hw200 : k0_chk200 i v374), ∀ (k0_h10 : k0_cond10 i = 1#1), ∀ a x, ((![v374] : Fin 1 → IVec S16 32) a x).toNat < S16.size a := fun i v374 k0_hw200 k0_h10 => k0_hw200 k0_h10

def k0_chk201 (i : grid0.Coords) (v48 : IVec S16 32) : Prop :=
  (∀ (k0_h10 : k0_cond10 i = 1#1), ∀ a x, ((![v48] : Fin 1 → IVec S16 32) a x).toNat < S2048.size a) ∧
  (∀ (k0_h10 : k0_cond10 i = 1#1), ∀ a x, ((![v48] : Fin 1 → IVec S16 32) a x).toNat < S2048.size a)
theorem k0_idx203_inb : ∀ (i : grid0.Coords) (v48 : IVec S16 32) (k0_hw201 : k0_chk201 i v48), ∀ (k0_h10 : k0_cond10 i = 1#1), ∀ a x, ((![v48] : Fin 1 → IVec S16 32) a x).toNat < S2048.size a := fun i v48 k0_hw201 k0_h10 => k0_hw201.1 k0_h10
theorem k0_idx204_inb : ∀ (i : grid0.Coords) (v48 : IVec S16 32) (k0_hw201 : k0_chk201 i v48), ∀ (k0_h10 : k0_cond10 i = 1#1), ∀ a x, ((![v48] : Fin 1 → IVec S16 32) a x).toNat < S2048.size a := fun i v48 k0_hw201 k0_h10 => k0_hw201.2 k0_h10
def k0_off36 (k0_t17 : Fin k0_t17_loop.trips) : Fin 1 → Nat :=
  let c0_i32_28 : BitVec 32 := 0#32
  let c1_i32_30 : BitVec 32 := 1#32
  let arg24 : BitVec 32 := Scf.iv c0_i32_28 c1_i32_30 k0_t17
  let c16_i32_120 : BitVec 32 := 16#32
  let v388 : BitVec 32 := Scalar.muli arg24 c16_i32_120
  let v389 : Index := Scalar.indexCast v388
  ![v389.toNat]
@[reducible] def k0_t18_loop : Scf.Loop 32 :=
  let c0_i32_33 : BitVec 32 := 0#32
  let c392_i32_34 : BitVec 32 := 392#32
  let v40 : BitVec 32 := Scalar.addi c0_i32_33 c392_i32_34
  let c1_i32_35 : BitVec 32 := 1#32
  ⟨c0_i32_33, v40, c1_i32_35⟩
def k0_off37 (k0_t18 : Fin k0_t18_loop.trips) : Fin 1 → Nat :=
  let c0_i32_33 : BitVec 32 := 0#32
  let c1_i32_35 : BitVec 32 := 1#32
  let arg24 : BitVec 32 := Scf.iv c0_i32_33 c1_i32_35 k0_t18
  let c16_i32 : BitVec 32 := 16#32
  let v42 : BitVec 32 := Scalar.muli arg24 c16_i32
  let v43 : Index := Scalar.indexCast v42
  ![v43.toNat]
def k0_cond11 (i : grid0.Coords) : BitVec 1 :=
  let arg0 : BitVec 32 := BitVec.ofNat 32 (i 0).val
  let c0_i32_19 : BitVec 32 := 0#32
  let v25 : BitVec 1 := Scalar.cmpi .eq arg0 c0_i32_19
  let arg1 : BitVec 32 := BitVec.ofNat 32 (i 1).val
  let c8_i32 : BitVec 32 := 8#32
  let v26 : BitVec 1 := Scalar.cmpi .slt arg1 c8_i32
  let v27 : BitVec 1 := Scalar.andi v25 v26
  let v28 : BitVec 32 := Scalar.extui v27
  let c0_i32_20 : BitVec 32 := 0#32
  let v29 : BitVec 1 := Scalar.cmpi .ne v28 c0_i32_20
  v29

def k0_off38 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
def k0_off39 (i : grid0.Coords) : Fin 1 → Nat :=
  let arg1 : BitVec 32 := BitVec.ofNat 32 (i 1).val
  let c6272_i32 : BitVec 32 := 6272#32
  let v1 : BitVec 32 := Scalar.muli arg1 c6272_i32
  ![v1.toNat]
def k0_cond12 (i : grid0.Coords) : BitVec 1 :=
  let arg0 : BitVec 32 := BitVec.ofNat 32 (i 0).val
  let c0_i32_21 : BitVec 32 := 0#32
  let v30 : BitVec 1 := Scalar.cmpi .eq arg0 c0_i32_21
  let arg1 : BitVec 32 := BitVec.ofNat 32 (i 1).val
  let c0_i32_22 : BitVec 32 := 0#32
  let v31 : BitVec 1 := Scalar.cmpi .eq arg1 c0_i32_22
  let v32 : BitVec 1 := Scalar.andi v30 v31
  let v33 : BitVec 32 := Scalar.extui v32
  let c0_i32_23 : BitVec 32 := 0#32
  let v34 : BitVec 1 := Scalar.cmpi .ne v33 c0_i32_23
  v34

def k0_chk202 (i : grid0.Coords) (v70 : IVec S16 32) : Prop :=
  (∀ (k0_h12 : k0_cond12 i = 1#1), ∀ a x, ((![v70] : Fin 1 → IVec S16 32) a x).toNat < S16.size a)
theorem k0_idx205_inb : ∀ (i : grid0.Coords) (v70 : IVec S16 32) (k0_hw202 : k0_chk202 i v70), ∀ (k0_h12 : k0_cond12 i = 1#1), ∀ a x, ((![v70] : Fin 1 → IVec S16 32) a x).toNat < S16.size a := fun i v70 k0_hw202 k0_h12 => k0_hw202 k0_h12

def k0_chk203 (i : grid0.Coords) (v75 : IVec S16 32) : Prop :=
  (∀ (k0_h12 : k0_cond12 i = 1#1), ∀ a x, ((![v75] : Fin 1 → IVec S16 32) a x).toNat < S16.size a)
theorem k0_idx206_inb : ∀ (i : grid0.Coords) (v75 : IVec S16 32) (k0_hw203 : k0_chk203 i v75), ∀ (k0_h12 : k0_cond12 i = 1#1), ∀ a x, ((![v75] : Fin 1 → IVec S16 32) a x).toNat < S16.size a := fun i v75 k0_hw203 k0_h12 => k0_hw203 k0_h12

def k0_chk204 (i : grid0.Coords) (v80 : IVec S16 32) : Prop :=
  (∀ (k0_h12 : k0_cond12 i = 1#1), ∀ a x, ((![v80] : Fin 1 → IVec S16 32) a x).toNat < S16.size a)
theorem k0_idx207_inb : ∀ (i : grid0.Coords) (v80 : IVec S16 32) (k0_hw204 : k0_chk204 i v80), ∀ (k0_h12 : k0_cond12 i = 1#1), ∀ a x, ((![v80] : Fin 1 → IVec S16 32) a x).toNat < S16.size a := fun i v80 k0_hw204 k0_h12 => k0_hw204 k0_h12

def k0_chk205 (i : grid0.Coords) (v85 : IVec S16 32) : Prop :=
  (∀ (k0_h12 : k0_cond12 i = 1#1), ∀ a x, ((![v85] : Fin 1 → IVec S16 32) a x).toNat < S16.size a)
theorem k0_idx208_inb : ∀ (i : grid0.Coords) (v85 : IVec S16 32) (k0_hw205 : k0_chk205 i v85), ∀ (k0_h12 : k0_cond12 i = 1#1), ∀ a x, ((![v85] : Fin 1 → IVec S16 32) a x).toNat < S16.size a := fun i v85 k0_hw205 k0_h12 => k0_hw205 k0_h12
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S100000 : Shape := ⟨1, ![100000]⟩
abbrev S50000 : Shape := ⟨1, ![50000]⟩

abbrev nBuf : Space → Nat
  | .hbm => 3
  | .vmem => 0
  | .smem => 0
  | _ => 0

abbrev bufTy : (tb : Table) → Fin (tcTables nBuf tb) → BufTy
  | .hbm, ⟨0, _⟩ => ⟨S100000, .f32⟩
  | .hbm, ⟨1, _⟩ => ⟨S50000, .f32⟩
  | .hbm, ⟨2, _⟩ => ⟨S50000, .i32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Whole.lean ====
abbrev S100000x128 : Shape := ⟨2, ![100000, 128]⟩
abbrev S128x1 : Shape := ⟨2, ![128, 1]⟩
abbrev S_ : Shape := ⟨0, ![]⟩
abbrev S100000x1 : Shape := ⟨2, ![100000, 1]⟩
abbrev S1x1 : Shape := ⟨2, ![1, 1]⟩
abbrev S100000 : Shape := ⟨1, ![100000]⟩
abbrev S50000 : Shape := ⟨1, ![50000]⟩
abbrev S176 : Shape := ⟨1, ![176]⟩
abbrev S50176 : Shape := ⟨1, ![50176]⟩
abbrev S50000x128 : Shape := ⟨2, ![50000, 128]⟩
abbrev S400 : Shape := ⟨1, ![400]⟩
abbrev S400x128 : Shape := ⟨2, ![400, 128]⟩
abbrev S16 : Shape := ⟨1, ![16]⟩
abbrev S1x16 : Shape := ⟨2, ![1, 16]⟩

abbrev nBuf : Table → Nat
  | .hbm => 71
  | .local .scVector .vmem => 3
  | _ => 0

abbrev bufTy : (tb : Table) → Fin (nBuf tb) → BufTy
  | .hbm, ⟨0, _⟩ => ⟨S100000x128, .f32⟩
  | .hbm, ⟨1, _⟩ => ⟨S128x1, .f32⟩
  | .hbm, ⟨2, _⟩ => ⟨S128x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S100000x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S100000x1, .f32⟩
  | .hbm, ⟨16, _⟩ => ⟨S100000x1, .f32⟩
  | .hbm, ⟨17, _⟩ => ⟨S_, .i32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S1x1, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x1, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000, .f32⟩
  | .hbm, ⟨52, _⟩ => ⟨S50000, .f32⟩
  | .hbm, ⟨53, _⟩ => ⟨S50000, .i32⟩
  | .hbm, ⟨54, _⟩ => ⟨S_, .i32⟩
  | .hbm, ⟨55, _⟩ => ⟨S176, .i32⟩
  | .hbm, ⟨56, _⟩ => ⟨S50176, .i32⟩
  | .hbm, ⟨57, _⟩ => ⟨S50000, .i32⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50176, .i32⟩
  | .hbm, ⟨62, _⟩ => ⟨S50000x128, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local .scVector .vmem, ⟨0, _⟩ => ⟨S400, .i32⟩
  | .local .scVector .vmem, ⟨1, _⟩ => ⟨S400, .i32⟩
  | .local .scVector .vmem, ⟨2, _⟩ => ⟨S400x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call1_call0_cst : Ref sig .tc := ⟨.hbm, 18, rfl⟩
abbrev main_call1_call0_v0 : Ref sig .tc := ⟨.hbm, 19, rfl⟩
abbrev main_call1_call0_v1 : Ref sig .tc := ⟨.hbm, 20, rfl⟩
abbrev main_call1_call0_cst_0 : Ref sig .tc := ⟨.hbm, 21, rfl⟩
abbrev main_call1_call0_v2 : Ref sig .tc := ⟨.hbm, 22, rfl⟩
abbrev main_call1_call0_v3 : Ref sig .tc := ⟨.hbm, 23, rfl⟩
abbrev main_call1_call0_v4 : Ref sig .tc := ⟨.hbm, 24, rfl⟩
abbrev main_call1_call0_v5 : Ref sig .tc := ⟨.hbm, 25, rfl⟩
abbrev main_call1_call0_v6 : Ref sig .tc := ⟨.hbm, 26, rfl⟩
abbrev main_call1_call0_v7 : Ref sig .tc := ⟨.hbm, 27, rfl⟩
abbrev main_call1_call0_cst_1 : Ref sig .tc := ⟨.hbm, 28, rfl⟩
abbrev main_call1_call0_v8 : Ref sig .tc := ⟨.hbm, 29, rfl⟩
abbrev main_call1_call0_cst_2 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_cst_3 : Ref sig .tc := ⟨.hbm, 33, rfl⟩
abbrev main_call1_call0_v11 : Ref sig .tc := ⟨.hbm, 34, rfl⟩
abbrev main_call1_call0_cst_4 : Ref sig .tc := ⟨.hbm, 35, rfl⟩
abbrev main_call1_call0_call0_v0 : Ref sig .tc := ⟨.hbm, 36, rfl⟩
abbrev main_call1_v0 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_values : Ref sig .tc := ⟨.hbm, 52, rfl⟩
abbrev main_indices : Ref sig .tc := ⟨.hbm, 53, rfl⟩
abbrev main_c_5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_cst_9 : Ref sig .tc := ⟨.hbm, 69, rfl⟩
abbrev main_v31 : Ref sig .tc := ⟨.hbm, 70, rfl⟩
abbrev main_v21_scv : Ref sig .scVector := ⟨.hbm, 56, rfl⟩
abbrev main_v25_scv : Ref sig .scVector := ⟨.hbm, 61, rfl⟩
abbrev main_arg0_scv : Ref sig .scVector := ⟨.hbm, 0, rfl⟩
abbrev main_v26_scv : Ref sig .scVector := ⟨.hbm, 62, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 1 := Scalar.cmpi .slt v1 c25_i32
  let v3 : BitVec 32 := Scalar.extui v2
  let c0_i32 : BitVec 32 := 0#32
  let v4 : BitVec 1 := Scalar.cmpi .ne v3 c0_i32
  v4

@[reducible] def k0_t1_loop : Scf.Loop 32 :=
  let c0_i32_1 : BitVec 32 := 0#32
  let c5_i32 : BitVec 32 := 5#32
  let v5 : BitVec 32 := Scalar.addi c0_i32_1 c5_i32
  let c1_i32 : BitVec 32 := 1#32
  ⟨c0_i32_1, v5, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v7 : BitVec 32 := Scalar.muli v1 c2000_i32
  let c0_i32_1 : BitVec 32 := 0#32
  let c1_i32 : BitVec 32 := 1#32
  let arg10 : BitVec 32 := Scf.iv c0_i32_1 c1_i32 k0_t1
  let c400_i32 : BitVec 32 := 400#32
  let v8 : BitVec 32 := Scalar.muli arg10 c400_i32
  let v9 : BitVec 32 := Scalar.addi v7 v8
  ![v9.toNat]
@[reducible] def k0_t2_loop : Scf.Loop 32 :=
  let c0_i32_4 : BitVec 32 := 0#32
  let c25_i32_5 : BitVec 32 := 25#32
  let v10 : BitVec 32 := Scalar.addi c0_i32_4 c25_i32_5
  let c1_i32_6 : BitVec 32 := 1#32
  ⟨c0_i32_4, v10, c1_i32_6⟩
def k0_off2 (k0_t2 : Fin k0_t2_loop.trips) : Fin 1 → Nat :=
  let c0_i32_4 : BitVec 32 := 0#32
  let c1_i32_6 : BitVec 32 := 1#32
  let arg12 : BitVec 32 := Scf.iv c0_i32_4 c1_i32_6 k0_t2
  let c16_i32 : BitVec 32 := 16#32
  let v16 : BitVec 32 := Scalar.muli arg12 c16_i32
  let v17 : Index := Scalar.indexCast v16
  ![v17.toNat]
@[reducible] def k0_t3_loop : Scf.Loop 32 :=
  let c0_i32_13 : BitVec 32 := 0#32
  let c400_i32_14 : BitVec 32 := 400#32
  let v14 : BitVec 32 := Scalar.addi c0_i32_13 c400_i32_14
  let c1_i32_15 : BitVec 32 := 1#32
  ⟨c0_i32_13, v14, c1_i32_15⟩

def k0_chk1 (i : grid0.Coords) (v16 : IVec S16 32) : Prop :=
  (∀ (k0_h1 : k0_cond1 i = 1#1), ∀ a x, ((![v16] : Fin 1 → IVec S16 32) a x).toNat < S400.size a)
theorem k0_idx1_inb : ∀ (i : grid0.Coords) (v16 : IVec S16 32) (k0_hw1 : k0_chk1 i v16), ∀ (k0_h1 : k0_cond1 i = 1#1), ∀ a x, ((![v16] : Fin 1 → IVec S16 32) a x).toNat < S400.size a := fun i v16 k0_hw1 k0_h1 => k0_hw1 k0_h1
def k0_off3 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v21 : Index := Scalar.indexCast arg12
  let c0 : Index := 0#32
  ![v21.toNat, 0]
def k0_off4 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v26 : Index := Scalar.indexCast arg12
  let c16 : Index := 16#32
  ![v26.toNat, 16]
def k0_off5 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v31 : Index := Scalar.indexCast arg12
  let c32 : Index := 32#32
  ![v31.toNat, 32]
def k0_off6 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v36 : Index := Scalar.indexCast arg12
  let c48 : Index := 48#32
  ![v36.toNat, 48]
def k0_off7 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v41 : Index := Scalar.indexCast arg12
  let c64 : Index := 64#32
  ![v41.toNat, 64]
def k0_off8 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v46 : Index := Scalar.indexCast arg12
  let c80 : Index := 80#32
  ![v46.toNat, 80]
def k0_off9 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v51 : Index := Scalar.indexCast arg12
  let c96 : Index := 96#32
  ![v51.toNat, 96]
def k0_off10 (k0_t3 : Fin k0_t3_loop.trips) : Fin 2 → Nat :=
  let c0_i32_13 : BitVec 32 := 0#32
  let c1_i32_15 : BitVec 32 := 1#32
  let arg12 : BitVec 32 := Scf.iv c0_i32_13 c1_i32_15 k0_t3
  let v56 : Index := Scalar.indexCast arg12
  let c112 : Index := 112#32
  ![v56.toNat, 112]
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v7 : BitVec 32 := Scalar.muli v1 c2000_i32
  let c0_i32_1 : BitVec 32 := 0#32
  let c1_i32 : BitVec 32 := 1#32
  let arg10 : BitVec 32 := Scf.iv c0_i32_1 c1_i32 k0_t1
  let c400_i32 : BitVec 32 := 400#32
  let v8 : BitVec 32 := Scalar.muli arg10 c400_i32
  let v9 : BitVec 32 := Scalar.addi v7 v8
  let c0_i32_18_r2 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Plain.lean ====
abbrev S100000x128 : Shape := ⟨2, ![100000, 128]⟩
abbrev S128x1 : Shape := ⟨2, ![128, 1]⟩
abbrev S_ : Shape := ⟨0, ![]⟩
abbrev S100000x1 : Shape := ⟨2, ![100000, 1]⟩
abbrev S1x1 : Shape := ⟨2, ![1, 1]⟩
abbrev S100000 : Shape := ⟨1, ![100000]⟩
abbrev S50000 : Shape := ⟨1, ![50000]⟩
abbrev S50000x1 : Shape := ⟨2, ![50000, 1]⟩
abbrev S50000x128 : Shape := ⟨2, ![50000, 128]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x1, .f32⟩
  | .hbm, ⟨2, _⟩ => ⟨S128x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S100000x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S100000x1, .f32⟩
  | .hbm, ⟨16, _⟩ => ⟨S100000x1, .f32⟩
  | .hbm, ⟨17, _⟩ => ⟨S_, .i32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S1x1, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x1, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S100000, .f32⟩
  | .hbm, ⟨54, _⟩ => ⟨S50000, .f32⟩
  | .hbm, ⟨55, _⟩ => ⟨S50000, .i32⟩
  | .hbm, ⟨56, _⟩ => ⟨S_, .i32⟩
  | .hbm, ⟨57, _⟩ => ⟨S50000, .i32⟩
  | .hbm, ⟨58, _⟩ => ⟨S50000, .i1⟩
  | .hbm, ⟨59, _⟩ => ⟨S_, .i32⟩
  | .hbm, ⟨60, _⟩ => ⟨S50000, .i32⟩
  | .hbm, ⟨61, _⟩ => ⟨S50000, .i32⟩
  | .hbm, ⟨62, _⟩ => ⟨S50000, .i32⟩
  | .hbm, ⟨63, _⟩ => ⟨S50000x1, .i32⟩
  | .hbm, ⟨64, _⟩ => ⟨S50000x128, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x1, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call1_call0_cst : Ref sig .tc := ⟨.hbm, 18, rfl⟩
abbrev main_call1_call0_v0 : Ref sig .tc := ⟨.hbm, 19, rfl⟩
abbrev main_call1_call0_v1 : Ref sig .tc := ⟨.hbm, 20, rfl⟩
abbrev main_call1_call0_cst_0 : Ref sig .tc := ⟨.hbm, 21, rfl⟩
abbrev main_call1_call0_v2 : Ref sig .tc := ⟨.hbm, 22, rfl⟩
abbrev main_call1_call0_v3 : Ref sig .tc := ⟨.hbm, 23, rfl⟩
abbrev main_call1_call0_v4 : Ref sig .tc := ⟨.hbm, 24, rfl⟩
abbrev main_call1_call0_v5 : Ref sig .tc := ⟨.hbm, 25, rfl⟩
abbrev main_call1_call0_v6 : Ref sig .tc := ⟨.hbm, 26, rfl⟩
abbrev main_call1_call0_v7 : Ref sig .tc := ⟨.hbm, 27, rfl⟩
abbrev main_call1_call0_cst_1 : Ref sig .tc := ⟨.hbm, 28, rfl⟩
abbrev main_call1_call0_v8 : Ref sig .tc := ⟨.hbm, 29, rfl⟩
abbrev main_call1_call0_cst_2 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_cst_3 : Ref sig .tc := ⟨.hbm, 33, rfl⟩
abbrev main_call1_call0_v11 : Ref sig .tc := ⟨.hbm, 34, rfl⟩
abbrev main_call1_call0_cst_4 : Ref sig .tc := ⟨.hbm, 35, rfl⟩
abbrev main_call1_call0_call0_v0 : Ref sig .tc := ⟨.hbm, 36, rfl⟩
abbrev main_call1_v0 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_values : Ref sig .tc := ⟨.hbm, 54, rfl⟩
abbrev main_indices : Ref sig .tc := ⟨.hbm, 55, rfl⟩
abbrev main_c_5 : Ref sig .tc := ⟨.hbm, 56, rfl⟩
abbrev main_v22 : Ref sig .tc := ⟨.hbm, 57, rfl⟩
abbrev main_v23 : Ref sig .tc := ⟨.hbm, 58, rfl⟩
abbrev main_c_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_8 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩

abbrev nD : Nat := 1
abbrev τ : Topo := Topo.v7x

variable {F : FTy → Type} [FloatOps F]
-- ==== Proof.Words.lean ====
/-
  Arrays of words along one axis, by number: what a thread holds of one is a set of places and, at each of them, the word
  that a function of the numbers gives. Loads, stores, indexed loads, adding indexed stores, copies and scattering copies
  in those terms.
-/
module

public import Idealize.ShloMosaic.Lib.SparseCore.Ops
public import Idealize.ShloMosaic.Lib.SparseCore.Scatter
public import Idealize.ShloMosaic.Lib.ShareLeaves
public import Idealize.ShloMosaic.Lib.WordExact

@[expose] public section

noncomputable section

namespace Cert.Proof.Words

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp sp' : Space} {e : EltTy} {α : Type} {Q : α → sProp (MT nD τ sig Ix (Elt F) Name U Lvl)}

local notation "𝕄" => MT nD τ sig Ix (Elt F) Name U Lvl

/-- The shape of `n` words in a row. -/
abbrev Arr (n : ℕ) : Shape := ⟨1, ![n]⟩

/-- The places of a row that a property of numbers names. -/
def pick {n : ℕ} (P : ℕ → Prop) : Finset (Arr n).Idx := open Classical in Finset.univ.filter fun x => P (x 0).val

omit [FloatOps F] in
theorem mem_pick {n : ℕ} {P : ℕ → Prop} {x : (Arr n).Idx} : x ∈ (pick P : Finset (Arr n).Idx) ↔ P (x 0).val := by
  unfold pick; simp

/-- The place with a number. -/
def place {n : ℕ} (i : ℕ) (h : i < n) : (Arr n).Idx := fun a => ⟨i, by rw [Fin.eq_zero a]; exact h⟩

@[simp] theorem place_val {n : ℕ} (i : ℕ) (h : i < n) : ((place i h : (Arr n).Idx) 0).val = i := rfl

theorem arr_ext {n : ℕ} {x y : (Arr n).Idx} (h : (x 0).val = (y 0).val) : x = y := by
  funext a; obtain rfl := Fin.eq_zero a; exact Fin.ext h

/-- The places of the row that `P` names, holding what `a` gives. -/
def Part {n : ℕ} (m : Memref sig c.2.kind sp (Arr n) e) (P : ℕ → Prop) (q : PosShare TreeShare) (a : ℕ → Elt F e) : sProp 𝕄 :=
  iprop(∃ f, ⌜∀ x : (Arr n).Idx, P (x 0).val → m.view.read (Elt F) f x = a (x 0).val⌝ ∗ (m.view.loc c ↦[m.view.setOn (pick P)]{q} f))

/-- The whole row, holding what `a` gives. -/
abbrev Holds {n : ℕ} (m : Memref sig c.2.kind sp (Arr n) e) (q : PosShare TreeShare) (a : ℕ → Elt F e) : sProp 𝕄 :=
  Part c m (fun _ => True) q a

omit [FloatOps F] [Preorder Lvl] in
theorem part_mono {n : ℕ} {m : Memref sig c.2.kind sp (Arr n) e} {P P' : ℕ → Prop} {q} {a b : ℕ → Elt F e}
    (hP : ∀ i < n, P i ↔ P' i) (h : ∀ i < n, P i → a i = b i) : Part c m P q a ⊢ (Part c m P' q b : sProp 𝕄) := by
  unfold Part
  have e : (pick P : Finset (Arr n).Idx) = pick P' := Finset.ext fun x => by simp only [mem_pick]; exact hP _ (x 0).isLt
  rw [e]
  iintro ⟨%f, %hf, H⟩
  iexists f
  isplitr
  · ipureintro
    intro x hx
    have hx' := (hP _ (x 0).isLt).mpr hx
    rw [hf x hx', h _ (x 0).isLt hx']
  · iexact H

instance part_storable {n : ℕ} (m : Memref sig c.2.kind sp (Arr n) e) (P : ℕ → Prop) (q : PosShare TreeShare) (a : ℕ → Elt F e) :
    BI.Storable (upEmb : UEmb _ 𝕄) (Part c m P q a) := by
  unfold Part; infer_instance

omit [FloatOps F] [Preorder Lvl] in
theorem setOn_pick_disjoint {n : ℕ} (m : Memref sig c.2.kind sp (Arr n) e) {P P' : ℕ → Prop} (h : ∀ i, P i → P' i → False) :
    Disjoint (m.view.setOn (pick P)) (m.view.setOn (pick P')) := by
  unfold View.setOn
  rw [Finset.disjoint_map, Finset.disjoint_left]
  intro x hx hx'
  exact h _ (mem_pick.mp hx) (mem_pick.mp hx')

omit [FloatOps F] [Preorder Lvl] in
/-- A choice under each of finitely many conjuncts is one family of choices. -/
theorem bigSep_choose {T X : Type} [DecidableEq T] [Nonempty X] (S : Finset T) (p : T → X → Prop) (Ψ : T → X → sProp 𝕄) :
    bigSep S (fun t => iprop(∃ x, ⌜p t x⌝ ∗ Ψ t x)) ⊢ iprop(∃ g : T → X, ⌜∀ t ∈ S, p t (g t)⌝ ∗ bigSep S fun t => Ψ t (g t)) := by
  induction S using Finset.induction_on with
  | empty =>
    iintro H
    iexists fun _ => Classical.arbitrary X
    isplitr
    · ipureintro; intro t ht; exact absurd ht (Finset.notMem_empty t)
    · iapply (Entails.of_eq (bigSep_empty.trans bigSep_empty.symm)) $$ H
  | insert t S ht ih =>
    rw [bigSep_insert ht]
    refine (show iprop((∃ x, ⌜p t x⌝ ∗ Ψ t x) ∗ bigSep S (fun t => iprop(∃ x, ⌜p t x⌝ ∗ Ψ t x))) ⊢ _ from ?_)
    iintro ⟨⟨%x, %hx, Hx⟩, HS⟩
    ihave HS := ih $$ HS
    icases HS with ⟨%g, %hg, HS⟩
    iexists Function.update g t x
    isplitr
    · ipureintro
      intro t' ht'
      rcases Finset.mem_insert.mp ht' with rfl | ht'
      · rw [Function.update_self]; exact hx
      · rw [Function.update_of_ne (ne_of_mem_of_not_mem ht' ht)]; exact hg t' ht'
    · rw [bigSep_insert ht]
      iapply (show iprop(Ψ t (Function.update g t x t) ∗ bigSep S fun t' => Ψ t' (Function.update g t x t')) ⊢ iprop(Ψ t (Function.update g t x t) ∗ bigSep S fun t' => Ψ t' (Function.update g t x t')) from .rfl)
      isplitl [Hx]
      · rw [Function.update_self]; iexact Hx
      · iapply (Entails.of_eq (bigSep_congr (Φ := fun t' => Ψ t' (g t')) (Ψ := fun t' => Ψ t' (Function.update g t x t')) fun t' ht' => by rw [Function.update_of_ne (ne_of_mem_of_not_mem ht' ht)])) $$ HS

omit [FloatOps F] [Preorder Lvl] in
/-- Places sorted into finitely many classes are those of each class. -/
theorem part_classes {n : ℕ} {m : Memref sig c.2.kind sp (Arr n) e} {q} {a : ℕ → Elt F e} {T : Type} [Fintype T] [DecidableEq T]
    (P : ℕ → Prop) (κ : ℕ → T) :
    (Part c m P q a : sProp 𝕄) ⊢ bigSep Finset.univ fun t => Part c m (fun i => P i ∧ κ i = t) q a := by
  classical
  unfold Part
  iintro ⟨%f, %hf, H⟩
  have hset : m.view.setOn (pick P) = Finset.univ.biUnion fun t => m.view.setOn (pick fun i => P i ∧ κ i = t) := by
    ext y
    simp only [View.setOn, Finset.mem_map, Finset.mem_biUnion, Finset.mem_univ, true_and, mem_pick]
    constructor
    · rintro ⟨x, hx, rfl⟩; exact ⟨_, x, ⟨hx, rfl⟩, rfl⟩
    · rintro ⟨_, x, ⟨hx, -⟩, rfl⟩; exact ⟨x, hx, rfl⟩
  have hd : ∀ t ∈ (Finset.univ : Finset T), ∀ t' ∈ (Finset.univ : Finset T), t ≠ t' →
      Disjoint (m.view.setOn (pick fun i => P i ∧ κ i = t)) (m.view.setOn (pick fun i => P i ∧ κ i = t')) :=
    fun t _ t' _ hne => setOn_pick_disjoint c m fun i h h' => hne (h.2.symm.trans h'.2)
  rw [hset]
  ihave H' := (Entails.of_eq (pointsTo_biUnion (ℓ := m.view.loc c) (q := q) (f := f) Finset.univ (fun t => m.view.setOn (pick fun i => P i ∧ κ i = t)) hd)) $$ H
  have hone : ∀ t ∈ (Finset.univ : Finset T), (m.view.loc c ↦[m.view.setOn (pick fun i => P i ∧ κ i = t)]{q} f : sProp 𝕄)
      ⊢ iprop(∃ f, ⌜∀ x : (Arr n).Idx, (P (x 0).val ∧ κ (x 0).val = t) → m.view.read (Elt F) f x = a (x 0).val⌝
        ∗ (m.view.loc c ↦[m.view.setOn (pick fun i => P i ∧ κ i = t)]{q} f)) := fun t _ => by
    iintro H
    iexists f
    isplitr
    · ipureintro; intro x hx; exact hf x hx.1
    · iexact H
  iapply (show (bigSep Finset.univ fun t => (m.view.loc c ↦[m.view.setOn (pick fun i => P i ∧ κ i = t)]{q} f : sProp 𝕄)) ⊢ _ from bigSep_mono hone) $$ H'

omit [FloatOps F] [Preorder Lvl] in
/-- The classes together, each at its own words. -/
theorem part_join {n : ℕ} {m : Memref sig c.2.kind sp (Arr n) e} {q} {T : Type} [Fintype T] [DecidableEq T] [Nonempty T]
    (a : T → ℕ → Elt F e) (P : ℕ → Prop) (κ : ℕ → T) :
    (bigSep Finset.univ fun t => Part c m (fun i => P i ∧ κ i = t) q (a t)) ⊢ (Part c m P q (fun i => a (κ i) i) : sProp 𝕄) := by
  classical
  unfold Part
  have hset : m.view.setOn (pick P) = Finset.univ.biUnion fun t => m.view.setOn (pick fun i => P i ∧ κ i = t) := by
    ext y
    simp only [View.setOn, Finset.mem_map, Finset.mem_biUnion, Finset.mem_univ, true_and, mem_pick]
    constructor
    · rintro ⟨x, hx, rfl⟩; exact ⟨_, x, ⟨hx, rfl⟩, rfl⟩
    · rintro ⟨_, x, ⟨hx, -⟩, rfl⟩; exact ⟨x, hx, rfl⟩
  by_cases hne : Nonempty (m.view.ty.Contents (Elt F))
  swap
  · rw [SparseCore.bigSep_erase' (Finset.mem_univ (Classical.arbitrary T))]
    iintro ⟨⟨%f, -, -⟩, -⟩
    exact absurd ⟨f⟩ hne
  iintro H
  ihave H := (bigSep_choose Finset.univ (fun t f => ∀ x : (Arr n).Idx, (P (x 0).val ∧ κ (x 0).val = t) → m.view.read (Elt F) f x = a t (x 0).val)
    (fun t f => (m.view.loc c ↦[m.view.setOn (pick fun i => P i ∧ κ i = t)]{q} f : sProp 𝕄))) $$ H
  icases H with ⟨%g, %hg, H⟩
  ihave H := (pointsTo_biUnion_join (ℓ := m.view.loc c) (q := q) Finset.univ (fun t => m.view.setOn (pick fun i => P i ∧ κ i = t)) g (g (Classical.arbitrary T))
      (fun t _ t' _ hne => setOn_pick_disjoint c m fun i h h' => hne (h.2.symm.trans h'.2))) $$ H
  icases H with ⟨%f, %hf, H⟩
  iexists f
  isplitr
  · ipureintro
    intro x hx
    show m.view.read (Elt F) f x = a (κ (x 0).val) (x 0).val
    rw [← hg _ (Finset.mem_univ (κ (x 0).val)) x ⟨hx, rfl⟩]
    exact View.read_congr_at x (hf _ (Finset.mem_univ (κ (x 0).val)) _ ((View.mem_setOn m.view).mpr (mem_pick.mpr ⟨hx, rfl⟩)))
  · rw [hset]; iexact H

omit [FloatOps F] [Preorder Lvl] in
/-- A window of a row is its own row. -/
theorem part_slice {n : ℕ} {m : Memref sig c.2.kind sp (Arr n) e} {q} {a b : ℕ → Elt F e} {off : Fin 1 → ℕ} {k : ℕ}
    {inb : ∀ b, off b + (![k] : Fin 1 → ℕ) b ≤ (Arr n).size b} {h1 : ∀ b, (Rect.unit (s := Arr n) off ![k] inb).stride b = 1}
    (o : ℕ) (ho : off 0 = o) (hab : ∀ i < k, b i = a (o + i)) :
    (Part c m (fun i => o ≤ i ∧ i < o + k) q a : sProp 𝕄)
      = Holds (n := k) c (m.slice (Rect.unit (s := Arr n) off ![k] inb) h1) q b := by
  subst ho
  unfold Holds Part
  have hset : m.view.setOn (pick fun i => off 0 ≤ i ∧ i < off 0 + k)
      = (m.slice (Rect.unit (s := Arr n) off ![k] inb) h1).view.setOn (pick (n := k) fun _ => True) := by
    have e1 : (pick (n := k) fun _ => True) = Finset.univ := Finset.ext fun x => by simp [mem_pick]
    rw [e1, View.setOn_univ]
    show _ = (m.view.slice (Rect.unit (s := Arr n) off ![k] inb)).set
    rw [View.set_slice]
    unfold View.setOn
    congr 1
    ext x
    rw [mem_pick, Rect.mem_set_unit]
    constructor
    · intro h b'; obtain rfl := Fin.eq_zero b'; exact h
    · intro h; exact h 0
  have hread : ∀ (f : Buf (Elt F) (m.view.loc c)), (∀ x : (Arr n).Idx, (off 0 ≤ (x 0).val ∧ (x 0).val < off 0 + k) → m.view.read (Elt F) f x = a (x 0).val)
      ↔ ∀ x : (Arr k).Idx, True → (m.slice (Rect.unit (s := Arr n) off ![k] inb) h1).view.read (Elt F) f x = b (x 0).val := by
    intro f
    have hidx : ∀ x : (Arr k).Idx, ((Rect.unit (s := Arr n) off ![k] inb).toLoadRect.idx x 0).val = off 0 + (x 0).val := fun x => by
      rw [LoadRect.idx_apply]; simp [Rect.unit]
    have hr : ∀ x : (Arr k).Idx, (m.slice (Rect.unit (s := Arr n) off ![k] inb) h1).view.read (Elt F) f x
        = m.view.read (Elt F) f ((Rect.unit (s := Arr n) off ![k] inb).toLoadRect.idx x) := fun x => rfl
    constructor
    · intro h x _
      rw [hr, h _ (by rw [hidx]; have := (x 0).isLt; exact ⟨by omega, Nat.add_lt_add_left this _⟩), hidx, hab _ (x 0).isLt]
    · intro h x hx
      have hlt : (x 0).val - off 0 < k := by omega
      have hx' : x = (Rect.unit (s := Arr n) off ![k] inb).toLoadRect.idx (place ((x 0).val - off 0) hlt) :=
        arr_ext (by rw [hidx, place_val]; omega)
      have := h (place ((x 0).val - off 0) hlt) trivial
      rw [hr, ← hx', place_val, hab _ hlt] at this
      rw [this]; congr 1; omega
  rw [hset]
  show iprop(∃ f, _ ∗ _) = iprop(∃ f, _ ∗ _)
  congr 1
  funext f
  rw [show (∀ x : (Arr n).Idx, (off 0 ≤ (x 0).val ∧ (x 0).val < off 0 + k) → m.view.read (Elt F) f x = a (x 0).val) = _ from propext (hread f)]

omit [FloatOps F] [Preorder Lvl] in
/-- A row in full is its own window. -/
theorem part_full {n : ℕ} {m : Memref sig c.2.kind sp (Arr n) e} {q} {P : ℕ → Prop} {a : ℕ → Elt F e} {off : Fin 1 → ℕ} (ho : off 0 = 0)
    {inb : ∀ b, off b + (![n] : Fin 1 → ℕ) b ≤ (Arr n).size b} {h1 : ∀ b, (Rect.unit (s := Arr n) off ![n] inb).stride b = 1} :
    (Part (n := n) c (m.slice (Rect.unit (s := Arr n) off ![n] inb) h1) P q a : sProp 𝕄) = Part c m P q a := by
  have hidx : ∀ x : (Arr n).Idx, (Rect.unit (s := Arr n) off ![n] inb).toLoadRect.idx x = x := fun x => arr_ext (by
    rw [LoadRect.idx_apply]; simp [Rect.unit, ho])
  have hset : (m.slice (Rect.unit (s := Arr n) off ![n] inb) h1).view.setOn (pick (n := n) P) = m.view.setOn (pick P) := by
    ext y
    constructor
    · intro hy
      obtain ⟨x, hx, rfl⟩ := Finset.mem_map.mp hy
      exact Finset.mem_map.mpr ⟨x, hx, (congrArg m.view.emb (hidx x)).symm⟩
    · intro hy
      obtain ⟨x, hx, rfl⟩ := Finset.mem_map.mp hy
      exact Finset.mem_map.mpr ⟨x, hx, congrArg m.view.emb (hidx x)⟩
  have hr : ∀ (f : Buf (Elt F) (m.view.loc c)) (x : (Arr n).Idx), (m.slice (Rect.unit (s := Arr n) off ![n] inb) h1).view.read (Elt F) f x = m.view.read (Elt F) f x :=
    fun f x => (show _ = m.view.read (Elt F) f ((Rect.unit (s := Arr n) off ![n] inb).toLoadRect.idx x) from rfl).trans (by rw [hidx])
  unfold Part
  rw [hset]
  show iprop(∃ f, _ ∗ _) = iprop(∃ f, _ ∗ _)
  congr 1
  funext f
  rw [show (∀ x : (Arr n).Idx, P (x 0).val → (m.slice (Rect.unit (s := Arr n) off ![n] inb) h1).view.read (Elt F) f x = a (x 0).val)
    = (∀ x : (Arr n).Idx, P (x 0).val → m.view.read (Elt F) f x = a (x 0).val) from propext (forall_congr' fun x => by rw [hr])]

/-- A load of a window. -/
theorem part_load {cs : CoreSpace} {n : ℕ} {m : Memref sig c.2.kind cs (Arr n) e} {off sz : Fin 1 → ℕ}
    {inb : ∀ b, off b + sz b ≤ (Arr n).size b} {hl : m.view.LoadsAt (Rect.unit (s := Arr n) off sz inb).toLoadRect}
    {K : ((Rect.unit (s := Arr n) off sz inb).toLoadRect.shape.Idx → Elt F e) → Prog (TpuEff nD τ sig (Elt F) Λ c.2) α}
    {P : ℕ → Prop} {q} {a : ℕ → Elt F e} (hP : ∀ i < sz 0, P (off 0 + i)) :
    (Part c m P q a : sProp 𝕄)
      ⊢ iprop((Part c m P q a -∗ wp frame (wpE defs 𝒱 c bd) Set.univ (K fun x => a (off 0 + (x 0).val)) Q)
        -∗ wp frame (wpE defs 𝒱 c bd) Set.univ (Prog.lift (.load m (Rect.unit (s := Arr n) off sz inb).toLoadRect hl) >>= K) Q) := by
  have hidx : ∀ x : (Rect.unit (s := Arr n) off sz inb).toLoadRect.shape.Idx,
      ((Rect.unit (s := Arr n) off sz inb).toLoadRect.idx x 0).val = off 0 + (x 0).val := fun x => by
    rw [LoadRect.idx_apply]; simp [Rect.unit]
  change _ ⊢ iprop(_ -∗ wp frame (wpE defs 𝒱 c bd) Set.univ (.op (.load m (Rect.unit (s := Arr n) off sz inb).toLoadRect hl) K) Q)
  unfold Part
  iintro ⟨%f, %hf, H⟩ HK
  iapply (wp_load 𝒱 c bd Set.univ (m := m) (S := m.view.setOn (pick P)) (q := q) (f := f) ?_) $$ H
  · refine Finset.map_subset_map.mpr fun x hx => mem_pick.mpr ?_
    obtain ⟨y, rfl⟩ := LoadRect.exists_idx_of_mem _ hx
    rw [hidx]; exact hP _ (y 0).isLt
  iintro H
  have hv : m.view.readAt (Elt F) (Rect.unit (s := Arr n) off sz inb).toLoadRect f = fun x => a (off 0 + (x 0).val) := by
    funext x
    rw [View.readAt_apply, hf _ (by rw [hidx]; exact hP _ (x 0).isLt), hidx]
  rw [hv]
  iapply HK
  iexists f
  isplitr; · ipureintro; exact hf
  iexact H

/-- A store over a window. -/
theorem part_store {cs : CoreSpace} {n : ℕ} {m : Memref sig c.2.kind cs (Arr n) e} {off sz : Fin 1 → ℕ}
    {inb : ∀ b, off b + sz b ≤ (Arr n).size b} {w : (Rect.unit (s := Arr n) off sz inb).shape.Idx → Elt F e}
    {hx : (m.access (Rect.unit (s := Arr n) off sz inb)).Stores Finset.univ} {hm}
    {K : PUnit → Prog (TpuEff nD τ sig (Elt F) Λ c.2) α}
    {P : ℕ → Prop} {a b : ℕ → Elt F e} (hP : ∀ i < sz 0, P (off 0 + i)) (hw : ∀ x, w x = b (off 0 + (x 0).val))
    (hb : ∀ i < n, P i → ¬(off 0 ≤ i ∧ i < off 0 + sz 0) → b i = a i) :
    (Part c m P fullShare a : sProp 𝕄)
      ⊢ iprop((Part c m P fullShare b -∗ wp frame (wpE defs 𝒱 c bd) Set.univ (K ⟨⟩) Q)
        -∗ wp frame (wpE defs 𝒱 c bd) Set.univ (Prog.lift (.store m (Rect.unit (s := Arr n) off sz inb) w Finset.univ hx hm) >>= K) Q) := by
  have hidx : ∀ x : (Rect.unit (s := Arr n) off sz inb).shape.Idx,
      ((Rect.unit (s := Arr n) off sz inb).toLoadRect.idx x 0).val = off 0 + (x 0).val := fun x => by
    rw [LoadRect.idx_apply]; simp [Rect.unit]
  change _ ⊢ iprop(_ -∗ wp frame (wpE defs 𝒱 c bd) Set.univ (.op (.store m (Rect.unit (s := Arr n) off sz inb) w Finset.univ hx hm) K) Q)
  unfold Part
  iintro ⟨%f, %hf, H⟩ HK
  iapply (wp_store 𝒱 c bd Set.univ (m := m) (r := Rect.unit (s := Arr n) off sz inb) (S := m.view.setOn (pick P)) (f := f) ?_) $$ H
  · intro y hy
    obtain ⟨x, -, rfl⟩ := Finset.mem_map.mp hy
    refine Finset.mem_map.mpr ⟨(Rect.unit (s := Arr n) off sz inb).toLoadRect.idx x, mem_pick.mpr ?_, rfl⟩
    rw [hidx]; exact hP _ (x 0).isLt
  iintro H
  iapply HK
  iexists _
  isplitr
  swap
  · iexact H
  · ipureintro
    intro x hxP
    by_cases hin : off 0 ≤ (x 0).val ∧ (x 0).val < off 0 + sz 0
    · have hy : ∃ y : (Rect.unit (s := Arr n) off sz inb).shape.Idx, (Rect.unit (s := Arr n) off sz inb).emb y = x := by
        have := LoadRect.exists_idx_of_mem (r := (Rect.unit (s := Arr n) off sz inb).toLoadRect) (i := x)
          (Rect.mem_set_unit.mpr fun b => by obtain rfl := Fin.eq_zero b; exact hin)
        exact this
      obtain ⟨y, rfl⟩ := hy
      have := View.read_slice_write_emb (v := m.view) (Rect.unit (s := Arr n) off sz inb) f w (Finset.mem_univ y)
      rw [this, hw]
      exact congrArg b (hidx y).symm
    · have := View.read_slice_write_of_not_mem (v := m.view) (Rect.unit (s := Arr n) off sz inb) f w Finset.univ
        (y := x) (fun hmem => hin (by rw [Rect.map_emb_univ] at hmem; exact Rect.mem_set_unit.mp hmem 0))
      rw [this, hf x hxP, hb _ (x 0).isLt hxP hin]

omit [FloatOps F] [Preorder Lvl] in
theorem pick_true {n : ℕ} : (pick fun _ => True : Finset (Arr n).Idx) = Finset.univ := Finset.ext fun x => by simp [mem_pick]

omit [FloatOps F] [Preorder Lvl] in
theorem holds_eq {n : ℕ} {m : Memref sig c.2.kind sp (Arr n) e} {q} {a : ℕ → Elt F e} :
    (Holds c m q a : sProp 𝕄) = iprop(∃ f, ⌜m.view.read (Elt F) f = fun x => a (x 0).val⌝ ∗ (m.view.loc c ↦[m.view.set]{q} f)) := by
  unfold Holds Part
  rw [pick_true, View.setOn_univ]
  congr 1
  funext f
  rw [show (∀ x : (Arr n).Idx, True → m.view.read (Elt F) f x = a (x 0).val) = (m.view.read (Elt F) f = fun x => a (x 0).val) from
    propext ⟨fun h => funext fun x => h x trivial, fun h x _ => congrFun h x⟩]

omit [FloatOps F] [Preorder Lvl] in
theorem read_access_all {n : ℕ} (m : Memref sig c.2.kind sp (Arr n) e) (f : Buf (Elt F) (m.view.loc c)) :
    (m.access (.whole (Arr n))).read (Elt F) f = m.view.read (Elt F) f := by
  funext x
  have hx : (Rect.whole (Arr n)).emb x = x := arr_ext (by
    show ((Rect.whole (Arr n)).toLoadRect.idx x 0).val = _
    rw [LoadRect.idx_apply]; simp [Rect.whole])
  exact congrArg (m.view.read (Elt F) f) hx

omit [FloatOps F] in
/-- An indexed load. -/
theorem holds_loadIdx {n : ℕ} {t : Shape} {m : Memref sig c.2.kind .vmem (Arr n) e} {v : IVec t 32}
    {h : ∀ b x, ((![v] : Fin 1 → IVec t 32) b x).toNat < (Arr n).size b} {hl : m.view.Loads} {K : Vec F t e → Prog (TpuEff nD τ sig (Elt F) Λ c.2) α}
    {q} {a : ℕ → Elt F e} :
    (Holds c m q a : sProp 𝕄)
      ⊢ iprop((Holds c m q a -∗ wp frame (wpE defs 𝒱 c bd) Set.univ (K fun x => a (v x).toNat) Q)
        -∗ wp frame (wpE defs 𝒱 c bd) Set.univ (SparseCore.vectorLoadIdx m ![v] h hl >>= K) Q) := by
  rw [holds_eq]
  iintro ⟨%f, %hf, H⟩ HK
  iapply (SparseCore.wp_vectorLoadIdx 𝒱 c bd Set.univ (base := m) (S := m.view.set) (q := q) (f := f)
    (by rw [show (m.access (.whole (Arr n))).set = m.view.set from View.set_slice_rectWhole _])) $$ H
  iintro H
  have hv : loadIdx ((m.access (.whole (Arr n))).read (Elt F) f) ![v] h = fun x => a (v x).toNat := by
    funext x
    rw [read_access_all, hf]; rfl
  rw [hv]
  iapply HK
  iexists f
  isplitr; · ipureintro; exact hf
  iexact H

/-- The number of a lane. -/
abbrev laneOf (k : ℕ) (x : Fin k) : (Arr k).Idx := place x.val x.isLt

omit [FloatOps F] in
theorem foldl_add {n k : ℕ} (v : IVec (Arr k) 32) (w : Vec F (Arr k) .i32) (mask : IVec (Arr k) 1) (l : List (Fin k)) :
    ∀ (f : (Arr n).Idx → BitVec 32) (h : ∀ b x, ((![v] : Fin 1 → IVec (Arr k) 32) b x).toNat < (Arr n).size b) (j : (Arr n).Idx),
    (l.foldl (fun (g : (Arr n).Idx → BitVec 32) x =>
      if mask (laneOf k x) = 1 then
        fun j => if (∀ a, (j a).val = ((idxAt ![v] h (laneOf k x) : (Arr n).Idx) a).val)
          then g (idxAt ![v] h (laneOf k x)) + w (laneOf k x) else g j
      else g) f) j
      = f j + (l.map fun x => if mask (laneOf k x) = 1 ∧ (v (laneOf k x)).toNat = (j 0).val then (w (laneOf k x) : BitVec 32) else 0).sum := by
  induction l with
  | nil => intro f h j; simp
  | cons x l ih =>
    intro f h j
    rw [List.foldl_cons, ih, List.map_cons, List.sum_cons]
    refine Eq.trans ?_ (BitVec.add_assoc _ _ _)
    congr 1
    by_cases hm : mask (laneOf k x) = 1
    · rw [if_pos hm]
      by_cases hj : (v (laneOf k x)).toNat = (j 0).val
      · have hj' : j = idxAt ![v] h (laneOf k x) := arr_ext hj.symm
        rw [if_pos (fun a => by rw [hj']), if_pos ⟨hm, hj⟩, ← hj']
      · rw [if_neg (fun hh => hj (hh 0).symm), if_neg (fun hh => hj hh.2)]; simp
    · rw [if_neg hm, if_neg (fun hh => hm hh.1)]; simp

/-- An indexed store that adds: each place gains the words of the lanes that name it. -/
theorem holds_addIdx {n k : ℕ} {m : Memref sig c.2.kind .vmem (Arr n) .i32} {v : IVec (Arr k) 32} {w : Vec F (Arr k) .i32} {mask : IVec (Arr k) 1}
    {h : ∀ b x, ((![v] : Fin 1 → IVec (Arr k) 32) b x).toNat < (Arr n).size b} {hs : (m.access (.whole (Arr n))).Stores Finset.univ}
    {K : PUnit → Prog (TpuEff nD τ sig (Elt F) Λ c.2) α} {a : ℕ → BitVec 32} :
    (Holds (F := F) (e := .i32) c m fullShare a : sProp 𝕄)
      ⊢ iprop((Holds (F := F) (e := .i32) c m fullShare (fun j => (a j : BitVec 32) + ((List.finRange k).map fun x => if mask (laneOf k x) = 1 ∧ (v (laneOf k x)).toNat = j then (w (laneOf k x) : BitVec 32) else 0).sum)
            -∗ wp frame (wpE defs 𝒱 c bd) Set.univ (K ⟨⟩) Q)
        -∗ wp frame (wpE defs 𝒱 c bd) Set.univ (SparseCore.vectorStoreIdx m ![v] w mask true h hs >>= K) Q) := by
  rw [holds_eq, holds_eq]
  iintro ⟨%f, %hf, H⟩ HK
  have hset : (m.access (.whole (Arr n))).set = m.view.set := View.set_slice_rectWhole _
  rw [← hset]
  iapply (SparseCore.wp_vectorStoreIdx 𝒱 c bd Set.univ (base := m) (f := f)) $$ H
  iintro H
  iapply HK
  iexists _
  isplitr
  swap
  · iexact H
  · ipureintro
    rw [← read_access_all, View.read_write_univ, read_access_all, hf]
    funext j
    exact foldl_add (n := n) v w mask (List.finRange k) (fun x => a (x 0).val) h j

/-- What a thread owes, `O`, all its waits since being allowed ones. -/
def Debt (O : CellTallies nD τ sig Ix) (ok : SemLoc sig × Ix → Prop) : sProp 𝕄 :=
  iprop(∃ W, ⌜∀ p ∈ W, ok p⌝ ∗ owes c O W)

variable [Infinite Name] {defs : Defs nD τ sig (Elt F) Λ} (EC : UEmb Counters (MT nD τ sig Ix (Elt F) Name U Lvl))

include EC

omit [FloatOps F] in
/-- A copy of a row over another, and the wait for it. -/
theorem holds_copy [EC.LandsIn (upEmb : UEmb _ 𝕄)] {n : ℕ} (hn : 0 < n) {m₁ : Memref sig c.2.kind sp (Arr n) e} {m₂ : Memref sig c.2.kind sp' (Arr n) e} {sem : DmaSem sig}
    {h1 : m₁.view.WordExact} {h2 : m₂.view.WordExact} {h3 : DmaTarget.Typed (nD := nD) sp (.dma sem) (.here m₂)} {h4 : m₁.view.WordExact} {h5 : m₂.view.WordExact}
    {K : PUnit → Prog (TpuEff nD τ sig (Elt F) Λ c.2) α} (ι : Ix) {O : CellTallies nD τ sig Ix} {ok : SemLoc sig × Ix → Prop} (hok : ok (.dma sem, ι))
    {q} {a b : ℕ → Elt F e} :
    iprop(Holds c m₁ q a ∗ Holds c m₂ fullShare b ∗ semVal (c, .dma sem) 0 ∗ Debt c O ok ∗ MayWait c (.dma sem) ι O)
      ⊢ iprop((iprop(Holds c m₁ q a ∗ Holds c m₂ fullShare a ∗ semVal (c, .dma sem) 0 ∗ Debt c O ok) -∗ wp frame (wpE defs 𝒱 c bd) Set.univ (K ⟨⟩) Q)
        -∗ wp frame (wpE defs 𝒱 c bd) Set.univ (Prog.lift (.enqueueDma m₁ (.here m₂) (.dma sem) h1 h2 h3)
            >>= fun _ => Prog.lift (.waitDma2 sem m₁ m₂ h4 h5) >>= K) Q) := by
  rw [holds_eq, holds_eq, holds_eq, show (Prog.lift (.enqueueDma m₁ (.here m₂) (.dma sem) h1 h2 h3)
      >>= fun _ => Prog.lift (.waitDma2 sem m₁ m₂ h4 h5) >>= K) = .op (.enqueueDmaAs m₁ (.here m₂) .same (.dma sem) h1 h2 h3)
    fun _ => .op (.waitDma2 sem m₁ m₂ h4 h5) K from rfl]
  unfold Debt
  iintro ⟨⟨%f, %hf, H1⟩, ⟨%g, %hg, H2⟩, Hv, ⟨%W, %hW, HO⟩, Hmw⟩ HK
  have hpos : 0 < m₂.view.amount (.dma sem) := View.amount_pos _ _ (by simpa [Shape.numel] using hn)
  iapply (Transfers.wp_dmaLocal EC 𝒱 c bd (q := q) (fs := f) (fd := g) (Sd := m₂.view.set) ι _ rfl hpos subset_rfl) $$ [H1 H2 Hv]
  · isplitl [H1]; · iexact H1
    isplitl [H2] <;> iassumption
  iintro Hf
  iapply (Transfers.wp_waitLocalO EC 𝒱 c bd ι rfl) $$ [Hf HO Hmw]
  · isplitl [Hf]; · iexact Hf
    isplitl [HO] <;> iassumption
  iintro ⟨⟨H2, H1⟩, Hv, HO⟩
  iapply HK
  isplitl [H1]
  · iexists f; isplitr; · ipureintro; exact hf
    iexact H1
  isplitl [H2]
  · iexists _; isplitr
    swap
    · iexact H2
    · ipureintro
      rw [View.read_write_univ]; exact hf
  isplitl [Hv]; · iexact Hv
  iexists _
  isplitr
  swap
  · iexact HO
  · ipureintro
    intro p hp
    rcases Finset.mem_insert.mp hp with rfl | hp
    · exact hok
    · exact hW p hp

omit [FloatOps F] in
/-- A scattering copy of a row to the places that a list names, no two of them the same, and the wait for it. -/
theorem part_scatter [EC.LandsIn (upEmb : UEmb _ 𝕄)] {n k : ℕ} (hk : 0 < k) {src : Memref sig c.2.kind .vmem (Arr k) e} {dst : Memref sig c.2.kind sp (Arr n) e}
    {offs : Memref sig c.2.kind .vmem (Arr k) .i32} {ax : ℕ} {hg : (Arr n).Gathers ax (Arr k)} {hn : (Arr k).numel = (Arr k).size hg.axis'} {sem : DmaSem sig}
    {hp : c.2.kind = .scVector} {he : e.bits = 32} {hsp : sp = .hbm ∨ sp = .shared} {hr : (Arr n).StreamRows ax}
    {h1 : src.view.WordExact} {h2 : dst.view.WordExact}
    (hcs : ∀ s' : Shape, sig.dmaCredit c.2.kind (c.2.kind.table .vmem) src.view.buf s' e = s'.numel * e.bits)
    (hcd : ∀ s' : Shape, sig.dmaCredit c.2.kind (c.2.kind.table sp) dst.view.buf s' e = s'.numel * e.bits)
    {K : PUnit → Prog (TpuEff nD τ sig (Elt F) Λ c.2) α} (ι : Ix) {O : CellTallies nD τ sig Ix} {ok : SemLoc sig × Ix → Prop} (hok : ok (.dma sem, ι))
    {a b b' : ℕ → Elt F e} {p : ℕ → BitVec 32} (S : ℕ → Prop) (hin : ∀ i < k, (p i).toNat < n)
    (hinj : ∀ i < k, ∀ j < k, (p i).toNat = (p j).toNat → i = j) (hS : ∀ j, S j ↔ ∃ i < k, (p i).toNat = j)
    (hb : ∀ i < k, b' (p i).toNat = a i) :
    iprop(Holds c src fullShare a ∗ Part c dst S fullShare b ∗ Holds (F := F) (e := .i32) c offs fullShare p ∗ semVal (c, .dma sem) 0 ∗ Debt c O ok ∗ MayWait c (.dma sem) ι O)
      ⊢ iprop((iprop(Holds c src fullShare a ∗ Part c dst S fullShare b' ∗ Holds (F := F) (e := .i32) c offs fullShare p ∗ semVal (c, .dma sem) 0 ∗ Debt c O ok)
            -∗ wp frame (wpE defs 𝒱 c bd) Set.univ (K ⟨⟩) Q)
        -∗ wp frame (wpE defs 𝒱 c bd) Set.univ (SparseCore.enqueueIndirectScatter hp src dst hg offs hn sem he hsp hr
            >>= fun _ => SparseCore.waitIndirectScatter sem src dst h1 h2 >>= K) Q) := by
  rw [holds_eq, holds_eq]
  unfold Debt Part
  iintro ⟨⟨%f, %hf, H1⟩, ⟨%g, %hgd, H2⟩, ⟨%o, %ho, H3⟩, Hv, ⟨%W, %hW, HO⟩, Hmw⟩ HK
  obtain rfl : ax = 0 := Nat.lt_one_iff.mp hg.2.1
  have hin' : ∀ x, (offs.view.read (Elt F) o x).toNat < (Arr n).size hg.axis := fun x => by
    rw [ho]; exact hin _ (x 0).isLt
  have hinj' : Function.Injective (SparseCore.rows (offs.view.read (Elt F) o) hn hin') := SparseCore.rows_injective fun x y hxy => by
    rw [ho] at hxy
    exact arr_ext (hinj _ (x 0).isLt _ (y 0).isLt hxy)
  have hrow : ∀ r, (SparseCore.rows (offs.view.read (Elt F) o) hn hin' r).val = (p r.val).toNat := fun r => by
    have h := Shape.rowMajor_val_one ((Arr k).rowMajor.symm (r.cast hn.symm))
    rw [Equiv.apply_symm_apply] at h
    show (offs.view.read (Elt F) o ((Arr k).rowMajor.symm (r.cast hn.symm))).toNat = _
    rw [ho]; exact congrArg (fun i => (p i).toNat) h.symm
  have hemb : ∀ (r : Fin ((Arr n).size hg.axis)) (y : ((Arr n).rowRect hg.axis r).shape.Idx), (((Arr n).rowRect hg.axis r).emb y 0).val = r.val := fun r y =>
    congrArg Fin.val (Shape.rowRect_emb_axis hg.axis r y)
  have hslice : ∀ (r : Fin ((Arr n).size hg.axis)) (x : (Arr n).Idx), (x 0).val = r.val → dst.view.emb x ∈ (dst.view.slice ((Arr n).rowRect hg.axis r)).set := by
    intro r x hx
    rw [View.set_slice]
    refine Finset.mem_map.mpr ⟨x, ?_, rfl⟩
    rw [← Shape.rowRect_emb_rowProj hg.axis x, show x hg.axis = r from Fin.ext hx]
    exact LoadRect.idx_mem _ _
  have hset : SparseCore.namedRows c dst.view hg.axis (SparseCore.rows (offs.view.read (Elt F) o) hn hin') = dst.view.setOn (pick S) := by
    rw [SparseCore.namedRows_eq]
    ext y
    simp only [Finset.mem_biUnion, Finset.mem_univ]
    constructor
    · rintro ⟨r, -, hy⟩
      rw [View.set_slice] at hy
      obtain ⟨x, hx, rfl⟩ := Finset.mem_map.mp hy
      obtain ⟨z, rfl⟩ := LoadRect.exists_idx_of_mem _ hx
      refine (View.mem_setOn dst.view).mpr (mem_pick.mpr ((hS _).mpr ⟨r.val, r.isLt, ?_⟩))
      exact ((hemb _ z).trans (hrow r)).symm
    · intro hy
      obtain ⟨x, hx, rfl⟩ := Finset.mem_map.mp hy
      obtain ⟨i, hi, hix⟩ := (hS _).mp (mem_pick.mp hx)
      exact ⟨⟨i, hi⟩, trivial, hslice _ x (by rw [hrow]; exact hix.symm)⟩
  rw [SparseCore.waitIndirectScatter_bind, ← hset]
  iapply (SparseCore.wp_indirectScatterLocal EC 𝒱 c bd (src := src) (dst := dst) (offs := offs) (hg := hg) (q := fullShare) (qo := fullShare) (fs := f) (fd := g) (fo := o) ι
    src.view.dmaCredit (by simpa [Shape.numel] using hk) hin' hinj'
    (SparseCore.sum_scatterCredit_eq_srcCredit c src dst hg rfl _ hcs hcd)) $$ [H1 H2 H3 Hv]
  · isplitl [H1]; · iexact H1
    isplitl [H2]; · iexact H2
    isplitl [H3] <;> iassumption
  iintro Hf
  iapply (Transfers.wp_waitLocalO EC 𝒱 c bd ι rfl) $$ [Hf HO Hmw]
  · isplitl [Hf]; · iexact Hf
    isplitl [HO] <;> iassumption
  iintro ⟨⟨H2, H1, H3⟩, Hv, HO⟩
  iapply HK
  isplitl [H1]
  · iexists f; isplitr; · ipureintro; exact hf
    iexact H1
  isplitl [H2]
  · iexists _; isplitr
    swap
    · iexact H2
    · ipureintro
      intro x hx
      obtain ⟨i, hi, hix⟩ := (hS _).mp hx
      have hmem := hslice (SparseCore.rows (offs.view.read (Elt F) o) hn hin' ⟨i, hi⟩) x (by rw [hrow]; exact hix.symm)
      have hx' := Shape.rowRect_emb_rowProj hg.axis x
      rw [show x hg.axis = SparseCore.rows (offs.view.read (Elt F) o) hn hin' ⟨i, hi⟩ from Fin.ext (by rw [hrow]; exact hix.symm)] at hx'
      have h1 := SparseCore.scatterBuf_of_mem c dst.view hg.axis (SparseCore.rows (offs.view.read (Elt F) o) hn hin') hinj'
        (SparseCore.scatterRowPayload c src hg f) g hmem
      have h2 : dst.view.read (Elt F) (SparseCore.scatterBuf c dst.view hg.axis (SparseCore.rows (offs.view.read (Elt F) o) hn hin')
          (SparseCore.scatterRowPayload c src hg f) g) x
          = dst.view.read (Elt F) ((dst.view.slice ((Arr n).rowRect hg.axis (SparseCore.rows (offs.view.read (Elt F) o) hn hin' ⟨i, hi⟩))).write (Elt F) g
              (SparseCore.scatterRowPayload c src hg f ⟨i, hi⟩) Finset.univ) x := View.read_congr_at x h1
      rw [h2]
      conv_lhs => rw [← hx']
      refine (View.read_slice_write_emb (v := dst.view) ((Arr n).rowRect hg.axis (SparseCore.rows (offs.view.read (Elt F) o) hn hin' ⟨i, hi⟩)) g _ (Finset.mem_univ (Shape.rowProj hg.axis x))).trans ?_
      show src.view.read (Elt F) f _ = _
      rw [hf, ← hix, hb i hi]
      exact congrArg (fun j => a j) (congrArg Fin.val (Shape.rowRect_emb_axis hg.axis' (⟨i, hi⟩ : Fin ((Arr k).size hg.axis')) _))
  isplitl [H3]
  · iexists o; isplitr; · ipureintro; exact ho
    iexact H3
  isplitl [Hv]; · iexact Hv
  iexists _
  isplitr
  swap
  · iexact HO
  · ipureintro
    intro p hp
    rcases Finset.mem_insert.mp hp with rfl | hp
    · exact hok
    · exact hW p hp

end Cert.Proof.Words
end
-- ==== Proof.Body.lean ====
module

public import proofs.«01_k».proof.Proof.Gen.Kernel.Skeleton

@[expose] public section

set_option synthInstance.maxSize 4096

noncomputable section

namespace Cert.Proof.Body

open Idealize.ShloMosaic Idealize.SL.Sem
open Cert.Kernel Cert.Kernel.Gen

variable {F : FTy → Type} [BitOps F]

/-- The programs of the tile with these coordinates. -/
abbrev TProg (F : FTy → Type) (i : grid0.Coords) (α : Type) :=
  Prog (TpuEff nD τ sig (Elt F) Λ₀ (.scVector ((i 0).castLE hcore0) ((i 1).castLE hsub0))) α

/-- The side condition of an indexed access of `n` words: on the first core every lane names one of them. -/
def Named (i : grid0.Coords) (n : ℕ) (v : IVec S16 32) : Prop :=
  (∀ (h : k0_cond5 i = 1#1), ∀ a x, ((![v] : Fin 1 → IVec S16 32) a x).toNat < (⟨1, ![n]⟩ : Shape).size a)

instance Named.dec (i : grid0.Coords) (n : ℕ) (v : IVec S16 32) : Decidable (Named i n v) :=
  decidable_of_iff' _ (Iff.of_eq (Named.eq_1 i n v))

/-- Checks that the lanes name words of a sixteen word buffer and reads them. -/
def probe (i : grid0.Coords) (h : k0_cond5 i = 1#1) (t : Memref sig .scVector .vmem S16 .i32) (v : IVec S16 32) :
    TProg F i (Vec F S16 .i32) := do
  have hw : Named i 16 v := (← Prog.lift (TpuEff.assume (Named i 16 v) (Named.dec i 16 v))).down
  SparseCore.vectorLoadIdx t ![v] (hw h) (View.loads_vmem h_S16)

/-- Writes sixteen words over a sixteen word buffer, which the printed program reads first. -/
def put (i : grid0.Coords) (t : Memref sig .scVector .vmem S16 .i32) (v : Vec F S16 .i32) : TProg F i PUnit := do
  let _ ← Prog.lift (.load t (Rect.unit (s := S16) ![0] S16.size inb_S16_S16_0).toLoadRect (View.loadsAt_vmem h_S16))
  Prog.lift (.store t (Rect.unit (s := S16) ![0] S16.size inb_S16_S16_0) v Finset.univ
    (View.stores_vmem_bits_univ h_S16 rfl) (.inl rfl))

/-- The lanes' own numbers. -/
abbrev lanes : IVec S16 32 := iota .scVector S16 32 [0] iota_S16_d0_w32_scVector

/-- The digit of each key, above `sh` bits. -/
def digit (sh : BitVec 32) (k : IVec S16 32) : IVec S16 32 :=
  andi (shrsi k (broadcast S16 sh)) (broadcast S16 2047#32)

/-- The words `k` lanes before. -/
def before (v0 : IVec S16 32) (k : ℕ) : IVec S16 32 :=
  maxsi (subi v0 (broadcast S16 (BitVec.ofNat 32 k))) (broadcast S16 0#32)

/-- The words `k` lanes after. -/
def after (v0 : IVec S16 32) (k : ℕ) : IVec S16 32 :=
  minsi (addi v0 (broadcast S16 (BitVec.ofNat 32 k))) (broadcast S16 15#32)

/-- One more where the lane `k` before has the same digit. -/
def bumpB (v0 d : IVec S16 32) (k : ℕ) (g e : IVec S16 32) : IVec S16 32 :=
  addi e (select (andi (cmpi .sge v0 (broadcast S16 (BitVec.ofNat 32 k))) (cmpi .eq g d)) (broadcast S16 1#32) (broadcast S16 0#32))

/-- One more where the lane `k` after has the same digit. -/
def bumpA (v0 d : IVec S16 32) (k : ℕ) (g e : IVec S16 32) : IVec S16 32 :=
  addi e (select (andi (cmpi .sle v0 (broadcast S16 (BitVec.ofNat 32 (15 - k)))) (cmpi .eq g d)) (broadcast S16 1#32) (broadcast S16 0#32))

/-- Counts, by `n` more distances from `k` on, the lanes before and after that have the lane's digit. -/
def ranks (i : grid0.Coords) (h : k0_cond5 i = 1#1) (t : Memref sig .scVector .vmem S16 .i32) (v0 d : IVec S16 32) :
    ℕ → ℕ → IVec S16 32 → IVec S16 32 → TProg F i (IVec S16 32 × IVec S16 32)
  | _, 0, eb, ea => pure (eb, ea)
  | k, n + 1, eb, ea => do
    let g ← probe i h t (before v0 k)
    let g' ← probe i h t (after v0 k)
    ranks i h t v0 d (k + 1) n (bumpB v0 d k g eb) (bumpA v0 d k g' ea)

/-- The part common to the counting and the placing of sixteen keys. -/
def ranked (i : grid0.Coords) (h : k0_cond5 i = 1#1) (t : Memref sig .scVector .vmem S16 .i32) (v0 d : IVec S16 32) :
    TProg F i (IVec S16 32 × IVec S16 1) := do
  put i t d
  let r ← ranks i h t v0 d 1 15 (broadcast S16 0#32) (broadcast S16 0#32)
  pure (r.1, cmpi .eq r.2 (broadcast S16 0#32))

/-- Counts the digits of sixteen keys. -/
def histBody (i : grid0.Coords) (h : k0_cond5 i = 1#1) (keys : Memref sig .scVector .vmem S6272 .i32)
    (hist : Memref sig .scVector .vmem S2048 .i32) (t : Memref sig .scVector .vmem S16 .i32) (v0 : IVec S16 32) (sh : BitVec 32)
    (off : Fin 1 → ℕ) (hoff : ∀ a, off a + S16.size a ≤ S6272.size a) : TProg F i (BitVec 32) := do
  let k : Vec F S16 .i32 ← Prog.lift (.load keys (Rect.unit (s := S6272) off S16.size hoff).toLoadRect (View.loadsAt_vmem h_S16))
  have hw : Named i 2048 (digit sh k) := (← Prog.lift (TpuEff.assume (Named i 2048 (digit sh k)) (Named.dec i 2048 (digit sh k)))).down
  let r ← ranked i h t v0 (digit sh k)
  SparseCore.vectorStoreIdx hist ![digit sh k] (addi r.1 (broadcast S16 1#32)) r.2 true (hw h) (View.stores_vmem_bits_univ h_S2048 rfl)
  pure 0#32

/-- The side condition of two indexed accesses of an array of digits by the same lanes. -/
def NamedTwice (i : grid0.Coords) (v : IVec S16 32) : Prop :=
  (∀ (h : k0_cond5 i = 1#1), ∀ a x, ((![v] : Fin 1 → IVec S16 32) a x).toNat < S2048.size a) ∧
  (∀ (h : k0_cond5 i = 1#1), ∀ a x, ((![v] : Fin 1 → IVec S16 32) a x).toNat < S2048.size a)

instance NamedTwice.dec (i : grid0.Coords) (v : IVec S16 32) : Decidable (NamedTwice i v) :=
  decidable_of_iff' _ (Iff.of_eq (NamedTwice.eq_1 i v))

/-- Places sixteen keys: reads the next free place of each one's digit, moves the places on and writes them down. -/
def permBody (i : grid0.Coords) (h : k0_cond5 i = 1#1) (keys pos : Memref sig .scVector .vmem S6272 .i32)
    (base : Memref sig .scVector .vmem S2048 .i32) (t : Memref sig .scVector .vmem S16 .i32) (v0 : IVec S16 32) (sh : BitVec 32)
    (off : Fin 1 → ℕ) (hoff : ∀ a, off a + S16.size a ≤ S6272.size a) : TProg F i (BitVec 32) := do
  let k : Vec F S16 .i32 ← Prog.lift (.load keys (Rect.unit (s := S6272) off S16.size hoff).toLoadRect (View.loadsAt_vmem h_S16))
  have hw : NamedTwice i (digit sh k) := (← Prog.lift (TpuEff.assume (NamedTwice i (digit sh k)) (NamedTwice.dec i (digit sh k)))).down
  let r ← ranked i h t v0 (digit sh k)
  let g : Vec F S16 .i32 ← SparseCore.vectorLoadIdx base ![digit sh k] (hw.1 h) (View.loads_vmem h_S2048)
  SparseCore.vectorStoreIdx base ![digit sh k] (addi r.1 (broadcast S16 1#32)) r.2 true (hw.2 h) (View.stores_vmem_bits_univ h_S2048 rfl)
  let _ : Vec F S16 .i32 ← Prog.lift (.load pos (Rect.unit (s := S6272) off S16.size hoff).toLoadRect (View.loadsAt_vmem h_S16))
  Prog.lift (.store pos (Rect.unit (s := S6272) off S16.size hoff) (addi g r.1) Finset.univ (View.stores_vmem_bits_univ h_S16 rfl) (.inl rfl))
  pure 0#32

/-- Where the counts that tile `w` took of a group of sixteen digits begin. -/
abbrev rowAt (t : Fin k0_t6_loop.trips) (w : Fin 16) : Fin 1 → ℕ := k0_off12 t (BitVec.ofNat 32 (2048 * w.val))

/-- Adds up, for sixteen digits, what all the tiles counted and what the tiles before this one counted. -/
def sums (i : grid0.Coords) (all : Memref sig .scVector .vmem S32768 .i32) (t : Fin k0_t6_loop.trips)
    (hoff : ∀ w a, rowAt t w a + S16.size a ≤ S32768.size a) (me : BitVec 32) :
    List (Fin 16) → IVec S16 32 → IVec S16 32 → TProg F i (IVec S16 32 × IVec S16 32)
  | [], x, y => pure (x, y)
  | w :: l, x, y => do
    let v : Vec F S16 .i32 ← Prog.lift (.load all (Rect.unit (s := S32768) (rowAt t w) S16.size (hoff w)).toLoadRect (View.loadsAt_vmem h_S16))
    sums i all t hoff me l (addi x v)
      (addi y (select (cmpi .slt (broadcast S16 (BitVec.ofNat 32 w.val)) (broadcast S16 me)) v (broadcast S16 0#32)))

/-- Adds to each lane the lane `k` before, for each `k` in turn, by way of a sixteen word buffer. -/
def cums (i : grid0.Coords) (h : k0_cond5 i = 1#1) (b : Memref sig .scVector .vmem S16 .i32) (v0 : IVec S16 32) :
    List ℕ → IVec S16 32 → TProg F i (IVec S16 32)
  | [], x => pure x
  | k :: l, x => do
    put i b x
    let g ← probe i h b (before v0 k)
    cums i h b v0 l (addi x (select (cmpi .sge v0 (broadcast S16 (BitVec.ofNat 32 k))) g (broadcast S16 0#32)))

/-- Finds where the keys of sixteen digits start, for this tile: after all the keys of smaller digits, and after the keys
of the same digit that earlier tiles hold. -/
def scanBody (i : grid0.Coords) (h : k0_cond5 i = 1#1) (all : Memref sig .scVector .vmem S32768 .i32)
    (base : Memref sig .scVector .vmem S2048 .i32) (b : Memref sig .scVector .vmem S16 .i32) (v0 : IVec S16 32) (me : BitVec 32)
    (t : Fin k0_t6_loop.trips) (hoff : ∀ w a, rowAt t w a + S16.size a ≤ S32768.size a)
    (hoff' : ∀ a, k0_off13 t a + S16.size a ≤ S2048.size a) (carry : IVec S16 32) : TProg F i (IVec S16 32) := do
  let r ← sums i all t hoff me [0, 1, 2, 3, 4, 5, 6, 7, 8, 9, 10, 11, 12, 13, 14, 15] (broadcast S16 0#32) (broadcast S16 0#32)
  let c ← cums i h b v0 [1, 2, 4, 8] r.1
  put i b c
  let z ← probe i h b (broadcast S16 15#32)
  let _ : Vec F S16 .i32 ← Prog.lift (.load base (Rect.unit (s := S2048) (k0_off13 t) S16.size hoff').toLoadRect (View.loadsAt_vmem h_S16))
  Prog.lift (.store base (Rect.unit (s := S2048) (k0_off13 t) S16.size hoff') (addi (addi (subi c r.1) carry) r.2) Finset.univ
    (View.stores_vmem_bits_univ h_S16 rfl) (.inl rfl))
  pure (addi carry z)

/-- Clears the counts of sixteen digits. -/
def zeroBody (i : grid0.Coords) (hist : Memref sig .scVector .vmem S2048 .i32) (off : Fin 1 → ℕ)
    (hoff : ∀ a, off a + S16.size a ≤ S2048.size a) : TProg F i (BitVec 32) := do
  let _ : Vec F S16 .i32 ← Prog.lift (.load hist (Rect.unit (s := S2048) off S16.size hoff).toLoadRect (View.loadsAt_vmem h_S16))
  Prog.lift (.store hist (Rect.unit (s := S2048) off S16.size hoff) (broadcast S16 0#32 : IVec S16 32) Finset.univ
    (View.stores_vmem_bits_univ h_S16 rfl) (.inl rfl))
  pure 0#32

/-- Holds sixteen places between the first and the last. -/
def clampBody (i : grid0.Coords) (pos : Memref sig .scVector .vmem S6272 .i32) (off : Fin 1 → ℕ)
    (hoff : ∀ a, off a + S16.size a ≤ S6272.size a) : TProg F i (BitVec 32) := do
  let p : Vec F S16 .i32 ← Prog.lift (.load pos (Rect.unit (s := S6272) off S16.size hoff).toLoadRect (View.loadsAt_vmem h_S16))
  let _ : Vec F S16 .i32 ← Prog.lift (.load pos (Rect.unit (s := S6272) off S16.size hoff).toLoadRect (View.loadsAt_vmem h_S16))
  Prog.lift (.store pos (Rect.unit (s := S6272) off S16.size hoff)
    (minsi (broadcast S16 100351#32) (maxsi (broadcast S16 0#32) p) : IVec S16 32) Finset.univ
    (View.stores_vmem_bits_univ h_S16 rfl) (.inl rfl))
  pure 0#32

/-- The first half of a pass: the tile counts the digits of its slice of the keys and publishes the counts. -/
def phaseA (i : grid0.Coords) (h : k0_cond5 i = 1#1) (src : Memref sig .scVector .shared S100352 .i32)
    (cnt : Memref sig .scVector .shared S32768 .i32)
    (keys : Memref sig .scVector .vmem S6272 .i32) (hkeys : keys.IsWhole) (hist : Memref sig .scVector .vmem S2048 .i32)
    (hhist : hist.IsWhole) (b : Memref sig .scVector .vmem S16 .i32) (s1 s2 : DmaSems sig S_) (sh : BitVec 32) : TProg F i PUnit := do
  let _ ← Scf.Loop.for k0_t4_loop (k0_t4_ok i h) (0#32 : BitVec 32) (fun t _ => zeroBody i hist (k0_off8 t) (k0_off8_inb i t h))
  Prog.lift (.enqueueDma (src.slice (Rect.unit (s := S100352) (k0_off9 i) S6272.size (k0_off9_inb i h)) (fun _ => rfl)) (.here keys)
    (.dma s1.sem) (View.wordExact_bits rfl) hkeys.wordExact ⟨Or.inl rfl, trivial⟩)
  Prog.lift (.waitDma2 s1.sem (src.slice (Rect.unit (s := S100352) (k0_off9 i) S6272.size (k0_off9_inb i h)) (fun _ => rfl)) keys
    (View.wordExact_bits rfl) hkeys.wordExact)
  let _ ← Scf.Loop.for k0_t5_loop (k0_t5_ok i h) (0#32 : BitVec 32)
    (fun t _ => histBody i h keys hist b lanes sh (k0_off10 t) (k0_off10_inb i t h))
  Prog.lift (.enqueueDma hist (.here (cnt.slice (Rect.unit (s := S32768) (k0_off11 i) S2048.size (k0_off11_inb i h)) (fun _ => rfl)))
    (.dma s2.sem) hhist.wordExact (View.wordExact_bits rfl) ⟨Or.inl rfl, trivial⟩)
  Prog.lift (.waitDma2 s2.sem hist (cnt.slice (Rect.unit (s := S32768) (k0_off11 i) S2048.size (k0_off11_inb i h)) (fun _ => rfl))
    hhist.wordExact (View.wordExact_bits rfl))
  pure ⟨⟩

/-- The whole of a shared array, as the scattering copies name it. -/
abbrev all (m : Memref sig .scVector .shared S100352 .i32) : Memref sig .scVector .shared S100352 .i32 :=
  m.slice (Rect.unit (s := S100352) ![0] S100352.size inb_S100352_S100352_0) (fun _ => rfl)

/-- The second half of a pass: the tile finds the place of each of its keys and sends keys and numbers there. -/
def phaseB (i : grid0.Coords) (h : k0_cond5 i = 1#1) (nums : Memref sig .scVector .shared S100352 .i32)
    (cnt : Memref sig .scVector .shared S32768 .i32) (hcnt : cnt.IsWhole) (dk dn : Memref sig .scVector .shared S100352 .i32)
    (keys : Memref sig .scVector .vmem S6272 .i32) (hkeys : keys.IsWhole) (mine : Memref sig .scVector .vmem S6272 .i32)
    (hmine : mine.IsWhole) (pos : Memref sig .scVector .vmem S6272 .i32) (base : Memref sig .scVector .vmem S2048 .i32)
    (hists : Memref sig .scVector .vmem S32768 .i32) (hhists : hists.IsWhole)
    (b : Memref sig .scVector .vmem S16 .i32) (s1 s2 s3 s4 : DmaSems sig S_) (sh : BitVec 32) : TProg F i PUnit := do
  Prog.lift (.enqueueDma cnt (.here hists) (.dma s1.sem) hcnt.wordExact hhists.wordExact ⟨Or.inl rfl, trivial⟩)
  Prog.lift (.waitDma2 s1.sem cnt hists hcnt.wordExact hhists.wordExact)
  let _ ← Scf.Loop.for k0_t6_loop (k0_t6_ok i h) (broadcast S16 0#32 : IVec S16 32)
    (fun t c => scanBody i h hists base b lanes (BitVec.ofNat 32 (i 1).val) t (fun w => k0_off12_inb i t h w) (k0_off13_inb i t h) c)
  Prog.lift (.enqueueDma (nums.slice (Rect.unit (s := S100352) (k0_off14 i) S6272.size (k0_off14_inb i h)) (fun _ => rfl)) (.here mine)
    (.dma s2.sem) (View.wordExact_bits rfl) hmine.wordExact ⟨Or.inl rfl, trivial⟩)
  Prog.lift (.waitDma2 s2.sem (nums.slice (Rect.unit (s := S100352) (k0_off14 i) S6272.size (k0_off14_inb i h)) (fun _ => rfl)) mine
    (View.wordExact_bits rfl) hmine.wordExact)
  let _ ← Scf.Loop.for k0_t7_loop (k0_t7_ok i h) (0#32 : BitVec 32)
    (fun t _ => permBody i h keys pos base b lanes sh (k0_off15 t) (k0_off15_inb i t h))
  let _ ← Scf.Loop.for k0_t8_loop (k0_t8_ok i h) (0#32 : BitVec 32)
    (fun t _ => clampBody i pos (k0_off17 t) (k0_off17_inb i t h))
  SparseCore.enqueueIndirectScatter rfl keys (all dk) gathers_S100352_S6272 pos rfl s3.sem rfl (Or.inr rfl)
  SparseCore.waitIndirectScatter s3.sem keys (all dk) hkeys.wordExact (View.wordExact_bits rfl)
  SparseCore.enqueueIndirectScatter rfl mine (all dn) gathers_S100352_S6272 pos rfl s4.sem rfl (Or.inr rfl)
  SparseCore.waitIndirectScatter s4.sem mine (all dn) hmine.wordExact (View.wordExact_bits rfl)
  pure ⟨⟩

end Cert.Proof.Body
end
-- ==== Proof.Digits.lean ====
/-
  The arithmetic of a counting pass, on words: counts among sixteen lanes, counts of digits over runs of sixteen, and sums
  over digits.
-/
module

public import proofs.«01_k».proof.Proof.Body

@[expose] public section

noncomputable section

namespace Cert.Proof.Digits

open Idealize.ShloMosaic

/-- The digit of a key above `sh` bits, as a word. -/
def digW (sh w : BitVec 32) : BitVec 32 := IntOp.andi (IntOp.shrsi .vector w sh) 2047#32

/-- The digit of a key above `sh` bits. -/
def dig (sh w : BitVec 32) : ℕ := (digW sh w).toNat

theorem dig_lt (sh w : BitVec 32) : dig sh w < 2048 := by
  unfold dig digW IntOp.andi
  rw [BitVec.toNat_and]
  exact lt_of_le_of_lt Nat.and_le_right (by decide)

theorem digW_eq_iff {sh w w' : BitVec 32} : digW sh w = digW sh w' ↔ dig sh w = dig sh w' :=
  ⟨fun h => congrArg BitVec.toNat h, fun h => BitVec.eq_of_toNat_eq h⟩

/-! ## Counting numbers -/

open Classical in
/-- How many of the first `n` numbers have a property. -/
def count (P : ℕ → Prop) : ℕ → ℕ
  | 0 => 0
  | n + 1 => count P n + if P n then 1 else 0

open Classical in
theorem count_succ (P : ℕ → Prop) (n : ℕ) : count P (n + 1) = count P n + if P n then 1 else 0 := rfl

open Classical in
theorem count_congr {P Q : ℕ → Prop} {n : ℕ} (h : ∀ j < n, P j ↔ Q j) : count P n = count Q n := by
  induction n with
  | zero => rfl
  | succ n ih =>
    rw [count_succ, count_succ, ih fun j hj => h j (by omega)]
    congr 1
    by_cases hP : P n
    · rw [if_pos hP, if_pos ((h n (by omega)).mp hP)]
    · rw [if_neg hP, if_neg (fun hQ => hP ((h n (by omega)).mpr hQ))]

theorem count_add (P : ℕ → Prop) (m n : ℕ) : count P (m + n) = count P m + count (fun j => P (m + j)) n := by
  induction n with
  | zero => rfl
  | succ n ih => rw [← Nat.add_assoc, count_succ, ih, count_succ, Nat.add_assoc]

theorem count_le (P : ℕ → Prop) (n : ℕ) : count P n ≤ n := by
  induction n with
  | zero => exact le_rfl
  | succ n ih => rw [count_succ]; split <;> omega

open Classical in
theorem count_imp {P Q : ℕ → Prop} {n : ℕ} (h : ∀ j < n, P j → Q j) : count P n ≤ count Q n := by
  induction n with
  | zero => exact le_rfl
  | succ n ih =>
    have := ih fun j hj => h j (by omega)
    rw [count_succ, count_succ]
    have h' := h n (by omega)
    by_cases hP : P n
    · rw [if_pos hP, if_pos (h' hP)]; omega
    · rw [if_neg hP]; omega

open Classical in
theorem count_lt {P Q : ℕ → Prop} {n i : ℕ} (h : ∀ j < n, P j → Q j) (hi : i < n) (hQ : Q i) (hP : ¬P i) : count P n < count Q n := by
  induction n with
  | zero => omega
  | succ n ih =>
    have h' := h n (by omega)
    rw [count_succ, count_succ]
    by_cases e : i = n
    · subst e
      have := count_imp (n := i) fun j hj => h j (by omega)
      rw [if_neg hP, if_pos hQ]; omega
    · have := ih (fun j hj => h j (by omega)) (by omega)
      by_cases hPn : P n
      · rw [if_pos hPn, if_pos (h' hPn)]; omega
      · rw [if_neg hPn]; omega

open Classical in
theorem count_or {P Q : ℕ → Prop} {n : ℕ} (h : ∀ j < n, P j → ¬Q j) : count (fun j => P j ∨ Q j) n = count P n + count Q n := by
  induction n with
  | zero => rfl
  | succ n ih =>
    rw [count_succ, count_succ, count_succ, ih fun j hj => h j (by omega)]
    have h' := h n (by omega)
    by_cases hP : P n
    · rw [if_pos (Or.inl hP), if_pos hP, if_neg (h' hP)]; omega
    · by_cases hQ : Q n
      · rw [if_pos (Or.inr hQ), if_neg hP, if_pos hQ]; omega
      · rw [if_neg (fun hh => hh.elim hP hQ), if_neg hP, if_neg hQ]; rfl

theorem count_false {P : ℕ → Prop} {n : ℕ} (h : ∀ j < n, ¬P j) : count P n = 0 := by
  induction n with
  | zero => rfl
  | succ n ih => rw [count_succ, ih fun j hj => h j (by omega), if_neg (h n (by omega))]

theorem count_below {P : ℕ → Prop} {m n : ℕ} (hmn : m ≤ n) : count (fun j => j < m ∧ P j) n = count P m := by
  obtain ⟨k, rfl⟩ := Nat.exists_eq_add_of_le hmn
  rw [count_add, count_false (P := fun j => m + j < m ∧ P (m + j)) (fun j _ hj => by omega), Nat.add_zero]
  exact count_congr fun j hj => ⟨fun h => h.2, fun h => ⟨hj, h⟩⟩

/-! ## Sixteen lanes -/

theorem toInt_small {n : ℕ} (h : n < 64) : (BitVec.ofNat 32 n).toInt = n := by
  rw [BitVec.toInt_eq_toNat_of_lt (by simp only [BitVec.toNat_ofNat]; omega)]
  simp only [BitVec.toNat_ofNat]; omega

theorem sle_small {m n : ℕ} (hm : m < 64) (hn : n < 64) : IntOp.cmpi .sge (BitVec.ofNat 32 m) (BitVec.ofNat 32 n) = BitVec.ofBool (decide (n ≤ m)) := by
  unfold IntOp.cmpi
  congr 1
  simp only [BitVec.sle, toInt_small hm, toInt_small hn, Nat.cast_le]

theorem sle_small' {m n : ℕ} (hm : m < 64) (hn : n < 64) : IntOp.cmpi .sle (BitVec.ofNat 32 m) (BitVec.ofNat 32 n) = BitVec.ofBool (decide (m ≤ n)) := by
  unfold IntOp.cmpi
  congr 1
  simp only [BitVec.sle, toInt_small hm, toInt_small hn, Nat.cast_le]

theorem slt_small {m n : ℕ} (hm : m < 64) (hn : n < 64) : IntOp.cmpi .slt (BitVec.ofNat 32 m) (BitVec.ofNat 32 n) = BitVec.ofBool (decide (m < n)) := by
  unfold IntOp.cmpi
  congr 1
  simp only [BitVec.slt, toInt_small hm, toInt_small hn, Nat.cast_lt]

theorem ofBool_eq_one {b : Bool} : (BitVec.ofBool b = 1) ↔ b = true := by cases b <;> decide

theorem cmpi_eq_one {x y : BitVec 32} : IntOp.cmpi .eq x y = 1 ↔ x = y := by
  unfold IntOp.cmpi; rw [ofBool_eq_one]; exact beq_iff_eq

theorem andi_eq_one {x y : BitVec 1} : IntOp.andi x y = 1 ↔ x = 1 ∧ y = 1 := by
  unfold IntOp.andi; revert x y; decide

theorem before_small {l k : ℕ} (hl : l < 16) (hk : k < 16) :
    IntOp.maxsi (IntOp.subi (BitVec.ofNat 32 l) (BitVec.ofNat 32 k)) (BitVec.ofNat 32 0) = BitVec.ofNat 32 (l - k) :=
  (by decide : ∀ l k : Fin 16, IntOp.maxsi (IntOp.subi (BitVec.ofNat 32 l.val) (BitVec.ofNat 32 k.val)) (BitVec.ofNat 32 0) = BitVec.ofNat 32 (l.val - k.val)) ⟨l, hl⟩ ⟨k, hk⟩

theorem after_small {l k : ℕ} (hl : l < 16) (hk : k < 16) :
    IntOp.minsi (IntOp.addi (BitVec.ofNat 32 l) (BitVec.ofNat 32 k)) (BitVec.ofNat 32 15) = BitVec.ofNat 32 (min (l + k) 15) :=
  (by decide : ∀ l k : Fin 16, IntOp.minsi (IntOp.addi (BitVec.ofNat 32 l.val) (BitVec.ofNat 32 k.val)) (BitVec.ofNat 32 15) = BitVec.ofNat 32 (min (l.val + k.val) 15)) ⟨l, hl⟩ ⟨k, hk⟩

/-- How many of the `n` lanes from `k` before `l` on, away from `l`, hold what `l` holds. -/
def cntB (D : ℕ → BitVec 32) (l : ℕ) : ℕ → ℕ → ℕ
  | _, 0 => 0
  | k, n + 1 => (if k ≤ l ∧ D (l - k) = D l then 1 else 0) + cntB D l (k + 1) n

/-- How many of the `n` lanes from `k` after `l` on, away from `l`, hold what `l` holds. -/
def cntA (D : ℕ → BitVec 32) (l : ℕ) : ℕ → ℕ → ℕ
  | _, 0 => 0
  | k, n + 1 => (if l ≤ 15 - k ∧ D (min (l + k) 15) = D l then 1 else 0) + cntA D l (k + 1) n

theorem cntB_eq (D : ℕ → BitVec 32) (l : ℕ) : ∀ n k, 1 ≤ k → l + 1 ≤ k + n → cntB D l k n = count (fun j => D j = D l) (l + 1 - k) := by
  intro n
  induction n with
  | zero => intro k _ h; rw [show l + 1 - k = 0 by omega]; rfl
  | succ n ih =>
    intro k hk h
    rw [cntB, ih (k + 1) (by omega) (by omega)]
    by_cases hkl : k ≤ l
    · rw [show l + 1 - k = (l - k) + 1 by omega, show l + 1 - (k + 1) = l - k by omega, count_succ]
      by_cases hD : D (l - k) = D l
      · rw [if_pos ⟨hkl, hD⟩, if_pos hD]; omega
      · rw [if_neg (fun h => hD h.2), if_neg hD]; omega
    · rw [show l + 1 - k = 0 by omega, show l + 1 - (k + 1) = 0 by omega]
      simp [hkl]

theorem cntA_le (D : ℕ → BitVec 32) (l : ℕ) : ∀ n k, cntA D l k n ≤ n := by
  intro n
  induction n with
  | zero => intro k; exact le_rfl
  | succ n ih => intro k; rw [cntA]; have := ih (k + 1); split <;> omega

theorem cntA_eq_zero (D : ℕ → BitVec 32) (l : ℕ) : ∀ n k, cntA D l k n = 0 ↔ ∀ m, k ≤ m → m < k + n → ¬(l ≤ 15 - m ∧ D (min (l + m) 15) = D l) := by
  intro n
  induction n with
  | zero => intro k; simp only [cntA, true_iff]; intro m h1 h2; omega
  | succ n ih =>
    intro k
    rw [cntA, Nat.add_eq_zero_iff, ih]
    constructor
    · rintro ⟨h1, h2⟩ m hm hm'
      by_cases e : m = k
      · subst e; intro hc; rw [if_pos hc] at h1; omega
      · exact h2 m (by omega) (by omega)
    · intro h
      exact ⟨if_neg (h k le_rfl (by omega)), fun m hm hm' => h m (by omega) (by omega)⟩

theorem cntA_last (D : ℕ → BitVec 32) {l : ℕ} (hl : l < 16) : cntA D l 1 15 = 0 ↔ ∀ j, l < j → j < 16 → D j ≠ D l := by
  rw [cntA_eq_zero]
  constructor
  · intro h j h1 h2 hj
    refine h (j - l) (by omega) (by omega) ⟨by omega, ?_⟩
    rw [show min (l + (j - l)) 15 = j by omega, hj]
  · rintro h m h1 h2 ⟨h3, h4⟩
    refine h (l + m) (by omega) (by omega) ?_
    rwa [show min (l + m) 15 = l + m by omega] at h4

open Classical in
/-- What the last lanes of each digit add: all that hold the digit. -/
theorem sum_last (D : ℕ → ℕ) (n j : ℕ) : ∀ m, m ≤ n →
    ((List.range m).map fun l => if (∀ j, l < j → j < n → D j ≠ D l) ∧ D l = j then BitVec.ofNat 32 (count (fun j => D j = D l) l) + 1 else 0).sum
      = if (∃ l, m ≤ l ∧ l < n ∧ D l = j) then 0 else BitVec.ofNat 32 (count (fun l => D l = j) m) := by
  intro m
  induction m with
  | zero => intro _; split <;> rfl
  | succ m ih =>
    intro hm
    rw [List.range_succ, List.map_append, List.sum_append, ih (by omega)]
    simp only [List.map_cons, List.map_nil, List.sum_cons, List.sum_nil]
    by_cases h1 : ∃ l, m + 1 ≤ l ∧ l < n ∧ D l = j
    · obtain ⟨l, h2, h3, h4⟩ := h1
      have hl : ∃ l, m ≤ l ∧ l < n ∧ D l = j := ⟨l, by omega, h3, h4⟩
      have hn : ¬((∀ j, m < j → j < n → D j ≠ D m) ∧ D m = j) := fun h => h.1 l (by omega) h3 (h4.trans h.2.symm)
      have hl' : ∃ l, m + 1 ≤ l ∧ l < n ∧ D l = j := ⟨l, h2, h3, h4⟩
      rw [if_pos hl, if_neg hn, if_pos hl']; rfl
    · rw [if_neg h1, count_succ]
      by_cases h2 : D m = j
      · have hl : ∃ l, m ≤ l ∧ l < n ∧ D l = j := ⟨m, le_rfl, by omega, h2⟩
        have hn : (∀ j, m < j → j < n → D j ≠ D m) ∧ D m = j := ⟨fun j' h3 h4 h5 => h1 ⟨j', h3, h4, h5.trans h2⟩, h2⟩
        rw [if_pos hl, if_pos hn, if_pos h2]
        subst h2; simp [BitVec.ofNat_add]
      · have hl : ¬∃ l, m ≤ l ∧ l < n ∧ D l = j := by
          rintro ⟨l, h3, h4, h5⟩
          rcases Nat.lt_or_ge m l with h6 | h6
          · exact h1 ⟨l, h6, h4, h5⟩
          · obtain rfl : l = m := by omega
            exact h2 h5
        have hn : ¬((∀ j, m < j → j < n → D j ≠ D m) ∧ D m = j) := fun h => h2 h.2
        rw [if_neg hl, if_neg hn, if_neg h2]
        simp

/-! ## Sums over digits -/

/-- The sum of the first `n` words. -/
def psum (f : ℕ → BitVec 32) : ℕ → BitVec 32
  | 0 => 0
  | n + 1 => psum f n + f n

theorem psum_add (f : ℕ → BitVec 32) (m n : ℕ) : psum f (m + n) = psum f m + psum (fun j => f (m + j)) n := by
  induction n with
  | zero => simp [psum]
  | succ n ih => rw [← Nat.add_assoc, psum, ih, psum, BitVec.add_assoc]

theorem psum_congr {f g : ℕ → BitVec 32} {n : ℕ} (h : ∀ j < n, f j = g j) : psum f n = psum g n := by
  induction n with
  | zero => rfl
  | succ n ih => rw [psum, psum, ih fun j hj => h j (by omega), h n (by omega)]

/-- The sum of the `k` words that end at `l`. -/
def win (f : ℕ → BitVec 32) : ℕ → ℕ → BitVec 32
  | 0, _ => 0
  | k + 1, l => win f k l + if k ≤ l then f (l - k) else 0

theorem win_add (f : ℕ → BitVec 32) (a b l : ℕ) : win f (a + b) l = win f a l + if a ≤ l then win f b (l - a) else 0 := by
  induction b with
  | zero => simp [win]
  | succ b ih =>
    rw [← Nat.add_assoc, win, ih]
    by_cases h : a ≤ l
    · rw [if_pos h, if_pos h, win, BitVec.add_assoc]
      congr 2
      by_cases h' : a + b ≤ l
      · rw [if_pos h', if_pos (by omega), Nat.sub_sub]
      · rw [if_neg h', if_neg (by omega)]
    · rw [if_neg h, if_neg h, if_neg (by omega)]; simp

theorem win_psum (f : ℕ → BitVec 32) (l : ℕ) : ∀ k, k ≤ l + 1 → psum f (l + 1 - k) + win f k l = psum f (l + 1) := by
  intro k
  induction k with
  | zero => intro _; simp [win]
  | succ k ih =>
    intro hk
    rw [← ih (by omega), show l + 1 - k = (l - k) + 1 by omega, show l + 1 - (k + 1) = l - k by omega, win, if_pos (by omega), psum,
      BitVec.add_assoc, BitVec.add_comm (win f k l)]

theorem win_more (f : ℕ → BitVec 32) (l : ℕ) : ∀ n, win f (l + 1 + n) l = win f (l + 1) l := by
  intro n
  induction n with
  | zero => rfl
  | succ n ih => rw [← Nat.add_assoc, win, ih, if_neg (by omega)]; simp

theorem win_all (f : ℕ → BitVec 32) {l n : ℕ} (h : l < n) : win f n l = psum f (l + 1) := by
  obtain ⟨k, rfl⟩ : ∃ k, n = l + 1 + k := ⟨n - (l + 1), by omega⟩
  rw [win_more, ← win_psum f l (l + 1) le_rfl]; simp [psum]

theorem win_one (f : ℕ → BitVec 32) (l : ℕ) : win f 1 l = f l := by simp [win]

/-- What all the tiles counted of a digit. -/
def tot (all : ℕ → BitVec 32) (b : ℕ) : BitVec 32 := psum (fun w => all (2048 * w + b)) 16

/-- What the first `me` tiles counted of a digit. -/
def low (all : ℕ → BitVec 32) (me b : ℕ) : BitVec 32 := psum (fun w => if w < me then all (2048 * w + b) else 0) 16

/-- Where tile `me` starts a digit. -/
def start (all : ℕ → BitVec 32) (me b : ℕ) : BitVec 32 := psum (tot all) b + low all me b

end Cert.Proof.Digits
end
-- ==== Proof.Steps.lean ====
/-
  What the repeated parts of a pass do, each from the contents of the tile's own arrays to their contents afterwards.
-/
module

public import proofs.«01_k».proof.Proof.Words
public import proofs.«01_k».proof.Proof.Digits

@[expose] public section

set_option synthInstance.maxSize 4096

noncomputable section

namespace Cert.Proof.Steps

open Idealize.ShloMosaic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof.Body Cert.Proof.Words Cert.Proof.Digits

variable {F : FTy → Type} [BitOps F] {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond5 i = 1#1) (dv : Dev nD) {α : Type} {Q : α → sProp (MT nD τ sig Ix (Elt F) Name U Lvl)}

local notation "𝕄" => MT nD τ sig Ix (Elt F) Name U Lvl

/-- The tile with these coordinates. -/
abbrev tile (dv : Dev nD) (i : grid0.Coords) : Thread nD τ := (dv, .scVector ((i 0).castLE hcore0) ((i 1).castLE hsub0))

/-- A row of words in the tile's hands. -/
abbrev Has {sp : Space} {n : ℕ} (dv : Dev nD) (i : grid0.Coords) (m : Memref sig .scVector sp (Arr n) .i32) (q : PosShare TreeShare) (a : ℕ → BitVec 32) :
    sProp (MT nD τ sig Ix (Elt F) Name U Lvl) :=
  Holds (F := F) (e := .i32) (tile dv i) m q a

theorem wp_known {P : Prop} {d : Decidable P} {K : PLift P → TProg F i α} (hP : P) :
    wp frame (wpE defs 𝒱 (tile dv i) bd) Set.univ (Prog.lift (TpuEff.assume P d) >>= K) Q
      = wp frame (wpE defs 𝒱 (tile dv i) bd) Set.univ (K ⟨hP⟩) Q :=
  wp_assume_of 𝒱 (tile dv i) bd Set.univ hP

theorem wp_read {n : ℕ} {m : Memref sig .scVector .vmem (Arr n) .i32} {off : Fin 1 → ℕ} {hoff : ∀ a, off a + S16.size a ≤ (Arr n).size a}
    {hl : m.view.LoadsAt (Rect.unit (s := Arr n) off S16.size hoff).toLoadRect} {K : Vec F S16 .i32 → TProg F i α} {q : PosShare TreeShare} {a : ℕ → BitVec 32} :
    (Has dv i m q a : sProp 𝕄)
      ⊢ iprop((Has dv i m q a -∗ wp frame (wpE defs 𝒱 (tile dv i) bd) Set.univ (K fun x : S16.Idx => a (off 0 + (x 0).val)) Q)
        -∗ wp frame (wpE defs 𝒱 (tile dv i) bd) Set.univ (Prog.lift (.load m (Rect.unit (s := Arr n) off S16.size hoff).toLoadRect hl) >>= K) Q) :=
  part_load (F := F) (e := .i32) 𝒱 (tile dv i) bd (fun _ _ => trivial)

theorem wp_write {n : ℕ} {m : Memref sig .scVector .vmem (Arr n) .i32} {off : Fin 1 → ℕ} {hoff : ∀ a, off a + S16.size a ≤ (Arr n).size a}
    {w : IVec S16 32} {hx : (m.access (Rect.unit (s := Arr n) off S16.size hoff)).Stores Finset.univ} {hm} {K : PUnit → TProg F i α} {a b : ℕ → BitVec 32}
    (hw : ∀ x : S16.Idx, w x = b (off 0 + (x 0).val)) (hb : ∀ j < n, ¬(off 0 ≤ j ∧ j < off 0 + 16) → b j = a j) :
    (Has dv i m fullShare a : sProp 𝕄)
      ⊢ iprop((Has dv i m fullShare b -∗ wp frame (wpE defs 𝒱 (tile dv i) bd) Set.univ (K ⟨⟩) Q)
        -∗ wp frame (wpE defs 𝒱 (tile dv i) bd) Set.univ (Prog.lift (.store m (Rect.unit (s := Arr n) off S16.size hoff) w Finset.univ hx hm) >>= K) Q) :=
  part_store (F := F) (e := .i32) 𝒱 (tile dv i) bd (fun _ _ => trivial) hw (fun j hj _ hn => hb j hj hn)

theorem named {n : ℕ} {v : IVec S16 32} (hv : ∀ x, (v x).toNat < n) : Named i n v :=
  fun _ a x => by obtain rfl := Fin.eq_zero a; exact hv x

theorem wp_probe {t : Memref sig .scVector .vmem S16 .i32} {v : IVec S16 32} (hv : ∀ x, (v x).toNat < 16) {K : Vec F S16 .i32 → TProg F i α}
    {a : ℕ → BitVec 32} :
    (Has dv i t fullShare a : sProp 𝕄)
      ⊢ iprop((Has dv i t fullShare a -∗ wp frame (wpE defs 𝒱 (tile dv i) bd) Set.univ (K fun x => a (v x).toNat) Q)
        -∗ wp frame (wpE defs 𝒱 (tile dv i) bd) Set.univ (probe i h t v >>= K) Q) := by
  unfold probe
  rw [bind_assoc, wp_known 𝒱 bd dv (named hv)]
  exact holds_loadIdx (F := F) (e := .i32) 𝒱 (tile dv i) bd

theorem wp_put {t : Memref sig .scVector .vmem S16 .i32} {v : Vec F S16 .i32} {K : PUnit → TProg F i α}
    {a b : ℕ → BitVec 32} (hb : ∀ x : S16.Idx, v x = b (x 0).val) :
    (Has dv i t fullShare a : sProp 𝕄)
      ⊢ iprop((Has dv i t fullShare b -∗ wp frame (wpE defs 𝒱 (tile dv i) bd) Set.univ (K ⟨⟩) Q)
        -∗ wp frame (wpE defs 𝒱 (tile dv i) bd) Set.univ (put i t v >>= K) Q) := by
  unfold put
  rw [bind_assoc]
  iintro H HK
  iapply (part_load (F := F) (e := .i32) 𝒱 (tile dv i) bd (fun _ _ => trivial)) $$ H
  iintro H
  iapply (part_store (F := F) (e := .i32) 𝒱 (tile dv i) bd (b := b) (fun _ _ => trivial)
    (fun x => by rw [hb]; exact congrArg b (Nat.zero_add _).symm)
    (fun j hj _ hn => absurd ⟨Nat.zero_le _, by simpa using hj⟩ hn)) $$ H
  iexact HK

/-! ## Lanes -/

theorem lanes_apply (x : S16.Idx) : lanes x = BitVec.ofNat 32 (x 0).val := by
  show BitVec.ofNat 32 (0 * 16 + (x 0).val) = _
  rw [Nat.zero_mul, Nat.zero_add]

theorem before_toNat {k : ℕ} (hk : k < 16) (x : S16.Idx) : (before lanes k x).toNat = (x 0).val - k := by
  have hx : (x 0).val < 16 := (x 0).isLt
  have : before lanes k x = BitVec.ofNat 32 ((x 0).val - k) := by
    unfold before
    show IntOp.maxsi (IntOp.subi (lanes x) (BitVec.ofNat 32 k)) (BitVec.ofNat 32 0) = _
    rw [lanes_apply, before_small hx hk]
  rw [this, BitVec.toNat_ofNat]; omega

theorem after_toNat {k : ℕ} (hk : k < 16) (x : S16.Idx) : (after lanes k x).toNat = min ((x 0).val + k) 15 := by
  have hx : (x 0).val < 16 := (x 0).isLt
  have : after lanes k x = BitVec.ofNat 32 (min ((x 0).val + k) 15) := by
    unfold after
    show IntOp.minsi (IntOp.addi (lanes x) (BitVec.ofNat 32 k)) (BitVec.ofNat 32 15) = _
    rw [lanes_apply, after_small hx hk]
  rw [this, BitVec.toNat_ofNat]; omega

theorem bumpB_apply {D : ℕ → BitVec 32} {d g e : IVec S16 32} {k : ℕ} (hk : k < 16) (hd : ∀ x, d x = D (x 0).val)
    (hg : ∀ x, g x = D ((x 0).val - k)) (x : S16.Idx) :
    bumpB lanes d k g e x = e x + BitVec.ofNat 32 (if k ≤ (x 0).val ∧ D ((x 0).val - k) = D (x 0).val then 1 else 0) := by
  have hx : (x 0).val < 16 := (x 0).isLt
  unfold bumpB
  show e x + (if IntOp.andi (IntOp.cmpi .sge (lanes x) (BitVec.ofNat 32 k)) (IntOp.cmpi .eq (g x) (d x)) = 1 then 1#32 else 0#32) = _
  congr 1
  have : (IntOp.andi (IntOp.cmpi .sge (lanes x) (BitVec.ofNat 32 k)) (IntOp.cmpi .eq (g x) (d x)) = 1)
      ↔ (k ≤ (x 0).val ∧ D ((x 0).val - k) = D (x 0).val) := by
    rw [andi_eq_one, cmpi_eq_one, lanes_apply, sle_small (by omega) (by omega), ofBool_eq_one, decide_eq_true_iff, hg, hd]
  by_cases hc : k ≤ (x 0).val ∧ D ((x 0).val - k) = D (x 0).val
  · rw [if_pos (this.mpr hc), if_pos hc]
  · rw [if_neg (fun hh => hc (this.mp hh)), if_neg hc]

theorem bumpA_apply {D : ℕ → BitVec 32} {d g e : IVec S16 32} {k : ℕ} (hk : k < 16) (hd : ∀ x, d x = D (x 0).val)
    (hg : ∀ x, g x = D (min ((x 0).val + k) 15)) (x : S16.Idx) :
    bumpA lanes d k g e x = e x + BitVec.ofNat 32 (if (x 0).val ≤ 15 - k ∧ D (min ((x 0).val + k) 15) = D (x 0).val then 1 else 0) := by
  have hx : (x 0).val < 16 := (x 0).isLt
  unfold bumpA
  show e x + (if IntOp.andi (IntOp.cmpi .sle (lanes x) (BitVec.ofNat 32 (15 - k))) (IntOp.cmpi .eq (g x) (d x)) = 1 then 1#32 else 0#32) = _
  congr 1
  have : (IntOp.andi (IntOp.cmpi .sle (lanes x) (BitVec.ofNat 32 (15 - k))) (IntOp.cmpi .eq (g x) (d x)) = 1)
      ↔ ((x 0).val ≤ 15 - k ∧ D (min ((x 0).val + k) 15) = D (x 0).val) := by
    rw [andi_eq_one, cmpi_eq_one, lanes_apply, sle_small' (by omega) (by omega), ofBool_eq_one, decide_eq_true_iff, hg, hd]
  by_cases hc : (x 0).val ≤ 15 - k ∧ D (min ((x 0).val + k) 15) = D (x 0).val
  · rw [if_pos (this.mpr hc), if_pos hc]
  · rw [if_neg (fun hh => hc (this.mp hh)), if_neg hc]

theorem wp_ranks {t : Memref sig .scVector .vmem S16 .i32} {d : IVec S16 32} {D : ℕ → BitVec 32} (hd : ∀ x, d x = D (x 0).val) :
    ∀ (n k : ℕ) (_ : k + n ≤ 16) (eb ea : IVec S16 32) (K : IVec S16 32 × IVec S16 32 → TProg F i α),
    (Has dv i t fullShare D : sProp 𝕄)
      ⊢ iprop((Has dv i t fullShare D -∗ wp frame (wpE defs 𝒱 (tile dv i) bd) Set.univ
            (K (fun x => eb x + BitVec.ofNat 32 (cntB D (x 0).val k n), fun x => ea x + BitVec.ofNat 32 (cntA D (x 0).val k n))) Q)
        -∗ wp frame (wpE defs 𝒱 (tile dv i) bd) Set.univ (ranks i h t lanes d k n eb ea >>= K) Q) := by
  intro n
  induction n with
  | zero =>
    intro k _ eb ea K
    unfold ranks
    rw [pure_bind, show (fun x : S16.Idx => eb x + BitVec.ofNat 32 (cntB D (x 0).val k 0)) = eb from funext fun x => BitVec.add_zero _,
      show (fun x : S16.Idx => ea x + BitVec.ofNat 32 (cntA D (x 0).val k 0)) = ea from funext fun x => BitVec.add_zero _]
    iintro H HK
    iapply HK; iexact H
  | succ n ih =>
    intro k hk eb ea K
    unfold ranks
    rw [bind_assoc]
    iintro H HK
    iapply (wp_probe 𝒱 bd h dv (fun x => by rw [before_toNat (by omega)]; have := (x 0).isLt; change (x 0).val < 16 at this; omega)) $$ H
    iintro H
    rw [bind_assoc]
    iapply (wp_probe 𝒱 bd h dv (fun x => by rw [after_toNat (by omega)]; omega)) $$ H
    iintro H
    iapply (ih (k + 1) (by omega) _ _ K) $$ H
    iintro H
    have e1 : (fun x : S16.Idx => bumpB lanes d k (fun x => D (before lanes k x).toNat) eb x + BitVec.ofNat 32 (cntB D (x 0).val (k + 1) n))
        = fun x => eb x + BitVec.ofNat 32 (cntB D (x 0).val k (n + 1)) := by
      funext x
      rw [bumpB_apply (by omega) hd (fun x => by rw [before_toNat (by omega)]), BitVec.add_assoc, ← BitVec.ofNat_add, cntB]
    have e2 : (fun x : S16.Idx => bumpA lanes d k (fun x => D (after lanes k x).toNat) ea x + BitVec.ofNat 32 (cntA D (x 0).val (k + 1) n))
        = fun x => ea x + BitVec.ofNat 32 (cntA D (x 0).val k (n + 1)) := by
      funext x
      rw [bumpA_apply (by omega) hd (fun x => by rw [after_toNat (by omega)]), BitVec.add_assoc, ← BitVec.ofNat_add, cntA]
    rw [← e1, ← e2]
    iapply HK; iexact H

/-- Of each lane, how many lanes before it hold its digit. -/
def seen (D : ℕ → BitVec 32) : IVec S16 32 := fun x => BitVec.ofNat 32 (count (fun j => D j = D (x 0).val) (x 0).val)

open Classical in
/-- The last lane of each digit. -/
def final (D : ℕ → BitVec 32) : IVec S16 1 := fun x => BitVec.ofBool (decide (∀ j, (x 0).val < j → j < 16 → D j ≠ D (x 0).val))

theorem ofNat_eq_zero {n : ℕ} (hn : n < 64) : BitVec.ofNat 32 n = 0#32 ↔ n = 0 := by
  constructor
  · intro hh
    have := congrArg BitVec.toNat hh
    simp only [BitVec.toNat_ofNat] at this
    omega
  · intro hh; rw [hh]

open Classical in
theorem wp_ranked {t : Memref sig .scVector .vmem S16 .i32} {d : IVec S16 32} {D a : ℕ → BitVec 32} (hd : ∀ x, d x = D (x 0).val)
    (K : IVec S16 32 × IVec S16 1 → TProg F i α) :
    (Has dv i t fullShare a : sProp 𝕄)
      ⊢ iprop((Has dv i t fullShare D -∗ wp frame (wpE defs 𝒱 (tile dv i) bd) Set.univ (K (seen D, final D)) Q)
        -∗ wp frame (wpE defs 𝒱 (tile dv i) bd) Set.univ (ranked i h t lanes d >>= K) Q) := by
  unfold ranked
  rw [bind_assoc]
  iintro H HK
  iapply (wp_put 𝒱 bd dv hd) $$ H
  iintro H
  rw [bind_assoc]
  iapply (wp_ranks 𝒱 bd h dv hd 15 1 (by omega)) $$ H
  iintro H
  rw [pure_bind]
  have e1 : (fun x : S16.Idx => (broadcast S16 0#32 : IVec S16 32) x + BitVec.ofNat 32 (cntB D (x 0).val 1 15)) = seen D := by
    funext x
    have hx : (x 0).val < 16 := (x 0).isLt
    rw [cntB_eq D _ 15 1 le_rfl (by omega)]
    exact BitVec.zero_add _
  have e2 : (cmpi .eq (fun x : S16.Idx => (broadcast S16 0#32 : IVec S16 32) x + BitVec.ofNat 32 (cntA D (x 0).val 1 15)) (broadcast S16 0#32) : IVec S16 1) = final D := by
    funext x
    have hx : (x 0).val < 16 := (x 0).isLt
    have hle := cntA_le D (x 0).val 15 1
    show IntOp.cmpi .eq (0#32 + BitVec.ofNat 32 (cntA D (x 0).val 1 15)) 0#32 = _
    rw [BitVec.zero_add]
    refine congrArg BitVec.ofBool (Bool.eq_iff_iff.mpr ?_)
    refine beq_iff_eq.trans (Iff.trans ?_ decide_eq_true_iff.symm)
    exact (ofNat_eq_zero (lt_of_le_of_lt hle (by omega))).trans (cntA_last D hx)
  rw [e1, e2]
  iapply HK; iexact H

/-! ## Sixteen keys -/

open Classical in
/-- What the last lanes of each digit add to a digit's count. -/
theorem added (sh : BitVec 32) (a : ℕ → BitVec 32) (o j : ℕ) {d : IVec S16 32} (hd : ∀ x, d x = digW sh (a (o + (x 0).val))) :
    ((List.finRange 16).map fun x => if final (fun l => digW sh (a (o + l))) (laneOf 16 x) = 1 ∧ (d (laneOf 16 x)).toNat = j
        then (addi (seen fun l => digW sh (a (o + l))) (broadcast S16 1#32) (laneOf 16 x) : BitVec 32) else 0).sum
      = BitVec.ofNat 32 (count (fun l => dig sh (a (o + l)) = j) 16) := by
  have hs := sum_last (fun l => dig sh (a (o + l))) 16 j 16 le_rfl
  have hn : ¬∃ l, 16 ≤ l ∧ l < 16 ∧ dig sh (a (o + l)) = j := by rintro ⟨l, h1, h2, _⟩; omega
  rw [if_neg hn] at hs
  rw [← hs, ← List.map_coe_finRange_eq_range, List.map_map]
  congr 1
  refine List.map_congr_left fun x _ => ?_
  have hc : final (fun l => digW sh (a (o + l))) (laneOf 16 x) = 1 ↔ ∀ j, x.val < j → j < 16 → dig sh (a (o + j)) ≠ dig sh (a (o + x.val)) := by
    unfold final
    refine ofBool_eq_one.trans (decide_eq_true_iff.trans ?_)
    exact forall_congr' fun j => forall_congr' fun _ => forall_congr' fun _ => not_congr digW_eq_iff
  have hj : (d (laneOf 16 x)).toNat = dig sh (a (o + x.val)) := by rw [hd]; rfl
  have hv : (addi (seen fun l => digW sh (a (o + l))) (broadcast S16 1#32) (laneOf 16 x) : BitVec 32)
      = BitVec.ofNat 32 (count (fun j => dig sh (a (o + j)) = dig sh (a (o + x.val))) x.val) + 1 := by
    show BitVec.ofNat 32 (count _ _) + 1#32 = _
    congr 2
    exact count_congr fun j _ => digW_eq_iff
  rw [hv]
  refine if_congr ?_ rfl rfl
  rw [hc, hj]

theorem wp_histBody {keys : Memref sig .scVector .vmem S6272 .i32} {hist : Memref sig .scVector .vmem S2048 .i32}
    {t : Memref sig .scVector .vmem S16 .i32} {sh : BitVec 32} {off : Fin 1 → ℕ} {hoff : ∀ a, off a + S16.size a ≤ S6272.size a}
    {q : PosShare TreeShare} {a H H' : ℕ → BitVec 32}
    (hH : ∀ j, H' j = H j + BitVec.ofNat 32 (count (fun l => dig sh (a (off 0 + l)) = j) 16)) :
    (iprop(Has dv i keys q a ∗ Has dv i hist fullShare H ∗ ∃ b, Has dv i t fullShare b) : sProp 𝕄)
      ⊢ wp frame (wpE defs 𝒱 (tile dv i) bd) Set.univ (histBody i h keys hist t lanes sh off hoff)
          (fun _ => iprop(Has dv i keys q a ∗ Has dv i hist fullShare H' ∗ ∃ b, Has dv i t fullShare b)) := by
  unfold histBody
  iintro ⟨Hk, Hh, %b, Ht⟩
  iapply (wp_read 𝒱 bd dv) $$ Hk
  iintro Hk
  have hd : ∀ x : S16.Idx, digit sh (fun x : S16.Idx => a (off 0 + (x 0).val)) x = digW sh (a (off 0 + (x 0).val)) := fun x => rfl
  rw [wp_known 𝒱 bd dv (named (v := digit sh fun x : S16.Idx => a (off 0 + (x 0).val)) fun x => dig_lt sh (a (off 0 + (x 0).val)))]
  iapply (wp_ranked 𝒱 bd h dv (D := fun l => digW sh (a (off 0 + l))) hd) $$ Ht
  iintro Ht
  iapply (holds_addIdx (F := F) 𝒱 (tile dv i) bd (m := hist)) $$ Hh
  iintro Hh
  ihave Hh := (part_mono (F := F) (e := .i32) (tile dv i) (m := hist) (b := H') (fun _ _ => Iff.rfl)
    (fun j _ _ => (congrArg (H j + ·) (added sh a (off 0) j hd)).trans (hH j).symm)) $$ Hh
  rw [wp_pure]
  imodintro
  isplitl [Hk]; · iexact Hk
  isplitl [Hh]; · iexact Hh
  iexists _; iexact Ht

theorem wp_permBody {keys pos : Memref sig .scVector .vmem S6272 .i32} {base : Memref sig .scVector .vmem S2048 .i32}
    {t : Memref sig .scVector .vmem S16 .i32} {sh : BitVec 32} {off : Fin 1 → ℕ} {hoff : ∀ a, off a + S16.size a ≤ S6272.size a}
    {q : PosShare TreeShare} {a p p' B B' : ℕ → BitVec 32}
    (hB : ∀ j, B' j = B j + BitVec.ofNat 32 (count (fun l => dig sh (a (off 0 + l)) = j) 16))
    (hp : ∀ l < 16, p' (off 0 + l) = B (dig sh (a (off 0 + l))) + BitVec.ofNat 32 (count (fun j => dig sh (a (off 0 + j)) = dig sh (a (off 0 + l))) l))
    (hp' : ∀ j < 6272, ¬(off 0 ≤ j ∧ j < off 0 + 16) → p' j = p j) :
    (iprop(Has dv i keys q a ∗ Has dv i pos fullShare p ∗ Has dv i base fullShare B ∗ ∃ b, Has dv i t fullShare b) : sProp 𝕄)
      ⊢ wp frame (wpE defs 𝒱 (tile dv i) bd) Set.univ (permBody i h keys pos base t lanes sh off hoff)
          (fun _ => iprop(Has dv i keys q a ∗ Has dv i pos fullShare p' ∗ Has dv i base fullShare B' ∗ ∃ b, Has dv i t fullShare b)) := by
  unfold permBody
  iintro ⟨Hk, Hp, Hb, %b, Ht⟩
  iapply (wp_read 𝒱 bd dv) $$ Hk
  iintro Hk
  have hd : ∀ x : S16.Idx, digit sh (fun x : S16.Idx => a (off 0 + (x 0).val)) x = digW sh (a (off 0 + (x 0).val)) := fun x => rfl
  have hn := named (i := i) (n := 2048) (v := digit sh fun x : S16.Idx => a (off 0 + (x 0).val)) fun x => dig_lt sh (a (off 0 + (x 0).val))
  rw [wp_known 𝒱 bd dv (show NamedTwice i _ from ⟨hn, hn⟩)]
  iapply (wp_ranked 𝒱 bd h dv (D := fun l => digW sh (a (off 0 + l))) hd) $$ Ht
  iintro Ht
  iapply (holds_loadIdx (F := F) (e := .i32) 𝒱 (tile dv i) bd (m := base)) $$ Hb
  iintro Hb
  iapply (holds_addIdx (F := F) 𝒱 (tile dv i) bd (m := base)) $$ Hb
  iintro Hb
  ihave Hb := (part_mono (F := F) (e := .i32) (tile dv i) (m := base) (b := B') (fun _ _ => Iff.rfl)
    (fun j _ _ => (congrArg (B j + ·) (added sh a (off 0) j hd)).trans (hB j).symm)) $$ Hb
  iapply (wp_read 𝒱 bd dv) $$ Hp
  iintro Hp
  iapply (wp_write 𝒱 bd dv (b := p') ?_ hp') $$ Hp
  · intro x
    rw [hp _ (x 0).isLt]
    show B _ + BitVec.ofNat 32 (count _ _) = _
    congr 2
    exact count_congr fun j _ => digW_eq_iff
  iintro Hp
  rw [wp_pure]
  imodintro
  isplitl [Hk]; · iexact Hk
  isplitl [Hp]; · iexact Hp
  isplitl [Hb]; · iexact Hb
  iexists _; iexact Ht

theorem wp_zeroBody {hist : Memref sig .scVector .vmem S2048 .i32} {off : Fin 1 → ℕ} {hoff : ∀ a, off a + S16.size a ≤ S2048.size a}
    {a b : ℕ → BitVec 32} (h0 : ∀ l < 16, b (off 0 + l) = 0) (h1 : ∀ j < 2048, ¬(off 0 ≤ j ∧ j < off 0 + 16) → b j = a j) :
    (Has dv i hist fullShare a : sProp 𝕄)
      ⊢ wp frame (wpE defs 𝒱 (tile dv i) bd) Set.univ (zeroBody i hist off hoff) (fun _ => Has dv i hist fullShare b) := by
  unfold zeroBody
  iintro H
  iapply (wp_read 𝒱 bd dv) $$ H
  iintro H
  iapply (wp_write 𝒱 bd dv (b := b) (fun x => (h0 _ (x 0).isLt).symm) h1) $$ H
  iintro H
  rw [wp_pure]
  imodintro
  iexact H

theorem clamp_small {n : ℕ} (hn : n < 100352) : IntOp.minsi 100351#32 (IntOp.maxsi 0#32 (BitVec.ofNat 32 n)) = BitVec.ofNat 32 n := by
  have ht : (BitVec.ofNat 32 n).toInt = n := by
    rw [BitVec.toInt_eq_toNat_of_lt (by simp only [BitVec.toNat_ofNat]; omega)]
    simp only [BitVec.toNat_ofNat]; omega
  have h0 : (0#32 : BitVec 32).toInt = 0 := by decide
  have h1 : (100351#32 : BitVec 32).toInt = 100351 := by decide
  have e1 : IntOp.maxsi 0#32 (BitVec.ofNat 32 n) = BitVec.ofNat 32 n := by
    unfold IntOp.maxsi
    by_cases hs : (BitVec.ofNat 32 n).slt 0#32 = true
    · rw [BitVec.slt, decide_eq_true_iff, ht, h0] at hs; omega
    · rw [if_neg hs]
  rw [e1]
  unfold IntOp.minsi
  by_cases hs : (100351#32 : BitVec 32).slt (BitVec.ofNat 32 n) = true
  · rw [BitVec.slt, decide_eq_true_iff, ht, h1] at hs; omega
  · rw [if_neg hs]

theorem wp_clampBody {pos : Memref sig .scVector .vmem S6272 .i32} {off : Fin 1 → ℕ} {hoff : ∀ a, off a + S16.size a ≤ S6272.size a}
    {p : ℕ → BitVec 32} (hp : ∀ j < 6272, ∃ n < 100352, p j = BitVec.ofNat 32 n) :
    (Has dv i pos fullShare p : sProp 𝕄)
      ⊢ wp frame (wpE defs 𝒱 (tile dv i) bd) Set.univ (clampBody i pos off hoff) (fun _ => Has dv i pos fullShare p) := by
  unfold clampBody
  iintro H
  iapply (wp_read 𝒱 bd dv) $$ H
  iintro H
  iapply (wp_read 𝒱 bd dv) $$ H
  iintro H
  iapply (wp_write 𝒱 bd dv (b := p) ?_ (fun _ _ _ => rfl)) $$ H
  · intro x
    obtain ⟨n, hn, e⟩ := hp (off 0 + (x 0).val) (by have h1 := hoff 0; have h2 := (x 0).isLt; change off 0 + 16 ≤ 6272 at h1; change (x 0).val < 16 at h2; omega)
    show IntOp.minsi 100351#32 (IntOp.maxsi 0#32 (p (off 0 + (x 0).val))) = _
    rw [e, clamp_small hn]
  iintro H
  rw [wp_pure]
  imodintro
  iexact H

/-! ## Sixteen digits -/

theorem wp_sums {all : Memref sig .scVector .vmem S32768 .i32} {t : Fin k0_t6_loop.trips}
    {hoff : ∀ w a, rowAt t w a + S16.size a ≤ S32768.size a} {me : ℕ} (hme : me < 16) {q : PosShare TreeShare} {A : ℕ → BitVec 32}
    (hrow : ∀ w, rowAt t w 0 = 2048 * w.val + 16 * t.val)
    (K : IVec S16 32 × IVec S16 32 → TProg F i α) : ∀ (l : List (Fin 16)) (x y : IVec S16 32),
    (Has dv i all q A : sProp 𝕄)
      ⊢ iprop((Has dv i all q A -∗ wp frame (wpE defs 𝒱 (tile dv i) bd) Set.univ
            (K (fun z => l.foldl (fun s (w : Fin 16) => s + A (2048 * w.val + 16 * t.val + (z 0).val)) (x z),
              fun z => l.foldl (fun s (w : Fin 16) => s + if w.val < me then A (2048 * w.val + 16 * t.val + (z 0).val) else 0) (y z))) Q)
        -∗ wp frame (wpE defs 𝒱 (tile dv i) bd) Set.univ (sums i all t hoff (BitVec.ofNat 32 me) l x y >>= K) Q) := by
  intro l
  induction l with
  | nil =>
    intro x y
    unfold sums
    rw [pure_bind]
    iintro H HK
    iapply HK; iexact H
  | cons w l ih =>
    intro x y
    unfold sums
    rw [bind_assoc]
    iintro H HK
    iapply (wp_read 𝒱 bd dv) $$ H
    iintro H
    iapply (ih _ _) $$ H
    iintro H
    have e1 : ∀ z : S16.Idx, addi x (fun z : S16.Idx => A (rowAt t w 0 + (z 0).val)) z = x z + A (2048 * w.val + 16 * t.val + (z 0).val) := fun z => by
      rw [hrow]; rfl
    have e2 : ∀ z : S16.Idx, addi y (select (cmpi .slt (broadcast S16 (BitVec.ofNat 32 w.val)) (broadcast S16 (BitVec.ofNat 32 me)))
        (fun z : S16.Idx => A (rowAt t w 0 + (z 0).val)) (broadcast S16 0#32)) z
          = y z + if w.val < me then A (2048 * w.val + 16 * t.val + (z 0).val) else 0 := fun z => by
      rw [hrow]
      show y z + (if IntOp.cmpi .slt (BitVec.ofNat 32 w.val) (BitVec.ofNat 32 me) = 1 then _ else 0#32) = _
      rw [slt_small (by omega) (by omega)]
      congr 1
      by_cases hw : w.val < me
      · rw [if_pos hw, if_pos (by rw [ofBool_eq_one]; exact decide_eq_true hw)]
      · rw [if_neg hw, if_neg (by rw [ofBool_eq_one, decide_eq_true_iff]; exact hw)]; rfl
    simp only [e1, e2]
    iapply HK; iexact H

theorem wp_cums {b : Memref sig .scVector .vmem S16 .i32} {f : ℕ → BitVec 32} : ∀ (l : List ℕ) (n : ℕ) (x : IVec S16 32)
    (_ : ∀ z, x z = win f n (z 0).val) (m : ℕ) (_ : l.foldl (fun s k => if s = k ∧ k < 16 then s + k else 0) n = m) (_ : 0 < m)
    (K : IVec S16 32 → TProg F i α),
    (iprop(∃ a, Has dv i b fullShare a) : sProp 𝕄)
      ⊢ iprop((iprop(∃ a, Has dv i b fullShare a) -∗ wp frame (wpE defs 𝒱 (tile dv i) bd) Set.univ (K (fun z => win f m (z 0).val)) Q)
        -∗ wp frame (wpE defs 𝒱 (tile dv i) bd) Set.univ (cums i h b lanes l x >>= K) Q) := by
  intro l
  induction l with
  | nil =>
    intro n x hx m hm _ K
    obtain rfl : n = m := hm
    unfold cums
    rw [pure_bind, show x = fun z => win f n (z 0).val from funext hx]
    iintro H HK
    iapply HK; iexact H
  | cons k l ih =>
    intro n x hx m hm hpos K
    have hk : n = k ∧ k < 16 := by
      by_contra hc
      rw [List.foldl_cons, if_neg hc] at hm
      have : ∀ l : List ℕ, (∀ k ∈ l, k ≠ 0 ∨ True) → l.foldl (fun s k => if s = k ∧ k < 16 then s + k else 0) 0 = 0 := by
        intro l _
        induction l with
        | nil => rfl
        | cons k l ih =>
          rw [List.foldl_cons]
          by_cases h0 : 0 = k ∧ k < 16
          · rw [if_pos h0, ← h0.1]; exact ih (fun _ _ => Or.inr trivial)
          · rw [if_neg h0]; exact ih (fun _ _ => Or.inr trivial)
      rw [this l (fun _ _ => Or.inr trivial)] at hm
      omega
    rw [List.foldl_cons, if_pos hk] at hm
    obtain ⟨rfl, hk⟩ := hk
    unfold cums
    rw [bind_assoc]
    iintro ⟨%a, H⟩ HK
    iapply (wp_put 𝒱 bd dv (b := fun z => win f n z) hx) $$ H
    iintro H
    rw [bind_assoc]
    iapply (wp_probe 𝒱 bd h dv (fun x => by rw [before_toNat hk]; have := (x 0).isLt; change (x 0).val < 16 at this; omega)) $$ H
    iintro H
    iapply (ih (n + n) _ ?_ m hm hpos K) $$ [H]
    · intro z
      have hz : (z 0).val < 16 := (z 0).isLt
      show x z + (if IntOp.cmpi .sge (lanes z) (BitVec.ofNat 32 n) = 1 then win f n (before lanes n z).toNat else 0#32) = _
      rw [win_add, hx, before_toNat hk, lanes_apply, sle_small (by omega) (by omega)]
      congr 1
      by_cases hw : n ≤ (z 0).val
      · rw [if_pos hw, if_pos (by rw [ofBool_eq_one]; exact decide_eq_true hw)]
      · rw [if_neg hw, if_neg (by rw [ofBool_eq_one, decide_eq_true_iff]; exact hw)]; rfl
    · iexists _; iexact H
    iexact HK

theorem wp_scanBody {all : Memref sig .scVector .vmem S32768 .i32} {base : Memref sig .scVector .vmem S2048 .i32}
    {b : Memref sig .scVector .vmem S16 .i32} {t : Fin k0_t6_loop.trips} {hoff : ∀ w a, rowAt t w a + S16.size a ≤ S32768.size a}
    {hoff' : ∀ a, k0_off13 t a + S16.size a ≤ S2048.size a} {me : ℕ} (hme : me < 16) {q : PosShare TreeShare} {A : ℕ → BitVec 32}
    (hrow : ∀ w, rowAt t w 0 = 2048 * w.val + 16 * t.val) (hbase : k0_off13 t 0 = 16 * t.val) {carry : IVec S16 32}
    (hc : ∀ z, carry z = psum (tot A) (16 * t.val)) {B B' : ℕ → BitVec 32}
    (hB : ∀ l < 16, B' (16 * t.val + l) = start A me (16 * t.val + l)) (hB' : ∀ j < 2048, ¬(16 * t.val ≤ j ∧ j < 16 * t.val + 16) → B' j = B j) :
    (iprop(Has dv i all q A ∗ Has dv i base fullShare B ∗ ∃ a, Has dv i b fullShare a) : sProp 𝕄)
      ⊢ wp frame (wpE defs 𝒱 (tile dv i) bd) Set.univ (scanBody i h all base b lanes (BitVec.ofNat 32 me) t hoff hoff' carry)
          (fun carry' => iprop(⌜∀ z, carry' z = psum (tot A) (16 * (t.val + 1))⌝ ∗ Has dv i all q A ∗ Has dv i base fullShare B' ∗ ∃ a, Has dv i b fullShare a)) := by
  unfold scanBody
  iintro ⟨Ha, Hb, Ht⟩
  iapply (wp_sums 𝒱 bd dv hme hrow) $$ Ha
  iintro Ha
  have e1 : (fun z : S16.Idx => ([0, 1, 2, 3, 4, 5, 6, 7, 8, 9, 10, 11, 12, 13, 14, 15] : List (Fin 16)).foldl
      (fun s (w : Fin 16) => s + A (2048 * w.val + 16 * t.val + (z 0).val)) ((broadcast S16 0#32 : IVec S16 32) z)) = fun z => tot A (16 * t.val + (z 0).val) := by
    funext z
    simp only [tot, psum, ← Nat.add_assoc]; rfl
  have e2 : (fun z : S16.Idx => ([0, 1, 2, 3, 4, 5, 6, 7, 8, 9, 10, 11, 12, 13, 14, 15] : List (Fin 16)).foldl
      (fun s (w : Fin 16) => s + if w.val < me then A (2048 * w.val + 16 * t.val + (z 0).val) else 0) ((broadcast S16 0#32 : IVec S16 32) z))
        = fun z => low A me (16 * t.val + (z 0).val) := by
    funext z
    simp only [low, psum, ← Nat.add_assoc]; rfl
  rw [e1, e2]
  iapply (wp_cums 𝒱 bd h dv (f := fun l => tot A (16 * t.val + l)) [1, 2, 4, 8] 1 _ (fun z => (win_one _ _).symm) 16 (by decide) (by decide)) $$ Ht
  iintro ⟨%a, Ht⟩
  iapply (wp_put 𝒱 bd dv (b := fun z => win (fun l => tot A (16 * t.val + l)) 16 z) (fun _ => rfl)) $$ Ht
  iintro Ht
  iapply (wp_probe 𝒱 bd h dv (v := broadcast S16 15#32) (fun _ => (by decide : (15#32 : BitVec 32).toNat < 16))) $$ Ht
  iintro Ht
  iapply (wp_read 𝒱 bd dv) $$ Hb
  iintro Hb
  iapply (wp_write 𝒱 bd dv (b := B') ?_ (by rw [hbase]; exact hB')) $$ Hb
  · intro z
    have hz : (z 0).val < 16 := (z 0).isLt
    rw [hbase, hB _ hz]
    show (win (fun l => tot A (16 * t.val + l)) 16 (z 0).val - tot A (16 * t.val + (z 0).val) + carry z) + low A me (16 * t.val + (z 0).val) = _
    rw [win_all _ hz, psum, BitVec.add_sub_cancel, hc, start, psum_add, BitVec.add_comm (psum _ (z 0).val)]
  iintro Hb
  rw [wp_pure]
  imodintro
  isplitr
  · ipureintro
    intro z
    show carry z + win (fun l => tot A (16 * t.val + l)) 16 15 = _
    rw [hc, win_all _ (by decide), ← psum_add, Nat.mul_succ]
  isplitl [Ha]; · iexact Ha
  isplitl [Hb]; · iexact Hb
  iexists _; iexact Ht

end Cert.Proof.Steps
end
-- ==== Proof.Phases.lean ====
/-
  The two halves of a pass, from what a tile holds to what it holds afterwards.
-/
module

public import proofs.«01_k».proof.Proof.Steps

@[expose] public section

set_option synthInstance.maxSize 4096

noncomputable section

namespace Cert.Proof.Phases

open Idealize.ShloMosaic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof.Body Cert.Proof.Words Cert.Proof.Digits Cert.Proof.Steps

variable {F : FTy → Type} [BitOps F] {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond5 i = 1#1) (dv : Dev nD) {α : Type} {Q : α → sProp (MT nD τ sig Ix (Elt F) Name U Lvl)}

local notation "𝕄" => MT nD τ sig Ix (Elt F) Name U Lvl

/-- A window of a row of words. -/
abbrev Cut {sp : Space} {n : ℕ} (dv : Dev nD) (i : grid0.Coords) (m : Memref sig .scVector sp (Arr n) .i32) (o k : ℕ) (q : PosShare TreeShare) (a : ℕ → BitVec 32) :
    sProp (MT nD τ sig Ix (Elt F) Name U Lvl) :=
  Part (F := F) (e := .i32) (tile dv i) m (fun j => o ≤ j ∧ j < o + k) q a

theorem wp_loop {L : Scf.Loop 32} {σ : Type} (hok : L.OK) (init : σ) (body : Fin L.trips → σ → TProg F i σ) (I : ℕ → σ → sProp 𝕄)
    (hbody : ∀ k acc, I k.val acc ⊢ wp frame (wpE defs 𝒱 (tile dv i) bd) Set.univ (body k acc) (I (k.val + 1))) {K : σ → TProg F i α} :
    I 0 init ⊢ iprop((∀ acc, I L.trips acc -∗ wp frame (wpE defs 𝒱 (tile dv i) bd) Set.univ (K acc) Q)
      -∗ wp frame (wpE defs 𝒱 (tile dv i) bd) Set.univ (Scf.Loop.for L hok init body >>= K) Q) :=
  Scf.wp_for_bind frame (wpE defs 𝒱 (tile dv i) bd) Set.univ L.lb L.ub L.st hok init body I hbody

theorem wp_zeros {hist : Memref sig .scVector .vmem S2048 .i32} {K : BitVec 32 → TProg F i α} :
    (iprop(∃ a, Has dv i hist fullShare a) : sProp 𝕄)
      ⊢ iprop((∀ acc, Has dv i hist fullShare (fun _ => 0) -∗ wp frame (wpE defs 𝒱 (tile dv i) bd) Set.univ (K acc) Q)
        -∗ wp frame (wpE defs 𝒱 (tile dv i) bd) Set.univ
            (Scf.Loop.for k0_t4_loop (k0_t4_ok i h) (0#32 : BitVec 32) (fun t _ => zeroBody i hist (k0_off8 t) (k0_off8_inb i t h)) >>= K) Q) := by
  iintro ⟨%a, H⟩ HK
  iapply (wp_loop 𝒱 bd dv (k0_t4_ok i h) (0#32 : BitVec 32) _
    (fun t _ => iprop(Has dv i hist fullShare (fun j => if j < 16 * t then 0 else a j))) ?_) $$ [H]
  · intro t acc
    have ho : k0_off8 t 0 = 16 * t.val := by rw [k0_off8_eq]; rfl
    refine wp_zeroBody 𝒱 bd dv ?_ ?_
    · intro l hl; rw [ho, if_pos (by omega)]
    · intro j _ hn
      rw [ho] at hn
      by_cases hj : j < 16 * t.val
      · rw [if_pos hj, if_pos (by omega)]
      · rw [if_neg hj, if_neg (by omega)]
  · iapply (part_mono (F := F) (e := .i32) (tile dv i) (m := hist) (fun _ _ => Iff.rfl) (fun j hj _ => ?_)) $$ H
    rw [if_neg (by omega)]
  iintro %acc H
  iapply HK
  iapply (part_mono (F := F) (e := .i32) (tile dv i) (m := hist) (fun _ _ => Iff.rfl) (fun j hj _ => ?_)) $$ H
  rw [if_pos]
  rw [show k0_t4_loop.trips = 128 by decide +kernel]; omega

theorem wp_hist {keys : Memref sig .scVector .vmem S6272 .i32} {hist : Memref sig .scVector .vmem S2048 .i32}
    {b : Memref sig .scVector .vmem S16 .i32} {sh : BitVec 32} {q : PosShare TreeShare} {a : ℕ → BitVec 32} {K : BitVec 32 → TProg F i α} :
    (iprop(Has dv i keys q a ∗ Has dv i hist fullShare (fun _ => 0) ∗ ∃ x, Has dv i b fullShare x) : sProp 𝕄)
      ⊢ iprop((∀ acc, iprop(Has dv i keys q a ∗ Has dv i hist fullShare (fun j => BitVec.ofNat 32 (count (fun e => dig sh (a e) = j) 6272)) ∗ ∃ x, Has dv i b fullShare x)
            -∗ wp frame (wpE defs 𝒱 (tile dv i) bd) Set.univ (K acc) Q)
        -∗ wp frame (wpE defs 𝒱 (tile dv i) bd) Set.univ
            (Scf.Loop.for k0_t5_loop (k0_t5_ok i h) (0#32 : BitVec 32)
              (fun t _ => histBody i h keys hist b lanes sh (k0_off10 t) (k0_off10_inb i t h)) >>= K) Q) := by
  iintro ⟨Hk, Hh, Ht⟩ HK
  iapply (wp_loop 𝒱 bd dv (k0_t5_ok i h) (0#32 : BitVec 32) _
    (fun t _ => iprop(Has dv i keys q a ∗ Has dv i hist fullShare (fun j => BitVec.ofNat 32 (count (fun e => dig sh (a e) = j) (16 * t))) ∗ ∃ x, Has dv i b fullShare x)) ?_) $$ [Hk Hh Ht]
  · intro t acc
    have ho : k0_off10 t 0 = 16 * t.val := by rw [k0_off10_eq]; rfl
    refine wp_histBody 𝒱 bd h dv ?_
    intro j
    rw [ho, ← BitVec.ofNat_add, Nat.mul_succ, count_add]
  · isplitl [Hk]; · iexact Hk
    isplitl [Hh]; · iexact Hh
    iexact Ht
  iintro %acc H
  rw [show k0_t5_loop.trips = 392 by decide +kernel]
  iapply HK; iexact H

theorem wp_scan {all : Memref sig .scVector .vmem S32768 .i32} {base : Memref sig .scVector .vmem S2048 .i32}
    {b : Memref sig .scVector .vmem S16 .i32} {me : ℕ} (hme : me < 16) {q : PosShare TreeShare} {A : ℕ → BitVec 32} {K : IVec S16 32 → TProg F i α} :
    (iprop(Has dv i all q A ∗ (∃ x, Has dv i base fullShare x) ∗ ∃ x, Has dv i b fullShare x) : sProp 𝕄)
      ⊢ iprop((∀ acc, iprop(Has dv i all q A ∗ Has dv i base fullShare (start A me) ∗ ∃ x, Has dv i b fullShare x)
            -∗ wp frame (wpE defs 𝒱 (tile dv i) bd) Set.univ (K acc) Q)
        -∗ wp frame (wpE defs 𝒱 (tile dv i) bd) Set.univ
            (Scf.Loop.for k0_t6_loop (k0_t6_ok i h) (broadcast S16 0#32 : IVec S16 32)
              (fun t c => scanBody i h all base b lanes (BitVec.ofNat 32 me) t (fun w => k0_off12_inb i t h w) (k0_off13_inb i t h) c) >>= K) Q) := by
  iintro ⟨Ha, ⟨%B, Hb⟩, Ht⟩ HK
  iapply (wp_loop 𝒱 bd dv (k0_t6_ok i h) (broadcast S16 0#32 : IVec S16 32) _
    (fun t c => iprop(⌜∀ z, c z = psum (tot A) (16 * t)⌝ ∗ Has dv i all q A ∗ Has dv i base fullShare (fun j => if j < 16 * t then start A me j else B j)
      ∗ ∃ x, Has dv i b fullShare x)) ?_) $$ [Ha Hb Ht]
  · intro t acc
    iintro ⟨%hc, H⟩
    have hrow : ∀ w, rowAt t w 0 = 2048 * w.val + 16 * t.val := fun w => by
      show k0_off12 t (BitVec.ofNat 32 (2048 * w.val)) 0 = _
      rw [k0_off12_eq]; rfl
    have hbase : k0_off13 t 0 = 16 * t.val := by rw [k0_off13_eq]; rfl
    iapply (wp_scanBody 𝒱 bd h dv hme hrow hbase hc (B' := fun j => if j < 16 * (t.val + 1) then start A me j else B j) ?_ ?_) $$ H
    · intro l hl; rw [if_pos (by omega)]
    · intro j _ hn
      by_cases hj : j < 16 * t.val
      · rw [if_pos hj, if_pos (by omega)]
      · rw [if_neg hj, if_neg (by omega)]
  · isplitr
    · ipureintro; intro z; rfl
    isplitl [Ha]; · iexact Ha
    isplitl [Hb]
    · iapply (part_mono (F := F) (e := .i32) (tile dv i) (m := base) (fun _ _ => Iff.rfl) (fun j hj _ => ?_)) $$ Hb
      rw [if_neg (by omega)]
    iexact Ht
  iintro %acc ⟨%hc, Ha, Hb, Ht⟩
  iapply HK
  isplitl [Ha]; · iexact Ha
  isplitl [Hb]
  · iapply (part_mono (F := F) (e := .i32) (tile dv i) (m := base) (fun _ _ => Iff.rfl) (fun j hj _ => ?_)) $$ Hb
    rw [if_pos]
    rw [show k0_t6_loop.trips = 128 by decide +kernel]; omega
  iexact Ht

theorem wp_perm {keys pos : Memref sig .scVector .vmem S6272 .i32} {base : Memref sig .scVector .vmem S2048 .i32}
    {b : Memref sig .scVector .vmem S16 .i32} {sh : BitVec 32} {q : PosShare TreeShare} {a B p : ℕ → BitVec 32}
    (hp : ∀ e < 6272, p e = B (dig sh (a e)) + BitVec.ofNat 32 (count (fun j => dig sh (a j) = dig sh (a e)) e)) {K : BitVec 32 → TProg F i α} :
    (iprop(Has dv i keys q a ∗ (∃ x, Has dv i pos fullShare x) ∗ Has dv i base fullShare B ∗ ∃ x, Has dv i b fullShare x) : sProp 𝕄)
      ⊢ iprop((∀ acc, iprop(Has dv i keys q a ∗ Has dv i pos fullShare p ∗ (∃ x, Has dv i base fullShare x) ∗ ∃ x, Has dv i b fullShare x)
            -∗ wp frame (wpE defs 𝒱 (tile dv i) bd) Set.univ (K acc) Q)
        -∗ wp frame (wpE defs 𝒱 (tile dv i) bd) Set.univ
            (Scf.Loop.for k0_t7_loop (k0_t7_ok i h) (0#32 : BitVec 32)
              (fun t _ => permBody i h keys pos base b lanes sh (k0_off15 t) (k0_off15_inb i t h)) >>= K) Q) := by
  iintro ⟨Hk, ⟨%p0, Hp⟩, Hb, Ht⟩ HK
  iapply (wp_loop 𝒱 bd dv (k0_t7_ok i h) (0#32 : BitVec 32) _
    (fun t _ => iprop(Has dv i keys q a ∗ Has dv i pos fullShare (fun j => if j < 16 * t then p j else p0 j)
      ∗ Has dv i base fullShare (fun j => B j + BitVec.ofNat 32 (count (fun e => dig sh (a e) = j) (16 * t))) ∗ ∃ x, Has dv i b fullShare x)) ?_) $$ [Hk Hp Hb Ht]
  · intro t acc
    have ht : t.val < 392 := lt_of_lt_of_eq t.isLt (by decide +kernel)
    have ho : k0_off15 t 0 = 16 * t.val := by rw [k0_off15_eq]; rfl
    refine wp_permBody 𝒱 bd h dv ?_ ?_ ?_
    · intro j
      rw [ho, BitVec.add_assoc, ← BitVec.ofNat_add, Nat.mul_succ, count_add]
    · intro l hl
      rw [ho, if_pos (by omega), hp _ (by omega), BitVec.add_assoc, ← BitVec.ofNat_add, count_add]
    · intro j _ hn
      rw [ho] at hn
      by_cases hj : j < 16 * t.val
      · rw [if_pos hj, if_pos (by omega)]
      · rw [if_neg hj, if_neg (by omega)]
  · isplitl [Hk]; · iexact Hk
    isplitl [Hp]
    · iapply (part_mono (F := F) (e := .i32) (tile dv i) (m := pos) (fun _ _ => Iff.rfl) (fun j hj _ => ?_)) $$ Hp
      rw [if_neg (by omega)]
    isplitl [Hb]
    · iapply (part_mono (F := F) (e := .i32) (tile dv i) (m := base) (fun _ _ => Iff.rfl) (fun j hj _ => ?_)) $$ Hb
      exact (BitVec.add_zero _).symm
    iexact Ht
  iintro %acc ⟨Hk, Hp, Hb, Ht⟩
  iapply HK
  isplitl [Hk]; · iexact Hk
  isplitl [Hp]
  · iapply (part_mono (F := F) (e := .i32) (tile dv i) (m := pos) (fun _ _ => Iff.rfl) (fun j hj _ => ?_)) $$ Hp
    rw [if_pos]
    rw [show k0_t7_loop.trips = 392 by decide +kernel]; omega
  isplitl [Hb]; · iexists _; iexact Hb
  iexact Ht

theorem wp_clamp {pos : Memref sig .scVector .vmem S6272 .i32} {p : ℕ → BitVec 32} (hp : ∀ j < 6272, ∃ n < 100352, p j = BitVec.ofNat 32 n)
    {K : BitVec 32 → TProg F i α} :
    (Has dv i pos fullShare p : sProp 𝕄)
      ⊢ iprop((∀ acc, Has dv i pos fullShare p -∗ wp frame (wpE defs 𝒱 (tile dv i) bd) Set.univ (K acc) Q)
        -∗ wp frame (wpE defs 𝒱 (tile dv i) bd) Set.univ
            (Scf.Loop.for k0_t8_loop (k0_t8_ok i h) (0#32 : BitVec 32) (fun t _ => clampBody i pos (k0_off17 t) (k0_off17_inb i t h)) >>= K) Q) :=
  wp_loop 𝒱 bd dv (k0_t8_ok i h) (0#32 : BitVec 32) _ (fun _ _ => Has dv i pos fullShare p) (fun _ _ => wp_clampBody 𝒱 bd dv hp)

/-- What the tiles count of a row of keys: sixteen rows of 2048 counts. -/
def cntOf (sh : BitVec 32) (K : ℕ → BitVec 32) (j : ℕ) : BitVec 32 :=
  BitVec.ofNat 32 (count (fun e => dig sh (K (6272 * (j / 2048) + e)) = j % 2048) 6272)

theorem cntOf_at (sh : BitVec 32) (K : ℕ → BitVec 32) {w b : ℕ} (hb : b < 2048) :
    cntOf sh K (2048 * w + b) = BitVec.ofNat 32 (count (fun e => dig sh (K (6272 * w + e)) = b) 6272) := by
  unfold cntOf
  rw [show (2048 * w + b) / 2048 = w by omega, show (2048 * w + b) % 2048 = b by omega]

/-- A tile's semaphore at rest. -/
abbrev Rest (dv : Dev nD) (i : grid0.Coords) (s : DmaSem sig) : sProp (MT nD τ sig Ix (Elt F) Name U Lvl) := semVal (tile dv i, .dma s) 0

variable [Infinite Name] (EC : UEmb Counters (MT nD τ sig Ix (Elt F) Name U Lvl))

theorem wp_phaseA [EC.LandsIn (upEmb : UEmb _ 𝕄)] {src : Memref sig .scVector .shared S100352 .i32}
    {cnt : Memref sig .scVector .shared S32768 .i32}
    {keys : Memref sig .scVector .vmem S6272 .i32} {hkeys : keys.IsWhole} {hist : Memref sig .scVector .vmem S2048 .i32}
    {hhist : hist.IsWhole} {b : Memref sig .scVector .vmem S16 .i32} {s1 s2 : DmaSems sig S_} {sh : BitVec 32}
    {w : ℕ} (hw : (i 1).val = w) (ι : Ix) {O : CellTallies nD τ sig Ix} {ok : SemLoc sig × Ix → Prop} (hok : ∀ s, ok (.dma s, ι))
    {q : PosShare TreeShare} {K : ℕ → BitVec 32} {X : PUnit → TProg F i α} :
    (iprop(Cut dv i src (6272 * w) 6272 q K ∗ (∃ a, Cut dv i cnt (2048 * w) 2048 fullShare a) ∗ (∃ a, Has dv i keys fullShare a)
        ∗ (∃ a, Has dv i hist fullShare a) ∗ (∃ a, Has dv i b fullShare a) ∗ Rest dv i s1.sem ∗ Rest dv i s2.sem
        ∗ Debt (tile dv i) O ok ∗ Transfers.MayWaits (tile dv i) ι O) : sProp 𝕄)
      ⊢ iprop((iprop(Cut dv i src (6272 * w) 6272 q K ∗ Cut dv i cnt (2048 * w) 2048 fullShare (cntOf sh K) ∗ Has dv i keys fullShare (fun j => K (6272 * w + j))
            ∗ (∃ a, Has dv i hist fullShare a) ∗ (∃ a, Has dv i b fullShare a) ∗ Rest dv i s1.sem ∗ Rest dv i s2.sem ∗ Debt (tile dv i) O ok)
          -∗ wp frame (wpE defs 𝒱 (tile dv i) bd) Set.univ (X ⟨⟩) Q)
        -∗ wp frame (wpE defs 𝒱 (tile dv i) bd) Set.univ (phaseA i h src cnt keys hkeys hist hhist b s1 s2 sh >>= X) Q) := by
  have e9 : k0_off9 i 0 = 6272 * w := by rw [k0_off9_eq, ← hw]; rfl
  have e11 : k0_off11 i 0 = 2048 * w := by rw [k0_off11_eq, ← hw]; rfl
  unfold phaseA
  simp only [bind_assoc, pure_bind]
  iintro ⟨Hs, ⟨%c0, Hc⟩, ⟨%k0, Hk⟩, Hh, Hb, Hs1, Hs2, HD, #Hmw⟩ HX
  iapply (wp_zeros 𝒱 bd h dv) $$ Hh
  iintro %_ Hh
  ihave Hs := (Entails.of_eq (part_slice (F := F) (e := .i32) (tile dv i) (m := src) (b := fun j => K (6272 * w + j))
    (inb := k0_off9_inb i h) (h1 := fun _ => rfl) (6272 * w) e9 (fun _ _ => rfl))) $$ Hs
  ihave Hm1 := (Transfers.MayWaits.elim (.dma s1.sem)) $$ Hmw
  iapply (holds_copy (F := F) (e := .i32) 𝒱 (tile dv i) bd EC (by decide) ι (hok _)) $$ [Hs Hk Hs1 HD Hm1]
  · isplitl [Hs]; · iexact Hs
    isplitl [Hk]; · iexact Hk
    isplitl [Hs1]; · iexact Hs1
    isplitl [HD] <;> iassumption
  iintro ⟨Hs, Hk, Hs1, HD⟩
  iapply (wp_hist 𝒱 bd h dv) $$ [Hk Hh Hb]
  · isplitl [Hk]; · iexact Hk
    isplitl [Hh] <;> iassumption
  iintro %_ ⟨Hk, Hh, Hb⟩
  ihave Hc := (Entails.of_eq (part_slice (F := F) (e := .i32) (tile dv i) (m := cnt) (b := fun j => c0 (2048 * w + j))
    (inb := k0_off11_inb i h) (h1 := fun _ => rfl) (2048 * w) e11 (fun _ _ => rfl))) $$ Hc
  ihave Hm2 := (Transfers.MayWaits.elim (.dma s2.sem)) $$ Hmw
  iapply (holds_copy (F := F) (e := .i32) 𝒱 (tile dv i) bd EC (by decide) ι (hok _)) $$ [Hh Hc Hs2 HD Hm2]
  · isplitl [Hh]; · iexact Hh
    isplitl [Hc]; · iexact Hc
    isplitl [Hs2]; · iexact Hs2
    isplitl [HD] <;> iassumption
  iintro ⟨Hh, Hc, Hs2, HD⟩
  iapply HX
  isplitl [Hs]
  · iapply (Entails.of_eq (part_slice (F := F) (e := .i32) (tile dv i) (m := src) (b := fun j => K (6272 * w + j))
      (inb := k0_off9_inb i h) (h1 := fun _ => rfl) (6272 * w) e9 (fun _ _ => rfl)).symm) $$ Hs
  isplitl [Hc]
  · iapply (Entails.of_eq (part_slice (F := F) (e := .i32) (tile dv i) (m := cnt) (a := cntOf sh K)
      (inb := k0_off11_inb i h) (h1 := fun _ => rfl) (2048 * w) e11 (fun j hj => (cntOf_at sh K hj).symm)).symm) $$ Hc
  isplitl [Hk]; · iexact Hk
  isplitl [Hh]; · iexists _; iexact Hh
  isplitl [Hb]; · iexact Hb
  isplitl [Hs1]; · iexact Hs1
  isplitl [Hs2] <;> iassumption

theorem wp_phaseB [EC.LandsIn (upEmb : UEmb _ 𝕄)] {nums : Memref sig .scVector .shared S100352 .i32}
    {cnt : Memref sig .scVector .shared S32768 .i32} {hcnt : cnt.IsWhole} {dk dn : Memref sig .scVector .shared S100352 .i32}
    {keys : Memref sig .scVector .vmem S6272 .i32} {hkeys : keys.IsWhole} {mine : Memref sig .scVector .vmem S6272 .i32}
    {hmine : mine.IsWhole} {pos : Memref sig .scVector .vmem S6272 .i32} {base : Memref sig .scVector .vmem S2048 .i32}
    {hists : Memref sig .scVector .vmem S32768 .i32} {hhists : hists.IsWhole}
    {b : Memref sig .scVector .vmem S16 .i32} {s1 s2 s3 s4 : DmaSems sig S_} {sh : BitVec 32}
    (hc1 : ∀ s' : Shape, sig.dmaCredit .scVector (Kind.scVector.table .vmem) keys.view.buf s' .i32 = s'.numel * EltTy.i32.bits)
    (hc2 : ∀ s' : Shape, sig.dmaCredit .scVector (Kind.scVector.table .vmem) mine.view.buf s' .i32 = s'.numel * EltTy.i32.bits)
    (hc3 : ∀ s' : Shape, sig.dmaCredit .scVector (Kind.scVector.table .shared) dk.view.buf s' .i32 = s'.numel * EltTy.i32.bits)
    (hc4 : ∀ s' : Shape, sig.dmaCredit .scVector (Kind.scVector.table .shared) dn.view.buf s' .i32 = s'.numel * EltTy.i32.bits)
    {w : ℕ} (hw : (i 1).val = w) (ι : Ix) {O : CellTallies nD τ sig Ix} {ok : SemLoc sig × Ix → Prop} (hok : ∀ s, ok (.dma s, ι))
    {q q' : PosShare TreeShare} {A k I Kd Id : ℕ → BitVec 32} {p : ℕ → ℕ} (S : ℕ → Prop)
    (hp : ∀ e < 6272, BitVec.ofNat 32 (p e) = start A w (dig sh (k e)) + BitVec.ofNat 32 (count (fun j => dig sh (k j) = dig sh (k e)) e))
    (hlt : ∀ e < 6272, p e < 100352) (hinj : ∀ e < 6272, ∀ e' < 6272, p e = p e' → e = e')
    (hS : ∀ j, S j ↔ ∃ e < 6272, p e = j) (hK : ∀ e < 6272, Kd (p e) = k e) (hI : ∀ e < 6272, Id (p e) = I (6272 * w + e))
    {X : PUnit → TProg F i α} :
    (iprop(Has dv i cnt q A ∗ Cut dv i nums (6272 * w) 6272 q' I
        ∗ (∃ a, Part (F := F) (e := .i32) (tile dv i) dk S fullShare a) ∗ (∃ a, Part (F := F) (e := .i32) (tile dv i) dn S fullShare a)
        ∗ Has dv i keys fullShare k ∗ (∃ a, Has dv i mine fullShare a) ∗ (∃ a, Has dv i pos fullShare a) ∗ (∃ a, Has dv i base fullShare a)
        ∗ (∃ a, Has dv i hists fullShare a) ∗ (∃ a, Has dv i b fullShare a) ∗ Rest dv i s1.sem ∗ Rest dv i s2.sem ∗ Rest dv i s3.sem ∗ Rest dv i s4.sem
        ∗ Debt (tile dv i) O ok ∗ Transfers.MayWaits (tile dv i) ι O) : sProp 𝕄)
      ⊢ iprop((iprop(Has dv i cnt q A ∗ Cut dv i nums (6272 * w) 6272 q' I
            ∗ Part (F := F) (e := .i32) (tile dv i) dk S fullShare Kd ∗ Part (F := F) (e := .i32) (tile dv i) dn S fullShare Id
            ∗ (∃ a, Has dv i keys fullShare a) ∗ (∃ a, Has dv i mine fullShare a) ∗ (∃ a, Has dv i pos fullShare a) ∗ (∃ a, Has dv i base fullShare a)
            ∗ (∃ a, Has dv i hists fullShare a) ∗ (∃ a, Has dv i b fullShare a) ∗ Rest dv i s1.sem ∗ Rest dv i s2.sem ∗ Rest dv i s3.sem ∗ Rest dv i s4.sem
            ∗ Debt (tile dv i) O ok)
          -∗ wp frame (wpE defs 𝒱 (tile dv i) bd) Set.univ (X ⟨⟩) Q)
        -∗ wp frame (wpE defs 𝒱 (tile dv i) bd) Set.univ
            (phaseB i h nums cnt hcnt dk dn keys hkeys mine hmine pos base hists hhists b s1 s2 s3 s4 sh >>= X) Q) := by
  have e14 : k0_off14 i 0 = 6272 * w := by rw [k0_off14_eq, ← hw]; rfl
  have hw16 : w < 16 := hw ▸ (i 1).isLt
  have hnat : ∀ e < 6272, (BitVec.ofNat 32 (p e)).toNat = p e := fun e he => by
    have := hlt e he
    rw [BitVec.toNat_ofNat]; omega
  have h6272 : 0 < 6272 := by omega
  have hin : ∀ e < 6272, (BitVec.ofNat 32 (p e)).toNat < 100352 := fun e he => by rw [hnat e he]; exact hlt e he
  have hinj' : ∀ e < 6272, ∀ e' < 6272, (BitVec.ofNat 32 (p e)).toNat = (BitVec.ofNat 32 (p e')).toNat → e = e' := fun e he e' he' hh =>
    hinj e he e' he' (by rwa [hnat e he, hnat e' he'] at hh)
  have hS' : ∀ j, S j ↔ ∃ e < 6272, (BitVec.ofNat 32 (p e)).toNat = j := fun j =>
    (hS j).trans (exists_congr fun e => and_congr_right fun he => by rw [hnat e he])
  have hK' : ∀ e < 6272, Kd (BitVec.ofNat 32 (p e)).toNat = k e := fun e he => by rw [hnat e he]; exact hK e he
  have hI' : ∀ e < 6272, Id (BitVec.ofNat 32 (p e)).toNat = I (6272 * w + e) := fun e he => by rw [hnat e he]; exact hI e he
  unfold phaseB
  rw [hw]
  simp only [bind_assoc, pure_bind]
  iintro ⟨Hc, Hn, ⟨%a1, Hdk⟩, ⟨%a2, Hdn⟩, Hk, ⟨%a3, Hm⟩, Hp, Hba, ⟨%a4, Hhs⟩, Hb, Hs1, Hs2, Hs3, Hs4, HD, #Hmw⟩ HX
  ihave Hm1 := (Transfers.MayWaits.elim (.dma s1.sem)) $$ Hmw
  iapply (holds_copy (F := F) (e := .i32) 𝒱 (tile dv i) bd EC (by decide) ι (hok _)) $$ [Hc Hhs Hs1 HD Hm1]
  · isplitl [Hc]; · iexact Hc
    isplitl [Hhs]; · iexact Hhs
    isplitl [Hs1]; · iexact Hs1
    isplitl [HD] <;> iassumption
  iintro ⟨Hc, Hhs, Hs1, HD⟩
  iapply (wp_scan 𝒱 bd h dv hw16) $$ [Hhs Hba Hb]
  · isplitl [Hhs]; · iexact Hhs
    isplitl [Hba] <;> iassumption
  iintro %_ ⟨Hhs, Hba, Hb⟩
  ihave Hn := (Entails.of_eq (part_slice (F := F) (e := .i32) (tile dv i) (m := nums) (b := fun j => I (6272 * w + j))
    (inb := k0_off14_inb i h) (h1 := fun _ => rfl) (6272 * w) e14 (fun _ _ => rfl))) $$ Hn
  ihave Hm2 := (Transfers.MayWaits.elim (.dma s2.sem)) $$ Hmw
  iapply (holds_copy (F := F) (e := .i32) 𝒱 (tile dv i) bd EC (by decide) ι (hok _)) $$ [Hn Hm Hs2 HD Hm2]
  · isplitl [Hn]; · iexact Hn
    isplitl [Hm]; · iexact Hm
    isplitl [Hs2]; · iexact Hs2
    isplitl [HD] <;> iassumption
  iintro ⟨Hn, Hm, Hs2, HD⟩
  iapply (wp_perm 𝒱 bd h dv (p := fun e => BitVec.ofNat 32 (p e)) hp) $$ [Hk Hp Hba Hb]
  · isplitl [Hk]; · iexact Hk
    isplitl [Hp]; · iexact Hp
    isplitl [Hba] <;> iassumption
  iintro %_ ⟨Hk, Hp, Hba, Hb⟩
  iapply (wp_clamp 𝒱 bd h dv (fun j hj => ⟨p j, hlt j hj, rfl⟩)) $$ Hp
  iintro %_ Hp
  ihave Hdk := (Entails.of_eq (part_full (F := F) (e := .i32) (tile dv i) (m := dk) (q := fullShare) (P := S) (a := a1) (off := ![0]) rfl
    (inb := inb_S100352_S100352_0) (h1 := fun _ => rfl)).symm) $$ Hdk
  ihave Hm3 := (Transfers.MayWaits.elim (.dma s3.sem)) $$ Hmw
  iapply (part_scatter (F := F) (e := .i32) 𝒱 (tile dv i) bd EC (n := 100352) (k := 6272) (src := keys) (dst := Body.all dk) (offs := pos) h6272 hc1 hc3 ι (hok _)
    (b := a1) (b' := Kd) (a := k) (p := fun e => BitVec.ofNat 32 (p e)) S hin hinj' hS' hK') $$ [Hk Hdk Hp Hs3 HD Hm3]
  · isplitl [Hk]; · iexact Hk
    isplitl [Hdk]; · iexact Hdk
    isplitl [Hp]; · iexact Hp
    isplitl [Hs3]; · iexact Hs3
    isplitl [HD] <;> iassumption
  iintro ⟨Hk, Hdk, Hp, Hs3, HD⟩
  ihave Hdn := (Entails.of_eq (part_full (F := F) (e := .i32) (tile dv i) (m := dn) (q := fullShare) (P := S) (a := a2) (off := ![0]) rfl
    (inb := inb_S100352_S100352_0) (h1 := fun _ => rfl)).symm) $$ Hdn
  ihave Hm4 := (Transfers.MayWaits.elim (.dma s4.sem)) $$ Hmw
  iapply (part_scatter (F := F) (e := .i32) 𝒱 (tile dv i) bd EC (n := 100352) (k := 6272) (src := mine) (dst := Body.all dn) (offs := pos) h6272 hc2 hc4 ι (hok _)
    (b := a2) (b' := Id) (a := fun e => I (6272 * w + e)) (p := fun e => BitVec.ofNat 32 (p e)) S hin hinj' hS' hI') $$ [Hm Hdn Hp Hs4 HD Hm4]
  · isplitl [Hm]; · iexact Hm
    isplitl [Hdn]; · iexact Hdn
    isplitl [Hp]; · iexact Hp
    isplitl [Hs4]; · iexact Hs4
    isplitl [HD] <;> iassumption
  iintro ⟨Hm, Hdn, Hp, Hs4, HD⟩
  iapply HX
  isplitl [Hc]; · iexact Hc
  isplitl [Hn]
  · iapply (Entails.of_eq (part_slice (F := F) (e := .i32) (tile dv i) (m := nums) (b := fun j => I (6272 * w + j))
      (inb := k0_off14_inb i h) (h1 := fun _ => rfl) (6272 * w) e14 (fun _ _ => rfl)).symm) $$ Hn
  isplitl [Hdk]
  · iapply (Entails.of_eq (part_full (F := F) (e := .i32) (tile dv i) (m := dk) (q := fullShare) (P := S) (a := Kd) (off := ![0]) rfl
      (inb := inb_S100352_S100352_0) (h1 := fun _ => rfl))) $$ Hdk
  isplitl [Hdn]
  · iapply (Entails.of_eq (part_full (F := F) (e := .i32) (tile dv i) (m := dn) (q := fullShare) (P := S) (a := Id) (off := ![0]) rfl
      (inb := inb_S100352_S100352_0) (h1 := fun _ => rfl))) $$ Hdn
  isplitl [Hk]; · iexists _; iexact Hk
  isplitl [Hm]; · iexists _; iexact Hm
  isplitl [Hp]; · iexists _; iexact Hp
  isplitl [Hba]; · iexact Hba
  isplitl [Hhs]; · iexists _; iexact Hhs
  isplitl [Hb]; · iexact Hb
  isplitl [Hs1]; · iexact Hs1
  isplitl [Hs2]; · iexact Hs2
  isplitl [Hs3]; · iexact Hs3
  isplitl [Hs4] <;> iassumption

end Cert.Proof.Phases
end
-- ==== Proof.Stages.lean ====
/-
  The first stage's parts: a tile's scores to its keys and its elements' numbers.
-/
module

public import proofs.«01_k».proof.Proof.Phases

@[expose] public section

set_option synthInstance.maxSize 4096

noncomputable section

namespace Cert.Proof.Stages

open Idealize.ShloMosaic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof.Body Cert.Proof.Words Cert.Proof.Digits Cert.Proof.Steps Cert.Proof.Phases

variable {F : FTy → Type} [BitOps F] {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond5 i = 1#1) (dv : Dev nD) {α : Type} {Q : α → sProp (MT nD τ sig Ix (Elt F) Name U Lvl)}

local notation "𝕄" => MT nD τ sig Ix (Elt F) Name U Lvl

/-- The sort key of a score: its bits from above. -/
def keyOf (x : F .f32) : BitVec 32 := 1073741823#32 - (BitOps.toBits x : BitVec 32)

/-- The keys, with the padding after the scores. -/
def keys0 (s : ℕ → F .f32) (j : ℕ) : BitVec 32 := if j < 100000 then keyOf (s j) else 2147483647#32

/-- The elements' numbers. -/
def nums0 (j : ℕ) : BitVec 32 := BitVec.ofNat 32 j

/-- Some places of a row of scores in the tile's hands. -/
abbrev Some32 {sp : Space} {n : ℕ} (dv : Dev nD) (i : grid0.Coords) (m : Memref sig .scVector sp (Arr n) .f32) (P : ℕ → Prop) (q : PosShare TreeShare) (a : ℕ → F .f32) :
    sProp (MT nD τ sig Ix (Elt F) Name U Lvl) :=
  Part (F := F) (e := .f32) (tile dv i) m P q a

theorem wp_readf {n : ℕ} {m : Memref sig .scVector .vmem (Arr n) .f32} {off : Fin 1 → ℕ} {hoff : ∀ a, off a + S16.size a ≤ (Arr n).size a}
    {hl : m.view.LoadsAt (Rect.unit (s := Arr n) off S16.size hoff).toLoadRect} {K : Vec F S16 .f32 → TProg F i α} {q : PosShare TreeShare} {a : ℕ → F .f32}
    {P : ℕ → Prop} (hP : ∀ j < 16, P (off 0 + j)) :
    (Some32 dv i m P q a : sProp 𝕄)
      ⊢ iprop((Some32 dv i m P q a -∗ wp frame (wpE defs 𝒱 (tile dv i) bd) Set.univ (K fun x : S16.Idx => a (off 0 + (x 0).val)) Q)
        -∗ wp frame (wpE defs 𝒱 (tile dv i) bd) Set.univ (Prog.lift (.load m (Rect.unit (s := Arr n) off S16.size hoff).toLoadRect hl) >>= K) Q) :=
  part_load (F := F) (e := .f32) 𝒱 (tile dv i) bd hP

/-- A whole row of sixteen scores is replaced. -/
theorem wp_writef {m : Memref sig .scVector .vmem S16 .f32}
    {w : FVec F S16 .f32} {hx : (m.access (Rect.unit (s := S16) ![0] S16.size inb_S16_S16_0)).Stores Finset.univ} {hm} {K : PUnit → TProg F i α} :
    (iprop(∃ a, Some32 dv i m (fun _ => True) fullShare a) : sProp 𝕄)
      ⊢ iprop((iprop(∃ a, Some32 dv i m (fun _ => True) fullShare a) -∗ wp frame (wpE defs 𝒱 (tile dv i) bd) Set.univ (K ⟨⟩) Q)
        -∗ wp frame (wpE defs 𝒱 (tile dv i) bd) Set.univ (Prog.lift (.store m (Rect.unit (s := S16) ![0] S16.size inb_S16_S16_0) w Finset.univ hx hm) >>= K) Q) := by
  iintro ⟨%a, H⟩ HK
  iapply (part_store (F := F) (e := .f32) 𝒱 (tile dv i) bd (b := fun j => if hj : j < 16 then w (place j hj) else a j) (fun _ _ => trivial)
    (fun x => by
      have hx16 : (x 0).val < 16 := (x 0).isLt
      rw [show (![0] : Fin 1 → ℕ) 0 + (x 0).val = (x 0).val from Nat.zero_add _, dif_pos hx16]
      exact congrArg w (arr_ext rfl))
    (fun j hj _ hn => absurd ⟨Nat.zero_le _, by simpa using hj⟩ hn)) $$ H
  iintro H
  iapply HK
  iexists _; iexact H

/-! ## A tile's keys -/

/-- Sixteen scores to keys, and their numbers. -/
def keyBody (i : grid0.Coords) (h : k0_cond5 i = 1#1) (s : Memref sig .scVector .vmem S6272 .f32) (k n : Memref sig .scVector .vmem S6272 .i32)
    (t : Fin (k0_t1_loop i).trips) (acc : FVec F S16 .f32) : TProg F i (FVec F S16 .f32) := do
  let v56 : Vec F S16 .f32 ← Prog.lift (.load s (Rect.unit (s := S6272) (k0_off3 i t) S16.size (k0_off3_inb i t h)).toLoadRect (View.loadsAt_vmem h_S16))
  let _ : Vec F S16 .i32 ← Prog.lift (.load k (Rect.unit (s := S6272) (k0_off3 i t) S16.size (k0_off3_inb i t h)).toLoadRect (View.loadsAt_vmem h_S16))
  Prog.lift (.store k (Rect.unit (s := S6272) (k0_off3 i t) S16.size (k0_off3_inb i t h)) (k0_pay401 v56) Finset.univ (View.stores_vmem_bits_univ h_S16 rfl) (.inl rfl))
  let _ : Vec F S16 .i32 ← Prog.lift (.load n (Rect.unit (s := S6272) (k0_off3 i t) S16.size (k0_off3_inb i t h)).toLoadRect (View.loadsAt_vmem h_S16))
  Prog.lift (.store n (Rect.unit (s := S6272) (k0_off3 i t) S16.size (k0_off3_inb i t h)) (k0_pay402 i t) Finset.univ (View.stores_vmem_bits_univ h_S16 rfl) (.inl rfl))
  pure (k0_pay403 acc v56)

/-- Sixteen padding keys, and their numbers. -/
def padBody (i : grid0.Coords) (h : k0_cond5 i = 1#1) (h4 : k0_cond4 i = 1#1) (k n : Memref sig .scVector .vmem S6272 .i32)
    (t : Fin k0_t3_loop.trips) (_acc : BitVec 32) : TProg F i (BitVec 32) := do
  let _ : Vec F S16 .i32 ← Prog.lift (.load k (Rect.unit (s := S6272) (k0_off5 t) S16.size (k0_off5_inb i t h h4)).toLoadRect (View.loadsAt_vmem h_S16))
  Prog.lift (.store k (Rect.unit (s := S6272) (k0_off5 t) S16.size (k0_off5_inb i t h h4)) k0_pay407 Finset.univ (View.stores_vmem_bits_univ h_S16 rfl) (.inl rfl))
  let _ : Vec F S16 .i32 ← Prog.lift (.load n (Rect.unit (s := S6272) (k0_off5 t) S16.size (k0_off5_inb i t h h4)).toLoadRect (View.loadsAt_vmem h_S16))
  Prog.lift (.store n (Rect.unit (s := S6272) (k0_off5 t) S16.size (k0_off5_inb i t h h4)) (k0_pay408 i t) Finset.univ (View.stores_vmem_bits_univ h_S16 rfl) (.inl rfl))
  pure 0#32

theorem key_trips : ∀ i : grid0.Coords, (k0_t1_loop i).trips = if (i 1).val = 15 then 370 else 392 := by decide +kernel

theorem more_trips : ∀ i : grid0.Coords, (k0_t2_loop i).trips = 0 := by decide +kernel

theorem pad_trips : k0_t3_loop.trips = 22 := by decide +kernel

theorem num_apply (t : Fin (k0_t1_loop i).trips) (x : S16.Idx) : k0_pay402 i t x = BitVec.ofNat 32 (6272 * (i 1).val + (16 * t.val + (x 0).val)) := by
  show (BitVec.ofNat 32 (i 1).val * BitVec.ofNat 32 6272 + (BitVec.ofNat 32 0 + BitVec.ofNat 32 t.val * BitVec.ofNat 32 1) * BitVec.ofNat 32 16) + lanes x = _
  rw [lanes_apply]
  simp only [← BitVec.ofNat_mul, ← BitVec.ofNat_add]
  congr 1; omega

theorem padnum_apply (t : Fin k0_t3_loop.trips) (x : S16.Idx) : k0_pay408 i t x = BitVec.ofNat 32 (6272 * (i 1).val + (16 * t.val + 5920 + (x 0).val)) := by
  show (BitVec.ofNat 32 (i 1).val * BitVec.ofNat 32 6272 + (BitVec.ofNat 32 370 + BitVec.ofNat 32 t.val * BitVec.ofNat 32 1) * BitVec.ofNat 32 16) + lanes x = _
  rw [lanes_apply]
  simp only [← BitVec.ofNat_mul, ← BitVec.ofNat_add]
  congr 1; omega

theorem wp_keys {s : Memref sig .scVector .vmem S6272 .f32} {k n : Memref sig .scVector .vmem S6272 .i32} {w : ℕ} (hw : (i 1).val = w)
    {sc : ℕ → F .f32} {init : FVec F S16 .f32} {K : FVec F S16 .f32 → TProg F i α} {lim : ℕ} (hlim : lim = if w = 15 then 5920 else 6272) :
    (iprop(Some32 dv i s (fun j => j < lim) fullShare (fun j => sc (6272 * w + j)) ∗ (∃ a, Has dv i k fullShare a) ∗ ∃ a, Has dv i n fullShare a) : sProp 𝕄)
      ⊢ iprop((∀ acc, iprop(Some32 dv i s (fun j => j < lim) fullShare (fun j => sc (6272 * w + j))
            ∗ (∃ a, ⌜∀ j < lim, a j = keyOf (sc (6272 * w + j))⌝ ∗ Has dv i k fullShare a)
            ∗ ∃ a, ⌜∀ j < lim, a j = nums0 (6272 * w + j)⌝ ∗ Has dv i n fullShare a)
          -∗ wp frame (wpE defs 𝒱 (tile dv i) bd) Set.univ (K acc) Q)
        -∗ wp frame (wpE defs 𝒱 (tile dv i) bd) Set.univ (Scf.Loop.for (k0_t1_loop i) (k0_t1_ok i h) init (keyBody i h s k n) >>= K) Q) := by
  have htr : 16 * (k0_t1_loop i).trips = lim := by rw [key_trips, hw, hlim]; split <;> rfl
  iintro ⟨Hs, Hk, Hn⟩ HK
  iapply (wp_loop 𝒱 bd dv (k0_t1_ok i h) init _
    (fun t _ => iprop(Some32 dv i s (fun j => j < lim) fullShare (fun j => sc (6272 * w + j))
            ∗ (∃ a, ⌜∀ j < 16 * t, a j = keyOf (sc (6272 * w + j))⌝ ∗ Has dv i k fullShare a)
            ∗ ∃ a, ⌜∀ j < 16 * t, a j = nums0 (6272 * w + j)⌝ ∗ Has dv i n fullShare a)) ?_) $$ [Hs Hk Hn]
  · intro t acc
    have ho : k0_off3 i t 0 = 16 * t.val := by rw [k0_off3_eq]; rfl
    have ht := t.isLt
    unfold keyBody
    iintro ⟨Hs, ⟨%a, %ha, Hk⟩, ⟨%b, %hb, Hn⟩⟩
    iapply (wp_readf 𝒱 bd dv (P := fun j => j < lim) (fun j hj => by rw [ho]; omega)) $$ Hs
    iintro Hs
    iapply (wp_read 𝒱 bd dv) $$ Hk
    iintro Hk
    iapply (wp_write 𝒱 bd dv (b := fun j => if 16 * t.val ≤ j ∧ j < 16 * t.val + 16 then keyOf (sc (6272 * w + j)) else a j)
      (fun x => by
        have hx16 : (x 0).val < 16 := (x 0).isLt
        rw [ho, if_pos (by omega)]; rfl)
      (fun j _ hn => by rw [ho] at hn; rw [if_neg hn])) $$ Hk
    iintro Hk
    iapply (wp_read 𝒱 bd dv) $$ Hn
    iintro Hn
    iapply (wp_write 𝒱 bd dv (b := fun j => if 16 * t.val ≤ j ∧ j < 16 * t.val + 16 then nums0 (6272 * w + j) else b j)
      (fun x => by
        have hx16 : (x 0).val < 16 := (x 0).isLt
        rw [ho, if_pos (by omega), num_apply, hw]; rfl)
      (fun j _ hn => by rw [ho] at hn; rw [if_neg hn])) $$ Hn
    iintro Hn
    rw [wp_pure]
    imodintro
    isplitl [Hs]; · iexact Hs
    isplitl [Hk]
    · iexists (fun j => if 16 * t.val ≤ j ∧ j < 16 * t.val + 16 then keyOf (sc (6272 * w + j)) else a j)
      isplitr
      · ipureintro
        intro j hj
        by_cases hj' : 16 * t.val ≤ j
        · exact if_pos (And.intro hj' (by omega))
        · exact (if_neg (by omega)).trans (ha j (by omega))
      · iexact Hk
    · iexists (fun j => if 16 * t.val ≤ j ∧ j < 16 * t.val + 16 then nums0 (6272 * w + j) else b j)
      isplitr
      · ipureintro
        intro j hj
        by_cases hj' : 16 * t.val ≤ j
        · exact if_pos (And.intro hj' (by omega))
        · exact (if_neg (by omega)).trans (hb j (by omega))
      · iexact Hn
  · isplitl [Hs]; · iexact Hs
    isplitl [Hk]
    · icases Hk with ⟨%a, Hk⟩
      iexists a
      isplitr
      · ipureintro; intro j hj; omega
      · iexact Hk
    · icases Hn with ⟨%a, Hn⟩
      iexists a
      isplitr
      · ipureintro; intro j hj; omega
      · iexact Hn
  iintro %acc ⟨Hs, ⟨%a, %ha, Hk⟩, ⟨%b, %hb, Hn⟩⟩
  rw [htr] at ha hb
  iapply HK
  isplitl [Hs]; · iexact Hs
  isplitl [Hk]
  · iexists a
    isplitr
    · ipureintro; exact ha
    · iexact Hk
  · iexists b
    isplitr
    · ipureintro; exact hb
    · iexact Hn

theorem wp_pad {k n : Memref sig .scVector .vmem S6272 .i32} (h4 : k0_cond4 i = 1#1) {w : ℕ} (hw : (i 1).val = w)
    {K : BitVec 32 → TProg F i α} {a b : ℕ → BitVec 32} :
    (iprop(Has dv i k fullShare a ∗ Has dv i n fullShare b) : sProp 𝕄)
      ⊢ iprop((∀ acc, iprop(Has dv i k fullShare (fun j => if 5920 ≤ j then 2147483647#32 else a j)
            ∗ Has dv i n fullShare (fun j => if 5920 ≤ j then nums0 (6272 * w + j) else b j))
          -∗ wp frame (wpE defs 𝒱 (tile dv i) bd) Set.univ (K acc) Q)
        -∗ wp frame (wpE defs 𝒱 (tile dv i) bd) Set.univ (Scf.Loop.for k0_t3_loop (k0_t3_ok i h h4) 0#32 (padBody i h h4 k n) >>= K) Q) := by
  have htr : k0_t3_loop.trips = 22 := pad_trips
  iintro ⟨Hk, Hn⟩ HK
  iapply (wp_loop 𝒱 bd dv (k0_t3_ok i h h4) (0#32 : BitVec 32) _
    (fun t _ => iprop(Has dv i k fullShare (fun j => if 5920 ≤ j ∧ j < 5920 + 16 * t then 2147483647#32 else a j)
            ∗ Has dv i n fullShare (fun j => if 5920 ≤ j ∧ j < 5920 + 16 * t then nums0 (6272 * w + j) else b j))) ?_) $$ [Hk Hn]
  · intro t acc
    have ho : k0_off5 t 0 = 16 * t.val + 5920 := by rw [k0_off5_eq]; rfl
    unfold padBody
    iintro ⟨Hk, Hn⟩
    iapply (wp_read 𝒱 bd dv) $$ Hk
    iintro Hk
    iapply (wp_write 𝒱 bd dv (b := fun j => if 5920 ≤ j ∧ j < 5920 + 16 * (t.val + 1) then 2147483647#32 else a j)
      (fun x => by
        have hx16 : (x 0).val < 16 := (x 0).isLt
        rw [ho, if_pos (by omega)]; rfl)
      (fun j _ hn => by
        rw [ho] at hn
        by_cases hc : 5920 ≤ j ∧ j < 5920 + 16 * t.val
        · rw [if_pos hc, if_pos (by omega)]
        · rw [if_neg hc, if_neg (by omega)])) $$ Hk
    iintro Hk
    iapply (wp_read 𝒱 bd dv) $$ Hn
    iintro Hn
    iapply (wp_write 𝒱 bd dv (b := fun j => if 5920 ≤ j ∧ j < 5920 + 16 * (t.val + 1) then nums0 (6272 * w + j) else b j)
      (fun x => by
        have hx16 : (x 0).val < 16 := (x 0).isLt
        rw [ho, if_pos (by omega), padnum_apply, hw]; rfl)
      (fun j _ hn => by
        rw [ho] at hn
        by_cases hc : 5920 ≤ j ∧ j < 5920 + 16 * t.val
        · rw [if_pos hc, if_pos (by omega)]
        · rw [if_neg hc, if_neg (by omega)])) $$ Hn
    iintro Hn
    rw [wp_pure]
    imodintro
    isplitl [Hk] <;> iassumption
  · isplitl [Hk]
    · iapply (part_mono (F := F) (e := .i32) (tile dv i) (m := k) (fun _ _ => Iff.rfl) (fun j hj _ => ?_)) $$ Hk
      rw [if_neg (by omega)]
    · iapply (part_mono (F := F) (e := .i32) (tile dv i) (m := n) (fun _ _ => Iff.rfl) (fun j hj _ => ?_)) $$ Hn
      rw [if_neg (by omega)]
  iintro %acc ⟨Hk, Hn⟩
  iapply HK
  rw [htr]
  isplitl [Hk]
  · iapply (part_mono (F := F) (e := .i32) (tile dv i) (m := k) (fun _ _ => Iff.rfl) (fun j hj _ => ?_)) $$ Hk
    by_cases hc : 5920 ≤ j
    · rw [if_pos hc, if_pos (by omega)]
    · rw [if_neg hc, if_neg (by omega)]
  · iapply (part_mono (F := F) (e := .i32) (tile dv i) (m := n) (fun _ _ => Iff.rfl) (fun j hj _ => ?_)) $$ Hn
    by_cases hc : 5920 ≤ j
    · rw [if_pos hc, if_pos (by omega)]
    · rw [if_neg hc, if_neg (by omega)]

/-! ## Copies -/

theorem part_split {e : EltTy} {sp : Space} {n : ℕ} {m : Memref sig .scVector sp (Arr n) e} {q : PosShare TreeShare} {a : ℕ → Elt F e} {P : ℕ → Prop} (C : ℕ → Prop) :
    (Part (F := F) (tile dv i) m P q a : sProp 𝕄) ⊢ iprop(Part (F := F) (tile dv i) m (fun j => P j ∧ C j) q a ∗ Part (F := F) (tile dv i) m (fun j => P j ∧ ¬C j) q a) := by
  classical
  refine (part_classes (F := F) (tile dv i) P (fun j => decide (C j))).trans ?_
  rw [SparseCore.bigSep_erase' (Finset.mem_univ true), SparseCore.bigSep_erase' (i := false) (by decide)]
  iintro ⟨H, H', -⟩
  isplitl [H]
  · iapply (part_mono (F := F) (tile dv i) (m := m) (fun j _ => by rw [decide_eq_true_iff]) (fun _ _ _ => rfl)) $$ H
  · iapply (part_mono (F := F) (tile dv i) (m := m) (fun j _ => by rw [decide_eq_false_iff_not]) (fun _ _ _ => rfl)) $$ H'

open Classical in
theorem part_unsplit {e : EltTy} {sp : Space} {n : ℕ} {m : Memref sig .scVector sp (Arr n) e} {q : PosShare TreeShare} {a b : ℕ → Elt F e} {P : ℕ → Prop} (C : ℕ → Prop) :
    iprop(Part (F := F) (tile dv i) m (fun j => P j ∧ C j) q a ∗ Part (F := F) (tile dv i) m (fun j => P j ∧ ¬C j) q b)
      ⊢ (Part (F := F) (tile dv i) m P q (fun j => if C j then a j else b j) : sProp 𝕄) := by
  have hj := part_join (F := F) (tile dv i) (m := m) (q := q) (fun t : Bool => if t = true then a else b) P (fun j => decide (C j)) (Name := Name) (U := U) (Lvl := Lvl) (Ix := Ix)
  rw [SparseCore.bigSep_erase' (Finset.mem_univ true), SparseCore.bigSep_erase' (i := false) (by decide)] at hj
  iintro ⟨H, H'⟩
  iapply (part_mono (F := F) (tile dv i) (m := m) (P := P) (a := fun j => (if decide (C j) = true then a else b) j) (fun _ _ => Iff.rfl) (fun j _ _ => by
    by_cases hC : C j <;> simp [hC]))
  iapply hj
  isplitl [H]
  · iapply (part_mono (F := F) (tile dv i) (m := m) (fun j _ => by rw [decide_eq_true_iff]) (fun _ _ _ => rfl)) $$ H
  isplitl [H']
  · iapply (part_mono (F := F) (tile dv i) (m := m) (fun j _ => by rw [decide_eq_false_iff_not]) (fun _ _ _ => rfl)) $$ H'
  · rw [show (Finset.univ.erase true).erase false = (∅ : Finset Bool) by decide, bigSep_empty]
    iempintro

variable [Infinite Name] (EC : UEmb Counters (MT nD τ sig Ix (Elt F) Name U Lvl))

/-- A whole row copied out to a window of another. -/
theorem wp_give [EC.LandsIn (upEmb : UEmb _ 𝕄)] {e : EltTy} {sp sp' : Space} {n k : ℕ} (hk : 0 < k) {src : Memref sig .scVector sp' (Arr k) e} {dst : Memref sig .scVector sp (Arr n) e}
    {sem : DmaSem sig} {off : Fin 1 → ℕ} {inb : ∀ b, off b + (![k] : Fin 1 → ℕ) b ≤ (Arr n).size b} {g1 : ∀ b, (Rect.unit (s := Arr n) off ![k] inb).stride b = 1}
    {h1 h2 h3 h4 h5} {K : PUnit → TProg F i α} (ι : Ix) {O : CellTallies nD τ sig Ix} {ok : SemLoc sig × Ix → Prop} (hok : ok (.dma sem, ι))
    {q : PosShare TreeShare} {a b : ℕ → Elt F e} (o : ℕ) (ho : off 0 = o) (hab : ∀ j < k, a j = b (o + j)) :
    (iprop(Part (F := F) (tile dv i) src (fun _ => True) q a ∗ (∃ b, Part (F := F) (tile dv i) dst (fun j => o ≤ j ∧ j < o + k) fullShare b) ∗ Rest dv i sem
        ∗ Debt (tile dv i) O ok ∗ Transfers.MayWaits (tile dv i) ι O) : sProp 𝕄)
      ⊢ iprop((iprop(Part (F := F) (tile dv i) src (fun _ => True) q a ∗ Part (F := F) (tile dv i) dst (fun j => o ≤ j ∧ j < o + k) fullShare b ∗ Rest dv i sem
          ∗ Debt (tile dv i) O ok) -∗ wp frame (wpE defs 𝒱 (tile dv i) bd) Set.univ (K ⟨⟩) Q)
        -∗ wp frame (wpE defs 𝒱 (tile dv i) bd) Set.univ
          (Prog.lift (.enqueueDma src (.here (dst.slice (Rect.unit (s := Arr n) off ![k] inb) g1)) (.dma sem) h1 h2 h3)
            >>= fun _ => Prog.lift (.waitDma2 sem src (dst.slice (Rect.unit (s := Arr n) off ![k] inb) g1) h4 h5) >>= K) Q) := by
  iintro ⟨Hs, ⟨%d, Hd⟩, Hr, HD, #Hmw⟩ HK
  ihave Hd := (Entails.of_eq (part_slice (F := F) (tile dv i) (m := dst) (b := fun j => d (o + j)) (inb := inb) (h1 := g1) o ho (fun _ _ => rfl))) $$ Hd
  ihave Hm := (Transfers.MayWaits.elim (.dma sem)) $$ Hmw
  iapply (holds_copy (F := F) 𝒱 (tile dv i) bd EC hk ι hok) $$ [Hs Hd Hr HD Hm]
  · isplitl [Hs]; · iexact Hs
    isplitl [Hd]; · iexact Hd
    isplitl [Hr]; · iexact Hr
    isplitl [HD] <;> iassumption
  iintro ⟨Hs, Hd, Hr, HD⟩
  iapply HK
  isplitl [Hs]; · iexact Hs
  isplitl [Hd]
  · iapply (Entails.of_eq (part_slice (F := F) (tile dv i) (m := dst) (a := b) (inb := inb) (h1 := g1) o ho hab).symm) $$ Hd
  isplitl [Hr] <;> iassumption

/-- A window of a row copied in over a whole one. -/
theorem wp_take [EC.LandsIn (upEmb : UEmb _ 𝕄)] {e : EltTy} {sp sp' : Space} {n k : ℕ} (hk : 0 < k) {src : Memref sig .scVector sp (Arr n) e} {dst : Memref sig .scVector sp' (Arr k) e}
    {sem : DmaSem sig} {off : Fin 1 → ℕ} {inb : ∀ b, off b + (![k] : Fin 1 → ℕ) b ≤ (Arr n).size b} {g1 : ∀ b, (Rect.unit (s := Arr n) off ![k] inb).stride b = 1}
    {h1 h2 h3 h4 h5} {K : PUnit → TProg F i α} (ι : Ix) {O : CellTallies nD τ sig Ix} {ok : SemLoc sig × Ix → Prop} (hok : ok (.dma sem, ι))
    {q : PosShare TreeShare} {a : ℕ → Elt F e} (o : ℕ) (ho : off 0 = o) :
    (iprop(Part (F := F) (tile dv i) src (fun j => o ≤ j ∧ j < o + k) q a ∗ (∃ b, Part (F := F) (tile dv i) dst (fun _ => True) fullShare b) ∗ Rest dv i sem
        ∗ Debt (tile dv i) O ok ∗ Transfers.MayWaits (tile dv i) ι O) : sProp 𝕄)
      ⊢ iprop((iprop(Part (F := F) (tile dv i) src (fun j => o ≤ j ∧ j < o + k) q a ∗ Part (F := F) (tile dv i) dst (fun _ => True) fullShare (fun j => a (o + j)) ∗ Rest dv i sem
          ∗ Debt (tile dv i) O ok) -∗ wp frame (wpE defs 𝒱 (tile dv i) bd) Set.univ (K ⟨⟩) Q)
        -∗ wp frame (wpE defs 𝒱 (tile dv i) bd) Set.univ
          (Prog.lift (.enqueueDma (src.slice (Rect.unit (s := Arr n) off ![k] inb) g1) (.here dst) (.dma sem) h1 h2 h3)
            >>= fun _ => Prog.lift (.waitDma2 sem (src.slice (Rect.unit (s := Arr n) off ![k] inb) g1) dst h4 h5) >>= K) Q) := by
  iintro ⟨Hs, ⟨%d, Hd⟩, Hr, HD, #Hmw⟩ HK
  ihave Hs := (Entails.of_eq (part_slice (F := F) (tile dv i) (m := src) (b := fun j => a (o + j)) (inb := inb) (h1 := g1) o ho (fun _ _ => rfl))) $$ Hs
  ihave Hm := (Transfers.MayWaits.elim (.dma sem)) $$ Hmw
  iapply (holds_copy (F := F) 𝒱 (tile dv i) bd EC hk ι hok) $$ [Hs Hd Hr HD Hm]
  · isplitl [Hs]; · iexact Hs
    isplitl [Hd]; · iexact Hd
    isplitl [Hr]; · iexact Hr
    isplitl [HD] <;> iassumption
  iintro ⟨Hs, Hd, Hr, HD⟩
  iapply HK
  isplitl [Hs]
  · iapply (Entails.of_eq (part_slice (F := F) (tile dv i) (m := src) (b := fun j => a (o + j)) (inb := inb) (h1 := g1) o ho (fun _ _ => rfl)).symm) $$ Hs
  isplitl [Hd]; · iexact Hd
  isplitl [Hr] <;> iassumption

/-- A tile's scores copied in: sixteen times 392 of them, the last tile's sixteen times 370. -/
def fetch (i : grid0.Coords) (h : k0_cond5 i = 1#1) (scores : Memref sig .scVector .hbm S100000 .f32) (mine : Memref sig .scVector .vmem S6272 .f32)
    (hmine : mine.IsWhole) (s1 s2 : DmaSems sig S_) (X : PUnit.{1} → TProg F i PUnit.{1}) : TProg F i PUnit.{1} := do
  if h2 : k0_cond2 i = 1#1 then do
    Prog.lift (.enqueueDma (scores.slice (Rect.unit (s := S100000) (k0_off1 i) S6272.size (k0_off1_inb i h h2)) (fun _ => rfl)) (.here mine) (.dma s1.sem) (View.wordExact_bits rfl) hmine.wordExact ⟨Or.inl rfl, trivial⟩)
    Prog.lift (.waitDma2 s1.sem (scores.slice (Rect.unit (s := S100000) (k0_off1 i) S6272.size (k0_off1_inb i h h2)) (fun _ => rfl)) mine (View.wordExact_bits rfl) hmine.wordExact)
    pure ⟨⟩
  else do
    pure ⟨⟩
  if h3 : k0_cond3 i = 1#1 then do
    Prog.lift (.enqueueDma (scores.slice (Rect.unit (s := S100000) (k0_off2 i) S5920.size (k0_off2_inb i h h3)) (fun _ => rfl)) (.here (mine.slice (Rect.unit (s := S6272) ![0] S5920.size inb_S6272_S5920_0) (fun _ => rfl))) (.dma s2.sem) (View.wordExact_bits rfl) (View.wordExact_bits rfl) ⟨Or.inl rfl, trivial⟩)
    Prog.lift (.waitDma2 s2.sem (scores.slice (Rect.unit (s := S100000) (k0_off2 i) S5920.size (k0_off2_inb i h h3)) (fun _ => rfl)) (mine.slice (Rect.unit (s := S6272) ![0] S5920.size inb_S6272_S5920_0) (fun _ => rfl)) (View.wordExact_bits rfl) (View.wordExact_bits rfl))
    pure ⟨⟩
  else do
    pure ⟨⟩
  X ⟨⟩

theorem cond2_iff : ∀ i : grid0.Coords, k0_cond2 i = 1#1 ↔ (i 1).val ≠ 15 := by decide +kernel
theorem cond3_iff : ∀ i : grid0.Coords, k0_cond3 i = 1#1 ↔ (i 1).val = 15 := by decide +kernel
theorem cond4_iff : ∀ i : grid0.Coords, k0_cond4 i = 1#1 ↔ (i 1).val = 15 := by decide +kernel
theorem cond5_iff : ∀ i : grid0.Coords, k0_cond5 i = 1#1 ↔ (i 0).val = 0 := by decide +kernel
theorem cond11_iff : ∀ i : grid0.Coords, k0_cond11 i = 1#1 ↔ (i 0).val = 0 ∧ (i 1).val < 8 := by decide +kernel
theorem cond12_iff : ∀ i : grid0.Coords, k0_cond12 i = 1#1 ↔ (i 0).val = 0 ∧ (i 1).val = 0 := by decide +kernel

theorem wp_fetch [EC.LandsIn (upEmb : UEmb _ 𝕄)] {Q : PUnit.{1} → sProp (MT nD τ sig Ix (Elt F) Name U Lvl)} {scores : Memref sig .scVector .hbm S100000 .f32} {mine : Memref sig .scVector .vmem S6272 .f32}
    {hmine : mine.IsWhole} {s1 s2 : DmaSems sig S_} {w : ℕ} (hw : (i 1).val = w) {lim : ℕ} (hlim : lim = if w = 15 then 5920 else 6272)
    (ι : Ix) {O : CellTallies nD τ sig Ix} {ok : SemLoc sig × Ix → Prop} (hok : ∀ s, ok (.dma s, ι))
    {q : PosShare TreeShare} {sc : ℕ → F .f32} {X : PUnit.{1} → TProg F i PUnit.{1}} :
    (iprop(Some32 dv i scores (fun j => 6272 * w ≤ j ∧ j < 6272 * w + 6272) q sc ∗ (∃ a, Some32 dv i mine (fun _ => True) fullShare a)
        ∗ Rest dv i s1.sem ∗ Rest dv i s2.sem ∗ Debt (tile dv i) O ok ∗ Transfers.MayWaits (tile dv i) ι O) : sProp 𝕄)
      ⊢ iprop((iprop(Some32 dv i scores (fun j => 6272 * w ≤ j ∧ j < 6272 * w + 6272) q sc
            ∗ Some32 dv i mine (fun j => j < lim) fullShare (fun j => sc (6272 * w + j)) ∗ (∃ a, Some32 dv i mine (fun j => ¬j < lim) fullShare a)
            ∗ Rest dv i s1.sem ∗ Rest dv i s2.sem ∗ Debt (tile dv i) O ok) -∗ wp frame (wpE defs 𝒱 (tile dv i) bd) Set.univ (X ⟨⟩) Q)
        -∗ wp frame (wpE defs 𝒱 (tile dv i) bd) Set.univ (fetch i h scores mine hmine s1 s2 X) Q) := by
  have e1 : k0_off1 i 0 = 6272 * w := by rw [k0_off1_eq, ← hw]; rfl
  have e2 : k0_off2 i 0 = 6272 * w := by rw [k0_off2_eq, ← hw]; rfl
  unfold fetch
  iintro ⟨Hs, ⟨%a, Hm⟩, Hs1, Hs2, HD, #Hmw⟩ HX
  by_cases h15 : w = 15
  · have h2 : ¬k0_cond2 i = 1#1 := fun hc => (cond2_iff i).mp hc (hw.trans h15)
    have h3 : k0_cond3 i = 1#1 := (cond3_iff i).mpr (hw.trans h15)
    rw [if_pos h15] at hlim
    rw [dif_neg h2, dif_pos h3]
    simp only [bind_assoc, pure_bind]
    ihave Hm := (part_split (F := F) dv (i := i) (e := .f32) (m := mine) (fun j => j < lim)) $$ Hm
    icases Hm with ⟨Hm, Hr⟩
    ihave Hm := (part_mono (F := F) (e := .f32) (tile dv i) (m := mine) (P' := fun j => 0 ≤ j ∧ j < 0 + 5920) (fun j _ => by rw [hlim]; constructor <;> intro hh <;> constructor <;> first | trivial | omega) (fun _ _ _ => rfl)) $$ Hm
    ihave Hm := (Entails.of_eq (part_slice (F := F) (e := .f32) (tile dv i) (m := mine) (b := fun j => a (0 + j)) (off := ![0])
      (inb := inb_S6272_S5920_0) (h1 := fun _ => rfl) 0 rfl (fun _ _ => rfl))) $$ Hm
    ihave Hs := (part_mono (F := F) (e := .f32) (tile dv i) (m := scores) (P' := fun j => 6272 * w ≤ j ∧ j < 6272 * w + 5920) (fun j _ => by omega) (fun _ _ _ => rfl)) $$ Hs
    iapply (wp_take (F := F) (e := .f32) 𝒱 bd dv EC (by decide) ι (hok _) (6272 * w) e2) $$ [Hs Hm Hs2 HD]
    · isplitl [Hs]; · iexact Hs
      isplitl [Hm]; · iexists _; iexact Hm
      isplitl [Hs2]; · iexact Hs2
      isplitl [HD] <;> iassumption
    iintro ⟨Hs, Hm, Hs2, HD⟩
    iapply HX
    isplitl [Hs]
    · iapply (part_mono (F := F) (e := .f32) (tile dv i) (m := scores) (fun j _ => by omega) (fun _ _ _ => rfl)) $$ Hs
    isplitl [Hm]
    · ihave Hm := (Entails.of_eq (part_slice (F := F) (e := .f32) (tile dv i) (m := mine) (a := fun j => sc (6272 * w + j)) (b := fun j => sc (6272 * w + j)) (off := ![0])
        (inb := inb_S6272_S5920_0) (h1 := fun _ => rfl) 0 rfl (fun j _ => by rw [Nat.zero_add])).symm) $$ Hm
      iapply (part_mono (F := F) (e := .f32) (tile dv i) (m := mine) (fun j _ => by omega) (fun _ _ _ => rfl)) $$ Hm
    isplitl [Hr]
    · iexists _
      iapply (part_mono (F := F) (e := .f32) (tile dv i) (m := mine) (fun j _ => by simp) (fun _ _ _ => rfl)) $$ Hr
    isplitl [Hs1]; · iexact Hs1
    isplitl [Hs2] <;> iassumption
  · have h2 : k0_cond2 i = 1#1 := (cond2_iff i).mpr (fun hc => h15 (hw.symm.trans hc))
    have h3 : ¬k0_cond3 i = 1#1 := fun hc => h15 (hw.symm.trans ((cond3_iff i).mp hc))
    rw [if_neg h15] at hlim
    rw [dif_pos h2, dif_neg h3]
    simp only [bind_assoc, pure_bind]
    iapply (wp_take (F := F) (e := .f32) 𝒱 bd dv EC (by decide) ι (hok _) (6272 * w) e1) $$ [Hs Hm Hs1 HD]
    · isplitl [Hs]; · iexact Hs
      isplitl [Hm]; · iexists _; iexact Hm
      isplitl [Hs1]; · iexact Hs1
      isplitl [HD] <;> iassumption
    iintro ⟨Hs, Hm, Hs1, HD⟩
    ihave Hm := (part_split (F := F) dv (i := i) (e := .f32) (m := mine) (fun j => j < lim)) $$ Hm
    icases Hm with ⟨Hm, Hr⟩
    iapply HX
    isplitl [Hs]; · iexact Hs
    isplitl [Hm]
    · iapply (part_mono (F := F) (e := .f32) (tile dv i) (m := mine) (fun j _ => by simp) (fun _ _ _ => rfl)) $$ Hm
    isplitl [Hr]
    · iexists _
      iapply (part_mono (F := F) (e := .f32) (tile dv i) (m := mine) (fun j _ => by simp) (fun _ _ _ => rfl)) $$ Hr
    isplitl [Hs1]; · iexact Hs1
    isplitl [Hs2] <;> iassumption

end Cert.Proof.Stages
end
-- ==== Proof.Loops.lean ====
module

public import proofs.«01_k».proof.Proof.Body

@[expose] public section

set_option synthInstance.maxSize 4096

noncomputable section

namespace Cert.Proof.Body

open Idealize.ShloMosaic Idealize.SL.Sem
open Cert.Kernel Cert.Kernel.Gen

variable {F : FTy → Type} [BitOps F]
variable (i : grid0.Coords)
  (arg2 : Memref sig .scVector .hbm S100000 .f32)
  (harg2 : arg2.IsWhole)
  (arg3 : Memref sig .scVector .hbm S50176 .i32)
  (harg3 : arg3.IsWhole)
  (arg4 : Memref sig .scVector .hbm S50176 .i32)
  (harg4 : arg4.IsWhole)
  (arg5 : Memref sig .scVector .hbm S16 .f32)
  (harg5 : arg5.IsWhole)
  (arg6 : Memref sig .scVector .shared S100352 .i32)
  (harg6 : arg6.IsWhole)
  (arg7 : Memref sig .scVector .shared S100352 .i32)
  (harg7 : arg7.IsWhole)
  (arg8 : Memref sig .scVector .shared S100352 .i32)
  (harg8 : arg8.IsWhole)
  (arg9 : Memref sig .scVector .shared S100352 .i32)
  (harg9 : arg9.IsWhole)
  (arg10 : Memref sig .scVector .shared S32768 .i32)
  (harg10 : arg10.IsWhole)
  (arg11 : Memref sig .scVector .shared S256 .f32)
  (harg11 : arg11.IsWhole)
  (arg12 : Memref sig .scVector .vmem S6272 .f32)
  (harg12 : arg12.IsWhole)
  (arg13 : Memref sig .scVector .vmem S6272 .i32)
  (harg13 : arg13.IsWhole)
  (arg14 : Memref sig .scVector .vmem S6272 .i32)
  (harg14 : arg14.IsWhole)
  (arg15 : Memref sig .scVector .vmem S6272 .i32)
  (harg15 : arg15.IsWhole)
  (arg16 : Memref sig .scVector .vmem S2048 .i32)
  (harg16 : arg16.IsWhole)
  (arg17 : Memref sig .scVector .vmem S2048 .i32)
  (harg17 : arg17.IsWhole)
  (arg18 : Memref sig .scVector .vmem S32768 .i32)
  (harg18 : arg18.IsWhole)
  (arg19 : Memref sig .scVector .vmem S256 .f32)
  (harg19 : arg19.IsWhole)
  (arg20 : Memref sig .scVector .vmem S16 .i32)
  (harg20 : arg20.IsWhole)
  (arg21 : Memref sig .scVector .vmem S16 .i32)
  (harg21 : arg21.IsWhole)
  (arg22 : Memref sig .scVector .vmem S16 .i32)
  (harg22 : arg22.IsWhole)
  (arg23 : Memref sig .scVector .vmem S16 .f32)
  (harg23 : arg23.IsWhole)
  (v54_r0 : DmaSems sig S_)
  (v54_r1 : DmaSems sig S_)
  (v54_r2 : DmaSems sig S_)
  (v54_r3 : DmaSems sig S_)
  (v54_r4 : DmaSems sig S_)
  (v40_r5 : DmaSems sig S_)
  (v40_r6 : DmaSems sig S_)
  (v42_r7 : DmaSems sig S_)
  (v42_r8 : DmaSems sig S_)
  (v42_r9 : DmaSems sig S_)
  (v42_r10 : DmaSems sig S_)
  (v40_r11 : DmaSems sig S_)
  (v40_r12 : DmaSems sig S_)
  (v42_r13 : DmaSems sig S_)
  (v42_r14 : DmaSems sig S_)
  (v42_r15 : DmaSems sig S_)
  (v42_r16 : DmaSems sig S_)
  (v40_r17 : DmaSems sig S_)
  (v40_r18 : DmaSems sig S_)
  (v42_r19 : DmaSems sig S_)
  (v42_r20 : DmaSems sig S_)
  (v42_r21 : DmaSems sig S_)
  (v42_r22 : DmaSems sig S_)
  (v35_r23 : DmaSems sig S_)
  (v35_r24 : DmaSems sig S_)
  (v35_r25 : DmaSems sig S_)
  (v35_r26 : DmaSems sig S_)
  (v91_r27 : DmaSems sig S_)
  (v91_r28 : DmaSems sig S_)

set_option maxRecDepth 65536 in
set_option maxHeartbeats 4000000 in
theorem t4_eq (h : k0_cond5 i = 1#1) : k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h =
    fun t _ => zeroBody i arg16 (k0_off8 t) (k0_off8_inb i t h) := rfl

set_option maxRecDepth 65536 in
set_option maxHeartbeats 4000000 in
theorem t5_eq (v0 : IVec S16 32) (h : k0_cond5 i = 1#1) : k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 v0 h =
    fun t _ => histBody i h arg13 arg16 arg20 v0 0#32 (k0_off10 t) (k0_off10_inb i t h) := rfl

set_option maxRecDepth 65536 in
set_option maxHeartbeats 4000000 in
theorem t6_eq (v0 : IVec S16 32) (h : k0_cond6 i = 1#1) (hv : v0 = lanes) : k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 (BitVec.ofNat 32 (i 1).val) v0 h =
    fun t c => scanBody i h arg18 arg17 arg20 lanes (BitVec.ofNat 32 (i 1).val) t (fun w => k0_off12_inb i t h w) (k0_off13_inb i t h) c := by
  subst hv
  rfl

set_option maxRecDepth 65536 in
set_option maxHeartbeats 4000000 in
theorem t7_eq (v0 : IVec S16 32) (h : k0_cond6 i = 1#1) : k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 v0 h =
    fun t _ => permBody i h arg13 arg15 arg17 arg20 v0 0#32 (k0_off15 t) (k0_off15_inb i t h) := rfl

set_option maxRecDepth 65536 in
set_option maxHeartbeats 4000000 in
theorem t8_eq (h : k0_cond6 i = 1#1) : k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h =
    fun t _ => clampBody i arg15 (k0_off17 t) (k0_off17_inb i t h) := rfl

set_option maxRecDepth 65536 in
set_option maxHeartbeats 4000000 in
theorem t9_eq (h : k0_cond7 i = 1#1) : k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h =
    fun t _ => zeroBody i arg16 (k0_off8 t) (k0_off8_inb i t h) := rfl

set_option maxRecDepth 65536 in
set_option maxHeartbeats 4000000 in
theorem t10_eq (v0 : IVec S16 32) (h : k0_cond7 i = 1#1) : k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 v0 h =
    fun t _ => histBody i h arg13 arg16 arg20 v0 11#32 (k0_off10 t) (k0_off10_inb i t h) := rfl

set_option maxRecDepth 65536 in
set_option maxHeartbeats 4000000 in
theorem t11_eq (v0 : IVec S16 32) (h : k0_cond8 i = 1#1) (hv : v0 = lanes) : k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 (BitVec.ofNat 32 (i 1).val) v0 h =
    fun t c => scanBody i h arg18 arg17 arg20 lanes (BitVec.ofNat 32 (i 1).val) t (fun w => k0_off12_inb i t h w) (k0_off13_inb i t h) c := by
  subst hv
  rfl

set_option maxRecDepth 65536 in
set_option maxHeartbeats 4000000 in
theorem t12_eq (v0 : IVec S16 32) (h : k0_cond8 i = 1#1) : k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 v0 h =
    fun t _ => permBody i h arg13 arg15 arg17 arg20 v0 11#32 (k0_off15 t) (k0_off15_inb i t h) := rfl

set_option maxRecDepth 65536 in
set_option maxHeartbeats 4000000 in
theorem t13_eq (h : k0_cond8 i = 1#1) : k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h =
    fun t _ => clampBody i arg15 (k0_off17 t) (k0_off17_inb i t h) := rfl

set_option maxRecDepth 65536 in
set_option maxHeartbeats 4000000 in
theorem t14_eq (h : k0_cond9 i = 1#1) : k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h =
    fun t _ => zeroBody i arg16 (k0_off8 t) (k0_off8_inb i t h) := rfl

set_option maxRecDepth 65536 in
set_option maxHeartbeats 4000000 in
theorem t15_eq (v0 : IVec S16 32) (h : k0_cond9 i = 1#1) : k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 v0 h =
    fun t _ => histBody i h arg13 arg16 arg20 v0 22#32 (k0_off10 t) (k0_off10_inb i t h) := rfl

set_option maxRecDepth 65536 in
set_option maxHeartbeats 4000000 in
theorem t16_eq (v0 : IVec S16 32) (h : k0_cond10 i = 1#1) (hv : v0 = lanes) : k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 (BitVec.ofNat 32 (i 1).val) v0 h =
    fun t c => scanBody i h arg18 arg17 arg20 lanes (BitVec.ofNat 32 (i 1).val) t (fun w => k0_off12_inb i t h w) (k0_off13_inb i t h) c := by
  subst hv
  rfl

set_option maxRecDepth 65536 in
set_option maxHeartbeats 4000000 in
theorem t17_eq (v0 : IVec S16 32) (h : k0_cond10 i = 1#1) : k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 v0 h =
    fun t _ => permBody i h arg13 arg15 arg17 arg20 v0 22#32 (k0_off15 t) (k0_off15_inb i t h) := rfl

set_option maxRecDepth 65536 in
set_option maxHeartbeats 4000000 in
theorem t18_eq (h : k0_cond10 i = 1#1) : k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h =
    fun t _ => clampBody i arg15 (k0_off17 t) (k0_off17_inb i t h) := rfl

end Cert.Proof.Body
end
-- ==== Proof.Tile.lean ====
module

public import proofs.«01_k».proof.Proof.Loops

@[expose] public section

set_option synthInstance.maxSize 4096

noncomputable section

namespace Cert.Proof.Body

open Idealize.ShloMosaic Idealize.SL.Sem
open Cert.Kernel Cert.Kernel.Gen

variable {F : FTy → Type} [BitOps F]

/-- The tile's start: it copies its slice of the values in, makes keys and numbers of them, publishes both, and publishes
its part of the pooled sum. -/
def stage0 (i : grid0.Coords)
    (arg2 : Memref sig .scVector .hbm S100000 .f32)
    (harg2 : arg2.IsWhole)
    (arg3 : Memref sig .scVector .hbm S50176 .i32)
    (harg3 : arg3.IsWhole)
    (arg4 : Memref sig .scVector .hbm S50176 .i32)
    (harg4 : arg4.IsWhole)
    (arg5 : Memref sig .scVector .hbm S16 .f32)
    (harg5 : arg5.IsWhole)
    (arg6 : Memref sig .scVector .shared S100352 .i32)
    (harg6 : arg6.IsWhole)
    (arg7 : Memref sig .scVector .shared S100352 .i32)
    (harg7 : arg7.IsWhole)
    (arg8 : Memref sig .scVector .shared S100352 .i32)
    (harg8 : arg8.IsWhole)
    (arg9 : Memref sig .scVector .shared S100352 .i32)
    (harg9 : arg9.IsWhole)
    (arg10 : Memref sig .scVector .shared S32768 .i32)
    (harg10 : arg10.IsWhole)
    (arg11 : Memref sig .scVector .shared S256 .f32)
    (harg11 : arg11.IsWhole)
    (arg12 : Memref sig .scVector .vmem S6272 .f32)
    (harg12 : arg12.IsWhole)
    (arg13 : Memref sig .scVector .vmem S6272 .i32)
    (harg13 : arg13.IsWhole)
    (arg14 : Memref sig .scVector .vmem S6272 .i32)
    (harg14 : arg14.IsWhole)
    (arg15 : Memref sig .scVector .vmem S6272 .i32)
    (harg15 : arg15.IsWhole)
    (arg16 : Memref sig .scVector .vmem S2048 .i32)
    (harg16 : arg16.IsWhole)
    (arg17 : Memref sig .scVector .vmem S2048 .i32)
    (harg17 : arg17.IsWhole)
    (arg18 : Memref sig .scVector .vmem S32768 .i32)
    (harg18 : arg18.IsWhole)
    (arg19 : Memref sig .scVector .vmem S256 .f32)
    (harg19 : arg19.IsWhole)
    (arg20 : Memref sig .scVector .vmem S16 .i32)
    (harg20 : arg20.IsWhole)
    (arg21 : Memref sig .scVector .vmem S16 .i32)
    (harg21 : arg21.IsWhole)
    (arg22 : Memref sig .scVector .vmem S16 .i32)
    (harg22 : arg22.IsWhole)
    (arg23 : Memref sig .scVector .vmem S16 .f32)
    (harg23 : arg23.IsWhole)
    (v54_r0 : DmaSems sig S_)
    (v54_r1 : DmaSems sig S_)
    (v54_r2 : DmaSems sig S_)
    (v54_r3 : DmaSems sig S_)
    (v54_r4 : DmaSems sig S_)
    (v40_r5 : DmaSems sig S_)
    (v40_r6 : DmaSems sig S_)
    (v42_r7 : DmaSems sig S_)
    (v42_r8 : DmaSems sig S_)
    (v42_r9 : DmaSems sig S_)
    (v42_r10 : DmaSems sig S_)
    (v40_r11 : DmaSems sig S_)
    (v40_r12 : DmaSems sig S_)
    (v42_r13 : DmaSems sig S_)
    (v42_r14 : DmaSems sig S_)
    (v42_r15 : DmaSems sig S_)
    (v42_r16 : DmaSems sig S_)
    (v40_r17 : DmaSems sig S_)
    (v40_r18 : DmaSems sig S_)
    (v42_r19 : DmaSems sig S_)
    (v42_r20 : DmaSems sig S_)
    (v42_r21 : DmaSems sig S_)
    (v42_r22 : DmaSems sig S_)
    (v35_r23 : DmaSems sig S_)
    (v35_r24 : DmaSems sig S_)
    (v35_r25 : DmaSems sig S_)
    (v35_r26 : DmaSems sig S_)
    (v91_r27 : DmaSems sig S_)
    (v91_r28 : DmaSems sig S_)
    (k0_h1 : k0_cond5 i = 1#1) (next : TProg F i PUnit) : TProg F i PUnit := do
  if k0_h2 : k0_cond2 i = 1#1 then do
    let v56_r0 : Memref sig .scVector .hbm S6272 .f32 := arg2.slice (Rect.unit (s := S100000) (k0_off1 i) S6272.size (k0_off1_inb i k0_h1 k0_h2)) (fun _ => rfl)
    Prog.lift (.enqueueDma v56_r0 (.here arg12) (.dma v54_r0.sem) (View.wordExact_bits rfl) harg12.wordExact ⟨Or.inl rfl, trivial⟩)
    let v58_r0 : Memref sig .scVector .hbm S6272 .f32 := arg2.slice (Rect.unit (s := S100000) (k0_off1 i) S6272.size (k0_off1_inb i k0_h1 k0_h2)) (fun _ => rfl)
    Prog.lift (.waitDma2 v54_r0.sem v58_r0 arg12 (View.wordExact_bits rfl) harg12.wordExact)
    pure ⟨⟩
  else do
    pure ⟨⟩
  if k0_h3 : k0_cond3 i = 1#1 then do
    let v57_r1 : Memref sig .scVector .vmem S5920 .f32 := arg12.slice (Rect.unit (s := S6272) ![0] S5920.size inb_S6272_S5920_0) (fun _ => rfl)
    let v58_r1 : Memref sig .scVector .hbm S5920 .f32 := arg2.slice (Rect.unit (s := S100000) (k0_off2 i) S5920.size (k0_off2_inb i k0_h1 k0_h3)) (fun _ => rfl)
    Prog.lift (.enqueueDma v58_r1 (.here v57_r1) (.dma v54_r1.sem) (View.wordExact_bits rfl) (View.wordExact_bits rfl) ⟨Or.inl rfl, trivial⟩)
    let v61_r1 : Memref sig .scVector .vmem S5920 .f32 := arg12.slice (Rect.unit (s := S6272) ![0] S5920.size inb_S6272_S5920_0) (fun _ => rfl)
    let v62_r1 : Memref sig .scVector .hbm S5920 .f32 := arg2.slice (Rect.unit (s := S100000) (k0_off2 i) S5920.size (k0_off2_inb i k0_h1 k0_h3)) (fun _ => rfl)
    Prog.lift (.waitDma2 v54_r1.sem v62_r1 v61_r1 (View.wordExact_bits rfl) (View.wordExact_bits rfl))
    pure ⟨⟩
  else do
    pure ⟨⟩
  let v47 : FVec F S16 .f32 ← Scf.Loop.for (k0_t1_loop i) (k0_t1_ok i k0_h1) (k0_pay400 (F := F)) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 k0_h1)
  let v48 : FVec F S16 .f32 ← Scf.Loop.for (k0_t2_loop i) (k0_t2_ok i k0_h1) v47 (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 k0_h1)
  if k0_h4 : k0_cond4 i = 1#1 then do
    let v55 : BitVec 32 ← Scf.Loop.for k0_t3_loop (k0_t3_ok i k0_h1 k0_h4) 0#32 (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 k0_h1 k0_h4)
    pure ⟨⟩
  else do
    pure ⟨⟩
  let v56_r2 : Memref sig .scVector .shared S6272 .i32 := arg6.slice (Rect.unit (s := S100352) (k0_off6 i) S6272.size (k0_off6_inb i k0_h1)) (fun _ => rfl)
  Prog.lift (.enqueueDma arg13 (.here v56_r2) (.dma v54_r2.sem) harg13.wordExact (View.wordExact_bits rfl) ⟨Or.inl rfl, trivial⟩)
  let v58_r2 : Memref sig .scVector .shared S6272 .i32 := arg6.slice (Rect.unit (s := S100352) (k0_off6 i) S6272.size (k0_off6_inb i k0_h1)) (fun _ => rfl)
  Prog.lift (.waitDma2 v54_r2.sem arg13 v58_r2 harg13.wordExact (View.wordExact_bits rfl))
  let v56_r3 : Memref sig .scVector .shared S6272 .i32 := arg7.slice (Rect.unit (s := S100352) (k0_off6 i) S6272.size (k0_off6_inb i k0_h1)) (fun _ => rfl)
  Prog.lift (.enqueueDma arg14 (.here v56_r3) (.dma v54_r3.sem) harg14.wordExact (View.wordExact_bits rfl) ⟨Or.inl rfl, trivial⟩)
  let v58_r3 : Memref sig .scVector .shared S6272 .i32 := arg7.slice (Rect.unit (s := S100352) (k0_off6 i) S6272.size (k0_off6_inb i k0_h1)) (fun _ => rfl)
  Prog.lift (.waitDma2 v54_r3.sem arg14 v58_r3 harg14.wordExact (View.wordExact_bits rfl))
  let v52 : Vec F S16 .f32 ← Prog.lift (.load arg23 (Rect.unit (s := S16) ![0] S16.size inb_S16_S16_0).toLoadRect (View.loadsAt_vmem h_S16))
  Prog.lift (.store arg23 (Rect.unit (s := S16) ![0] S16.size inb_S16_S16_0) v48 Finset.univ (View.stores_vmem_bits_univ h_S16 rfl) (.inl rfl))
  let v56_r4 : Memref sig .scVector .shared S16 .f32 := arg11.slice (Rect.unit (s := S256) (k0_off7 i) S16.size (k0_off7_inb i k0_h1)) (fun _ => rfl)
  Prog.lift (.enqueueDma arg23 (.here v56_r4) (.dma v54_r4.sem) harg23.wordExact (View.wordExact_bits rfl) ⟨Or.inl rfl, trivial⟩)
  let v58_r4 : Memref sig .scVector .shared S16 .f32 := arg11.slice (Rect.unit (s := S256) (k0_off7 i) S16.size (k0_off7_inb i k0_h1)) (fun _ => rfl)
  Prog.lift (.waitDma2 v54_r4.sem arg23 v58_r4 harg23.wordExact (View.wordExact_bits rfl))
  next

/-- The tile's export of its slice of the sorted keys and numbers. -/
def stage1 (i : grid0.Coords)
    (arg2 : Memref sig .scVector .hbm S100000 .f32)
    (harg2 : arg2.IsWhole)
    (arg3 : Memref sig .scVector .hbm S50176 .i32)
    (harg3 : arg3.IsWhole)
    (arg4 : Memref sig .scVector .hbm S50176 .i32)
    (harg4 : arg4.IsWhole)
    (arg5 : Memref sig .scVector .hbm S16 .f32)
    (harg5 : arg5.IsWhole)
    (arg6 : Memref sig .scVector .shared S100352 .i32)
    (harg6 : arg6.IsWhole)
    (arg7 : Memref sig .scVector .shared S100352 .i32)
    (harg7 : arg7.IsWhole)
    (arg8 : Memref sig .scVector .shared S100352 .i32)
    (harg8 : arg8.IsWhole)
    (arg9 : Memref sig .scVector .shared S100352 .i32)
    (harg9 : arg9.IsWhole)
    (arg10 : Memref sig .scVector .shared S32768 .i32)
    (harg10 : arg10.IsWhole)
    (arg11 : Memref sig .scVector .shared S256 .f32)
    (harg11 : arg11.IsWhole)
    (arg12 : Memref sig .scVector .vmem S6272 .f32)
    (harg12 : arg12.IsWhole)
    (arg13 : Memref sig .scVector .vmem S6272 .i32)
    (harg13 : arg13.IsWhole)
    (arg14 : Memref sig .scVector .vmem S6272 .i32)
    (harg14 : arg14.IsWhole)
    (arg15 : Memref sig .scVector .vmem S6272 .i32)
    (harg15 : arg15.IsWhole)
    (arg16 : Memref sig .scVector .vmem S2048 .i32)
    (harg16 : arg16.IsWhole)
    (arg17 : Memref sig .scVector .vmem S2048 .i32)
    (harg17 : arg17.IsWhole)
    (arg18 : Memref sig .scVector .vmem S32768 .i32)
    (harg18 : arg18.IsWhole)
    (arg19 : Memref sig .scVector .vmem S256 .f32)
    (harg19 : arg19.IsWhole)
    (arg20 : Memref sig .scVector .vmem S16 .i32)
    (harg20 : arg20.IsWhole)
    (arg21 : Memref sig .scVector .vmem S16 .i32)
    (harg21 : arg21.IsWhole)
    (arg22 : Memref sig .scVector .vmem S16 .i32)
    (harg22 : arg22.IsWhole)
    (arg23 : Memref sig .scVector .vmem S16 .f32)
    (harg23 : arg23.IsWhole)
    (v54_r0 : DmaSems sig S_)
    (v54_r1 : DmaSems sig S_)
    (v54_r2 : DmaSems sig S_)
    (v54_r3 : DmaSems sig S_)
    (v54_r4 : DmaSems sig S_)
    (v40_r5 : DmaSems sig S_)
    (v40_r6 : DmaSems sig S_)
    (v42_r7 : DmaSems sig S_)
    (v42_r8 : DmaSems sig S_)
    (v42_r9 : DmaSems sig S_)
    (v42_r10 : DmaSems sig S_)
    (v40_r11 : DmaSems sig S_)
    (v40_r12 : DmaSems sig S_)
    (v42_r13 : DmaSems sig S_)
    (v42_r14 : DmaSems sig S_)
    (v42_r15 : DmaSems sig S_)
    (v42_r16 : DmaSems sig S_)
    (v40_r17 : DmaSems sig S_)
    (v40_r18 : DmaSems sig S_)
    (v42_r19 : DmaSems sig S_)
    (v42_r20 : DmaSems sig S_)
    (v42_r21 : DmaSems sig S_)
    (v42_r22 : DmaSems sig S_)
    (v35_r23 : DmaSems sig S_)
    (v35_r24 : DmaSems sig S_)
    (v35_r25 : DmaSems sig S_)
    (v35_r26 : DmaSems sig S_)
    (v91_r27 : DmaSems sig S_)
    (v91_r28 : DmaSems sig S_)
    (k0_h11 : k0_cond11 i = 1#1) : TProg F i PUnit := do
  let v37_r23 : Memref sig .scVector .shared S6272 .i32 := arg8.slice (Rect.unit (s := S100352) (k0_off38 i) S6272.size (k0_off38_inb i k0_h11)) (fun _ => rfl)
  Prog.lift (.enqueueDma v37_r23 (.here arg13) (.dma v35_r23.sem) (View.wordExact_bits rfl) harg13.wordExact ⟨Or.inl rfl, trivial⟩)
  let v39_r23 : Memref sig .scVector .shared S6272 .i32 := arg8.slice (Rect.unit (s := S100352) (k0_off38 i) S6272.size (k0_off38_inb i k0_h11)) (fun _ => rfl)
  Prog.lift (.waitDma2 v35_r23.sem v39_r23 arg13 (View.wordExact_bits rfl) harg13.wordExact)
  let v37_r24 : Memref sig .scVector .hbm S6272 .i32 := arg3.slice (Rect.unit (s := S50176) (k0_off39 i) S6272.size (k0_off39_inb i k0_h11)) (fun _ => rfl)
  Prog.lift (.enqueueDma arg13 (.here v37_r24) (.dma v35_r24.sem) harg13.wordExact (View.wordExact_bits rfl) ⟨Or.inl rfl, trivial⟩)
  let v39_r24 : Memref sig .scVector .hbm S6272 .i32 := arg3.slice (Rect.unit (s := S50176) (k0_off39 i) S6272.size (k0_off39_inb i k0_h11)) (fun _ => rfl)
  Prog.lift (.waitDma2 v35_r24.sem arg13 v39_r24 harg13.wordExact (View.wordExact_bits rfl))
  let v37_r25 : Memref sig .scVector .shared S6272 .i32 := arg9.slice (Rect.unit (s := S100352) (k0_off38 i) S6272.size (k0_off38_inb i k0_h11)) (fun _ => rfl)
  Prog.lift (.enqueueDma v37_r25 (.here arg14) (.dma v35_r25.sem) (View.wordExact_bits rfl) harg14.wordExact ⟨Or.inl rfl, trivial⟩)
  let v39_r25 : Memref sig .scVector .shared S6272 .i32 := arg9.slice (Rect.unit (s := S100352) (k0_off38 i) S6272.size (k0_off38_inb i k0_h11)) (fun _ => rfl)
  Prog.lift (.waitDma2 v35_r25.sem v39_r25 arg14 (View.wordExact_bits rfl) harg14.wordExact)
  let v37_r26 : Memref sig .scVector .hbm S6272 .i32 := arg4.slice (Rect.unit (s := S50176) (k0_off39 i) S6272.size (k0_off39_inb i k0_h11)) (fun _ => rfl)
  Prog.lift (.enqueueDma arg14 (.here v37_r26) (.dma v35_r26.sem) harg14.wordExact (View.wordExact_bits rfl) ⟨Or.inl rfl, trivial⟩)
  let v39_r26 : Memref sig .scVector .hbm S6272 .i32 := arg4.slice (Rect.unit (s := S50176) (k0_off39 i) S6272.size (k0_off39_inb i k0_h11)) (fun _ => rfl)
  Prog.lift (.waitDma2 v35_r26.sem arg14 v39_r26 harg14.wordExact (View.wordExact_bits rfl))
  pure ⟨⟩

/-- The first tile's sum of the pooled parts. -/
def stage2 (i : grid0.Coords)
    (arg2 : Memref sig .scVector .hbm S100000 .f32)
    (harg2 : arg2.IsWhole)
    (arg3 : Memref sig .scVector .hbm S50176 .i32)
    (harg3 : arg3.IsWhole)
    (arg4 : Memref sig .scVector .hbm S50176 .i32)
    (harg4 : arg4.IsWhole)
    (arg5 : Memref sig .scVector .hbm S16 .f32)
    (harg5 : arg5.IsWhole)
    (arg6 : Memref sig .scVector .shared S100352 .i32)
    (harg6 : arg6.IsWhole)
    (arg7 : Memref sig .scVector .shared S100352 .i32)
    (harg7 : arg7.IsWhole)
    (arg8 : Memref sig .scVector .shared S100352 .i32)
    (harg8 : arg8.IsWhole)
    (arg9 : Memref sig .scVector .shared S100352 .i32)
    (harg9 : arg9.IsWhole)
    (arg10 : Memref sig .scVector .shared S32768 .i32)
    (harg10 : arg10.IsWhole)
    (arg11 : Memref sig .scVector .shared S256 .f32)
    (harg11 : arg11.IsWhole)
    (arg12 : Memref sig .scVector .vmem S6272 .f32)
    (harg12 : arg12.IsWhole)
    (arg13 : Memref sig .scVector .vmem S6272 .i32)
    (harg13 : arg13.IsWhole)
    (arg14 : Memref sig .scVector .vmem S6272 .i32)
    (harg14 : arg14.IsWhole)
    (arg15 : Memref sig .scVector .vmem S6272 .i32)
    (harg15 : arg15.IsWhole)
    (arg16 : Memref sig .scVector .vmem S2048 .i32)
    (harg16 : arg16.IsWhole)
    (arg17 : Memref sig .scVector .vmem S2048 .i32)
    (harg17 : arg17.IsWhole)
    (arg18 : Memref sig .scVector .vmem S32768 .i32)
    (harg18 : arg18.IsWhole)
    (arg19 : Memref sig .scVector .vmem S256 .f32)
    (harg19 : arg19.IsWhole)
    (arg20 : Memref sig .scVector .vmem S16 .i32)
    (harg20 : arg20.IsWhole)
    (arg21 : Memref sig .scVector .vmem S16 .i32)
    (harg21 : arg21.IsWhole)
    (arg22 : Memref sig .scVector .vmem S16 .i32)
    (harg22 : arg22.IsWhole)
    (arg23 : Memref sig .scVector .vmem S16 .f32)
    (harg23 : arg23.IsWhole)
    (v54_r0 : DmaSems sig S_)
    (v54_r1 : DmaSems sig S_)
    (v54_r2 : DmaSems sig S_)
    (v54_r3 : DmaSems sig S_)
    (v54_r4 : DmaSems sig S_)
    (v40_r5 : DmaSems sig S_)
    (v40_r6 : DmaSems sig S_)
    (v42_r7 : DmaSems sig S_)
    (v42_r8 : DmaSems sig S_)
    (v42_r9 : DmaSems sig S_)
    (v42_r10 : DmaSems sig S_)
    (v40_r11 : DmaSems sig S_)
    (v40_r12 : DmaSems sig S_)
    (v42_r13 : DmaSems sig S_)
    (v42_r14 : DmaSems sig S_)
    (v42_r15 : DmaSems sig S_)
    (v42_r16 : DmaSems sig S_)
    (v40_r17 : DmaSems sig S_)
    (v40_r18 : DmaSems sig S_)
    (v42_r19 : DmaSems sig S_)
    (v42_r20 : DmaSems sig S_)
    (v42_r21 : DmaSems sig S_)
    (v42_r22 : DmaSems sig S_)
    (v35_r23 : DmaSems sig S_)
    (v35_r24 : DmaSems sig S_)
    (v35_r25 : DmaSems sig S_)
    (v35_r26 : DmaSems sig S_)
    (v91_r27 : DmaSems sig S_)
    (v91_r28 : DmaSems sig S_)
    (k0_h12 : k0_cond12 i = 1#1) : TProg F i PUnit := do
  let ⟨v67, v71⟩ : Σ' (v67 : FVec F S16 .f32), Vec F S16 .f32 ← k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 lanes k0_h12
  let v73 : Vec F S16 .f32 ← Prog.lift (.load arg23 (Rect.unit (s := S16) ![0] S16.size inb_S16_S16_0).toLoadRect (View.loadsAt_vmem h_S16))
  Prog.lift (.store arg23 (Rect.unit (s := S16) ![0] S16.size inb_S16_S16_0) (k0_pay10 v67 v71) Finset.univ (View.stores_vmem_bits_univ h_S16 rfl) (.inl rfl))
  have v75 : IVec S16 32 := k0_pay11 lanes
  have k0_hw203 : k0_chk203 i v75 := (← Prog.lift (TpuEff.assume (k0_chk203 i v75) (k0_chk203.dec i v75))).down
  let v76 : Vec F S16 .f32 ← SparseCore.vectorLoadIdx arg23 ![v75] (k0_idx206_inb i v75 k0_hw203 k0_h12) (View.loads_vmem h_S16)
  let v78 : Vec F S16 .f32 ← Prog.lift (.load arg23 (Rect.unit (s := S16) ![0] S16.size inb_S16_S16_0).toLoadRect (View.loadsAt_vmem h_S16))
  Prog.lift (.store arg23 (Rect.unit (s := S16) ![0] S16.size inb_S16_S16_0) (k0_pay12 v67 v71 v76) Finset.univ (View.stores_vmem_bits_univ h_S16 rfl) (.inl rfl))
  have v80 : IVec S16 32 := k0_pay13 lanes
  have k0_hw204 : k0_chk204 i v80 := (← Prog.lift (TpuEff.assume (k0_chk204 i v80) (k0_chk204.dec i v80))).down
  let v81 : Vec F S16 .f32 ← SparseCore.vectorLoadIdx arg23 ![v80] (k0_idx207_inb i v80 k0_hw204 k0_h12) (View.loads_vmem h_S16)
  let v83 : Vec F S16 .f32 ← Prog.lift (.load arg23 (Rect.unit (s := S16) ![0] S16.size inb_S16_S16_0).toLoadRect (View.loadsAt_vmem h_S16))
  Prog.lift (.store arg23 (Rect.unit (s := S16) ![0] S16.size inb_S16_S16_0) (k0_pay14 v67 v71 v76 v81) Finset.univ (View.stores_vmem_bits_univ h_S16 rfl) (.inl rfl))
  have v85 : IVec S16 32 := k0_pay15 lanes
  have k0_hw205 : k0_chk205 i v85 := (← Prog.lift (TpuEff.assume (k0_chk205 i v85) (k0_chk205.dec i v85))).down
  let v86 : Vec F S16 .f32 ← SparseCore.vectorLoadIdx arg23 ![v85] (k0_idx208_inb i v85 k0_hw205 k0_h12) (View.loads_vmem h_S16)
  let v90 : Vec F S16 .f32 ← Prog.lift (.load arg23 (Rect.unit (s := S16) ![0] S16.size inb_S16_S16_0).toLoadRect (View.loadsAt_vmem h_S16))
  Prog.lift (.store arg23 (Rect.unit (s := S16) ![0] S16.size inb_S16_S16_0) (k0_pay16 v67 v71 v76 v81 v86) Finset.univ (View.stores_vmem_bits_univ h_S16 rfl) (.inl rfl))
  Prog.lift (.enqueueDma arg23 (.here arg5) (.dma v91_r28.sem) harg23.wordExact harg5.wordExact ⟨Or.inl rfl, trivial⟩)
  Prog.lift (.waitDma2 v91_r28.sem arg23 arg5 harg23.wordExact harg5.wordExact)
  pure ⟨⟩

/-- The tile's program from the first meeting on, phase by phase. -/
def tileRest (i : grid0.Coords)
    (arg2 : Memref sig .scVector .hbm S100000 .f32)
    (harg2 : arg2.IsWhole)
    (arg3 : Memref sig .scVector .hbm S50176 .i32)
    (harg3 : arg3.IsWhole)
    (arg4 : Memref sig .scVector .hbm S50176 .i32)
    (harg4 : arg4.IsWhole)
    (arg5 : Memref sig .scVector .hbm S16 .f32)
    (harg5 : arg5.IsWhole)
    (arg6 : Memref sig .scVector .shared S100352 .i32)
    (harg6 : arg6.IsWhole)
    (arg7 : Memref sig .scVector .shared S100352 .i32)
    (harg7 : arg7.IsWhole)
    (arg8 : Memref sig .scVector .shared S100352 .i32)
    (harg8 : arg8.IsWhole)
    (arg9 : Memref sig .scVector .shared S100352 .i32)
    (harg9 : arg9.IsWhole)
    (arg10 : Memref sig .scVector .shared S32768 .i32)
    (harg10 : arg10.IsWhole)
    (arg11 : Memref sig .scVector .shared S256 .f32)
    (harg11 : arg11.IsWhole)
    (arg12 : Memref sig .scVector .vmem S6272 .f32)
    (harg12 : arg12.IsWhole)
    (arg13 : Memref sig .scVector .vmem S6272 .i32)
    (harg13 : arg13.IsWhole)
    (arg14 : Memref sig .scVector .vmem S6272 .i32)
    (harg14 : arg14.IsWhole)
    (arg15 : Memref sig .scVector .vmem S6272 .i32)
    (harg15 : arg15.IsWhole)
    (arg16 : Memref sig .scVector .vmem S2048 .i32)
    (harg16 : arg16.IsWhole)
    (arg17 : Memref sig .scVector .vmem S2048 .i32)
    (harg17 : arg17.IsWhole)
    (arg18 : Memref sig .scVector .vmem S32768 .i32)
    (harg18 : arg18.IsWhole)
    (arg19 : Memref sig .scVector .vmem S256 .f32)
    (harg19 : arg19.IsWhole)
    (arg20 : Memref sig .scVector .vmem S16 .i32)
    (harg20 : arg20.IsWhole)
    (arg21 : Memref sig .scVector .vmem S16 .i32)
    (harg21 : arg21.IsWhole)
    (arg22 : Memref sig .scVector .vmem S16 .i32)
    (harg22 : arg22.IsWhole)
    (arg23 : Memref sig .scVector .vmem S16 .f32)
    (harg23 : arg23.IsWhole)
    (v54_r0 : DmaSems sig S_)
    (v54_r1 : DmaSems sig S_)
    (v54_r2 : DmaSems sig S_)
    (v54_r3 : DmaSems sig S_)
    (v54_r4 : DmaSems sig S_)
    (v40_r5 : DmaSems sig S_)
    (v40_r6 : DmaSems sig S_)
    (v42_r7 : DmaSems sig S_)
    (v42_r8 : DmaSems sig S_)
    (v42_r9 : DmaSems sig S_)
    (v42_r10 : DmaSems sig S_)
    (v40_r11 : DmaSems sig S_)
    (v40_r12 : DmaSems sig S_)
    (v42_r13 : DmaSems sig S_)
    (v42_r14 : DmaSems sig S_)
    (v42_r15 : DmaSems sig S_)
    (v42_r16 : DmaSems sig S_)
    (v40_r17 : DmaSems sig S_)
    (v40_r18 : DmaSems sig S_)
    (v42_r19 : DmaSems sig S_)
    (v42_r20 : DmaSems sig S_)
    (v42_r21 : DmaSems sig S_)
    (v42_r22 : DmaSems sig S_)
    (v35_r23 : DmaSems sig S_)
    (v35_r24 : DmaSems sig S_)
    (v35_r25 : DmaSems sig S_)
    (v35_r26 : DmaSems sig S_)
    (v91_r27 : DmaSems sig S_)
    (v91_r28 : DmaSems sig S_)
    : TProg F i PUnit := do
  SparseCore.subcoreBarrier sc_bar0 (grid0.bound 1) hsub0
  if h : k0_cond5 i = 1#1 then do
    phaseA i h arg6 arg10 arg13 harg13 arg16 harg16 arg20 v40_r5 v40_r6 0#32
  else do
    pure ⟨⟩
  SparseCore.subcoreBarrier sc_bar0 (grid0.bound 1) hsub0
  if h : k0_cond5 i = 1#1 then do
    phaseB i h arg7 arg10 harg10 arg8 arg9 arg13 harg13 arg14 harg14 arg15 arg17 arg18 harg18 arg20 v42_r7 v42_r8 v42_r9 v42_r10 0#32
  else do
    pure ⟨⟩
  SparseCore.subcoreBarrier sc_bar0 (grid0.bound 1) hsub0
  if h : k0_cond5 i = 1#1 then do
    phaseA i h arg8 arg10 arg13 harg13 arg16 harg16 arg20 v40_r11 v40_r12 11#32
  else do
    pure ⟨⟩
  SparseCore.subcoreBarrier sc_bar0 (grid0.bound 1) hsub0
  if h : k0_cond5 i = 1#1 then do
    phaseB i h arg9 arg10 harg10 arg6 arg7 arg13 harg13 arg14 harg14 arg15 arg17 arg18 harg18 arg20 v42_r13 v42_r14 v42_r15 v42_r16 11#32
  else do
    pure ⟨⟩
  SparseCore.subcoreBarrier sc_bar0 (grid0.bound 1) hsub0
  if h : k0_cond5 i = 1#1 then do
    phaseA i h arg6 arg10 arg13 harg13 arg16 harg16 arg20 v40_r17 v40_r18 22#32
  else do
    pure ⟨⟩
  SparseCore.subcoreBarrier sc_bar0 (grid0.bound 1) hsub0
  if h : k0_cond5 i = 1#1 then do
    phaseB i h arg7 arg10 harg10 arg8 arg9 arg13 harg13 arg14 harg14 arg15 arg17 arg18 harg18 arg20 v42_r19 v42_r20 v42_r21 v42_r22 22#32
  else do
    pure ⟨⟩
  SparseCore.subcoreBarrier sc_bar0 (grid0.bound 1) hsub0
  if h : k0_cond11 i = 1#1 then do
    stage1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h
  else do
    pure ⟨⟩
  if h : k0_cond12 i = 1#1 then do
    stage2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h
  else do
    pure ⟨⟩
  pure ⟨⟩
/-- The tile's program. -/
def tileBody (i : grid0.Coords)
    (arg2 : Memref sig .scVector .hbm S100000 .f32)
    (harg2 : arg2.IsWhole)
    (arg3 : Memref sig .scVector .hbm S50176 .i32)
    (harg3 : arg3.IsWhole)
    (arg4 : Memref sig .scVector .hbm S50176 .i32)
    (harg4 : arg4.IsWhole)
    (arg5 : Memref sig .scVector .hbm S16 .f32)
    (harg5 : arg5.IsWhole)
    (arg6 : Memref sig .scVector .shared S100352 .i32)
    (harg6 : arg6.IsWhole)
    (arg7 : Memref sig .scVector .shared S100352 .i32)
    (harg7 : arg7.IsWhole)
    (arg8 : Memref sig .scVector .shared S100352 .i32)
    (harg8 : arg8.IsWhole)
    (arg9 : Memref sig .scVector .shared S100352 .i32)
    (harg9 : arg9.IsWhole)
    (arg10 : Memref sig .scVector .shared S32768 .i32)
    (harg10 : arg10.IsWhole)
    (arg11 : Memref sig .scVector .shared S256 .f32)
    (harg11 : arg11.IsWhole)
    (arg12 : Memref sig .scVector .vmem S6272 .f32)
    (harg12 : arg12.IsWhole)
    (arg13 : Memref sig .scVector .vmem S6272 .i32)
    (harg13 : arg13.IsWhole)
    (arg14 : Memref sig .scVector .vmem S6272 .i32)
    (harg14 : arg14.IsWhole)
    (arg15 : Memref sig .scVector .vmem S6272 .i32)
    (harg15 : arg15.IsWhole)
    (arg16 : Memref sig .scVector .vmem S2048 .i32)
    (harg16 : arg16.IsWhole)
    (arg17 : Memref sig .scVector .vmem S2048 .i32)
    (harg17 : arg17.IsWhole)
    (arg18 : Memref sig .scVector .vmem S32768 .i32)
    (harg18 : arg18.IsWhole)
    (arg19 : Memref sig .scVector .vmem S256 .f32)
    (harg19 : arg19.IsWhole)
    (arg20 : Memref sig .scVector .vmem S16 .i32)
    (harg20 : arg20.IsWhole)
    (arg21 : Memref sig .scVector .vmem S16 .i32)
    (harg21 : arg21.IsWhole)
    (arg22 : Memref sig .scVector .vmem S16 .i32)
    (harg22 : arg22.IsWhole)
    (arg23 : Memref sig .scVector .vmem S16 .f32)
    (harg23 : arg23.IsWhole)
    (v54_r0 : DmaSems sig S_)
    (v54_r1 : DmaSems sig S_)
    (v54_r2 : DmaSems sig S_)
    (v54_r3 : DmaSems sig S_)
    (v54_r4 : DmaSems sig S_)
    (v40_r5 : DmaSems sig S_)
    (v40_r6 : DmaSems sig S_)
    (v42_r7 : DmaSems sig S_)
    (v42_r8 : DmaSems sig S_)
    (v42_r9 : DmaSems sig S_)
    (v42_r10 : DmaSems sig S_)
    (v40_r11 : DmaSems sig S_)
    (v40_r12 : DmaSems sig S_)
    (v42_r13 : DmaSems sig S_)
    (v42_r14 : DmaSems sig S_)
    (v42_r15 : DmaSems sig S_)
    (v42_r16 : DmaSems sig S_)
    (v40_r17 : DmaSems sig S_)
    (v40_r18 : DmaSems sig S_)
    (v42_r19 : DmaSems sig S_)
    (v42_r20 : DmaSems sig S_)
    (v42_r21 : DmaSems sig S_)
    (v42_r22 : DmaSems sig S_)
    (v35_r23 : DmaSems sig S_)
    (v35_r24 : DmaSems sig S_)
    (v35_r25 : DmaSems sig S_)
    (v35_r26 : DmaSems sig S_)
    (v91_r27 : DmaSems sig S_)
    (v91_r28 : DmaSems sig S_) : TProg F i PUnit :=
  if h : k0_cond5 i = 1#1 then stage0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h (tileRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28)
  else tileRest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28

set_option maxRecDepth 65536 in
set_option maxHeartbeats 4000000 in
theorem tile_eq (i : grid0.Coords)
    (arg2 : Memref sig .scVector .hbm S100000 .f32)
    (harg2 : arg2.IsWhole)
    (arg3 : Memref sig .scVector .hbm S50176 .i32)
    (harg3 : arg3.IsWhole)
    (arg4 : Memref sig .scVector .hbm S50176 .i32)
    (harg4 : arg4.IsWhole)
    (arg5 : Memref sig .scVector .hbm S16 .f32)
    (harg5 : arg5.IsWhole)
    (arg6 : Memref sig .scVector .shared S100352 .i32)
    (harg6 : arg6.IsWhole)
    (arg7 : Memref sig .scVector .shared S100352 .i32)
    (harg7 : arg7.IsWhole)
    (arg8 : Memref sig .scVector .shared S100352 .i32)
    (harg8 : arg8.IsWhole)
    (arg9 : Memref sig .scVector .shared S100352 .i32)
    (harg9 : arg9.IsWhole)
    (arg10 : Memref sig .scVector .shared S32768 .i32)
    (harg10 : arg10.IsWhole)
    (arg11 : Memref sig .scVector .shared S256 .f32)
    (harg11 : arg11.IsWhole)
    (arg12 : Memref sig .scVector .vmem S6272 .f32)
    (harg12 : arg12.IsWhole)
    (arg13 : Memref sig .scVector .vmem S6272 .i32)
    (harg13 : arg13.IsWhole)
    (arg14 : Memref sig .scVector .vmem S6272 .i32)
    (harg14 : arg14.IsWhole)
    (arg15 : Memref sig .scVector .vmem S6272 .i32)
    (harg15 : arg15.IsWhole)
    (arg16 : Memref sig .scVector .vmem S2048 .i32)
    (harg16 : arg16.IsWhole)
    (arg17 : Memref sig .scVector .vmem S2048 .i32)
    (harg17 : arg17.IsWhole)
    (arg18 : Memref sig .scVector .vmem S32768 .i32)
    (harg18 : arg18.IsWhole)
    (arg19 : Memref sig .scVector .vmem S256 .f32)
    (harg19 : arg19.IsWhole)
    (arg20 : Memref sig .scVector .vmem S16 .i32)
    (harg20 : arg20.IsWhole)
    (arg21 : Memref sig .scVector .vmem S16 .i32)
    (harg21 : arg21.IsWhole)
    (arg22 : Memref sig .scVector .vmem S16 .i32)
    (harg22 : arg22.IsWhole)
    (arg23 : Memref sig .scVector .vmem S16 .f32)
    (harg23 : arg23.IsWhole)
    (v54_r0 : DmaSems sig S_)
    (v54_r1 : DmaSems sig S_)
    (v54_r2 : DmaSems sig S_)
    (v54_r3 : DmaSems sig S_)
    (v54_r4 : DmaSems sig S_)
    (v40_r5 : DmaSems sig S_)
    (v40_r6 : DmaSems sig S_)
    (v42_r7 : DmaSems sig S_)
    (v42_r8 : DmaSems sig S_)
    (v42_r9 : DmaSems sig S_)
    (v42_r10 : DmaSems sig S_)
    (v40_r11 : DmaSems sig S_)
    (v40_r12 : DmaSems sig S_)
    (v42_r13 : DmaSems sig S_)
    (v42_r14 : DmaSems sig S_)
    (v42_r15 : DmaSems sig S_)
    (v42_r16 : DmaSems sig S_)
    (v40_r17 : DmaSems sig S_)
    (v40_r18 : DmaSems sig S_)
    (v42_r19 : DmaSems sig S_)
    (v42_r20 : DmaSems sig S_)
    (v42_r21 : DmaSems sig S_)
    (v42_r22 : DmaSems sig S_)
    (v35_r23 : DmaSems sig S_)
    (v35_r24 : DmaSems sig S_)
    (v35_r25 : DmaSems sig S_)
    (v35_r26 : DmaSems sig S_)
    (v91_r27 : DmaSems sig S_)
    (v91_r28 : DmaSems sig S_) : cc0__sort_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 = tileBody i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 := by
  rw [cc0__sort_body_eq_skeleton]
  unfold cc0__sort_body_skel tileBody tileRest
  rw [k0_part62_eq_skeleton]
  unfold k0_part62_skel
  by_cases h : k0_cond5 i = 1#1
  · have h1 : k0_cond1 i = 1#1 := h
    have h6 : k0_cond6 i = 1#1 := h
    have h7 : k0_cond7 i = 1#1 := h
    have h8 : k0_cond8 i = 1#1 := h
    have h9 : k0_cond9 i = 1#1 := h
    have h10 : k0_cond10 i = 1#1 := h
    unfold stage0 phaseA phaseB
    by_cases h2 : k0_cond2 i = 1#1 <;> by_cases h3 : k0_cond3 i = 1#1 <;> by_cases h4 : k0_cond4 i = 1#1 <;>
      simp only [dif_pos h, dif_pos h1, dif_pos h6, dif_pos h7, dif_pos h8, dif_pos h9, dif_pos h10, dif_pos, dif_neg, h2, h3, h4,
        not_false_eq_true, bind_assoc, pure_bind, t4_eq, t5_eq, t6_eq, t7_eq, t8_eq, t9_eq, t10_eq, t11_eq, t12_eq, t13_eq, t14_eq, t15_eq, t16_eq, t17_eq, t18_eq] <;>
      rfl
  · have h1 : ¬ k0_cond1 i = 1#1 := h
    have h6 : ¬ k0_cond6 i = 1#1 := h
    have h7 : ¬ k0_cond7 i = 1#1 := h
    have h8 : ¬ k0_cond8 i = 1#1 := h
    have h9 : ¬ k0_cond9 i = 1#1 := h
    have h10 : ¬ k0_cond10 i = 1#1 := h
    simp only [dif_neg h, dif_neg h1, dif_neg h6, dif_neg h7, dif_neg h8, dif_neg h9, dif_neg h10]
    rfl

end Cert.Proof.Body
end
-- ==== Proof.Ends.lean ====
/-
  The first stage of the tile's program and the last two, from what the tile holds to what it holds afterwards.
-/
module

public import proofs.«01_k».proof.Proof.Stages
public import proofs.«01_k».proof.Proof.Tile

@[expose] public section

set_option synthInstance.maxSize 4096

noncomputable section

namespace Cert.Proof.Ends

open Idealize.ShloMosaic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof.Body Cert.Proof.Words Cert.Proof.Digits Cert.Proof.Steps Cert.Proof.Phases Cert.Proof.Stages

variable {F : FTy → Type} [BitOps F] {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond5 i = 1#1) (dv : Dev nD) {α : Type} {Q : α → sProp (MT nD τ sig Ix (Elt F) Name U Lvl)}

local notation "𝕄" => MT nD τ sig Ix (Elt F) Name U Lvl

/-- The first stage, over the arrays it touches. -/
def opening (i : grid0.Coords) (h : k0_cond5 i = 1#1) (scores : Memref sig .scVector .hbm S100000 .f32)
    (dk dn : Memref sig .scVector .shared S100352 .i32) (pool : Memref sig .scVector .shared S256 .f32)
    (mine : Memref sig .scVector .vmem S6272 .f32) (hmine : mine.IsWhole) (keys : Memref sig .scVector .vmem S6272 .i32) (hkeys : keys.IsWhole)
    (nums : Memref sig .scVector .vmem S6272 .i32) (hnums : nums.IsWhole) (t : Memref sig .scVector .vmem S16 .f32) (ht : t.IsWhole)
    (s0 s1 s2 s3 s4 : DmaSems sig S_) (more : Fin (k0_t2_loop i).trips → FVec F S16 .f32 → TProg F i (FVec F S16 .f32)) (next : TProg F i PUnit.{1}) : TProg F i PUnit.{1} :=
  fetch i h scores mine hmine s0 s1 fun (_ : PUnit.{1}) => do
  let v47 : FVec F S16 .f32 ← Scf.Loop.for (k0_t1_loop i) (k0_t1_ok i h) (k0_pay400 (F := F)) (keyBody i h mine keys nums)
  let v48 : FVec F S16 .f32 ← Scf.Loop.for (k0_t2_loop i) (k0_t2_ok i h) v47 more
  if h4 : k0_cond4 i = 1#1 then do
    let _ : BitVec 32 ← Scf.Loop.for k0_t3_loop (k0_t3_ok i h h4) 0#32 (padBody i h h4 keys nums)
    pure ⟨⟩
  else do
    pure ⟨⟩
  Prog.lift (.enqueueDma keys (.here (dk.slice (Rect.unit (s := S100352) (k0_off6 i) S6272.size (k0_off6_inb i h)) (fun _ => rfl))) (.dma s2.sem) hkeys.wordExact (View.wordExact_bits rfl) ⟨Or.inl rfl, trivial⟩)
  Prog.lift (.waitDma2 s2.sem keys (dk.slice (Rect.unit (s := S100352) (k0_off6 i) S6272.size (k0_off6_inb i h)) (fun _ => rfl)) hkeys.wordExact (View.wordExact_bits rfl))
  Prog.lift (.enqueueDma nums (.here (dn.slice (Rect.unit (s := S100352) (k0_off6 i) S6272.size (k0_off6_inb i h)) (fun _ => rfl))) (.dma s3.sem) hnums.wordExact (View.wordExact_bits rfl) ⟨Or.inl rfl, trivial⟩)
  Prog.lift (.waitDma2 s3.sem nums (dn.slice (Rect.unit (s := S100352) (k0_off6 i) S6272.size (k0_off6_inb i h)) (fun _ => rfl)) hnums.wordExact (View.wordExact_bits rfl))
  let _ : Vec F S16 .f32 ← Prog.lift (.load t (Rect.unit (s := S16) ![0] S16.size inb_S16_S16_0).toLoadRect (View.loadsAt_vmem h_S16))
  Prog.lift (.store t (Rect.unit (s := S16) ![0] S16.size inb_S16_S16_0) v48 Finset.univ (View.stores_vmem_bits_univ h_S16 rfl) (.inl rfl))
  Prog.lift (.enqueueDma t (.here (pool.slice (Rect.unit (s := S256) (k0_off7 i) S16.size (k0_off7_inb i h)) (fun _ => rfl))) (.dma s4.sem) ht.wordExact (View.wordExact_bits rfl) ⟨Or.inl rfl, trivial⟩)
  Prog.lift (.waitDma2 s4.sem t (pool.slice (Rect.unit (s := S256) (k0_off7 i) S16.size (k0_off7_inb i h)) (fun _ => rfl)) ht.wordExact (View.wordExact_bits rfl))
  next

theorem opening_eq (i : grid0.Coords) (arg2 : Memref sig .scVector .hbm S100000 .f32) (harg2 : arg2.IsWhole) (arg3 : Memref sig .scVector .hbm S50176 .i32) (harg3 : arg3.IsWhole) (arg4 : Memref sig .scVector .hbm S50176 .i32) (harg4 : arg4.IsWhole) (arg5 : Memref sig .scVector .hbm S16 .f32) (harg5 : arg5.IsWhole) (arg6 : Memref sig .scVector .shared S100352 .i32) (harg6 : arg6.IsWhole) (arg7 : Memref sig .scVector .shared S100352 .i32) (harg7 : arg7.IsWhole) (arg8 : Memref sig .scVector .shared S100352 .i32) (harg8 : arg8.IsWhole) (arg9 : Memref sig .scVector .shared S100352 .i32) (harg9 : arg9.IsWhole) (arg10 : Memref sig .scVector .shared S32768 .i32) (harg10 : arg10.IsWhole) (arg11 : Memref sig .scVector .shared S256 .f32) (harg11 : arg11.IsWhole) (arg12 : Memref sig .scVector .vmem S6272 .f32) (harg12 : arg12.IsWhole) (arg13 : Memref sig .scVector .vmem S6272 .i32) (harg13 : arg13.IsWhole) (arg14 : Memref sig .scVector .vmem S6272 .i32) (harg14 : arg14.IsWhole) (arg15 : Memref sig .scVector .vmem S6272 .i32) (harg15 : arg15.IsWhole) (arg16 : Memref sig .scVector .vmem S2048 .i32) (harg16 : arg16.IsWhole) (arg17 : Memref sig .scVector .vmem S2048 .i32) (harg17 : arg17.IsWhole) (arg18 : Memref sig .scVector .vmem S32768 .i32) (harg18 : arg18.IsWhole) (arg19 : Memref sig .scVector .vmem S256 .f32) (harg19 : arg19.IsWhole) (arg20 : Memref sig .scVector .vmem S16 .i32) (harg20 : arg20.IsWhole) (arg21 : Memref sig .scVector .vmem S16 .i32) (harg21 : arg21.IsWhole) (arg22 : Memref sig .scVector .vmem S16 .i32) (harg22 : arg22.IsWhole) (arg23 : Memref sig .scVector .vmem S16 .f32) (harg23 : arg23.IsWhole) (v54_r0 : DmaSems sig S_) (v54_r1 : DmaSems sig S_) (v54_r2 : DmaSems sig S_) (v54_r3 : DmaSems sig S_) (v54_r4 : DmaSems sig S_) (v40_r5 : DmaSems sig S_) (v40_r6 : DmaSems sig S_) (v42_r7 : DmaSems sig S_) (v42_r8 : DmaSems sig S_) (v42_r9 : DmaSems sig S_) (v42_r10 : DmaSems sig S_) (v40_r11 : DmaSems sig S_) (v40_r12 : DmaSems sig S_) (v42_r13 : DmaSems sig S_) (v42_r14 : DmaSems sig S_) (v42_r15 : DmaSems sig S_) (v42_r16 : DmaSems sig S_) (v40_r17 : DmaSems sig S_) (v40_r18 : DmaSems sig S_) (v42_r19 : DmaSems sig S_) (v42_r20 : DmaSems sig S_) (v42_r21 : DmaSems sig S_) (v42_r22 : DmaSems sig S_) (v35_r23 : DmaSems sig S_) (v35_r24 : DmaSems sig S_) (v35_r25 : DmaSems sig S_) (v35_r26 : DmaSems sig S_) (v91_r27 : DmaSems sig S_) (v91_r28 : DmaSems sig S_) (h : k0_cond5 i = 1#1) (next : TProg F i PUnit.{1}) :
    stage0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h next = opening i h arg2 arg6 arg7 arg11 arg12 harg12 arg13 harg13 arg14 harg14 arg23 harg23 v54_r0 v54_r1 v54_r2 v54_r3 v54_r4
      (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h) next := rfl

variable [Infinite Name] (EC : UEmb Counters (MT nD τ sig Ix (Elt F) Name U Lvl))

theorem wp_opening [EC.LandsIn (upEmb : UEmb _ 𝕄)] {Q : PUnit.{1} → sProp (MT nD τ sig Ix (Elt F) Name U Lvl)} {scores : Memref sig .scVector .hbm S100000 .f32}
    {dk dn : Memref sig .scVector .shared S100352 .i32} {pool : Memref sig .scVector .shared S256 .f32}
    {mine : Memref sig .scVector .vmem S6272 .f32} {hmine : mine.IsWhole} {keys : Memref sig .scVector .vmem S6272 .i32} {hkeys : keys.IsWhole}
    {nums : Memref sig .scVector .vmem S6272 .i32} {hnums : nums.IsWhole} {t : Memref sig .scVector .vmem S16 .f32} {ht : t.IsWhole}
    {s0 s1 s2 s3 s4 : DmaSems sig S_} {more : Fin (k0_t2_loop i).trips → FVec F S16 .f32 → TProg F i (FVec F S16 .f32)} {next : TProg F i PUnit.{1}}
    {w : ℕ} (hw : (i 1).val = w) (ι : Ix) {O : CellTallies nD τ sig Ix} {ok : SemLoc sig × Ix → Prop} (hok : ∀ s, ok (.dma s, ι))
    {q : PosShare TreeShare} {sc : ℕ → F .f32} :
    (iprop(Some32 dv i scores (fun j => 6272 * w ≤ j ∧ j < 6272 * w + 6272) q sc ∗ (∃ a, Cut dv i dk (6272 * w) 6272 fullShare a) ∗ (∃ a, Cut dv i dn (6272 * w) 6272 fullShare a)
        ∗ (∃ a, Some32 dv i pool (fun j => 16 * w ≤ j ∧ j < 16 * w + 16) fullShare a) ∗ (∃ a, Some32 dv i mine (fun _ => True) fullShare a)
        ∗ (∃ a, Has dv i keys fullShare a) ∗ (∃ a, Has dv i nums fullShare a) ∗ (∃ a, Some32 dv i t (fun _ => True) fullShare a)
        ∗ Rest dv i s0.sem ∗ Rest dv i s1.sem ∗ Rest dv i s2.sem ∗ Rest dv i s3.sem ∗ Rest dv i s4.sem ∗ Debt (tile dv i) O ok ∗ Transfers.MayWaits (tile dv i) ι O) : sProp 𝕄)
      ⊢ iprop((iprop(Some32 dv i scores (fun j => 6272 * w ≤ j ∧ j < 6272 * w + 6272) q sc ∗ Cut dv i dk (6272 * w) 6272 fullShare (keys0 sc) ∗ Cut dv i dn (6272 * w) 6272 fullShare nums0
            ∗ (∃ a, Some32 dv i pool (fun j => 16 * w ≤ j ∧ j < 16 * w + 16) fullShare a) ∗ (∃ a, Some32 dv i mine (fun _ => True) fullShare a)
            ∗ (∃ a, Has dv i keys fullShare a) ∗ (∃ a, Has dv i nums fullShare a) ∗ (∃ a, Some32 dv i t (fun _ => True) fullShare a)
            ∗ Rest dv i s0.sem ∗ Rest dv i s1.sem ∗ Rest dv i s2.sem ∗ Rest dv i s3.sem ∗ Rest dv i s4.sem ∗ Debt (tile dv i) O ok)
          -∗ wp frame (wpE defs 𝒱 (tile dv i) bd) Set.univ next Q)
        -∗ wp frame (wpE defs 𝒱 (tile dv i) bd) Set.univ (opening i h scores dk dn pool mine hmine keys hkeys nums hnums t ht s0 s1 s2 s3 s4 more next) Q) := by
  have e6 : k0_off6 i 0 = 6272 * w := by rw [k0_off6_eq, ← hw]; rfl
  have e7 : k0_off7 i 0 = 16 * w := by rw [k0_off7_eq, ← hw]; rfl
  have hw16 : w < 16 := hw ▸ (i 1).isLt
  obtain ⟨lim, hlim⟩ : ∃ lim, lim = if w = 15 then 5920 else 6272 := ⟨_, rfl⟩
  unfold opening
  iintro ⟨Hs, Hdk, Hdn, Hp, Hm, Hk, Hn, Ht, H0, H1, H2, H3, H4, HD, #Hmw⟩ HX
  iapply (wp_fetch 𝒱 bd h dv EC hw hlim ι hok) $$ [Hs Hm H0 H1 HD]
  · isplitl [Hs]; · iexact Hs
    isplitl [Hm]; · iexact Hm
    isplitl [H0]; · iexact H0
    isplitl [H1]; · iexact H1
    isplitl [HD] <;> iassumption
  iintro ⟨Hs, Hm, ⟨%r, Hr⟩, H0, H1, HD⟩
  simp only [bind_assoc, pure_bind]
  iapply (wp_keys 𝒱 bd h dv hw hlim) $$ [Hm Hk Hn]
  · isplitl [Hm]; · iexact Hm
    isplitl [Hk] <;> iassumption
  iintro %acc ⟨Hm, ⟨%a, %ha, Hk⟩, ⟨%b, %hb, Hn⟩⟩
  ihave Hm := (part_mono (F := F) (e := .f32) (tile dv i) (m := mine) (P' := fun j => True ∧ j < lim) (fun j _ => by simp) (fun _ _ _ => rfl)) $$ Hm
  ihave Hr := (part_mono (F := F) (e := .f32) (tile dv i) (m := mine) (P' := fun j => True ∧ ¬j < lim) (fun j _ => by simp) (fun _ _ _ => rfl)) $$ Hr
  ihave Hm := (part_unsplit (F := F) (e := .f32) dv (i := i) (m := mine) (fun j => j < lim)) $$ [Hm Hr]
  · isplitl [Hm] <;> iassumption
  iapply (wp_loop 𝒱 bd dv (k0_t2_ok i h) acc more (fun _ _ => iprop(emp)) (fun k _ => absurd k.isLt (by have := more_trips i; omega)))
  · iempintro
  iintro %acc -
  have hpad : ∀ X : TProg F i PUnit.{1}, iprop(Has dv i keys fullShare a ∗ Has dv i nums fullShare b)
      ⊢ (iprop((iprop(Has dv i keys fullShare (fun j => keys0 sc (6272 * w + j)) ∗ Has dv i nums fullShare (fun j => nums0 (6272 * w + j)))
          -∗ wp frame (wpE defs 𝒱 (tile dv i) bd) Set.univ X Q)
        -∗ wp frame (wpE defs 𝒱 (tile dv i) bd) Set.univ (if h4 : k0_cond4 i = 1#1 then (Scf.Loop.for k0_t3_loop (k0_t3_ok i h h4) 0#32 (padBody i h h4 keys nums) >>= fun _ => X)
            else X) Q) : sProp 𝕄) := by
    intro X
    by_cases h15 : w = 15
    · rw [if_pos h15] at hlim
      rw [dif_pos ((cond4_iff i).mpr (hw.trans h15))]
      iintro ⟨Hk, Hn⟩ HX
      iapply (wp_pad 𝒱 bd h dv ((cond4_iff i).mpr (hw.trans h15)) hw) $$ [Hk Hn]
      · isplitl [Hk] <;> iassumption
      iintro %_ ⟨Hk, Hn⟩
      iapply HX
      isplitl [Hk]
      · iapply (part_mono (F := F) (e := .i32) (tile dv i) (m := keys) (fun _ _ => Iff.rfl) (fun j hj _ => ?_)) $$ Hk
        unfold keys0
        by_cases hc : 5920 ≤ j
        · rw [if_pos hc, if_neg (by omega)]
        · rw [if_neg hc, if_pos (by omega)]; exact ha j (by omega)
      · iapply (part_mono (F := F) (e := .i32) (tile dv i) (m := nums) (fun _ _ => Iff.rfl) (fun j hj _ => ?_)) $$ Hn
        by_cases hc : 5920 ≤ j
        · rw [if_pos hc]
        · rw [if_neg hc]; exact hb j (by omega)
    · rw [if_neg h15] at hlim
      rw [dif_neg (fun hc => h15 (hw.symm.trans ((cond4_iff i).mp hc)))]
      iintro ⟨Hk, Hn⟩ HX
      iapply HX
      isplitl [Hk]
      · iapply (part_mono (F := F) (e := .i32) (tile dv i) (m := keys) (fun _ _ => Iff.rfl) (fun j hj _ => ?_)) $$ Hk
        unfold keys0
        rw [if_pos (by omega)]; exact ha j (by omega)
      · iapply (part_mono (F := F) (e := .i32) (tile dv i) (m := nums) (fun _ _ => Iff.rfl) (fun j hj _ => ?_)) $$ Hn
        exact hb j (by omega)
  iapply (hpad _) $$ [Hk Hn]
  · isplitl [Hk] <;> iassumption
  iintro ⟨Hk, Hn⟩
  iapply (wp_give (F := F) (e := .i32) 𝒱 bd dv EC (by decide) ι (hok _) (b := keys0 sc) (6272 * w) e6 (fun _ _ => rfl)) $$ [Hk Hdk H2 HD]
  · isplitl [Hk]; · iexact Hk
    isplitl [Hdk]; · iexact Hdk
    isplitl [H2]; · iexact H2
    isplitl [HD] <;> iassumption
  iintro ⟨Hk, Hdk, H2, HD⟩
  iapply (wp_give (F := F) (e := .i32) 𝒱 bd dv EC (by decide) ι (hok _) (b := nums0) (6272 * w) e6 (fun _ _ => rfl)) $$ [Hn Hdn H3 HD]
  · isplitl [Hn]; · iexact Hn
    isplitl [Hdn]; · iexact Hdn
    isplitl [H3]; · iexact H3
    isplitl [HD] <;> iassumption
  iintro ⟨Hn, Hdn, H3, HD⟩
  icases Ht with ⟨%t0, Ht⟩
  iapply (wp_readf 𝒱 bd dv (P := fun _ => True) (fun _ _ => trivial)) $$ Ht
  iintro Ht
  iapply (wp_writef 𝒱 bd dv) $$ [Ht]
  · iexists _; iexact Ht
  iintro ⟨%t1, Ht⟩
  iapply (wp_give (F := F) (e := .f32) 𝒱 bd dv EC (by decide) ι (hok _) (b := fun j => t1 (j - 16 * w)) (16 * w) e7
    (fun j _ => by rw [Nat.add_sub_cancel_left])) $$ [Ht Hp H4 HD]
  · isplitl [Ht]; · iexact Ht
    isplitl [Hp]; · iexact Hp
    isplitl [H4]; · iexact H4
    isplitl [HD] <;> iassumption
  iintro ⟨Ht, Hp, H4, HD⟩
  iapply HX
  isplitl [Hs]; · iexact Hs
  isplitl [Hdk]; · iexact Hdk
  isplitl [Hdn]; · iexact Hdn
  isplitl [Hp]; · iexists _; iexact Hp
  isplitl [Hm]; · iexists _; iexact Hm
  isplitl [Hk]; · iexists _; iexact Hk
  isplitl [Hn]; · iexists _; iexact Hn
  isplitl [Ht]; · iexists _; iexact Ht
  isplitl [H0]; · iexact H0
  isplitl [H1]; · iexact H1
  isplitl [H2]; · iexact H2
  isplitl [H3]; · iexact H3
  isplitl [H4] <;> iassumption

set_option maxRecDepth 65536 in
theorem wp_stage1 [EC.LandsIn (upEmb : UEmb _ 𝕄)] {arg2 : Memref sig .scVector .hbm S100000 .f32} {harg2 : arg2.IsWhole} {arg3 : Memref sig .scVector .hbm S50176 .i32} {harg3 : arg3.IsWhole} {arg4 : Memref sig .scVector .hbm S50176 .i32} {harg4 : arg4.IsWhole} {arg5 : Memref sig .scVector .hbm S16 .f32} {harg5 : arg5.IsWhole} {arg6 : Memref sig .scVector .shared S100352 .i32} {harg6 : arg6.IsWhole} {arg7 : Memref sig .scVector .shared S100352 .i32} {harg7 : arg7.IsWhole} {arg8 : Memref sig .scVector .shared S100352 .i32} {harg8 : arg8.IsWhole} {arg9 : Memref sig .scVector .shared S100352 .i32} {harg9 : arg9.IsWhole} {arg10 : Memref sig .scVector .shared S32768 .i32} {harg10 : arg10.IsWhole} {arg11 : Memref sig .scVector .shared S256 .f32} {harg11 : arg11.IsWhole} {arg12 : Memref sig .scVector .vmem S6272 .f32} {harg12 : arg12.IsWhole} {arg13 : Memref sig .scVector .vmem S6272 .i32} {harg13 : arg13.IsWhole} {arg14 : Memref sig .scVector .vmem S6272 .i32} {harg14 : arg14.IsWhole} {arg15 : Memref sig .scVector .vmem S6272 .i32} {harg15 : arg15.IsWhole} {arg16 : Memref sig .scVector .vmem S2048 .i32} {harg16 : arg16.IsWhole} {arg17 : Memref sig .scVector .vmem S2048 .i32} {harg17 : arg17.IsWhole} {arg18 : Memref sig .scVector .vmem S32768 .i32} {harg18 : arg18.IsWhole} {arg19 : Memref sig .scVector .vmem S256 .f32} {harg19 : arg19.IsWhole} {arg20 : Memref sig .scVector .vmem S16 .i32} {harg20 : arg20.IsWhole} {arg21 : Memref sig .scVector .vmem S16 .i32} {harg21 : arg21.IsWhole} {arg22 : Memref sig .scVector .vmem S16 .i32} {harg22 : arg22.IsWhole} {arg23 : Memref sig .scVector .vmem S16 .f32} {harg23 : arg23.IsWhole} {v54_r0 : DmaSems sig S_} {v54_r1 : DmaSems sig S_} {v54_r2 : DmaSems sig S_} {v54_r3 : DmaSems sig S_} {v54_r4 : DmaSems sig S_} {v40_r5 : DmaSems sig S_} {v40_r6 : DmaSems sig S_} {v42_r7 : DmaSems sig S_} {v42_r8 : DmaSems sig S_} {v42_r9 : DmaSems sig S_} {v42_r10 : DmaSems sig S_} {v40_r11 : DmaSems sig S_} {v40_r12 : DmaSems sig S_} {v42_r13 : DmaSems sig S_} {v42_r14 : DmaSems sig S_} {v42_r15 : DmaSems sig S_} {v42_r16 : DmaSems sig S_} {v40_r17 : DmaSems sig S_} {v40_r18 : DmaSems sig S_} {v42_r19 : DmaSems sig S_} {v42_r20 : DmaSems sig S_} {v42_r21 : DmaSems sig S_} {v42_r22 : DmaSems sig S_} {v35_r23 : DmaSems sig S_} {v35_r24 : DmaSems sig S_} {v35_r25 : DmaSems sig S_} {v35_r26 : DmaSems sig S_} {v91_r27 : DmaSems sig S_} {v91_r28 : DmaSems sig S_} (h11 : k0_cond11 i = 1#1) {X : PUnit.{1} → TProg F i α}
    {w : ℕ} (hw : (i 1).val = w) (ι : Ix) {O : CellTallies nD τ sig Ix} {ok : SemLoc sig × Ix → Prop} (hok : ∀ s, ok (.dma s, ι))
    {q : PosShare TreeShare} {K I : ℕ → BitVec 32} :
    (iprop(Cut dv i arg8 (6272 * w) 6272 q K ∗ Cut dv i arg9 (6272 * w) 6272 q I ∗ (∃ a, Cut dv i arg3 (6272 * w) 6272 fullShare a)
        ∗ (∃ a, Cut dv i arg4 (6272 * w) 6272 fullShare a) ∗ (∃ a, Has dv i arg13 fullShare a) ∗ (∃ a, Has dv i arg14 fullShare a)
        ∗ Rest dv i v35_r23.sem ∗ Rest dv i v35_r24.sem ∗ Rest dv i v35_r25.sem ∗ Rest dv i v35_r26.sem ∗ Debt (tile dv i) O ok ∗ Transfers.MayWaits (tile dv i) ι O) : sProp 𝕄)
      ⊢ iprop((iprop(Cut dv i arg8 (6272 * w) 6272 q K ∗ Cut dv i arg9 (6272 * w) 6272 q I ∗ Cut dv i arg3 (6272 * w) 6272 fullShare K
            ∗ Cut dv i arg4 (6272 * w) 6272 fullShare I ∗ (∃ a, Has dv i arg13 fullShare a) ∗ (∃ a, Has dv i arg14 fullShare a)
            ∗ Rest dv i v35_r23.sem ∗ Rest dv i v35_r24.sem ∗ Rest dv i v35_r25.sem ∗ Rest dv i v35_r26.sem ∗ Debt (tile dv i) O ok)
          -∗ wp frame (wpE defs 𝒱 (tile dv i) bd) Set.univ (X ⟨⟩) Q)
        -∗ wp frame (wpE defs 𝒱 (tile dv i) bd) Set.univ (stage1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h11 >>= X) Q) := by
  have e38 : k0_off38 i 0 = 6272 * w := by rw [k0_off38_eq, ← hw]; rfl
  have e39 : k0_off39 i 0 = 6272 * w := by rw [k0_off39_eq, ← hw]; rfl
  unfold stage1
  simp only [bind_assoc, pure_bind]
  iintro ⟨H8, H9, H3, H4, Hk, Hn, R0, R1, R2, R3, HD, #Hmw⟩ HX
  iapply (wp_take (F := F) (e := .i32) 𝒱 bd dv EC (by decide) ι (hok _) (6272 * w) e38) $$ [H8 Hk R0 HD]
  · isplitl [H8]; · iexact H8
    isplitl [Hk]; · iexact Hk
    isplitl [R0]; · iexact R0
    isplitl [HD] <;> iassumption
  iintro ⟨H8, Hk, R0, HD⟩
  iapply (wp_give (F := F) (e := .i32) 𝒱 bd dv EC (by decide) ι (hok _) (b := K) (6272 * w) e39 (fun _ _ => rfl)) $$ [Hk H3 R1 HD]
  · isplitl [Hk]; · iexact Hk
    isplitl [H3]; · iexact H3
    isplitl [R1]; · iexact R1
    isplitl [HD] <;> iassumption
  iintro ⟨Hk, H3, R1, HD⟩
  iapply (wp_take (F := F) (e := .i32) 𝒱 bd dv EC (by decide) ι (hok _) (6272 * w) e38) $$ [H9 Hn R2 HD]
  · isplitl [H9]; · iexact H9
    isplitl [Hn]; · iexact Hn
    isplitl [R2]; · iexact R2
    isplitl [HD] <;> iassumption
  iintro ⟨H9, Hn, R2, HD⟩
  iapply (wp_give (F := F) (e := .i32) 𝒱 bd dv EC (by decide) ι (hok _) (b := I) (6272 * w) e39 (fun _ _ => rfl)) $$ [Hn H4 R3 HD]
  · isplitl [Hn]; · iexact Hn
    isplitl [H4]; · iexact H4
    isplitl [R3]; · iexact R3
    isplitl [HD] <;> iassumption
  iintro ⟨Hn, H4, R3, HD⟩
  iapply HX
  isplitl [H8]; · iexact H8
  isplitl [H9]; · iexact H9
  isplitl [H3]; · iexact H3
  isplitl [H4]; · iexact H4
  isplitl [Hk]; · iexists _; iexact Hk
  isplitl [Hn]; · iexists _; iexact Hn
  isplitl [R0]; · iexact R0
  isplitl [R1]; · iexact R1
  isplitl [R2]; · iexact R2
  isplitl [R3] <;> iassumption

theorem wp_readany {n : ℕ} {m : Memref sig .scVector .vmem (Arr n) .f32} {off : Fin 1 → ℕ} {hoff : ∀ a, off a + S16.size a ≤ (Arr n).size a}
    {hl : m.view.LoadsAt (Rect.unit (s := Arr n) off S16.size hoff).toLoadRect} {K : Vec F S16 .f32 → TProg F i α} :
    (iprop(∃ a, Some32 dv i m (fun _ => True) fullShare a) : sProp 𝕄)
      ⊢ iprop((∀ v, iprop(∃ a, Some32 dv i m (fun _ => True) fullShare a) -∗ wp frame (wpE defs 𝒱 (tile dv i) bd) Set.univ (K v) Q)
        -∗ wp frame (wpE defs 𝒱 (tile dv i) bd) Set.univ (Prog.lift (.load m (Rect.unit (s := Arr n) off S16.size hoff).toLoadRect hl) >>= K) Q) := by
  iintro ⟨%a, H⟩ HK
  iapply (wp_readf 𝒱 bd dv (P := fun _ => True) (fun _ _ => trivial)) $$ H
  iintro H
  iapply HK
  iexists _; iexact H

theorem wp_pick {m : Memref sig .scVector .vmem S16 .f32} {v : IVec S16 32} {hb : ∀ b x, ((![v] : Fin 1 → IVec S16 32) b x).toNat < S16.size b} {hl : m.view.Loads}
    {K : Vec F S16 .f32 → TProg F i α} :
    (iprop(∃ a, Some32 dv i m (fun _ => True) fullShare a) : sProp 𝕄)
      ⊢ iprop((∀ v, iprop(∃ a, Some32 dv i m (fun _ => True) fullShare a) -∗ wp frame (wpE defs 𝒱 (tile dv i) bd) Set.univ (K v) Q)
        -∗ wp frame (wpE defs 𝒱 (tile dv i) bd) Set.univ (SparseCore.vectorLoadIdx m ![v] hb hl >>= K) Q) := by
  iintro ⟨%a, H⟩ HK
  iapply (holds_loadIdx (F := F) (e := .f32) 𝒱 (tile dv i) bd) $$ H
  iintro H
  iapply HK
  iexists _; iexact H

theorem xor_toNat {k : ℕ} (hk : k < 16) (x : S16.Idx) : (xori lanes (broadcast S16 (BitVec.ofNat 32 k)) x).toNat < 16 := by
  have hx : (x 0).val < 16 := (x 0).isLt
  show (lanes x ^^^ BitVec.ofNat 32 k).toNat < 16
  rw [lanes_apply, BitVec.toNat_xor, BitVec.toNat_ofNat, BitVec.toNat_ofNat, Nat.mod_eq_of_lt (by omega), Nat.mod_eq_of_lt (by omega)]
  exact Nat.xor_lt_two_pow (n := 4) hx hk

set_option maxRecDepth 65536 in
theorem wp_stage2 [EC.LandsIn (upEmb : UEmb _ 𝕄)] {arg2 : Memref sig .scVector .hbm S100000 .f32} {harg2 : arg2.IsWhole} {arg3 : Memref sig .scVector .hbm S50176 .i32} {harg3 : arg3.IsWhole} {arg4 : Memref sig .scVector .hbm S50176 .i32} {harg4 : arg4.IsWhole} {arg5 : Memref sig .scVector .hbm S16 .f32} {harg5 : arg5.IsWhole} {arg6 : Memref sig .scVector .shared S100352 .i32} {harg6 : arg6.IsWhole} {arg7 : Memref sig .scVector .shared S100352 .i32} {harg7 : arg7.IsWhole} {arg8 : Memref sig .scVector .shared S100352 .i32} {harg8 : arg8.IsWhole} {arg9 : Memref sig .scVector .shared S100352 .i32} {harg9 : arg9.IsWhole} {arg10 : Memref sig .scVector .shared S32768 .i32} {harg10 : arg10.IsWhole} {arg11 : Memref sig .scVector .shared S256 .f32} {harg11 : arg11.IsWhole} {arg12 : Memref sig .scVector .vmem S6272 .f32} {harg12 : arg12.IsWhole} {arg13 : Memref sig .scVector .vmem S6272 .i32} {harg13 : arg13.IsWhole} {arg14 : Memref sig .scVector .vmem S6272 .i32} {harg14 : arg14.IsWhole} {arg15 : Memref sig .scVector .vmem S6272 .i32} {harg15 : arg15.IsWhole} {arg16 : Memref sig .scVector .vmem S2048 .i32} {harg16 : arg16.IsWhole} {arg17 : Memref sig .scVector .vmem S2048 .i32} {harg17 : arg17.IsWhole} {arg18 : Memref sig .scVector .vmem S32768 .i32} {harg18 : arg18.IsWhole} {arg19 : Memref sig .scVector .vmem S256 .f32} {harg19 : arg19.IsWhole} {arg20 : Memref sig .scVector .vmem S16 .i32} {harg20 : arg20.IsWhole} {arg21 : Memref sig .scVector .vmem S16 .i32} {harg21 : arg21.IsWhole} {arg22 : Memref sig .scVector .vmem S16 .i32} {harg22 : arg22.IsWhole} {arg23 : Memref sig .scVector .vmem S16 .f32} {harg23 : arg23.IsWhole} {v54_r0 : DmaSems sig S_} {v54_r1 : DmaSems sig S_} {v54_r2 : DmaSems sig S_} {v54_r3 : DmaSems sig S_} {v54_r4 : DmaSems sig S_} {v40_r5 : DmaSems sig S_} {v40_r6 : DmaSems sig S_} {v42_r7 : DmaSems sig S_} {v42_r8 : DmaSems sig S_} {v42_r9 : DmaSems sig S_} {v42_r10 : DmaSems sig S_} {v40_r11 : DmaSems sig S_} {v40_r12 : DmaSems sig S_} {v42_r13 : DmaSems sig S_} {v42_r14 : DmaSems sig S_} {v42_r15 : DmaSems sig S_} {v42_r16 : DmaSems sig S_} {v40_r17 : DmaSems sig S_} {v40_r18 : DmaSems sig S_} {v42_r19 : DmaSems sig S_} {v42_r20 : DmaSems sig S_} {v42_r21 : DmaSems sig S_} {v42_r22 : DmaSems sig S_} {v35_r23 : DmaSems sig S_} {v35_r24 : DmaSems sig S_} {v35_r25 : DmaSems sig S_} {v35_r26 : DmaSems sig S_} {v91_r27 : DmaSems sig S_} {v91_r28 : DmaSems sig S_} (h12 : k0_cond12 i = 1#1) {X : PUnit.{1} → TProg F i α}
    (ι : Ix) {O : CellTallies nD τ sig Ix} {ok : SemLoc sig × Ix → Prop} (hok : ∀ s, ok (.dma s, ι)) :
    (iprop((∃ a, Some32 dv i arg11 (fun _ => True) fullShare a) ∗ (∃ a, Some32 dv i arg19 (fun _ => True) fullShare a) ∗ (∃ a, Some32 dv i arg23 (fun _ => True) fullShare a)
        ∗ (∃ a, Some32 dv i arg5 (fun _ => True) fullShare a)
        ∗ Rest dv i v91_r27.sem ∗ Rest dv i v91_r28.sem ∗ Debt (tile dv i) O ok ∗ Transfers.MayWaits (tile dv i) ι O) : sProp 𝕄)
      ⊢ iprop((iprop((∃ a, Some32 dv i arg11 (fun _ => True) fullShare a) ∗ (∃ a, Some32 dv i arg19 (fun _ => True) fullShare a) ∗ (∃ a, Some32 dv i arg23 (fun _ => True) fullShare a)
            ∗ (∃ a, Some32 dv i arg5 (fun _ => True) fullShare a) ∗ Rest dv i v91_r27.sem ∗ Rest dv i v91_r28.sem ∗ Debt (tile dv i) O ok)
          -∗ wp frame (wpE defs 𝒱 (tile dv i) bd) Set.univ (X ⟨⟩) Q)
        -∗ wp frame (wpE defs 𝒱 (tile dv i) bd) Set.univ (stage2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h12 >>= X) Q) := by
  unfold stage2
  rw [k0_part61_eq_skeleton]
  unfold k0_part61_skel
  simp only [bind_assoc, pure_bind]
  iintro ⟨⟨%p, Hp⟩, ⟨%a0, Ha⟩, Ht, ⟨%o0, Ho⟩, R0, R1, HD, #Hmw⟩ HX
  ihave Hm1 := (Transfers.MayWaits.elim (.dma v91_r27.sem)) $$ Hmw
  iapply (holds_copy (F := F) (e := .f32) 𝒱 (tile dv i) bd EC (by decide) ι (hok _)) $$ [Hp Ha R0 HD Hm1]
  · isplitl [Hp]; · iexact Hp
    isplitl [Ha]; · iexact Ha
    isplitl [R0]; · iexact R0
    isplitl [HD] <;> iassumption
  iintro ⟨Hp, Ha, R0, HD⟩
  iapply (wp_readany 𝒱 bd dv) $$ [Ha]
  · iexists _; iexact Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ha
  iintro %_ Ha
  iapply (wp_readany 𝒱 bd dv) $$ Ht
  iintro %_ Ht
  iapply (wp_writef 𝒱 bd dv) $$ Ht
  iintro Ht
  rw [wp_known 𝒱 bd dv (P := k0_chk202 i _) (fun _ a x => by obtain rfl := Fin.eq_zero a; exact xor_toNat (k := 1) (by omega) x)]
  iapply (wp_pick 𝒱 bd dv) $$ Ht
  iintro %_ Ht
  iapply (wp_readany 𝒱 bd dv) $$ Ht
  iintro %_ Ht
  iapply (wp_writef 𝒱 bd dv) $$ Ht
  iintro Ht
  rw [wp_known 𝒱 bd dv (P := k0_chk203 i _) (fun _ a x => by obtain rfl := Fin.eq_zero a; exact xor_toNat (k := 2) (by omega) x)]
  iapply (wp_pick 𝒱 bd dv) $$ Ht
  iintro %_ Ht
  iapply (wp_readany 𝒱 bd dv) $$ Ht
  iintro %_ Ht
  iapply (wp_writef 𝒱 bd dv) $$ Ht
  iintro Ht
  rw [wp_known 𝒱 bd dv (P := k0_chk204 i _) (fun _ a x => by obtain rfl := Fin.eq_zero a; exact xor_toNat (k := 4) (by omega) x)]
  iapply (wp_pick 𝒱 bd dv) $$ Ht
  iintro %_ Ht
  iapply (wp_readany 𝒱 bd dv) $$ Ht
  iintro %_ Ht
  iapply (wp_writef 𝒱 bd dv) $$ Ht
  iintro Ht
  rw [wp_known 𝒱 bd dv (P := k0_chk205 i _) (fun _ a x => by obtain rfl := Fin.eq_zero a; exact xor_toNat (k := 8) (by omega) x)]
  iapply (wp_pick 𝒱 bd dv) $$ Ht
  iintro %_ Ht
  iapply (wp_readany 𝒱 bd dv) $$ Ht
  iintro %_ Ht
  iapply (wp_writef 𝒱 bd dv) $$ Ht
  iintro ⟨%t1, Ht⟩
  ihave Hm2 := (Transfers.MayWaits.elim (.dma v91_r28.sem)) $$ Hmw
  iapply (holds_copy (F := F) (e := .f32) 𝒱 (tile dv i) bd EC (by decide) ι (hok _)) $$ [Ht Ho R1 HD Hm2]
  · isplitl [Ht]; · iexact Ht
    isplitl [Ho]; · iexact Ho
    isplitl [R1]; · iexact R1
    isplitl [HD] <;> iassumption
  iintro ⟨Ht, Ho, R1, HD⟩
  iapply HX
  isplitl [Hp]; · iexists _; iexact Hp
  isplitl [Ha]; · iexact Ha
  isplitl [Ht]; · iexists _; iexact Ht
  isplitl [Ho]; · iexists _; iexact Ho
  isplitl [R0]; · iexact R0
  isplitl [R1] <;> iassumption

end Cert.Proof.Ends
end
-- ==== Proof.Radix.lean ====
/-
  Where a pass of the radix sort puts each element, and what three passes come to.
-/
module

public import proofs.«01_k».proof.Proof.Phases

@[expose] public section

noncomputable section

namespace Cert.Proof.Radix

open Idealize.ShloMosaic Cert.Proof.Digits Cert.Proof.Phases

/-- How many elements are sorted, the padding among them. -/
abbrev size : ℕ := 100352

theorem count_mono (P : ℕ → Prop) {m n : ℕ} (h : m ≤ n) : count P m ≤ count P n := by
  obtain ⟨k, rfl⟩ := Nat.exists_eq_add_of_le h
  rw [count_add]; omega

theorem count_step {P : ℕ → Prop} {m n : ℕ} (h : m < n) (hP : P m) : count P m + 1 ≤ count P n := by
  have := count_mono P (show m + 1 ≤ n by omega)
  rw [count_succ, if_pos hP] at this; exact this

/-- Where a pass puts element `i`: after the elements of smaller digits and the earlier ones of its own. -/
def spot (sh : BitVec 32) (K : ℕ → BitVec 32) (i : ℕ) : ℕ :=
  count (fun j => dig sh (K j) < dig sh (K i)) size + count (fun j => dig sh (K j) = dig sh (K i)) i

variable (sh : BitVec 32) (K : ℕ → BitVec 32)

theorem spot_step {i i' : ℕ} (hi : i < size) (h : dig sh (K i) < dig sh (K i') ∨ dig sh (K i) = dig sh (K i') ∧ i < i') :
    spot sh K i < spot sh K i' := by
  unfold spot
  rcases h with h | ⟨h, hlt⟩
  · have h1 := count_step (P := fun j => dig sh (K j) = dig sh (K i)) hi rfl
    have h2 := count_or (P := fun j => dig sh (K j) < dig sh (K i)) (Q := fun j => dig sh (K j) = dig sh (K i)) (n := size)
      (fun j _ h => by omega)
    have h3 := count_imp (P := fun j => dig sh (K j) < dig sh (K i) ∨ dig sh (K j) = dig sh (K i))
      (Q := fun j => dig sh (K j) < dig sh (K i')) (n := size) (fun j _ h => by omega)
    omega
  · have h1 := count_step (P := fun j => dig sh (K j) = dig sh (K i)) hlt rfl
    rw [h] at h1 ⊢
    omega

theorem spot_order {i i' : ℕ} (hi : i < size) (hi' : i' < size) (h : spot sh K i < spot sh K i') :
    dig sh (K i) < dig sh (K i') ∨ dig sh (K i) = dig sh (K i') ∧ i < i' := by
  by_contra hc
  rcases Nat.lt_or_ge (dig sh (K i')) (dig sh (K i)) with h1 | h1
  · have := spot_step sh K hi' (i' := i) (.inl h1); omega
  · rcases Nat.lt_or_ge i' i with h2 | h2
    · have := spot_step sh K hi' (i' := i) (.inr ⟨by omega, h2⟩); omega
    · have : i = i' := by omega
      subst this; omega

theorem spot_inj {i i' : ℕ} (hi : i < size) (hi' : i' < size) (h : spot sh K i = spot sh K i') : i = i' := by
  by_contra hc
  rcases Nat.lt_trichotomy (dig sh (K i)) (dig sh (K i')) with h1 | h1 | h1
  · have := spot_step sh K hi (.inl h1); omega
  · rcases Nat.lt_or_ge i i' with h2 | h2
    · have := spot_step sh K hi (.inr ⟨h1, h2⟩); omega
    · have := spot_step sh K hi' (i' := i) (.inr ⟨h1.symm, by omega⟩); omega
  · have := spot_step sh K hi' (i' := i) (.inl h1); omega

theorem spot_lt {i : ℕ} (hi : i < size) : spot sh K i < size := by
  unfold spot
  have h1 := count_step (P := fun j => dig sh (K j) = dig sh (K i)) hi rfl
  have h2 := count_or (P := fun j => dig sh (K j) < dig sh (K i)) (Q := fun j => dig sh (K j) = dig sh (K i)) (n := size)
    (fun j _ h => by omega)
  have h3 := count_le (fun j => dig sh (K j) < dig sh (K i) ∨ dig sh (K j) = dig sh (K i)) size
  omega

theorem onto (f : ℕ → ℕ) (hlt : ∀ i < size, f i < size) (hinj : ∀ i < size, ∀ i' < size, f i = f i' → i = i') :
    ∀ j < size, ∃ i < size, f i = j := by
  intro j hj
  have h : Function.Injective (fun i : Fin size => (⟨f i, hlt i i.isLt⟩ : Fin size)) := fun a b hab =>
    Fin.ext (hinj a a.isLt b b.isLt (congrArg Fin.val hab))
  obtain ⟨i, hi⟩ := (Finite.injective_iff_surjective.mp h) ⟨j, hj⟩
  exact ⟨i, i.isLt, congrArg Fin.val hi⟩

open Classical in
/-- The element a pass puts at `j`. -/
def back (j : ℕ) : ℕ := if h : ∃ i, i < size ∧ spot sh K i = j then h.choose else 0

theorem back_spec {j : ℕ} (hj : j < size) : back sh K j < size ∧ spot sh K (back sh K j) = j := by
  obtain ⟨i, hi, he⟩ := onto (spot sh K) (fun i => spot_lt sh K) (fun i hi i' hi' => spot_inj sh K hi hi') j hj
  have h : ∃ i, i < size ∧ spot sh K i = j := ⟨i, hi, he⟩
  unfold back
  rw [dif_pos h]
  exact h.choose_spec

theorem back_spot {i : ℕ} (hi : i < size) : back sh K (spot sh K i) = i := by
  have h := back_spec sh K (spot_lt sh K hi)
  exact spot_inj sh K h.1 hi h.2

/-- The tile that has the element a pass puts at `j`. -/
def from' (j : ℕ) : ℕ := back sh K j / 6272

theorem mem_iff {w : ℕ} (hw : w < 16) {j : ℕ} (hj : j < size) :
    from' sh K j = w ↔ ∃ e < 6272, spot sh K (6272 * w + e) = j := by
  have hb := back_spec sh K hj
  unfold from'
  constructor
  · intro h
    refine ⟨back sh K j % 6272, Nat.mod_lt _ (by decide), ?_⟩
    rw [show 6272 * w + back sh K j % 6272 = back sh K j by omega]; exact hb.2
  · rintro ⟨e, he, rfl⟩
    rw [back_spot sh K (by unfold size; omega)]; omega

/-- A row of words after a pass. -/
def moved {α : Type} (a : ℕ → α) (j : ℕ) : α := a (back sh K j)

theorem moved_spot {α : Type} (a : ℕ → α) {i : ℕ} (hi : i < size) : moved sh K a (spot sh K i) = a i := by
  unfold moved; rw [back_spot sh K hi]

/-! ## What a tile works out is where its elements go -/

theorem psum_ofNat (f : ℕ → ℕ) (n : ℕ) : psum (fun j => BitVec.ofNat 32 (f j)) n = BitVec.ofNat 32 ((List.range n).map f).sum := by
  induction n with
  | zero => rfl
  | succ n ih => rw [psum, ih, List.range_succ, List.map_append, List.sum_append, BitVec.ofNat_add]; simp

theorem blocks (P : ℕ → Prop) (n : ℕ) : ((List.range n).map fun w => count (fun e => P (6272 * w + e)) 6272).sum = count P (6272 * n) := by
  induction n with
  | zero => rfl
  | succ n ih =>
    rw [List.range_succ, List.map_append, List.sum_append, ih, show 6272 * (n + 1) = 6272 * n + 6272 by omega, count_add]; simp

theorem tot_eq {b : ℕ} (hb : b < 2048) : tot (cntOf sh K) b = BitVec.ofNat 32 (count (fun j => dig sh (K j) = b) size) := by
  unfold tot
  rw [psum_congr (g := fun w => BitVec.ofNat 32 (count (fun e => dig sh (K (6272 * w + e)) = b) 6272)) (fun w _ => cntOf_at sh K hb),
    psum_ofNat (fun w => count (fun e => dig sh (K (6272 * w + e)) = b) 6272), blocks (fun j => dig sh (K j) = b)]

theorem below (n : ℕ) : ((List.range n).map fun b => count (fun j => dig sh (K j) = b) size).sum = count (fun j => dig sh (K j) < n) size := by
  induction n with
  | zero => exact (count_false fun j _ h => by omega).symm
  | succ n ih =>
    rw [List.range_succ, List.map_append, List.sum_append, ih]
    simp only [List.map_cons, List.map_nil, List.sum_cons, List.sum_nil, Nat.add_zero]
    rw [← count_or (fun j _ h => by omega)]
    exact count_congr fun j _ => by omega

theorem psum_first (f : ℕ → BitVec 32) (m : ℕ) : ∀ n, m ≤ n → psum (fun w => if w < m then f w else 0) n = psum f m := by
  intro n
  induction n with
  | zero => intro h; rw [show m = 0 by omega]; rfl
  | succ n ih =>
    intro h
    by_cases hm : m ≤ n
    · rw [psum, ih hm, if_neg (by omega)]; simp
    · rw [show m = n + 1 by omega]
      exact psum_congr fun j hj => if_pos hj

theorem start_eq {w e : ℕ} (hw : w < 16) (he : e < 6272) :
    BitVec.ofNat 32 (spot sh K (6272 * w + e)) = start (cntOf sh K) w (dig sh (K (6272 * w + e)))
      + BitVec.ofNat 32 (count (fun j => dig sh (K (6272 * w + j)) = dig sh (K (6272 * w + e))) e) := by
  have hb := dig_lt sh (K (6272 * w + e))
  unfold start low spot
  rw [psum_first _ w 16 (by omega),
    psum_congr (f := tot (cntOf sh K)) (g := fun b => BitVec.ofNat 32 (count (fun j => dig sh (K j) = b) size))
      (fun b h => tot_eq sh K (by omega)),
    psum_ofNat (fun b => count (fun j => dig sh (K j) = b) size), below,
    psum_congr (n := w) (g := fun w' => BitVec.ofNat 32 (count (fun e' => dig sh (K (6272 * w' + e')) = dig sh (K (6272 * w + e))) 6272))
      (fun w' _ => cntOf_at sh K hb),
    psum_ofNat (fun w' => count (fun e' => dig sh (K (6272 * w' + e')) = dig sh (K (6272 * w + e))) 6272),
    blocks (fun j => dig sh (K j) = dig sh (K (6272 * w + e))), count_add, BitVec.ofNat_add, BitVec.ofNat_add, BitVec.add_assoc]

end Cert.Proof.Radix
end
-- ==== Proof.Rendezvous.lean ====
/-
  A subcore barrier met several times on one semaphore per tile. `n` tiles meet `R` times; at each meeting every tile
  signals a unit to every tile's semaphore and waits for `n` units on its own. A fast tile may be a meeting ahead of a slow
  one, and units may land in any order, so the counter alone says nothing of which meeting a unit belongs to. One
  invariant keeps, by exclusive counters, the phase of each tile (`2 r` before its meeting `r`, `2 r + 1` between its
  arrival and its departure) and the progress of each of the `n * R * n` units (unsent, sent, landed), beside the
  semaphores' counters and what each tile has handed over to each other tile at a meeting the other has not left.
-/
module

public import Idealize.ShloMosaic.Lib.SparseCore.Ops
public import Idealize.ShloMosaic.Lib.Invariants
public import Idealize.SL.BI.ExclCounters

@[expose] public section

noncomputable section

namespace Cert.Proof.Rendezvous

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.SL.ExclCount

/-! ## The counting -/

/-- A tile's phase, or the progress of the unit a tile sends another at a meeting. -/
abbrev Key (n R : ℕ) : Type := Fin n ⊕ (Fin n × Fin R × Fin n)

variable {n R : ℕ}

/-- The units landed on tile `j`'s semaphore. -/
def landed (v : Key n R → ℕ) (j : Fin n) : ℕ :=
  (Finset.univ.filter fun p : Fin n × Fin R => v (.inr (p.1, p.2, j)) = 2).card

structure Good (v : Key n R → ℕ) : Prop where
  tok : ∀ k r j, 1 ≤ v (.inr (k, r, j)) → 2 * (r : ℕ) + 1 ≤ v (.inl k)
  near : ∀ k l, v (.inl k) / 2 ≤ (v (.inl l) + 1) / 2
  paid : ∀ j, n * (v (.inl j) / 2) ≤ landed v j

/-- What has been handed over and not yet taken: `k` has arrived at meeting `r` and `j` has not left it. -/
def held (v : Key n R → ℕ) : Finset (Fin n × Fin R × Fin n) :=
  Finset.univ.filter fun p => 2 * (p.2.1 : ℕ) + 1 ≤ v (.inl p.1) ∧ v (.inl p.2.2) / 2 ≤ (p.2.1 : ℕ)

theorem landed_update_inl (v : Key n R → ℕ) (k : Fin n) (m : ℕ) (j : Fin n) :
    landed (Function.update v (.inl k) m) j = landed v j := by
  unfold landed; congr 1

theorem landed_update_inr (v : Key n R → ℕ) (k : Fin n) (r : Fin R) (j : Fin n) (h : v (.inr (k, r, j)) = 1) (j' : Fin n) :
    landed (Function.update v (.inr (k, r, j)) 2) j' = landed v j' + if j' = j then 1 else 0 := by
  unfold landed
  by_cases hj : j' = j
  · subst hj
    rw [if_pos rfl]
    have e : (Finset.univ.filter fun p : Fin n × Fin R => Function.update v (.inr (k, r, j')) 2 (.inr (p.1, p.2, j')) = 2)
        = insert (k, r) (Finset.univ.filter fun p : Fin n × Fin R => v (.inr (p.1, p.2, j')) = 2) := by
      ext ⟨a, b⟩
      by_cases hab : a = k ∧ b = r
      · obtain ⟨rfl, rfl⟩ := hab; simp
      · have : (Sum.inr (a, b, j') : Key n R) ≠ .inr (k, r, j') := by
          intro h'; simp at h'; exact hab h'
        simp [Function.update_of_ne this, Prod.ext_iff, hab]
    rw [e, Finset.card_insert_of_notMem]
    simp [h]
  · rw [if_neg hj, add_zero]
    congr 1; ext ⟨a, b⟩
    have : (Sum.inr (a, b, j') : Key n R) ≠ .inr (k, r, j) := by
      intro h'; simp at h'; exact hj h'.2.2
    simp only [Finset.mem_filter, Finset.mem_univ, true_and]; rw [Function.update_of_ne this]

theorem landed_update_sent (v : Key n R → ℕ) (k : Fin n) (r : Fin R) (j : Fin n) (h : v (.inr (k, r, j)) = 0) (j' : Fin n) :
    landed (Function.update v (.inr (k, r, j)) 1) j' = landed v j' := by
  unfold landed
  congr 1; ext ⟨a, b⟩
  by_cases hab : (Sum.inr (a, b, j') : Key n R) = .inr (k, r, j)
  · simp only [Finset.mem_filter, Finset.mem_univ, true_and]; rw [hab, Function.update_self, h]; decide
  · simp only [Finset.mem_filter, Finset.mem_univ, true_and]; rw [Function.update_of_ne hab]

theorem landed_le (v : Key n R → ℕ) (j : Fin n) : landed v j ≤ n * R := by
  refine (Finset.card_filter_le _ _).trans ?_
  simp

theorem landed_lt {v : Key n R → ℕ} {k : Fin n} {r : Fin R} {j : Fin n} (h : v (.inr (k, r, j)) = 1) : landed v j < n * R := by
  have hm : (k, r) ∉ (Finset.univ.filter fun p : Fin n × Fin R => v (.inr (p.1, p.2, j)) = 2) := by simp [h]
  have := Finset.card_insert_of_notMem hm
  have h2 := Finset.card_le_univ (insert (k, r) (Finset.univ.filter fun p : Fin n × Fin R => v (.inr (p.1, p.2, j)) = 2))
  simp only [Fintype.card_prod, Fintype.card_fin] at h2
  unfold landed; omega

/-- When `n (r + 1)` units have landed on a tile whose phase is `2 r + 1`, every tile has arrived at meeting `r`. -/
theorem Good.all_arrived {v : Key n R → ℕ} (hv : Good v) {j : Fin n} {r : ℕ} (hl : n * (r + 1) ≤ landed v j) (l : Fin n)
    : 2 * r + 1 ≤ v (.inl l) := by
  by_contra hcon
  have hle : ∀ k, (v (.inl k) + 1) / 2 ≤ r + 1 := fun k => by have := hv.near k l; omega
  have hsub : (Finset.univ.filter fun p : Fin n × Fin R => v (.inr (p.1, p.2, j)) = 2)
      ⊆ ((Finset.univ : Finset (Fin n)).sigma (fun k => Finset.univ.filter fun b : Fin R => 2 * (b : ℕ) + 1 ≤ v (.inl k))).image (fun x => (x.1, x.2)) := by
    intro ⟨a, b⟩ hp
    simp only [Finset.mem_filter, Finset.mem_univ, true_and] at hp
    simp only [Finset.mem_image, Finset.mem_sigma, Finset.mem_univ, true_and, Finset.mem_filter]
    exact ⟨⟨a, b⟩, hv.tok a b j (by omega), rfl⟩
  have hcard := (Finset.card_le_card hsub).trans Finset.card_image_le
  rw [Finset.card_sigma] at hcard
  have hk : ∀ k : Fin n, (Finset.univ.filter fun b : Fin R => 2 * (b : ℕ) + 1 ≤ v (.inl k)).card ≤ (v (.inl k) + 1) / 2 := fun k => by
    have : (Finset.univ.filter fun b : Fin R => 2 * (b : ℕ) + 1 ≤ v (.inl k)).card
        = ((Finset.univ.filter fun b : Fin R => 2 * (b : ℕ) + 1 ≤ v (.inl k)).image (fun b : Fin R => (b : ℕ))).card :=
      (Finset.card_image_of_injective _ Fin.val_injective).symm
    rw [this]
    refine (Finset.card_le_card (t := Finset.range ((v (.inl k) + 1) / 2)) ?_).trans (by simp)
    intro x hx
    simp only [Finset.mem_image, Finset.mem_filter, Finset.mem_univ, true_and] at hx
    obtain ⟨b, hb, rfl⟩ := hx
    simp only [Finset.mem_range]; omega
  have hlt : ∑ k : Fin n, (Finset.univ.filter fun b : Fin R => 2 * (b : ℕ) + 1 ≤ v (.inl k)).card < ∑ _k : Fin n, (r + 1) :=
    Finset.sum_lt_sum (fun k _ => (hk k).trans (hle k)) ⟨l, Finset.mem_univ l, lt_of_le_of_lt (hk l) (by omega)⟩
  rw [Finset.sum_const, Finset.card_univ, Fintype.card_fin, smul_eq_mul] at hlt
  unfold landed at hl
  omega

theorem Good.sent {v : Key n R → ℕ} (hv : Good v) {k : Fin n} {r : Fin R} {j : Fin n} (h : v (.inr (k, r, j)) = 0)
    (hk : v (.inl k) = 2 * r + 1) : Good (Function.update v (.inr (k, r, j)) 1) where
  tok a b c h1 := by
    rw [Function.update_of_ne (by simp)]
    by_cases e : (Sum.inr (a, b, c) : Key n R) = .inr (k, r, j)
    · simp at e; obtain ⟨rfl, rfl, rfl⟩ := e; omega
    · rw [Function.update_of_ne e] at h1; exact hv.tok a b c h1
  near a b := by rw [Function.update_of_ne (by simp), Function.update_of_ne (by simp)]; exact hv.near a b
  paid a := by rw [Function.update_of_ne (by simp), landed_update_sent v k r j h]; exact hv.paid a

theorem Good.lands {v : Key n R → ℕ} (hv : Good v) {k : Fin n} {r : Fin R} {j : Fin n} (h : v (.inr (k, r, j)) = 1) :
    Good (Function.update v (.inr (k, r, j)) 2) where
  tok a b c h1 := by
    rw [Function.update_of_ne (by simp)]
    by_cases e : (Sum.inr (a, b, c) : Key n R) = .inr (k, r, j)
    · simp at e; obtain ⟨rfl, rfl, rfl⟩ := e; exact hv.tok _ _ _ (by rw [h])
    · rw [Function.update_of_ne e] at h1; exact hv.tok a b c h1
  near a b := by rw [Function.update_of_ne (by simp), Function.update_of_ne (by simp)]; exact hv.near a b
  paid a := by
    rw [Function.update_of_ne (by simp), landed_update_inr v k r j h]; exact (hv.paid a).trans (Nat.le_add_right _ _)

theorem Good.arrive {v : Key n R → ℕ} (hv : Good v) {k : Fin n} {r : ℕ} (hk : v (.inl k) = 2 * r) :
    Good (Function.update v (.inl k) (2 * r + 1)) where
  tok a b c h1 := by
    rw [Function.update_of_ne (by simp)] at h1
    have := hv.tok a b c h1
    by_cases e : a = k
    · subst e; rw [Function.update_self]; omega
    · rw [Function.update_of_ne (by simpa using e)]; exact this
  near a b := by
    have := hv.near a b
    by_cases e : a = k <;> by_cases e' : b = k
    · subst e; subst e'; rw [Function.update_self]; omega
    · subst e; rw [Function.update_self, Function.update_of_ne (by simpa using e')]; omega
    · subst e'; rw [Function.update_self, Function.update_of_ne (by simpa using e)]; omega
    · rw [Function.update_of_ne (by simpa using e), Function.update_of_ne (by simpa using e')]; exact this
  paid a := by
    rw [landed_update_inl]
    by_cases e : a = k
    · subst e; rw [Function.update_self]; have := hv.paid a; rw [hk] at this
      rwa [show (2 * r + 1) / 2 = 2 * r / 2 by omega]
    · rw [Function.update_of_ne (by simpa using e)]; exact hv.paid a

theorem Good.depart {v : Key n R → ℕ} (hv : Good v) {j : Fin n} {r : ℕ} (hj : v (.inl j) = 2 * r + 1)
    (hl : n * (r + 1) ≤ landed v j) : Good (Function.update v (.inl j) (2 * r + 2)) where
  tok a b c h1 := by
    rw [Function.update_of_ne (by simp)] at h1
    have := hv.tok a b c h1
    by_cases e : a = j
    · subst e; rw [Function.update_self]; omega
    · rw [Function.update_of_ne (by simpa using e)]; exact this
  near a b := by
    have := hv.near a b
    have hb := hv.all_arrived hl b
    by_cases e : a = j <;> by_cases e' : b = j
    · subst e; subst e'; rw [Function.update_self]; omega
    · subst e; rw [Function.update_self, Function.update_of_ne (by simpa using e')]; omega
    · subst e'; rw [Function.update_self, Function.update_of_ne (by simpa using e)]; omega
    · rw [Function.update_of_ne (by simpa using e), Function.update_of_ne (by simpa using e')]; exact this
  paid a := by
    rw [landed_update_inl]
    by_cases e : a = j
    · subst e; rw [Function.update_self, show (2 * r + 2) / 2 = r + 1 by omega]; exact hl
    · rw [Function.update_of_ne (by simpa using e)]; exact hv.paid a

theorem held_update_inr (v : Key n R → ℕ) (p : Fin n × Fin R × Fin n) (m : ℕ) :
    held (Function.update v (.inr p) m) = held v := by
  unfold held; congr 1

theorem held_arrive {v : Key n R → ℕ} (hv : Good v) {k : Fin n} {r : Fin R} (hk : v (.inl k) = 2 * r) :
    held (Function.update v (.inl k) (2 * r + 1)) = held v ∪ Finset.univ.image (fun j : Fin n => (k, r, j))
      ∧ Disjoint (held v) (Finset.univ.image (fun j : Fin n => (k, r, j))) := by
  constructor
  · ext ⟨a, b, c⟩
    simp only [held, Finset.mem_filter, Finset.mem_univ, true_and, Finset.mem_union, Finset.mem_image, Prod.mk.injEq, exists_eq_right_right]
    have hc : Function.update v (.inl k) (2 * (r : ℕ) + 1) (.inl c) / 2 = v (.inl c) / 2 := by
      by_cases e : c = k
      · subst e; rw [Function.update_self]; omega
      · rw [Function.update_of_ne (by simpa using e)]
    rw [hc]
    have hn := hv.near c k
    by_cases e : a = k
    · subst e; rw [Function.update_self]
      constructor
      · rintro ⟨h1, h2⟩
        by_cases hb : (b : ℕ) = r
        · exact .inr ⟨rfl, Fin.ext hb.symm⟩
        · left; omega
      · rintro (⟨h1, h2⟩ | ⟨-, rfl⟩) <;> omega
    · rw [Function.update_of_ne (by simpa using e)]
      constructor
      · exact .inl
      · rintro (h | ⟨h, -⟩)
        · exact h
        · exact absurd h.symm e
  · rw [Finset.disjoint_left]
    rintro ⟨a, b, c⟩ h1 h2
    simp only [held, Finset.mem_filter, Finset.mem_univ, true_and, Finset.mem_image, Prod.mk.injEq, exists_eq_right_right] at h1 h2
    obtain ⟨rfl, rfl⟩ := h2; omega

theorem held_depart {v : Key n R → ℕ} (hv : Good v) {j : Fin n} {r : Fin R} (hj : v (.inl j) = 2 * r + 1)
    (hl : n * ((r : ℕ) + 1) ≤ landed v j) :
    held v = held (Function.update v (.inl j) (2 * r + 2)) ∪ Finset.univ.image (fun k : Fin n => (k, r, j))
      ∧ Disjoint (held (Function.update v (.inl j) (2 * r + 2))) (Finset.univ.image (fun k : Fin n => (k, r, j))) := by
  constructor
  · ext ⟨a, b, c⟩
    simp only [held, Finset.mem_filter, Finset.mem_univ, true_and, Finset.mem_union, Finset.mem_image, Prod.mk.injEq]
    have ha : 2 * (b : ℕ) + 1 ≤ Function.update v (.inl j) (2 * (r : ℕ) + 2) (.inl a) ↔ 2 * (b : ℕ) + 1 ≤ v (.inl a) := by
      by_cases e : a = j
      · subst e; rw [Function.update_self]; omega
      · rw [Function.update_of_ne (by simpa using e)]
    rw [ha]
    have hall := hv.all_arrived hl a
    by_cases e : c = j
    · subst e; rw [Function.update_self]
      constructor
      · rintro ⟨h1, h2⟩
        by_cases hb : (b : ℕ) = r
        · exact .inr ⟨a, rfl, Fin.ext hb.symm, rfl⟩
        · left; omega
      · rintro (⟨h1, h2⟩ | ⟨x, rfl, rfl, -⟩) <;> omega
    · rw [Function.update_of_ne (by simpa using e)]
      constructor
      · exact .inl
      · rintro (h | ⟨x, -, -, h⟩)
        · exact h
        · exact absurd h.symm e
  · rw [Finset.disjoint_left]
    rintro ⟨a, b, c⟩ h1 h2
    simp only [held, Finset.mem_filter, Finset.mem_univ, true_and, Finset.mem_image, Prod.mk.injEq] at h1 h2
    obtain ⟨x, rfl, rfl, rfl⟩ := h2; rw [Function.update_self] at h1; omega

/-! ## The invariant -/

section Sep

variable {M : Type} [URA M] {I : Type} [DecidableEq I] {Φ : I → sProp M}

theorem sep_of_union {s t : Finset I} (h : Disjoint s t) : bigSep (s ∪ t) Φ = iprop(bigSep s Φ ∗ bigSep t Φ) := BI.bigSep_union h

theorem sep_of_insert {s : Finset I} {i : I} (h : i ∉ s) : bigSep (insert i s) Φ = iprop(Φ i ∗ bigSep s Φ) := BI.bigSep_insert h

end Sep

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ}

local notation "𝕄" => MT nD τ sig Ix (Elt F) Name U Lvl

variable (E : UEmb Counters (MT nD τ sig Ix (Elt F) Name U Lvl))

/-- The invariant of one core's meetings: `cell j` tile `j`'s semaphore, `γ` the counters' names, `gift (k, r, j)` what tile
    `k` hands tile `j` at meeting `r`. -/
def body (cell : Fin n → GSem nD τ sig) (γ : Key n R → ℕ) (gift : Fin n × Fin R × Fin n → sProp 𝕄) : sProp 𝕄 :=
  iprop(∃ v : Key n R → ℕ, ⌜Good v⌝
    ∗ (bigSep Finset.univ fun k => countAuth E (γ k) (v k))
    ∗ (bigSep Finset.univ fun j : Fin n => if v (.inl j) / 2 < R then semVal (cell j) (landed v j - n * (v (.inl j) / 2)) else iprop(emp))
    ∗ bigSep (held v) gift)

omit [FloatOps F] [Preorder Lvl] in
theorem auths_move {K : Type} [Fintype K] [DecidableEq K] (γ v : K → ℕ) (k : K) (m m' : ℕ) :
    iprop((bigSep Finset.univ fun k => (countAuth E (γ k) (v k) : sProp 𝕄)) ∗ count E (γ k) m)
      ⊢ iprop(|==> (⌜v k = m⌝ ∗ (bigSep Finset.univ fun k' => countAuth E (γ k') (Function.update v k m' k')) ∗ count E (γ k) m')) := by
  iintro ⟨Ha, Hc⟩
  ihave H := (bigSep_univ_update (Φ := fun k => (countAuth E (γ k) (v k) : sProp 𝕄))
    (Ψ := fun k' => countAuth E (γ k') (Function.update v k m' k')) k (fun j hj => by rw [Function.update_of_ne hj])) $$ Ha
  icases H with ⟨Hk, Hrest⟩
  ihave %e := (countAuth_count_agree E) $$ [Hk Hc]
  · isplitl [Hk] <;> iassumption
  subst e
  imod (countAuth_count_update E m') $$ [Hk Hc] with ⟨Hk, Hc⟩
  · isplitl [Hk] <;> iassumption
  imodintro
  isplitr; · ipureintro; rfl
  isplitl [Hk Hrest]
  · iapply Hrest; rw [Function.update_self]; iexact Hk
  iexact Hc

omit [FloatOps F] [Preorder Lvl] in
theorem auths_agree {K : Type} [Fintype K] [DecidableEq K] (γ v : K → ℕ) (k : K) (m : ℕ) :
    iprop((bigSep Finset.univ fun k => (countAuth E (γ k) (v k) : sProp 𝕄)) ∗ count E (γ k) m) ⊢ (⌜v k = m⌝ : sProp 𝕄) := by
  iintro ⟨Ha, Hc⟩
  ihave Hk := (show (bigSep Finset.univ fun k => (countAuth E (γ k) (v k) : sProp 𝕄)) ⊢ countAuth E (γ k) (v k) from
    BI.bigSep_elim (Φ := fun k => (countAuth E (γ k) (v k) : sProp 𝕄)) (Finset.mem_univ k)) $$ Ha
  ihave %e := (countAuth_count_agree E) $$ [Hk Hc]
  · isplitl [Hk] <;> iassumption
  ipureintro; exact e.symm

variable {cell : Fin n → GSem nD τ sig} {γ : Key n R → ℕ} {gift : Fin n × Fin R × Fin n → sProp (MT nD τ sig Ix (Elt F) Name U Lvl)}

omit [FloatOps F] [Preorder Lvl] in
theorem body_storable [E.LandsIn (upEmb : UEmb _ 𝕄)] (hpay : ∀ p : Fin n × Fin R × Fin n, BI.Storable (upEmb : UEmb _ 𝕄) (gift p)) :
    BI.Storable (upEmb : UEmb _ 𝕄) (body E cell γ gift) := by
  unfold body countAuth
  have : ∀ v : Key n R → ℕ, ∀ j : Fin n, BI.Storable (upEmb : UEmb _ 𝕄)
      (if v (.inl j) / 2 < R then semVal (cell j) (landed v j - n * (v (.inl j) / 2)) else iprop(emp) : sProp 𝕄) := fun v j => by
    split <;> infer_instance
  infer_instance

omit [FloatOps F] [Preorder Lvl] in
/-- The invariant at the start: every counter at zero. -/
theorem body_init (hR : 0 < R) :
    iprop((bigSep Finset.univ fun k => (countAuth E (γ k) 0 : sProp 𝕄)) ∗ (bigSep Finset.univ fun j : Fin n => semVal (cell j) 0))
      ⊢ body E cell γ gift := by
  unfold body
  iintro ⟨Ha, Hs⟩
  iexists fun _ => 0
  have hl : ∀ j : Fin n, landed (fun _ : Key n R => 0) j = 0 := fun j => by simp [landed]
  isplitr
  · ipureintro
    exact ⟨fun _ _ _ h => absurd h (by decide), fun _ _ => by simp, fun j => by simp⟩
  isplitl [Ha]; · iexact Ha
  isplitl [Hs]
  · iapply (Entails.of_eq (BI.bigSep_congr (s := Finset.univ) fun j _ => by
      show (semVal (cell j) 0 : sProp 𝕄) = _
      rw [if_pos (by simpa using hR), hl, Nat.zero_sub])) $$ Hs
  · rw [show held (fun _ : Key n R => 0) = ∅ from by ext p; simp [held], bigSep_empty]; iempintro

omit [FloatOps F] in
/-- Arrival: the tile's phase moves, what it hands over goes in. -/
theorem arrive {ι : Name} (k : Fin n) (r : Fin R) :
    iprop(inv ι (body E cell γ gift) ∗ count E (γ (.inl k)) (2 * r) ∗ (bigSep Finset.univ fun j : Fin n => gift (k, r, j)))
      ⊢ (iprop(|={Set.univ}=> count E (γ (.inl k)) (2 * r + 1)) : sProp 𝕄) := by
  iintro ⟨Hinv, Hc, Hp⟩
  imod (inv_acc (Set.mem_univ ι)) $$ Hinv with ⟨Hb, Hclose⟩
  unfold body
  icases Hb with ⟨%v, %hv, Ha, Hs, Hh⟩
  imod (auths_move E γ v (.inl k) (2 * r) (2 * r + 1)) $$ [Ha Hc] with ⟨%e, Ha, Hc⟩
  · isplitl [Ha] <;> iassumption
  have hs := held_arrive hv e
  ihave H := Hclose $$ [Ha Hs Hh Hp]
  · iexists (Function.update v (.inl k) (2 * r + 1))
    isplitr; · ipureintro; exact hv.arrive e
    isplitl [Ha]; · iexact Ha
    isplitl [Hs]
    · iapply (Entails.of_eq (BI.bigSep_congr (s := Finset.univ) fun j _ => by
        rw [landed_update_inl]
        have : Function.update v (.inl k) (2 * (r : ℕ) + 1) (.inl j) / 2 = v (.inl j) / 2 := by
          by_cases ej : j = k
          · subst ej; rw [Function.update_self]; omega
          · rw [Function.update_of_ne (by simpa using ej)]
        rw [this])) $$ Hs
    · rw [hs.1, sep_of_union hs.2, bigSep_image_of_injOn (fun a _ b _ h => by simpa using h)]
      isplitl [Hh] <;> iassumption
  imod H
  imodintro
  iexact Hc

omit [FloatOps F] in
/-- A unit is sent: the tile between arrival and departure, the unit's progress moves. -/
theorem send {ι : Name} (k : Fin n) (r : Fin R) (j : Fin n) :
    iprop(inv ι (body E cell γ gift) ∗ count E (γ (.inl k)) (2 * r + 1) ∗ count E (γ (.inr (k, r, j))) 0)
      ⊢ (iprop(|={Set.univ}=> (count E (γ (.inl k)) (2 * r + 1) ∗ count E (γ (.inr (k, r, j))) 1)) : sProp 𝕄) := by
  iintro ⟨Hinv, Hc, Ht⟩
  imod (inv_acc (Set.mem_univ ι)) $$ Hinv with ⟨Hb, Hclose⟩
  unfold body
  icases Hb with ⟨%v, %hv, Ha, Hs, Hh⟩
  ihave %hk := (auths_agree E γ v (.inl k) (2 * r + 1)) $$ [Ha Hc]
  · isplitl [Ha] <;> iassumption
  imod (auths_move E γ v (.inr (k, r, j)) 0 1) $$ [Ha Ht] with ⟨%e, Ha, Ht⟩
  · isplitl [Ha] <;> iassumption
  ihave H := Hclose $$ [Ha Hs Hh]
  · iexists (Function.update v (.inr (k, r, j)) 1)
    isplitr; · ipureintro; exact hv.sent e hk
    isplitl [Ha]; · iexact Ha
    isplitl [Hs]
    · iapply (Entails.of_eq (BI.bigSep_congr (s := Finset.univ) fun j' _ => by
        rw [landed_update_sent v k r j e, Function.update_of_ne (by simp)])) $$ Hs
    · rw [held_update_inr]; iexact Hh
  imod H
  imodintro
  isplitl [Hc] <;> iassumption

omit [FloatOps F] in
/-- A unit lands. -/
theorem land {ι : Name} (k : Fin n) (r : Fin R) (j : Fin n) :
    iprop(inv ι (body E cell γ gift) ∗ count E (γ (.inr (k, r, j))) 1) ⊢ (landingUpdate (cell j) 1 iprop(emp) : sProp 𝕄) := by
  rw [landingUpdate_def]
  iintro ⟨Hinv, Ht⟩ -
  imod (inv_acc (Set.mem_univ ι)) $$ Hinv with ⟨Hb, Hclose⟩
  unfold body
  icases Hb with ⟨%v, %hv, Ha, Hs, Hh⟩
  imod (auths_move E γ v (.inr (k, r, j)) 1 2) $$ [Ha Ht] with ⟨%e, Ha, -⟩
  · isplitl [Ha] <;> iassumption
  have hlt := landed_lt e
  have hpaid := hv.paid j
  have hopen : v (.inl j) / 2 < R := by
    by_contra hc
    have : n * R ≤ n * (v (.inl j) / 2) := Nat.mul_le_mul_left n (by omega)
    omega
  have hl := landed_update_inr v k r j e
  ihave H := (bigSep_univ_update
    (Φ := fun j : Fin n => (if v (.inl j) / 2 < R then semVal (cell j) (landed v j - n * (v (.inl j) / 2)) else iprop(emp) : sProp 𝕄))
    (Ψ := fun j' : Fin n => (if Function.update v (.inr (k, r, j)) 2 (.inl j') / 2 < R then
      semVal (cell j') (landed (Function.update v (.inr (k, r, j)) 2) j' - n * (Function.update v (.inr (k, r, j)) 2 (.inl j') / 2)) else iprop(emp) : sProp 𝕄))
    j (fun j' hj' => by rw [Function.update_of_ne (by simp), hl, if_neg hj', add_zero])) $$ Hs
  icases H with ⟨Hsj, Hrest⟩
  ihave Hsj := (Entails.of_eq (if_pos hopen)) $$ Hsj
  imodintro
  rw [raiseSpec_apply]
  iexists (landed v j - n * (v (.inl j) / 2))
  isplitl [Hsj]; · iexact Hsj
  iintro Hsj
  ihave H := Hclose $$ [Ha Hsj Hrest Hh]
  · iexists (Function.update v (.inr (k, r, j)) 2)
    isplitr; · ipureintro; exact hv.lands e
    isplitl [Ha]; · iexact Ha
    isplitl [Hsj Hrest]
    · iapply Hrest
      rw [Function.update_of_ne (by simp), if_pos hopen, hl, if_pos rfl,
        show landed v j + 1 - n * (v (.inl j) / 2) = landed v j - n * (v (.inl j) / 2) + 1 by omega]
      iexact Hsj
    · rw [held_update_inr]; iexact Hh
  imod H
  imodintro
  iempintro

/-- What a tile takes with it from a meeting: what every tile handed it, and from the last one its semaphore's counter. -/
def taken (cell : Fin n → GSem nD τ sig) (gift : Fin n × Fin R × Fin n → sProp 𝕄) (r : Fin R) (j : Fin n) : sProp 𝕄 :=
  iprop((bigSep Finset.univ fun k : Fin n => gift (k, r, j)) ∗ if (r : ℕ) + 1 < R then iprop(emp) else semVal (cell j) 0)

omit [FloatOps F] in
/-- Departure: the wait is met, and every tile has arrived. -/
theorem depart {ι : Name} (j : Fin n) (r : Fin R) {K' : PUnit → sProp 𝕄} :
    iprop(inv ι (body E cell γ gift) ∗ count E (γ (.inl j)) (2 * r + 1)
        ∗ ((count E (γ (.inl j)) (2 * ((r : ℕ) + 1)) ∗ taken cell gift r j) -∗ K' ⟨⟩))
      ⊢ (atomically frame Set.univ (lowerSpec (cell j) n) K' : sProp 𝕄) := by
  iintro ⟨Hinv, Hc, Hk⟩
  imod (inv_acc (Set.mem_univ ι)) $$ Hinv with ⟨Hb, Hclose⟩
  unfold body
  icases Hb with ⟨%v, %hv, Ha, Hs, Hh⟩
  imod (auths_move E γ v (.inl j) (2 * r + 1) (2 * ((r : ℕ) + 1))) $$ [Ha Hc] with ⟨%e, Ha, Hc⟩
  · isplitl [Ha] <;> iassumption
  have hr := r.isLt
  have hopen : v (.inl j) / 2 < R := by omega
  have hph : v (.inl j) / 2 = r := by omega
  have hpaid := hv.paid j
  ihave H := (bigSep_univ_update
    (Φ := fun j : Fin n => (if v (.inl j) / 2 < R then semVal (cell j) (landed v j - n * (v (.inl j) / 2)) else iprop(emp) : sProp 𝕄))
    (Ψ := fun j' : Fin n => (if Function.update v (.inl j) (2 * ((r : ℕ) + 1)) (.inl j') / 2 < R then
      semVal (cell j') (landed (Function.update v (.inl j) (2 * ((r : ℕ) + 1))) j' - n * (Function.update v (.inl j) (2 * ((r : ℕ) + 1)) (.inl j') / 2)) else iprop(emp) : sProp 𝕄))
    j (fun j' hj' => by rw [Function.update_of_ne (by simpa using hj'), landed_update_inl])) $$ Hs
  icases H with ⟨Hsj, Hrest⟩
  ihave Hsj := (Entails.of_eq (if_pos hopen)) $$ Hsj
  imodintro
  iapply lowerSpec_intro $$ Hsj
  iintro %hle Hsj
  rw [hph] at hle hpaid
  have hl : n * ((r : ℕ) + 1) ≤ landed v j := by rw [Nat.mul_succ]; omega
  have hs := held_depart hv e hl
  have hmax := landed_le v j
  ihave H := (Entails.of_eq (show bigSep (held v) gift = _ by rw [hs.1, sep_of_union hs.2, bigSep_image_of_injOn (fun a _ b _ h => by simpa using h)])) $$ Hh
  icases H with ⟨Hh, Hp⟩
  have hval : landed v j - n * (v (.inl j) / 2) - n = landed v j - n * ((r : ℕ) + 1) := by rw [hph, Nat.mul_succ]; omega
  rw [hval]
  have hdiv : 2 * ((r : ℕ) + 1) / 2 = r + 1 := by omega
  ihave H2 : iprop((if (2 * ((r : ℕ) + 1)) / 2 < R then semVal (cell j) (landed v j - n * ((2 * ((r : ℕ) + 1)) / 2)) else iprop(emp))
      ∗ (if (r : ℕ) + 1 < R then iprop(emp) else semVal (cell j) 0)) $$ [Hsj]
  · rw [hdiv]
    by_cases hlast : (r : ℕ) + 1 < R
    · rw [if_pos hlast, if_pos hlast]
      isplitl [Hsj]; · iexact Hsj
      iempintro
    · rw [if_neg hlast, if_neg hlast]
      isplitr; · iempintro
      have : landed v j - n * ((r : ℕ) + 1) = 0 := by
        have : (r : ℕ) + 1 = R := by omega
        rw [this] at hl ⊢; omega
      rw [this]; iexact Hsj
  icases H2 with ⟨Hsj, Hlast⟩
  ihave H := Hclose $$ [Ha Hsj Hrest Hh]
  · iexists (Function.update v (.inl j) (2 * ((r : ℕ) + 1)))
    isplitr; · ipureintro; exact hv.depart e hl
    isplitl [Ha]; · iexact Ha
    isplitl [Hsj Hrest]
    · iapply Hrest
      rw [Function.update_self, landed_update_inl]
      iexact Hsj
    · iexact Hh
  imod H
  imodintro
  iapply Hk
  isplitl [Hc]; · iexact Hc
  unfold taken
  isplitl [Hp] <;> iassumption

/-! ## The barrier -/

/-- A subcore barrier at the head of a program, met as meeting `r`. -/
theorem wp_meet (𝒱 : Variants) (bd : Option 𝒱.V) {α : Type} {Q : α → sProp 𝕄} (dv : Dev nD) {sc : Fin τ.nSC} {i : Fin τ.nSub} (bar : Sem sig)
    (hn : n ≤ τ.nSub) (i' : Fin n) (hi : i'.castLE hn = i) {ι : Name} (r : Fin R) (ix : Ix)
    (hcell : ∀ j : Fin n, cell j = (V dv sc (j.castLE hn), .reg bar))
    (O : CellTallies nD τ sig Ix) (W : Waits sig Ix) {k : PUnit → Prog (TpuEff nD τ sig (Elt F) Λ (.scVector sc i)) α} :
    iprop(inv ι (body E cell γ gift)
        ∗ owes (V dv sc i) (O + ∑ j : Fin n, tallyAt (cell j) ix 1) W
        ∗ count E (γ (.inl i')) (2 * r)
        ∗ (bigSep Finset.univ fun j : Fin n => count E (γ (.inr (i', r, j))) 0)
        ∗ (bigSep Finset.univ fun j : Fin n => gift (i', r, j))
        ∗ cred (tallyAt (cell i') ix n)
        ∗ MayWait (V dv sc i) (.reg bar) ix O)
      ⊢ iprop((iprop(owes (V dv sc i) O (insert (SemLoc.reg bar, ix) W)
            ∗ count E (γ (.inl i')) (2 * ((r : ℕ) + 1)) ∗ taken cell gift r i')
          -∗ wp frame (wpE defs 𝒱 (V dv sc i) bd) Set.univ (k ⟨⟩) Q)
        -∗ wp frame (wpE defs 𝒱 (V dv sc i) bd) Set.univ (SparseCore.subcoreBarrier bar n hn >>= k) Q) := by
  classical
  rw [SparseCore.subcoreBarrier_bind, show (wp frame (wpE defs 𝒱 (V dv sc i) bd) Set.univ (.op .deviceId _) Q : sProp 𝕄) = _ from wp_deviceId 𝒱 (V dv sc i) bd Set.univ]
  iintro ⟨#Hinv, HO, Hph, Htoks, Hpay, Hcred, Hmw⟩ Hk
  imod (arrive E i' r) $$ [Hph Hpay] with Hph
  · isplitr; · iexact Hinv
    isplitl [Hph] <;> iassumption
  have hsig : ∀ l : List (Fin n), l.Nodup →
      iprop(inv ι (body E cell γ gift)
          ∗ owes (V dv sc i) (O + ∑ j ∈ l.toFinset, tallyAt (cell j) ix 1) W
          ∗ count E (γ (.inl i')) (2 * r + 1)
          ∗ (bigSep l.toFinset fun j : Fin n => count E (γ (.inr (i', r, j))) 0)
          ∗ ((owes (V dv sc i) O W ∗ count E (γ (.inl i')) (2 * r + 1)) -∗ wp frame (wpE defs 𝒱 (V dv sc i) bd) Set.univ (.op (TpuEff.semWait bar n) k) Q))
        ⊢ wp frame (wpE defs 𝒱 (V dv sc i) bd) Set.univ
            (l.foldr (fun j r => .op (TpuEff.semSignal (dv, .scVector sc (j.castLE hn)) bar 1) fun _ => r) (.op (TpuEff.semWait bar n) k)) Q := by
    intro l hl
    induction l with
    | nil =>
      rw [List.toFinset_nil, List.foldr_nil, Finset.sum_empty, add_zero]
      iintro ⟨-, HO, Hph, -, Hk⟩; iapply Hk
      isplitl [HO] <;> iassumption
    | cons j l ih =>
      rw [List.toFinset_cons, List.foldr_cons]
      have hj : j ∉ l.toFinset := fun h => (List.nodup_cons.mp hl).1 (List.mem_toFinset.mp h)
      rw [Finset.sum_insert hj]
      iintro ⟨#Hinv, HO, Hph, Htoks, Hk⟩
      ihave H := (Entails.of_eq (sep_of_insert hj (Φ := fun j : Fin n => (count E (γ (.inr (i', r, j))) 0 : sProp 𝕄)))) $$ Htoks
      icases H with ⟨Htok, Htoks⟩
      imod (send E i' r j) $$ [Hph Htok] with ⟨Hph, Htok⟩
      · isplitr; · iexact Hinv
        isplitl [Hph] <;> iassumption
      iapply (wp_semSignal 𝒱 (V dv sc i) bd Set.univ (dst := V dv sc (j.castLE hn)) (sem := bar) (k' := 1) ix
          (O₀ := O + (tallyAt (cell j) ix 1 + ∑ j ∈ l.toFinset, tallyAt (cell j) ix 1))
          (O + ∑ j ∈ l.toFinset, tallyAt (cell j) ix 1)
          (by rw [← hcell j, add_comm (tallyAt _ _ _) _, ← add_assoc]) (W := W)) $$ HO [Htok]
      · rw [← hcell j]
        iapply (land E i' r j)
        isplitr; · iexact Hinv
        iexact Htok
      iintro HO
      iapply (ih (List.nodup_cons.mp hl).2)
      isplitr; · iexact Hinv
      isplitl [HO]; · iexact HO
      isplitl [Hph]; · iexact Hph
      isplitl [Htoks] <;> iassumption
  have := hsig (List.finRange n) (List.nodup_finRange n)
  rw [List.toFinset_finRange] at this
  iapply this
  isplitr; · iexact Hinv
  isplitl [HO]; · iexact HO
  isplitl [Hph]; · iexact Hph
  isplitl [Htoks]; · iexact Htoks
  iintro ⟨HO, Hph⟩
  subst hi
  iapply (wp_semWait_token 𝒱 (V dv sc (i'.castLE hn)) bd Set.univ (sem := bar) (k' := n) ix (O := O) (W := W)) $$ [Hcred HO Hmw]
  · isplitl [Hcred]; · rw [← hcell i']; iexact Hcred
    isplitl [HO] <;> iassumption
  rw [← hcell i']
  iapply (depart E i' r)
  isplitr; · iexact Hinv
  isplitl [Hph]; · iexact Hph
  iintro ⟨Hph, Ht⟩ HO
  iapply Hk
  isplitl [HO]; · iexact HO
  isplitl [Hph] <;> iassumption

end Cert.Proof.Rendezvous
-- ==== Proof.Meet.lean ====
/-
  A tile among its fellows: what stands before it of the seven meetings, what it hands to each of the others when it has
  counted its digits and when it has sent its elements out, and what it gets from each.
-/
module

public import proofs.«01_k».proof.Proof.Ends
public import proofs.«01_k».proof.Proof.Radix
public import proofs.«01_k».proof.Proof.Rendezvous

@[expose] public section

set_option synthInstance.maxSize 4096

noncomputable section

namespace Cert.Proof.Meet

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.SL.ExclCount
open Cert.Kernel Cert.Kernel.Gen Cert.Proof.Body Cert.Proof.Words Cert.Proof.Digits Cert.Proof.Steps Cert.Proof.Phases Cert.Proof.Stages
open Cert.Proof.Rendezvous (Key body taken wp_meet)

variable {F : FTy → Type} [BitOps F] {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond5 i = 1#1) (dv : Dev nD) {α : Type} {Q : α → sProp (MT nD τ sig Ix (Elt F) Name U Lvl)}

local notation "𝕄" => MT nD τ sig Ix (Elt F) Name U Lvl

/-- A tile's number on its core. -/
abbrev Num : Type := Fin (grid0.bound 1)

/-- The first tile's. -/
def zero : Num := ⟨0, by decide⟩

theorem cast_cancel {A B : Type} (h : A = B) {a b : A} (e : cast h a = cast h b) : a = b := by subst h; exact e

/-- The share of a row that tile `t` reads. -/
def share (t : Num) : PosShare TreeShare := ShareLeaves.leaf 4 fullShare t

/-! ## Rows shared out for reading -/

omit [BitOps F] [Preorder Lvl] in
theorem leaves {ℓ : Loc nD τ sig} (S : Finset (Idx ℓ)) (f : Buf (Elt F) ℓ) :
    (ℓ ↦[S]{fullShare} f : sProp 𝕄) = bigSep Finset.univ fun t : Num => (ℓ ↦[S]{share t} f : sProp 𝕄) :=
  ShareLeaves.pointsTo_leaves S f 4 fullShare

omit [BitOps F] [Preorder Lvl] in
theorem part_shares {sp : Space} {e : EltTy} {n : ℕ} (c : Thread nD τ) {m : Memref sig c.2.kind sp (Arr n) e} {P : ℕ → Prop} {a : ℕ → Elt F e} :
    (Part c m P fullShare a : sProp 𝕄) ⊢ bigSep Finset.univ fun t : Num => Part c m P (share t) a := by
  unfold Words.Part
  iintro ⟨%f, %hf, H⟩
  ihave H := (Entails.of_eq (leaves (m.view.setOn (pick P)) f)) $$ H
  have hone : ∀ t ∈ (Finset.univ : Finset Num), (m.view.loc c ↦[m.view.setOn (pick P)]{share t} f : sProp 𝕄)
      ⊢ iprop(∃ f, ⌜∀ x : (Arr n).Idx, P (x 0).val → m.view.read (Elt F) f x = a (x 0).val⌝ ∗ (m.view.loc c ↦[m.view.setOn (pick P)]{share t} f)) := fun t _ => by
    iintro H
    iexists f
    isplitr; · ipureintro; exact hf
    iexact H
  iapply (SparseCore.ent (bigSep_mono hone)) $$ H

omit [BitOps F] [Preorder Lvl] in
theorem part_unshares {sp : Space} {e : EltTy} {n : ℕ} (c : Thread nD τ) {m : Memref sig c.2.kind sp (Arr n) e} {P : ℕ → Prop} {a : ℕ → Elt F e} :
    (bigSep Finset.univ fun t : Num => Part c m P (share t) a) ⊢ (Part c m P fullShare a : sProp 𝕄) := by
  by_cases hne : Nonempty (m.view.ty.Contents (Elt F))
  swap
  · unfold Words.Part
    rw [SparseCore.bigSep_erase' (Finset.mem_univ zero)]
    iintro ⟨⟨%f, -, -⟩, -⟩
    exact absurd ⟨f⟩ hne
  have : Nonempty (Buf (Elt F) (m.view.loc c)) := hne
  unfold Words.Part
  refine (bigSep_choose (Finset.univ : Finset Num) (fun _ f => ∀ x : (Arr n).Idx, P (x 0).val → m.view.read (Elt F) f x = a (x 0).val)
    (fun t f => (m.view.loc c ↦[m.view.setOn (pick P)]{share t} f : sProp 𝕄))).trans ?_
  iintro ⟨%g, %hg, H⟩
  iexists g zero
  isplitr; · ipureintro; exact hg zero (Finset.mem_univ _)
  iapply (Entails.of_eq (leaves (m.view.setOn (pick P)) (g zero)).symm)
  iapply (show (bigSep Finset.univ fun t : Num => (m.view.loc c ↦[m.view.setOn (pick P)]{share t} g t : sProp 𝕄))
    ⊢ bigSep Finset.univ fun t : Num => (m.view.loc c ↦[m.view.setOn (pick P)]{share t} g zero : sProp 𝕄) from
    bigSep_mono fun t _ => Entails.of_eq (pointsTo_congr fun y hy => by
      obtain ⟨x, hx, rfl⟩ := Finset.mem_map.mp hy
      have h1 := hg t (Finset.mem_univ _) x (mem_pick.mp hx)
      have h2 := hg zero (Finset.mem_univ _) x (mem_pick.mp hx)
      rw [View.read_apply] at h1 h2
      exact cast_cancel _ (h1.trans h2.symm)))
  iexact H

omit [BitOps F] [Preorder Lvl] in
theorem part_forget {sp : Space} {e : EltTy} {n : ℕ} (c : Thread nD τ) {m : Memref sig c.2.kind sp (Arr n) e} {P : ℕ → Prop} {q} {a : ℕ → Elt F e} :
    (Part c m P q a : sProp 𝕄) ⊢ iprop(∃ a, Part c m P q a) := by
  iintro H; iexists a; iexact H

omit [BitOps F] [Preorder Lvl] in
/-- Places of which each class is held at some contents are held at some contents. -/
theorem part_join_any {sp : Space} {e : EltTy} {n : ℕ} (c : Thread nD τ) {m : Memref sig c.2.kind sp (Arr n) e} {q} (a₀ : ℕ → Elt F e) (P : ℕ → Prop) (κ : ℕ → Num) :
    (bigSep Finset.univ fun t => iprop(∃ a, Part c m (fun i => P i ∧ κ i = t) q a)) ⊢ (iprop(∃ a, Part c m P q a) : sProp 𝕄) := by
  have : Nonempty (ℕ → Elt F e) := ⟨a₀⟩
  have : Nonempty Num := ⟨zero⟩
  have hone : ∀ t ∈ (Finset.univ : Finset Num), (iprop(∃ a, Part c m (fun i => P i ∧ κ i = t) q a) : sProp 𝕄)
      ⊢ iprop(∃ a, ⌜(fun _ _ => True : Num → (ℕ → Elt F e) → Prop) t a⌝ ∗ Part c m (fun i => P i ∧ κ i = t) q a) := fun t _ => by
    iintro ⟨%a, H⟩
    iexists a
    isplitr; · ipureintro; trivial
    iexact H
  refine (bigSep_mono hone).trans ((bigSep_choose (Finset.univ : Finset Num) (fun _ _ => True)
    (fun t a => (Part c m (fun i => P i ∧ κ i = t) q a : sProp 𝕄))).trans ?_)
  iintro ⟨%g, -, H⟩
  iexists _
  iapply (part_join (F := F) c (m := m) g P κ) $$ H

/-! ## The meetings that stand before a tile -/

section Stub

variable (EC : UEmb Counters (MT nD τ sig Ix (Elt F) Name U Lvl))
variable (cell : Num → GSem nD τ sig) (γ : Key (grid0.bound 1) 7 → ℕ) (ix : Fin 7 → Ix)

/-- The meetings from number `r` on. -/
def ahead (r : ℕ) : Finset (Fin 7) := Finset.univ.filter fun r' => r ≤ r'.val

theorem ahead_succ (r : Fin 7) : ahead r.val = insert r (ahead (r.val + 1)) := by
  ext x; simp only [ahead, Finset.mem_filter, Finset.mem_univ, true_and, Finset.mem_insert, Fin.ext_iff]; omega

theorem not_ahead (r : Fin 7) : r ∉ ahead (r.val + 1) := by simp [ahead]

theorem ahead_end : ahead 7 = ∅ := by decide

/-- What tile `w` has for the meetings from number `r` on. -/
def Stub (w : Num) (r : ℕ) : sProp 𝕄 :=
  iprop(count EC (γ (.inl w)) (2 * r) ∗ bigSep (ahead r) fun r' : Fin 7 =>
    iprop((bigSep Finset.univ fun j : Num => count EC (γ (.inr (w, r', j))) 0) ∗ cred (tallyAt (cell w) (ix r') (grid0.bound 1))))

/-- What a tile owes with the meetings from number `r` on ahead of it. -/
def owed (O : CellTallies nD τ sig Ix) (r : ℕ) : CellTallies nD τ sig Ix := O + ∑ r' ∈ ahead r, ∑ j : Num, tallyAt (cell j) (ix r') 1

omit [DecidableEq Ix] in
theorem owed_end [DecidableEq Ix] (O : CellTallies nD τ sig Ix) : owed cell ix O 7 = O := by unfold owed; rw [ahead_end]; simp

theorem owed_succ (O : CellTallies nD τ sig Ix) (r : Fin 7) :
    owed cell ix O r.val = owed cell ix O (r.val + 1) + ∑ j : Num, tallyAt (cell j) (ix r) 1 := by
  unfold owed; rw [ahead_succ, Finset.sum_insert (not_ahead r), add_assoc, add_comm (∑ j : Num, _)]

variable {cell γ ix}

/-- A meeting. -/
theorem wp_round {gift : Num × Fin 7 × Num → sProp (MT nD τ sig Ix (Elt F) Name U Lvl)} {ι : Name} (r : Fin 7) {r₀ : ℕ} (hr : r.val = r₀)
    (hcell : ∀ j, cell j = (V dv ((i 0).castLE hcore0) (j.castLE hsub0), .reg sc_bar0)) {O : CellTallies nD τ sig Ix}
    {ok : SemLoc sig × Ix → Prop} (hok : ok (.reg sc_bar0, ix r)) {X : PUnit.{1} → TProg F i α} :
    (iprop(inv ι (body EC cell γ gift) ∗ Stub EC cell γ ix (i 1) r₀ ∗ Debt (tile dv i) (owed cell ix O r₀) ok
        ∗ (bigSep Finset.univ fun j : Num => gift (i 1, r, j)) ∗ MayWait (tile dv i) (.reg sc_bar0) (ix r) (owed cell ix O (r₀ + 1))) : sProp 𝕄)
      ⊢ iprop((iprop(Stub EC cell γ ix (i 1) (r₀ + 1) ∗ Debt (tile dv i) (owed cell ix O (r₀ + 1)) ok ∗ taken cell gift r (i 1))
          -∗ wp frame (wpE defs 𝒱 (tile dv i) bd) Set.univ (X ⟨⟩) Q)
        -∗ wp frame (wpE defs 𝒱 (tile dv i) bd) Set.univ (SparseCore.subcoreBarrier sc_bar0 (grid0.bound 1) hsub0 >>= X) Q) := by
  subst hr
  unfold Stub Debt
  rw [ahead_succ r, SparseCore.bigSep_insert' (not_ahead r), owed_succ]
  iintro ⟨#Hinv, ⟨Hc, ⟨Ht, Hcr⟩, Hrest⟩, ⟨%W, %hW, HO⟩, Hg, Hmw⟩ HX
  iapply (wp_meet EC (cell := cell) (γ := γ) (gift := gift) (defs := defs) 𝒱 bd dv sc_bar0 hsub0 (i 1) rfl r (ix r) hcell (owed cell ix O (r.val + 1)) W) $$ [HO Hc Ht Hg Hcr Hmw]
  · isplitr; · iexact Hinv
    isplitl [HO]; · iexact HO
    isplitl [Hc]; · iexact Hc
    isplitl [Ht]; · iexact Ht
    isplitl [Hg]; · iexact Hg
    isplitl [Hcr] <;> iassumption
  iintro ⟨HO, Hc, Htk⟩
  iapply HX
  isplitl [Hc Hrest]
  · isplitl [Hc] <;> iassumption
  isplitl [HO]
  · iexists _
    isplitr
    swap
    · iexact HO
    · ipureintro
      intro p hp
      rcases Finset.mem_insert.mp hp with rfl | hp
      · exact hok
      · exact hW p hp
  iexact Htk

end Stub

/-! ## What is handed over -/

/-- A row that all tiles of a core see at one place. -/
def Common {sp : Space} {n : ℕ} (e : EltTy) (m : Memref sig .scVector sp (Arr n) e) : Prop :=
  ∀ i i' : grid0.Coords, i 0 = i' 0 → ∀ (P : ℕ → Prop) (q : PosShare TreeShare) (a : ℕ → Elt F e),
    (Part (tile dv i) m P q a : sProp 𝕄) = Part (tile dv i') m P q a

variable (i₀ : grid0.Coords)
variable (cnt : Memref sig .scVector .shared S32768 .i32) (dk dn : Memref sig .scVector .shared S100352 .i32) (sh : BitVec 32) (K I : ℕ → BitVec 32)

/-- What tile `k` hands tile `j` before they send their elements out: its counts, to read, and the places in its windows
    that elements of `j` go to. -/
def deal (k j : ℕ) (t : Num) : sProp 𝕄 :=
  iprop(Cut dv i₀ cnt (2048 * k) 2048 (share t) (cntOf sh K)
    ∗ (∃ a, Part (F := F) (e := .i32) (tile dv i₀) dk (fun p => (6272 * k ≤ p ∧ p < 6272 * k + 6272) ∧ Radix.from' sh K p = j) fullShare a)
    ∗ (∃ a, Part (F := F) (e := .i32) (tile dv i₀) dn (fun p => (6272 * k ≤ p ∧ p < 6272 * k + 6272) ∧ Radix.from' sh K p = j) fullShare a))

/-- What tile `k` hands tile `j` after: what it has put in `j`'s windows, and `j`'s counts. -/
def bring (k j : ℕ) (t : Num) : sProp 𝕄 :=
  iprop(Cut dv i₀ cnt (2048 * j) 2048 (share t) (cntOf sh K)
    ∗ Part (F := F) (e := .i32) (tile dv i₀) dk (fun p => (6272 * j ≤ p ∧ p < 6272 * j + 6272) ∧ Radix.from' sh K p = k) fullShare (Radix.moved sh K K)
    ∗ Part (F := F) (e := .i32) (tile dv i₀) dn (fun p => (6272 * j ≤ p ∧ p < 6272 * j + 6272) ∧ Radix.from' sh K p = k) fullShare (Radix.moved sh K I))

instance deal_storable (k j : ℕ) (t : Num) : BI.Storable (upEmb : UEmb _ 𝕄) (deal (F := F) dv i₀ cnt dk dn sh K k j t) := by
  unfold deal; infer_instance

instance bring_storable (k j : ℕ) (t : Num) : BI.Storable (upEmb : UEmb _ 𝕄) (bring (F := F) dv i₀ cnt dk dn sh K I k j t) := by
  unfold bring; infer_instance

end Cert.Proof.Meet
end
-- ==== Proof.Pass.lean ====
/-
  One pass of the sort: the digits are counted and the counts made known, the elements are sent out, and each tile is
  left with its windows of the arrangement by the digit.
-/
module

public import proofs.«01_k».proof.Proof.Meet

@[expose] public section

set_option synthInstance.maxSize 4096

noncomputable section

namespace Cert.Proof.Pass

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.SL.ExclCount
open Cert.Kernel Cert.Kernel.Gen Cert.Proof.Body Cert.Proof.Words Cert.Proof.Digits Cert.Proof.Steps Cert.Proof.Phases Cert.Proof.Stages Cert.Proof.Meet
open Cert.Proof.Rendezvous (Key body taken wp_meet)

variable {F : FTy → Type} [BitOps F] {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond5 i = 1#1) (dv : Dev nD) {α : Type} {Q : α → sProp (MT nD τ sig Ix (Elt F) Name U Lvl)}

local notation "𝕄" => MT nD τ sig Ix (Elt F) Name U Lvl

/-! ## Rows in sixteen parts -/

section Split

variable {sp : Space} {e : EltTy} {n : ℕ} (c : Thread nD τ) {m : Memref sig c.2.kind sp (Arr n) e} {q : PosShare TreeShare} {a : ℕ → Elt F e}
variable {P : ℕ → Prop} {P' : Num → ℕ → Prop} (κ : ℕ → ℕ)

def numOf (x : ℕ) : Num := ⟨x % 16, Nat.mod_lt _ (by decide)⟩

theorem numOf_eq {x : ℕ} (hx : x < 16) (t : Num) : numOf x = t ↔ x = t.val := by
  rw [Fin.ext_iff]; show x % 16 = t.val ↔ _; rw [Nat.mod_eq_of_lt hx]

omit [BitOps F] [Preorder Lvl] in
theorem split_by (hκ : ∀ j < n, P j → κ j < 16) (hP : ∀ t, ∀ j < n, P' t j ↔ P j ∧ κ j = t.val) :
    (Part c m P q a : sProp 𝕄) ⊢ bigSep Finset.univ fun t : Num => Part c m (P' t) q a :=
  (part_classes (F := F) c (m := m) P (fun j => numOf (κ j))).trans (bigSep_mono fun t _ => part_mono (F := F) c (m := m)
    (fun j hj => ⟨fun hh => (hP t j hj).mpr ⟨hh.1, (numOf_eq (hκ j hj hh.1) t).mp hh.2⟩,
      fun hh => ⟨((hP t j hj).mp hh).1, (numOf_eq (hκ j hj ((hP t j hj).mp hh).1) t).mpr ((hP t j hj).mp hh).2⟩⟩) (fun _ _ _ => rfl))

omit [BitOps F] [Preorder Lvl] in
theorem to_classes (hκ : ∀ j < n, P j → κ j < 16) (hP : ∀ t, ∀ j < n, P' t j ↔ P j ∧ κ j = t.val) (t : Num) :
    (Part c m (P' t) q a : sProp 𝕄) ⊢ Part c m (fun j => P j ∧ numOf (κ j) = t) q a :=
  part_mono (F := F) c (m := m)
    (fun j hj => ⟨fun hh => ⟨((hP t j hj).mp hh).1, (numOf_eq (hκ j hj ((hP t j hj).mp hh).1) t).mpr ((hP t j hj).mp hh).2⟩,
      fun hh => (hP t j hj).mpr ⟨hh.1, (numOf_eq (hκ j hj hh.1) t).mp hh.2⟩⟩) (fun _ _ _ => rfl)

omit [BitOps F] [Preorder Lvl] in
theorem join_by (hκ : ∀ j < n, P j → κ j < 16) (hP : ∀ t, ∀ j < n, P' t j ↔ P j ∧ κ j = t.val) :
    (bigSep Finset.univ fun t : Num => Part c m (P' t) q a) ⊢ (Part c m P q a : sProp 𝕄) :=
  have : Nonempty Num := ⟨zero⟩
  (show (bigSep Finset.univ fun t : Num => (Part c m (P' t) q a : sProp 𝕄)) ⊢ bigSep Finset.univ fun t : Num => (Part c m (fun j => P j ∧ numOf (κ j) = t) q a : sProp 𝕄)
    from bigSep_mono fun t _ => to_classes (F := F) c κ hκ hP t).trans
    (part_join (F := F) c (m := m) (fun _ => a) P (fun j => numOf (κ j)))

omit [BitOps F] [Preorder Lvl] in
theorem join_any_by (a₀ : ℕ → Elt F e) (hκ : ∀ j < n, P j → κ j < 16) (hP : ∀ t, ∀ j < n, P' t j ↔ P j ∧ κ j = t.val) :
    (bigSep Finset.univ fun t : Num => iprop(∃ a, Part c m (P' t) q a)) ⊢ (iprop(∃ a, Part c m P q a) : sProp 𝕄) :=
  have hone : ∀ t ∈ (Finset.univ : Finset Num), (iprop(∃ a, Part c m (P' t) q a) : sProp 𝕄) ⊢ iprop(∃ a, Part c m (fun j => P j ∧ numOf (κ j) = t) q a) := fun t _ => by
    iintro ⟨%a, H⟩
    iexists a
    iapply (to_classes (F := F) c (a := a) κ hκ hP t) $$ H
  (bigSep_mono hone).trans (part_join_any (F := F) c a₀ P (fun j => numOf (κ j)))

end Split

theorem from_lt (sh : BitVec 32) (K : ℕ → BitVec 32) {j : ℕ} (hj : j < 100352) : Radix.from' sh K j < 16 := by
  have := (Radix.back_spec sh K (j := j) hj).1
  unfold Radix.from'; unfold Radix.size at this; omega

/-! ## Handing over -/

section Hand

variable (i₀ : grid0.Coords) {cnt : Memref sig .scVector .shared S32768 .i32} {dk dn : Memref sig .scVector .shared S100352 .i32} {sh : BitVec 32} {K I : ℕ → BitVec 32}

omit [Preorder Lvl] in
theorem deal_out (w : Num) :
    (iprop(Cut dv i₀ cnt (2048 * w.val) 2048 fullShare (cntOf sh K) ∗ (∃ a, Cut dv i₀ dk (6272 * w.val) 6272 fullShare a)
        ∗ (∃ a, Cut dv i₀ dn (6272 * w.val) 6272 fullShare a)) : sProp 𝕄)
      ⊢ bigSep Finset.univ fun j : Num => deal (F := F) dv i₀ cnt dk dn sh K w.val j.val j := by
  unfold deal
  rw [bigSep_sep', bigSep_sep']
  have hex : ∀ {x : Memref sig .scVector .shared S100352 .i32} (a : ℕ → BitVec 32) , ∀ t ∈ (Finset.univ : Finset Num),
      (Part (F := F) (e := .i32) (tile dv i₀) x (fun p => (6272 * w.val ≤ p ∧ p < 6272 * w.val + 6272) ∧ Radix.from' sh K p = t.val) fullShare a : sProp 𝕄)
      ⊢ iprop(∃ a, Part (F := F) (e := .i32) (tile dv i₀) x (fun p => (6272 * w.val ≤ p ∧ p < 6272 * w.val + 6272) ∧ Radix.from' sh K p = t.val) fullShare a) :=
    fun a t _ => part_forget (F := F) (e := .i32) (tile dv i₀)
  iintro ⟨Hc, ⟨%a, Hk⟩, ⟨%b, Hn⟩⟩
  isplitl [Hc]; · iapply (part_shares (F := F) (e := .i32) (tile dv i₀)) $$ Hc
  isplitl [Hk]
  · ihave Hk := (split_by (F := F) (e := .i32) (tile dv i₀) (m := dk) (P' := fun t p => (6272 * w.val ≤ p ∧ p < 6272 * w.val + 6272) ∧ Radix.from' sh K p = t.val)
      (fun p => Radix.from' sh K p) (fun j hj _ => from_lt sh K hj) (fun t j _ => Iff.rfl)) $$ Hk
    iapply (SparseCore.ent (bigSep_mono (hex a))) $$ Hk
  · ihave Hn := (split_by (F := F) (e := .i32) (tile dv i₀) (m := dn) (P' := fun t p => (6272 * w.val ≤ p ∧ p < 6272 * w.val + 6272) ∧ Radix.from' sh K p = t.val)
      (fun p => Radix.from' sh K p) (fun j hj _ => from_lt sh K hj) (fun t j _ => Iff.rfl)) $$ Hn
    iapply (SparseCore.ent (bigSep_mono (hex b))) $$ Hn

omit [Preorder Lvl] in
theorem deal_in (w : Num) :
    (bigSep Finset.univ fun k : Num => deal (F := F) dv i₀ cnt dk dn sh K k.val w.val w)
      ⊢ (iprop(Has dv i₀ cnt (share w) (cntOf sh K) ∗ (∃ a, Part (F := F) (e := .i32) (tile dv i₀) dk (fun p => Radix.from' sh K p = w.val) fullShare a)
        ∗ (∃ a, Part (F := F) (e := .i32) (tile dv i₀) dn (fun p => Radix.from' sh K p = w.val) fullShare a)) : sProp 𝕄) := by
  unfold deal
  rw [bigSep_sep', bigSep_sep']
  iintro ⟨Hc, Hk, Hn⟩
  isplitl [Hc]
  · iapply (join_by (F := F) (e := .i32) (tile dv i₀) (m := cnt) (P := fun _ => True) (P' := fun t p => 2048 * t.val ≤ p ∧ p < 2048 * t.val + 2048) (fun p => p / 2048)
      (fun j hj _ => by omega) (fun t j _ => ⟨fun hh => ⟨trivial, by omega⟩, fun hh => by have := hh.2; omega⟩)) $$ Hc
  isplitl [Hk]
  · iapply (join_any_by (F := F) (e := .i32) (tile dv i₀) (m := dk) (P := fun p => Radix.from' sh K p = w.val)
      (P' := fun t p => (6272 * t.val ≤ p ∧ p < 6272 * t.val + 6272) ∧ Radix.from' sh K p = w.val) (fun p => p / 6272) (fun _ => 0#32)
      (fun j hj _ => by omega) (fun t j _ => by constructor <;> intro hh <;> omega)) $$ Hk
  · iapply (join_any_by (F := F) (e := .i32) (tile dv i₀) (m := dn) (P := fun p => Radix.from' sh K p = w.val)
      (P' := fun t p => (6272 * t.val ≤ p ∧ p < 6272 * t.val + 6272) ∧ Radix.from' sh K p = w.val) (fun p => p / 6272) (fun _ => 0#32)
      (fun j hj _ => by omega) (fun t j _ => by constructor <;> intro hh <;> omega)) $$ Hn

omit [Preorder Lvl] in
theorem bring_out (w : Num) :
    (iprop(Has dv i₀ cnt (share w) (cntOf sh K) ∗ Part (F := F) (e := .i32) (tile dv i₀) dk (fun p => Radix.from' sh K p = w.val) fullShare (Radix.moved sh K K)
        ∗ Part (F := F) (e := .i32) (tile dv i₀) dn (fun p => Radix.from' sh K p = w.val) fullShare (Radix.moved sh K I)) : sProp 𝕄)
      ⊢ bigSep Finset.univ fun j : Num => bring (F := F) dv i₀ cnt dk dn sh K I w.val j.val w := by
  unfold bring
  rw [bigSep_sep', bigSep_sep']
  iintro ⟨Hc, Hk, Hn⟩
  isplitl [Hc]
  · iapply (split_by (F := F) (e := .i32) (tile dv i₀) (m := cnt) (P := fun _ => True) (P' := fun t p => 2048 * t.val ≤ p ∧ p < 2048 * t.val + 2048) (fun p => p / 2048)
      (fun j hj _ => by omega) (fun t j _ => ⟨fun hh => ⟨trivial, by omega⟩, fun hh => by have := hh.2; omega⟩)) $$ Hc
  isplitl [Hk]
  · iapply (split_by (F := F) (e := .i32) (tile dv i₀) (m := dk) (P := fun p => Radix.from' sh K p = w.val)
      (P' := fun t p => (6272 * t.val ≤ p ∧ p < 6272 * t.val + 6272) ∧ Radix.from' sh K p = w.val) (fun p => p / 6272)
      (fun j hj _ => by omega) (fun t j _ => by constructor <;> intro hh <;> omega)) $$ Hk
  · iapply (split_by (F := F) (e := .i32) (tile dv i₀) (m := dn) (P := fun p => Radix.from' sh K p = w.val)
      (P' := fun t p => (6272 * t.val ≤ p ∧ p < 6272 * t.val + 6272) ∧ Radix.from' sh K p = w.val) (fun p => p / 6272)
      (fun j hj _ => by omega) (fun t j _ => by constructor <;> intro hh <;> omega)) $$ Hn

omit [Preorder Lvl] in
theorem bring_in (w : Num) :
    (bigSep Finset.univ fun k : Num => bring (F := F) dv i₀ cnt dk dn sh K I k.val w.val k)
      ⊢ (iprop(Cut dv i₀ cnt (2048 * w.val) 2048 fullShare (cntOf sh K) ∗ Cut dv i₀ dk (6272 * w.val) 6272 fullShare (Radix.moved sh K K)
        ∗ Cut dv i₀ dn (6272 * w.val) 6272 fullShare (Radix.moved sh K I)) : sProp 𝕄) := by
  unfold bring
  rw [bigSep_sep', bigSep_sep']
  iintro ⟨Hc, Hk, Hn⟩
  isplitl [Hc]; · iapply (part_unshares (F := F) (e := .i32) (tile dv i₀)) $$ Hc
  isplitl [Hk]
  · iapply (join_by (F := F) (e := .i32) (tile dv i₀) (m := dk) (P := fun p => 6272 * w.val ≤ p ∧ p < 6272 * w.val + 6272)
      (P' := fun t p => (6272 * w.val ≤ p ∧ p < 6272 * w.val + 6272) ∧ Radix.from' sh K p = t.val)
      (fun p => Radix.from' sh K p) (fun j hj _ => from_lt sh K hj) (fun t j _ => Iff.rfl)) $$ Hk
  · iapply (join_by (F := F) (e := .i32) (tile dv i₀) (m := dn) (P := fun p => 6272 * w.val ≤ p ∧ p < 6272 * w.val + 6272)
      (P' := fun t p => (6272 * w.val ≤ p ∧ p < 6272 * w.val + 6272) ∧ Radix.from' sh K p = t.val)
      (fun p => Radix.from' sh K p) (fun j hj _ => from_lt sh K hj) (fun t j _ => Iff.rfl)) $$ Hn

variable {i₀}
variable (h₀ : i 0 = i₀ 0) (mc : Common (F := F) (Ix := Ix) (Name := Name) (U := U) (Lvl := Lvl) dv .i32 cnt)
  (mk : Common (F := F) (Ix := Ix) (Name := Name) (U := U) (Lvl := Lvl) dv .i32 dk) (mn : Common (F := F) (Ix := Ix) (Name := Name) (U := U) (Lvl := Lvl) dv .i32 dn)
include h₀ mc mk mn

omit [Preorder Lvl] in
theorem deal_common (k j : ℕ) (t : Num) : (deal (F := F) dv i cnt dk dn sh K k j t : sProp 𝕄) = deal (F := F) dv i₀ cnt dk dn sh K k j t := by
  unfold deal
  refine congrArg₂ _ (mc i i₀ h₀ _ _ _) (congrArg₂ _ (congrArg _ (funext fun a => mk i i₀ h₀ _ _ _)) (congrArg _ (funext fun a => mn i i₀ h₀ _ _ _)))

omit [Preorder Lvl] in
theorem bring_common (k j : ℕ) (t : Num) : (bring (F := F) dv i cnt dk dn sh K I k j t : sProp 𝕄) = bring (F := F) dv i₀ cnt dk dn sh K I k j t := by
  unfold bring
  refine congrArg₂ _ (mc i i₀ h₀ _ _ _) (congrArg₂ _ (mk i i₀ h₀ _ _ _) (mn i i₀ h₀ _ _ _))

end Hand

/-! ## A pass -/

variable [Infinite Name] (EC : UEmb Counters (MT nD τ sig Ix (Elt F) Name U Lvl))

theorem wp_pass [EC.LandsIn (upEmb : UEmb _ 𝕄)] {i₀ : grid0.Coords} (h₀ : i 0 = i₀ 0) {src nums dk dn : Memref sig .scVector .shared S100352 .i32}
    {cnt : Memref sig .scVector .shared S32768 .i32} {hcnt : cnt.IsWhole}
    {keys mine pos : Memref sig .scVector .vmem S6272 .i32} {hkeys : keys.IsWhole} {hmine : mine.IsWhole}
    {hist base : Memref sig .scVector .vmem S2048 .i32} {hhist : hist.IsWhole} {hists : Memref sig .scVector .vmem S32768 .i32} {hhists : hists.IsWhole}
    {b : Memref sig .scVector .vmem S16 .i32} {s1 s2 s3 s4 s5 s6 : DmaSems sig S_} {sh : BitVec 32}
    (mc : Common (F := F) (Ix := Ix) (Name := Name) (U := U) (Lvl := Lvl) dv .i32 cnt) (mk : Common (F := F) (Ix := Ix) (Name := Name) (U := U) (Lvl := Lvl) dv .i32 dk)
    (mn : Common (F := F) (Ix := Ix) (Name := Name) (U := U) (Lvl := Lvl) dv .i32 dn)
    (hc1 : ∀ s' : Shape, sig.dmaCredit .scVector (Kind.scVector.table .vmem) keys.view.buf s' .i32 = s'.numel * EltTy.i32.bits)
    (hc2 : ∀ s' : Shape, sig.dmaCredit .scVector (Kind.scVector.table .vmem) mine.view.buf s' .i32 = s'.numel * EltTy.i32.bits)
    (hc3 : ∀ s' : Shape, sig.dmaCredit .scVector (Kind.scVector.table .shared) dk.view.buf s' .i32 = s'.numel * EltTy.i32.bits)
    (hc4 : ∀ s' : Shape, sig.dmaCredit .scVector (Kind.scVector.table .shared) dn.view.buf s' .i32 = s'.numel * EltTy.i32.bits)
    {cell : Num → GSem nD τ sig} {γ : Key (grid0.bound 1) 7 → ℕ} {ix : Fin 7 → Ix} {gift : Num × Fin 7 × Num → sProp (MT nD τ sig Ix (Elt F) Name U Lvl)} {κ : Name}
    (hcell : ∀ j, cell j = (V dv ((i 0).castLE hcore0) (j.castLE hsub0), .reg sc_bar0)) {O : CellTallies nD τ sig Ix} {ok : SemLoc sig × Ix → Prop}
    (ι : Ix) (hok : ∀ s, ok (.dma s, ι)) (hok' : ∀ r, ok (.reg sc_bar0, ix r)) {L : sProp (MT nD τ sig Ix (Elt F) Name U Lvl)} [BI.Persistent L]
    (hL : ∀ r, (L : sProp 𝕄) ⊢ Transfers.MayWaits (tile dv i) ι (owed cell ix O r)) (hL' : ∀ r : Fin 7, (L : sProp 𝕄) ⊢ MayWait (tile dv i) (.reg sc_bar0) (ix r) (owed cell ix O (r.val + 1)))
    {K I : ℕ → BitVec 32} (r r' : Fin 7) {r₀ : ℕ} (hr : r.val = r₀) (hr' : r'.val = r₀ + 1)
    (hg : ∀ k j : Num, gift (k, r, j) = deal (F := F) dv i₀ cnt dk dn sh K k.val j.val j)
    (hg' : ∀ k j : Num, gift (k, r', j) = bring (F := F) dv i₀ cnt dk dn sh K I k.val j.val k) {X : PUnit.{1} → TProg F i α} :
    (iprop(L ∗ inv κ (body EC cell γ gift) ∗ Cut dv i src (6272 * (i 1).val) 6272 fullShare K ∗ Cut dv i nums (6272 * (i 1).val) 6272 fullShare I
        ∗ (∃ a, Cut dv i dk (6272 * (i 1).val) 6272 fullShare a) ∗ (∃ a, Cut dv i dn (6272 * (i 1).val) 6272 fullShare a)
        ∗ (∃ a, Cut dv i cnt (2048 * (i 1).val) 2048 fullShare a) ∗ (∃ a, Has dv i keys fullShare a)
        ∗ (∃ a, Has dv i mine fullShare a) ∗ (∃ a, Has dv i pos fullShare a) ∗ (∃ a, Has dv i hist fullShare a) ∗ (∃ a, Has dv i base fullShare a)
        ∗ (∃ a, Has dv i hists fullShare a) ∗ (∃ a, Has dv i b fullShare a)
        ∗ (Rest dv i s1.sem ∗ Rest dv i s2.sem ∗ Rest dv i s3.sem ∗ Rest dv i s4.sem ∗ Rest dv i s5.sem ∗ Rest dv i s6.sem)
        ∗ Stub EC cell γ ix (i 1) r₀ ∗ Debt (tile dv i) (owed cell ix O r₀) ok) : sProp 𝕄)
      ⊢ iprop((iprop(Cut dv i src (6272 * (i 1).val) 6272 fullShare K ∗ Cut dv i nums (6272 * (i 1).val) 6272 fullShare I
            ∗ Cut dv i dk (6272 * (i 1).val) 6272 fullShare (Radix.moved sh K K) ∗ Cut dv i dn (6272 * (i 1).val) 6272 fullShare (Radix.moved sh K I)
            ∗ (∃ a, Cut dv i cnt (2048 * (i 1).val) 2048 fullShare a) ∗ (∃ a, Has dv i keys fullShare a)
            ∗ (∃ a, Has dv i mine fullShare a) ∗ (∃ a, Has dv i pos fullShare a) ∗ (∃ a, Has dv i hist fullShare a) ∗ (∃ a, Has dv i base fullShare a)
            ∗ (∃ a, Has dv i hists fullShare a) ∗ (∃ a, Has dv i b fullShare a)
            ∗ (Rest dv i s1.sem ∗ Rest dv i s2.sem ∗ Rest dv i s3.sem ∗ Rest dv i s4.sem ∗ Rest dv i s5.sem ∗ Rest dv i s6.sem)
            ∗ Stub EC cell γ ix (i 1) (r₀ + 2) ∗ Debt (tile dv i) (owed cell ix O (r₀ + 2)) ok
            ∗ if r'.val + 1 < 7 then iprop(emp) else semVal (cell (i 1)) 0)
          -∗ wp frame (wpE defs 𝒱 (tile dv i) bd) Set.univ (X ⟨⟩) Q)
        -∗ wp frame (wpE defs 𝒱 (tile dv i) bd) Set.univ (phaseA i h src cnt keys hkeys hist hhist b s1 s2 sh
            >>= fun _ => SparseCore.subcoreBarrier sc_bar0 (grid0.bound 1) hsub0
            >>= fun _ => phaseB i h nums cnt hcnt dk dn keys hkeys mine hmine pos base hists hhists b s3 s4 s5 s6 sh
            >>= fun _ => SparseCore.subcoreBarrier sc_bar0 (grid0.bound 1) hsub0 >>= X) Q) := by
  have hw16 : (i 1).val < 16 := (i 1).isLt
  have hin : ∀ e < 6272, 6272 * (i 1).val + e < Radix.size := fun e he => by unfold Radix.size; omega
  have hp : ∀ e < 6272, BitVec.ofNat 32 (Radix.spot sh K (6272 * (i 1).val + e)) = start (cntOf sh K) (i 1).val (dig sh (K (6272 * (i 1).val + e)))
      + BitVec.ofNat 32 (count (fun j => dig sh (K (6272 * (i 1).val + j)) = dig sh (K (6272 * (i 1).val + e))) e) := fun e he => Radix.start_eq sh K hw16 he
  have hlt : ∀ e < 6272, Radix.spot sh K (6272 * (i 1).val + e) < 100352 := fun e he => Radix.spot_lt sh K (hin e he)
  have hinj : ∀ e < 6272, ∀ e' < 6272, Radix.spot sh K (6272 * (i 1).val + e) = Radix.spot sh K (6272 * (i 1).val + e') → e = e' := fun e he e' he' hh => by
    have := Radix.spot_inj sh K (hin e he) (hin e' he') hh; omega
  have hS : ∀ j, (j < Radix.size ∧ Radix.from' sh K j = (i 1).val) ↔ ∃ e < 6272, Radix.spot sh K (6272 * (i 1).val + e) = j := fun j =>
    ⟨fun hh => (Radix.mem_iff sh K hw16 hh.1).mp hh.2, fun hh => by
      obtain ⟨e, he, hj⟩ := hh
      have hj' : j < Radix.size := hj ▸ Radix.spot_lt sh K (hin e he)
      exact ⟨hj', (Radix.mem_iff sh K hw16 hj').mpr ⟨e, he, hj⟩⟩⟩
  have hK : ∀ e < 6272, Radix.moved sh K K (Radix.spot sh K (6272 * (i 1).val + e)) = K (6272 * (i 1).val + e) := fun e he => Radix.moved_spot sh K K (hin e he)
  have hI : ∀ e < 6272, Radix.moved sh K I (Radix.spot sh K (6272 * (i 1).val + e)) = I (6272 * (i 1).val + e) := fun e he => Radix.moved_spot sh K I (hin e he)
  have eg : ∀ k j : Num, gift (k, r, j) = deal (F := F) dv i cnt dk dn sh K k.val j.val j := fun k j => by
    rw [hg]; exact (deal_common (F := F) dv h₀ mc mk mn _ _ _).symm
  have eg' : ∀ k j : Num, gift (k, r', j) = bring (F := F) dv i cnt dk dn sh K I k.val j.val k := fun k j => by
    rw [hg']; exact (bring_common (F := F) dv h₀ mc mk mn _ _ _).symm
  have go : (bigSep Finset.univ fun j : Num => gift (i 1, r, j)) = bigSep Finset.univ fun j : Num => deal (F := F) dv i cnt dk dn sh K (i 1).val j.val j :=
    bigSep_congr fun j _ => eg (i 1) j
  have gi : (bigSep Finset.univ fun k : Num => gift (k, r, i 1)) = bigSep Finset.univ fun k : Num => deal (F := F) dv i cnt dk dn sh K k.val (i 1).val (i 1) :=
    bigSep_congr fun k _ => eg k (i 1)
  have go' : (bigSep Finset.univ fun j : Num => gift (i 1, r', j)) = bigSep Finset.univ fun j : Num => bring (F := F) dv i cnt dk dn sh K I (i 1).val j.val (i 1) :=
    bigSep_congr fun j _ => eg' (i 1) j
  have gi' : (bigSep Finset.univ fun k : Num => gift (k, r', i 1)) = bigSep Finset.univ fun k : Num => bring (F := F) dv i cnt dk dn sh K I k.val (i 1).val k :=
    bigSep_congr fun k _ => eg' k (i 1)
  have hback : ∀ {x : Memref sig .scVector .shared S100352 .i32} {a : ℕ → BitVec 32},
      (Part (F := F) (e := .i32) (tile dv i) x (fun p => p < Radix.size ∧ Radix.from' sh K p = (i 1).val) fullShare a : sProp 𝕄)
      ⊢ Part (F := F) (e := .i32) (tile dv i) x (fun p => Radix.from' sh K p = (i 1).val) fullShare a := by
    intro x a
    exact part_mono (F := F) (e := .i32) (tile dv i) (m := x) (fun j hj => ⟨fun hh => hh.2, fun hh => ⟨hj, hh⟩⟩) (fun _ _ _ => rfl)
  have hex : ∀ {x : Memref sig .scVector .shared S100352 .i32},
      (iprop(∃ a, Part (F := F) (e := .i32) (tile dv i) x (fun p => Radix.from' sh K p = (i 1).val) fullShare a) : sProp 𝕄)
      ⊢ iprop(∃ a, Part (F := F) (e := .i32) (tile dv i) x (fun p => p < Radix.size ∧ Radix.from' sh K p = (i 1).val) fullShare a) := by
    intro x
    iintro ⟨%a, H⟩
    iexists a
    iapply (part_mono (F := F) (e := .i32) (tile dv i) (m := x) (P' := fun p => p < Radix.size ∧ Radix.from' sh K p = (i 1).val)
      (fun j hj => ⟨fun hh => ⟨hj, hh⟩, fun hh => hh.2⟩) (fun _ _ _ => rfl)) $$ H
  iintro ⟨#Hl, #Hinv, Hs, Hi, Hk, Hn, Hc, Hkeys, Hmine, Hpos, Hhist, Hbase, Hhists, Hb, ⟨R1, R2, R3, R4, R5, R6⟩, Hst, HD⟩ HX
  ihave Hm0 := (hL r₀) $$ Hl
  iapply (wp_phaseA 𝒱 bd h dv EC rfl ι hok) $$ [Hs Hc Hkeys Hhist Hb R1 R2 HD Hm0]
  · isplitl [Hs]; · iexact Hs
    isplitl [Hc]; · iexact Hc
    isplitl [Hkeys]; · iexact Hkeys
    isplitl [Hhist]; · iexact Hhist
    isplitl [Hb]; · iexact Hb
    isplitl [R1]; · iexact R1
    isplitl [R2]; · iexact R2
    isplitl [HD] <;> iassumption
  iintro ⟨Hs, Hc, Hkeys, Hhist, Hb, R1, R2, HD⟩
  ihave Hgive := (deal_out (F := F) dv i (cnt := cnt) (dk := dk) (dn := dn) (sh := sh) (K := K) (i 1)) $$ [Hc Hk Hn]
  · isplitl [Hc]; · iexact Hc
    isplitl [Hk] <;> iassumption
  ihave Hgive := (Entails.of_eq go.symm) $$ Hgive
  ihave Hm1 := (hL' r) $$ Hl
  iapply (wp_round 𝒱 bd dv EC (gift := gift) r hr hcell (hok' r)) $$ [Hst HD Hgive Hm1]
  · isplitr; · iexact Hinv
    isplitl [Hst]; · iexact Hst
    isplitl [HD]; · iexact HD
    isplitl [Hgive]; · iexact Hgive
    rw [← hr]; iexact Hm1
  iintro ⟨Hst, HD, Htk⟩
  unfold taken
  icases Htk with ⟨Htk, -⟩
  ihave Htk := (Entails.of_eq gi) $$ Htk
  ihave Htk := (deal_in (F := F) dv i (cnt := cnt) (dk := dk) (dn := dn) (sh := sh) (K := K) (i 1)) $$ Htk
  icases Htk with ⟨Hc, Hk, Hn⟩
  ihave Hk := hex $$ Hk
  ihave Hn := hex $$ Hn
  ihave Hm2 := (hL (r₀ + 1)) $$ Hl
  iapply (wp_phaseB 𝒱 bd h dv EC hc1 hc2 hc3 hc4 rfl ι hok (q := share (i 1)) (q' := fullShare) (A := cntOf sh K) (k := fun e => K (6272 * (i 1).val + e)) (I := I)
      (Kd := Radix.moved sh K K) (Id := Radix.moved sh K I) (p := fun e => Radix.spot sh K (6272 * (i 1).val + e))
      (fun p => p < Radix.size ∧ Radix.from' sh K p = (i 1).val) hp hlt hinj hS hK hI) $$ [Hc Hi Hk Hn Hkeys Hmine Hpos Hbase Hhists Hb R3 R4 R5 R6 HD Hm2]
  · isplitl [Hc]; · iexact Hc
    isplitl [Hi]; · iexact Hi
    isplitl [Hk]; · iexact Hk
    isplitl [Hn]; · iexact Hn
    isplitl [Hkeys]; · iexact Hkeys
    isplitl [Hmine]; · iexact Hmine
    isplitl [Hpos]; · iexact Hpos
    isplitl [Hbase]; · iexact Hbase
    isplitl [Hhists]; · iexact Hhists
    isplitl [Hb]; · iexact Hb
    isplitl [R3]; · iexact R3
    isplitl [R4]; · iexact R4
    isplitl [R5]; · iexact R5
    isplitl [R6]; · iexact R6
    isplitl [HD] <;> iassumption
  iintro ⟨Hc, Hi, Hk, Hn, Hkeys, Hmine, Hpos, Hbase, Hhists, Hb, R3, R4, R5, R6, HD⟩
  ihave Hk := hback $$ Hk
  ihave Hn := hback $$ Hn
  ihave Hgive := (bring_out (F := F) dv i (cnt := cnt) (dk := dk) (dn := dn) (sh := sh) (K := K) (I := I) (i 1)) $$ [Hc Hk Hn]
  · isplitl [Hc]; · iexact Hc
    isplitl [Hk] <;> iassumption
  ihave Hgive := (Entails.of_eq go'.symm) $$ Hgive
  ihave Hm3 := (hL' r') $$ Hl
  iapply (wp_round 𝒱 bd dv EC (gift := gift) r' hr' hcell (hok' r')) $$ [Hst HD Hgive Hm3]
  · isplitr; · iexact Hinv
    isplitl [Hst]; · iexact Hst
    isplitl [HD]; · iexact HD
    isplitl [Hgive]; · iexact Hgive
    rw [← hr']; iexact Hm3
  iintro ⟨Hst, HD, Htk⟩
  unfold taken
  icases Htk with ⟨Htk, Hend⟩
  ihave Htk := (Entails.of_eq gi') $$ Htk
  ihave Htk := (bring_in (F := F) dv i (cnt := cnt) (dk := dk) (dn := dn) (sh := sh) (K := K) (I := I) (i 1)) $$ Htk
  icases Htk with ⟨Hc, Hk, Hn⟩
  iapply HX
  isplitl [Hs]; · iexact Hs
  isplitl [Hi]; · iexact Hi
  isplitl [Hk]; · iexact Hk
  isplitl [Hn]; · iexact Hn
  isplitl [Hc]; · iexists _; iexact Hc
  isplitl [Hkeys]; · iexact Hkeys
  isplitl [Hmine]; · iexact Hmine
  isplitl [Hpos]; · iexact Hpos
  isplitl [Hhist]; · iexact Hhist
  isplitl [Hbase]; · iexact Hbase
  isplitl [Hhists]; · iexact Hhists
  isplitl [Hb]; · iexact Hb
  isplitl [R1 R2 R3 R4 R5 R6]
  · isplitl [R1]; · iexact R1
    isplitl [R2]; · iexact R2
    isplitl [R3]; · iexact R3
    isplitl [R4]; · iexact R4
    isplitl [R5] <;> iassumption
  isplitl [Hst]; · iexact Hst
  isplitl [HD]; · iexact HD
  iexact Hend

end Cert.Proof.Pass
end
-- ==== Proof.TileRun.lean ====
/-
  A tile's whole run: its scores to keys, three passes, and, for the first eight tiles, its part of the sorted row out.
-/
module

public import proofs.«01_k».proof.Proof.Pass

@[expose] public section

set_option synthInstance.maxSize 4096

noncomputable section

namespace Cert.Proof.TileRun

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.SL.ExclCount
open Cert.Kernel Cert.Kernel.Gen Cert.Proof.Body Cert.Proof.Words Cert.Proof.Digits Cert.Proof.Steps Cert.Proof.Phases Cert.Proof.Stages Cert.Proof.Ends Cert.Proof.Meet Cert.Proof.Pass
open Cert.Proof.Rendezvous (Key body taken)

variable {F : FTy → Type} [BitOps F] {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond5 i = 1#1) (dv : Dev nD) {α : Type} {Q : α → sProp (MT nD τ sig Ix (Elt F) Name U Lvl)}

local notation "𝕄" => MT nD τ sig Ix (Elt F) Name U Lvl

/-! ## The sequence of rows -/

/-- The digit's place in each pass. -/
def place (p : ℕ) : BitVec 32 := BitVec.ofNat 32 (11 * p)

/-- A row before the passes, and after each. -/
def after (K : ℕ → BitVec 32) (a : ℕ → BitVec 32) : ℕ → (ℕ → BitVec 32) × (ℕ → BitVec 32)
  | 0 => (K, a)
  | p + 1 => (Radix.moved (place p) (after K a p).1 (after K a p).1, Radix.moved (place p) (after K a p).1 (after K a p).2)

/-- The keys before pass `p`. -/
def keysAt (sc : ℕ → F .f32) (p : ℕ) : ℕ → BitVec 32 := (after (keys0 sc) nums0 p).1
/-- The elements' numbers before pass `p`. -/
def numsAt (sc : ℕ → F .f32) (p : ℕ) : ℕ → BitVec 32 := (after (keys0 sc) nums0 p).2

theorem keysAt_zero (sc : ℕ → F .f32) : keysAt sc 0 = keys0 sc := rfl
theorem numsAt_zero (sc : ℕ → F .f32) : numsAt sc 0 = nums0 := rfl
theorem keysAt_succ (sc : ℕ → F .f32) (p : ℕ) : keysAt sc (p + 1) = Radix.moved (place p) (keysAt sc p) (keysAt sc p) := rfl
theorem numsAt_succ (sc : ℕ → F .f32) (p : ℕ) : numsAt sc (p + 1) = Radix.moved (place p) (keysAt sc p) (numsAt sc p) := rfl

theorem keys_first (sc : ℕ → F .f32) : Radix.moved 0#32 (keysAt sc 0) (keysAt sc 0) = keysAt sc 1 := by
  have e := keysAt_succ sc 0
  rw [show place 0 = 0#32 by decide] at e
  exact e.symm
theorem nums_first (sc : ℕ → F .f32) : Radix.moved 0#32 (keysAt sc 0) (numsAt sc 0) = numsAt sc 1 := by
  have e := numsAt_succ sc 0
  rw [show place 0 = 0#32 by decide] at e
  exact e.symm
theorem keys_second (sc : ℕ → F .f32) : Radix.moved 11#32 (keysAt sc 1) (keysAt sc 1) = keysAt sc 2 := by
  have e := keysAt_succ sc 1
  rw [show place 1 = 11#32 by decide] at e
  exact e.symm
theorem nums_second (sc : ℕ → F .f32) : Radix.moved 11#32 (keysAt sc 1) (numsAt sc 1) = numsAt sc 2 := by
  have e := numsAt_succ sc 1
  rw [show place 1 = 11#32 by decide] at e
  exact e.symm
theorem keys_third (sc : ℕ → F .f32) : Radix.moved 22#32 (keysAt sc 2) (keysAt sc 2) = keysAt sc 3 := by
  have e := keysAt_succ sc 2
  rw [show place 2 = 22#32 by decide] at e
  exact e.symm
theorem nums_third (sc : ℕ → F .f32) : Radix.moved 22#32 (keysAt sc 2) (numsAt sc 2) = numsAt sc 3 := by
  have e := numsAt_succ sc 2
  rw [show place 2 = 22#32 by decide] at e
  exact e.symm

/-! ## What goes round -/

section Gifts

variable (i₀ : grid0.Coords) (ak an bk bn : Memref sig .scVector .shared S100352 .i32) (cnt : Memref sig .scVector .shared S32768 .i32)
  (pool : Memref sig .scVector .shared S256 .f32) (sc : ℕ → F .f32)

/-- The first meeting's: each tile's part of the pool to the first tile. -/
def pooled (k j : Num) : sProp 𝕄 :=
  if j = zero then iprop(∃ a, Some32 dv i₀ pool (fun p => 16 * k.val ≤ p ∧ p < 16 * k.val + 16) fullShare a) else iprop(emp)

instance pooled_storable (k j : Num) : BI.Storable (upEmb : UEmb _ 𝕄) (pooled (F := F) dv i₀ pool k j) := by
  unfold pooled; split <;> infer_instance

/-- What tile `k` hands tile `j` at each of the seven meetings. -/
def gifts : Num × Fin 7 × Num → sProp 𝕄
  | (k, 0, j) => pooled dv i₀ pool k j
  | (k, 1, j) => deal dv i₀ cnt bk bn 0#32 (keysAt sc 0) k.val j.val j
  | (k, 2, j) => bring dv i₀ cnt bk bn 0#32 (keysAt sc 0) (numsAt sc 0) k.val j.val k
  | (k, 3, j) => deal dv i₀ cnt ak an 11#32 (keysAt sc 1) k.val j.val j
  | (k, 4, j) => bring dv i₀ cnt ak an 11#32 (keysAt sc 1) (numsAt sc 1) k.val j.val k
  | (k, 5, j) => deal dv i₀ cnt bk bn 22#32 (keysAt sc 2) k.val j.val j
  | (k, 6, j) => bring dv i₀ cnt bk bn 22#32 (keysAt sc 2) (numsAt sc 2) k.val j.val k

instance gifts_storable (p : Num × Fin 7 × Num) : BI.Storable (upEmb : UEmb _ 𝕄) (gifts (F := F) dv i₀ ak an bk bn cnt pool sc p) := by
  obtain ⟨k, r, j⟩ := p
  fin_cases r <;> simp only [gifts] <;> infer_instance

omit [Preorder Lvl] in
theorem pool_out (w : Num) :
    (iprop(∃ a, Some32 dv i₀ pool (fun p => 16 * w.val ≤ p ∧ p < 16 * w.val + 16) fullShare a) : sProp 𝕄)
      ⊢ bigSep Finset.univ fun j : Num => pooled (F := F) dv i₀ pool w j := by
  rw [SparseCore.bigSep_erase' (Finset.mem_univ zero), bigSep_congr (s := Finset.univ.erase zero) (Ψ := fun _ : Num => iprop(emp))
    (fun j hj => by unfold pooled; rw [if_neg (Finset.ne_of_mem_erase hj)]),
    show (bigSep (Finset.univ.erase zero) fun _ : Num => (iprop(emp) : sProp 𝕄)) = iprop(emp) from bigSep_emp_const _]
  unfold pooled
  rw [if_pos rfl]
  iintro H
  isplitl [H]; · iexact H
  iempintro

omit [Preorder Lvl] in
theorem pool_in (w : Num) :
    (bigSep Finset.univ fun k : Num => pooled (F := F) dv i₀ pool k w)
      ⊢ (if w = zero then iprop(∃ a, Some32 dv i₀ pool (fun _ => True) fullShare a) else iprop(emp) : sProp 𝕄) := by
  by_cases hw : w = zero
  · rw [if_pos hw]
    unfold pooled
    simp only [if_pos hw]
    by_cases hne : Nonempty (F .f32)
    swap
    · rw [SparseCore.bigSep_erase' (Finset.mem_univ zero)]
      iintro ⟨⟨%a, -⟩, -⟩
      exact absurd ⟨a 0⟩ hne
    exact join_any_by (F := F) (e := .f32) (tile dv i₀) (m := pool) (P := fun _ => True) (P' := fun t p => 16 * t.val ≤ p ∧ p < 16 * t.val + 16)
      (fun p => p / 16) (fun _ => Classical.choice hne) (fun j hj _ => by omega) (fun t j _ => ⟨fun hh => ⟨trivial, by omega⟩, fun hh => by have := hh.2; omega⟩)
  · rw [if_neg hw]
    iintro -
    iempintro

variable {i₀ pool}

omit [Preorder Lvl] in
theorem pooled_common (h₀ : i 0 = i₀ 0) (mp : Common (F := F) (Ix := Ix) (Name := Name) (U := U) (Lvl := Lvl) dv .f32 pool) (k j : Num) :
    (pooled (F := F) dv i pool k j : sProp 𝕄) = pooled (F := F) dv i₀ pool k j := by
  unfold pooled
  split
  · exact congrArg _ (funext fun a => mp i i₀ h₀ _ _ _)
  · rfl

end Gifts

/-! ## The program in one line -/

/-- What a tile does after the last meeting. -/
def ending (i : grid0.Coords) (arg2 : Memref sig .scVector .hbm S100000 .f32) (harg2 : arg2.IsWhole) (arg3 : Memref sig .scVector .hbm S50176 .i32) (harg3 : arg3.IsWhole) (arg4 : Memref sig .scVector .hbm S50176 .i32) (harg4 : arg4.IsWhole) (arg5 : Memref sig .scVector .hbm S16 .f32) (harg5 : arg5.IsWhole) (arg6 : Memref sig .scVector .shared S100352 .i32) (harg6 : arg6.IsWhole) (arg7 : Memref sig .scVector .shared S100352 .i32) (harg7 : arg7.IsWhole) (arg8 : Memref sig .scVector .shared S100352 .i32) (harg8 : arg8.IsWhole) (arg9 : Memref sig .scVector .shared S100352 .i32) (harg9 : arg9.IsWhole) (arg10 : Memref sig .scVector .shared S32768 .i32) (harg10 : arg10.IsWhole) (arg11 : Memref sig .scVector .shared S256 .f32) (harg11 : arg11.IsWhole) (arg12 : Memref sig .scVector .vmem S6272 .f32) (harg12 : arg12.IsWhole) (arg13 : Memref sig .scVector .vmem S6272 .i32) (harg13 : arg13.IsWhole) (arg14 : Memref sig .scVector .vmem S6272 .i32) (harg14 : arg14.IsWhole) (arg15 : Memref sig .scVector .vmem S6272 .i32) (harg15 : arg15.IsWhole) (arg16 : Memref sig .scVector .vmem S2048 .i32) (harg16 : arg16.IsWhole) (arg17 : Memref sig .scVector .vmem S2048 .i32) (harg17 : arg17.IsWhole) (arg18 : Memref sig .scVector .vmem S32768 .i32) (harg18 : arg18.IsWhole) (arg19 : Memref sig .scVector .vmem S256 .f32) (harg19 : arg19.IsWhole) (arg20 : Memref sig .scVector .vmem S16 .i32) (harg20 : arg20.IsWhole) (arg21 : Memref sig .scVector .vmem S16 .i32) (harg21 : arg21.IsWhole) (arg22 : Memref sig .scVector .vmem S16 .i32) (harg22 : arg22.IsWhole) (arg23 : Memref sig .scVector .vmem S16 .f32) (harg23 : arg23.IsWhole) (v54_r0 : DmaSems sig S_) (v54_r1 : DmaSems sig S_) (v54_r2 : DmaSems sig S_) (v54_r3 : DmaSems sig S_) (v54_r4 : DmaSems sig S_) (v40_r5 : DmaSems sig S_) (v40_r6 : DmaSems sig S_) (v42_r7 : DmaSems sig S_) (v42_r8 : DmaSems sig S_) (v42_r9 : DmaSems sig S_) (v42_r10 : DmaSems sig S_) (v40_r11 : DmaSems sig S_) (v40_r12 : DmaSems sig S_) (v42_r13 : DmaSems sig S_) (v42_r14 : DmaSems sig S_) (v42_r15 : DmaSems sig S_) (v42_r16 : DmaSems sig S_) (v40_r17 : DmaSems sig S_) (v40_r18 : DmaSems sig S_) (v42_r19 : DmaSems sig S_) (v42_r20 : DmaSems sig S_) (v42_r21 : DmaSems sig S_) (v42_r22 : DmaSems sig S_) (v35_r23 : DmaSems sig S_) (v35_r24 : DmaSems sig S_) (v35_r25 : DmaSems sig S_) (v35_r26 : DmaSems sig S_) (v91_r27 : DmaSems sig S_) (v91_r28 : DmaSems sig S_) : TProg F i PUnit.{1} := do
  if h : k0_cond11 i = 1#1 then do
    stage1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h
  else do
    pure ⟨⟩
  if h : k0_cond12 i = 1#1 then do
    stage2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 h
  else do
    pure ⟨⟩
  pure ⟨⟩

section Text

variable {arg2 : Memref sig .scVector .hbm S100000 .f32} {harg2 : arg2.IsWhole} {arg3 : Memref sig .scVector .hbm S50176 .i32} {harg3 : arg3.IsWhole} {arg4 : Memref sig .scVector .hbm S50176 .i32} {harg4 : arg4.IsWhole} {arg5 : Memref sig .scVector .hbm S16 .f32} {harg5 : arg5.IsWhole} {arg6 : Memref sig .scVector .shared S100352 .i32} {harg6 : arg6.IsWhole} {arg7 : Memref sig .scVector .shared S100352 .i32} {harg7 : arg7.IsWhole} {arg8 : Memref sig .scVector .shared S100352 .i32} {harg8 : arg8.IsWhole} {arg9 : Memref sig .scVector .shared S100352 .i32} {harg9 : arg9.IsWhole} {arg10 : Memref sig .scVector .shared S32768 .i32} {harg10 : arg10.IsWhole} {arg11 : Memref sig .scVector .shared S256 .f32} {harg11 : arg11.IsWhole} {arg12 : Memref sig .scVector .vmem S6272 .f32} {harg12 : arg12.IsWhole} {arg13 : Memref sig .scVector .vmem S6272 .i32} {harg13 : arg13.IsWhole} {arg14 : Memref sig .scVector .vmem S6272 .i32} {harg14 : arg14.IsWhole} {arg15 : Memref sig .scVector .vmem S6272 .i32} {harg15 : arg15.IsWhole} {arg16 : Memref sig .scVector .vmem S2048 .i32} {harg16 : arg16.IsWhole} {arg17 : Memref sig .scVector .vmem S2048 .i32} {harg17 : arg17.IsWhole} {arg18 : Memref sig .scVector .vmem S32768 .i32} {harg18 : arg18.IsWhole} {arg19 : Memref sig .scVector .vmem S256 .f32} {harg19 : arg19.IsWhole} {arg20 : Memref sig .scVector .vmem S16 .i32} {harg20 : arg20.IsWhole} {arg21 : Memref sig .scVector .vmem S16 .i32} {harg21 : arg21.IsWhole} {arg22 : Memref sig .scVector .vmem S16 .i32} {harg22 : arg22.IsWhole} {arg23 : Memref sig .scVector .vmem S16 .f32} {harg23 : arg23.IsWhole} {v54_r0 : DmaSems sig S_} {v54_r1 : DmaSems sig S_} {v54_r2 : DmaSems sig S_} {v54_r3 : DmaSems sig S_} {v54_r4 : DmaSems sig S_} {v40_r5 : DmaSems sig S_} {v40_r6 : DmaSems sig S_} {v42_r7 : DmaSems sig S_} {v42_r8 : DmaSems sig S_} {v42_r9 : DmaSems sig S_} {v42_r10 : DmaSems sig S_} {v40_r11 : DmaSems sig S_} {v40_r12 : DmaSems sig S_} {v42_r13 : DmaSems sig S_} {v42_r14 : DmaSems sig S_} {v42_r15 : DmaSems sig S_} {v42_r16 : DmaSems sig S_} {v40_r17 : DmaSems sig S_} {v40_r18 : DmaSems sig S_} {v42_r19 : DmaSems sig S_} {v42_r20 : DmaSems sig S_} {v42_r21 : DmaSems sig S_} {v42_r22 : DmaSems sig S_} {v35_r23 : DmaSems sig S_} {v35_r24 : DmaSems sig S_} {v35_r25 : DmaSems sig S_} {v35_r26 : DmaSems sig S_} {v91_r27 : DmaSems sig S_} {v91_r28 : DmaSems sig S_}

include h in
theorem rest_eq : tileRest (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28
    = (SparseCore.subcoreBarrier sc_bar0 (grid0.bound 1) hsub0
      >>= fun _ => phaseA i h arg6 arg10 arg13 harg13 arg16 harg16 arg20 v40_r5 v40_r6 0#32
      >>= fun _ => SparseCore.subcoreBarrier sc_bar0 (grid0.bound 1) hsub0
      >>= fun _ => phaseB i h arg7 arg10 harg10 arg8 arg9 arg13 harg13 arg14 harg14 arg15 arg17 arg18 harg18 arg20 v42_r7 v42_r8 v42_r9 v42_r10 0#32
      >>= fun _ => SparseCore.subcoreBarrier sc_bar0 (grid0.bound 1) hsub0
      >>= fun _ => phaseA i h arg8 arg10 arg13 harg13 arg16 harg16 arg20 v40_r11 v40_r12 11#32
      >>= fun _ => SparseCore.subcoreBarrier sc_bar0 (grid0.bound 1) hsub0
      >>= fun _ => phaseB i h arg9 arg10 harg10 arg6 arg7 arg13 harg13 arg14 harg14 arg15 arg17 arg18 harg18 arg20 v42_r13 v42_r14 v42_r15 v42_r16 11#32
      >>= fun _ => SparseCore.subcoreBarrier sc_bar0 (grid0.bound 1) hsub0
      >>= fun _ => phaseA i h arg6 arg10 arg13 harg13 arg16 harg16 arg20 v40_r17 v40_r18 22#32
      >>= fun _ => SparseCore.subcoreBarrier sc_bar0 (grid0.bound 1) hsub0
      >>= fun _ => phaseB i h arg7 arg10 harg10 arg8 arg9 arg13 harg13 arg14 harg14 arg15 arg17 arg18 harg18 arg20 v42_r19 v42_r20 v42_r21 v42_r22 22#32
      >>= fun _ => SparseCore.subcoreBarrier sc_bar0 (grid0.bound 1) hsub0
      >>= fun _ => ending i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28) := by
  unfold tileRest ending
  simp only [dif_pos h]

theorem rest_eq' (h : ¬ k0_cond5 i = 1#1) (h11 : ¬ k0_cond11 i = 1#1) (h12 : ¬ k0_cond12 i = 1#1) : tileBody (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28
    = (SparseCore.subcoreBarrier sc_bar0 (grid0.bound 1) hsub0
      >>= fun _ => SparseCore.subcoreBarrier sc_bar0 (grid0.bound 1) hsub0
      >>= fun _ => SparseCore.subcoreBarrier sc_bar0 (grid0.bound 1) hsub0
      >>= fun _ => SparseCore.subcoreBarrier sc_bar0 (grid0.bound 1) hsub0
      >>= fun _ => SparseCore.subcoreBarrier sc_bar0 (grid0.bound 1) hsub0
      >>= fun _ => SparseCore.subcoreBarrier sc_bar0 (grid0.bound 1) hsub0
      >>= fun _ => SparseCore.subcoreBarrier sc_bar0 (grid0.bound 1) hsub0
      >>= fun _ => pure ⟨⟩) := by
  unfold tileBody
  rw [dif_neg h]
  unfold tileRest
  simp only [dif_neg h, dif_neg h11, dif_neg h12, pure_bind]

end Text

/-! ## The run -/

/-- A tile's own rows. -/
def Own (i : grid0.Coords) (arg12 : Memref sig .scVector .vmem S6272 .f32) (arg13 : Memref sig .scVector .vmem S6272 .i32) (arg14 : Memref sig .scVector .vmem S6272 .i32) (arg15 : Memref sig .scVector .vmem S6272 .i32) (arg16 : Memref sig .scVector .vmem S2048 .i32) (arg17 : Memref sig .scVector .vmem S2048 .i32) (arg18 : Memref sig .scVector .vmem S32768 .i32) (arg19 : Memref sig .scVector .vmem S256 .f32) (arg20 : Memref sig .scVector .vmem S16 .i32) (arg21 : Memref sig .scVector .vmem S16 .i32) (arg22 : Memref sig .scVector .vmem S16 .i32) (arg23 : Memref sig .scVector .vmem S16 .f32) : sProp 𝕄 :=
  iprop((∃ a, Some32 dv i arg12 (fun _ => True) fullShare a) ∗ (∃ a, Has dv i arg13 fullShare a) ∗ (∃ a, Has dv i arg14 fullShare a) ∗ (∃ a, Has dv i arg15 fullShare a) ∗ (∃ a, Has dv i arg16 fullShare a) ∗ (∃ a, Has dv i arg17 fullShare a) ∗ (∃ a, Has dv i arg18 fullShare a) ∗ (∃ a, Some32 dv i arg19 (fun _ => True) fullShare a) ∗ (∃ a, Has dv i arg20 fullShare a) ∗ (∃ a, Has dv i arg21 fullShare a) ∗ (∃ a, Has dv i arg22 fullShare a) ∗ (∃ a, Some32 dv i arg23 (fun _ => True) fullShare a))

/-- A tile's own counts, all at rest. -/
def Quiet (i : grid0.Coords) (v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 : DmaSems sig S_) : sProp 𝕄 :=
  iprop(Rest dv i v54_r0.sem ∗ Rest dv i v54_r1.sem ∗ Rest dv i v54_r2.sem ∗ Rest dv i v54_r3.sem ∗ Rest dv i v54_r4.sem ∗ Rest dv i v40_r5.sem ∗ Rest dv i v40_r6.sem ∗ Rest dv i v42_r7.sem ∗ Rest dv i v42_r8.sem ∗ Rest dv i v42_r9.sem ∗ Rest dv i v42_r10.sem ∗ Rest dv i v40_r11.sem ∗ Rest dv i v40_r12.sem ∗ Rest dv i v42_r13.sem ∗ Rest dv i v42_r14.sem ∗ Rest dv i v42_r15.sem ∗ Rest dv i v42_r16.sem ∗ Rest dv i v40_r17.sem ∗ Rest dv i v40_r18.sem ∗ Rest dv i v42_r19.sem ∗ Rest dv i v42_r20.sem ∗ Rest dv i v42_r21.sem ∗ Rest dv i v42_r22.sem ∗ Rest dv i v35_r23.sem ∗ Rest dv i v35_r24.sem ∗ Rest dv i v35_r25.sem ∗ Rest dv i v35_r26.sem ∗ Rest dv i v91_r27.sem ∗ Rest dv i v91_r28.sem)

/-- What a tile of the first core starts from. -/
def Take (i : grid0.Coords) (arg2 : Memref sig .scVector .hbm S100000 .f32) (arg3 arg4 : Memref sig .scVector .hbm S50176 .i32) (arg5 : Memref sig .scVector .hbm S16 .f32) (arg6 arg7 arg8 arg9 : Memref sig .scVector .shared S100352 .i32) (arg10 : Memref sig .scVector .shared S32768 .i32) (arg11 : Memref sig .scVector .shared S256 .f32) (q : PosShare TreeShare) (sc : ℕ → F .f32) : sProp 𝕄 :=
  iprop(Some32 dv i arg2 (fun j => 6272 * (i 1).val ≤ j ∧ j < 6272 * (i 1).val + 6272) q sc
    ∗ (∃ a, Cut dv i arg6 (6272 * (i 1).val) 6272 fullShare a) ∗ (∃ a, Cut dv i arg7 (6272 * (i 1).val) 6272 fullShare a) ∗ (∃ a, Cut dv i arg8 (6272 * (i 1).val) 6272 fullShare a) ∗ (∃ a, Cut dv i arg9 (6272 * (i 1).val) 6272 fullShare a)
    ∗ (∃ a, Cut dv i arg10 (2048 * (i 1).val) 2048 fullShare a) ∗ (∃ a, Some32 dv i arg11 (fun j => 16 * (i 1).val ≤ j ∧ j < 16 * (i 1).val + 16) fullShare a)
    ∗ (if (i 1).val < 8 then iprop((∃ a, Cut dv i arg3 (6272 * (i 1).val) 6272 fullShare a) ∗ (∃ a, Cut dv i arg4 (6272 * (i 1).val) 6272 fullShare a)) else iprop(emp))
    ∗ (if (i 1).val = 0 then iprop(∃ a, Some32 dv i arg5 (fun _ => True) fullShare a) else iprop(emp)))

/-- What a tile of the first core ends with. -/
def Give (i : grid0.Coords) (arg2 : Memref sig .scVector .hbm S100000 .f32) (arg3 arg4 : Memref sig .scVector .hbm S50176 .i32) (arg5 : Memref sig .scVector .hbm S16 .f32) (arg6 arg7 arg8 arg9 : Memref sig .scVector .shared S100352 .i32) (arg10 : Memref sig .scVector .shared S32768 .i32) (arg11 : Memref sig .scVector .shared S256 .f32) (q : PosShare TreeShare) (sc : ℕ → F .f32) : sProp 𝕄 :=
  iprop(Some32 dv i arg2 (fun j => 6272 * (i 1).val ≤ j ∧ j < 6272 * (i 1).val + 6272) q sc
    ∗ (∃ a, Cut dv i arg6 (6272 * (i 1).val) 6272 fullShare a) ∗ (∃ a, Cut dv i arg7 (6272 * (i 1).val) 6272 fullShare a) ∗ (∃ a, Cut dv i arg8 (6272 * (i 1).val) 6272 fullShare a) ∗ (∃ a, Cut dv i arg9 (6272 * (i 1).val) 6272 fullShare a)
    ∗ (∃ a, Cut dv i arg10 (2048 * (i 1).val) 2048 fullShare a) ∗ (if (i 1).val = 0 then iprop(∃ a, Some32 dv i arg11 (fun _ => True) fullShare a) else iprop(emp))
    ∗ (if (i 1).val < 8 then iprop(Cut dv i arg3 (6272 * (i 1).val) 6272 fullShare (keysAt sc 3) ∗ Cut dv i arg4 (6272 * (i 1).val) 6272 fullShare (numsAt sc 3)) else iprop(emp))
    ∗ (if (i 1).val = 0 then iprop(∃ a, Some32 dv i arg5 (fun _ => True) fullShare a) else iprop(emp)))

variable [Infinite Name] (EC : UEmb Counters (MT nD τ sig Ix (Elt F) Name U Lvl))

include h in
theorem wp_ending [EC.LandsIn (upEmb : UEmb _ 𝕄)] {Q : PUnit.{1} → sProp (MT nD τ sig Ix (Elt F) Name U Lvl)}
    {arg2 : Memref sig .scVector .hbm S100000 .f32} {harg2 : arg2.IsWhole} {arg3 : Memref sig .scVector .hbm S50176 .i32} {harg3 : arg3.IsWhole} {arg4 : Memref sig .scVector .hbm S50176 .i32} {harg4 : arg4.IsWhole} {arg5 : Memref sig .scVector .hbm S16 .f32} {harg5 : arg5.IsWhole} {arg6 : Memref sig .scVector .shared S100352 .i32} {harg6 : arg6.IsWhole} {arg7 : Memref sig .scVector .shared S100352 .i32} {harg7 : arg7.IsWhole} {arg8 : Memref sig .scVector .shared S100352 .i32} {harg8 : arg8.IsWhole} {arg9 : Memref sig .scVector .shared S100352 .i32} {harg9 : arg9.IsWhole} {arg10 : Memref sig .scVector .shared S32768 .i32} {harg10 : arg10.IsWhole} {arg11 : Memref sig .scVector .shared S256 .f32} {harg11 : arg11.IsWhole} {arg12 : Memref sig .scVector .vmem S6272 .f32} {harg12 : arg12.IsWhole} {arg13 : Memref sig .scVector .vmem S6272 .i32} {harg13 : arg13.IsWhole} {arg14 : Memref sig .scVector .vmem S6272 .i32} {harg14 : arg14.IsWhole} {arg15 : Memref sig .scVector .vmem S6272 .i32} {harg15 : arg15.IsWhole} {arg16 : Memref sig .scVector .vmem S2048 .i32} {harg16 : arg16.IsWhole} {arg17 : Memref sig .scVector .vmem S2048 .i32} {harg17 : arg17.IsWhole} {arg18 : Memref sig .scVector .vmem S32768 .i32} {harg18 : arg18.IsWhole} {arg19 : Memref sig .scVector .vmem S256 .f32} {harg19 : arg19.IsWhole} {arg20 : Memref sig .scVector .vmem S16 .i32} {harg20 : arg20.IsWhole} {arg21 : Memref sig .scVector .vmem S16 .i32} {harg21 : arg21.IsWhole} {arg22 : Memref sig .scVector .vmem S16 .i32} {harg22 : arg22.IsWhole} {arg23 : Memref sig .scVector .vmem S16 .f32} {harg23 : arg23.IsWhole} {v54_r0 : DmaSems sig S_} {v54_r1 : DmaSems sig S_} {v54_r2 : DmaSems sig S_} {v54_r3 : DmaSems sig S_} {v54_r4 : DmaSems sig S_} {v40_r5 : DmaSems sig S_} {v40_r6 : DmaSems sig S_} {v42_r7 : DmaSems sig S_} {v42_r8 : DmaSems sig S_} {v42_r9 : DmaSems sig S_} {v42_r10 : DmaSems sig S_} {v40_r11 : DmaSems sig S_} {v40_r12 : DmaSems sig S_} {v42_r13 : DmaSems sig S_} {v42_r14 : DmaSems sig S_} {v42_r15 : DmaSems sig S_} {v42_r16 : DmaSems sig S_} {v40_r17 : DmaSems sig S_} {v40_r18 : DmaSems sig S_} {v42_r19 : DmaSems sig S_} {v42_r20 : DmaSems sig S_} {v42_r21 : DmaSems sig S_} {v42_r22 : DmaSems sig S_} {v35_r23 : DmaSems sig S_} {v35_r24 : DmaSems sig S_} {v35_r25 : DmaSems sig S_} {v35_r26 : DmaSems sig S_} {v91_r27 : DmaSems sig S_} {v91_r28 : DmaSems sig S_}
    (ι : Ix) {O : CellTallies nD τ sig Ix} {ok : SemLoc sig × Ix → Prop} (hok : ∀ s, ok (.dma s, ι)) {L : sProp (MT nD τ sig Ix (Elt F) Name U Lvl)} [BI.Persistent L]
    (hL : (L : sProp 𝕄) ⊢ Transfers.MayWaits (tile dv i) ι O) {K I : ℕ → BitVec 32} :
    (iprop(L ∗ Cut dv i arg8 (6272 * (i 1).val) 6272 fullShare K ∗ Cut dv i arg9 (6272 * (i 1).val) 6272 fullShare I
        ∗ (if (i 1).val < 8 then iprop((∃ a, Cut dv i arg3 (6272 * (i 1).val) 6272 fullShare a) ∗ (∃ a, Cut dv i arg4 (6272 * (i 1).val) 6272 fullShare a)) else iprop(emp)) ∗ (∃ a, Has dv i arg13 fullShare a) ∗ (∃ a, Has dv i arg14 fullShare a)
        ∗ Rest dv i v35_r23.sem ∗ Rest dv i v35_r24.sem ∗ Rest dv i v35_r25.sem ∗ Rest dv i v35_r26.sem
        ∗ (if i 1 = zero then iprop(∃ a, Some32 dv i arg11 (fun _ => True) fullShare a) else iprop(emp)) ∗ (∃ a, Some32 dv i arg19 (fun _ => True) fullShare a) ∗ (∃ a, Some32 dv i arg23 (fun _ => True) fullShare a)
        ∗ (if (i 1).val = 0 then iprop(∃ a, Some32 dv i arg5 (fun _ => True) fullShare a) else iprop(emp)) ∗ Rest dv i v91_r27.sem ∗ Rest dv i v91_r28.sem ∗ Debt (tile dv i) O ok) : sProp 𝕄)
      ⊢ iprop((iprop(Cut dv i arg8 (6272 * (i 1).val) 6272 fullShare K ∗ Cut dv i arg9 (6272 * (i 1).val) 6272 fullShare I
        ∗ (if (i 1).val < 8 then iprop(Cut dv i arg3 (6272 * (i 1).val) 6272 fullShare K ∗ Cut dv i arg4 (6272 * (i 1).val) 6272 fullShare I) else iprop(emp)) ∗ (∃ a, Has dv i arg13 fullShare a) ∗ (∃ a, Has dv i arg14 fullShare a)
        ∗ Rest dv i v35_r23.sem ∗ Rest dv i v35_r24.sem ∗ Rest dv i v35_r25.sem ∗ Rest dv i v35_r26.sem
        ∗ (if (i 1).val = 0 then iprop(∃ a, Some32 dv i arg11 (fun _ => True) fullShare a) else iprop(emp)) ∗ (∃ a, Some32 dv i arg19 (fun _ => True) fullShare a) ∗ (∃ a, Some32 dv i arg23 (fun _ => True) fullShare a)
        ∗ (if (i 1).val = 0 then iprop(∃ a, Some32 dv i arg5 (fun _ => True) fullShare a) else iprop(emp)) ∗ Rest dv i v91_r27.sem ∗ Rest dv i v91_r28.sem ∗ Debt (tile dv i) O ok) -∗ Q ⟨⟩)
        -∗ wp frame (wpE defs 𝒱 (tile dv i) bd) Set.univ (ending i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28) Q) := by
  have h00 : (i 0).val = 0 := (cond5_iff i).mp h
  have hz : i 1 = zero ↔ (i 1).val = 0 := ⟨fun hh => by rw [hh]; rfl, fun hh => Fin.ext hh⟩
  unfold ending
  by_cases h8 : (i 1).val < 8
  · have h11 : k0_cond11 i = 1#1 := (cond11_iff i).mpr ⟨h00, h8⟩
    simp only [dif_pos h11, if_pos h8, hz]
    iintro ⟨#Hl, H8, H9, ⟨H3, H4⟩, H13, H14, R23, R24, R25, R26, H11, H19, H23, H5, R27, R28, HD⟩ HX
    ihave Hm0 := hL $$ Hl
    iapply (wp_stage1 𝒱 bd dv EC h11 rfl ι hok) $$ [H8 H9 H3 H4 H13 H14 R23 R24 R25 R26 HD Hm0]
    · isplitl [H8]; · iexact H8
      isplitl [H9]; · iexact H9
      isplitl [H3]; · iexact H3
      isplitl [H4]; · iexact H4
      isplitl [H13]; · iexact H13
      isplitl [H14]; · iexact H14
      isplitl [R23]; · iexact R23
      isplitl [R24]; · iexact R24
      isplitl [R25]; · iexact R25
      isplitl [R26]; · iexact R26
      isplitl [HD]; · iexact HD
      iexact Hm0
    iintro ⟨H8, H9, H3, H4, H13, H14, R23, R24, R25, R26, HD⟩
    by_cases h1 : (i 1).val = 0
    · have h12 : k0_cond12 i = 1#1 := (cond12_iff i).mpr ⟨h00, h1⟩
      rw [dif_pos h12]
      ihave H11 := (Entails.of_eq (if_pos h1)) $$ H11
      ihave H5 := (Entails.of_eq (if_pos h1)) $$ H5
      ihave Hm0 := hL $$ Hl
      iapply (wp_stage2 𝒱 bd dv EC h12 ι hok) $$ [H11 H19 H23 H5 R27 R28 HD Hm0]
      · isplitl [H11]; · iexact H11
        isplitl [H19]; · iexact H19
        isplitl [H23]; · iexact H23
        isplitl [H5]; · iexact H5
        isplitl [R27]; · iexact R27
        isplitl [R28]; · iexact R28
        isplitl [HD]; · iexact HD
        iexact Hm0
      iintro ⟨H11, H19, H23, H5, R27, R28, HD⟩
      rw [wp_pure]
      imodintro
      iapply HX
      isplitl [H8]; · iexact H8
      isplitl [H9]; · iexact H9
      isplitl [H3 H4]; · isplitl [H3] <;> iassumption
      isplitl [H13]; · iexact H13
      isplitl [H14]; · iexact H14
      isplitl [R23]; · iexact R23
      isplitl [R24]; · iexact R24
      isplitl [R25]; · iexact R25
      isplitl [R26]; · iexact R26
      isplitl [H11]; · rw [if_pos h1]; iexact H11
      isplitl [H19]; · iexact H19
      isplitl [H23]; · iexact H23
      isplitl [H5]; · rw [if_pos h1]; iexact H5
      isplitl [R27]; · iexact R27
      isplitl [R28] <;> iassumption
    · have h12 : ¬ k0_cond12 i = 1#1 := fun hh => h1 ((cond12_iff i).mp hh).2
      rw [dif_neg h12]
      rw [wp_pure]
      imodintro
      iapply HX
      isplitl [H8]; · iexact H8
      isplitl [H9]; · iexact H9
      isplitl [H3 H4]; · isplitl [H3] <;> iassumption
      isplitl [H13]; · iexact H13
      isplitl [H14]; · iexact H14
      isplitl [R23]; · iexact R23
      isplitl [R24]; · iexact R24
      isplitl [R25]; · iexact R25
      isplitl [R26]; · iexact R26
      isplitl [H11]; · iexact H11
      isplitl [H19]; · iexact H19
      isplitl [H23]; · iexact H23
      isplitl [H5]; · iexact H5
      isplitl [R27]; · iexact R27
      isplitl [R28]; · iexact R28
      iexact HD
  · have h11 : ¬ k0_cond11 i = 1#1 := fun hh => h8 ((cond11_iff i).mp hh).2
    have h12 : ¬ k0_cond12 i = 1#1 := fun hh => h8 (by have := ((cond12_iff i).mp hh).2; omega)
    simp only [dif_neg h11, dif_neg h12, if_neg h8, hz]
    iintro ⟨-, H8, H9, H34, H13, H14, R23, R24, R25, R26, H11, H19, H23, H5, R27, R28, HD⟩ HX
    rw [wp_pure]
    imodintro
    iapply HX
    isplitl [H8]; · iexact H8
    isplitl [H9]; · iexact H9
    isplitl [H34]; · iexact H34
    isplitl [H13]; · iexact H13
    isplitl [H14]; · iexact H14
    isplitl [R23]; · iexact R23
    isplitl [R24]; · iexact R24
    isplitl [R25]; · iexact R25
    isplitl [R26]; · iexact R26
    isplitl [H11]; · iexact H11
    isplitl [H19]; · iexact H19
    isplitl [H23]; · iexact H23
    isplitl [H5]; · iexact H5
    isplitl [R27]; · iexact R27
    isplitl [R28]; · iexact R28
    iexact HD

include h in
theorem wp_tile [EC.LandsIn (upEmb : UEmb _ 𝕄)] {Q : PUnit.{1} → sProp (MT nD τ sig Ix (Elt F) Name U Lvl)} {i₀ : grid0.Coords} (h₀ : i 0 = i₀ 0)
    {arg2 : Memref sig .scVector .hbm S100000 .f32} {harg2 : arg2.IsWhole} {arg3 : Memref sig .scVector .hbm S50176 .i32} {harg3 : arg3.IsWhole} {arg4 : Memref sig .scVector .hbm S50176 .i32} {harg4 : arg4.IsWhole} {arg5 : Memref sig .scVector .hbm S16 .f32} {harg5 : arg5.IsWhole} {arg6 : Memref sig .scVector .shared S100352 .i32} {harg6 : arg6.IsWhole} {arg7 : Memref sig .scVector .shared S100352 .i32} {harg7 : arg7.IsWhole} {arg8 : Memref sig .scVector .shared S100352 .i32} {harg8 : arg8.IsWhole} {arg9 : Memref sig .scVector .shared S100352 .i32} {harg9 : arg9.IsWhole} {arg10 : Memref sig .scVector .shared S32768 .i32} {harg10 : arg10.IsWhole} {arg11 : Memref sig .scVector .shared S256 .f32} {harg11 : arg11.IsWhole} {arg12 : Memref sig .scVector .vmem S6272 .f32} {harg12 : arg12.IsWhole} {arg13 : Memref sig .scVector .vmem S6272 .i32} {harg13 : arg13.IsWhole} {arg14 : Memref sig .scVector .vmem S6272 .i32} {harg14 : arg14.IsWhole} {arg15 : Memref sig .scVector .vmem S6272 .i32} {harg15 : arg15.IsWhole} {arg16 : Memref sig .scVector .vmem S2048 .i32} {harg16 : arg16.IsWhole} {arg17 : Memref sig .scVector .vmem S2048 .i32} {harg17 : arg17.IsWhole} {arg18 : Memref sig .scVector .vmem S32768 .i32} {harg18 : arg18.IsWhole} {arg19 : Memref sig .scVector .vmem S256 .f32} {harg19 : arg19.IsWhole} {arg20 : Memref sig .scVector .vmem S16 .i32} {harg20 : arg20.IsWhole} {arg21 : Memref sig .scVector .vmem S16 .i32} {harg21 : arg21.IsWhole} {arg22 : Memref sig .scVector .vmem S16 .i32} {harg22 : arg22.IsWhole} {arg23 : Memref sig .scVector .vmem S16 .f32} {harg23 : arg23.IsWhole} {v54_r0 : DmaSems sig S_} {v54_r1 : DmaSems sig S_} {v54_r2 : DmaSems sig S_} {v54_r3 : DmaSems sig S_} {v54_r4 : DmaSems sig S_} {v40_r5 : DmaSems sig S_} {v40_r6 : DmaSems sig S_} {v42_r7 : DmaSems sig S_} {v42_r8 : DmaSems sig S_} {v42_r9 : DmaSems sig S_} {v42_r10 : DmaSems sig S_} {v40_r11 : DmaSems sig S_} {v40_r12 : DmaSems sig S_} {v42_r13 : DmaSems sig S_} {v42_r14 : DmaSems sig S_} {v42_r15 : DmaSems sig S_} {v42_r16 : DmaSems sig S_} {v40_r17 : DmaSems sig S_} {v40_r18 : DmaSems sig S_} {v42_r19 : DmaSems sig S_} {v42_r20 : DmaSems sig S_} {v42_r21 : DmaSems sig S_} {v42_r22 : DmaSems sig S_} {v35_r23 : DmaSems sig S_} {v35_r24 : DmaSems sig S_} {v35_r25 : DmaSems sig S_} {v35_r26 : DmaSems sig S_} {v91_r27 : DmaSems sig S_} {v91_r28 : DmaSems sig S_}
    (m6 : Common (F := F) (Ix := Ix) (Name := Name) (U := U) (Lvl := Lvl) dv .i32 arg6) (m7 : Common (F := F) (Ix := Ix) (Name := Name) (U := U) (Lvl := Lvl) dv .i32 arg7)
    (m8 : Common (F := F) (Ix := Ix) (Name := Name) (U := U) (Lvl := Lvl) dv .i32 arg8) (m9 : Common (F := F) (Ix := Ix) (Name := Name) (U := U) (Lvl := Lvl) dv .i32 arg9)
    (mc : Common (F := F) (Ix := Ix) (Name := Name) (U := U) (Lvl := Lvl) dv .i32 arg10) (mp : Common (F := F) (Ix := Ix) (Name := Name) (U := U) (Lvl := Lvl) dv .f32 arg11)
    (c13 : ∀ s' : Shape, sig.dmaCredit .scVector (Kind.scVector.table .vmem) arg13.view.buf s' .i32 = s'.numel * EltTy.i32.bits)
    (c14 : ∀ s' : Shape, sig.dmaCredit .scVector (Kind.scVector.table .vmem) arg14.view.buf s' .i32 = s'.numel * EltTy.i32.bits)
    (c6 : ∀ s' : Shape, sig.dmaCredit .scVector (Kind.scVector.table .shared) arg6.view.buf s' .i32 = s'.numel * EltTy.i32.bits)
    (c7 : ∀ s' : Shape, sig.dmaCredit .scVector (Kind.scVector.table .shared) arg7.view.buf s' .i32 = s'.numel * EltTy.i32.bits)
    (c8 : ∀ s' : Shape, sig.dmaCredit .scVector (Kind.scVector.table .shared) arg8.view.buf s' .i32 = s'.numel * EltTy.i32.bits)
    (c9 : ∀ s' : Shape, sig.dmaCredit .scVector (Kind.scVector.table .shared) arg9.view.buf s' .i32 = s'.numel * EltTy.i32.bits)
    {cell : Num → GSem nD τ sig} {γ : Key (grid0.bound 1) 7 → ℕ} {ix : Fin 7 → Ix} {κ : Name}
    (hcell : ∀ j, cell j = (V dv ((i 0).castLE hcore0) (j.castLE hsub0), .reg sc_bar0)) {O : CellTallies nD τ sig Ix} {ok : SemLoc sig × Ix → Prop}
    (ι : Ix) (hok : ∀ s, ok (.dma s, ι)) (hok' : ∀ r, ok (.reg sc_bar0, ix r)) {L : sProp (MT nD τ sig Ix (Elt F) Name U Lvl)} [BI.Persistent L]
    (hL : ∀ r, (L : sProp 𝕄) ⊢ Transfers.MayWaits (tile dv i) ι (owed cell ix O r)) (hL' : ∀ r : Fin 7, (L : sProp 𝕄) ⊢ MayWait (tile dv i) (.reg sc_bar0) (ix r) (owed cell ix O (r.val + 1)))
    {q : PosShare TreeShare} {sc : ℕ → F .f32} :
    (iprop(L ∗ inv κ (body EC cell γ (gifts dv i₀ arg6 arg7 arg8 arg9 arg10 arg11 sc)) ∗ Take dv i arg2 arg3 arg4 arg5 arg6 arg7 arg8 arg9 arg10 arg11 q sc
        ∗ Own dv i arg12 arg13 arg14 arg15 arg16 arg17 arg18 arg19 arg20 arg21 arg22 arg23 ∗ Quiet dv i v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 ∗ Stub EC cell γ ix (i 1) 0 ∗ Debt (tile dv i) (owed cell ix O 0) ok) : sProp 𝕄)
      ⊢ iprop((iprop(Give dv i arg2 arg3 arg4 arg5 arg6 arg7 arg8 arg9 arg10 arg11 q sc ∗ Own dv i arg12 arg13 arg14 arg15 arg16 arg17 arg18 arg19 arg20 arg21 arg22 arg23 ∗ Quiet dv i v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28 ∗ semVal (cell (i 1)) 0 ∗ Debt (tile dv i) (owed cell ix O 7) ok) -∗ Q ⟨⟩)
        -∗ wp frame (wpE defs 𝒱 (tile dv i) bd) Set.univ (tileBody i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28) Q) := by
  have h00 : (i 0).val = 0 := (cond5_iff i).mp h
  have hz : i 1 = zero ↔ (i 1).val = 0 := ⟨fun hh => by rw [hh]; rfl, fun hh => Fin.ext hh⟩
  have eg : ∀ k j : Num, gifts dv i₀ arg6 arg7 arg8 arg9 arg10 arg11 sc (k, 0, j) = (pooled (F := F) dv i arg11 k j : sProp 𝕄) :=
    fun k j => (pooled_common dv h₀ mp k j).symm
  have go : (bigSep Finset.univ fun j : Num => gifts dv i₀ arg6 arg7 arg8 arg9 arg10 arg11 sc (i 1, 0, j)) = bigSep Finset.univ fun j : Num => (pooled (F := F) dv i arg11 (i 1) j : sProp 𝕄) :=
    bigSep_congr fun j _ => eg (i 1) j
  have gi : (bigSep Finset.univ fun k : Num => gifts dv i₀ arg6 arg7 arg8 arg9 arg10 arg11 sc (k, 0, i 1)) = bigSep Finset.univ fun k : Num => (pooled (F := F) dv i arg11 k (i 1) : sProp 𝕄) :=
    bigSep_congr fun k _ => eg k (i 1)
  unfold tileBody
  rw [dif_pos h, opening_eq, rest_eq h]
  unfold Take Give Own Quiet
  iintro ⟨#Hl, #Hinv, ⟨H2, H6, H7, H8, H9, H10, H11, H34, H5⟩, ⟨H12, H13, H14, H15, H16, H17, H18, H19, H20, H21, H22, H23⟩, ⟨R0, R1, R2, R3, R4, R5, R6, R7, R8, R9, R10, R11, R12, R13, R14, R15, R16, R17, R18, R19, R20, R21, R22, R23, R24, R25, R26, R27, R28⟩, Hst, HD⟩ HX
  ihave Hm0 := (hL 0) $$ Hl
  iapply (wp_opening 𝒱 bd h dv EC rfl ι hok) $$ [H2 H6 H7 H11 H12 H13 H14 H23 R0 R1 R2 R3 R4 HD Hm0]
  · isplitl [H2]; · iexact H2
    isplitl [H6]; · iexact H6
    isplitl [H7]; · iexact H7
    isplitl [H11]; · iexact H11
    isplitl [H12]; · iexact H12
    isplitl [H13]; · iexact H13
    isplitl [H14]; · iexact H14
    isplitl [H23]; · iexact H23
    isplitl [R0]; · iexact R0
    isplitl [R1]; · iexact R1
    isplitl [R2]; · iexact R2
    isplitl [R3]; · iexact R3
    isplitl [R4]; · iexact R4
    isplitl [HD]; · iexact HD
    iexact Hm0
  iintro ⟨H2, H6, H7, H11, H12, H13, H14, H23, R0, R1, R2, R3, R4, HD⟩
  ihave Hg := (pool_out (F := F) dv i arg11 (i 1)) $$ H11
  ihave Hg := (Entails.of_eq go.symm) $$ Hg
  ihave Hm1 := (hL' 0) $$ Hl
  iapply (wp_round 𝒱 bd dv EC (gift := gifts dv i₀ arg6 arg7 arg8 arg9 arg10 arg11 sc) 0 (r₀ := 0) rfl hcell (hok' 0)) $$ [Hst HD Hg Hm1]
  · isplitr; · iexact Hinv
    isplitl [Hst]; · iexact Hst
    isplitl [HD]; · iexact HD
    isplitl [Hg]; · iexact Hg
    iexact Hm1
  iintro ⟨Hst, HD, Htk⟩
  unfold taken
  icases Htk with ⟨Htk, -⟩
  ihave Htk := (Entails.of_eq gi) $$ Htk
  ihave H11 := (pool_in (F := F) dv i arg11 (i 1)) $$ Htk
  iapply (wp_pass 𝒱 bd h dv EC h₀ (src := arg6) (nums := arg7) (dk := arg8) (dn := arg9) (cnt := arg10) (gift := gifts dv i₀ arg6 arg7 arg8 arg9 arg10 arg11 sc) (sh := 0#32) (b := arg20)
      mc m8 m9 c13 c14 c8 c9 hcell ι hok hok' hL hL' (K := keysAt sc 0) (I := numsAt sc 0) 1 2 (r₀ := 1) rfl rfl
      (fun _ _ => rfl) (fun _ _ => rfl)) $$ [H6 H7 H8 H9 H10 H13 H14 H15 H16 H17 H18 H20 R5 R6 R7 R8 R9 R10 Hst HD]
  · isplitr; · iexact Hl
    isplitr; · iexact Hinv
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [H15]; · iexact H15
    isplitl [H16]; · iexact H16
    isplitl [H17]; · iexact H17
    isplitl [H18]; · iexact H18
    isplitl [H20]; · iexact H20
    isplitl [R5 R6 R7 R8 R9 R10]
    · isplitl [R5]; · iexact R5
      isplitl [R6]; · iexact R6
      isplitl [R7]; · iexact R7
      isplitl [R8]; · iexact R8
      isplitl [R9]; · iexact R9
      iexact R10
    isplitl [Hst] <;> iassumption
  iintro ⟨H6, H7, H8, H9, H10, H13, H14, H15, H16, H17, H18, H20, ⟨R5, R6, R7, R8, R9, R10⟩, Hst, HD, Hend⟩
  ihave H8 := (Entails.of_eq (congrArg (Cut (F := F) dv i arg8 (6272 * (i 1).val) 6272 fullShare) (keys_first sc))) $$ H8
  ihave H9 := (Entails.of_eq (congrArg (Cut (F := F) dv i arg9 (6272 * (i 1).val) 6272 fullShare) (nums_first sc))) $$ H9
  ihave H6 := (part_forget (F := F) (e := .i32) (tile dv i)) $$ H6
  ihave H7 := (part_forget (F := F) (e := .i32) (tile dv i)) $$ H7
  iapply (wp_pass 𝒱 bd h dv EC h₀ (src := arg8) (nums := arg9) (dk := arg6) (dn := arg7) (cnt := arg10) (gift := gifts dv i₀ arg6 arg7 arg8 arg9 arg10 arg11 sc) (sh := 11#32) (b := arg20)
      mc m6 m7 c13 c14 c6 c7 hcell ι hok hok' hL hL' (K := keysAt sc 1) (I := numsAt sc 1) 3 4 (r₀ := 3) rfl rfl
      (fun _ _ => rfl) (fun _ _ => rfl)) $$ [H8 H9 H6 H7 H10 H13 H14 H15 H16 H17 H18 H20 R11 R12 R13 R14 R15 R16 Hst HD]
  · isplitr; · iexact Hl
    isplitr; · iexact Hinv
    isplitl [H8]; · iexact H8
    isplitl [H9]; · iexact H9
    isplitl [H6]; · iexact H6
    isplitl [H7]; · iexact H7
    isplitl [H10]; · iexact H10
    isplitl [H13]; · iexact H13
    isplitl [H14]; · iexact H14
    isplitl [H15]; · iexact H15
    isplitl [H16]; · iexact H16
    isplitl [H17]; · iexact H17
    isplitl [H18]; · iexact H18
    isplitl [H20]; · iexact H20
    isplitl [R11 R12 R13 R14 R15 R16]
    · isplitl [R11]; · iexact R11
      isplitl [R12]; · iexact R12
      isplitl [R13]; · iexact R13
      isplitl [R14]; · iexact R14
      isplitl [R15]; · iexact R15
      iexact R16
    isplitl [Hst] <;> iassumption
  iintro ⟨H8, H9, H6, H7, H10, H13, H14, H15, H16, H17, H18, H20, ⟨R11, R12, R13, R14, R15, R16⟩, Hst, HD, Hend⟩
  ihave H6 := (Entails.of_eq (congrArg (Cut (F := F) dv i arg6 (6272 * (i 1).val) 6272 fullShare) (keys_second sc))) $$ H6
  ihave H7 := (Entails.of_eq (congrArg (Cut (F := F) dv i arg7 (6272 * (i 1).val) 6272 fullShare) (nums_second sc))) $$ H7
  ihave H8 := (part_forget (F := F) (e := .i32) (tile dv i)) $$ H8
  ihave H9 := (part_forget (F := F) (e := .i32) (tile dv i)) $$ H9
  iapply (wp_pass 𝒱 bd h dv EC h₀ (src := arg6) (nums := arg7) (dk := arg8) (dn := arg9) (cnt := arg10) (gift := gifts dv i₀ arg6 arg7 arg8 arg9 arg10 arg11 sc) (sh := 22#32) (b := arg20)
      mc m8 m9 c13 c14 c8 c9 hcell ι hok hok' hL hL' (K := keysAt sc 2) (I := numsAt sc 2) 5 6 (r₀ := 5) rfl rfl
      (fun _ _ => rfl) (fun _ _ => rfl)) $$ [H6 H7 H8 H9 H10 H13 H14 H15 H16 H17 H18 H20 R17 R18 R19 R20 R21 R22 Hst HD]
  · isplitr; · iexact Hl
    isplitr; · iexact Hinv
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [H15]; · iexact H15
    isplitl [H16]; · iexact H16
    isplitl [H17]; · iexact H17
    isplitl [H18]; · iexact H18
    isplitl [H20]; · iexact H20
    isplitl [R17 R18 R19 R20 R21 R22]
    · isplitl [R17]; · iexact R17
      isplitl [R18]; · iexact R18
      isplitl [R19]; · iexact R19
      isplitl [R20]; · iexact R20
      isplitl [R21]; · iexact R21
      iexact R22
    isplitl [Hst] <;> iassumption
  iintro ⟨H6, H7, H8, H9, H10, H13, H14, H15, H16, H17, H18, H20, ⟨R17, R18, R19, R20, R21, R22⟩, Hst, HD, Hend⟩
  ihave H8 := (Entails.of_eq (congrArg (Cut (F := F) dv i arg8 (6272 * (i 1).val) 6272 fullShare) (keys_third sc))) $$ H8
  ihave H9 := (Entails.of_eq (congrArg (Cut (F := F) dv i arg9 (6272 * (i 1).val) 6272 fullShare) (nums_third sc))) $$ H9
  ihave Hend := (Entails.of_eq (if_neg (by decide))) $$ Hend
  iapply (wp_ending 𝒱 bd h dv EC ι hok (L := L) (hL 7)) $$ [H8 H9 H34 H13 H14 R23 R24 R25 R26 H11 H19 H23 H5 R27 R28 HD]
  · isplitr; · iexact Hl
    isplitl [H8]; · iexact H8
    isplitl [H9]; · iexact H9
    isplitl [H34]; · iexact H34
    isplitl [H13]; · iexact H13
    isplitl [H14]; · iexact H14
    isplitl [R23]; · iexact R23
    isplitl [R24]; · iexact R24
    isplitl [R25]; · iexact R25
    isplitl [R26]; · iexact R26
    isplitl [H11]; · iexact H11
    isplitl [H19]; · iexact H19
    isplitl [H23]; · iexact H23
    isplitl [H5]; · iexact H5
    isplitl [R27]; · iexact R27
    isplitl [R28]; · iexact R28
    iexact HD
  iintro ⟨H8, H9, H34, H13, H14, R23, R24, R25, R26, H11, H19, H23, H5, R27, R28, HD⟩
  iapply HX
  isplitl [H2 H6 H7 H8 H9 H10 H11 H34 H5]
  · isplitl [H2]; · iexact H2
    isplitl [H6]; · iexists _; iexact H6
    isplitl [H7]; · iexists _; iexact H7
    isplitl [H8]; · iexists _; iexact H8
    isplitl [H9]; · iexists _; iexact H9
    isplitl [H10]; · iexact H10
    isplitl [H11]; · iexact H11
    isplitl [H34]; · iexact H34
    iexact H5
  isplitl [H12 H13 H14 H15 H16 H17 H18 H19 H20 H21 H22 H23]
  · isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  isplitl [R0 R1 R2 R3 R4 R5 R6 R7 R8 R9 R10 R11 R12 R13 R14 R15 R16 R17 R18 R19 R20 R21 R22 R23 R24 R25 R26 R27 R28]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    isplitl [R22]; · iexact R22
    isplitl [R23]; · iexact R23
    isplitl [R24]; · iexact R24
    isplitl [R25]; · iexact R25
    isplitl [R26]; · iexact R26
    isplitl [R27]; · iexact R27
    iexact R28
  isplitl [Hend] <;> iassumption

/-- A meeting at which nothing is handed over. -/
theorem wp_bare [EC.LandsIn (upEmb : UEmb _ 𝕄)] {cell : Num → GSem nD τ sig} {γ : Key (grid0.bound 1) 7 → ℕ} {ix : Fin 7 → Ix} {κ : Name} (r : Fin 7) {r₀ : ℕ} (hr : r.val = r₀)
    (hcell : ∀ j, cell j = (V dv ((i 0).castLE hcore0) (j.castLE hsub0), .reg sc_bar0)) {O : CellTallies nD τ sig Ix} {ok : SemLoc sig × Ix → Prop}
    (hok' : ∀ r, ok (.reg sc_bar0, ix r)) {L : sProp (MT nD τ sig Ix (Elt F) Name U Lvl)} [BI.Persistent L]
    (hL' : ∀ r : Fin 7, (L : sProp 𝕄) ⊢ MayWait (tile dv i) (.reg sc_bar0) (ix r) (owed cell ix O (r.val + 1))) {X : PUnit.{1} → TProg F i α} :
    (iprop(L ∗ inv κ (body EC cell γ fun _ => iprop(emp)) ∗ Stub EC cell γ ix (i 1) r₀ ∗ Debt (tile dv i) (owed cell ix O r₀) ok) : sProp 𝕄)
      ⊢ iprop((iprop(Stub EC cell γ ix (i 1) (r₀ + 1) ∗ Debt (tile dv i) (owed cell ix O (r₀ + 1)) ok ∗ if r.val + 1 < 7 then iprop(emp) else semVal (cell (i 1)) 0)
          -∗ wp frame (wpE defs 𝒱 (tile dv i) bd) Set.univ (X ⟨⟩) Q)
        -∗ wp frame (wpE defs 𝒱 (tile dv i) bd) Set.univ (SparseCore.subcoreBarrier sc_bar0 (grid0.bound 1) hsub0 >>= X) Q) := by
  have he : (bigSep Finset.univ fun _ : Num => (iprop(emp) : sProp 𝕄)) = iprop(emp) := bigSep_emp_const _
  subst hr
  iintro ⟨#Hl, #Hinv, Hst, HD⟩ HX
  ihave Hm := (hL' r) $$ Hl
  iapply (wp_round 𝒱 bd dv EC (gift := fun _ => iprop(emp)) r rfl hcell (hok' r)) $$ [Hst HD Hm]
  · isplitr; · iexact Hinv
    isplitl [Hst]; · iexact Hst
    isplitl [HD]; · iexact HD
    isplitr
    · rw [he]; iempintro
    iexact Hm
  unfold taken
  iintro ⟨Hst, HD, -, Hend⟩
  iapply HX
  isplitl [Hst]; · iexact Hst
  isplitl [HD] <;> iassumption

/-- A tile of the second core: it only comes to the meetings. -/
theorem wp_idle [EC.LandsIn (upEmb : UEmb _ 𝕄)] {Q : PUnit.{1} → sProp (MT nD τ sig Ix (Elt F) Name U Lvl)} (h : ¬ k0_cond5 i = 1#1)
    {arg2 : Memref sig .scVector .hbm S100000 .f32} {harg2 : arg2.IsWhole} {arg3 : Memref sig .scVector .hbm S50176 .i32} {harg3 : arg3.IsWhole} {arg4 : Memref sig .scVector .hbm S50176 .i32} {harg4 : arg4.IsWhole} {arg5 : Memref sig .scVector .hbm S16 .f32} {harg5 : arg5.IsWhole} {arg6 : Memref sig .scVector .shared S100352 .i32} {harg6 : arg6.IsWhole} {arg7 : Memref sig .scVector .shared S100352 .i32} {harg7 : arg7.IsWhole} {arg8 : Memref sig .scVector .shared S100352 .i32} {harg8 : arg8.IsWhole} {arg9 : Memref sig .scVector .shared S100352 .i32} {harg9 : arg9.IsWhole} {arg10 : Memref sig .scVector .shared S32768 .i32} {harg10 : arg10.IsWhole} {arg11 : Memref sig .scVector .shared S256 .f32} {harg11 : arg11.IsWhole} {arg12 : Memref sig .scVector .vmem S6272 .f32} {harg12 : arg12.IsWhole} {arg13 : Memref sig .scVector .vmem S6272 .i32} {harg13 : arg13.IsWhole} {arg14 : Memref sig .scVector .vmem S6272 .i32} {harg14 : arg14.IsWhole} {arg15 : Memref sig .scVector .vmem S6272 .i32} {harg15 : arg15.IsWhole} {arg16 : Memref sig .scVector .vmem S2048 .i32} {harg16 : arg16.IsWhole} {arg17 : Memref sig .scVector .vmem S2048 .i32} {harg17 : arg17.IsWhole} {arg18 : Memref sig .scVector .vmem S32768 .i32} {harg18 : arg18.IsWhole} {arg19 : Memref sig .scVector .vmem S256 .f32} {harg19 : arg19.IsWhole} {arg20 : Memref sig .scVector .vmem S16 .i32} {harg20 : arg20.IsWhole} {arg21 : Memref sig .scVector .vmem S16 .i32} {harg21 : arg21.IsWhole} {arg22 : Memref sig .scVector .vmem S16 .i32} {harg22 : arg22.IsWhole} {arg23 : Memref sig .scVector .vmem S16 .f32} {harg23 : arg23.IsWhole} {v54_r0 : DmaSems sig S_} {v54_r1 : DmaSems sig S_} {v54_r2 : DmaSems sig S_} {v54_r3 : DmaSems sig S_} {v54_r4 : DmaSems sig S_} {v40_r5 : DmaSems sig S_} {v40_r6 : DmaSems sig S_} {v42_r7 : DmaSems sig S_} {v42_r8 : DmaSems sig S_} {v42_r9 : DmaSems sig S_} {v42_r10 : DmaSems sig S_} {v40_r11 : DmaSems sig S_} {v40_r12 : DmaSems sig S_} {v42_r13 : DmaSems sig S_} {v42_r14 : DmaSems sig S_} {v42_r15 : DmaSems sig S_} {v42_r16 : DmaSems sig S_} {v40_r17 : DmaSems sig S_} {v40_r18 : DmaSems sig S_} {v42_r19 : DmaSems sig S_} {v42_r20 : DmaSems sig S_} {v42_r21 : DmaSems sig S_} {v42_r22 : DmaSems sig S_} {v35_r23 : DmaSems sig S_} {v35_r24 : DmaSems sig S_} {v35_r25 : DmaSems sig S_} {v35_r26 : DmaSems sig S_} {v91_r27 : DmaSems sig S_} {v91_r28 : DmaSems sig S_}
    {cell : Num → GSem nD τ sig} {γ : Key (grid0.bound 1) 7 → ℕ} {ix : Fin 7 → Ix} {κ : Name}
    (hcell : ∀ j, cell j = (V dv ((i 0).castLE hcore0) (j.castLE hsub0), .reg sc_bar0)) {O : CellTallies nD τ sig Ix} {ok : SemLoc sig × Ix → Prop}
    (hok' : ∀ r, ok (.reg sc_bar0, ix r)) {L : sProp (MT nD τ sig Ix (Elt F) Name U Lvl)} [BI.Persistent L]
    (hL' : ∀ r : Fin 7, (L : sProp 𝕄) ⊢ MayWait (tile dv i) (.reg sc_bar0) (ix r) (owed cell ix O (r.val + 1))) :
    (iprop(L ∗ inv κ (body EC cell γ fun _ => iprop(emp)) ∗ Stub EC cell γ ix (i 1) 0 ∗ Debt (tile dv i) (owed cell ix O 0) ok) : sProp 𝕄)
      ⊢ iprop((iprop(semVal (cell (i 1)) 0 ∗ Debt (tile dv i) (owed cell ix O 7) ok) -∗ Q ⟨⟩)
        -∗ wp frame (wpE defs 𝒱 (tile dv i) bd) Set.univ (tileBody i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54_r0 v54_r1 v54_r2 v54_r3 v54_r4 v40_r5 v40_r6 v42_r7 v42_r8 v42_r9 v42_r10 v40_r11 v40_r12 v42_r13 v42_r14 v42_r15 v42_r16 v40_r17 v40_r18 v42_r19 v42_r20 v42_r21 v42_r22 v35_r23 v35_r24 v35_r25 v35_r26 v91_r27 v91_r28) Q) := by
  have h0 : (i 0).val ≠ 0 := fun hh => h ((cond5_iff i).mpr hh)
  rw [rest_eq' h (fun hh => h0 ((cond11_iff i).mp hh).1) (fun hh => h0 ((cond12_iff i).mp hh).1)]
  iintro ⟨#Hl, #Hinv, Hst, HD⟩ HX
  iapply (wp_bare 𝒱 bd dv EC 0 (r₀ := 0) rfl hcell hok' hL') $$ [Hst HD]
  · isplitr; · iexact Hl
    isplitr; · iexact Hinv
    isplitl [Hst] <;> iassumption
  iintro ⟨Hst, HD, Hend⟩
  iapply (wp_bare 𝒱 bd dv EC 1 (r₀ := 1) rfl hcell hok' hL') $$ [Hst HD]
  · isplitr; · iexact Hl
    isplitr; · iexact Hinv
    isplitl [Hst] <;> iassumption
  iintro ⟨Hst, HD, Hend⟩
  iapply (wp_bare 𝒱 bd dv EC 2 (r₀ := 2) rfl hcell hok' hL') $$ [Hst HD]
  · isplitr; · iexact Hl
    isplitr; · iexact Hinv
    isplitl [Hst] <;> iassumption
  iintro ⟨Hst, HD, Hend⟩
  iapply (wp_bare 𝒱 bd dv EC 3 (r₀ := 3) rfl hcell hok' hL') $$ [Hst HD]
  · isplitr; · iexact Hl
    isplitr; · iexact Hinv
    isplitl [Hst] <;> iassumption
  iintro ⟨Hst, HD, Hend⟩
  iapply (wp_bare 𝒱 bd dv EC 4 (r₀ := 4) rfl hcell hok' hL') $$ [Hst HD]
  · isplitr; · iexact Hl
    isplitr; · iexact Hinv
    isplitl [Hst] <;> iassumption
  iintro ⟨Hst, HD, Hend⟩
  iapply (wp_bare 𝒱 bd dv EC 5 (r₀ := 5) rfl hcell hok' hL') $$ [Hst HD]
  · isplitr; · iexact Hl
    isplitr; · iexact Hinv
    isplitl [Hst] <;> iassumption
  iintro ⟨Hst, HD, Hend⟩
  iapply (wp_bare 𝒱 bd dv EC 6 (r₀ := 6) rfl hcell hok' hL') $$ [Hst HD]
  · isplitr; · iexact Hl
    isplitr; · iexact Hinv
    isplitl [Hst] <;> iassumption
  iintro ⟨Hst, HD, Hend⟩
  rw [wp_pure]
  imodintro
  iapply HX
  ihave Hend := (Entails.of_eq (if_neg (by decide))) $$ Hend
  isplitl [Hend] <;> iassumption

end Cert.Proof.TileRun
end
-- ==== Proof.Setup.lean ====
/-
  The sort call as the launch theorem takes it: its ghost state, the seven meetings' levels, what the handshakes carry
  and what each tile is handed.
-/
module

public import proofs.«01_k».proof.Defs
public import proofs.«01_k».proof.Proof.TileRun
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option synthInstance.maxSize 4096

noncomputable section

namespace Cert.Proof.Setup

open Idealize.ShloMosaic
open Idealize.ShloMosaic.SparseCore (S V T)
open Idealize.ShloMosaic.SparseCore.Cfg (HIx Blocks Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.SL.ExclCount
open Idealize.ShloMosaic.Rounds
open Cert.Kernel Cert.Kernel.Gen Cert.Proof.Body Cert.Proof.Words Cert.Proof.Steps Cert.Proof.Phases Cert.Proof.Stages Cert.Proof.Meet Cert.Proof.TileRun
open Cert.Proof.Rendezvous (Key body)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one call owns every stage, one for each meeting. -/
@[reducible] def blocks : Blocks 1 7 where
  first := fun _ => 0
  last := fun _ => 6
  fst := fun k => if k = 0 then 0 else 7
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

attribute [local instance] blocks

abbrev UH : Type := URounds (GSem nD τ sig) ℕ
abbrev UU : Type := UH × Counters

local notation "𝕄" => MT nD τ sig (HIx 7) (Elt F) ℕ UU ℕ

abbrev EH : Emb UH (MT nD τ sig (HIx 7) (Elt F) ℕ UU ℕ) := embL
/-- The meetings' counters. -/
abbrev EC : UEmb Counters (MT nD τ sig (HIx 7) (Elt F) ℕ UU ℕ) := (UEmb.inr : UEmb Counters UU).trans uEmb
instance EC_landsIn : (EC (F := F)).LandsIn (upEmb : UEmb _ 𝕄) := by unfold EC; infer_instance

/-! ## The launch memory and the buffers -/

variable (m : (ℓ : Loc nD τ sig) → Buf (Elt F) ℓ) (ρ : Dev nD → PrngReg)

abbrev xLoc (d : Dev nD) : Loc nD τ sig := (SparseCore.T d).loc main_arg0
abbrev kLoc (d : Dev nD) : Loc nD τ sig := (SparseCore.T d).loc main_v0_0
abbrev nLoc (d : Dev nD) : Loc nD τ sig := (SparseCore.T d).loc main_v0_1
abbrev pLoc (d : Dev nD) : Loc nD τ sig := (SparseCore.T d).loc main_v0_2

abbrev aX : Memref sig .scVector .hbm S100000 .f32 := Memref.whole main_arg0_scv
abbrev aK : Memref sig .scVector .hbm S50176 .i32 := Memref.whole main_v0_0_scv
abbrev aN : Memref sig .scVector .hbm S50176 .i32 := Memref.whole main_v0_1_scv
abbrev aP : Memref sig .scVector .hbm S16 .f32 := Memref.whole main_v0_2_scv
abbrev a6 : Memref sig .scVector .shared S100352 .i32 := Memref.whole cc0_scratch0
abbrev a7 : Memref sig .scVector .shared S100352 .i32 := Memref.whole cc0_scratch1
abbrev a8 : Memref sig .scVector .shared S100352 .i32 := Memref.whole cc0_scratch2
abbrev a9 : Memref sig .scVector .shared S100352 .i32 := Memref.whole cc0_scratch3
abbrev a10 : Memref sig .scVector .shared S32768 .i32 := Memref.whole cc0_scratch4
abbrev a11 : Memref sig .scVector .shared S256 .f32 := Memref.whole cc0_scratch5

def coordsV (c : Fin (grid0.bound 0)) (s : Fin (grid0.bound 1)) : grid0.Coords :=
  fun | 0 => c | 1 => s | ⟨_ + 2, h⟩ => absurd h (Nat.not_lt.2 (Nat.le_add_left _ _))

/-- A row's contents by number. -/
def byNum {n : ℕ} {α : Type} (hn : 0 < n) (f : (Arr n).Idx → α) (j : ℕ) : α :=
  f fun a => ⟨j % n, by
    obtain rfl : a = 0 := Subsingleton.elim _ _
    exact Nat.mod_lt _ hn⟩

theorem byNum_eq {n : ℕ} {α : Type} (hn : 0 < n) (f : (Arr n).Idx → α) (x : (Arr n).Idx) : byNum hn f (x 0).val = f x :=
  congrArg f (arr_ext (Nat.mod_eq_of_lt (x 0).isLt))

/-- The scores. -/
def scores (d : Dev nD) : ℕ → F .f32 := byNum (n := 100000) (by decide) (m (xLoc d) : (Arr 100000).Idx → F .f32)

/-! ## Whole rows -/

section Whole
variable {c : Thread nD τ} {sp : Space} {e : EltTy}

/-- A row at some contents is its buffer at some contents. -/
theorem any_of {n : ℕ} (hn : 0 < n) {r : Memref sig c.2.kind sp (Arr n) e} (hr : r.view.set = Finset.univ) {q : PosShare TreeShare} :
    (iprop(∃ a, Holds (F := F) c r q a) : sProp 𝕄) = iprop(∃ f, r.view.loc c ↦{q} f) := by
  have h1 : (iprop(∃ a, Holds (F := F) c r q a) : sProp 𝕄) ⊢ iprop(∃ f, r.view.loc c ↦{q} f) := by
    iintro ⟨%a, H⟩
    ihave H := (Entails.of_eq (holds_eq (F := F) c (m := r) (q := q) (a := a))) $$ H
    icases H with ⟨%f, -, H⟩
    rw [hr]
    iexists f; iexact H
  have h2 : (iprop(∃ f, r.view.loc c ↦{q} f) : sProp 𝕄) ⊢ iprop(∃ a, Holds (F := F) c r q a) := by
    iintro ⟨%f, H⟩
    iexists (byNum hn (r.view.read (Elt F) f))
    iapply (Entails.of_eq (holds_eq (F := F) c (m := r) (q := q) (a := byNum hn (r.view.read (Elt F) f))).symm)
    iexists f
    rw [hr]
    isplitr; · ipureintro; exact funext fun x => (byNum_eq hn _ x).symm
    iexact H
  exact equiv_iff.mp ⟨h1, h2⟩

end Whole

/-! ## Of many, some -/

/-- The resources of a list, one beside another. -/
def conj {M : Type} [RA M] {I : Type} (Φ : I → sProp M) : I → List I → sProp M
  | x, [] => Φ x
  | x, y :: l => iprop(Φ x ∗ conj Φ y l)

theorem both {M : Type} [RA M] {A A' B B' : sProp M} (h : A = A') (h' : B = B') : iprop(A ∗ B) = iprop(A' ∗ B') := by rw [h, h']

/-- Those of a list taken out of a family. -/
theorem peel {M : Type} [URA M] {I : Type} [DecidableEq I] (Φ : I → sProp M) : ∀ (l : List I) (x : I) (s : Finset I), (x :: l).Nodup → (∀ y ∈ x :: l, y ∈ s) →
    bigSep s Φ = iprop(conj Φ x l ∗ bigSep (s \ (x :: l).toFinset) Φ)
  | [], x, s, _, hs => by
    rw [SparseCore.bigSep_erase' (hs x (List.mem_singleton.mpr rfl)), show s \ ([x] : List I).toFinset = s.erase x by ext y; simp [and_comm]]
    rfl
  | y :: l, x, s, hn, hs => by
    rw [SparseCore.bigSep_erase' (hs x List.mem_cons_self), peel Φ l y (s.erase x) (List.nodup_cons.mp hn).2
        (fun z hz => Finset.mem_erase.mpr ⟨fun e => (List.nodup_cons.mp hn).1 (e ▸ hz), hs z (List.mem_cons_of_mem _ hz)⟩),
      show s.erase x \ (y :: l).toFinset = s \ (x :: y :: l).toFinset by ext z; simp; tauto]
    exact (equiv_iff.mp ⟨BI.sep_assoc, BI.sep_assoc'⟩).symm

/-! ## A tile's own buffers and counts -/

section OwnTile
variable (dv : Dev nD) (i : grid0.Coords)

/-- A tile's scratch rows. -/
abbrev OwnAt : sProp 𝕄 :=
  Own (F := F) dv i (Memref.whole cc0_scratch6) (Memref.whole cc0_scratch7) (Memref.whole cc0_scratch8) (Memref.whole cc0_scratch9) (Memref.whole cc0_scratch10)
    (Memref.whole cc0_scratch11) (Memref.whole cc0_scratch12) (Memref.whole cc0_scratch13) (Memref.whole cc0_scratch14) (Memref.whole cc0_scratch15)
    (Memref.whole cc0_scratch16) (Memref.whole cc0_scratch17)

/-- A tile's counts. -/
abbrev QuietAt : sProp 𝕄 :=
  Quiet (F := F) dv i cc0_scoped0 cc0_scoped1 cc0_scoped2 cc0_scoped3 cc0_scoped4 cc0_scoped5 cc0_scoped6 cc0_scoped7 cc0_scoped8 cc0_scoped9 cc0_scoped10
    cc0_scoped11 cc0_scoped12 cc0_scoped13 cc0_scoped14 cc0_scoped15 cc0_scoped16 cc0_scoped17 cc0_scoped18 cc0_scoped19 cc0_scoped20 cc0_scoped21 cc0_scoped22
    cc0_scoped23 cc0_scoped24 cc0_scoped25 cc0_scoped26 cc0_scoped27 cc0_scoped28

/-- The scratch rows' buffers, after the first. -/
abbrev rows : List (Ref sig .scVector) :=
  [cc0_scratch7, cc0_scratch8, cc0_scratch9, cc0_scratch10, cc0_scratch11, cc0_scratch12, cc0_scratch13, cc0_scratch14, cc0_scratch15, cc0_scratch16, cc0_scratch17]

/-- The counts' semaphores, after the first. -/
abbrev counts : List (DmaSem sig) :=
  [cc0_scoped1.sem, cc0_scoped2.sem, cc0_scoped3.sem, cc0_scoped4.sem, cc0_scoped5.sem, cc0_scoped6.sem, cc0_scoped7.sem, cc0_scoped8.sem, cc0_scoped9.sem,
    cc0_scoped10.sem, cc0_scoped11.sem, cc0_scoped12.sem, cc0_scoped13.sem, cc0_scoped14.sem, cc0_scoped15.sem, cc0_scoped16.sem, cc0_scoped17.sem, cc0_scoped18.sem,
    cc0_scoped19.sem, cc0_scoped20.sem, cc0_scoped21.sem, cc0_scoped22.sem, cc0_scoped23.sem, cc0_scoped24.sem, cc0_scoped25.sem, cc0_scoped26.sem, cc0_scoped27.sem,
    cc0_scoped28.sem]

theorem ownBufs_tile : (ownBufs (tile dv i) : sProp 𝕄) = iprop(OwnAt (F := F) dv i
    ∗ bigSep (ownRefs (tile dv i).2 \ (((cc0_scratch6 : Ref sig .scVector) :: rows).map (tile dv i).2.devRef).toFinset) fun b => iprop(∃ f, ((dv, b) : Loc nD τ sig) ↦{fullShare} f)) := by
  have hO : ∀ r ∈ (cc0_scratch6 : Ref sig .scVector) :: rows, ((tile dv i).2.devRef r).owner = .proc (tile dv i).2 := by
    intro r hr
    simp only [List.mem_cons, List.not_mem_nil, or_false] at hr
    rcases hr with rfl | rfl | rfl | rfl | rfl | rfl | rfl | rfl | rfl | rfl | rfl | rfl <;> rfl
  unfold SparseCore.Cfg.ownBufs
  refine (peel _ (rows.map (tile dv i).2.devRef) ((tile dv i).2.devRef cc0_scratch6) _
    (List.Nodup.map (f := (tile dv i).2.devRef (sig := sig)) (l := (cc0_scratch6 : Ref sig .scVector) :: rows) (Proc.devRef_injective _) (by decide)) ?_).trans ?_
  · intro y hy
    obtain ⟨r, hr, rfl⟩ := List.mem_map.mp (show y ∈ ((cc0_scratch6 : Ref sig .scVector) :: rows).map (tile dv i).2.devRef from hy)
    exact SparseCore.Cfg.mem_ownRefs_of_owner (hO r hr)
  · refine congrArg₂ _ ?_ rfl
    unfold OwnAt Own
    exact both (any_of (F := F) (c := tile dv i) (n := 6272) (by decide) (r := Memref.whole cc0_scratch6) (View.set_whole _)).symm
      <| both (any_of (F := F) (c := tile dv i) (n := 6272) (by decide) (r := Memref.whole cc0_scratch7) (View.set_whole _)).symm
      <| both (any_of (F := F) (c := tile dv i) (n := 6272) (by decide) (r := Memref.whole cc0_scratch8) (View.set_whole _)).symm
      <| both (any_of (F := F) (c := tile dv i) (n := 6272) (by decide) (r := Memref.whole cc0_scratch9) (View.set_whole _)).symm
      <| both (any_of (F := F) (c := tile dv i) (n := 2048) (by decide) (r := Memref.whole cc0_scratch10) (View.set_whole _)).symm
      <| both (any_of (F := F) (c := tile dv i) (n := 2048) (by decide) (r := Memref.whole cc0_scratch11) (View.set_whole _)).symm
      <| both (any_of (F := F) (c := tile dv i) (n := 32768) (by decide) (r := Memref.whole cc0_scratch12) (View.set_whole _)).symm
      <| both (any_of (F := F) (c := tile dv i) (n := 256) (by decide) (r := Memref.whole cc0_scratch13) (View.set_whole _)).symm
      <| both (any_of (F := F) (c := tile dv i) (n := 16) (by decide) (r := Memref.whole cc0_scratch14) (View.set_whole _)).symm
      <| both (any_of (F := F) (c := tile dv i) (n := 16) (by decide) (r := Memref.whole cc0_scratch15) (View.set_whole _)).symm
      <| both (any_of (F := F) (c := tile dv i) (n := 16) (by decide) (r := Memref.whole cc0_scratch16) (View.set_whole _)).symm
      <| (any_of (F := F) (c := tile dv i) (n := 16) (by decide) (r := Memref.whole cc0_scratch17) (View.set_whole _)).symm

theorem ownSems_tile : (ownSems0 (tile dv i) : sProp 𝕄) = iprop(QuietAt (F := F) dv i
    ∗ bigSep (ownCells (tile dv i) \ (((cc0_scoped0.sem : DmaSem sig) :: counts).map fun s => ((tile dv i, .dma s) : GSem nD τ sig)).toFinset) fun g => semVal g 0) := by
  unfold SparseCore.Cfg.ownSems0
  refine (peel _ (counts.map fun s => ((tile dv i, .dma s) : GSem nD τ sig)) (tile dv i, .dma cc0_scoped0.sem) _
    (List.Nodup.map (fun a b e => SemLoc.dma.inj (Prod.mk.inj e).2) (show ((cc0_scoped0.sem : DmaSem sig) :: counts).Nodup by decide)) ?_).trans ?_
  · intro y hy
    obtain ⟨s, hs, rfl⟩ := List.mem_map.mp (show y ∈ ((cc0_scoped0.sem : DmaSem sig) :: counts).map fun s => ((tile dv i, .dma s) : GSem nD τ sig) from hy)
    refine mem_ownCells.mpr ⟨rfl, ?_⟩
    exact (show ∀ s : DmaSem sig, (SemLoc.dma s : SemLoc sig).isScoped .scVector = true by decide) s
  · rfl

end OwnTile

end Cert.Proof.Setup

end
-- ==== Proof.Task.lean ====
/-
  What the handshakes carry at the sort call, and the proof that each tile's task meets it.
-/
module

public import proofs.«01_k».proof.Proof.Setup

@[expose] public section

set_option synthInstance.maxSize 4096

noncomputable section

namespace Cert.Proof.Task

open Idealize.ShloMosaic
open Idealize.ShloMosaic.SparseCore (S V T)
open Idealize.ShloMosaic.SparseCore.Cfg (HIx Blocks Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.SL.ExclCount
open Idealize.ShloMosaic.Rounds
open Cert.Kernel Cert.Kernel.Gen Cert.Proof.Body Cert.Proof.Words Cert.Proof.Steps Cert.Proof.Phases Cert.Proof.Stages Cert.Proof.Meet Cert.Proof.TileRun Cert.Proof.Setup
open Cert.Proof.Rendezvous (Key body)

variable {F : FTy → Type} [BitOps F]

attribute [local instance] blocks

local notation "𝕄" => MT nD τ sig (HIx 7) (Elt F) ℕ UU ℕ

/-! ## The meetings' cells and what is owed on them -/

/-- The tiles' barrier semaphores of a core. -/
abbrev cell (d : Dev nD) (c : Fin τ.nSC) (j : Num) : GSem nD τ sig := (V d c (j.castLE hsub0), .reg sc_bar0)

theorem bar_ne_go : (sc_bar0 : Sem sig) ≠ sc_go := by decide

theorem owed_apply (d : Dev nD) (c : Fin τ.nSC) (O : CellTallies nD τ sig (HIx 7)) (r : ℕ) (g : GSem nD τ sig) (ι : HIx 7) :
    Meet.owed (cell d c) some O r g ι = O g ι + ∑ r' ∈ ahead r, ∑ j : Num, tallyAt (cell d c j) (some r' : HIx 7) 1 g ι := by
  unfold Meet.owed
  rw [Pi.add_apply, Finsupp.add_apply, Finset.sum_apply, Finsupp.finsetSum_apply]
  refine congrArg _ (Finset.sum_congr rfl fun r' _ => ?_)
  rw [Finset.sum_apply, Finsupp.finsetSum_apply]

theorem owed_none (d : Dev nD) (c : Fin τ.nSC) {O : CellTallies nD τ sig (HIx 7)} (r : ℕ) (g : GSem nD τ sig) (hO : O g none = 0) :
    Meet.owed (cell d c) some O r g none = 0 := by
  rw [owed_apply, hO, zero_add]
  exact Finset.sum_eq_zero fun r' _ => Finset.sum_eq_zero fun j _ => by rw [tallyAt_apply, if_neg (fun e => nomatch e.2)]

theorem owed_pos {d : Dev nD} {c : Fin τ.nSC} {O : CellTallies nD τ sig (HIx 7)} {r : ℕ} {g : GSem nD τ sig} {ι : HIx 7} (h : 0 < Meet.owed (cell d c) some O r g ι) :
    0 < O g ι ∨ ∃ r' : Fin 7, r ≤ r'.val ∧ ι = some r' ∧ ∃ j : Num, g = cell d c j := by
  rw [owed_apply] at h
  rcases Nat.add_pos_iff_pos_or_pos.mp h with h | h
  · exact .inl h
  obtain ⟨r', hr', h⟩ := Finset.exists_ne_zero_of_sum_ne_zero (Nat.pos_iff_ne_zero.mp h)
  obtain ⟨j, -, h⟩ := Finset.exists_ne_zero_of_sum_ne_zero h
  rw [tallyAt_apply] at h
  split at h
  · next e => exact .inr ⟨r', (Finset.mem_filter.mp hr').2, e.2, j, e.1⟩
  · exact absurd rfl h

theorem lev_cell (d : Dev nD) (c : Fin τ.nSC) (j : Num) (r : Fin 7) : (K (F := F)).lev (cell d c j) (some r) = 8 * r.val + 3 :=
  (K (F := F)).lev_V_reg d c (j.castLE hsub0) bar_ne_go r

/-! ## What the handshakes carry -/

variable (m : (ℓ : Loc nD τ sig) → Buf (Elt F) ℓ)

/-- What the tiles of a core give one another at the meetings. -/
def giftsOf (d : Dev nD) (c : Fin τ.nSC) : Num × Fin 7 × Num → sProp 𝕄 :=
  if c.val = 0 then gifts d (coordsV zero₂ zero) a6 a7 a8 a9 a10 a11 (scores m d) else fun _ => iprop(emp)
where zero₂ : Fin (grid0.bound 0) := ⟨0, by decide⟩

instance giftsOf_storable (d : Dev nD) (c : Fin τ.nSC) (p : Num × Fin 7 × Num) : BI.Storable (upEmb : UEmb _ 𝕄) (giftsOf m d c p) := by
  unfold giftsOf; split <;> infer_instance

/-- What a tile is handed for the meetings. -/
def kit (d : Dev nD) (c : Fin τ.nSC) (w : Num) : sProp 𝕄 :=
  iprop(∃ (κ : ℕ) (γ : Key (grid0.bound 1) 7 → ℕ), inv κ (body EC (cell d c) γ (giftsOf m d c)) ∗ Stub EC (cell d c) γ some w 0)

abbrev taking (d : Dev nD) (i : grid0.Coords) : sProp 𝕄 := Take (F := F) d i aX aK aN aP a6 a7 a8 a9 a10 a11 fullShare (scores m d)
abbrev giving (d : Dev nD) (i : grid0.Coords) : sProp 𝕄 := Give (F := F) d i aX aK aN aP a6 a7 a8 a9 a10 a11 fullShare (scores m d)

instance taking_storable (d : Dev nD) (i : grid0.Coords) : BI.Storable (upEmb : UEmb _ 𝕄) (taking m d i) := by
  unfold taking Take; split <;> split <;> infer_instance
instance giving_storable (d : Dev nD) (i : grid0.Coords) : BI.Storable (upEmb : UEmb _ 𝕄) (giving m d i) := by
  unfold giving Give; split <;> split <;> infer_instance

abbrev coreOf (c : Fin ((K (F := F)).nCore 0)) : Fin (grid0.bound 0) := ⟨c.val, c.isLt⟩
abbrev subOf (i : Fin ((K (F := F)).nSub 0)) : Num := ⟨i.val, i.isLt⟩

/-- The tiles' barrier semaphores of a core, at zero. -/
abbrev bars (d : Dev nD) (c : Fin τ.nSC) : sProp 𝕄 := bigSep Finset.univ fun j : Num => semVal (cell d c j) 0

/-- What the call starts from, on the first core. -/
def starting (d : Dev nD) : sProp 𝕄 :=
  iprop((xLoc d ↦{fullShare} m (xLoc d)) ∗ (∃ f, kLoc d ↦{fullShare} f) ∗ (∃ f, nLoc d ↦{fullShare} f) ∗ (∃ f, pLoc d ↦{fullShare} f))

/-- The results: the rows of keys and of numbers, after three passes. -/
def ended (d : Dev nD) : sProp 𝕄 :=
  iprop((xLoc d ↦{fullShare} m (xLoc d))
    ∗ Holds (F := F) (n := 50176) (e := .i32) (T d) (Memref.whole main_v0_0) fullShare (keysAt (scores m d) 3)
    ∗ Holds (F := F) (n := 50176) (e := .i32) (T d) (Memref.whole main_v0_1) fullShare (numsAt (scores m d) 3)
    ∗ (∃ f, pLoc d ↦{fullShare} f))

instance starting_storable (d : Dev nD) : BI.Storable (upEmb : UEmb _ 𝕄) (starting m d) := by unfold starting; infer_instance
instance ended_storable (d : Dev nD) : BI.Storable (upEmb : UEmb _ 𝕄) (ended m d) := by unfold ended; infer_instance

set_option backward.proofsInPublic true in
def P : (K (F := F)).Pay (N := 7) (nD := nD) (Val := Elt F) (Name := ℕ) (U := UU) where
  st := fun q d c => match q with | 0 => if c.val = 0 then starting m d else iprop(emp)
  dn := fun q d c => match q with | 0 => iprop((if c.val = 0 then ended m d else iprop(emp)) ∗ bars d ((K (F := F)).core 0 c))
  go := fun q d c i => match q with | 0 => if c.val = 0 then taking m d (coordsV (coreOf c) (subOf i)) else iprop(emp)
  td := fun q d c i => match q with
    | 0 => iprop((if c.val = 0 then giving m d (coordsV (coreOf c) (subOf i)) else iprop(emp)) ∗ semVal (cell d ((K (F := F)).core 0 c) (subOf i)) 0)
  x := fun _ thr => match thr with
    | (d, .scVector c i) => kit m d c ⟨i.val, i.isLt⟩
    | _ => iprop(emp)
  ox := fun _ thr => match thr with
    | (d, .scVector c _) => Meet.owed (cell d c) some 0 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · rcases owed_pos (show 0 < Meet.owed (cell d c) some 0 0 g ι from h) with h | ⟨r, -, rfl, j, rfl⟩
      · exact absurd h (lt_irrefl 0)
      · rw [lev_cell]
        have := r.isLt
        refine ⟨?_, ?_⟩
        · show 8 * 0 + 3 ≤ 8 * r.val + 3; omega
        · show 8 * r.val + 3 ≤ 8 * 6 + 5; omega
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (by show BI.Storable (upEmb : UEmb _ 𝕄) (if c.val = 0 then starting m d else iprop(emp)); split <;> infer_instance)
  dn q d c := match q with
    | 0 => (by
      show BI.Storable (upEmb : UEmb _ 𝕄) iprop((if c.val = 0 then ended m d else iprop(emp)) ∗ bars d ((K (F := F)).core 0 c))
      split <;> infer_instance)
  go q d c i := match q with
    | 0 => (by show BI.Storable (upEmb : UEmb _ 𝕄) (if c.val = 0 then taking m d (coordsV (coreOf c) (subOf i)) else iprop(emp)); split <;> infer_instance)
  td q d c i := match q with
    | 0 => (by
      show BI.Storable (upEmb : UEmb _ 𝕄) iprop((if c.val = 0 then giving m d (coordsV (coreOf c) (subOf i)) else iprop(emp)) ∗ semVal (cell d ((K (F := F)).core 0 c) (subOf i)) 0)
      split <;> infer_instance)

/-! ## Rows the tiles of a core have in common -/

section Commons
variable (d : Dev nD)

theorem common6 : Common (F := F) (Ix := HIx 7) (Name := ℕ) (U := UU) (Lvl := ℕ) d .i32 a6 := fun i i' h P q a => by
  show Part (d, .scVector ((i 0).castLE hcore0) _) _ _ _ _ = _
  rw [h]; rfl
theorem common7 : Common (F := F) (Ix := HIx 7) (Name := ℕ) (U := UU) (Lvl := ℕ) d .i32 a7 := fun i i' h P q a => by
  show Part (d, .scVector ((i 0).castLE hcore0) _) _ _ _ _ = _
  rw [h]; rfl
theorem common8 : Common (F := F) (Ix := HIx 7) (Name := ℕ) (U := UU) (Lvl := ℕ) d .i32 a8 := fun i i' h P q a => by
  show Part (d, .scVector ((i 0).castLE hcore0) _) _ _ _ _ = _
  rw [h]; rfl
theorem common9 : Common (F := F) (Ix := HIx 7) (Name := ℕ) (U := UU) (Lvl := ℕ) d .i32 a9 := fun i i' h P q a => by
  show Part (d, .scVector ((i 0).castLE hcore0) _) _ _ _ _ = _
  rw [h]; rfl
theorem common10 : Common (F := F) (Ix := HIx 7) (Name := ℕ) (U := UU) (Lvl := ℕ) d .i32 a10 := fun i i' h P q a => by
  show Part (d, .scVector ((i 0).castLE hcore0) _) _ _ _ _ = _
  rw [h]; rfl
theorem common11 : Common (F := F) (Ix := HIx 7) (Name := ℕ) (U := UU) (Lvl := ℕ) d .f32 a11 := fun i i' h P q a => by
  show Part (d, .scVector ((i 0).castLE hcore0) _) _ _ _ _ = _
  rw [h]; rfl

end Commons

/-- At a meeting a tile owes only the meetings after it, and what the call leaves for later. -/
theorem may_meet (d : Dev nD) (i : grid0.Coords) (O : CellTallies nD τ sig (HIx 7))
    (hOlev : ∀ g ι, 0 < O g ι → 8 * (6 : Fin 7).val + 6 ≤ (K (F := F)).lev g ι) (r : Fin 7) :
    (levAts (K (F := F)).L (K (F := F)).lev : sProp 𝕄)
      ⊢ MayWait (tile d i) (.reg sc_bar0) (some r) (Meet.owed (cell d ((i 0).castLE hcore0)) some O (r.val + 1)) :=
  (K (F := F)).mayOwe_of_bound (8 * r.val + 3)
    (fun p hp => by
      rw [Finset.mem_singleton] at hp; subst hp
      exact le_of_eq ((K (F := F)).lev_V_reg d _ _ bar_ne_go r))
    (fun g ι h => by
      have hr := r.isLt
      rcases owed_pos h with h | ⟨r', hr', rfl, j, rfl⟩
      · have := hOlev g ι h
        have h6 : (6 : Fin 7).val = 6 := rfl
        omega
      · rw [lev_cell]; omega)

/-! ## The task -/

theorem defs₀_vector (c : Fin τ.nSC) (s : Fin τ.nSub) :
    defs₀ (F := F) (.scVector c s) 0 ()
      = SparseCore.onTile hcore0 hsub0 (fun c s => cc0__sort_body (coordsV c s)
          aX (Memref.isWhole_whole _) aK (Memref.isWhole_whole _) aN (Memref.isWhole_whole _) aP (Memref.isWhole_whole _) a6 (Memref.isWhole_whole _) a7 (Memref.isWhole_whole _) a8 (Memref.isWhole_whole _) a9 (Memref.isWhole_whole _) a10 (Memref.isWhole_whole _) a11 (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28) ⟨⟩ c s := rfl

/-- What a tile's task may wait on. -/
abbrev fine (W : Waits sig (HIx 7)) (p : SemLoc sig × HIx 7) : Prop := p ∈ W ∨ p.2 = none ∨ (blocks).blk 0 p.2

theorem task_first (d : Dev nD) {i : grid0.Coords} (h0 : (i 0).val = 0) (O : CellTallies nD τ sig (HIx 7)) (W : Waits sig (HIx 7)) (hO : ∀ g, O g none = 0)
    (hOlev : ∀ g ι, 0 < O g ι → 8 * (6 : Fin 7).val + 6 ≤ (K (F := F)).lev g ι) :
    iprop(levAts (K (F := F)).L (K (F := F)).lev ∗ kit m d ((i 0).castLE hcore0) (i 1) ∗ taking m d i ∗ ownBufs (tile d i) ∗ ownSems0 (tile d i)
        ∗ owes (tile d i) (Meet.owed (cell d ((i 0).castLE hcore0)) some O 0) W)
      ⊢ wp frame (wpE (defs₀ (F := F)) 𝒱₀ (tile d i) none) Set.univ
          (cc0__sort_body i aX (Memref.isWhole_whole _) aK (Memref.isWhole_whole _) aN (Memref.isWhole_whole _) aP (Memref.isWhole_whole _) a6 (Memref.isWhole_whole _) a7 (Memref.isWhole_whole _) a8 (Memref.isWhole_whole _) a9 (Memref.isWhole_whole _) a10 (Memref.isWhole_whole _) a11 (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28)
          fun _ => iprop((giving m d i ∗ semVal (cell d ((i 0).castLE hcore0) (i 1)) 0) ∗ ownBufs (tile d i) ∗ ownSems0 (tile d i)
            ∗ ∃ W', ⌜∀ p ∈ W', fine W p⌝ ∗ owes (tile d i) O W') := by
  have hg : giftsOf m d ((i 0).castLE hcore0) = gifts d (coordsV giftsOf.zero₂ zero) a6 a7 a8 a9 a10 a11 (scores m d) := if_pos h0
  rw [tile_eq, ownBufs_tile, ownSems_tile]
  unfold kit
  rw [hg]
  iintro ⟨#Hl, ⟨%κ, %γ, #Hinv, Hst⟩, Ht, ⟨Ho, Ho'⟩, ⟨Hq, Hq'⟩, HO⟩
  iapply (wp_tile (F := F) 𝒱₀ none ((cond5_iff i).mpr h0) d EC (i₀ := coordsV giftsOf.zero₂ zero) (Fin.ext h0) (common6 d) (common7 d) (common8 d) (common9 d) (common10 d) (common11 d)
    (fun _ => rfl) (fun _ => rfl) (fun _ => rfl) (fun _ => rfl) (fun _ => rfl) (fun _ => rfl) (cell := cell d ((i 0).castLE hcore0)) (γ := γ) (ix := some) (κ := κ) (O := O) (ok := fine W)
    (fun _ => rfl) none (fun _ => .inr (.inl rfl)) (fun r => .inr (.inr ⟨r, rfl⟩)) (L := levAts (K (F := F)).L (K (F := F)).lev)
    (fun r => (K (F := F)).mayWaits_none (thr := tile d i) fun g => owed_none d _ r g (hO g)) (may_meet (F := F) d i O hOlev)) $$ [Ht Ho Hq Hst HO]
  · isplitr; · iexact Hl
    isplitr; · iexact Hinv
    isplitl [Ht]; · iexact Ht
    isplitl [Ho]; · iexact Ho
    isplitl [Hq]; · iexact Hq
    isplitl [Hst]; · iexact Hst
    unfold Debt
    iexists W
    isplitr; · ipureintro; exact fun p hp => .inl hp
    iexact HO
  iintro ⟨Hg, Ho, Hq, Hs, HO⟩
  isplitl [Hg Hs]
  · isplitl [Hg]; · iexact Hg
    iexact Hs
  isplitl [Ho Ho']
  · isplitl [Ho]; · iexact Ho
    iexact Ho'
  isplitl [Hq Hq']
  · isplitl [Hq]; · iexact Hq
    iexact Hq'
  ihave HO := (Entails.of_eq (congrArg (fun O' => Debt (F := F) (tile d i) O' (fine W)) (Meet.owed_end (cell := cell d ((i 0).castLE hcore0)) (ix := some) O))) $$ HO
  unfold Debt
  iexact HO

theorem task_other (d : Dev nD) {i : grid0.Coords} (h0 : ¬ (i 0).val = 0) (O : CellTallies nD τ sig (HIx 7)) (W : Waits sig (HIx 7))
    (hOlev : ∀ g ι, 0 < O g ι → 8 * (6 : Fin 7).val + 6 ≤ (K (F := F)).lev g ι) :
    iprop(levAts (K (F := F)).L (K (F := F)).lev ∗ kit m d ((i 0).castLE hcore0) (i 1) ∗ emp ∗ ownBufs (tile d i) ∗ ownSems0 (tile d i)
        ∗ owes (tile d i) (Meet.owed (cell d ((i 0).castLE hcore0)) some O 0) W)
      ⊢ wp frame (wpE (defs₀ (F := F)) 𝒱₀ (tile d i) none) Set.univ
          (cc0__sort_body i aX (Memref.isWhole_whole _) aK (Memref.isWhole_whole _) aN (Memref.isWhole_whole _) aP (Memref.isWhole_whole _) a6 (Memref.isWhole_whole _) a7 (Memref.isWhole_whole _) a8 (Memref.isWhole_whole _) a9 (Memref.isWhole_whole _) a10 (Memref.isWhole_whole _) a11 (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28)
          fun _ => iprop((emp ∗ semVal (cell d ((i 0).castLE hcore0) (i 1)) 0) ∗ ownBufs (tile d i) ∗ ownSems0 (tile d i)
            ∗ ∃ W', ⌜∀ p ∈ W', fine W p⌝ ∗ owes (tile d i) O W') := by
  have hg : giftsOf m d ((i 0).castLE hcore0) = fun _ => iprop(emp) := if_neg h0
  rw [tile_eq]
  unfold kit
  rw [hg]
  iintro ⟨#Hl, ⟨%κ, %γ, #Hinv, Hst⟩, -, Ho, Hq, HO⟩
  iapply (wp_idle (F := F) 𝒱₀ none d EC (fun hh => h0 ((cond5_iff i).mp hh)) (cell := cell d ((i 0).castLE hcore0)) (γ := γ) (ix := some) (κ := κ) (O := O) (ok := fine W)
    (fun _ => rfl) (fun r => .inr (.inr ⟨r, rfl⟩)) (L := levAts (K (F := F)).L (K (F := F)).lev) (may_meet (F := F) d i O hOlev)) $$ [Hst HO]
  · isplitr; · iexact Hl
    isplitr; · iexact Hinv
    isplitl [Hst]; · iexact Hst
    unfold Debt
    iexists W
    isplitr; · ipureintro; exact fun p hp => .inl hp
    iexact HO
  iintro ⟨Hs, HO⟩
  isplitl [Hs]
  · isplitr [Hs]; · iempintro
    iexact Hs
  isplitl [Ho]; · iexact Ho
  isplitl [Hq]; · iexact Hq
  ihave HO := (Entails.of_eq (congrArg (fun O' => Debt (F := F) (tile d i) O' (fine W)) (Meet.owed_end (cell := cell d ((i 0).castLE hcore0)) (ix := some) O))) $$ HO
  unfold Debt
  iexact HO

set_option maxRecDepth 16384 in
theorem tileObl (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show O + (P m).ox 0 (V d ((K (F := F)).core 0 c) ((K (F := F)).sub 0 i)) = Meet.owed (cell d ((K (F := F)).core 0 c)) some O 0 from by
      show O + Meet.owed (cell d ((K (F := F)).core 0 c)) some 0 0 = _
      unfold Meet.owed; rw [zero_add],
    show (P m).x 0 (V d ((K (F := F)).core 0 c) ((K (F := F)).sub 0 i)) = kit m d ((K (F := F)).core 0 c) (subOf i) from rfl,
    (K (F := F)).scopedBufs_V hF d ((K (F := F)).core 0 c) ((K (F := F)).sub 0 i), SparseCore.Cfg.scopedSems0_V (Val := Elt F) d ((K (F := F)).core 0 c) ((K (F := F)).sub 0 i)]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h0 : c.val = 0
  · have hgo : (P m).go 0 d c i = taking m d (coordsV (coreOf c) (subOf i)) := if_pos h0
    have htd : (P m).td 0 d c i = iprop(giving m d (coordsV (coreOf c) (subOf i)) ∗ semVal (cell d ((K (F := F)).core 0 c) (subOf i)) 0) := by
      show iprop((if c.val = 0 then giving m d (coordsV (coreOf c) (subOf i)) else iprop(emp)) ∗ semVal (cell d ((K (F := F)).core 0 c) (subOf i)) 0) = _
      rw [if_pos h0]
    rw [hgo, htd]
    exact task_first m d (i := coordsV (coreOf c) (subOf i)) h0 O W hO hOlev
  · have hgo : (P m).go 0 d c i = iprop(emp) := if_neg h0
    have htd : (P m).td 0 d c i = iprop(emp ∗ semVal (cell d ((K (F := F)).core 0 c) (subOf i)) 0) := by
      show iprop((if c.val = 0 then giving m d (coordsV (coreOf c) (subOf i)) else iprop(emp)) ∗ semVal (cell d ((K (F := F)).core 0 c) (subOf i)) 0) = _
      rw [if_neg h0]
    rw [hgo, htd]
    exact task_other m d (i := coordsV (coreOf c) (subOf i)) h0 O W hOlev

end Cert.Proof.Task

end
-- ==== Proof.Split.lean ====
/-
  The sort call's rows dealt to the tiles of the first core, and gathered from them.
-/
module

public import proofs.«01_k».proof.Proof.Task

@[expose] public section

set_option synthInstance.maxSize 4096

noncomputable section

namespace Cert.Proof.Split

open Idealize.ShloMosaic
open Idealize.ShloMosaic.SparseCore (S V T)
open Idealize.ShloMosaic.SparseCore.Cfg (HIx Blocks Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.SL.ExclCount
open Cert.Kernel Cert.Kernel.Gen Cert.Proof.Body Cert.Proof.Words Cert.Proof.Steps Cert.Proof.Phases Cert.Proof.Stages Cert.Proof.Meet Cert.Proof.Pass Cert.Proof.TileRun Cert.Proof.Setup
open Cert.Proof.Task

variable {F : FTy → Type} [BitOps F]

attribute [local instance] blocks

local notation "𝕄" => MT nD τ sig (HIx 7) (Elt F) ℕ UU ℕ

/-- Tile `t` of the first core. -/
abbrev at₀ (t : Num) : grid0.Coords := coordsV giftsOf.zero₂ t

/-! ## One row -/

section Row
variable {sp : Space} {e : EltTy} {n : ℕ} (d : Dev nD) (r : Memref sig .scVector sp (Arr n) e)

/-- The tiles of the first core see a row alike. -/
def Alike : Prop := ∀ (t : Num) (P : ℕ → Prop) (q : PosShare TreeShare) (a : ℕ → Elt F e),
  (Part (F := F) (tile d (at₀ t)) r P q a : sProp 𝕄) = Part (tile d (at₀ zero)) r P q a

variable {d r} (hr : Alike (F := F) d r) {w : ℕ} (hw : 0 < w) (hn : n ≤ 16 * w) {q : PosShare TreeShare} {a : ℕ → Elt F e}

theorem in_part {w j : ℕ} (hw : 0 < w) (t : ℕ) : (w * t ≤ j ∧ j < w * t + w) ↔ j / w = t := by
  rw [Nat.div_eq_iff hw]
  constructor
  · rintro ⟨h1, h2⟩
    rw [Nat.mul_comm] at h1 h2
    omega
  · rintro ⟨h1, h2⟩
    rw [Nat.mul_comm w t]
    omega

include hr hw hn in
theorem deal_same : (Holds (F := F) (tile d (at₀ zero)) r q a : sProp 𝕄)
    ⊢ bigSep Finset.univ fun t : Num => Part (F := F) (tile d (at₀ t)) r (fun j => w * t.val ≤ j ∧ j < w * t.val + w) q a := by
  refine (split_by (F := F) (tile d (at₀ zero)) (m := r) (P := fun _ => True) (P' := fun t j => w * t.val ≤ j ∧ j < w * t.val + w) (fun j => j / w)
    (fun j hj _ => by rw [Nat.div_lt_iff_lt_mul hw]; omega) (fun t j _ => ⟨fun hh => ⟨trivial, (in_part hw _).mp hh⟩, fun hh => (in_part hw _).mpr hh.2⟩)).trans ?_
  exact bigSep_mono fun t _ => Entails.of_eq (hr t _ _ _).symm

include hr hw hn in
theorem gather_same : (bigSep Finset.univ fun t : Num => Part (F := F) (tile d (at₀ t)) r (fun j => w * t.val ≤ j ∧ j < w * t.val + w) q a)
    ⊢ (Holds (F := F) (tile d (at₀ zero)) r q a : sProp 𝕄) := by
  refine BI.Entails.trans (bigSep_mono fun t _ => Entails.of_eq (hr t _ _ _)) ?_
  exact join_by (F := F) (tile d (at₀ zero)) (m := r) (P := fun _ => True) (P' := fun t j => w * t.val ≤ j ∧ j < w * t.val + w) (fun j => j / w)
    (fun j hj _ => by rw [Nat.div_lt_iff_lt_mul hw]; omega) (fun t j _ => ⟨fun hh => ⟨trivial, (in_part hw _).mp hh⟩, fun hh => (in_part hw _).mpr hh.2⟩)

include hr hw hn in
theorem deal_any : (iprop(∃ a, Holds (F := F) (tile d (at₀ zero)) r q a) : sProp 𝕄)
    ⊢ bigSep Finset.univ fun t : Num => iprop(∃ a, Part (F := F) (tile d (at₀ t)) r (fun j => w * t.val ≤ j ∧ j < w * t.val + w) q a) := by
  have hone : ∀ a, ∀ t ∈ (Finset.univ : Finset Num), (Part (F := F) (tile d (at₀ t)) r (fun j => w * t.val ≤ j ∧ j < w * t.val + w) q a : sProp 𝕄)
      ⊢ iprop(∃ a, Part (F := F) (tile d (at₀ t)) r (fun j => w * t.val ≤ j ∧ j < w * t.val + w) q a) := fun a t _ => by
    iintro H
    iexists a; iexact H
  iintro ⟨%a, H⟩
  ihave H := (deal_same (F := F) hr hw hn) $$ H
  iapply (SparseCore.ent (bigSep_mono (hone a))) $$ H

include hr hw hn in
theorem gather_any : (bigSep Finset.univ fun t : Num => iprop(∃ a, Part (F := F) (tile d (at₀ t)) r (fun j => w * t.val ≤ j ∧ j < w * t.val + w) q a))
    ⊢ (iprop(∃ a, Holds (F := F) (tile d (at₀ zero)) r q a) : sProp 𝕄) := by
  by_cases hne : Nonempty (Elt F e)
  swap
  · rw [SparseCore.bigSep_erase' (Finset.mem_univ zero)]
    iintro ⟨⟨%a, -⟩, -⟩
    exact absurd ⟨a 0⟩ hne
  have e : (bigSep Finset.univ fun t : Num => iprop(∃ a, Part (F := F) (tile d (at₀ t)) r (fun j => w * t.val ≤ j ∧ j < w * t.val + w) q a))
      = (bigSep Finset.univ fun t : Num => iprop(∃ a, Part (F := F) (tile d (at₀ zero)) r (fun j => w * t.val ≤ j ∧ j < w * t.val + w) q a) : sProp 𝕄) :=
    bigSep_congr fun t _ => congrArg _ (funext fun a => hr t _ _ _)
  rw [e]
  exact join_any_by (F := F) (tile d (at₀ zero)) (m := r) (P := fun _ => True) (P' := fun t j => w * t.val ≤ j ∧ j < w * t.val + w) (fun j => j / w)
    (fun _ => Classical.choice hne)
    (fun j hj _ => by rw [Nat.div_lt_iff_lt_mul hw]; omega) (fun t j _ => ⟨fun hh => ⟨trivial, (in_part hw _).mp hh⟩, fun hh => (in_part hw _).mpr hh.2⟩)

end Row

/-- No places of a row are nothing. -/
theorem part_none {c : Thread nD τ} {sp : Space} {e : EltTy} {n : ℕ} {r : Memref sig c.2.kind sp (Arr n) e} {P : ℕ → Prop} {q : PosShare TreeShare} {a : ℕ → Elt F e}
    (hP : ∀ j < n, ¬ P j) (f : Buf (Elt F) (r.view.loc c)) : (iprop(emp) : sProp 𝕄) ⊢ Part (F := F) c r P q a := by
  unfold Words.Part
  have h0 : (pick P : Finset (Arr n).Idx) = ∅ := Finset.eq_empty_of_forall_notMem fun x hx => hP _ (x 0).isLt (mem_pick.mp hx)
  iintro -
  iexists f
  isplitr
  · ipureintro; exact fun x hx => absurd hx (hP _ (x 0).isLt)
  · rw [h0, show r.view.setOn (∅ : Finset (Arr n).Idx) = ∅ from Finset.map_empty _, pointsTo_empty]
    iempintro

/-- The first tile's alone. -/
theorem only_first (X : Num → sProp 𝕄) : (bigSep Finset.univ fun t : Num => if t.val = 0 then X t else iprop(emp)) = X zero := by
  rw [SparseCore.bigSep_erase' (Finset.mem_univ zero)]
  have h1 : (bigSep (Finset.univ.erase zero) fun t : Num => if t.val = 0 then X t else iprop(emp)) = iprop(emp) :=
    (bigSep_congr (s := Finset.univ.erase zero) (Ψ := fun _ : Num => (iprop(emp) : sProp 𝕄)) fun t ht => if_neg fun hh => Finset.ne_of_mem_erase ht (Fin.ext hh)).trans
      (bigSep_emp_const _)
  exact (both (if_pos rfl) h1).trans (equiv_iff.mp ⟨BI.sep_emp.1, BI.sep_emp.2⟩)

/-! ## The rows of the results, eight tiles' -/

section Eight
variable {d : Dev nD} {r : Memref sig .scVector .hbm S50176 .i32} (hr : Alike (F := F) (e := .i32) (n := 50176) d r)

include hr in
theorem deal_eight : (iprop(∃ a, Holds (F := F) (n := 50176) (e := .i32) (tile d (at₀ zero)) r fullShare a) : sProp 𝕄)
    ⊢ bigSep Finset.univ fun t : Num => if t.val < 8 then iprop(∃ a, Cut (F := F) d (at₀ t) r (6272 * t.val) 6272 fullShare a) else iprop(emp) := by
  refine (deal_any (F := F) hr (w := 6272) (by decide) (by decide)).trans (bigSep_mono fun t _ => ?_)
  split
  · exact fun _ h => h
  · exact fun _ _ => trivial

include hr in
theorem gather_eight {a : ℕ → BitVec 32} (f : Buf (Elt F) (r.view.loc (tile d (at₀ zero)))) :
    (bigSep Finset.univ fun t : Num => if t.val < 8 then Cut (F := F) d (at₀ t) r (6272 * t.val) 6272 fullShare a else iprop(emp))
    ⊢ (Holds (F := F) (n := 50176) (e := .i32) (tile d (at₀ zero)) r fullShare a : sProp 𝕄) := by
  refine BI.Entails.trans (bigSep_mono fun t _ => ?_) (gather_same (F := F) hr (w := 6272) (by decide) (by decide))
  split
  · exact fun _ h => h
  · next h =>
    rw [hr]
    exact part_none (F := F) (c := tile d (at₀ zero)) (r := r) (n := 50176) (e := .i32) (fun j hj hh => by omega) f

end Eight

/-! ## The sequencer's shared buffers -/

abbrev sharedRows : List (Ref sig .scVector) := [cc0_scratch1, cc0_scratch2, cc0_scratch3, cc0_scratch4, cc0_scratch5]

/-- The shared rows of the first core, at some contents. -/
def pools (d : Dev nD) : sProp 𝕄 :=
  iprop((∃ a, Has (F := F) d (at₀ zero) a6 fullShare a) ∗ (∃ a, Has (F := F) d (at₀ zero) a7 fullShare a) ∗ (∃ a, Has (F := F) d (at₀ zero) a8 fullShare a)
    ∗ (∃ a, Has (F := F) d (at₀ zero) a9 fullShare a) ∗ (∃ a, Has (F := F) d (at₀ zero) a10 fullShare a)
    ∗ (∃ a, Some32 (F := F) d (at₀ zero) a11 (fun _ => True) fullShare a))

theorem ownBufs_first (d : Dev nD) (c : Fin τ.nSC) (hc : c = giftsOf.zero₂.castLE hcore0) : (ownBufs (S d c) : sProp 𝕄) = iprop(pools (F := F) d
    ∗ bigSep (ownRefs (.scScalar c) \ (((cc0_scratch0 : Ref sig .scVector) :: sharedRows).map (tile d (at₀ zero)).2.devRef).toFinset)
      fun b => iprop(∃ f, ((d, b) : Loc nD τ sig) ↦{fullShare} f)) := by
  subst hc
  unfold SparseCore.Cfg.ownBufs
  refine (peel _ (sharedRows.map (tile d (at₀ zero)).2.devRef) ((tile d (at₀ zero)).2.devRef cc0_scratch0) _
    (List.Nodup.map (f := (tile d (at₀ zero)).2.devRef (sig := sig)) (l := (cc0_scratch0 : Ref sig .scVector) :: sharedRows) (Proc.devRef_injective _) (by decide)) ?_).trans ?_
  · intro y hy
    obtain ⟨b, hb, rfl⟩ := List.mem_map.mp (show y ∈ ((cc0_scratch0 : Ref sig .scVector) :: sharedRows).map (tile d (at₀ zero)).2.devRef from hy)
    refine mem_ownRefs.mpr ?_
    simp only [List.mem_cons, List.not_mem_nil, or_false] at hb
    rcases hb with rfl | rfl | rfl | rfl | rfl | rfl <;> rfl
  · refine congrArg₂ _ ?_ rfl
    unfold pools
    exact both (any_of (F := F) (c := tile d (at₀ zero)) (n := 100352) (by decide) (r := a6) (View.set_whole _)).symm
      <| both (any_of (F := F) (c := tile d (at₀ zero)) (n := 100352) (by decide) (r := a7) (View.set_whole _)).symm
      <| both (any_of (F := F) (c := tile d (at₀ zero)) (n := 100352) (by decide) (r := a8) (View.set_whole _)).symm
      <| both (any_of (F := F) (c := tile d (at₀ zero)) (n := 100352) (by decide) (r := a9) (View.set_whole _)).symm
      <| both (any_of (F := F) (c := tile d (at₀ zero)) (n := 32768) (by decide) (r := a10) (View.set_whole _)).symm
      (any_of (F := F) (c := tile d (at₀ zero)) (n := 256) (by decide) (r := a11) (View.set_whole _)).symm

/-! ## The call's rows, dealt and gathered -/

variable (m : (ℓ : Loc nD τ sig) → Buf (Elt F) ℓ)

theorem scores_in (d : Dev nD) : (iprop(xLoc d ↦{fullShare} m (xLoc d)) : sProp 𝕄)
    = Some32 (F := F) d (at₀ zero) aX (fun _ => True) fullShare (scores m d) := by
  have h := holds_eq (F := F) (Ix := HIx 7) (Name := ℕ) (U := UU) (Lvl := ℕ) (tile d (at₀ zero)) (n := 100000) (e := .f32) (m := aX) (q := fullShare) (a := scores m d)
  refine Eq.trans ?_ h.symm
  have h1 : (iprop(xLoc d ↦{fullShare} m (xLoc d)) : sProp 𝕄)
      ⊢ iprop(∃ f, ⌜(aX).view.read (Elt F) f = fun x => scores m d (x 0).val⌝ ∗ ((aX).view.loc (tile d (at₀ zero)) ↦[(aX).view.set]{fullShare} f)) := by
    iintro H
    iexists (m (xLoc d))
    rw [show (aX).view.set = Finset.univ from View.set_whole _]
    isplitr
    · ipureintro; exact funext fun x => (byNum_eq (n := 100000) (by decide) _ x).symm
    · iexact H
  have h2 : (iprop(∃ f, ⌜(aX).view.read (Elt F) f = fun x => scores m d (x 0).val⌝ ∗ ((aX).view.loc (tile d (at₀ zero)) ↦[(aX).view.set]{fullShare} f)) : sProp 𝕄)
      ⊢ iprop(xLoc d ↦{fullShare} m (xLoc d)) := by
    iintro ⟨%f, %hf, H⟩
    rw [show (aX).view.set = Finset.univ from View.set_whole _]
    have e : f = m (xLoc d) := (show f = fun x => scores m d (x 0).val from hf).trans (funext fun x => byNum_eq (n := 100000) (by decide) _ x)
    subst e
    iexact H
  exact equiv_iff.mp ⟨h1, h2⟩

theorem alike6 (d : Dev nD) : Alike (F := F) (e := .i32) (n := 100352) d a6 := fun t _ _ _ => common6 d _ _ rfl _ _ _
theorem alike7 (d : Dev nD) : Alike (F := F) (e := .i32) (n := 100352) d a7 := fun t _ _ _ => common7 d _ _ rfl _ _ _
theorem alike8 (d : Dev nD) : Alike (F := F) (e := .i32) (n := 100352) d a8 := fun t _ _ _ => common8 d _ _ rfl _ _ _
theorem alike9 (d : Dev nD) : Alike (F := F) (e := .i32) (n := 100352) d a9 := fun t _ _ _ => common9 d _ _ rfl _ _ _
theorem alike10 (d : Dev nD) : Alike (F := F) (e := .i32) (n := 32768) d a10 := fun t _ _ _ => common10 d _ _ rfl _ _ _
theorem alike11 (d : Dev nD) : Alike (F := F) (e := .f32) (n := 256) d a11 := fun t _ _ _ => common11 d _ _ rfl _ _ _
theorem alikeX (d : Dev nD) : Alike (F := F) (e := .f32) (n := 100000) d aX := fun _ _ _ _ => rfl
theorem alikeK (d : Dev nD) : Alike (F := F) (e := .i32) (n := 50176) d aK := fun _ _ _ _ => rfl
theorem alikeN (d : Dev nD) : Alike (F := F) (e := .i32) (n := 50176) d aN := fun _ _ _ _ => rfl

/-- Pairs of what eight tiles have. -/
theorem ite_both (t : Num) (A B : sProp 𝕄) :
    (if t.val < 8 then iprop(A ∗ B) else iprop(emp)) = (iprop((if t.val < 8 then A else iprop(emp)) ∗ (if t.val < 8 then B else iprop(emp))) : sProp 𝕄) := by
  split
  · rfl
  · exact (equiv_iff.mp ⟨BI.sep_emp.1, BI.sep_emp.2⟩).symm

/-- What a tile of the first core starts from, by its number. -/
theorem taking_eq (d : Dev nD) (t : Num) : (taking m d (at₀ t) : sProp 𝕄) = iprop(Some32 (F := F) d (at₀ t) aX (fun j => 6272 * t.val ≤ j ∧ j < 6272 * t.val + 6272) fullShare (scores m d)
    ∗ (∃ a, Cut (F := F) d (at₀ t) a6 (6272 * t.val) 6272 fullShare a)
    ∗ (∃ a, Cut (F := F) d (at₀ t) a7 (6272 * t.val) 6272 fullShare a)
    ∗ (∃ a, Cut (F := F) d (at₀ t) a8 (6272 * t.val) 6272 fullShare a)
    ∗ (∃ a, Cut (F := F) d (at₀ t) a9 (6272 * t.val) 6272 fullShare a)
    ∗ (∃ a, Cut (F := F) d (at₀ t) a10 (2048 * t.val) 2048 fullShare a)
    ∗ (∃ a, Some32 (F := F) d (at₀ t) a11 (fun j => 16 * t.val ≤ j ∧ j < 16 * t.val + 16) fullShare a)
    ∗ ((if t.val < 8 then iprop((∃ a, Cut (F := F) d (at₀ t) aK (6272 * t.val) 6272 fullShare a)) else iprop(emp)) ∗ (if t.val < 8 then iprop((∃ a, Cut (F := F) d (at₀ t) aN (6272 * t.val) 6272 fullShare a)) else iprop(emp)))
    ∗ (if t.val = 0 then iprop(∃ a, Some32 (F := F) d (at₀ t) aP (fun _ => True) fullShare a) else iprop(emp))) :=
  both rfl <| both rfl <| both rfl <| both rfl <| both rfl <| both rfl <| both rfl <| both (ite_both t _ _) rfl
/-- What it ends with. -/
theorem giving_eq (d : Dev nD) (t : Num) : (giving m d (at₀ t) : sProp 𝕄) = iprop(Some32 (F := F) d (at₀ t) aX (fun j => 6272 * t.val ≤ j ∧ j < 6272 * t.val + 6272) fullShare (scores m d)
    ∗ (∃ a, Cut (F := F) d (at₀ t) a6 (6272 * t.val) 6272 fullShare a)
    ∗ (∃ a, Cut (F := F) d (at₀ t) a7 (6272 * t.val) 6272 fullShare a)
    ∗ (∃ a, Cut (F := F) d (at₀ t) a8 (6272 * t.val) 6272 fullShare a)
    ∗ (∃ a, Cut (F := F) d (at₀ t) a9 (6272 * t.val) 6272 fullShare a)
    ∗ (∃ a, Cut (F := F) d (at₀ t) a10 (2048 * t.val) 2048 fullShare a)
    ∗ (if t.val = 0 then iprop(∃ a, Some32 (F := F) d (at₀ t) a11 (fun _ => True) fullShare a) else iprop(emp))
    ∗ ((if t.val < 8 then Cut (F := F) d (at₀ t) aK (6272 * t.val) 6272 fullShare (keysAt (scores m d) 3) else iprop(emp)) ∗ (if t.val < 8 then Cut (F := F) d (at₀ t) aN (6272 * t.val) 6272 fullShare (numsAt (scores m d) 3) else iprop(emp)))
    ∗ (if t.val = 0 then iprop(∃ a, Some32 (F := F) d (at₀ t) aP (fun _ => True) fullShare a) else iprop(emp))) :=
  both rfl <| both rfl <| both rfl <| both rfl <| both rfl <| both rfl <| both rfl <| both (ite_both t _ _) rfl

theorem deal_all (d : Dev nD) : iprop(starting m d ∗ pools (F := F) d) ⊢ (bigSep Finset.univ fun t : Num => taking m d (at₀ t) : sProp 𝕄) := by
  unfold starting pools
  simp only [taking_eq]
  rw [bigSep_sep', bigSep_sep', bigSep_sep', bigSep_sep', bigSep_sep', bigSep_sep', bigSep_sep', bigSep_sep', bigSep_sep', scores_in,
    show (bigSep Finset.univ fun t : Num => if t.val = 0 then iprop(∃ a, Some32 (F := F) d (at₀ t) aP (fun _ => True) fullShare a) else iprop(emp))
      = (iprop(∃ a, Some32 (F := F) d (at₀ zero) aP (fun _ => True) fullShare a) : sProp 𝕄)
      from only_first (F := F) fun t => iprop(∃ a, Some32 (F := F) d (at₀ t) aP (fun _ => True) fullShare a)]
  iintro ⟨⟨HX, HK, HN, HP⟩, H6, H7, H8, H9, H10, H11⟩
  ihave HK := (Entails.of_eq (any_of (F := F) (c := tile d (at₀ zero)) (n := 50176) (by decide) (r := aK) (View.set_whole _)).symm) $$ HK
  ihave HN := (Entails.of_eq (any_of (F := F) (c := tile d (at₀ zero)) (n := 50176) (by decide) (r := aN) (View.set_whole _)).symm) $$ HN
  ihave HP := (Entails.of_eq (any_of (F := F) (c := tile d (at₀ zero)) (n := 16) (by decide) (r := aP) (View.set_whole _)).symm) $$ HP
  isplitl [HX]; · iapply (deal_same (F := F) (alikeX d) (w := 6272) (by decide) (by decide)) $$ HX
  isplitl [H6]; · iapply (deal_any (F := F) (alike6 d) (w := 6272) (by decide) (by decide)) $$ H6
  isplitl [H7]; · iapply (deal_any (F := F) (alike7 d) (w := 6272) (by decide) (by decide)) $$ H7
  isplitl [H8]; · iapply (deal_any (F := F) (alike8 d) (w := 6272) (by decide) (by decide)) $$ H8
  isplitl [H9]; · iapply (deal_any (F := F) (alike9 d) (w := 6272) (by decide) (by decide)) $$ H9
  isplitl [H10]; · iapply (deal_any (F := F) (alike10 d) (w := 2048) (by decide) (by decide)) $$ H10
  isplitl [H11]; · iapply (deal_any (F := F) (alike11 d) (w := 16) (by decide) (by decide)) $$ H11
  isplitl [HK HN]
  · isplitl [HK]; · iapply (deal_eight (F := F) (alikeK d)) $$ HK
    iapply (deal_eight (F := F) (alikeN d)) $$ HN
  iexact HP

theorem gather_all (d : Dev nD) : (bigSep Finset.univ fun t : Num => giving m d (at₀ t) : sProp 𝕄) ⊢ iprop(ended m d ∗ pools (F := F) d) := by
  unfold ended pools
  simp only [giving_eq]
  rw [bigSep_sep', bigSep_sep', bigSep_sep', bigSep_sep', bigSep_sep', bigSep_sep', bigSep_sep', bigSep_sep', bigSep_sep', scores_in,
    show (bigSep Finset.univ fun t : Num => if t.val = 0 then iprop(∃ a, Some32 (F := F) d (at₀ t) aP (fun _ => True) fullShare a) else iprop(emp))
      = (iprop(∃ a, Some32 (F := F) d (at₀ zero) aP (fun _ => True) fullShare a) : sProp 𝕄)
      from only_first (F := F) fun t => iprop(∃ a, Some32 (F := F) d (at₀ t) aP (fun _ => True) fullShare a),
    show (bigSep Finset.univ fun t : Num => if t.val = 0 then iprop(∃ a, Some32 (F := F) d (at₀ t) a11 (fun _ => True) fullShare a) else iprop(emp))
      = (iprop(∃ a, Some32 (F := F) d (at₀ zero) a11 (fun _ => True) fullShare a) : sProp 𝕄)
      from only_first (F := F) fun t => iprop(∃ a, Some32 (F := F) d (at₀ t) a11 (fun _ => True) fullShare a)]
  iintro ⟨HX, H6, H7, H8, H9, H10, H11, ⟨HK, HN⟩, HP⟩
  ihave HP := (Entails.of_eq (any_of (F := F) (c := tile d (at₀ zero)) (n := 16) (by decide) (r := aP) (View.set_whole _))) $$ HP
  isplitl [HX HK HN HP]
  · isplitl [HX]; · iapply (gather_same (F := F) (alikeX d) (w := 6272) (by decide) (by decide)) $$ HX
    isplitl [HK]; · iapply (gather_eight (F := F) (alikeK d) (a := keysAt (scores m d) 3) (m (kLoc d))) $$ HK
    isplitl [HN]; · iapply (gather_eight (F := F) (alikeN d) (a := numsAt (scores m d) 3) (m (nLoc d))) $$ HN
    iexact HP
  isplitl [H6]; · iapply (gather_any (F := F) (alike6 d) (w := 6272) (by decide) (by decide)) $$ H6
  isplitl [H7]; · iapply (gather_any (F := F) (alike7 d) (w := 6272) (by decide) (by decide)) $$ H7
  isplitl [H8]; · iapply (gather_any (F := F) (alike8 d) (w := 6272) (by decide) (by decide)) $$ H8
  isplitl [H9]; · iapply (gather_any (F := F) (alike9 d) (w := 6272) (by decide) (by decide)) $$ H9
  isplitl [H10]; · iapply (gather_any (F := F) (alike10 d) (w := 2048) (by decide) (by decide)) $$ H10
  iexact H11

theorem vecSplit : (K (F := F)).VecSplit (P m) 0 := by
  intro d c
  show iprop((if c.val = 0 then starting m d else iprop(emp)) ∗ ownBufs (S d ((K (F := F)).core 0 c))) ⊢ |={Set.univ}=> iprop(
      (bigSep (Finset.univ : Finset Num) fun t => if c.val = 0 then taking m d (coordsV (coreOf c) t) else iprop(emp))
      ∗ ((bigSep (Finset.univ : Finset Num) fun t => iprop((if c.val = 0 then giving m d (coordsV (coreOf c) t) else iprop(emp)) ∗ semVal (cell d ((K (F := F)).core 0 c) t) 0))
          -∗ iprop(((if c.val = 0 then ended m d else iprop(emp)) ∗ bars d ((K (F := F)).core 0 c)) ∗ ownBufs (S d ((K (F := F)).core 0 c)))))
  rw [bigSep_sep']
  by_cases h0 : c.val = 0
  · have hc : coreOf c = giftsOf.zero₂ := Fin.ext h0
    simp only [if_pos h0, hc]
    rw [ownBufs_first (F := F) d ((K (F := F)).core 0 c) (Fin.ext h0)]
    iintro ⟨Hs, Hp, Hr⟩
    imodintro
    isplitl [Hs Hp]
    · iapply (deal_all m d)
      isplitl [Hs]; · iexact Hs
      iexact Hp
    iintro ⟨Hg, Hb⟩
    ihave Hg := (gather_all m d) $$ Hg
    icases Hg with ⟨He, Hp⟩
    isplitl [He Hb]
    · isplitl [He]; · iexact He
      iexact Hb
    isplitl [Hp]; · iexact Hp
    iexact Hr
  · simp only [if_neg h0]
    rw [show (bigSep Finset.univ fun _ : Num => (iprop(emp) : sProp 𝕄)) = iprop(emp) from bigSep_emp_const _]
    iintro ⟨-, Hr⟩
    imodintro
    isplitr; · iempintro
    iintro ⟨-, Hb⟩
    isplitl [Hb]
    · isplitr [Hb]; · iempintro
      iexact Hb
    iexact Hr

end Cert.Proof.Split

end
-- ==== Proof.Launch.lean ====
/-
  The sort call's launch: the meetings' counters and the tiles' credit, dealt to the tiles of both cores.
-/
module

public import proofs.«01_k».proof.Proof.Split
public import Idealize.ShloMosaic.Lib.Invariants

@[expose] public section

set_option synthInstance.maxSize 4096

noncomputable section

namespace Cert.Proof.Launch

open Idealize.ShloMosaic
open Idealize.ShloMosaic.SparseCore (S V T)
open Idealize.ShloMosaic.SparseCore.Cfg (HIx Blocks Pay)
open Idealize.SL Idealize.SL.RA Idealize.SL.BI
open scoped Idealize.SL.BI
open Idealize.SL.BI.BIBase Idealize.SL.BI.Laws Idealize.SL.ProofMode Idealize.SL.Sem
open Idealize.SL.ExclCount
open Idealize.ShloMosaic.Rounds
open Cert.Kernel Cert.Kernel.Gen Cert.Proof.Meet Cert.Proof.Setup Cert.Proof.Task
open Cert.Proof.Rendezvous (Key body body_init)

variable {F : FTy → Type} [BitOps F]

attribute [local instance] blocks

local notation "𝕄" => MT nD τ sig (HIx 7) (Elt F) ℕ UU ℕ

variable (m : (ℓ : Loc nD τ sig) → Buf (Elt F) ℓ)

/-! ## The barrier semaphores -/

/-- The tiles of both cores. -/
abbrev Tiles : Type := Dev nD × Fin τ.nSC × Fin τ.nSub
abbrev cellOf (x : Tiles) : GSem nD τ sig := cell x.1 x.2.1 ⟨x.2.2.val, x.2.2.isLt⟩
/-- Their barrier semaphores. -/
def cells : Finset (GSem nD τ sig) := Finset.univ.image cellOf
def u₀ : UU := (initOf (K (F := F)).hsCells (K (F := F)).hsToks, 1)

theorem cellOf_injective : Function.Injective cellOf := fun a b e => by
  obtain ⟨h1, h2⟩ := Prod.mk.inj (Prod.mk.inj e).1; obtain ⟨h3, h4⟩ := Proc.scVector.inj h2
  exact Prod.ext h1 (Prod.ext h3 (Fin.ext (congrArg Fin.val h4)))

theorem ownU_split (a : UH) : (ownU ((a, 1) : UU) : sProp 𝕄) ⊢ iprop(BI.own (EH (F := F) a) ∗ BI.own (EC (F := F) 1)) :=
  BI.own_op_elim ((uEmb (nD := nD) (sig := sig) (Ix := HIx 7) (Val := Elt F) (Name := ℕ) (U := UU) (Lvl := ℕ)).toEmb.op_of_mem
    (Prod.mk_mem_op (URA.mem_op_one a) (URA.mem_one_op (1 : Counters))))

/-- The barrier semaphores of every core at zero, of those the launch hands over. -/
theorem bars_free : ((K (F := F)).freeOn (· ∈ cells) : sProp 𝕄) ⊢ bigSep Finset.univ fun dc : Dev nD × Fin τ.nSC => bars (F := F) dc.1 dc.2 := by
  unfold SparseCore.Cfg.freeOn
  refine sep_elim_right.trans ?_
  rw [bigSep_univ_prod, bigSep_univ_prod (fun dc : Dev nD × Fin τ.nSC => bars (F := F) dc.1 dc.2)]
  refine bigSep_mono fun d _ => ?_
  rw [bigSep_univ_prod]
  refine bigSep_mono fun c _ => bigSep_mono fun i _ => ?_
  exact bigSep_elim (Φ := fun sm : SemLoc sig => (semVal (V d c i, sm) 0 : sProp 𝕄)) (Finset.mem_filter.mpr
    ⟨Finset.mem_erase.mpr ⟨fun h => bar_ne_go (SemLoc.reg.inj h), Finset.mem_filter.mpr ⟨Finset.mem_univ _, by decide⟩⟩,
      Finset.mem_image_of_mem cellOf (Finset.mem_univ (d, c, i))⟩)

/-! ## The credit -/

theorem units (g : GSem nD τ sig) (ι : HIx 7) : ∀ n : ℕ, ∑ _ : Fin n, tallyAt g ι 1 = (tallyAt g ι n : CellTallies nD τ sig (HIx 7))
  | 0 => by rw [tallyAt_zero]; rfl
  | n + 1 => by rw [Fin.sum_univ_castSucc, units g ι n, tallyAt_add]

/-- The credit for a core's meetings: what its tiles owe one another is what each waits for. -/
theorem cred_core (d : Dev nD) (c : Fin τ.nSC) :
    (bigSep Finset.univ fun _ : Num => (cred (Meet.owed (cell d c) some 0 0 : CellTallies nD τ sig (HIx 7)) : sProp 𝕄))
      = bigSep Finset.univ fun w : Num => bigSep (ahead 0) fun r : Fin 7 => cred (tallyAt (cell d c w) (some r) (grid0.bound 1)) := by
  unfold Meet.owed
  rw [show ahead 0 = Finset.univ by decide]
  simp only [zero_add, SparseCore.Cfg.cred_finsum]
  calc (bigSep Finset.univ fun _ : Num => bigSep Finset.univ fun r : Fin 7 => bigSep Finset.univ fun j : Num => (cred (tallyAt (cell d c j) (some r) 1) : sProp 𝕄))
      = bigSep Finset.univ fun _ : Num => bigSep Finset.univ fun j : Num => bigSep Finset.univ fun r : Fin 7 => (cred (tallyAt (cell d c j) (some r) 1) : sProp 𝕄) :=
        bigSep_congr fun _ _ => bigSep_univ_comm _
    _ = bigSep Finset.univ fun j : Num => bigSep Finset.univ fun _ : Num => bigSep Finset.univ fun r : Fin 7 => (cred (tallyAt (cell d c j) (some r) 1) : sProp 𝕄) :=
        bigSep_univ_comm _
    _ = bigSep Finset.univ fun j : Num => bigSep Finset.univ fun r : Fin 7 => bigSep Finset.univ fun _ : Num => (cred (tallyAt (cell d c j) (some r) 1) : sProp 𝕄) :=
        bigSep_congr fun _ _ => bigSep_univ_comm _
    _ = bigSep Finset.univ fun j : Num => bigSep Finset.univ fun r : Fin 7 => (cred (tallyAt (cell d c j) (some r) (grid0.bound 1)) : sProp 𝕄) :=
        bigSep_congr fun j _ => bigSep_congr fun r _ => by rw [← SparseCore.Cfg.cred_finsum, units]

theorem creds : ((P (F := F) m).oxCred : sProp 𝕄)
    ⊢ bigSep Finset.univ fun dc : Dev nD × Fin τ.nSC => bigSep Finset.univ fun _ : Num => cred (Meet.owed (cell dc.1 dc.2) some 0 0 : CellTallies nD τ sig (HIx 7)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dc : Dev nD × Fin τ.nSC => bigSep Finset.univ fun _ : Num => (cred (Meet.owed (cell dc.1 dc.2) some 0 0 : CellTallies nD τ sig (HIx 7)) : sProp 𝕄))]
  refine bigSep_mono fun d _ => ?_
  rw [bigSep_univ_prod]
  refine bigSep_mono fun c _ => bigSep_mono fun i _ => ?_
  have e : (P (F := F) m).oxFrom 0 (V d c i) = Meet.owed (cell d c) some 0 0 := by
    rw [show (0 : ℕ) = (0 : Fin 1).val from rfl, (P m).oxFrom_step, (P m).oxFrom_end _ (n := (0 : Fin 1).val + 1) le_rfl, add_zero]; rfl
  dsimp only
  rw [e]
  exact fun _ h => h

/-! ## A core's tiles -/

/-- Every tile of a core has what it is handed: one set of counters for the core, kept together with the semaphores. -/
theorem kits_core (d : Dev nD) (c : Fin τ.nSC) :
    iprop(bars (F := F) d c ∗ bigSep Finset.univ fun _ : Num => cred (Meet.owed (cell d c) some 0 0 : CellTallies nD τ sig (HIx 7)))
      ⊢ |={Set.univ}=> (bigSep Finset.univ fun w : Num => kit m d c w : sProp 𝕄) := by
  have hC : (iprop(emp) : sProp 𝕄) ⊢ |={Set.univ}=> iprop(∃ γ : Key (grid0.bound 1) 7 → ℕ, (bigSep Finset.univ fun k => countAuth (EC (F := F)) (γ k) 0) ∗ bigSep Finset.univ fun k => count (EC (F := F)) (γ k) 0) :=
    (counts_alloc_family (EC (F := F)) (Finset.univ : Finset (Key (grid0.bound 1) 7))).trans bupd_fupd
  rw [cred_core]
  iintro ⟨Hs, Hc⟩
  have hB (γ : Key (grid0.bound 1) 7 → ℕ) : iprop((bigSep Finset.univ fun k => countAuth (EC (F := F)) (γ k) 0) ∗ bars (F := F) d c)
      ⊢ |={Set.univ}=> iprop(∃ κ, inv κ (body (EC (F := F)) (cell d c) γ (giftsOf m d c))) := by
    haveI := Rendezvous.body_storable (E := EC (F := F)) (cell := cell d c) (γ := γ) (gift := giftsOf m d c) (giftsOf_storable m d c)
    exact (body_init (EC (F := F)) (by decide)).trans inv_alloc
  imod hC $$ [] with ⟨%γ, Ha, Hn⟩; · iempintro
  imod (hB γ) $$ [Ha Hs] with ⟨%κ, #Hi⟩
  · isplitl [Ha] <;> iassumption
  imodintro
  have hk (w : Num) : iprop(inv κ (body (EC (F := F)) (cell d c) γ (giftsOf m d c)) ∗ Stub (EC (F := F)) (cell d c) γ some w 0) ⊢ kit m d c w := by
    iintro H
    unfold kit
    iexists κ; iexists γ
    iexact H
  iapply (bigSep_with_persistent (R := inv κ (body (EC (F := F)) (cell d c) γ (giftsOf m d c))) (Φ := fun w : Num => Stub (EC (F := F)) (cell d c) γ some w 0) fun w _ => hk w)
  isplitr; · iexact Hi
  unfold Stub
  rw [bigSep_sep']
  ihave Hn := (Entails.of_eq (show (bigSep Finset.univ fun k => (count (EC (F := F)) (γ k) 0 : sProp 𝕄)) = iprop((bigSep Finset.univ fun w => count (EC (F := F)) (γ (.inl w)) 0)
      ∗ bigSep Finset.univ fun t => count (EC (F := F)) (γ (.inr t)) 0) from bigSep_univ_sum _)) $$ Hn
  icases Hn with ⟨Hl, Hr⟩
  isplitl [Hl]; · iexact Hl
  simp only [bigSep_sep']
  isplitl [Hr]
  · ihave Hr := (Entails.of_eq ((bigSep_univ_prod _).trans (bigSep_congr fun w _ => bigSep_univ_prod _))) $$ Hr
    iexact Hr
  iexact Hc

/-- What the launch hands over, dealt. -/
theorem hu₀ : iprop(ownU (u₀ (F := F)) ∗ (P (F := F) m).oxCred ∗ (K (F := F)).freeOn (· ∈ cells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  have hk : iprop((bigSep Finset.univ fun dc : Dev nD × Fin τ.nSC => bars (F := F) dc.1 dc.2)
      ∗ bigSep Finset.univ fun dc : Dev nD × Fin τ.nSC => bigSep Finset.univ fun _ : Num => cred (Meet.owed (cell dc.1 dc.2) some 0 0 : CellTallies nD τ sig (HIx 7)))
      ⊢ |={Set.univ}=> (bigSep Finset.univ fun dc : Dev nD × Fin τ.nSC => bigSep Finset.univ fun w : Num => kit m dc.1 dc.2 w : sProp 𝕄) := by
    rw [← bigSep_sep']
    exact (bigSep_mono fun dc _ => kits_core m dc.1 dc.2).trans (bigSep_fupd _ _)
  have hx : (bigSep Finset.univ fun thr : Thread nD τ => bigSep Finset.univ fun q : Fin 1 => (P m).x q thr : sProp 𝕄)
      = bigSep Finset.univ fun dc : Dev nD × Fin τ.nSC => bigSep Finset.univ fun w : Num => kit m dc.1 dc.2 w := by
    rw [SparseCore.Cfg.bigSep_threads (fun thr : Thread nD τ => (bigSep Finset.univ fun q : Fin 1 => (P m).x q thr : sProp 𝕄))]
    have e1 : (bigSep Finset.univ fun d : Dev nD => bigSep Finset.univ fun q : Fin 1 => (P m).x q (T d) : sProp 𝕄) = iprop(emp) :=
      (bigSep_congr fun d _ => bigSep_univ_of_subsingleton (0 : Fin 1)).trans (bigSep_emp_const _)
    have e2 : (bigSep Finset.univ fun dc : Dev nD × Fin τ.nSC => bigSep Finset.univ fun q : Fin 1 => (P m).x q (S dc.1 dc.2) : sProp 𝕄) = iprop(emp) :=
      (bigSep_congr fun d _ => bigSep_univ_of_subsingleton (0 : Fin 1)).trans (bigSep_emp_const _)
    have e3 : (bigSep Finset.univ fun x : Tiles => bigSep Finset.univ fun q : Fin 1 => (P m).x q (V x.1 x.2.1 x.2.2) : sProp 𝕄)
        = bigSep Finset.univ fun x : Tiles => kit m x.1 x.2.1 ⟨x.2.2.val, x.2.2.isLt⟩ :=
      bigSep_congr fun d _ => bigSep_univ_of_subsingleton (0 : Fin 1)
    have e4 : (bigSep Finset.univ fun x : Tiles => (kit m x.1 x.2.1 ⟨x.2.2.val, x.2.2.isLt⟩ : sProp 𝕄))
        = bigSep Finset.univ fun dc : Dev nD × Fin τ.nSC => bigSep Finset.univ fun w : Num => kit m dc.1 dc.2 w := by
      rw [bigSep_univ_prod, bigSep_univ_prod (fun dc : Dev nD × Fin τ.nSC => (bigSep Finset.univ fun w : Num => kit m dc.1 dc.2 w : sProp 𝕄))]
      refine bigSep_congr fun d _ => ?_
      rw [bigSep_univ_prod]
      rfl
    refine (both e1 (both e2 (e3.trans e4))).trans ?_
    exact (equiv_iff.mp ⟨BI.emp_sep.1, BI.emp_sep.2⟩).trans (equiv_iff.mp ⟨BI.emp_sep.1, BI.emp_sep.2⟩)
  unfold u₀
  iintro ⟨Hu, Hcred, Hfree⟩
  ihave H := (ownU_split _) $$ Hu
  icases H with ⟨HH, -⟩
  ihave Hs := (bars_free (F := F)) $$ Hfree
  ihave Hc := (creds m) $$ Hcred
  imod hk $$ [Hs Hc] with Hk
  · isplitl [Hs] <;> iassumption
  imodintro
  rw [hx]
  isplitl [HH]; · iexact HH
  isplitr
  · iapply (Entails.of_eq (show (iprop(emp) : sProp 𝕄) = bigSep Finset.univ fun _ : Dev nD => iprop(emp) from (bigSep_emp_const _).symm))
    iempintro
  iexact Hk

end Cert.Proof.Launch

end
-- ==== Proof.Main.lean ====
/-
  The sort call with its host code: the call's run from the scores, the six host operations after it, and what is then
  in the two results.
-/
module

public import proofs.«01_k».proof.Proof.Launch

@[expose] public section

set_option synthInstance.maxSize 4096

noncomputable section

namespace Cert.Proof.Main

open Idealize.ShloMosaic
open Idealize.ShloMosaic.SparseCore (S V T)
open Idealize.ShloMosaic.SparseCore.Cfg (HIx Blocks Pay)
open Idealize.ShloMosaic.StableHlo (held wp_seq seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Proof.Body Cert.Proof.Words Cert.Proof.Meet Cert.Proof.TileRun Cert.Proof.Setup Cert.Proof.Task Cert.Proof.Launch

variable {F : FTy → Type} [BitOps F]

attribute [local instance] blocks

local notation "𝕄" => MT nD τ sig (HIx 7) (Elt F) ℕ UU ℕ

variable (m : (ℓ : Loc nD τ sig) → Buf (Elt F) ℓ) (ρ : Dev nD → PrngReg)

/-! ## The arrays of the host -/

abbrev at' (r : Ref sig .tc) : DevRef τ sig := Proc.devRef .tc r

abbrev hostSet : Finset (DevRef τ sig) :=
  {at' main_arg0, at' main_v0_0, at' main_v0_1, at' main_v0_2, at' main_v1, at' main_c, at' main_v2, at' main_v3, at' main_v4, at' main_v5}

/-- The host operations after the call. -/
abbrev ops : List (HloOp τ sig (Elt F)) :=
  [StableHlo.unary main_v0_0 main_v1 ((extractStridedSlice S50000 ![0] · slices_S50176_S50000_0) : (⟨S50176, .i32⟩ : BufTy).Contents (Elt F) → (⟨S50000, .i32⟩ : BufTy).Contents (Elt F)),
   StableHlo.nullary main_c (constantI S_ 32 1073741823#32),
   StableHlo.unary main_c main_v2 (broadcastInDim S50000 ![] bcast_S_S50000 : (⟨S_, .i32⟩ : BufTy).Contents (Elt F) → (⟨S50000, .i32⟩ : BufTy).Contents (Elt F)),
   StableHlo.binary main_v2 main_v1 main_v3 (subi : (⟨S50000, .i32⟩ : BufTy).Contents (Elt F) → (⟨S50000, .i32⟩ : BufTy).Contents (Elt F) → (⟨S50000, .i32⟩ : BufTy).Contents (Elt F)),
   StableHlo.unary main_v3 main_v4 (bitcastToFloat .f32 : (⟨S50000, .i32⟩ : BufTy).Contents (Elt F) → (⟨S50000, .f32⟩ : BufTy).Contents (Elt F)),
   StableHlo.unary main_v0_1 main_v5 ((extractStridedSlice S50000 ![0] · slices_S50176_S50000_0) : (⟨S50176, .i32⟩ : BufTy).Contents (Elt F) → (⟨S50000, .i32⟩ : BufTy).Contents (Elt F))]

theorem main_eq (d : Dev nD) : main (F := F) d = ((K (F := F)).run d 0 >>= fun _ => seq ops >>= fun _ => pure ⟨⟩) := rfl

theorem held_host (d : Dev nD) (W : Valuation τ sig (Elt F)) :
    (held (SparseCore.T d) hostSet W : sProp 𝕄)
      = iprop((xLoc d ↦{fullShare} W (at' main_arg0)) ∗ (kLoc d ↦{fullShare} W (at' main_v0_0)) ∗ (nLoc d ↦{fullShare} W (at' main_v0_1)) ∗ (pLoc d ↦{fullShare} W (at' main_v0_2))
          ∗ ((SparseCore.T d).loc main_v1 ↦{fullShare} W (at' main_v1)) ∗ ((SparseCore.T d).loc main_c ↦{fullShare} W (at' main_c)) ∗ ((SparseCore.T d).loc main_v2 ↦{fullShare} W (at' main_v2))
          ∗ ((SparseCore.T d).loc main_v3 ↦{fullShare} W (at' main_v3)) ∗ ((SparseCore.T d).loc main_v4 ↦{fullShare} W (at' main_v4)) ∗ ((SparseCore.T d).loc main_v5 ↦{fullShare} W (at' main_v5))) := by
  unfold held hostSet
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem unscoped_host (d : Dev nD) : (unscopedBufs d (fun b => m ((SparseCore.T d).loc b)) : sProp 𝕄) = held (SparseCore.T d) hostSet (fun b => m (d, b)) := by
  rw [held_host]
  unfold unscopedBufs
  rw [show (Finset.univ.filter fun b : Ref sig .tc => ¬ b.isScoped)
    = {main_arg0, main_v0_0, main_v0_1, main_v0_2, main_v1, main_c, main_v2, main_v3, main_v4, main_v5} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The results -/

/-- The rows of keys and of numbers in order. -/
def keyRow (d : Dev nD) : (⟨S50176, .i32⟩ : BufTy).Contents (Elt F) := fun x => keysAt (scores m d) 3 (x 0).val
def numRow (d : Dev nD) : (⟨S50176, .i32⟩ : BufTy).Contents (Elt F) := fun x => numsAt (scores m d) 3 (x 0).val

/-- The first result: each key taken from `2 ^ 30 - 1`, read as a score. -/
def values (d : Dev nD) : (⟨S50000, .f32⟩ : BufTy).Contents (Elt F) :=
  bitcastToFloat .f32 (subi (broadcastInDim S50000 ![] bcast_S_S50000 (constantI S_ 32 1073741823#32)) (extractStridedSlice S50000 ![0] (keyRow m d) slices_S50176_S50000_0))
/-- The second result: the scores' numbers in that order. -/
def numbers (d : Dev nD) : (⟨S50000, .i32⟩ : BufTy).Contents (Elt F) := extractStridedSlice S50000 ![0] (numRow m d) slices_S50176_S50000_0

/-- The arrays after the call. -/
def after_call (d : Dev nD) (f : Buf (Elt F) (pLoc d)) : Valuation τ sig (Elt F) :=
  Function.update (Function.update (Function.update (fun b => m (d, b)) (at' main_v0_0) (keyRow m d)) (at' main_v0_1) (numRow m d)) (at' main_v0_2) f

theorem at_x (d : Dev nD) (f : Buf (Elt F) (pLoc d)) : after_call m d f (at' main_arg0) = m (xLoc d) := by
  unfold after_call
  rw [Function.update_of_ne (by decide), Function.update_of_ne (by decide), Function.update_of_ne (by decide)]
theorem at_k (d : Dev nD) (f : Buf (Elt F) (pLoc d)) : after_call m d f (at' main_v0_0) = keyRow m d := by
  unfold after_call
  rw [Function.update_of_ne (by decide), Function.update_of_ne (by decide), Function.update_self]
theorem at_n (d : Dev nD) (f : Buf (Elt F) (pLoc d)) : after_call m d f (at' main_v0_1) = numRow m d := by
  unfold after_call
  rw [Function.update_of_ne (by decide), Function.update_self]
theorem at_p (d : Dev nD) (f : Buf (Elt F) (pLoc d)) : after_call m d f (at' main_v0_2) = f := by
  unfold after_call
  rw [Function.update_self]
theorem at_other (d : Dev nD) (f : Buf (Elt F) (pLoc d)) {b : DevRef τ sig} (h0 : b ≠ at' main_v0_0) (h1 : b ≠ at' main_v0_1) (h2 : b ≠ at' main_v0_2) :
    after_call m d f b = m (d, b) := by
  unfold after_call
  rw [Function.update_of_ne h2, Function.update_of_ne h1, Function.update_of_ne h0]

theorem after_x (d : Dev nD) (f : Buf (Elt F) (pLoc d)) : after ops (after_call m d f) (at' main_arg0) = m (xLoc d) := by
  after_results_simp
  exact at_x m d f
theorem after_4 (d : Dev nD) (f : Buf (Elt F) (pLoc d)) : after ops (after_call m d f) (at' main_v4) = values m d := by
  after_results_simp
  rw [at_k]; rfl
theorem after_5 (d : Dev nD) (f : Buf (Elt F) (pLoc d)) : after ops (after_call m d f) (at' main_v5) = numbers m d := by
  after_results_simp
  rw [at_n]; rfl

theorem within : ∀ op ∈ (ops : List (HloOp τ sig (Elt F))), op.bufs ⊆ hostSet := by
  intro op h
  simp only [List.mem_cons, List.not_mem_nil, or_false] at h
  rcases h with rfl | rfl | rfl | rfl | rfl | rfl
  · exact show ({at' main_v0_0, at' main_v1} : Finset (DevRef τ sig)) ⊆ hostSet by decide
  · exact show ({at' main_c} : Finset (DevRef τ sig)) ⊆ hostSet by decide
  · exact show ({at' main_c, at' main_v2} : Finset (DevRef τ sig)) ⊆ hostSet by decide
  · exact show ({at' main_v2, at' main_v1, at' main_v3} : Finset (DevRef τ sig)) ⊆ hostSet by decide
  · exact show ({at' main_v3, at' main_v4} : Finset (DevRef τ sig)) ⊆ hostSet by decide
  · exact show ({at' main_v0_1, at' main_v5} : Finset (DevRef τ sig)) ⊆ hostSet by decide

theorem settled : ∀ op ∈ (ops : List (HloOp τ sig (Elt F))), op.fresh = ∅ := by
  intro op h
  simp only [List.mem_cons, List.not_mem_nil, or_false] at h
  rcases h with rfl | rfl | rfl | rfl | rfl | rfl <;> rfl

/-! ## The run -/

abbrev core₀ : Fin τ.nSC := ⟨0, by decide⟩
abbrev core₁ : Fin τ.nSC := ⟨1, by decide⟩

/-- A row that holds its entries by number is its buffer at them. -/
theorem holds_row {n : ℕ} (r : Ref sig .tc) {sp : Space} {e : EltTy} (d : Dev nD) (M : Memref sig .tc sp (Arr n) e) (hM : M.view.set = Finset.univ) (g : Buf (Elt F) (M.view.loc (SparseCore.T d)))
    (a : ℕ → Elt F e) (hg : ∀ f : Buf (Elt F) (M.view.loc (SparseCore.T d)), (M.view.read (Elt F) f = fun x => a (x 0).val) → f = g) :
    (Holds (F := F) (SparseCore.T d) M fullShare a : sProp 𝕄) ⊢ M.view.loc (SparseCore.T d) ↦{fullShare} g := by
  rw [holds_eq]
  iintro ⟨%f, %hf, H⟩
  rw [hM, hg f hf]
  iexact H

theorem two (Φ : Fin ((K (F := F)).nCore 0) → sProp 𝕄) : bigSep Finset.univ Φ = iprop(Φ (⟨0, by decide⟩ : Fin 2) ∗ Φ (⟨1, by decide⟩ : Fin 2)) := by
  show bigSep (Finset.univ : Finset (Fin 2)) Φ = _
  rw [show (Finset.univ : Finset (Fin 2)) = {⟨0, by decide⟩, ⟨1, by decide⟩} by decide, SparseCore.bigSep_insert' (by decide), bigSep_singleton]

theorem starts (d : Dev nD) : (starting m d : sProp 𝕄) ⊢ bigSep Finset.univ fun c : Fin ((K (F := F)).nCore 0) => (P m).st 0 d c := by
  have e : (bigSep Finset.univ fun c : Fin ((K (F := F)).nCore 0) => (P m).st 0 d c : sProp 𝕄) = iprop(starting m d ∗ emp) := (two _).trans rfl
  rw [e]
  iintro H
  isplitl [H]; · iexact H
  iempintro

theorem ends (d : Dev nD) : (bigSep Finset.univ fun c : Fin ((K (F := F)).nCore 0) => (P m).dn 0 d c : sProp 𝕄)
    ⊢ iprop(((xLoc d ↦{fullShare} m (xLoc d)) ∗ (kLoc d ↦{fullShare} keyRow m d) ∗ (nLoc d ↦{fullShare} numRow m d) ∗ ∃ f, pLoc d ↦{fullShare} f)
        ∗ bars d core₀ ∗ bars d core₁) := by
  have e : (bigSep Finset.univ fun c : Fin ((K (F := F)).nCore 0) => (P m).dn 0 d c : sProp 𝕄)
      = iprop((ended m d ∗ bars d core₀) ∗ (emp ∗ bars d core₁)) := (two _).trans rfl
  rw [e]
  unfold ended
  iintro ⟨⟨⟨Hx, Hk, Hn, Hp⟩, H0⟩, -, H1⟩
  ihave Hk := (holds_row main_v0_0 d (Memref.whole main_v0_0) (View.set_whole _) (keyRow m d) (keysAt (scores m d) 3) fun f hf => hf) $$ Hk
  ihave Hn := (holds_row main_v0_1 d (Memref.whole main_v0_1) (View.set_whole _) (numRow m d) (numsAt (scores m d) 3) fun f hf => hf) $$ Hn
  isplitl [Hx Hk Hn Hp]
  · isplitl [Hx]; · iexact Hx
    isplitl [Hk]; · iexact Hk
    isplitl [Hn]; · iexact Hn
    iexact Hp
  isplitl [H0]; · iexact H0
  iexact H1

/-- What is kept to the end: the scores, the two results, the barrier semaphores. -/
abbrev FIN (d : Dev nD) : sProp 𝕄 :=
  iprop((xLoc d ↦{fullShare} m (xLoc d)) ∗ ((SparseCore.T d).loc main_v4 ↦{fullShare} values m d) ∗ ((SparseCore.T d).loc main_v5 ↦{fullShare} numbers m d)
    ∗ bars d core₀ ∗ bars d core₁)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_host, held_host, main_eq, wp_bind]
  iintro ⟨#Hctx, Hst, ⟨Hb, ⟨Hx, Hk, Hn, Hp, H1, Hc, H2, H3, H4, H5⟩, Hts, -⟩, -⟩
  iapply ((K (F := F)).wp_run (D (F := F)) 𝒱 (EH := EH) (P := P m) κ d 0) $$ [Hst Hx Hk Hn Hp Hb Hts H1 Hc H2 H3 H4 H5]
  isplitr; · iexact Hctx
  isplitl [Hst]; · iexact Hst
  isplitl [Hx Hk Hn Hp]
  · iapply (starts m d)
    unfold starting
    isplitl [Hx]; · iexact Hx
    isplitl [Hk]; · iexists _; iexact Hk
    isplitl [Hn]; · iexists _; iexact Hn
    iexists _; iexact Hp
  iintro ⟨Hst, Hdn⟩
  ihave Hdn := (ends m d) $$ Hdn
  icases Hdn with ⟨⟨Hx, Hk, Hn, %f, Hp⟩, Hbars⟩
  iapply (wp_seq 𝒱 none Set.univ d hostSet _ ops within settled (after_call m d f)) $$ [Hb Hx Hk Hn Hp H1 Hc H2 H3 H4 H5]
  · isplitl [Hb]; · iexact Hb
    iapply (Entails.of_eq (held_host d (after_call m d f)).symm)
    rw [at_x, at_k, at_n, at_p, at_other m d f (b := at' main_v1) (by decide) (by decide) (by decide), at_other m d f (b := at' main_c) (by decide) (by decide) (by decide),
      at_other m d f (b := at' main_v2) (by decide) (by decide) (by decide), at_other m d f (b := at' main_v3) (by decide) (by decide) (by decide),
      at_other m d f (b := at' main_v4) (by decide) (by decide) (by decide), at_other m d f (b := at' main_v5) (by decide) (by decide) (by decide)]
    isplitl [Hx]; · iexact Hx
    isplitl [Hk]; · iexact Hk
    isplitl [Hn]; · iexact Hn
    isplitl [Hp]; · iexact Hp
    isplitl [H1]; · iexact H1
    isplitl [Hc]; · iexact Hc
    isplitl [H2]; · iexact H2
    isplitl [H3]; · iexact H3
    isplitl [H4]; · iexact H4
    iexact H5
  iintro ⟨Hb, Hheld⟩
  ihave Hh := (Entails.of_eq (held_host d (after ops (after_call m d f)))) $$ Hheld
  rw [after_x, after_4, after_5]
  icases Hh with ⟨Hx, -, -, -, -, -, -, -, H4, H5⟩
  rw [wp_pure]; imodintro
  isplitl [Hst]; · iexact Hst
  isplitr [Hb Hts]
  · isplitl [Hx]; · iexact Hx
    isplitl [H4]; · iexact H4
    isplitl [H5]; · iexact H5
    iexact Hbars
  isplitl [Hb] <;> iassumption

/-- What the claims read at the end. -/
def fq (d : Dev nD) (s' : Phys nD τ sig (Elt F)) : Prop :=
  (s'.mem.mem (xLoc d) = m (xLoc d) ∧ s'.mem.mem ((SparseCore.T d).loc main_v4) = values m d ∧ s'.mem.mem ((SparseCore.T d).loc main_v5) = numbers m d)
    ∧ (∀ j : Num, s'.mem.sem (cell d core₀ j) = 0) ∧ ∀ j : Num, s'.mem.sem (cell d core₁ j) = 0

theorem read_one (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have hb (c : Fin τ.nSC) (j : Num) : (bars d c : sProp 𝕄) ⊢ semVal (cell d c j) 0 := SparseCore.ent (bigSep_elim (Finset.mem_univ j))
  have h1 : (FIN m d : sProp 𝕄) ⊢ xLoc d ↦{fullShare} m (xLoc d) := by iintro ⟨H, -⟩; iexact H
  have h2 : (FIN m d : sProp 𝕄) ⊢ (SparseCore.T d).loc main_v4 ↦{fullShare} values m d := by iintro ⟨-, H, -⟩; iexact H
  have h3 : (FIN m d : sProp 𝕄) ⊢ (SparseCore.T d).loc main_v5 ↦{fullShare} numbers m d := by iintro ⟨-, -, H, -⟩; iexact H
  have h4 : (FIN m d : sProp 𝕄) ⊢ bars d core₀ := by iintro ⟨-, -, -, H, -⟩; iexact H
  have h5 : (FIN m d : sProp 𝕄) ⊢ bars d core₁ := by iintro ⟨-, -, -, -, H⟩; iexact H
  exact fun x hx => ⟨⟨((sep_mono_left h1).trans (read_one _ _ s')) x hx, ((sep_mono_left h2).trans (read_one _ _ s')) x hx, ((sep_mono_left h3).trans (read_one _ _ s')) x hx⟩,
    fun j => ((sep_mono_left (h4.trans (hb core₀ j))).trans (SparseCore.Cfg.semVal_zero_read _ s')) x hx,
    fun j => ((sep_mono_left (h5.trans (hb core₁ j))).trans (SparseCore.Cfg.semVal_zero_read _ s')) x hx⟩

theorem hA (s' : Phys nD τ sig (Elt F)) (h : ∀ d, fq m d s') (g : GSem nD τ sig) (hg : g ∈ cells) : s'.mem.sem g = 0 := by
  obtain ⟨⟨d, c, i⟩, -, rfl⟩ := Finset.mem_image.mp hg
  rcases c with ⟨_ | _ | c, hc⟩
  · exact (h d).2.1 ⟨i.val, i.isLt⟩
  · exact (h d).2.2 ⟨i.val, i.isLt⟩
  · exact absurd hc (by show ¬ c + 2 < 2; omega)

/-- The program's end: the scores as they were, the two results, every semaphore at zero. -/
def QC : PUnit × MemSt nD τ sig (Elt F) → Prop := fun r =>
  (∀ c : Dev nD, r.2.mem (xLoc c) = m (xLoc c) ∧ r.2.mem ((SparseCore.T c).loc main_v4) = values m c ∧ r.2.mem ((SparseCore.T c).loc main_v5) = numbers m c) ∧ r.2.sem = fun _ => 0

theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m facts)
    (fun q _ => match q with | 0 => Split.vecSplit m)
    m ρ main (fun _ => iprop(emp)) (FIN m) (u₀ (F := F)) (hu₀ m) (hmain m ρ) (fq m) (hfin m) (QC m) (fun _ h hz => ⟨fun c => (h c).1, hz⟩)

end Cert.Proof.Main

end
-- ==== Proof.Ref.lean ====
/-
  The reference's run: the host's selection of the greatest, read at the two results and at the argument.
-/
module

public import proofs.«01_k».proof.Defs
public import proofs.«01_k».proof.Proof.Gen.Reference
public import Idealize.ShloMosaic.Lib.StableHlo.Run
public import Idealize.ShloMosaic.Lib.Quiescent
public import Idealize.ShloMosaic.Adequacy
public import Idealize.ShloMosaic.Init

@[expose] public section

noncomputable section

namespace Cert.Proof.Ref

open Idealize.ShloMosaic Idealize.ShloMosaic.TcCoe Idealize.ShloMosaic.StableHlo Idealize.SL.Sem
open Cert.Reference Cert.Reference.Gen

variable {F : FTy → Type} [FloatOps F]

/-- The greatest, with their numbers. -/
abbrev top (x : (⟨S100000, .f32⟩ : BufTy).Contents (Elt F)) : (⟨S50000, .f32⟩ : BufTy).Contents (Elt F) × (⟨S50000, .i32⟩ : BufTy).Contents (Elt F) :=
  Host.topK S50000 0 (FloatOps.cmpfTotal .gt) x Facts₀.sliceFits_S100000_S50000

abbrev ops : List (HloOp τ sig (Elt F)) :=
  [unary main_arg0 main_values (fun x => (top (F := F) x).1), unary main_arg0 main_indices (fun x => (top (F := F) x).2)]

theorem main_eq (c : Dev nD) : main (F := F) c = seq ops := rfl

variable (m : (ℓ : Loc nD τ sig) → Buf (Elt F) ℓ) (ρ : Dev nD → PrngReg)

theorem no_refs : (Finset.univ.filter fun b : Ref sig .tc => b.isScoped) = ∅ := by decide
theorem no_sems : (Finset.univ.filter fun sm : SemLoc sig => sm.isScoped .tc) = ∅ := by decide

/-- The reference's end: its argument as it was, its two results. -/
theorem run_main : θ_run defs (onTc (τ := τ) (main (F := F))) ⟨m, fun _ => 0, ρ⟩ fun r => ∀ c : Dev nD,
    r.2.mem ((c.tc : Thread nD τ).loc main_values) = (top (F := F) (m ((c.tc : Thread nD τ).loc main_arg0))).1
      ∧ r.2.mem ((c.tc : Thread nD τ).loc main_indices) = (top (F := F) (m ((c.tc : Thread nD τ).loc main_arg0))).2
      ∧ r.2.mem ((c.tc : Thread nD τ).loc main_arg0) = m ((c.tc : Thread nD τ).loc main_arg0) := by
  refine (θ_run _ _ _).mono (fun r h c => ⟨(h c main_values).trans ?_, (h c main_indices).trans ?_, (h c main_arg0).trans ?_⟩)
    (run_seq no_refs no_sems defs main (fun _ => ops) main_eq (fun _ => ⟨unary_bufs_sub .., unary_bufs_sub ..⟩) m ρ)
  · after_results_simp
  · after_results_simp
  · after_results_simp

/-- No semaphore is there to change. -/
theorem still (st : MemSt nD τ sig (Elt F)) : st.sem = fun _ => 0 := sem_eq_zero_of_no_sems (by decide) st

end Cert.Proof.Ref

end
-- ==== Proof.Order.lean ====
/-
  Three passes of the radix sort put the elements in the order of their keys, equal keys in the order of their numbers.
-/
module

public import proofs.«01_k».proof.Proof.TileRun
public import Idealize.ShloMosaic.Lib.PlanTiles.StableSort
public import Idealize.ShloMosaic.Lib.SortKey

@[expose] public section

noncomputable section

namespace Cert.Proof.Order

open Idealize.ShloMosaic Cert.Proof.Digits Cert.Proof.Radix Cert.Proof.Stages Cert.Proof.TileRun

/-! ## Where each element comes from -/

section Arrange
variable {F : FTy → Type} [BitOps F] (sc : ℕ → F .f32)

/-- The number of the element at `j` after `p` passes. -/
def arr : ℕ → ℕ → ℕ
  | 0, j => j
  | p + 1, j => arr p (back (place p) (keysAt sc p) j)

theorem arr_zero (j : ℕ) : arr sc 0 j = j := by rw [arr]

theorem arr_succ (p j : ℕ) : arr sc (p + 1) j = arr sc p (back (place p) (keysAt sc p) j) := by rw [arr]

theorem keysAt_arr (p j : ℕ) : keysAt sc p j = keys0 sc (arr sc p j) := by
  induction p generalizing j with
  | zero => rw [keysAt_zero, arr_zero]
  | succ p ih => rw [keysAt_succ, moved, ih, arr_succ]

theorem numsAt_arr (p j : ℕ) : numsAt sc p j = nums0 (arr sc p j) := by
  induction p generalizing j with
  | zero => rw [numsAt_zero, arr_zero]
  | succ p ih => rw [numsAt_succ, moved, ih, arr_succ]

theorem arr_lt (p : ℕ) {j : ℕ} (hj : j < size) : arr sc p j < size := by
  induction p generalizing j with
  | zero => rw [arr_zero]; exact hj
  | succ p ih => rw [arr_succ]; exact ih (back_spec _ _ hj).1

/-- The order of `p` digits, the last digit first, equal elements by number. -/
def Before : ℕ → ℕ → ℕ → Prop
  | 0, i, i' => i < i'
  | p + 1, i, i' => dig (place p) (keys0 sc i) < dig (place p) (keys0 sc i') ∨ dig (place p) (keys0 sc i) = dig (place p) (keys0 sc i') ∧ Before p i i'

/-- After `p` passes the elements are in the order of `p` digits. -/
theorem arr_before (p : ℕ) {j j' : ℕ} (h : j < j') (hj' : j' < size) : Before sc p (arr sc p j) (arr sc p j') := by
  induction p generalizing j j' with
  | zero => rw [arr_zero, arr_zero, Before]; exact h
  | succ p ih =>
    have hb := back_spec (place p) (keysAt sc p) (j := j) (by omega)
    have hb' := back_spec (place p) (keysAt sc p) hj'
    have := spot_order (place p) (keysAt sc p) hb.1 hb'.1 (by rw [hb.2, hb'.2]; exact h)
    rw [keysAt_arr, keysAt_arr] at this
    rw [Before, arr_succ, arr_succ]
    exact this.imp_right fun ⟨he, hlt⟩ => ⟨he, ih hlt hb'.1⟩

end Arrange

/-! ## Digits of a key -/

theorem dig_eq {w : BitVec 32} (hw : w.toNat < 2 ^ 31) {p : ℕ} (hp : p < 3) : dig (place p) w = w.toNat / 2 ^ (11 * p) % 2048 := by
  have hm : w.msb = false := by rw [BitVec.msb_eq_false_iff_two_mul_lt]; omega
  have hs : 11 * p % 2 ^ 32 = 11 * p := Nat.mod_eq_of_lt (by omega)
  unfold dig digW IntOp.andi IntOp.shrsi place
  rw [BitVec.toNat_ofNat, hs, if_pos (by omega), BitVec.toNat_and, show (2047#32).toNat = 2 ^ 11 - 1 from rfl, Nat.and_two_pow_sub_one_eq_mod,
    BitVec.sshiftRight'_ofNat_eq_sshiftRight, BitVec.sshiftRight_eq_of_msb_false hm, BitVec.toNat_ushiftRight, Nat.shiftRight_eq_div_pow,
    hs]

/-- A key and a number as one number. -/
def rank (K : ℕ → BitVec 32) (i : ℕ) : ℕ := (K i).toNat * 2 ^ 17 + i

theorem rank_inj (K : ℕ → BitVec 32) {i i' : ℕ} (hi : i < size) (hi' : i' < size) (h : rank K i = rank K i') : i = i' := by
  unfold rank at h
  unfold size at hi hi'
  omega

section Three
variable {F : FTy → Type} [BitOps F] (sc : ℕ → F .f32)

/-- The order of three digits is the order of the keys. -/
theorem rank_before (hk : ∀ i, (keys0 sc i).toNat < 2 ^ 31) {i i' : ℕ} (hi : i < size) (hi' : i' < size) (h : Before sc 3 i i') :
    rank (keys0 sc) i < rank (keys0 sc) i' := by
  simp only [Before] at h
  rw [dig_eq (hk i) (by decide), dig_eq (hk i') (by decide), dig_eq (hk i) (by decide), dig_eq (hk i') (by decide),
    dig_eq (hk i) (by decide), dig_eq (hk i') (by decide)] at h
  have a := hk i
  have a' := hk i'
  unfold rank
  unfold size at hi hi'
  norm_num at h
  omega

/-- After three passes the elements are in order. -/
theorem arr_rank (hk : ∀ i, (keys0 sc i).toNat < 2 ^ 31) {j j' : ℕ} (h : j < j') (hj' : j' < size) :
    rank (keys0 sc) (arr sc 3 j) < rank (keys0 sc) (arr sc 3 j') :=
  rank_before sc hk (arr_lt sc 3 (by omega)) (arr_lt sc 3 hj') (arr_before sc 3 h hj')

end Three

/-- Two arrangements in order are one. -/
theorem same_order (Φ f g : ℕ → ℕ) (hΦ : ∀ i < size, ∀ i' < size, Φ i = Φ i' → i = i') (hf : ∀ j < size, f j < size) (hg : ∀ j < size, g j < size)
    (sf : ∀ j j', j < j' → j' < size → Φ (f j) < Φ (f j')) (sg : ∀ j j', j < j' → j' < size → Φ (g j) < Φ (g j')) : ∀ j < size, f j = g j := by
  have inj (f : ℕ → ℕ) (sf : ∀ j j', j < j' → j' < size → Φ (f j) < Φ (f j')) : ∀ i < size, ∀ i' < size, f i = f i' → i = i' := by
    intro i hi i' hi' h
    rcases Nat.lt_trichotomy i i' with hl | hl | hl
    · have := sf i i' hl hi'; rw [h] at this; omega
    · exact hl
    · have := sf i' i hl hi; rw [h] at this; omega
  have half (f g : ℕ → ℕ) (hf : ∀ j < size, f j < size) (hg : ∀ j < size, g j < size)
      (sf : ∀ j j', j < j' → j' < size → Φ (f j) < Φ (f j')) (sg : ∀ j j', j < j' → j' < size → Φ (g j) < Φ (g j'))
      (j : ℕ) (hj : j < size) (ih : ∀ k < j, f k = g k) : ¬ Φ (f j) < Φ (g j) := by
    intro hlt
    obtain ⟨k, hk, he⟩ := onto g hg (inj g sg) (f j) (hf j hj)
    rcases Nat.lt_or_ge k j with h | h
    · have := inj f sf k hk j hj ((ih k h).trans he); omega
    · rcases Nat.eq_or_lt_of_le h with rfl | h
      · rw [he] at hlt; omega
      · have := sg j k h hk; rw [he] at this; omega
  intro j
  induction j using Nat.strong_induction_on with
  | _ j ih =>
    intro hj
    have h1 := half f g hf hg sf sg j hj fun k hk => ih k hk (by omega)
    have h2 := half g f hg hf sg sf j hj fun k hk => (ih k hk (by omega)).symm
    exact hΦ _ (hf j hj) _ (hg j hj) (by omega)

/-! ## The stable sort -/

/-- A stable sort by a number, the greatest first, leaves equal ones in the order of their positions. -/
theorem sortedFrom_order {n : ℕ} (G : Fin n → ℕ) {i j : Fin n} (h : i < j) :
    G (sortedFrom (fun a b => decide (G b < G a)) j) < G (sortedFrom (fun a b => decide (G b < G a)) i)
      ∨ G (sortedFrom (fun a b => decide (G b < G a)) i) = G (sortedFrom (fun a b => decide (G b < G a)) j)
        ∧ sortedFrom (fun a b => decide (G b < G a)) i < sortedFrom (fun a b => decide (G b < G a)) j := by
  have hp := PlanTiles.pairwise_stableSort_lex G (· < ·) (List.finRange n) (List.pairwise_lt_finRange n)
  exact List.pairwise_iff_get.mp hp _ _ (show (i.cast _ : Fin _) < j.cast _ from h)

end Cert.Proof.Order

end
-- ==== Proof.Value.lean ====
/-
  The kernel's two results are the host's: the greatest scores in order, equal ones by number.
-/
module

public import proofs.«01_k».proof.Proof.Order
public import proofs.«01_k».proof.Proof.Main
public import proofs.«01_k».proof.Proof.Ref
public import proofs.«01_k».proof.Pre_below_two

@[expose] public section

noncomputable section

namespace Cert.Proof.Value

open Idealize.ShloMosaic Cert.Proof.Radix Cert.Proof.Stages Cert.Proof.TileRun Cert.Proof.Order Cert.Proof.Setup

/-! ## The keys of scores that are small enough -/

section Keys
variable (sc : ℕ → Bits .f32) (h : ∀ j, (sc j : BitVec 32).toNat ≤ 1073741823)
include h

theorem toNat_keyOf (j : ℕ) : (keyOf (F := Bits) (sc j)).toNat = 1073741823 - (sc j : BitVec 32).toNat := by
  have := h j
  show (1073741823#32 - (sc j : BitVec 32)).toNat = _
  rw [BitVec.toNat_sub_of_le (by rw [BitVec.le_def]; exact this)]
  rfl

theorem keys0_lt (j : ℕ) : (keys0 (F := Bits) sc j).toNat < 2 ^ 31 := by
  unfold keys0
  split
  · rw [toNat_keyOf sc h]; omega
  · decide

/-- The host's arrangement of the scores, the padding left after them. -/
def host (j : ℕ) : ℕ :=
  if hj : j < 100000 then (sortedFrom (n := 100000) (fun a b => decide ((sc b.val : BitVec 32).toNat < (sc a.val : BitVec 32).toNat)) ⟨j, hj⟩).val else j

omit h in
theorem host_lt {j : ℕ} (hj : j < size) : host sc j < size := by
  unfold size at *
  unfold host
  split
  · exact lt_trans (Fin.isLt _) (by decide)
  · exact hj

omit h in
theorem host_in {j : ℕ} (hj : j < 100000) : host sc j < 100000 := by
  unfold host
  rw [dif_pos hj]
  exact Fin.isLt _

omit h in
theorem host_out {j : ℕ} (hj : ¬ j < 100000) : host sc j = j := by
  unfold host
  rw [dif_neg hj]

omit h in
theorem host_order {j j' : ℕ} (hl : j < j') (hj' : j' < 100000) :
    (sc (host sc j') : BitVec 32).toNat < (sc (host sc j) : BitVec 32).toNat
      ∨ (sc (host sc j) : BitVec 32).toNat = (sc (host sc j') : BitVec 32).toNat ∧ host sc j < host sc j' := by
  unfold host
  rw [dif_pos hj', dif_pos (lt_trans hl hj')]
  exact sortedFrom_order (n := 100000) (fun a => (sc a.val : BitVec 32).toNat) (i := ⟨j, lt_trans hl hj'⟩) (j := ⟨j', hj'⟩) (Fin.mk_lt_mk.mpr hl)

theorem toNat_keys0_in {j : ℕ} (hj : j < 100000) : (keys0 (F := Bits) sc j).toNat = 1073741823 - (sc j : BitVec 32).toNat := by
  unfold keys0
  rw [if_pos hj, toNat_keyOf sc h]

omit h in
theorem toNat_keys0_out {j : ℕ} (hj : ¬ j < 100000) : (keys0 (F := Bits) sc j).toNat = 2147483647 := by
  unfold keys0
  rw [if_neg hj]
  decide

theorem host_rank {j j' : ℕ} (hl : j < j') (hj' : j' < size) : rank (keys0 (F := Bits) sc) (host sc j) < rank (keys0 (F := Bits) sc) (host sc j') := by
  unfold size at hj'
  unfold rank
  by_cases h' : j' < 100000
  · have ho := host_order sc hl h'
    have ha := h (host sc j)
    have hb := h (host sc j')
    have la := host_in sc (j := j) (by omega)
    have lb := host_in sc h'
    rw [toNat_keys0_in sc h la, toNat_keys0_in sc h lb]
    omega
  · rw [host_out sc h', toNat_keys0_out sc h']
    by_cases hj : j < 100000
    · have la := host_in sc hj
      rw [toNat_keys0_in sc h la]
      omega
    · rw [host_out sc hj, toNat_keys0_out sc hj]
      omega

/-- Three passes arrange the scores as the host does. -/
theorem arr_host {j : ℕ} (hj : j < size) : arr (F := Bits) sc 3 j = host sc j :=
  same_order (rank (keys0 (F := Bits) sc)) (arr (F := Bits) sc 3) (host sc) (fun _ hi _ hi' he => rank_inj _ hi hi' he)
    (fun _ hj => arr_lt (F := Bits) sc 3 hj) (fun _ hj => host_lt sc hj)
    (fun _ _ hl hl' => arr_rank (F := Bits) sc (keys0_lt sc h) hl hl') (fun _ _ hl hl' => host_rank sc h hl hl') j hj

end Keys

/-! ## The precondition -/

/-- The precondition's shape facts. -/
instance facts : Cert.Pre_below_two.Facts := ⟨by decide⟩

abbrev Row : Type := (⟨Cert.Reference.S100000, .f32⟩ : BufTy).Contents (Elt Bits)

/-- What the precondition says of each score's bits. -/
theorem small (x : Row) (hx : Cert.Pre_below_two.fn (F := Bits) x = fun _ => 1#1) (j : ℕ) :
    (byNum (n := 100000) (by decide) x j : BitVec 32).toNat ≤ 1073741823 := by
  obtain ⟨i, hi⟩ : ∃ i, byNum (n := 100000) (by decide) x j = x i := ⟨_, rfl⟩
  rw [hi]
  have h := congrFun hx i
  have h' : IntOp.andi (IntOp.cmpi .sge (x i : BitVec 32) 0#32) (IntOp.cmpi .sle (x i : BitVec 32) 1073741823#32) = 1#1 := h
  obtain ⟨h1, h2⟩ := (IntOp.andi_eq_one ..).mp h'
  have h1 := (IntOp.cmpi_sge ..).mp h1
  have h2 := (IntOp.cmpi_sle ..).mp h2
  rw [show (0#32).toInt = 0 by decide] at h1
  rw [show (1073741823#32).toInt = 1073741823 by decide] at h2
  have := BitVec.toInt_eq_toNat_cond (x i : BitVec 32)
  have hl := (x i : BitVec 32).isLt
  split at this <;> omega

/-! ## The host's selection -/

/-- The host's comparison of small scores. -/
theorem gt_small {a b : BitVec 32} (ha : a.toNat ≤ 1073741823) (hb : b.toNat ≤ 1073741823) :
    (FloatOps.cmpfTotal (F := Bits) (φ := .f32) .gt a b == 1#1) = decide (b.toNat < a.toNat) := by
  have ma : a.msb = false := by rw [BitVec.msb_eq_false_iff_two_mul_lt]; omega
  have mb : b.msb = false := by rw [BitVec.msb_eq_false_iff_two_mul_lt]; omega
  rw [cmpfTotal_f32_eq_cmpi_sortableKey, sortableKey_of_msb_false _ ma, sortableKey_of_msb_false _ mb, Bool.eq_iff_iff, beq_iff_eq, decide_eq_true_iff]
  refine (IntOp.cmpi_sgt ..).trans ?_
  rw [BitVec.toInt_eq_toNat_of_msb ma, BitVec.toInt_eq_toNat_of_msb mb]
  omega

/-- The score at a place of the one fiber. -/
theorem along_eq (x : Row) (J : Cert.Reference.S100000.Idx) (k : Fin 100000) : x (J.along 0 k) = byNum (n := 100000) (by decide) x k.val := by
  refine congrArg x (funext fun a => ?_)
  obtain rfl : a = 0 := Subsingleton.elim _ _
  refine (Function.update_self ..).trans (Fin.ext ?_)
  exact (Nat.mod_eq_of_lt k.isLt).symm

theorem along_val (J : Cert.Reference.S100000.Idx) (k : Fin 100000) : ((J.along 0 k) 0).val = k.val :=
  congrArg Fin.val (Function.update_self (β := fun a => Fin (Cert.Reference.S100000.size a)) (0 : Fin 1) k J)

/-- The place of the row that a result's place is. -/
def place' (i : Cert.Reference.S50000.Idx) : Cert.Reference.S100000.Idx := fun a => ⟨(i 0).val, by
  obtain rfl : a = 0 := Subsingleton.elim _ _
  exact lt_trans (i 0).isLt (by decide)⟩

/-- Where the host takes its result from, as the host compares. -/
def source (x : Row) (i : Cert.Reference.S50000.Idx) : Fin 100000 :=
  sortedFrom (n := 100000) (fun k k' => FloatOps.cmpfTotal (F := Bits) (φ := .f32) .gt (x ((place' i).along 0 k)) (x ((place' i).along 0 k')) == 1#1) (place' i 0)

theorem slice_place (i : Cert.Reference.S50000.Idx) (h : Cert.Reference.S100000.Slices (fun _ => 0) Cert.Reference.S50000) :
    (fun a => ⟨0 + (i (a.cast h.1.symm)).val, Nat.lt_of_lt_of_le (Nat.add_lt_add_left (i _).isLt _) (h.2 a)⟩ : Cert.Reference.S100000.Idx) = place' i := by
  funext a
  obtain rfl : a = 0 := Subsingleton.elim _ _
  exact Fin.ext (Nat.zero_add _)

theorem top_val (x : Row) (i : Cert.Reference.S50000.Idx) : (Ref.top (F := Bits) x).1 i = x ((place' i).along 0 (source x i)) := by
  unfold Ref.top Host.topK Host.sort2 extractStridedSlice
  dsimp only
  rw [slice_place i Cert.Reference.Facts₀.sliceFits_S100000_S50000, dif_pos (by decide)]
  rfl

theorem top_num (x : Row) (i : Cert.Reference.S50000.Idx) : (Ref.top (F := Bits) x).2 i = BitVec.ofNat 32 (source x i).val := by
  unfold Ref.top Host.topK Host.sort2 extractStridedSlice
  dsimp only
  rw [slice_place i Cert.Reference.Facts₀.sliceFits_S100000_S50000, dif_pos (by decide)]
  dsimp only
  rw [dif_pos (by decide)]
  exact congrArg (BitVec.ofNat 32) (along_val (place' i) (source x i))

/-- The host's source is the arrangement's. -/
theorem source_eq (x : Row) (hx : Cert.Pre_below_two.fn (F := Bits) x = fun _ => 1#1) (i : Cert.Reference.S50000.Idx) :
    (source x i).val = host (byNum (n := 100000) (by decide) x) (i 0).val := by
  have hi : (i 0).val < 100000 := lt_trans (i 0).isLt (by decide)
  unfold source host
  rw [dif_pos hi]
  refine congrArg Fin.val (congrFun (congrArg (sortedFrom (n := 100000)) (funext fun k => funext fun k' => ?_)) _)
  exact ((congrArg₂ (fun a b => FloatOps.cmpfTotal (F := Bits) (φ := .f32) .gt a b == 1#1) (along_eq x (place' i) k) (along_eq x (place' i) k'))).trans
    (gt_small (small x hx k) (small x hx k'))

/-- Where the host takes its `j`-th result from. -/
theorem top_eq (x : Row) (hx : Cert.Pre_below_two.fn (F := Bits) x = fun _ => 1#1) (i : Cert.Reference.S50000.Idx) :
    (Ref.top (F := Bits) x).1 i = byNum (n := 100000) (by decide) x (host (byNum (n := 100000) (by decide) x) (i 0).val)
      ∧ (Ref.top (F := Bits) x).2 i = BitVec.ofNat 32 (host (byNum (n := 100000) (by decide) x) (i 0).val) := by
  rw [← source_eq x hx i]
  exact ⟨(top_val x i).trans (along_eq x _ _), top_num x i⟩

/-! ## The kernel's results -/

theorem sub_again (c b : BitVec 32) : c - (c - b) = b := by
  refine BitVec.eq_of_toNat_eq ?_
  have := c.isLt
  have := b.isLt
  rw [BitVec.toNat_sub, BitVec.toNat_sub]
  omega

section Results
variable (m : (ℓ : Loc Cert.Kernel.nD Cert.Kernel.τ Cert.Kernel.sig) → Buf (Elt Bits) ℓ) (c : Dev Cert.Kernel.nD)
  (hx : Cert.Pre_below_two.fn (F := Bits) (m (xLoc c)) = fun _ => 1#1)
include hx

theorem arr_scores (i : Cert.Reference.S50000.Idx) : arr (F := Bits) (scores m c) 3 (i 0).val = host (scores m c) (i 0).val :=
  arr_host (scores m c) (small (m (xLoc c)) hx) (lt_trans (i 0).isLt (by decide))

theorem keys_scores (i : Cert.Reference.S50000.Idx) :
    keysAt (F := Bits) (scores m c) 3 (i 0).val = keyOf (F := Bits) (scores m c (host (scores m c) (i 0).val)) := by
  rw [keysAt_arr, arr_scores m c hx i]
  unfold keys0
  rw [if_pos (host_in _ (lt_trans (i 0).isLt (by decide)))]

theorem values_eq : Main.values (F := Bits) m c = (Ref.top (F := Bits) (m (xLoc c))).1 := by
  funext i
  rw [(top_eq _ hx i).1]
  have h : Main.values (F := Bits) m c i = (1073741823#32 - keysAt (F := Bits) (scores m c) 3 (0 + (i 0).val) : BitVec 32) := rfl
  rw [h, Nat.zero_add, keys_scores m c hx i]
  unfold keyOf
  exact sub_again _ _

theorem numbers_eq : Main.numbers (F := Bits) m c = (Ref.top (F := Bits) (m (xLoc c))).2 := by
  funext i
  rw [(top_eq _ hx i).2]
  have h : Main.numbers (F := Bits) m c i = numsAt (F := Bits) (scores m c) 3 (0 + (i 0).val) := rfl
  rw [h, Nat.zero_add, numsAt_arr, arr_scores m c hx i]
  rfl

end Results

end Cert.Proof.Value

end
-- ==== Proof.Table.lean ====
/-
  Tables, by row and column number: what a thread holds of one is a set of rows and, at each place of them, the value that
  a function of the two numbers gives. Windows of rows, loads, stores, copies and gathers in those terms.
-/
module

public import proofs.«01_k».proof.Proof.Words
public import Idealize.ShloMosaic.Lib.SparseCore.Stream

@[expose] public section

noncomputable section

namespace Cert.Proof.Table

open Idealize.ShloMosaic
open Idealize.SL Idealize.SL.RA Idealize.SL.BI
open scoped Idealize.SL.BI
open Idealize.SL.BI.BIBase Idealize.SL.BI.Laws Idealize.SL.ProofMode Idealize.SL.Sem
open Cert.Proof.Words

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp sp' : Space} {e : EltTy} {α : Type} {Q : α → sProp (MT nD τ sig Ix (Elt F) Name U Lvl)}

local notation "𝕄" => MT nD τ sig Ix (Elt F) Name U Lvl

/-- The shape of a table of `a` rows of `b` places. -/
abbrev Grid (a b : ℕ) : Shape := ⟨2, ![a, b]⟩

/-- The places in the rows that a property names. -/
def rowsOf {a b : ℕ} (P : ℕ → Prop) : Finset (Grid a b).Idx := open Classical in Finset.univ.filter fun x => P (x 0).val

omit [FloatOps F] in
theorem mem_rowsOf {a b : ℕ} {P : ℕ → Prop} {x : (Grid a b).Idx} : x ∈ (rowsOf P : Finset (Grid a b).Idx) ↔ P (x 0).val := by
  unfold rowsOf; simp

/-- The place of a row and a column. -/
def spot {a b : ℕ} (i j : ℕ) (hi : i < a) (hj : j < b) : (Grid a b).Idx := Fin.cons ⟨i, hi⟩ (Fin.cons ⟨j, hj⟩ (fun x => x.elim0))

@[simp] theorem spot_row {a b : ℕ} (i j : ℕ) (hi : i < a) (hj : j < b) : ((spot i j hi hj : (Grid a b).Idx) 0).val = i := rfl
@[simp] theorem spot_col {a b : ℕ} (i j : ℕ) (hi : i < a) (hj : j < b) : ((spot i j hi hj : (Grid a b).Idx) 1).val = j := rfl

theorem grid_ext {a b : ℕ} {x y : (Grid a b).Idx} (h0 : (x 0).val = (y 0).val) (h1 : (x 1).val = (y 1).val) : x = y := by
  funext k
  match k with
  | 0 => exact Fin.ext h0
  | 1 => exact Fin.ext h1

/-- The rows of the table that `P` names, holding what `g` gives. -/
def Sheet {a b : ℕ} (m : Memref sig c.2.kind sp (Grid a b) e) (P : ℕ → Prop) (q : PosShare TreeShare) (g : ℕ → ℕ → Elt F e) : sProp 𝕄 :=
  iprop(∃ f, ⌜∀ x : (Grid a b).Idx, P (x 0).val → m.view.read (Elt F) f x = g (x 0).val (x 1).val⌝ ∗ (m.view.loc c ↦[m.view.setOn (rowsOf P)]{q} f))

/-- The whole table. -/
abbrev Full {a b : ℕ} (m : Memref sig c.2.kind sp (Grid a b) e) (q : PosShare TreeShare) (g : ℕ → ℕ → Elt F e) : sProp 𝕄 :=
  Sheet c m (fun _ => True) q g

omit [FloatOps F] [Preorder Lvl] in
theorem sheet_mono {a b : ℕ} {m : Memref sig c.2.kind sp (Grid a b) e} {P P' : ℕ → Prop} {q} {g h : ℕ → ℕ → Elt F e}
    (hP : ∀ i < a, P i ↔ P' i) (hg : ∀ i < a, ∀ j < b, P i → g i j = h i j) : Sheet c m P q g ⊢ (Sheet c m P' q h : sProp 𝕄) := by
  unfold Sheet
  have e : (rowsOf P : Finset (Grid a b).Idx) = rowsOf P' := Finset.ext fun x => by simp only [mem_rowsOf]; exact hP _ (x 0).isLt
  rw [e]
  iintro ⟨%f, %hf, H⟩
  iexists f
  isplitr
  · ipureintro
    intro x hx
    have hx' := (hP _ (x 0).isLt).mpr hx
    rw [hf x hx', hg _ (x 0).isLt _ (x 1).isLt hx']
  · iexact H

instance sheet_storable {a b : ℕ} (m : Memref sig c.2.kind sp (Grid a b) e) (P : ℕ → Prop) (q : PosShare TreeShare) (g : ℕ → ℕ → Elt F e) :
    BI.Storable (upEmb : UEmb _ 𝕄) (Sheet c m P q g) := by
  unfold Sheet; infer_instance

omit [FloatOps F] [Preorder Lvl] in
theorem setOn_rows_disjoint {a b : ℕ} (m : Memref sig c.2.kind sp (Grid a b) e) {P P' : ℕ → Prop} (h : ∀ i, P i → P' i → False) :
    Disjoint (m.view.setOn (rowsOf P)) (m.view.setOn (rowsOf P')) := by
  unfold View.setOn
  rw [Finset.disjoint_map, Finset.disjoint_left]
  intro x hx hx'
  exact h _ (mem_rowsOf.mp hx) (mem_rowsOf.mp hx')

omit [FloatOps F] [Preorder Lvl] in
theorem setOn_classes {a b : ℕ} (m : Memref sig c.2.kind sp (Grid a b) e) {T : Type} [Fintype T] [DecidableEq T] (P : ℕ → Prop) (κ : ℕ → T) :
    m.view.setOn (rowsOf P) = Finset.univ.biUnion fun t => m.view.setOn (rowsOf fun i => P i ∧ κ i = t) := by
  ext y
  simp only [View.setOn, Finset.mem_map, Finset.mem_biUnion, Finset.mem_univ, true_and, mem_rowsOf]
  constructor
  · rintro ⟨x, hx, rfl⟩; exact ⟨_, x, ⟨hx, rfl⟩, rfl⟩
  · rintro ⟨_, x, ⟨hx, -⟩, rfl⟩; exact ⟨x, hx, rfl⟩

omit [FloatOps F] [Preorder Lvl] in
/-- Rows sorted into finitely many classes are those of each class. -/
theorem sheet_classes {a b : ℕ} {m : Memref sig c.2.kind sp (Grid a b) e} {q} {g : ℕ → ℕ → Elt F e} {T : Type} [Fintype T] [DecidableEq T]
    (P : ℕ → Prop) (κ : ℕ → T) :
    (Sheet c m P q g : sProp 𝕄) ⊢ bigSep Finset.univ fun t => Sheet c m (fun i => P i ∧ κ i = t) q g := by
  classical
  unfold Sheet
  iintro ⟨%f, %hf, H⟩
  rw [setOn_classes c m P κ]
  ihave H' := (Entails.of_eq (pointsTo_biUnion (ℓ := m.view.loc c) (q := q) (f := f) Finset.univ (fun t => m.view.setOn (rowsOf fun i => P i ∧ κ i = t))
    (fun t _ t' _ hne => setOn_rows_disjoint c m fun i h h' => hne (h.2.symm.trans h'.2)))) $$ H
  have hone : ∀ t ∈ (Finset.univ : Finset T), (m.view.loc c ↦[m.view.setOn (rowsOf fun i => P i ∧ κ i = t)]{q} f : sProp 𝕄)
      ⊢ iprop(∃ f, ⌜∀ x : (Grid a b).Idx, (P (x 0).val ∧ κ (x 0).val = t) → m.view.read (Elt F) f x = g (x 0).val (x 1).val⌝
        ∗ (m.view.loc c ↦[m.view.setOn (rowsOf fun i => P i ∧ κ i = t)]{q} f)) := fun t _ => by
    iintro H
    iexists f
    isplitr
    · ipureintro; intro x hx; exact hf x hx.1
    · iexact H
  iapply (show (bigSep Finset.univ fun t => (m.view.loc c ↦[m.view.setOn (rowsOf fun i => P i ∧ κ i = t)]{q} f : sProp 𝕄)) ⊢ _ from bigSep_mono hone) $$ H'

omit [FloatOps F] [Preorder Lvl] in
/-- The classes together, each at its own values. -/
theorem sheet_join {a b : ℕ} {m : Memref sig c.2.kind sp (Grid a b) e} {q} {T : Type} [Fintype T] [DecidableEq T] [Nonempty T]
    (g : T → ℕ → ℕ → Elt F e) (P : ℕ → Prop) (κ : ℕ → T) :
    (bigSep Finset.univ fun t => Sheet c m (fun i => P i ∧ κ i = t) q (g t)) ⊢ (Sheet c m P q (fun i j => g (κ i) i j) : sProp 𝕄) := by
  classical
  unfold Sheet
  by_cases hne : Nonempty (m.view.ty.Contents (Elt F))
  swap
  · rw [SparseCore.bigSep_erase' (Finset.mem_univ (Classical.arbitrary T))]
    iintro ⟨⟨%f, -, -⟩, -⟩
    exact absurd ⟨f⟩ hne
  iintro H
  ihave H := (bigSep_choose Finset.univ (fun t f => ∀ x : (Grid a b).Idx, (P (x 0).val ∧ κ (x 0).val = t) → m.view.read (Elt F) f x = g t (x 0).val (x 1).val)
    (fun t f => (m.view.loc c ↦[m.view.setOn (rowsOf fun i => P i ∧ κ i = t)]{q} f : sProp 𝕄))) $$ H
  icases H with ⟨%k, %hk, H⟩
  ihave H := (pointsTo_biUnion_join (ℓ := m.view.loc c) (q := q) Finset.univ (fun t => m.view.setOn (rowsOf fun i => P i ∧ κ i = t)) k (k (Classical.arbitrary T))
      (fun t _ t' _ hne => setOn_rows_disjoint c m fun i h h' => hne (h.2.symm.trans h'.2))) $$ H
  icases H with ⟨%f, %hf, H⟩
  iexists f
  isplitr
  · ipureintro
    intro x hx
    show m.view.read (Elt F) f x = g (κ (x 0).val) (x 0).val (x 1).val
    rw [← hk _ (Finset.mem_univ (κ (x 0).val)) x ⟨hx, rfl⟩]
    exact View.read_congr_at x (hf _ (Finset.mem_univ (κ (x 0).val)) _ ((View.mem_setOn m.view).mpr (mem_rowsOf.mpr ⟨hx, rfl⟩)))
  · rw [setOn_classes c m P κ]; iexact H

omit [FloatOps F] [Preorder Lvl] in
/-- A window of rows is its own table. -/
theorem sheet_slice {a b : ℕ} {m : Memref sig c.2.kind sp (Grid a b) e} {q} {g h : ℕ → ℕ → Elt F e} {off : Fin 2 → ℕ} {k : ℕ}
    {inb : ∀ x, off x + (![k, b] : Fin 2 → ℕ) x ≤ (Grid a b).size x} {h1 : ∀ x, (Rect.unit (s := Grid a b) off ![k, b] inb).stride x = 1}
    (o : ℕ) (ho : off = ![o, 0]) (hgh : ∀ i < k, ∀ j < b, h i j = g (o + i) j) :
    (Sheet c m (fun i => o ≤ i ∧ i < o + k) q g : sProp 𝕄)
      = Full (a := k) (b := b) c (m.slice (Rect.unit (s := Grid a b) off ![k, b] inb) h1) q h := by
  subst ho
  unfold Full Sheet
  have hset : m.view.setOn (rowsOf fun i => o ≤ i ∧ i < o + k)
      = (m.slice (Rect.unit (s := Grid a b) ![o, 0] ![k, b] inb) h1).view.setOn (rowsOf (a := k) (b := b) fun _ => True) := by
    have e1 : (rowsOf (a := k) (b := b) fun _ => True) = Finset.univ := Finset.ext fun x => by simp [mem_rowsOf]
    rw [e1, View.setOn_univ]
    show _ = (m.view.slice (Rect.unit (s := Grid a b) ![o, 0] ![k, b] inb)).set
    rw [View.set_slice]
    unfold View.setOn
    congr 1
    ext x
    rw [mem_rowsOf, Rect.mem_set_unit]
    constructor
    · intro h b'
      match b' with
      | 0 => exact h
      | 1 => exact ⟨Nat.zero_le _, by have := (x 1).isLt; exact (Nat.zero_add b).symm ▸ this⟩
    · intro h; exact h 0
  have hr : ∀ (f : Buf (Elt F) (m.view.loc c)) (x : (Grid k b).Idx), (m.slice (Rect.unit (s := Grid a b) ![o, 0] ![k, b] inb) h1).view.read (Elt F) f x
      = m.view.read (Elt F) f ((Rect.unit (s := Grid a b) ![o, 0] ![k, b] inb).toLoadRect.idx x) := fun f x => rfl
  have hi0 : ∀ x : (Grid k b).Idx, ((Rect.unit (s := Grid a b) ![o, 0] ![k, b] inb).toLoadRect.idx x 0).val = o + (x 0).val := fun x => by
    rw [LoadRect.idx_apply]; simp [Rect.unit]
  have hi1 : ∀ x : (Grid k b).Idx, ((Rect.unit (s := Grid a b) ![o, 0] ![k, b] inb).toLoadRect.idx x 1).val = (x 1).val := fun x => by
    rw [LoadRect.idx_apply]; simp [Rect.unit]
  have hread : ∀ (f : Buf (Elt F) (m.view.loc c)), (∀ x : (Grid a b).Idx, (o ≤ (x 0).val ∧ (x 0).val < o + k) → m.view.read (Elt F) f x = g (x 0).val (x 1).val)
      ↔ ∀ x : (Grid k b).Idx, True → (m.slice (Rect.unit (s := Grid a b) ![o, 0] ![k, b] inb) h1).view.read (Elt F) f x = h (x 0).val (x 1).val := by
    intro f
    constructor
    · intro hh x _
      rw [hr, hh _ (by rw [hi0]; have := (x 0).isLt; exact ⟨by omega, Nat.add_lt_add_left this _⟩), hi0, hi1, hgh _ (x 0).isLt _ (x 1).isLt]
    · intro hh x hx
      have hlt : (x 0).val - o < k := by omega
      have hlt' : (x 1).val < b := (x 1).isLt
      have hx' : x = (Rect.unit (s := Grid a b) ![o, 0] ![k, b] inb).toLoadRect.idx (spot ((x 0).val - o) (x 1).val hlt hlt') :=
        grid_ext (by rw [hi0, spot_row]; omega) (by rw [hi1, spot_col])
      have := hh (spot ((x 0).val - o) (x 1).val hlt hlt') trivial
      rw [hr, ← hx', spot_row, spot_col, hgh _ hlt _ hlt'] at this
      rw [this]; congr 1; omega
  rw [hset]
  show iprop(∃ f, _ ∗ _) = iprop(∃ f, _ ∗ _)
  congr 1
  funext f
  rw [show (∀ x : (Grid a b).Idx, (o ≤ (x 0).val ∧ (x 0).val < o + k) → m.view.read (Elt F) f x = g (x 0).val (x 1).val) = _ from propext (hread f)]

/-- A load of a part of a row. -/
theorem sheet_load {cs : CoreSpace} {a b : ℕ} {m : Memref sig c.2.kind cs (Grid a b) e} {off sz : Fin 2 → ℕ}
    {inb : ∀ x, off x + sz x ≤ (Grid a b).size x} {hl : m.view.LoadsAt (Rect.unit (s := Grid a b) off sz inb).toLoadRect}
    {K : ((Rect.unit (s := Grid a b) off sz inb).toLoadRect.shape.Idx → Elt F e) → Prog (TpuEff nD τ sig (Elt F) Λ c.2) α}
    {q} {g : ℕ → ℕ → Elt F e} :
    (Full c m q g : sProp 𝕄)
      ⊢ iprop((Full c m q g -∗ wp frame (wpE defs 𝒱 c bd) Set.univ (K fun x => g (off 0 + (x 0).val) (off 1 + (x 1).val)) Q)
        -∗ wp frame (wpE defs 𝒱 c bd) Set.univ (Prog.lift (.load m (Rect.unit (s := Grid a b) off sz inb).toLoadRect hl) >>= K) Q) := by
  have hidx : ∀ (x : (Rect.unit (s := Grid a b) off sz inb).toLoadRect.shape.Idx) (k : Fin 2),
      ((Rect.unit (s := Grid a b) off sz inb).toLoadRect.idx x k).val = off k + (x k).val := fun x k => by
    rw [LoadRect.idx_apply]; simp [Rect.unit]
  change _ ⊢ iprop(_ -∗ wp frame (wpE defs 𝒱 c bd) Set.univ (.op (.load m (Rect.unit (s := Grid a b) off sz inb).toLoadRect hl) K) Q)
  unfold Full Sheet
  iintro ⟨%f, %hf, H⟩ HK
  iapply (wp_load 𝒱 c bd Set.univ (m := m) (S := m.view.setOn (rowsOf fun _ => True)) (q := q) (f := f) ?_) $$ H
  · exact Finset.map_subset_map.mpr fun x _ => mem_rowsOf.mpr trivial
  iintro H
  have hv : m.view.readAt (Elt F) (Rect.unit (s := Grid a b) off sz inb).toLoadRect f = fun x => g (off 0 + (x 0).val) (off 1 + (x 1).val) := by
    funext x
    rw [View.readAt_apply, hf _ trivial, hidx, hidx]
  rw [hv]
  iapply HK
  iexists f
  isplitr; · ipureintro; exact hf
  iexact H

/-- A store over a part of a row. -/
theorem sheet_store {cs : CoreSpace} {a b : ℕ} {m : Memref sig c.2.kind cs (Grid a b) e} {off sz : Fin 2 → ℕ}
    {inb : ∀ x, off x + sz x ≤ (Grid a b).size x} {w : (Rect.unit (s := Grid a b) off sz inb).shape.Idx → Elt F e}
    {hx : (m.access (Rect.unit (s := Grid a b) off sz inb)).Stores Finset.univ} {hm}
    {K : PUnit → Prog (TpuEff nD τ sig (Elt F) Λ c.2) α}
    {g h : ℕ → ℕ → Elt F e} (hw : ∀ x, w x = h (off 0 + (x 0).val) (off 1 + (x 1).val))
    (hh : ∀ i < a, ∀ j < b, ¬((off 0 ≤ i ∧ i < off 0 + sz 0) ∧ (off 1 ≤ j ∧ j < off 1 + sz 1)) → h i j = g i j) :
    (Full c m fullShare g : sProp 𝕄)
      ⊢ iprop((Full c m fullShare h -∗ wp frame (wpE defs 𝒱 c bd) Set.univ (K ⟨⟩) Q)
        -∗ wp frame (wpE defs 𝒱 c bd) Set.univ (Prog.lift (.store m (Rect.unit (s := Grid a b) off sz inb) w Finset.univ hx hm) >>= K) Q) := by
  have hidx : ∀ (x : (Rect.unit (s := Grid a b) off sz inb).shape.Idx) (k : Fin 2),
      ((Rect.unit (s := Grid a b) off sz inb).emb x k).val = off k + (x k).val := fun x k => by
    change ((Rect.unit (s := Grid a b) off sz inb).toLoadRect.idx x k).val = _
    rw [LoadRect.idx_apply]; simp [Rect.unit]
  change _ ⊢ iprop(_ -∗ wp frame (wpE defs 𝒱 c bd) Set.univ (.op (.store m (Rect.unit (s := Grid a b) off sz inb) w Finset.univ hx hm) K) Q)
  unfold Full Sheet
  iintro ⟨%f, %hf, H⟩ HK
  iapply (wp_store 𝒱 c bd Set.univ (m := m) (r := Rect.unit (s := Grid a b) off sz inb) (S := m.view.setOn (rowsOf fun _ => True)) (f := f) ?_) $$ H
  · intro y hy
    obtain ⟨x, -, rfl⟩ := Finset.mem_map.mp hy
    exact Finset.mem_map.mpr ⟨(Rect.unit (s := Grid a b) off sz inb).toLoadRect.idx x, mem_rowsOf.mpr trivial, rfl⟩
  iintro H
  iapply HK
  iexists _
  isplitr
  swap
  · iexact H
  · ipureintro
    intro x _
    by_cases hin : (off 0 ≤ (x 0).val ∧ (x 0).val < off 0 + sz 0) ∧ (off 1 ≤ (x 1).val ∧ (x 1).val < off 1 + sz 1)
    · have hy : ∃ y : (Rect.unit (s := Grid a b) off sz inb).shape.Idx, (Rect.unit (s := Grid a b) off sz inb).emb y = x := by
        have := LoadRect.exists_idx_of_mem (r := (Rect.unit (s := Grid a b) off sz inb).toLoadRect) (i := x)
          (Rect.mem_set_unit.mpr fun k => by
            match k with
            | 0 => exact hin.1
            | 1 => exact hin.2)
        exact this
      obtain ⟨y, rfl⟩ := hy
      have := View.read_slice_write_emb (v := m.view) (Rect.unit (s := Grid a b) off sz inb) f w (Finset.mem_univ y)
      rw [this, hw, hidx, hidx]
    · have := View.read_slice_write_of_not_mem (v := m.view) (Rect.unit (s := Grid a b) off sz inb) f w Finset.univ
        (y := x) (fun hmem => hin (by rw [Rect.map_emb_univ] at hmem; exact ⟨Rect.mem_set_unit.mp hmem 0, Rect.mem_set_unit.mp hmem 1⟩))
      rw [this, hf x trivial, hh _ (x 0).isLt _ (x 1).isLt hin]

omit [FloatOps F] [Preorder Lvl] in
theorem full_eq {a b : ℕ} {m : Memref sig c.2.kind sp (Grid a b) e} {q} {g : ℕ → ℕ → Elt F e} :
    (Full c m q g : sProp 𝕄) = iprop(∃ f, ⌜m.view.read (Elt F) f = fun x => g (x 0).val (x 1).val⌝ ∗ (m.view.loc c ↦[m.view.set]{q} f)) := by
  unfold Full Sheet
  rw [show (rowsOf fun _ => True : Finset (Grid a b).Idx) = Finset.univ from Finset.ext fun x => by simp [mem_rowsOf], View.setOn_univ]
  congr 1
  funext f
  rw [show (∀ x : (Grid a b).Idx, True → m.view.read (Elt F) f x = g (x 0).val (x 1).val) = (m.view.read (Elt F) f = fun x => g (x 0).val (x 1).val) from
    propext ⟨fun h => funext fun x => h x trivial, fun h x _ => congrFun h x⟩]

omit [FloatOps F] [Preorder Lvl] in
/-- A window of rows out of the rows held, and back with other values. -/
theorem sheet_window {a b : ℕ} {m : Memref sig c.2.kind sp (Grid a b) e} {q} {g h : ℕ → ℕ → Elt F e} {off : Fin 2 → ℕ} {k : ℕ} {P : ℕ → Prop}
    {inb : ∀ x, off x + (![k, b] : Fin 2 → ℕ) x ≤ (Grid a b).size x} {h1 : ∀ x, (Rect.unit (s := Grid a b) off ![k, b] inb).stride x = 1}
    (o : ℕ) (ho : off = ![o, 0]) (hP : ∀ i, o ≤ i → i < o + k → P i) (h' : ℕ → ℕ → Elt F e)
    (hin : ∀ i < k, ∀ j < b, h i j = h' (o + i) j) (hout : ∀ i < a, ∀ j < b, P i → ¬(o ≤ i ∧ i < o + k) → h' i j = g i j) :
    (Sheet c m P q g : sProp 𝕄) ⊢ iprop(Full (a := k) (b := b) c (m.slice (Rect.unit (s := Grid a b) off ![k, b] inb) h1) q (fun i j => g (o + i) j)
      ∗ (Full (a := k) (b := b) c (m.slice (Rect.unit (s := Grid a b) off ![k, b] inb) h1) q h -∗ Sheet c m P q h')) := by
  let κ : ℕ → Bool := fun i => decide (o ≤ i ∧ i < o + k)
  rw [← sheet_slice c (g := g) (h := fun i j => g (o + i) j) o ho (fun _ _ _ _ => rfl), ← sheet_slice c (g := h') (h := h) o ho hin]
  have hu : (Finset.univ : Finset Bool) = {true, false} := rfl
  have hbool : ∀ Φ : Bool → sProp 𝕄, bigSep Finset.univ Φ = iprop(Φ true ∗ Φ false) := fun Φ => by
    rw [hu, SparseCore.bigSep_insert' (by decide), bigSep_singleton]
  have e1 := hbool fun t => Sheet c m (fun i => P i ∧ κ i = t) q g
  have e2 := hbool fun t => Sheet c m (fun i => P i ∧ κ i = t) q h'
  iintro H
  ihave H := (sheet_classes c (m := m) (q := q) (g := g) P κ) $$ H
  ihave H := (Entails.of_eq e1) $$ H
  icases H with ⟨H1, H2⟩
  isplitl [H1]
  · iapply (sheet_mono c (m := m) (q := q) (g := g) (h := g) (P := fun i => P i ∧ κ i = true) (P' := fun i => o ≤ i ∧ i < o + k)
      (fun i _ => ⟨fun hh => of_decide_eq_true hh.2, fun hh => ⟨hP i hh.1 hh.2, decide_eq_true hh⟩⟩) (fun _ _ _ _ _ => rfl)) $$ H1
  iintro H1
  iapply (sheet_join c (m := m) (q := q) (fun _ : Bool => h') P κ)
  iapply (Entails.of_eq e2.symm)
  isplitl [H1]
  · iapply (sheet_mono c (m := m) (q := q) (g := h') (h := h') (P := fun i => o ≤ i ∧ i < o + k) (P' := fun i => P i ∧ κ i = true)
      (fun i _ => ⟨fun hh => ⟨hP i hh.1 hh.2, decide_eq_true hh⟩, fun hh => of_decide_eq_true hh.2⟩) (fun _ _ _ _ _ => rfl)) $$ H1
  · iapply (sheet_mono c (m := m) (q := q) (g := g) (h := h') (P := fun i => P i ∧ κ i = false) (P' := fun i => P i ∧ κ i = false)
      (fun i _ => Iff.rfl) (fun i hi j hj hh => (hout i hi j hj hh.1 (of_decide_eq_false hh.2)).symm)) $$ H2

variable [Infinite Name] {defs : Defs nD τ sig (Elt F) Λ} (EC : UEmb Counters (MT nD τ sig Ix (Elt F) Name U Lvl))

include EC

omit [FloatOps F] in
/-- A copy of a table over another, and the wait for it. -/
theorem full_copy [EC.LandsIn (upEmb : UEmb _ 𝕄)] {a b : ℕ} (hn : 0 < (Grid a b).numel) {m₁ : Memref sig c.2.kind sp (Grid a b) e} {m₂ : Memref sig c.2.kind sp' (Grid a b) e} {sem : DmaSem sig}
    {h1 : m₁.view.WordExact} {h2 : m₂.view.WordExact} {h3 : DmaTarget.Typed (nD := nD) sp (.dma sem) (.here m₂)} {h4 : m₁.view.WordExact} {h5 : m₂.view.WordExact}
    {K : PUnit → Prog (TpuEff nD τ sig (Elt F) Λ c.2) α} (ι : Ix) {O : CellTallies nD τ sig Ix} {ok : SemLoc sig × Ix → Prop} (hok : ok (.dma sem, ι))
    {q} {g h : ℕ → ℕ → Elt F e} :
    iprop(Full c m₁ q g ∗ Full c m₂ fullShare h ∗ semVal (c, .dma sem) 0 ∗ Debt c O ok ∗ MayWait c (.dma sem) ι O)
      ⊢ iprop((iprop(Full c m₁ q g ∗ Full c m₂ fullShare g ∗ semVal (c, .dma sem) 0 ∗ Debt c O ok) -∗ wp frame (wpE defs 𝒱 c bd) Set.univ (K ⟨⟩) Q)
        -∗ wp frame (wpE defs 𝒱 c bd) Set.univ (Prog.lift (.enqueueDma m₁ (.here m₂) (.dma sem) h1 h2 h3)
            >>= fun _ => Prog.lift (.waitDma2 sem m₁ m₂ h4 h5) >>= K) Q) := by
  rw [full_eq, full_eq, full_eq, show (Prog.lift (.enqueueDma m₁ (.here m₂) (.dma sem) h1 h2 h3)
      >>= fun _ => Prog.lift (.waitDma2 sem m₁ m₂ h4 h5) >>= K) = .op (.enqueueDmaAs m₁ (.here m₂) .same (.dma sem) h1 h2 h3)
    fun _ => .op (.waitDma2 sem m₁ m₂ h4 h5) K from rfl]
  unfold Debt
  iintro ⟨⟨%f, %hf, H1⟩, ⟨%f', %hf', H2⟩, Hv, ⟨%W, %hW, HO⟩, Hmw⟩ HK
  have hpos : 0 < m₂.view.amount (.dma sem) := View.amount_pos _ _ hn
  iapply (Transfers.wp_dmaLocal EC 𝒱 c bd (q := q) (fs := f) (fd := f') (Sd := m₂.view.set) ι _ rfl hpos subset_rfl) $$ [H1 H2 Hv]
  · isplitl [H1]; · iexact H1
    isplitl [H2] <;> iassumption
  iintro Hf
  iapply (Transfers.wp_waitLocalO EC 𝒱 c bd ι rfl) $$ [Hf HO Hmw]
  · isplitl [Hf]; · iexact Hf
    isplitl [HO] <;> iassumption
  iintro ⟨⟨H2, H1⟩, Hv, HO⟩
  iapply HK
  isplitl [H1]
  · iexists f; isplitr; · ipureintro; exact hf
    iexact H1
  isplitl [H2]
  · iexists _; isplitr
    swap
    · iexact H2
    · ipureintro
      rw [View.read_write_univ]; exact hf
  isplitl [Hv]; · iexact Hv
  iexists _
  isplitr
  swap
  · iexact HO
  · ipureintro
    intro p hp
    rcases Finset.mem_insert.mp hp with rfl | hp
    · exact hok
    · exact hW p hp

omit [FloatOps F] in
/-- The rows that a list names, gathered from a table, and the wait for them. -/
theorem full_gather [EC.LandsIn (upEmb : UEmb _ 𝕄)] {z n b : ℕ} (hs : 0 < (Grid n b).numel)
    {src : Memref sig c.2.kind sp (Grid z b) e} {src' : Memref sig c.2.kind sp (Grid z b) e} {dst : Memref sig c.2.kind .vmem (Grid n b) e} {hg : (Grid z b).Gathers 0 (Grid n b)}
    {offs : Memref sig c.2.kind .vmem (Arr n) .i32} {hn : (Arr n).numel = (Grid n b).size hg.axis'} {sem : DmaSem sig}
    {hp : c.2.kind = .scVector} {hsrc : src.view.WordExact} {he : e.bits = 32} {hsp : sp = .hbm ∨ sp = .shared} {hr : (Grid z b).StreamRows 0}
    {h4 : src'.view.WordExact} {h5 : dst.view.WordExact}
    {K : PUnit → Prog (TpuEff nD τ sig (Elt F) Λ c.2) α} (ι : Ix) {O : CellTallies nD τ sig Ix} {ok : SemLoc sig × Ix → Prop} (hok : ok (.dma sem, ι))
    (hcr : ∀ s' : Shape, sig.dmaCredit c.2.kind (c.2.kind.table .vmem) dst.view.buf s' e = s'.numel * e.bits)
    {q qo} {g h : ℕ → ℕ → Elt F e} {v : ℕ → BitVec 32} (hv : ∀ i < n, (v i).toNat < z) :
    iprop(Full c src q g ∗ Full c dst fullShare h ∗ Holds (F := F) (e := .i32) c offs qo v ∗ semVal (c, .dma sem) 0 ∗ Debt c O ok ∗ MayWait c (.dma sem) ι O)
      ⊢ iprop((iprop(Full c src q g ∗ Full c dst fullShare (fun i j => g (v i).toNat j) ∗ Holds (F := F) (e := .i32) c offs qo v ∗ semVal (c, .dma sem) 0 ∗ Debt c O ok)
            -∗ wp frame (wpE defs 𝒱 c bd) Set.univ (K ⟨⟩) Q)
        -∗ wp frame (wpE defs 𝒱 c bd) Set.univ (SparseCore.enqueueIndirectGather hp src dst hg offs hn sem hsrc he hsp hr
            >>= fun _ => SparseCore.waitIndirectGather sem src' dst h4 h5 >>= K) Q) := by
  rw [full_eq, full_eq, full_eq, holds_eq, show (fun _ : PUnit => SparseCore.waitIndirectGather sem src' dst h4 h5 >>= K)
    = fun _ => (.op (.waitDma2 sem src' dst h4 h5) K : Prog (TpuEff nD τ sig (Elt F) Λ c.2) α) from rfl]
  unfold Debt
  iintro ⟨⟨%f, %hf, H1⟩, ⟨%f', %hf', H2⟩, ⟨%fo, %hfo, H3⟩, Hv, ⟨%W, %hW, HO⟩, Hmw⟩ HK
  have hin : ∀ x, (offs.view.read (Elt F) fo x).toNat < (Grid z b).size hg.axis := fun x => by
    rw [hfo]; exact hv _ (x 0).isLt
  iapply (SparseCore.wp_indirectGatherLocal EC 𝒱 c bd (hg := hg) ι dst.view.dmaCredit (SparseCore.sum_rowCredit_eq_dmaCredit dst hg.axis' hcr) hs hin) $$ [H1 H2 H3 Hv]
  · isplitl [H1]; · iexact H1
    isplitl [H2]; · iexact H2
    isplitl [H3] <;> iassumption
  iintro Hf
  iapply (Transfers.wp_waitLocalO EC 𝒱 c bd ι rfl) $$ [Hf HO Hmw]
  · isplitl [Hf]; · iexact Hf
    isplitl [HO] <;> iassumption
  iintro ⟨⟨H2, H1, H3⟩, Hv, HO⟩
  iapply HK
  isplitl [H1]
  · iexists f; isplitr; · ipureintro; exact hf
    iexact H1
  isplitl [H2]
  · iexists _; isplitr
    swap
    · iexact H2
    · ipureintro
      rw [View.read_write_univ]
      funext x
      unfold SparseCore.gatherPayload
      rw [hf]
      have h0 : (hg.idx (SparseCore.rows (offs.view.read (Elt F) fo) hn hin) x 0).val = (v (x 0).val).toNat := by
        rw [show hg.idx (SparseCore.rows (offs.view.read (Elt F) fo) hn hin) x 0 = _ from Shape.Gathers.idx_axis hg _ x]
        unfold SparseCore.rows
        show (offs.view.read (Elt F) fo _).toNat = _
        rw [hfo]
        show (v _).toNat = _
        congr 2
        exact (Shape.rowMajor_val_one _).symm.trans (by rw [Equiv.apply_symm_apply]; rfl)
      have h1 : (hg.idx (SparseCore.rows (offs.view.read (Elt F) fo) hn hin) x 1).val = (x 1).val :=
        Shape.Gathers.idx_of_ne hg _ x 1 Nat.one_ne_zero
      exact congrArg₂ g h0 h1
  isplitl [H3]
  · iexists fo; isplitr; · ipureintro; exact hfo
    iexact H3
  isplitl [Hv]; · iexact Hv
  iexists _
  isplitr
  swap
  · iexact HO
  · ipureintro
    intro p hp
    rcases Finset.mem_insert.mp hp with rfl | hp
    · exact hok
    · exact hW p hp

end Cert.Proof.Table

end
-- ==== Proof.Rows.lean ====
/-
  The row kernel's two inner loops: the row numbers brought into range, and each fetched row times its number.
-/
module

public import proofs.«01_k».proof.Proof.Table
public import proofs.«01_k».proof.Proof.Gen.Whole.Skeleton

@[expose] public section

set_option synthInstance.maxSize 4096

noncomputable section

namespace Cert.Proof.Rows

open Idealize.ShloMosaic
open Idealize.SL Idealize.SL.RA Idealize.SL.BI
open scoped Idealize.SL.BI
open Idealize.SL.BI.BIBase Idealize.SL.BI.Laws Idealize.SL.ProofMode Idealize.SL.Sem
open Cert.Whole Cert.Whole.Gen Cert.Proof.Words Cert.Proof.Table

variable {F : FTy → Type} [BitOps F]

/-- A row number brought into range. -/
def inRange (v : BitVec 32) : BitVec 32 := IntOp.minsi 99999#32 (IntOp.maxsi 0#32 v)

theorem inRange_lt (v : BitVec 32) : (inRange v).toNat < 100000 := by
  unfold inRange IntOp.minsi IntOp.maxsi
  have h9 : (99999#32 : BitVec 32).toInt = 99999 := rfl
  have h0 : (0#32 : BitVec 32).toInt = 0 := rfl
  by_cases h1 : v.slt 0#32 = true
  · rw [if_pos h1]; decide
  · rw [if_neg h1]
    by_cases h2 : (99999#32).slt v = true
    · rw [if_pos h2]; decide
    · rw [if_neg h2]
      simp only [BitVec.slt, decide_eq_true_eq, h9, h0] at h1 h2
      rw [BitVec.toInt_eq_toNat_cond] at h1 h2
      have := v.isLt
      split at h1 <;> omega

/-- The factor that a key stands for. -/
def factor (F : FTy → Type) [FloatOps F] (k : BitVec 32) : F .f32 := FloatOps.ofBits .f32 (IntOp.subi 1073741823#32 k)

/-- The row of the result at a row number and a key. -/
def product (x : ℕ → ℕ → F .f32) (idx keys : ℕ → BitVec 32) (i j : ℕ) : F .f32 :=
  FloatOps.mulf (x (inRange (idx i)).toNat j) (factor F (keys i))

variable {Ix : Type} [DecidableEq Ix] {Name : Type} [DecidableEq Name]
variable {U : Type} [URA U] {Lvl : Type} [Preorder Lvl]
variable {defs : Defs nD τ sig (Elt F) Λ₀} (𝒱 : Variants) (bd : Option 𝒱.V)
variable {i : grid0.Coords} (h : k0_cond1 i = 1#1) (dv : Dev nD) {α : Type} {Q : α → sProp (MT nD τ sig Ix (Elt F) Name U Lvl)}

local notation "𝕄" => MT nD τ sig Ix (Elt F) Name U Lvl

/-- The programs of the tile with these coordinates. -/
abbrev GProg (F : FTy → Type) (i : grid0.Coords) (α : Type) :=
  Prog (TpuEff nD τ sig (Elt F) Λ₀ (.scVector ((i 0).castLE hcore0) ((i 1).castLE hsub0))) α

/-- The tile with these coordinates. -/
abbrev gtile (dv : Dev nD) (i : grid0.Coords) : Thread nD τ := (dv, .scVector ((i 0).castLE hcore0) ((i 1).castLE hsub0))

/-- A row of words in the tile's hands. -/
abbrev List32 {sp : Space} {n : ℕ} (dv : Dev nD) (i : grid0.Coords) (m : Memref sig .scVector sp (Arr n) .i32) (q : PosShare TreeShare) (a : ℕ → BitVec 32) :
    sProp (MT nD τ sig Ix (Elt F) Name U Lvl) :=
  Holds (F := F) (e := .i32) (gtile dv i) m q a

/-- A table of numbers in the tile's hands. -/
abbrev Table32 {sp : Space} {a b : ℕ} (dv : Dev nD) (i : grid0.Coords) (m : Memref sig .scVector sp (Grid a b) .f32) (q : PosShare TreeShare) (g : ℕ → ℕ → F .f32) :
    sProp (MT nD τ sig Ix (Elt F) Name U Lvl) :=
  Full (F := F) (e := .f32) (gtile dv i) m q g

theorem grip_loop {L : Scf.Loop 32} {σ : Type} (hok : L.OK) (init : σ) (body : Fin L.trips → σ → GProg F i σ) (I : ℕ → σ → sProp 𝕄)
    (hbody : ∀ k acc, I k.val acc ⊢ wp frame (wpE defs 𝒱 (gtile dv i) bd) Set.univ (body k acc) (I (k.val + 1))) {K : σ → GProg F i α} :
    I 0 init ⊢ iprop((∀ acc, I L.trips acc -∗ wp frame (wpE defs 𝒱 (gtile dv i) bd) Set.univ (K acc) Q)
      -∗ wp frame (wpE defs 𝒱 (gtile dv i) bd) Set.univ (Scf.Loop.for L hok init body >>= K) Q) :=
  Scf.wp_for_bind frame (wpE defs 𝒱 (gtile dv i) bd) Set.univ L.lb L.ub L.st hok init body I hbody

theorem trips2 : k0_t2_loop.trips = 25 := by decide +kernel
theorem trips3 : k0_t3_loop.trips = 400 := by decide +kernel
theorem trips1 : k0_t1_loop.trips = 5 := by decide +kernel

section Clamp

variable (arg2 : Memref sig .scVector .hbm S50176 .i32) (harg2 : arg2.IsWhole) (arg3 : Memref sig .scVector .hbm S50176 .i32) (harg3 : arg3.IsWhole)
  (arg4 : Memref sig .scVector .hbm S100000x128 .f32) (harg4 : arg4.IsWhole) (arg5 : Memref sig .scVector .hbm S50000x128 .f32) (harg5 : arg5.IsWhole)
  (arg6 : Memref sig .scVector .vmem S400 .i32) (harg6 : arg6.IsWhole) (arg7 : Memref sig .scVector .vmem S400 .i32) (harg7 : arg7.IsWhole)
  (arg8 : Memref sig .scVector .vmem S400x128 .f32) (harg8 : arg8.IsWhole)
  (arg9 : DmaSems sig S_) (v16_r0 v16_r1 v16_r2 : DmaSems sig S_)

/-- The loop that brings the row numbers into range. -/
theorem wp_clamp {a : ℕ → BitVec 32} {K : BitVec 32 → GProg F i α} :
    (List32 dv i arg6 fullShare a : sProp 𝕄)
      ⊢ iprop((∀ acc, List32 dv i arg6 fullShare (fun j => inRange (a j)) -∗ wp frame (wpE defs 𝒱 (gtile dv i) bd) Set.univ (K acc) Q)
        -∗ wp frame (wpE defs 𝒱 (gtile dv i) bd) Set.univ
            (Scf.Loop.for k0_t2_loop (k0_t2_ok i h) 0#32
              (k0_t2_body i arg2 harg2 arg3 harg3 arg4 harg4 arg5 harg5 arg6 harg6 arg7 harg7 arg8 harg8 arg9 v16_r0 v16_r1 v16_r2 h) >>= K) Q) := by
  iintro H HK
  iapply (grip_loop 𝒱 bd dv (k0_t2_ok i h) (0#32 : BitVec 32) _
    (fun t _ => List32 dv i arg6 fullShare (fun j => if j < 16 * t then inRange (a j) else a j)) ?_) $$ [H]
  · intro t acc
    have ho : k0_off2 t 0 = 16 * t.val := by rw [k0_off2_eq]; rfl
    unfold k0_t2_body
    iintro H
    iapply (part_load (F := F) (e := .i32) 𝒱 (gtile dv i) bd (fun _ _ => trivial)) $$ H
    iintro H
    iapply (part_load (F := F) (e := .i32) 𝒱 (gtile dv i) bd (fun _ _ => trivial)) $$ H
    iintro H
    iapply (part_store (F := F) (e := .i32) 𝒱 (gtile dv i) bd (b := fun j => if j < 16 * (t.val + 1) then inRange (a j) else a j) (fun _ _ => trivial) ?_ ?_) $$ H
    · intro x
      have hx : (x 0).val < 16 := (x 0).isLt
      show inRange (if k0_off2 t 0 + (x 0).val < 16 * t.val then _ else a (k0_off2 t 0 + (x 0).val)) = _
      rw [if_neg (by omega), if_pos (by omega)]
    · intro j _ _ hn
      have h16 : S16.size 0 = 16 := rfl
      rw [ho, h16] at hn
      by_cases hj : j < 16 * t.val
      · rw [if_pos hj, if_pos (by omega)]
      · rw [if_neg hj, if_neg (by omega)]
    iintro H
    rw [wp_pure]
    imodintro
    iexact H
  · iapply (part_mono (F := F) (e := .i32) (gtile dv i) (m := arg6) (fun _ _ => Iff.rfl) (fun j hj _ => ?_)) $$ H
    rw [if_neg (by omega)]
  iintro %acc H
  iapply HK
  iapply (part_mono (F := F) (e := .i32) (gtile dv i) (m := arg6) (fun _ _ => Iff.rfl) (fun j hj _ => ?_)) $$ H
  rw [if_pos]
  rw [trips2]; omega

/-- A table whose rows before `t`, and whose first `w` places of row `t`, are times their rows' numbers. -/
def mixed (g : ℕ → ℕ → F .f32) (f : ℕ → F .f32) (t w i j : ℕ) : F .f32 :=
  if i < t ∨ (i = t ∧ j < w) then FloatOps.mulf (g i j) (f i) else g i j

theorem cast_back (x : S1x16.Idx) :
    (Shape.reshapeEquiv shapeCasts_S1x16_S16 (Shape.reshapeEquiv shapeCasts_S16_S1x16 x) : S1x16.Idx) = x :=
  Shape.reshapeEquiv_eq_of_rowMajor _ (by rw [Shape.rowMajor_reshapeEquiv])

/-- Sixteen places of a row times its number. -/
theorem wp_scaled {g : ℕ → ℕ → F .f32} {f : ℕ → F .f32} {t w : ℕ} {off : Fin 2 → ℕ} (ho : off = ![t, w])
    {inb : ∀ a, off a + S1x16.size a ≤ S400x128.size a} (pay : Vec F S1x16 .f32 → FVec F S16 .f32) {u : FVec F S16 .f32}
    (hpay : ∀ x, pay x = mulf (shapeCast S16 x shapeCasts_S1x16_S16) u) (hu : ∀ x, u x = f t) {K : PUnit → GProg F i α} :
    (Table32 dv i arg8 fullShare (mixed g f t w) : sProp 𝕄)
      ⊢ iprop((Table32 dv i arg8 fullShare (mixed g f t (w + 16)) -∗ wp frame (wpE defs 𝒱 (gtile dv i) bd) Set.univ (K ⟨⟩) Q)
        -∗ wp frame (wpE defs 𝒱 (gtile dv i) bd) Set.univ
            (Prog.lift (.load arg8 (Rect.unit (s := S400x128) off S1x16.size inb).toLoadRect (View.loadsAt_vmem h_S1x16)) >>= fun v =>
              Prog.lift (.load arg8 (Rect.unit (s := S400x128) off S1x16.size inb).toLoadRect (View.loadsAt_vmem h_S1x16)) >>= fun _ =>
              Prog.lift (.store arg8 (Rect.unit (s := S400x128) off S1x16.size inb) (shapeCast S1x16 (pay v) shapeCasts_S16_S1x16) Finset.univ
                (View.stores_vmem_bits_univ h_S1x16 rfl) (.inl rfl)) >>= K) Q) := by
  subst ho
  iintro H HK
  iapply (sheet_load (F := F) (e := .f32) 𝒱 (gtile dv i) bd) $$ H
  iintro H
  iapply (sheet_load (F := F) (e := .f32) 𝒱 (gtile dv i) bd) $$ H
  iintro H
  iapply (sheet_store (F := F) (e := .f32) 𝒱 (gtile dv i) bd (h := mixed g f t (w + 16)) ?_ ?_) $$ H
  · intro x
    have hx0 : (x 0).val = 0 := Nat.lt_one_iff.mp (x 0).isLt
    have hx1 : (x 1).val < 16 := (x 1).isLt
    rw [hpay]
    show FloatOps.mulf (mixed g f t w (t + ((Shape.reshapeEquiv shapeCasts_S1x16_S16 (Shape.reshapeEquiv shapeCasts_S16_S1x16 x) : S1x16.Idx) 0).val)
      (w + ((Shape.reshapeEquiv shapeCasts_S1x16_S16 (Shape.reshapeEquiv shapeCasts_S16_S1x16 x) : S1x16.Idx) 1).val)) (u _)
      = mixed g f t (w + 16) (t + (x 0).val) (w + (x 1).val)
    rw [cast_back, hu, hx0, Nat.add_zero]
    unfold mixed
    rw [if_neg (by omega), if_pos (by omega)]
  · intro r _ j _ hn
    have h1 : S1x16.size 0 = 1 := rfl
    have h16 : S1x16.size 1 = 16 := rfl
    have e0 : (![t, w] : Fin 2 → ℕ) 0 = t := rfl
    have e1 : (![t, w] : Fin 2 → ℕ) 1 = w := rfl
    rw [e0, e1, h1, h16] at hn
    unfold mixed
    by_cases hj : r < t ∨ (r = t ∧ j < w)
    · rw [if_pos hj, if_pos (by omega)]
    · rw [if_neg hj, if_neg (by omega)]
  iexact HK

theorem number3 (t : Fin k0_t3_loop.trips) : (Scf.iv (0#32 : BitVec 32) 1#32 t : BitVec 32).toNat = t.val := by
  have := lt_of_lt_of_eq t.isLt trips3
  unfold Scf.iv
  rw [BitVec.toNat_add, BitVec.toNat_mul, BitVec.toNat_ofNat]
  simp
  omega

/-- The loop that multiplies each row by its number. -/
theorem wp_scale {g : ℕ → ℕ → F .f32} {k : ℕ → BitVec 32} {q : PosShare TreeShare} {K : BitVec 32 → GProg F i α} :
    (iprop(List32 dv i arg7 q k ∗ Table32 dv i arg8 fullShare g) : sProp 𝕄)
      ⊢ iprop((∀ acc, iprop(List32 dv i arg7 q k ∗ Table32 dv i arg8 fullShare (fun r j => FloatOps.mulf (g r j) (factor F (k r))))
            -∗ wp frame (wpE defs 𝒱 (gtile dv i) bd) Set.univ (K acc) Q)
        -∗ wp frame (wpE defs 𝒱 (gtile dv i) bd) Set.univ
            (Scf.Loop.for k0_t3_loop (k0_t3_ok i h) 0#32
              (k0_t3_body i arg2 harg2 arg3 harg3 arg4 harg4 arg5 harg5 arg6 harg6 arg7 harg7 arg8 harg8 arg9 v16_r0 v16_r1 v16_r2 h) >>= K) Q) := by
  iintro ⟨Hk, H⟩ HK
  iapply (grip_loop 𝒱 bd dv (k0_t3_ok i h) (0#32 : BitVec 32) _
    (fun t _ => iprop(List32 dv i arg7 q k ∗ Table32 dv i arg8 fullShare (mixed g (fun r => factor F (k r)) t 0))) ?_) $$ [Hk H]
  · intro t acc
    have ht := number3 t
    have hlt : t.val < 400 := trips3 ▸ t.isLt
    have hc : k0_chk1 i (broadcast S16 (Scf.iv (0#32 : BitVec 32) 1#32 t)) := by
      intro _ a x
      obtain rfl := Fin.eq_zero a
      show (Scf.iv (0#32 : BitVec 32) 1#32 t : BitVec 32).toNat < 400
      rw [ht]; exact hlt
    unfold k0_t3_body
    rw [k0_part1_eq_skeleton]
    unfold k0_part1_skel
    simp only [bind_assoc, pure_bind]
    rw [show ∀ (K : PLift (k0_chk1 i (broadcast S16 (Scf.iv (0#32 : BitVec 32) 1#32 t))) → GProg F i (BitVec 32)) (R : BitVec 32 → sProp 𝕄),
        wp frame (wpE defs 𝒱 (gtile dv i) bd) Set.univ (Prog.lift (TpuEff.assume (k0_chk1 i (broadcast S16 (Scf.iv (0#32 : BitVec 32) 1#32 t)))
          (k0_chk1.dec i (broadcast S16 (Scf.iv (0#32 : BitVec 32) 1#32 t)))) >>= K) R
        = wp frame (wpE defs 𝒱 (gtile dv i) bd) Set.univ (K ⟨hc⟩) R from fun K R => wp_assume_of 𝒱 (gtile dv i) bd Set.univ hc]
    iintro ⟨Hk, H⟩
    iapply (holds_loadIdx (F := F) (e := .i32) 𝒱 (gtile dv i) bd) $$ Hk
    iintro Hk
    have hu : ∀ x, k0_pay5 (F := F) (fun _ => k (Scf.iv (0#32 : BitVec 32) 1#32 t : BitVec 32).toNat) x = factor F (k t.val) := fun x => by
      rw [ht]; rfl
    iapply (wp_scaled 𝒱 bd dv arg8 (k0_off3_eq t) (k0_pay6 _) (fun _ => rfl) hu) $$ H
    iintro H
    iapply (wp_scaled 𝒱 bd dv arg8 (k0_off4_eq t) (k0_pay7 _) (fun _ => rfl) hu) $$ H
    iintro H
    iapply (wp_scaled 𝒱 bd dv arg8 (k0_off5_eq t) (k0_pay8 _) (fun _ => rfl) hu) $$ H
    iintro H
    iapply (wp_scaled 𝒱 bd dv arg8 (k0_off6_eq t) (k0_pay9 _) (fun _ => rfl) hu) $$ H
    iintro H
    iapply (wp_scaled 𝒱 bd dv arg8 (k0_off7_eq t) (k0_pay10 _) (fun _ => rfl) hu) $$ H
    iintro H
    iapply (wp_scaled 𝒱 bd dv arg8 (k0_off8_eq t) (k0_pay2 _) (fun _ => rfl) hu) $$ H
    iintro H
    iapply (wp_scaled 𝒱 bd dv arg8 (k0_off9_eq t) (k0_pay3 _) (fun _ => rfl) hu) $$ H
    iintro H
    iapply (wp_scaled 𝒱 bd dv arg8 (k0_off10_eq t) (k0_pay4 _) (fun _ => rfl) hu) $$ H
    iintro H
    rw [wp_pure]
    imodintro
    isplitl [Hk]; · iexact Hk
    iapply (sheet_mono (F := F) (e := .f32) (gtile dv i) (m := arg8) (fun _ _ => Iff.rfl) (fun r _ j hj _ => ?_)) $$ H
    unfold mixed
    by_cases hr : r < t.val + 1
    · rw [if_pos (by omega), if_pos (by omega)]
    · rw [if_neg (by omega), if_neg (by omega)]
  · isplitl [Hk]; · iexact Hk
    iapply (sheet_mono (F := F) (e := .f32) (gtile dv i) (m := arg8) (fun _ _ => Iff.rfl) (fun r _ j hj _ => ?_)) $$ H
    unfold mixed
    rw [if_neg (by omega)]
  iintro %acc ⟨Hk, H⟩
  iapply HK
  isplitl [Hk]; · iexact Hk
  iapply (sheet_mono (F := F) (e := .f32) (gtile dv i) (m := arg8) (fun _ _ => Iff.rfl) (fun r hr j hj _ => ?_)) $$ H
  unfold mixed
  rw [if_pos]
  rw [trips3]; omega

end Clamp

end Cert.Proof.Rows

end
-- ==== Proof.RowsTile.lean ====
/-
  A tile's run of the row kernel: five rounds of four hundred rows each, fetched by their numbers and multiplied.
-/
module

public import proofs.«01_k».proof.Proof.Rows

@[expose] public section

set_option synthInstance.maxSize 4096

noncomputable section

namespace Cert.Proof.RowsTile

open Idealize.ShloMosaic
open Idealize.SL Idealize.SL.RA Idealize.SL.BI
open scoped Idealize.SL.BI
open Idealize.SL.BI.BIBase Idealize.SL.BI.Laws Idealize.SL.ProofMode Idealize.SL.Sem
open Cert.Whole Cert.Whole.Gen Cert.Proof.Words Cert.Proof.Table Cert.Proof.Rows

section Window

variable {nD : Nat} {τ : Topo} {sig : RefSig} {Ix : Type} [DecidableEq Ix]
variable {F : FTy → Type} {Name : Type} [DecidableEq Name]
variable {U : Type} [URA U] {Lvl : Type} (c : Thread nD τ) {sp : Space} {e : EltTy}

/-- A window of a row lent, and back as it was. -/
theorem part_window {n : ℕ} {m : Memref sig c.2.kind sp (Arr n) e} {q} {a : ℕ → Elt F e} {off : Fin 1 → ℕ} {k : ℕ}
    {inb : ∀ b, off b + (![k] : Fin 1 → ℕ) b ≤ (Arr n).size b} {h1 : ∀ b, (Rect.unit (s := Arr n) off ![k] inb).stride b = 1} (o : ℕ) (ho : off 0 = o) :
    (Holds c m q a : sProp (MT nD τ sig Ix (Elt F) Name U Lvl)) ⊢ iprop(Holds (n := k) c (m.slice (Rect.unit (s := Arr n) off ![k] inb) h1) q (fun i => a (o + i))
      ∗ (Holds (n := k) c (m.slice (Rect.unit (s := Arr n) off ![k] inb) h1) q (fun i => a (o + i)) -∗ Holds c m q a)) := by
  let κ : ℕ → Bool := fun i => decide (o ≤ i ∧ i < o + k)
  rw [← part_slice c (a := a) (b := fun i => a (o + i)) o ho fun _ _ => rfl]
  have hu : (Finset.univ : Finset Bool) = {true, false} := rfl
  have e1 : (bigSep Finset.univ fun t => (Part c m (fun i => True ∧ κ i = t) q a : sProp (MT nD τ sig Ix (Elt F) Name U Lvl)))
      = iprop(Part c m (fun i => True ∧ κ i = true) q a ∗ Part c m (fun i => True ∧ κ i = false) q a) := by
    rw [hu, SparseCore.bigSep_insert' (by decide), bigSep_singleton]
  iintro H
  ihave H := (part_classes c (m := m) (q := q) (a := a) (fun _ => True) κ) $$ H
  ihave H := (Entails.of_eq e1) $$ H
  icases H with ⟨H1, H2⟩
  isplitl [H1]
  · iapply (part_mono c (m := m) (q := q) (a := a) (b := a) (P := fun i => True ∧ κ i = true) (P' := fun i => o ≤ i ∧ i < o + k)
      (fun i _ => ⟨fun hh => of_decide_eq_true hh.2, fun hh => ⟨trivial, decide_eq_true hh⟩⟩) (fun _ _ _ => rfl)) $$ H1
  iintro H1
  iapply (part_join c (m := m) (q := q) (fun _ : Bool => a) (fun _ => True) κ)
  iapply (Entails.of_eq e1.symm)
  isplitl [H1]
  · iapply (part_mono c (m := m) (q := q) (a := a) (b := a) (P := fun i => o ≤ i ∧ i < o + k) (P' := fun i => True ∧ κ i = true)
      (fun i _ => ⟨fun hh => ⟨trivial, decide_eq_true hh⟩, fun hh => of_decide_eq_true hh.2⟩) (fun _ _ _ => rfl)) $$ H1
  iexact H2

end Window

variable {F : FTy → Type} [BitOps F]
variable {Ix : Type} [DecidableEq Ix] {Name : Type} [DecidableEq Name] [Infinite Name]
variable {U : Type} [URA U] {Lvl : Type} [Preorder Lvl]
variable {defs : Defs nD τ sig (Elt F) Λ₀} (𝒱 : Variants) (bd : Option 𝒱.V)
variable (dv : Dev nD) (i : grid0.Coords) {α : Type} {Q : α → sProp (MT nD τ sig Ix (Elt F) Name U Lvl)}
variable (EC : UEmb Counters (MT nD τ sig Ix (Elt F) Name U Lvl)) [EC.LandsIn (upEmb : UEmb _ (MT nD τ sig Ix (Elt F) Name U Lvl))]

local notation "𝕄" => MT nD τ sig Ix (Elt F) Name U Lvl

theorem cond1_iff : ∀ i : grid0.Coords, k0_cond1 i = 1#1 ↔ 2 * (i 1).val + (i 0).val < 25 := by decide +kernel

/-- The first of a tile's rows. -/
def start (i : grid0.Coords) : ℕ := 4000 * (i 1).val + 2000 * (i 0).val
/-- A tile's rows. -/
def mine (i : grid0.Coords) (r : ℕ) : Prop := start i ≤ r ∧ r < start i + 2000

/-- The rows of the first `t` rounds at the products, the others as they were. -/
def upTo (i : grid0.Coords) (p g : ℕ → ℕ → F .f32) (t r j : ℕ) : F .f32 := if r < start i + 400 * t then p r j else g r j

variable (arg2 : Memref sig .scVector .hbm S50176 .i32) (harg2 : arg2.IsWhole) (arg3 : Memref sig .scVector .hbm S50176 .i32) (harg3 : arg3.IsWhole)
  (arg4 : Memref sig .scVector .hbm S100000x128 .f32) (harg4 : arg4.IsWhole) (arg5 : Memref sig .scVector .hbm S50000x128 .f32) (harg5 : arg5.IsWhole)
  (arg6 : Memref sig .scVector .vmem S400 .i32) (harg6 : arg6.IsWhole) (arg7 : Memref sig .scVector .vmem S400 .i32) (harg7 : arg7.IsWhole)
  (arg8 : Memref sig .scVector .vmem S400x128 .f32) (harg8 : arg8.IsWhole)
  (arg9 : DmaSems sig S_) (v16_r0 v16_r1 v16_r2 : DmaSems sig S_)

/-- What the tile reads. -/
abbrev Given (q : PosShare TreeShare) (idx keys : ℕ → BitVec 32) (x : ℕ → ℕ → F .f32) : sProp (MT nD τ sig Ix (Elt F) Name U Lvl) :=
  iprop(List32 dv i arg2 q idx ∗ List32 dv i arg3 q keys ∗ Table32 dv i arg4 q x)

/-- The tile's own rows, at some contents. -/
abbrev Scratch : sProp (MT nD τ sig Ix (Elt F) Name U Lvl) :=
  iprop((∃ a, List32 dv i arg6 fullShare a) ∗ (∃ a, List32 dv i arg7 fullShare a) ∗ (∃ g, Table32 dv i arg8 fullShare g))

/-- The tile's counts, at zero. -/
abbrev Still : sProp (MT nD τ sig Ix (Elt F) Name U Lvl) :=
  iprop(semVal (gtile dv i, .dma v16_r0.sem) 0 ∗ semVal (gtile dv i, .dma v16_r1.sem) 0 ∗ semVal (gtile dv i, .dma arg9.sem) 0 ∗ semVal (gtile dv i, .dma v16_r2.sem) 0)

/-- The tile's rows of the result. -/
abbrev Made (g : ℕ → ℕ → F .f32) : sProp (MT nD τ sig Ix (Elt F) Name U Lvl) := Sheet (F := F) (e := .f32) (gtile dv i) arg5 (mine i) fullShare g

include EC

/-- One round: four hundred rows. -/
theorem wp_round (h : k0_cond1 i = 1#1) (t : Fin k0_t1_loop.trips) (acc : BitVec 32) (ι : Ix) {O : CellTallies nD τ sig Ix} {ok : SemLoc sig × Ix → Prop} (hok : ∀ s, ok (.dma s, ι))
    (hcr : ∀ s' : Shape, sig.dmaCredit .scVector (Kind.scVector.table .vmem) arg8.view.buf s' .f32 = s'.numel * EltTy.f32.bits)
    {q : PosShare TreeShare} {idx keys : ℕ → BitVec 32} {x g : ℕ → ℕ → F .f32} :
    (iprop(Transfers.MayWaits (gtile dv i) ι O ∗ Given dv i arg2 arg3 arg4 q idx keys x ∗ Made dv i arg5 (upTo i (product x idx keys) g t.val) ∗ Scratch dv i arg6 arg7 arg8
        ∗ Still dv i arg9 v16_r0 v16_r1 v16_r2 ∗ Debt (gtile dv i) O ok) : sProp 𝕄)
      ⊢ wp frame (wpE defs 𝒱 (gtile dv i) bd) Set.univ
          (k0_t1_body i arg2 harg2 arg3 harg3 arg4 harg4 arg5 harg5 arg6 harg6 arg7 harg7 arg8 harg8 arg9 v16_r0 v16_r1 v16_r2 h t acc)
          fun _ => iprop(Transfers.MayWaits (gtile dv i) ι O ∗ Given dv i arg2 arg3 arg4 q idx keys x ∗ Made dv i arg5 (upTo i (product x idx keys) g (t.val + 1)) ∗ Scratch dv i arg6 arg7 arg8
            ∗ Still dv i arg9 v16_r0 v16_r1 v16_r2 ∗ Debt (gtile dv i) O ok) := by
  have ht : t.val < 5 := lt_of_lt_of_eq t.isLt trips1
  have ho1 : k0_off1 i t 0 = start i + 400 * t.val := by rw [k0_off1_eq]; rfl
  have ho11 : k0_off11 i t = ![start i + 400 * t.val, 0] := by rw [k0_off11_eq]; rfl
  have ho0 : (![0, 0] : Fin 2 → ℕ) = ![0, 0] := rfl
  unfold k0_t1_body
  iintro ⟨#Hmw, ⟨Hi, Hk, Hx⟩, Ho, ⟨⟨%a6, H6⟩, ⟨%a7, H7⟩, ⟨%g8, H8⟩⟩, ⟨R0, R1, R9, R2⟩, HD⟩
  -- the row numbers
  ihave Hm := (Transfers.MayWaits.elim (.dma v16_r0.sem)) $$ Hmw
  ihave Hi := (part_window (F := F) (e := .i32) (gtile dv i) (n := 50176) (k := 400) (m := arg2) (q := q) (a := idx) (inb := k0_off1_inb i t h) (h1 := fun _ => rfl) _ ho1) $$ Hi
  icases Hi with ⟨Hi, Hib⟩
  iapply (holds_copy (F := F) (e := .i32) 𝒱 (gtile dv i) bd EC (n := 400) (by decide) ι (hok _)) $$ [Hi H6 R0 HD Hm]
  · isplitl [Hi]; · iexact Hi
    isplitl [H6]; · iexact H6
    isplitl [R0]; · iexact R0
    isplitl [HD] <;> iassumption
  iintro ⟨Hi, H6, R0, HD⟩
  ihave Hi := Hib $$ Hi
  -- the keys
  ihave Hm := (Transfers.MayWaits.elim (.dma v16_r1.sem)) $$ Hmw
  ihave Hk := (part_window (F := F) (e := .i32) (gtile dv i) (n := 50176) (k := 400) (m := arg3) (q := q) (a := keys) (inb := k0_off1_inb i t h) (h1 := fun _ => rfl) _ ho1) $$ Hk
  icases Hk with ⟨Hk, Hkb⟩
  iapply (holds_copy (F := F) (e := .i32) 𝒱 (gtile dv i) bd EC (n := 400) (by decide) ι (hok _)) $$ [Hk H7 R1 HD Hm]
  · isplitl [Hk]; · iexact Hk
    isplitl [H7]; · iexact H7
    isplitl [R1]; · iexact R1
    isplitl [HD] <;> iassumption
  iintro ⟨Hk, H7, R1, HD⟩
  ihave Hk := Hkb $$ Hk
  iapply (wp_clamp 𝒱 bd h dv) $$ H6
  iintro %acc1 H6
  -- the rows fetched
  ihave Hm := (Transfers.MayWaits.elim (.dma arg9.sem)) $$ Hmw
  ihave Hx := (sheet_window (F := F) (e := .f32) (gtile dv i) (a := 100000) (b := 128) (k := 100000) (m := arg4) (q := q) (g := x) (h := x) (P := fun _ => True)
    (inb := inb_S100000x128_S100000x128_0_0) (h1 := fun _ => rfl) 0 ho0 (fun _ _ _ => trivial) x (fun r _ j _ => by rw [Nat.zero_add]) (fun _ _ _ _ _ _ => rfl)) $$ Hx
  icases Hx with ⟨Hx, Hxb⟩
  iapply (full_gather (F := F) (e := .f32) 𝒱 (gtile dv i) bd EC (z := 100000) (n := 400) (b := 128) (by decide) ι (hok _) hcr (fun r _ => inRange_lt _)) $$ [Hx H8 H6 R9 HD Hm]
  · isplitl [Hx]; · iexact Hx
    isplitl [H8]; · iexact H8
    isplitl [H6]; · iexact H6
    isplitl [R9]; · iexact R9
    isplitl [HD] <;> iassumption
  iintro ⟨Hx, H8, H6, R9, HD⟩
  ihave Hx := (sheet_mono (F := F) (e := .f32) (gtile dv i) (h := x) (fun _ _ => Iff.rfl) (fun r _ j _ _ => by rw [Nat.zero_add])) $$ Hx
  ihave Hx := Hxb $$ Hx
  iapply (wp_scale 𝒱 bd h dv) $$ [H7 H8]
  · isplitl [H7] <;> iassumption
  iintro %acc2 ⟨H7, H8⟩
  -- the rows put in their places
  ihave Hm := (Transfers.MayWaits.elim (.dma v16_r2.sem)) $$ Hmw
  ihave Ho := (sheet_window (F := F) (e := .f32) (gtile dv i) (a := 50000) (b := 128) (k := 400) (m := arg5) (q := fullShare) (g := upTo i (product x idx keys) g t.val)
    (h := fun r j => FloatOps.mulf (x (inRange (idx (start i + 400 * t.val + r))).toNat j) (factor F (keys (start i + 400 * t.val + r)))) (P := mine i)
    (inb := k0_off11_inb i t h) (h1 := fun _ => rfl) (start i + 400 * t.val) ho11 (fun r h1 h2 => ⟨by omega, by omega⟩) (upTo i (product x idx keys) g (t.val + 1))
    (fun r hr j hj => by unfold upTo; rw [if_pos (by omega)]; rfl)
    (fun r hr j hj hm hn => by
      have := hm.1
      unfold upTo
      by_cases hlt : r < start i + 400 * t.val
      · rw [if_pos (by omega), if_pos (by omega)]
      · rw [if_neg (by omega), if_neg (by omega)])) $$ Ho
  icases Ho with ⟨Ho, Hob⟩
  iapply (full_copy (F := F) (e := .f32) 𝒱 (gtile dv i) bd EC (a := 400) (b := 128) (by decide) ι (hok _)) $$ [H8 Ho R2 HD Hm]
  · isplitl [H8]; · iexact H8
    isplitl [Ho]; · iexact Ho
    isplitl [R2]; · iexact R2
    isplitl [HD] <;> iassumption
  iintro ⟨H8, Ho, R2, HD⟩
  ihave Ho := (sheet_mono (F := F) (e := .f32) (gtile dv i) (a := 400) (b := 128)
    (h := fun r j => FloatOps.mulf (x (inRange (idx (start i + 400 * t.val + r))).toNat j) (factor F (keys (start i + 400 * t.val + r))))
    (fun _ _ => Iff.rfl) (fun r _ j _ _ => by rw [Nat.zero_add])) $$ Ho
  ihave Ho := Hob $$ Ho
  rw [wp_pure]
  imodintro
  isplitr; · iexact Hmw
  isplitl [Hi Hk Hx]
  · isplitl [Hi]; · iexact Hi
    isplitl [Hk]; · iexact Hk
    iexact Hx
  isplitl [Ho]; · iexact Ho
  isplitl [H6 H7 H8]
  · isplitl [H6]; · iexists _; iexact H6
    isplitl [H7]; · iexists _; iexact H7
    iexists _; iexact H8
  isplitl [R0 R1 R9 R2]
  · isplitl [R0]; · iexact R0
    isplitl [R1]; · iexact R1
    isplitl [R9]; · iexact R9
    iexact R2
  iexact HD

/-- The tile's whole run: its rows at the products. -/
theorem wp_rows (ι : Ix) {O : CellTallies nD τ sig Ix} {ok : SemLoc sig × Ix → Prop} (hok : ∀ s, ok (.dma s, ι))
    (hcr : ∀ s' : Shape, sig.dmaCredit .scVector (Kind.scVector.table .vmem) arg8.view.buf s' .f32 = s'.numel * EltTy.f32.bits)
    {q : PosShare TreeShare} {idx keys : ℕ → BitVec 32} {x g : ℕ → ℕ → F .f32} :
    (iprop(Transfers.MayWaits (gtile dv i) ι O ∗ Given dv i arg2 arg3 arg4 q idx keys x ∗ Made dv i arg5 g ∗ Scratch dv i arg6 arg7 arg8
        ∗ Still dv i arg9 v16_r0 v16_r1 v16_r2 ∗ Debt (gtile dv i) O ok) : sProp 𝕄)
      ⊢ wp frame (wpE defs 𝒱 (gtile dv i) bd) Set.univ
          (cc0__gather_body i arg2 harg2 arg3 harg3 arg4 harg4 arg5 harg5 arg6 harg6 arg7 harg7 arg8 harg8 arg9 v16_r0 v16_r1 v16_r2)
          fun _ => iprop(Given dv i arg2 arg3 arg4 q idx keys x ∗ Made dv i arg5 (product x idx keys) ∗ Scratch dv i arg6 arg7 arg8
            ∗ Still dv i arg9 v16_r0 v16_r1 v16_r2 ∗ Debt (gtile dv i) O ok) := by
  rw [cc0__gather_body_eq_skeleton]
  unfold cc0__gather_body_skel
  by_cases h : k0_cond1 i = 1#1
  · rw [dif_pos h]
    simp only [bind_assoc, pure_bind]
    iintro ⟨#Hmw, HG, Ho, HS, HR, HD⟩
    iapply (grip_loop 𝒱 bd dv (k0_t1_ok i h) (0#32 : BitVec 32) _
      (fun t _ => iprop(Transfers.MayWaits (gtile dv i) ι O ∗ Given dv i arg2 arg3 arg4 q idx keys x ∗ Made dv i arg5 (upTo i (product x idx keys) g t) ∗ Scratch dv i arg6 arg7 arg8
        ∗ Still dv i arg9 v16_r0 v16_r1 v16_r2 ∗ Debt (gtile dv i) O ok)) ?_) $$ [HG Ho HS HR HD]
    · intro t acc
      exact wp_round 𝒱 bd dv i EC arg2 harg2 arg3 harg3 arg4 harg4 arg5 harg5 arg6 harg6 arg7 harg7 arg8 harg8 arg9 v16_r0 v16_r1 v16_r2 h t acc ι hok hcr
    · isplitr; · iexact Hmw
      isplitl [HG]; · iexact HG
      isplitl [Ho]
      · iapply (sheet_mono (F := F) (e := .f32) (gtile dv i) (fun _ _ => Iff.rfl) (fun r _ j _ hm => by
          unfold upTo; rw [if_neg (by have := hm.1; omega)])) $$ Ho
      isplitl [HS]; · iexact HS
      isplitl [HR] <;> iassumption
    iintro %acc ⟨-, HG, Ho, HS, HR, HD⟩
    rw [wp_pure]
    imodintro
    isplitl [HG]; · iexact HG
    isplitl [Ho]
    · iapply (sheet_mono (F := F) (e := .f32) (gtile dv i) (fun _ _ => Iff.rfl) (fun r _ j _ hm => by
        unfold upTo; rw [if_pos (by have := hm.2; rw [trips1]; omega)])) $$ Ho
    isplitl [HS]; · iexact HS
    isplitl [HR] <;> iassumption
  · rw [dif_neg h]
    simp only [pure_bind]
    iintro ⟨-, HG, Ho, HS, HR, HD⟩
    rw [wp_pure]
    imodintro
    isplitl [HG]; · iexact HG
    isplitl [Ho]
    · iapply (sheet_mono (F := F) (e := .f32) (gtile dv i) (fun _ _ => Iff.rfl) (fun r hr j _ hm => by
        have h1 := hm.1
        have h2 := (cond1_iff i).not.mp h
        unfold start at h1; omega)) $$ Ho
    isplitl [HS]; · iexact HS
    isplitl [HR] <;> iassumption

end Cert.Proof.RowsTile

end
-- ==== Proof.RowsSetup.lean ====
/-
  The row call as the launch theorem takes it: what the handshakes carry, each tile's task, and the lists and the tables
  dealt to the tiles and gathered from them.
-/
module

public import proofs.«01_k».proof.Proof.RowsTile
public import proofs.«01_k».proof.Proof.Setup
public import Idealize.ShloMosaic.Lib.ShareLeaves

@[expose] public section

set_option synthInstance.maxSize 4096

noncomputable section

namespace Cert.Proof.RowsSetup

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.SL.ExclCount
open Idealize.ShloMosaic.Rounds
open Cert.Whole Cert.Whole.Gen Cert.Proof.Words Cert.Proof.Table Cert.Proof.Rows Cert.Proof.RowsTile
open Cert.Proof.Setup (byNum byNum_eq conj both peel)

variable {F : FTy → Type}

abbrev ΛP : Labels := Pipeline.Sig Λ₀ (Fin 0) fun p => (pcfgs (F := F) p).Adm
abbrev K : SparseCore.Cfg τ sig (ΛP (F := F)) 1 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The copies' counters. -/
abbrev EC : UEmb Counters (MT nD τ sig (HIx 1) (Elt F) ℕ UU ℕ) := (UEmb.inr : UEmb Counters UU).trans uEmb
instance EC_landsIn : (EC (F := F)).LandsIn (upEmb : UEmb _ 𝕄) := by unfold EC; infer_instance

/-! ## The arrays -/

abbrev iLoc (d : Dev nD) : Loc nD τ sig := (SparseCore.T d).loc main_v21
abbrev kLoc (d : Dev nD) : Loc nD τ sig := (SparseCore.T d).loc main_v25
abbrev xLoc (d : Dev nD) : Loc nD τ sig := (SparseCore.T d).loc main_arg0
abbrev oLoc (d : Dev nD) : Loc nD τ sig := (SparseCore.T d).loc main_v26

abbrev aI : Memref sig .scVector .hbm S50176 .i32 := Memref.whole main_v21_scv
abbrev aK : Memref sig .scVector .hbm S50176 .i32 := Memref.whole main_v25_scv
abbrev aX : Memref sig .scVector .hbm S100000x128 .f32 := Memref.whole main_arg0_scv
abbrev aO : Memref sig .scVector .hbm S50000x128 .f32 := Memref.whole main_v26_scv
abbrev w6 : Memref sig .scVector .vmem S400 .i32 := Memref.whole cc0_scratch0
abbrev w7 : Memref sig .scVector .vmem S400 .i32 := Memref.whole cc0_scratch1
abbrev w8 : Memref sig .scVector .vmem S400x128 .f32 := Memref.whole cc0_scratch2

def coordsV (c : Fin (grid0.bound 0)) (s : Fin (grid0.bound 1)) : grid0.Coords :=
  fun | 0 => c | 1 => s | ⟨_ + 2, h⟩ => absurd h (Nat.not_lt.2 (Nat.le_add_left _ _))

/-- A table's contents by row and column number. -/
def byPair {a b : ℕ} {α : Type} (ha : 0 < a) (hb : 0 < b) (f : (Grid a b).Idx → α) (i j : ℕ) : α :=
  f (spot (i % a) (j % b) (Nat.mod_lt _ ha) (Nat.mod_lt _ hb))

theorem byPair_eq {a b : ℕ} {α : Type} (ha : 0 < a) (hb : 0 < b) (f : (Grid a b).Idx → α) (x : (Grid a b).Idx) :
    byPair ha hb f (x 0).val (x 1).val = f x :=
  congrArg f (grid_ext (Nat.mod_eq_of_lt (x 0).isLt) (Nat.mod_eq_of_lt (x 1).isLt))

/-! ## Whole lists and whole tables as their buffers -/

section Whole
variable {nD : Nat} {τ : Topo} {sig : RefSig} {Ix : Type} [DecidableEq Ix] {Name : Type} [DecidableEq Name]
variable {U : Type} [URA U] {Lvl : Type} {c : Thread nD τ} {sp : Space} {e : EltTy}

/-- A table at some contents is its buffer at some contents. -/
theorem any_table {a b : ℕ} (ha : 0 < a) (hb : 0 < b) {r : Memref sig c.2.kind sp (Grid a b) e} (hr : r.view.set = Finset.univ) {q : PosShare TreeShare} :
    (iprop(∃ g, Full (F := F) c r q g) : sProp (MT nD τ sig Ix (Elt F) Name U Lvl)) = iprop(∃ f, r.view.loc c ↦{q} f) := by
  have h1 : (iprop(∃ g, Full (F := F) c r q g) : sProp (MT nD τ sig Ix (Elt F) Name U Lvl)) ⊢ iprop(∃ f, r.view.loc c ↦{q} f) := by
    iintro ⟨%g, H⟩
    ihave H := (Entails.of_eq (full_eq (F := F) c (m := r) (q := q) (g := g))) $$ H
    icases H with ⟨%f, -, H⟩
    rw [hr]
    iexists f; iexact H
  have h2 : (iprop(∃ f, r.view.loc c ↦{q} f) : sProp (MT nD τ sig Ix (Elt F) Name U Lvl)) ⊢ iprop(∃ g, Full (F := F) c r q g) := by
    iintro ⟨%f, H⟩
    iexists (byPair ha hb (r.view.read (Elt F) f))
    iapply (Entails.of_eq (full_eq (F := F) c (m := r) (q := q) (g := byPair ha hb (r.view.read (Elt F) f))).symm)
    iexists f
    rw [hr]
    isplitr; · ipureintro; exact funext fun x => (byPair_eq ha hb _ x).symm
    iexact H
  exact equiv_iff.mp ⟨h1, h2⟩

theorem any_list {n : ℕ} (hn : 0 < n) {r : Memref sig c.2.kind sp (Arr n) e} (hr : r.view.set = Finset.univ) {q : PosShare TreeShare} :
    (iprop(∃ a, Holds (F := F) c r q a) : sProp (MT nD τ sig Ix (Elt F) Name U Lvl)) = iprop(∃ f, r.view.loc c ↦{q} f) := by
  have h1 : (iprop(∃ a, Holds (F := F) c r q a) : sProp (MT nD τ sig Ix (Elt F) Name U Lvl)) ⊢ iprop(∃ f, r.view.loc c ↦{q} f) := by
    iintro ⟨%a, H⟩
    ihave H := (Entails.of_eq (holds_eq (F := F) c (m := r) (q := q) (a := a))) $$ H
    icases H with ⟨%f, -, H⟩
    rw [hr]
    iexists f; iexact H
  have h2 : (iprop(∃ f, r.view.loc c ↦{q} f) : sProp (MT nD τ sig Ix (Elt F) Name U Lvl)) ⊢ iprop(∃ a, Holds (F := F) c r q a) := by
    iintro ⟨%f, H⟩
    iexists (byNum hn (r.view.read (Elt F) f))
    iapply (Entails.of_eq (holds_eq (F := F) c (m := r) (q := q) (a := byNum hn (r.view.read (Elt F) f))).symm)
    iexists f
    rw [hr]
    isplitr; · ipureintro; exact funext fun x => (byNum_eq hn _ x).symm
    iexact H
  exact equiv_iff.mp ⟨h1, h2⟩

/-- A list that holds its entries by number is its buffer at them. -/
theorem list_buf {n : ℕ} {M : Memref sig c.2.kind sp (Arr n) e} (hM : M.view.set = Finset.univ) {q : PosShare TreeShare} {g : Buf (Elt F) (M.view.loc c)} {a : ℕ → Elt F e}
    (hr : M.view.read (Elt F) g = fun x => a (x 0).val) (hg : ∀ f : Buf (Elt F) (M.view.loc c), M.view.read (Elt F) f = M.view.read (Elt F) g → f = g) :
    (Holds (F := F) c M q a : sProp (MT nD τ sig Ix (Elt F) Name U Lvl)) = (M.view.loc c ↦{q} g) := by
  rw [holds_eq, hM]
  have h1 : (iprop(∃ f, ⌜M.view.read (Elt F) f = fun x => a (x 0).val⌝ ∗ (M.view.loc c ↦{q} f)) : sProp (MT nD τ sig Ix (Elt F) Name U Lvl)) ⊢ (M.view.loc c ↦{q} g) := by
    iintro ⟨%f, %hf, H⟩
    rw [hg f (hf.trans hr.symm)]
    iexact H
  have h2 : (M.view.loc c ↦{q} g : sProp (MT nD τ sig Ix (Elt F) Name U Lvl)) ⊢ iprop(∃ f, ⌜M.view.read (Elt F) f = fun x => a (x 0).val⌝ ∗ (M.view.loc c ↦{q} f)) := by
    iintro H
    iexists g
    isplitr; · ipureintro; exact hr
    iexact H
  exact equiv_iff.mp ⟨h1, h2⟩

/-- A table likewise. -/
theorem table_buf {a b : ℕ} {M : Memref sig c.2.kind sp (Grid a b) e} (hM : M.view.set = Finset.univ) {q : PosShare TreeShare} {g : Buf (Elt F) (M.view.loc c)} {v : ℕ → ℕ → Elt F e}
    (hr : M.view.read (Elt F) g = fun x => v (x 0).val (x 1).val) (hg : ∀ f : Buf (Elt F) (M.view.loc c), M.view.read (Elt F) f = M.view.read (Elt F) g → f = g) :
    (Full (F := F) c M q v : sProp (MT nD τ sig Ix (Elt F) Name U Lvl)) = (M.view.loc c ↦{q} g) := by
  rw [full_eq, hM]
  have h1 : (iprop(∃ f, ⌜M.view.read (Elt F) f = fun x => v (x 0).val (x 1).val⌝ ∗ (M.view.loc c ↦{q} f)) : sProp (MT nD τ sig Ix (Elt F) Name U Lvl)) ⊢ (M.view.loc c ↦{q} g) := by
    iintro ⟨%f, %hf, H⟩
    rw [hg f (hf.trans hr.symm)]
    iexact H
  have h2 : (M.view.loc c ↦{q} g : sProp (MT nD τ sig Ix (Elt F) Name U Lvl)) ⊢ iprop(∃ f, ⌜M.view.read (Elt F) f = fun x => v (x 0).val (x 1).val⌝ ∗ (M.view.loc c ↦{q} f)) := by
    iintro H
    iexists g
    isplitr; · ipureintro; exact hr
    iexact H
  exact equiv_iff.mp ⟨h1, h2⟩

end Whole

/-! ## A tile's own buffers and counts -/

section OwnTile
variable (dv : Dev nD) (i : grid0.Coords)

abbrev counts : List (DmaSem sig) := [cc0_scoped1.sem, cc0_scratch3.sem, cc0_scoped2.sem]
abbrev works : List (Ref sig .scVector) := [cc0_scratch1, cc0_scratch2]

theorem ownBufs_tile : (ownBufs (gtile dv i) : sProp 𝕄) = iprop(Scratch (F := F) dv i w6 w7 w8
    ∗ bigSep (ownRefs (gtile dv i).2 \ (((cc0_scratch0 : Ref sig .scVector) :: works).map (gtile dv i).2.devRef).toFinset) fun b => iprop(∃ f, ((dv, b) : Loc nD τ sig) ↦{fullShare} f)) := by
  have hO : ∀ r ∈ (cc0_scratch0 : Ref sig .scVector) :: works, ((gtile dv i).2.devRef r).owner = .proc (gtile dv i).2 := by
    intro r hr
    simp only [List.mem_cons, List.not_mem_nil, or_false] at hr
    rcases hr with rfl | rfl | rfl <;> rfl
  unfold SparseCore.Cfg.ownBufs
  refine (peel _ (works.map (gtile dv i).2.devRef) ((gtile dv i).2.devRef cc0_scratch0) _
    (List.Nodup.map (f := (gtile dv i).2.devRef (sig := sig)) (l := (cc0_scratch0 : Ref sig .scVector) :: works) (Proc.devRef_injective _) (by decide)) ?_).trans ?_
  · intro y hy
    obtain ⟨r, hr, rfl⟩ := List.mem_map.mp (show y ∈ ((cc0_scratch0 : Ref sig .scVector) :: works).map (gtile dv i).2.devRef from hy)
    exact SparseCore.Cfg.mem_ownRefs_of_owner (hO r hr)
  · refine congrArg₂ _ ?_ rfl
    unfold Scratch
    exact both (any_list (F := F) (c := gtile dv i) (n := 400) (by decide) (r := w6) (View.set_whole _)).symm
      <| both (any_list (F := F) (c := gtile dv i) (n := 400) (by decide) (r := w7) (View.set_whole _)).symm
      <| (any_table (F := F) (c := gtile dv i) (a := 400) (b := 128) (by decide) (by decide) (r := w8) (View.set_whole _)).symm

theorem ownSems_tile : (ownSems0 (gtile dv i) : sProp 𝕄) = iprop(Still (F := F) dv i cc0_scratch3 cc0_scoped0 cc0_scoped1 cc0_scoped2
    ∗ bigSep (ownCells (gtile dv i) \ (((cc0_scoped0.sem : DmaSem sig) :: counts).map fun s => ((gtile dv i, .dma s) : GSem nD τ sig)).toFinset) fun g => semVal g 0) := by
  unfold SparseCore.Cfg.ownSems0
  refine (peel _ (counts.map fun s => ((gtile dv i, .dma s) : GSem nD τ sig)) (gtile dv i, .dma cc0_scoped0.sem) _
    (List.Nodup.map (fun a b e => SemLoc.dma.inj (Prod.mk.inj e).2) (show ((cc0_scoped0.sem : DmaSem sig) :: counts).Nodup by decide)) ?_).trans ?_
  · intro y hy
    obtain ⟨s, hs, rfl⟩ := List.mem_map.mp (show y ∈ ((cc0_scoped0.sem : DmaSem sig) :: counts).map fun s => ((gtile dv i, .dma s) : GSem nD τ sig) from hy)
    refine mem_ownCells.mpr ⟨rfl, ?_⟩
    exact (show ∀ s : DmaSem sig, (SemLoc.dma s : SemLoc sig).isScoped .scVector = true by decide) s
  · rfl

end OwnTile

/-! ## What the handshakes carry -/

/-- The tiles of both cores, numbered. -/
abbrev tileNum : Fin 2 × Fin 16 ≃ Fin (2 ^ 5) := finProdFinEquiv.trans (finCongr (by decide))

variable (idx keys : Dev nD → ℕ → BitVec 32) (x : Dev nD → ℕ → ℕ → F .f32)

/-- What a tile reads: its share of the lists and of the table. -/
abbrev reads (d : Dev nD) (c : Fin 2) (s : Fin 16) : sProp 𝕄 :=
  Given (F := F) d (coordsV c s) aI aK aX (leaf 5 fullShare (tileNum (c, s))) (idx d) (keys d) (x d)
/-- A tile's rows of the result, before. -/
abbrev before (d : Dev nD) (c : Fin 2) (s : Fin 16) : sProp 𝕄 := iprop(∃ g, Made (F := F) d (coordsV c s) aO g)

abbrev coreOf (c : Fin ((K (F := F)).nCore 0)) : Fin 2 := ⟨c.val, c.isLt⟩
abbrev subOf (i : Fin ((K (F := F)).nSub 0)) : Fin 16 := ⟨i.val, i.isLt⟩

variable [BitOps F]

/-- A tile's rows of the result, after. -/
abbrev result (d : Dev nD) (c : Fin 2) (s : Fin 16) : sProp 𝕄 := Made (F := F) d (coordsV c s) aO (product (x d) (idx d) (keys d))

def handed (d : Dev nD) (c : Fin 2) (s : Fin 16) : sProp 𝕄 := iprop(reads idx keys x d c s ∗ before d c s)
def returned (d : Dev nD) (c : Fin 2) (s : Fin 16) : sProp 𝕄 := iprop(reads idx keys x d c s ∗ result idx keys x d c s)

instance handed_storable (d : Dev nD) (c : Fin 2) (s : Fin 16) : BI.Storable (upEmb : UEmb _ 𝕄) (handed idx keys x d c s) := by unfold handed; infer_instance
instance returned_storable (d : Dev nD) (c : Fin 2) (s : Fin 16) : BI.Storable (upEmb : UEmb _ 𝕄) (returned idx keys x d c s) := by unfold returned; infer_instance

set_option backward.proofsInPublic true in
def P : (K (F := F)).Pay (nD := nD) (Val := Elt F) (Name := ℕ) (U := UU) where
  st := fun q d c => match q with | 0 => bigSep Finset.univ fun s : Fin 16 => handed idx keys x d (coreOf c) s
  dn := fun q d c => match q with | 0 => bigSep Finset.univ fun s : Fin 16 => returned idx keys x d (coreOf c) s
  go := fun q d c i => match q with | 0 => handed idx keys x d (coreOf c) (subOf i)
  td := fun q d c i => match q with | 0 => returned idx keys x d (coreOf c) (subOf i)
  x := fun _ _ => iprop(emp)

instance P_storable : (P (F := F) idx keys x).IsStorable where
  st q d c := match q with
    | 0 => (inferInstance : BI.Storable (upEmb : UEmb _ 𝕄) (bigSep Finset.univ fun s : Fin 16 => handed idx keys x d (coreOf c) s))
  dn q d c := match q with
    | 0 => (inferInstance : BI.Storable (upEmb : UEmb _ 𝕄) (bigSep Finset.univ fun s : Fin 16 => returned idx keys x d (coreOf c) s))
  go q d c i := match q with
    | 0 => (inferInstance : BI.Storable (upEmb : UEmb _ 𝕄) (handed idx keys x d (coreOf c) (subOf i)))
  td q d c i := match q with
    | 0 => (inferInstance : BI.Storable (upEmb : UEmb _ 𝕄) (returned idx keys x d (coreOf c) (subOf i)))

theorem vecSplit : (K (F := F)).VecSplit' (P idx keys x) 0 := by
  intro d c
  show (bigSep Finset.univ fun s : Fin 16 => handed idx keys x d (coreOf c) s) ⊢ |={Set.univ}=> iprop(
      (bigSep Finset.univ fun s : Fin 16 => handed idx keys x d (coreOf c) s)
      ∗ ((bigSep Finset.univ fun s : Fin 16 => returned idx keys x d (coreOf c) s)
          -∗ bigSep Finset.univ fun s : Fin 16 => returned idx keys x d (coreOf c) s))
  iintro H; imodintro
  isplitl [H]; · iexact H
  iintro H; iexact H

/-! ## The task -/

theorem defs₀_vector (c : Fin τ.nSC) (s : Fin τ.nSub) :
    defs₀ (F := F) (.scVector c s) 0 ()
      = SparseCore.onTile hcore0 hsub0 (fun c s => cc0__gather_body (coordsV c s)
          aI (Memref.isWhole_whole _) aK (Memref.isWhole_whole _) aX (Memref.isWhole_whole _) aO (Memref.isWhole_whole _)
          w6 (Memref.isWhole_whole _) w7 (Memref.isWhole_whole _) w8 (Memref.isWhole_whole _) cc0_scratch3 cc0_scoped0 cc0_scoped1 cc0_scoped2) ⟨⟩ c s := rfl

theorem task (d : Dev nD) (c : Fin 2) (s : Fin 16) (O : CellTallies nD τ sig (HIx 1)) (W : Waits sig (HIx 1)) (hO : ∀ g, O g none = 0) :
    iprop(levAts (K (F := F)).L (K (F := F)).lev ∗ emp ∗ handed idx keys x d c s ∗ ownBufs (gtile d (coordsV c s)) ∗ ownSems0 (gtile d (coordsV c s))
        ∗ owes (gtile d (coordsV c s)) O W)
      ⊢ wp frame (wpE (defs₀ (F := F)) 𝒱₀ (gtile d (coordsV c s)) none) Set.univ
          (cc0__gather_body (coordsV c s) aI (Memref.isWhole_whole _) aK (Memref.isWhole_whole _) aX (Memref.isWhole_whole _) aO (Memref.isWhole_whole _)
            w6 (Memref.isWhole_whole _) w7 (Memref.isWhole_whole _) w8 (Memref.isWhole_whole _) cc0_scratch3 cc0_scoped0 cc0_scoped1 cc0_scoped2)
          fun _ => iprop(returned idx keys x d c s ∗ ownBufs (gtile d (coordsV c s)) ∗ ownSems0 (gtile d (coordsV c s))
            ∗ ∃ W', ⌜∀ p ∈ W', p ∈ W ∨ p.2 = none ∨ p.2 = some 0⌝ ∗ owes (gtile d (coordsV c s)) O W') := by
  rw [ownBufs_tile, ownSems_tile]
  unfold handed returned
  iintro ⟨#Hl, -, ⟨Hg, %g, Hm⟩, ⟨Ho, Ho'⟩, ⟨Hq, Hq'⟩, HO⟩
  ihave Hmw := (show levAts (K (F := F)).L (K (F := F)).lev ⊢ Transfers.MayWaits (gtile d (coordsV c s)) (none : HIx 1) O from
    (K (F := F)).mayWaits_none (thr := gtile d (coordsV c s)) hO) $$ Hl
  have key := wp_rows (F := F) (defs := defs₀ (F := F)) 𝒱₀ none d (coordsV c s) EC aI (Memref.isWhole_whole _) aK (Memref.isWhole_whole _) aX (Memref.isWhole_whole _) aO (Memref.isWhole_whole _)
    w6 (Memref.isWhole_whole _) w7 (Memref.isWhole_whole _) w8 (Memref.isWhole_whole _) cc0_scratch3 cc0_scoped0 cc0_scoped1 cc0_scoped2 (none : HIx 1) (O := O)
    (ok := fun p => p ∈ W ∨ p.2 = none ∨ p.2 = some 0) (fun _ => .inr (.inl rfl)) (fun _ => rfl)
    (q := leaf 5 fullShare (tileNum (c, s))) (idx := idx d) (keys := keys d) (x := x d) (g := g)
  iapply (wp_wand_r frame _ Set.univ)
  isplitl [Hmw Hg Hm Ho Hq HO]
  · iapply key
    isplitl [Hmw]; · iexact Hmw
    isplitl [Hg]; · iexact Hg
    isplitl [Hm]; · iexact Hm
    isplitl [Ho]; · iexact Ho
    isplitl [Hq]; · iexact Hq
    unfold Debt
    iexists W
    isplitr; · ipureintro; exact fun p hp => .inl hp
    iexact HO
  iintro %a ⟨Hg, Hm, Ho, Hq, HO⟩
  isplitl [Hg Hm]
  · isplitl [Hg]; · iexact Hg
    iexact Hm
  isplitl [Ho Ho']
  · isplitl [Ho]; · iexact Ho
    iexact Ho'
  isplitl [Hq Hq']
  · isplitl [Hq]; · iexact Hq
    iexact Hq'
  unfold Debt
  iexact HO

set_option maxRecDepth 16384 in
theorem tileObl (hF : (K (F := F)).Facts) : (K (F := F)).TileObl (D (F := F)) 𝒱 (P idx keys x) v₀ 0 := by
  intro d c i O W hO _ _
  simp only [show (P idx keys x).ox = fun _ _ => 0 from rfl, add_zero]
  have hci : ((K (F := F)).core 0 c).val < grid0.bound 0 ∧ ((K (F := F)).sub 0 i).val < grid0.bound 1 := ⟨c.isLt, i.isLt⟩
  rw [show (P idx keys x).x 0 (V d ((K (F := F)).core 0 c) ((K (F := F)).sub 0 i)) = iprop(emp) from rfl,
    (K (F := F)).scopedBufs_V hF d ((K (F := F)).core 0 c) ((K (F := F)).sub 0 i), SparseCore.Cfg.scopedSems0_V (Val := Elt F) d ((K (F := F)).core 0 c) ((K (F := F)).sub 0 i)]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task idx keys x d (coreOf c) (subOf i) O W hO

/-! ## The lists and the tables dealt, and gathered -/

omit [BitOps F] in
/-- A buffer's shares, one for each tile. -/
theorem deal (ℓ : Loc nD τ sig) (f : Buf (Elt F) ℓ) :
    (ℓ ↦{fullShare} f : sProp 𝕄) = bigSep Finset.univ fun c : Fin 2 => bigSep Finset.univ fun s : Fin 16 => ℓ ↦{leaf 5 fullShare (tileNum (c, s))} f := by
  rw [pointsTo_leaves Finset.univ f 5 fullShare, bigSep_univ_equiv tileNum, bigSep_univ_prod]

/-- The lists and the tables as buffers. -/
abbrev iBuf (d : Dev nD) : Buf (Elt F) (iLoc d) := (fun y => idx d (y 0).val : (⟨S50176, .i32⟩ : BufTy).Contents (Elt F))
abbrev kBuf (d : Dev nD) : Buf (Elt F) (kLoc d) := (fun y => keys d (y 0).val : (⟨S50176, .i32⟩ : BufTy).Contents (Elt F))
abbrev xBuf (d : Dev nD) : Buf (Elt F) (xLoc d) := (fun y => x d (y 0).val (y 1).val : (⟨S100000x128, .f32⟩ : BufTy).Contents (Elt F))
abbrev oBuf (d : Dev nD) : Buf (Elt F) (oLoc d) :=
  (fun y => product (x d) (idx d) (keys d) (y 0).val (y 1).val : (⟨S50000x128, .f32⟩ : BufTy).Contents (Elt F))

omit [BitOps F] in
theorem reads_eq (d : Dev nD) (c : Fin 2) (s : Fin 16) : (reads idx keys x d c s : sProp 𝕄)
    = iprop((iLoc d ↦{leaf 5 fullShare (tileNum (c, s))} iBuf (F := F) idx d) ∗ (kLoc d ↦{leaf 5 fullShare (tileNum (c, s))} kBuf (F := F) keys d)
        ∗ (xLoc d ↦{leaf 5 fullShare (tileNum (c, s))} xBuf x d)) :=
  both (list_buf (F := F) (c := gtile d (coordsV c s)) (M := aI) (View.set_whole _) (g := iBuf (F := F) idx d) rfl fun f h => h)
    <| both (list_buf (F := F) (c := gtile d (coordsV c s)) (M := aK) (View.set_whole _) (g := kBuf (F := F) keys d) rfl fun f h => h)
    <| table_buf (F := F) (c := gtile d (coordsV c s)) (M := aX) (View.set_whole _) (g := xBuf x d) rfl fun f h => h

omit [BitOps F] in
theorem deal_reads (d : Dev nD) :
    (bigSep Finset.univ fun c : Fin 2 => bigSep Finset.univ fun s : Fin 16 => reads idx keys x d c s : sProp 𝕄)
      = iprop((iLoc d ↦{fullShare} iBuf (F := F) idx d) ∗ (kLoc d ↦{fullShare} kBuf (F := F) keys d) ∗ (xLoc d ↦{fullShare} xBuf x d)) := by
  rw [deal (iLoc d), deal (kLoc d), deal (xLoc d)]
  simp only [reads_eq, bigSep_sep']

/-- The tile that makes a row. -/
def maker (r : ℕ) : Fin 2 × Fin 16 := (⟨r / 2000 % 2, Nat.mod_lt _ (by decide)⟩, ⟨r / 2000 / 2 % 16, Nat.mod_lt _ (by decide)⟩)

theorem maker_iff (c : Fin 2) (s : Fin 16) (r : ℕ) (hr : r < 50000) : (True ∧ maker r = (c, s)) ↔ mine (coordsV c s) r := by
  have hs := s.isLt
  have hc := c.isLt
  unfold mine start maker
  show (True ∧ _) ↔ 4000 * s.val + 2000 * c.val ≤ r ∧ r < 4000 * s.val + 2000 * c.val + 2000
  rw [true_and, Prod.mk.injEq, Fin.ext_iff, Fin.ext_iff]
  show (r / 2000 % 2 = c.val ∧ r / 2000 / 2 % 16 = s.val) ↔ _
  omega

abbrev i₀ : grid0.Coords := coordsV ⟨0, by decide⟩ ⟨0, by decide⟩

omit [BitOps F] in
theorem made_alike (d : Dev nD) (c : Fin 2) (s : Fin 16) (P : ℕ → Prop) (q : PosShare TreeShare) (g : ℕ → ℕ → F .f32) :
    (Sheet (F := F) (e := .f32) (gtile d i₀) aO P q g : sProp 𝕄) = Sheet (F := F) (e := .f32) (gtile d (coordsV c s)) aO P q g := rfl

omit [BitOps F] in
theorem deal_before (d : Dev nD) (f : Buf (Elt F) (oLoc d)) :
    (oLoc d ↦{fullShare} f : sProp 𝕄) ⊢ bigSep Finset.univ fun c : Fin 2 => bigSep Finset.univ fun s : Fin 16 => before d c s := by
  let g : ℕ → ℕ → F .f32 := byPair (a := 50000) (b := 128) (by decide) (by decide) (f : (Grid 50000 128).Idx → F .f32)
  have e : (Full (F := F) (e := .f32) (gtile d i₀) aO fullShare g : sProp 𝕄) = (oLoc d ↦{fullShare} f) :=
    table_buf (F := F) (c := gtile d i₀) (M := aO) (View.set_whole _) (g := f) (funext fun y => (byPair_eq (by decide) (by decide) _ y).symm) fun f' h => h
  rw [← e]
  refine (sheet_classes (F := F) (e := .f32) (gtile d i₀) (fun _ => True) maker).trans ?_
  rw [bigSep_univ_prod]
  refine bigSep_mono fun c _ => bigSep_mono fun s _ => ?_
  show (Sheet (F := F) (e := .f32) (gtile d i₀) aO (fun r => True ∧ maker r = (c, s)) fullShare g : sProp 𝕄) ⊢ before d c s
  iintro H
  iexists g
  iapply (Entails.of_eq (made_alike d c s (mine (coordsV c s)) fullShare g))
  iapply (sheet_mono (F := F) (e := .f32) (gtile d i₀) (fun r hr => maker_iff c s r hr) (fun _ _ _ _ _ => rfl)) $$ H

theorem join_result (d : Dev nD) :
    (bigSep Finset.univ fun c : Fin 2 => bigSep Finset.univ fun s : Fin 16 => result idx keys x d c s : sProp 𝕄) ⊢ (oLoc d ↦{fullShare} oBuf idx keys x d) := by
  have e : (Full (F := F) (e := .f32) (gtile d i₀) aO fullShare (product (x d) (idx d) (keys d)) : sProp 𝕄) = (oLoc d ↦{fullShare} oBuf idx keys x d) :=
    table_buf (F := F) (c := gtile d i₀) (M := aO) (View.set_whole _) (g := oBuf idx keys x d) rfl fun f' h => h
  rw [← e]
  refine BI.Entails.trans ?_ (sheet_join (F := F) (e := .f32) (gtile d i₀) (fun _ : Fin 2 × Fin 16 => product (x d) (idx d) (keys d)) (fun _ => True) maker)
  rw [bigSep_univ_prod]
  refine bigSep_mono fun c _ => bigSep_mono fun s _ => ?_
  show (result idx keys x d c s : sProp 𝕄)
    ⊢ Sheet (F := F) (e := .f32) (gtile d i₀) aO (fun r => True ∧ maker r = (c, s)) fullShare (product (x d) (idx d) (keys d))
  iintro H
  ihave H := (Entails.of_eq (made_alike d c s (mine (coordsV c s)) fullShare (product (x d) (idx d) (keys d))).symm) $$ H
  iapply (sheet_mono (F := F) (e := .f32) (gtile d i₀) (fun r hr => (maker_iff c s r hr).symm) (fun _ _ _ _ _ => rfl)) $$ H

omit [BitOps F] in
theorem apart (A B : Fin 2 → Fin 16 → sProp 𝕄) : (bigSep Finset.univ fun c => bigSep Finset.univ fun s => iprop(A c s ∗ B c s))
    = iprop((bigSep Finset.univ fun c => bigSep Finset.univ fun s => A c s) ∗ bigSep Finset.univ fun c => bigSep Finset.univ fun s => B c s) := by
  simp only [bigSep_sep']

omit [BitOps F] in
theorem over_cores (Φ : Fin ((K (F := F)).nCore 0) → sProp 𝕄) (Ψ : Fin 2 → sProp 𝕄) (h : ∀ c, Φ c = Ψ (coreOf c)) : bigSep Finset.univ Φ = bigSep Finset.univ Ψ := by
  show bigSep (Finset.univ : Finset (Fin 2)) Φ = _
  exact bigSep_congr fun c _ => h c

theorem starts (d : Dev nD) (f : Buf (Elt F) (oLoc d)) :
    (iprop(((iLoc d ↦{fullShare} iBuf (F := F) idx d) ∗ (kLoc d ↦{fullShare} kBuf (F := F) keys d) ∗ (xLoc d ↦{fullShare} xBuf x d)) ∗ (oLoc d ↦{fullShare} f)) : sProp 𝕄)
      ⊢ bigSep Finset.univ fun c : Fin ((K (F := F)).nCore 0) => (P idx keys x).st 0 d c := by
  have e : (bigSep Finset.univ fun c : Fin ((K (F := F)).nCore 0) => (P idx keys x).st 0 d c : sProp 𝕄)
      = iprop((bigSep Finset.univ fun c : Fin 2 => bigSep Finset.univ fun s : Fin 16 => reads idx keys x d c s)
        ∗ bigSep Finset.univ fun c : Fin 2 => bigSep Finset.univ fun s : Fin 16 => before d c s) := by
    refine Eq.trans (over_cores _ (fun c : Fin 2 => bigSep Finset.univ fun s : Fin 16 => handed idx keys x d c s) fun c => rfl) ?_
    unfold handed
    exact apart (fun c s => reads idx keys x d c s) (fun c s => before d c s)
  rw [e, deal_reads]
  exact sep_mono_right (deal_before d f)

theorem ends (d : Dev nD) :
    (bigSep Finset.univ fun c : Fin ((K (F := F)).nCore 0) => (P idx keys x).dn 0 d c : sProp 𝕄)
      ⊢ iprop(((iLoc d ↦{fullShare} iBuf (F := F) idx d) ∗ (kLoc d ↦{fullShare} kBuf (F := F) keys d) ∗ (xLoc d ↦{fullShare} xBuf x d)) ∗ (oLoc d ↦{fullShare} oBuf idx keys x d)) := by
  have e : (bigSep Finset.univ fun c : Fin ((K (F := F)).nCore 0) => (P idx keys x).dn 0 d c : sProp 𝕄)
      = iprop((bigSep Finset.univ fun c : Fin 2 => bigSep Finset.univ fun s : Fin 16 => reads idx keys x d c s)
        ∗ bigSep Finset.univ fun c : Fin 2 => bigSep Finset.univ fun s : Fin 16 => result idx keys x d c s) := by
    refine Eq.trans (over_cores _ (fun c : Fin 2 => bigSep Finset.univ fun s : Fin 16 => returned idx keys x d c s) fun c => rfl) ?_
    unfold returned
    exact apart (fun c s => reads idx keys x d c s) (fun c s => result idx keys x d c s)
  rw [e, deal_reads]
  exact sep_mono_right (join_result idx keys x d)

/-! ## The launch's ghost state -/

def u₀ : UU := (initOf (K (F := F)).hsCells (K (F := F)).hsToks, 1)

omit [BitOps F] in
theorem no_parts {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P idx keys x).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_parts]; iempintro
  rw [show (bigSep Finset.univ fun thr : Thread nD τ => bigSep Finset.univ fun q : Fin 1 => (P (F := F) idx keys x).x q thr) = bigSep Finset.univ fun _ => iprop(emp) from
    bigSep_congr fun _ _ => bigSep_univ_of_subsingleton (0 : Fin 1), no_parts]
  iempintro

end Cert.Proof.RowsSetup

end
-- ==== Proof.RowsHost.lean ====
/-
  The host's operations around the row call: the scores and the selection of the greatest before it, the loss after it.
-/
module

public import proofs.«01_k».proof.Proof.Gen.Whole
public import Idealize.ShloMosaic.Lib.StableHlo.Run

@[expose] public section

set_option synthInstance.maxSize 4096

noncomputable section

namespace Cert.Proof.RowsHost

open Cert.Whole Cert.Whole.Gen Idealize.ShloMosaic Idealize.ShloMosaic.TcCoe Idealize.SL.Sem Idealize.ShloMosaic.StableHlo

variable {F : FTy → Type} [BitOps F]

/-- The scores. -/
abbrev scoring : List (HloOp τ sig (Elt F)) :=
  [ TRef.binary (TRef.of (T := ⟨S128x1, .f32⟩) main_arg1) (TRef.of (T := ⟨S128x1, .f32⟩) main_arg1) (TRef.of (T := ⟨S128x1, .f32⟩) main_call0_v0) mulf,
    TRef.nullary (TRef.of (T := ⟨S_, .f32⟩) main_call0_cst) (constant S_ .f32 0x00000000#32),
    TRef.binary (TRef.of (T := ⟨S128x1, .f32⟩) main_call0_v0) (TRef.of (T := ⟨S_, .f32⟩) main_call0_cst) (TRef.of (T := ⟨S_, .f32⟩) main_call0_v1) (fun x v => Host.reduceAdd x v reducesTo_S128x1_S_d0_1 h_S_),
    TRef.unary (TRef.of (T := ⟨S_, .f32⟩) main_call0_v1) (TRef.of (T := ⟨S_, .f32⟩) main_v0) Host.sqrt,
    nullary main_cst (constant S_ .f32 0x322BCC77#32),
    binary main_v0 main_cst main_v1 (addf : (⟨S_, .f32⟩ : BufTy).Contents (Elt F) → (⟨S_, .f32⟩ : BufTy).Contents (Elt F) → (⟨S_, .f32⟩ : BufTy).Contents (Elt F)),
    unary main_v1 main_v2 (broadcastInDim S128x1 ![] bcast_S_S128x1 : (⟨S_, .f32⟩ : BufTy).Contents (Elt F) → (⟨S128x1, .f32⟩ : BufTy).Contents (Elt F)),
    binary main_arg1 main_v2 main_v3 (Host.divf : (⟨S128x1, .f32⟩ : BufTy).Contents (Elt F) → (⟨S128x1, .f32⟩ : BufTy).Contents (Elt F) → (⟨S128x1, .f32⟩ : BufTy).Contents (Elt F)),
    binary main_arg0 main_v3 main_v4 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    nullary main_cst_0 (constant S_ .f32 0x00000000#32),
    binary main_v4 main_cst_0 main_v5 ((fun x v => Host.reduceAdd x v reducesTo_S100000x1_S_d0_1 h_S_) : (⟨S100000x1, .f32⟩ : BufTy).Contents (Elt F) → (⟨S_, .f32⟩ : BufTy).Contents (Elt F) → (⟨S_, .f32⟩ : BufTy).Contents (Elt F)),
    nullary main_cst_1 (constant S_ .f32 0x47C35000#32),
    binary main_v5 main_cst_1 main_v6 (Host.divf : (⟨S_, .f32⟩ : BufTy).Contents (Elt F) → (⟨S_, .f32⟩ : BufTy).Contents (Elt F) → (⟨S_, .f32⟩ : BufTy).Contents (Elt F)),
    unary main_v6 main_v7 (broadcastInDim S100000x1 ![] bcast_S_S100000x1 : (⟨S_, .f32⟩ : BufTy).Contents (Elt F) → (⟨S100000x1, .f32⟩ : BufTy).Contents (Elt F)),
    binary main_v4 main_v7 main_v8 (subf : (⟨S100000x1, .f32⟩ : BufTy).Contents (Elt F) → (⟨S100000x1, .f32⟩ : BufTy).Contents (Elt F) → (⟨S100000x1, .f32⟩ : BufTy).Contents (Elt F)),
    nullary main_c (constantI S_ 32 0#32),
    TRef.nullary (TRef.of (T := ⟨S_, .f32⟩) main_call1_call0_cst) (constant S_ .f32 0x00000000#32),
    TRef.binary (TRef.of (T := ⟨S100000x1, .f32⟩) main_v4) (TRef.of (T := ⟨S_, .f32⟩) main_call1_call0_cst) (TRef.of (T := ⟨S_, .f32⟩) main_call1_call0_v0) (fun x v => Host.reduceAdd x v reducesTo_S100000x1_S_d0_1 h_S_),
    TRef.unary (TRef.of (T := ⟨S_, .f32⟩) main_call1_call0_v0) (TRef.of (T := ⟨S1x1, .f32⟩) main_call1_call0_v1) (broadcastInDim S1x1 ![] bcast_S_S1x1),
    TRef.nullary (TRef.of (T := ⟨S_, .f32⟩) main_call1_call0_cst_0) (constant S_ .f32 0x47C35000#32),
    TRef.unary (TRef.of (T := ⟨S_, .f32⟩) main_call1_call0_cst_0) (TRef.of (T := ⟨S1x1, .f32⟩) main_call1_call0_v2) (broadcastInDim S1x1 ![] bcast_S_S1x1),
    TRef.binary (TRef.of (T := ⟨S1x1, .f32⟩) main_call1_call0_v1) (TRef.of (T := ⟨S1x1, .f32⟩) main_call1_call0_v2) (TRef.of (T := ⟨S1x1, .f32⟩) main_call1_call0_v3) Host.divf,
    TRef.unary (TRef.of (T := ⟨S1x1, .f32⟩) main_call1_call0_v3) (TRef.of (T := ⟨S100000x1, .f32⟩) main_call1_call0_v4) (broadcastInDim S100000x1 ![0, 1] bcast_S1x1_S100000x1_0_1),
    TRef.binary (TRef.of (T := ⟨S100000x1, .f32⟩) main_v4) (TRef.of (T := ⟨S100000x1, .f32⟩) main_call1_call0_v4) (TRef.of (T := ⟨S100000x1, .f32⟩) main_call1_call0_v5) subf,
    TRef.binary (TRef.of (T := ⟨S100000x1, .f32⟩) main_call1_call0_v5) (TRef.of (T := ⟨S100000x1, .f32⟩) main_call1_call0_v5) (TRef.of (T := ⟨S100000x1, .f32⟩) main_call1_call0_v6) mulf,
    TRef.unary (TRef.of (T := ⟨S_, .i32⟩) main_c) (TRef.of (T := ⟨S_, .f32⟩) main_call1_call0_v7) (sitofp .f32),
    TRef.nullary (TRef.of (T := ⟨S_, .f32⟩) main_call1_call0_cst_1) (constant S_ .f32 0x47C35000#32),
    TRef.binary (TRef.of (T := ⟨S_, .f32⟩) main_call1_call0_cst_1) (TRef.of (T := ⟨S_, .f32⟩) main_call1_call0_v7) (TRef.of (T := ⟨S_, .f32⟩) main_call1_call0_v8) subf,
    TRef.nullary (TRef.of (T := ⟨S_, .f32⟩) main_call1_call0_cst_2) (constant S_ .f32 0x00000000#32),
    TRef.binary (TRef.of (T := ⟨S100000x1, .f32⟩) main_call1_call0_v6) (TRef.of (T := ⟨S_, .f32⟩) main_call1_call0_cst_2) (TRef.of (T := ⟨S_, .f32⟩) main_call1_call0_v9) (fun x v => Host.reduceAdd x v reducesTo_S100000x1_S_d0_1 h_S_),
    TRef.binary (TRef.of (T := ⟨S_, .f32⟩) main_call1_call0_v9) (TRef.of (T := ⟨S_, .f32⟩) main_call1_call0_v8) (TRef.of (T := ⟨S_, .f32⟩) main_call1_call0_v10) Host.divf,
    TRef.nullary (TRef.of (T := ⟨S_, .f32⟩) main_call1_call0_cst_3) (constant S_ .f32 0x00000000#32),
    TRef.binary (TRef.of (T := ⟨S_, .f32⟩) main_call1_call0_v8) (TRef.of (T := ⟨S_, .f32⟩) main_call1_call0_cst_3) (TRef.of (T := ⟨S_, .i1⟩) main_call1_call0_v11) (cmpf .ogt),
    TRef.nullary (TRef.of (T := ⟨S_, .f32⟩) main_call1_call0_cst_4) (constant S_ .f32 0x7FC00000#32),
    TRef.unary (TRef.of (T := ⟨S_, .f32⟩) main_call1_call0_cst_4) (TRef.of (T := ⟨S_, .f32⟩) main_call1_call0_call0_v0) id,
    TRef.ternary (TRef.of (T := ⟨S_, .i1⟩) main_call1_call0_v11) (TRef.of (T := ⟨S_, .f32⟩) main_call1_call0_v10) (TRef.of (T := ⟨S_, .f32⟩) main_call1_call0_call0_v0) (TRef.of (T := ⟨S_, .f32⟩) main_call1_v0) select,
    TRef.unary (TRef.of (T := ⟨S_, .f32⟩) main_call1_v0) (TRef.of (T := ⟨S_, .f32⟩) main_v9) Host.sqrt,
    nullary main_cst_2 (constant S_ .f32 0x322BCC77#32),
    binary main_v9 main_cst_2 main_v10 (addf : (⟨S_, .f32⟩ : BufTy).Contents (Elt F) → (⟨S_, .f32⟩ : BufTy).Contents (Elt F) → (⟨S_, .f32⟩ : BufTy).Contents (Elt F)),
    unary main_v10 main_v11 (broadcastInDim S100000x1 ![] bcast_S_S100000x1 : (⟨S_, .f32⟩ : BufTy).Contents (Elt F) → (⟨S100000x1, .f32⟩ : BufTy).Contents (Elt F)),
    binary main_v8 main_v11 main_v12 (Host.divf : (⟨S100000x1, .f32⟩ : BufTy).Contents (Elt F) → (⟨S100000x1, .f32⟩ : BufTy).Contents (Elt F) → (⟨S100000x1, .f32⟩ : BufTy).Contents (Elt F)),
    unary main_v12 main_v13 (Host.negf : (⟨S100000x1, .f32⟩ : BufTy).Contents (Elt F) → (⟨S100000x1, .f32⟩ : BufTy).Contents (Elt F)),
    unary main_v13 main_v14 (Host.exp : (⟨S100000x1, .f32⟩ : BufTy).Contents (Elt F) → (⟨S100000x1, .f32⟩ : BufTy).Contents (Elt F)),
    nullary main_cst_3 (constant S_ .f32 0x3F800000#32),
    unary main_cst_3 main_v15 (broadcastInDim S100000x1 ![] bcast_S_S100000x1 : (⟨S_, .f32⟩ : BufTy).Contents (Elt F) → (⟨S100000x1, .f32⟩ : BufTy).Contents (Elt F)),
    binary main_v15 main_v14 main_v16 (addf : (⟨S100000x1, .f32⟩ : BufTy).Contents (Elt F) → (⟨S100000x1, .f32⟩ : BufTy).Contents (Elt F) → (⟨S100000x1, .f32⟩ : BufTy).Contents (Elt F)),
    nullary main_cst_4 (constant S_ .f32 0x3F800000#32),
    unary main_cst_4 main_v17 (broadcastInDim S100000x1 ![] bcast_S_S100000x1 : (⟨S_, .f32⟩ : BufTy).Contents (Elt F) → (⟨S100000x1, .f32⟩ : BufTy).Contents (Elt F)),
    binary main_v17 main_v16 main_v18 (Host.divf : (⟨S100000x1, .f32⟩ : BufTy).Contents (Elt F) → (⟨S100000x1, .f32⟩ : BufTy).Contents (Elt F) → (⟨S100000x1, .f32⟩ : BufTy).Contents (Elt F)) ]

/-- The greatest scores' numbers and keys. -/
abbrev choosing : List (HloOp τ sig (Elt F)) :=
  [ reshape main_v18 main_v19 (rfl : (.f32 : EltTy) = .f32) shapeCasts_S100000x1_S100000,
    unary main_v19 main_values ((fun x => (Host.topK S50000 0 (FloatOps.cmpfTotal .gt) x sliceFits_S100000_S50000).1) : (⟨S100000, .f32⟩ : BufTy).Contents (Elt F) → (⟨S50000, .f32⟩ : BufTy).Contents (Elt F)),
    unary main_v19 main_indices ((fun x => (Host.topK S50000 0 (FloatOps.cmpfTotal .gt) x sliceFits_S100000_S50000).2) : (⟨S100000, .f32⟩ : BufTy).Contents (Elt F) → (⟨S50000, .i32⟩ : BufTy).Contents (Elt F)),
    nullary main_c_5 (constantI S_ 32 0#32),
    unary main_c_5 main_v20 (broadcastInDim S176 ![] bcast_S_S176 : (⟨S_, .i32⟩ : BufTy).Contents (Elt F) → (⟨S176, .i32⟩ : BufTy).Contents (Elt F)),
    binary main_indices main_v20 main_v21 ((fun a b => concatenate S50176 0 [⟨S50000, a⟩, ⟨S176, b⟩] concatenates_S50000_S176_S50176_d0) : (⟨S50000, .i32⟩ : BufTy).Contents (Elt F) → (⟨S176, .i32⟩ : BufTy).Contents (Elt F) → (⟨S50176, .i32⟩ : BufTy).Contents (Elt F)),
    unary main_values main_v22 (bitcastToInt : (⟨S50000, .f32⟩ : BufTy).Contents (Elt F) → (⟨S50000, .i32⟩ : BufTy).Contents (Elt F)),
    nullary main_c_6 (constantI S_ 32 1073741823#32),
    unary main_c_6 main_v23 (broadcastInDim S50000 ![] bcast_S_S50000 : (⟨S_, .i32⟩ : BufTy).Contents (Elt F) → (⟨S50000, .i32⟩ : BufTy).Contents (Elt F)),
    binary main_v23 main_v22 main_v24 (subi : (⟨S50000, .i32⟩ : BufTy).Contents (Elt F) → (⟨S50000, .i32⟩ : BufTy).Contents (Elt F) → (⟨S50000, .i32⟩ : BufTy).Contents (Elt F)),
    binary main_v24 main_v20 main_v25 ((fun a b => concatenate S50176 0 [⟨S50000, a⟩, ⟨S176, b⟩] concatenates_S50000_S176_S50176_d0) : (⟨S50000, .i32⟩ : BufTy).Contents (Elt F) → (⟨S176, .i32⟩ : BufTy).Contents (Elt F) → (⟨S50176, .i32⟩ : BufTy).Contents (Elt F)) ]

/-- The loss. -/
abbrev losing : List (HloOp τ sig (Elt F)) :=
  [ nullary main_cst_7 (constant S_ .f32 0x3F800000#32),
    unary main_cst_7 main_v27 (broadcastInDim S100000x1 ![] bcast_S_S100000x1 : (⟨S_, .f32⟩ : BufTy).Contents (Elt F) → (⟨S100000x1, .f32⟩ : BufTy).Contents (Elt F)),
    binary main_v27 main_v18 main_v28 (subf : (⟨S100000x1, .f32⟩ : BufTy).Contents (Elt F) → (⟨S100000x1, .f32⟩ : BufTy).Contents (Elt F) → (⟨S100000x1, .f32⟩ : BufTy).Contents (Elt F)),
    binary main_v18 main_v28 main_v29 (mulf : (⟨S100000x1, .f32⟩ : BufTy).Contents (Elt F) → (⟨S100000x1, .f32⟩ : BufTy).Contents (Elt F) → (⟨S100000x1, .f32⟩ : BufTy).Contents (Elt F)),
    nullary main_cst_8 (constant S_ .f32 0x00000000#32),
    binary main_v29 main_cst_8 main_v30 ((fun x v => Host.reduceAdd x v reducesTo_S100000x1_S_d0_1 h_S_) : (⟨S100000x1, .f32⟩ : BufTy).Contents (Elt F) → (⟨S_, .f32⟩ : BufTy).Contents (Elt F) → (⟨S_, .f32⟩ : BufTy).Contents (Elt F)),
    nullary main_cst_9 (constant S_ .f32 0x47C35000#32),
    binary main_v30 main_cst_9 main_v31 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (d : Dev nD) : main (F := F) d = (seq scoring >>= fun _ => seq choosing >>= fun _ => sc.run d 0 >>= fun _ => seq losing >>= fun _ => pure ⟨⟩) := rfl

set_option maxRecDepth 8192 in
theorem scoring_sub : (scoring : List (HloOp τ sig (Elt F))).Forall fun op => op.bufs ⊆ tcRefs τ sig :=
  ⟨binary_bufs_sub .., nullary_bufs_sub .., binary_bufs_sub .., unary_bufs_sub .., nullary_bufs_sub .., binary_bufs_sub .., unary_bufs_sub .., binary_bufs_sub .., binary_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem scoring_within : ∀ op ∈ (scoring : List (HloOp τ sig (Elt F))), op.bufs ⊆ tcRefs τ sig := List.forall_iff_forall_mem.mp scoring_sub
theorem scoring_settled : ∀ op ∈ (scoring : List (HloOp τ sig (Elt F))), op.fresh = ∅ := by
  intro _ h; (repeat (cases h with | head => rfl | tail _ h => ?_)); exact nomatch h

set_option maxRecDepth 8192 in
theorem choosing_sub : (choosing : List (HloOp τ sig (Elt F))).Forall fun op => op.bufs ⊆ tcRefs τ sig :=
  ⟨reshape_bufs_sub .., unary_bufs_sub .., unary_bufs_sub .., nullary_bufs_sub .., unary_bufs_sub .., binary_bufs_sub .., unary_bufs_sub .., nullary_bufs_sub .., unary_bufs_sub .., binary_bufs_sub .., binary_bufs_sub ..⟩
theorem choosing_within : ∀ op ∈ (choosing : List (HloOp τ sig (Elt F))), op.bufs ⊆ tcRefs τ sig := List.forall_iff_forall_mem.mp choosing_sub
theorem choosing_settled : ∀ op ∈ (choosing : List (HloOp τ sig (Elt F))), op.fresh = ∅ := by
  intro _ h; (repeat (cases h with | head => rfl | tail _ h => ?_)); exact nomatch h

set_option maxRecDepth 8192 in
theorem losing_sub : (losing : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., binary_bufs_sub ..⟩
theorem losing_within : ∀ op ∈ (losing : List (HloOp τ sig (Elt F))), op.bufs ⊆ tcRefs τ sig := List.forall_iff_forall_mem.mp losing_sub
theorem losing_settled : ∀ op ∈ (losing : List (HloOp τ sig (Elt F))), op.fresh = ∅ := by
  intro _ h; (repeat (cases h with | head => rfl | tail _ h => ?_)); exact nomatch h

end Cert.Proof.RowsHost

end
-- ==== Proof.RowsRun.lean ====
/-
  The whole program's run: the host's operations, the row call, the host's operations after it.
-/
module

public import proofs.«01_k».proof.Proof.RowsSetup
public import proofs.«01_k».proof.Proof.RowsHost

@[expose] public section

set_option synthInstance.maxSize 4096

noncomputable section

namespace Cert.Proof.RowsRun

open Idealize.ShloMosaic
open Idealize.ShloMosaic.SparseCore (S V T)
open Idealize.ShloMosaic.SparseCore.Cfg (HIx Pay)
open Idealize.ShloMosaic.StableHlo (held wp_seq seq after tcRefs devRef_mem_tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Whole Cert.Whole.Gen Cert.Proof.Words Cert.Proof.Table Cert.Proof.Rows Cert.Proof.RowsTile Cert.Proof.RowsSetup Cert.Proof.RowsHost
open Cert.Proof.Setup (byNum byNum_eq peel conj)

variable {F : FTy → Type} [BitOps F]

local notation "𝕄" => MT nD τ sig (HIx 1) (Elt F) ℕ UU ℕ

variable (m : (ℓ : Loc nD τ sig) → Buf (Elt F) ℓ) (ρ : Dev nD → PrngReg)

abbrev at' (r : Ref sig .tc) : DevRef τ sig := Proc.devRef .tc r

/-- The arrays when the call starts. -/
def ready (d : Dev nD) : Valuation τ sig (Elt F) := after choosing (after scoring fun b => m (d, b))

def idxOf (d : Dev nD) : ℕ → BitVec 32 := byNum (n := 50176) (by decide) (ready m d (at' main_v21) : (Arr 50176).Idx → BitVec 32)
def keysOf (d : Dev nD) : ℕ → BitVec 32 := byNum (n := 50176) (by decide) (ready m d (at' main_v25) : (Arr 50176).Idx → BitVec 32)
def xOf (d : Dev nD) : ℕ → ℕ → F .f32 :=
  byPair (a := 100000) (b := 128) (by decide) (by decide) (ready m d (at' main_arg0) : (Grid 100000 128).Idx → F .f32)

theorem iBuf_eq (d : Dev nD) : iBuf (F := F) (idxOf m) d = ready m d (at' main_v21) := funext fun y => byNum_eq (n := 50176) (by decide) _ y
theorem kBuf_eq (d : Dev nD) : kBuf (F := F) (keysOf m) d = ready m d (at' main_v25) := funext fun y => byNum_eq (n := 50176) (by decide) _ y
theorem xBuf_eq (d : Dev nD) : xBuf (xOf m) d = ready m d (at' main_arg0) := funext fun y => byPair_eq (a := 100000) (b := 128) (by decide) (by decide) _ y

/-- The arrays when the call is over. -/
def called (d : Dev nD) : Valuation τ sig (Elt F) := Function.update (ready m d) (at' main_v26) (oBuf (idxOf m) (keysOf m) (xOf m) d)

/-- The arrays at the end. -/
def final (d : Dev nD) : Valuation τ sig (Elt F) := after losing (called m d)

/-! ## The arrays taken out and put back -/

abbrev rest : Finset (DevRef τ sig) := tcRefs τ sig \ ([at' main_v21, at' main_v25, at' main_arg0, at' main_v26] : List (DevRef τ sig)).toFinset

theorem held_four (d : Dev nD) (W : Valuation τ sig (Elt F)) : (held (SparseCore.T d) (tcRefs τ sig) W : sProp 𝕄)
    = iprop(((iLoc d ↦{fullShare} W (at' main_v21)) ∗ (kLoc d ↦{fullShare} W (at' main_v25)) ∗ (xLoc d ↦{fullShare} W (at' main_arg0)) ∗ (oLoc d ↦{fullShare} W (at' main_v26)))
        ∗ held (SparseCore.T d) rest W) := by
  unfold held
  refine (peel _ [at' main_v25, at' main_arg0, at' main_v26] (at' main_v21) _ ?_ ?_).trans rfl
  · exact List.Nodup.map (f := at') (l := [main_v21, main_v25, main_arg0, main_v26]) (fun _ _ e => Proc.devRef_injective _ e) (by decide)
  · intro y hy
    obtain ⟨r, -, rfl⟩ := List.mem_map.mp (show y ∈ [main_v21, main_v25, main_arg0, main_v26].map at' from hy)
    exact devRef_mem_tcRefs r

theorem held_rest (d : Dev nD) : (held (SparseCore.T d) rest (ready m d) : sProp 𝕄) = held (SparseCore.T d) rest (called m d) := by
  unfold held
  refine bigSep_congr fun b hb => ?_
  have hne : b ≠ at' main_v26 := by
    rintro rfl
    exact (Finset.mem_sdiff.mp hb).2 (by simp)
  unfold called
  rw [Function.update_of_ne hne]

theorem unscoped_held (d : Dev nD) : (unscopedBufs d (fun b => m ((SparseCore.T d).loc b)) : sProp 𝕄) = held (SparseCore.T d) (tcRefs τ sig) (fun b => m (d, b)) := by
  unfold unscopedBufs held tcRefs
  rw [show (Finset.univ.filter fun b : Ref sig .tc => ¬ b.isScoped) = Finset.univ by decide, BI.bigSep_map]
  rfl

theorem called_o (d : Dev nD) : called m d (at' main_v26) = oBuf (idxOf m) (keysOf m) (xOf m) d := by
  unfold called; rw [Function.update_self]
theorem called_other (d : Dev nD) {r : Ref sig .tc} (h : r ≠ main_v26) : called m d (at' r) = ready m d (at' r) := by
  unfold called; rw [Function.update_of_ne (fun e => h (Proc.devRef_injective _ e))]

abbrev PP : (K (F := F)).Pay (nD := nD) (Val := Elt F) (Name := ℕ) (U := UU) := P (idxOf m) (keysOf m) (xOf m)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (SparseCore.T d) (tcRefs τ sig) (final m d) ∗ (K (F := F)).tcEnd d) := by
  unfold SparseCore.Cfg.tcRes SparseCore.Cfg.tcEnd
  rw [unscoped_held, RowsHost.main_eq]
  iintro ⟨#Hctx, Hst, ⟨Hb, Hh, Hts, -⟩, -⟩
  iapply (wp_seq 𝒱 none Set.univ d (tcRefs τ sig) _ scoring scoring_within scoring_settled (fun b => m (d, b))) $$ [Hb Hh]
  · isplitl [Hb]; · iexact Hb
    iexact Hh
  iintro ⟨Hb, Hh⟩
  iapply (wp_seq 𝒱 none Set.univ d (tcRefs τ sig) _ choosing choosing_within choosing_settled (after scoring fun b => m (d, b))) $$ [Hb Hh]
  · isplitl [Hb]; · iexact Hb
    iexact Hh
  iintro ⟨Hb, Hh⟩
  ihave Hh := (show (held d.tc (tcRefs τ sig) (after choosing (after scoring fun b => m (d, b))) : sProp 𝕄) ⊢ _ from Entails.of_eq (held_four d (ready m d))) $$ Hh
  icases Hh with ⟨⟨Hi, Hk, Hx, Ho⟩, Hr⟩
  rw [← iBuf_eq, ← kBuf_eq, ← xBuf_eq, wp_bind]
  iapply ((K (F := F)).wp_run (D (F := F)) 𝒱 (EH := EH) (P := PP m) κ d 0) $$ [Hst Hi Hk Hx Ho Hb Hts Hr]
  isplitr; · iexact Hctx
  isplitl [Hst]; · iexact Hst
  isplitl [Hi Hk Hx Ho]
  · iapply (starts (idxOf m) (keysOf m) (xOf m) d (ready m d (at' main_v26)))
    isplitl [Hi Hk Hx]
    · isplitl [Hi]; · iexact Hi
      isplitl [Hk]; · iexact Hk
      iexact Hx
    iexact Ho
  iintro ⟨Hst, Hdn⟩
  ihave Hdn := (ends (idxOf m) (keysOf m) (xOf m) d) $$ Hdn
  icases Hdn with ⟨⟨Hi, Hk, Hx⟩, Ho⟩
  iapply (wp_seq 𝒱 none Set.univ d (tcRefs τ sig) _ losing losing_within losing_settled (called m d)) $$ [Hb Hi Hk Hx Ho Hr]
  · isplitl [Hb]; · iexact Hb
    iapply (Entails.of_eq (held_four d (called m d)).symm)
    rw [called_o, called_other m d (r := main_v21) (by decide), called_other m d (r := main_v25) (by decide), called_other m d (r := main_arg0) (by decide),
      ← iBuf_eq, ← kBuf_eq, ← xBuf_eq, ← held_rest]
    isplitl [Hi Hk Hx Ho]
    · isplitl [Hi]; · iexact Hi
      isplitl [Hk]; · iexact Hk
      isplitl [Hx]; · iexact Hx
      iexact Ho
    iexact Hr
  iintro ⟨Hb, Hh⟩
  rw [wp_pure]; imodintro
  isplitl [Hst]; · iexact Hst
  isplitl [Hh]; · iexact Hh
  isplitl [Hb] <;> iassumption

/-- What the claims read at the end. -/
def fq (d : Dev nD) (s' : Phys nD τ sig (Elt F)) : Prop := ∀ r : Ref sig .tc, s'.mem.mem ((SparseCore.T d).loc r) = final m d (at' r)

theorem hfin (d : Dev nD) (s' : Phys nD τ sig (Elt F)) : iprop(held (SparseCore.T d) (tcRefs τ sig) (final m d) ∗ SI s') ⊢ (⌜fq m d s'⌝ : sProp 𝕄) := by
  have h (r : Ref sig .tc) : iprop(held (SparseCore.T d) (tcRefs τ sig) (final m d) ∗ SI s') ⊢ (⌜s'.mem.mem ((SparseCore.T d).loc r) = final m d (at' r)⌝ : sProp 𝕄) := by
    have hb : (held (SparseCore.T d) (tcRefs τ sig) (final m d) : sProp 𝕄) ⊢ (SparseCore.T d).loc r ↦{fullShare} final m d (at' r) := by
      unfold held
      exact SparseCore.ent (bigSep_elim (devRef_mem_tcRefs r))
    iintro ⟨H, HSI⟩
    ihave H := hb $$ H
    ihave H := (SI_pointsTo_agree (st := s') (ℓ := (SparseCore.T d).loc r) (I := Finset.univ) (q := fullShare) (f := final m d (at' r))) $$ [HSI H]
    · isplitl [HSI] <;> iassumption
    icases H with %hx
    ipureintro; exact funext fun i => hx i (Finset.mem_univ i)
  exact fun y hy r => h r y hy

/-- The program's end: every array as the operations leave it, every semaphore at zero. -/
def QC : PUnit × MemSt nD τ sig (Elt F) → Prop := fun r =>
  (∀ c : Dev nD, ∀ b : Ref sig .tc, r.2.mem ((SparseCore.T c).loc b) = final m c (at' b)) ∧ r.2.sem = fun _ => 0

theorem run_main [∀ e, Nonempty (Elt F e)] : θ_run (Cert.Whole.defs (F := F)) (Cert.Whole.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (idxOf m) (keysOf m) (xOf m) facts)
    (fun q _ => match q with | 0 => SparseCore.Cfg.VecSplit.of_plain (vecSplit (idxOf m) (keysOf m) (xOf m)))
    m ρ main (fun _ => iprop(emp)) (fun d => held (SparseCore.T d) (tcRefs τ sig) (final m d)) (u₀ (F := F))
    (sep_elim_left.trans (hu₀ (idxOf m) (keysOf m) (xOf m))) (hmain m ρ) (fq m) (hfin m) (QC m) (fun _ h hz => ⟨h, hz⟩)

/-! ## The arrays read -/

theorem ready_x (d : Dev nD) : ready m d (at' main_arg0) = m (xLoc d) := by
  unfold ready
  simp only [scoring, choosing, StableHlo.TRef.binary, StableHlo.TRef.nullary, StableHlo.TRef.ternary, StableHlo.TRef.unary, StableHlo.TRef.toBuf, StableHlo.TRef.ofBuf, cast_eq]
  after_results_simp

theorem ready_y (d : Dev nD) : ready m d (at' main_arg1) = m ((SparseCore.T d).loc main_arg1) := by
  unfold ready
  simp only [scoring, choosing, StableHlo.TRef.binary, StableHlo.TRef.nullary, StableHlo.TRef.ternary, StableHlo.TRef.unary, StableHlo.TRef.toBuf, StableHlo.TRef.ofBuf, cast_eq]
  after_results_simp

theorem final_x (d : Dev nD) : final m d (at' main_arg0) = m (xLoc d) := by
  unfold final
  after_results_simp
  exact (called_other m d (by decide)).trans (ready_x m d)

theorem final_y (d : Dev nD) : final m d (at' main_arg1) = m ((SparseCore.T d).loc main_arg1) := by
  unfold final
  after_results_simp
  exact (called_other m d (by decide)).trans (ready_y m d)

end Cert.Proof.RowsRun

end
-- ==== Proof.RowsScore.lean ====
/-
  The scores and the loss as terms of the two arguments, and what the two programs' arrays hold in those terms.
-/
module

public import proofs.«01_k».proof.Proof.RowsRun
public import proofs.«01_k».proof.Proof.Gen.Plain
public import proofs.«01_k».proof.Proof.Gen.Plain.Run

@[expose] public section

set_option synthInstance.maxSize 4096

noncomputable section

namespace Cert.Proof.RowsScore

open Idealize.ShloMosaic Idealize.ShloMosaic.TcCoe Idealize.SL.Sem

/-! ## The terms -/

section Terms
open Cert.Plain Cert.Plain.Gen

variable {F : FTy → Type} [FloatOps F]

abbrev Rows (F : FTy → Type) : Type := (⟨S100000x128, .f32⟩ : BufTy).Contents (Elt F)
abbrev Column (F : FTy → Type) : Type := (⟨S128x1, .f32⟩ : BufTy).Contents (Elt F)
abbrev Scores (F : FTy → Type) : Type := (⟨S100000x1, .f32⟩ : BufTy).Contents (Elt F)

/-- Each row's product with the unit column. -/
def raw (x : Rows F) (p : Column F) : Scores F :=
  Host.dotGeneral dot_S100000x128_S128x1_S100000x1_1_0_0_1_n_n none x (Host.divf p (broadcastInDim S128x1 ![] bcast_S_S128x1 (addf (Host.sqrt (Host.reduceAdd (mulf p p) (constant S_ .f32 0x00000000#32) reducesTo_S128x1_S_d0_1 h_S_)) (constant S_ .f32 0x322BCC77#32))))

/-- The products standardized and squashed. -/
def squash (y : Scores F) : Scores F :=
  Host.divf (broadcastInDim S100000x1 ![] bcast_S_S100000x1 (constant S_ .f32 0x3F800000#32)) (addf (broadcastInDim S100000x1 ![] bcast_S_S100000x1 (constant S_ .f32 0x3F800000#32)) (Host.exp (Host.negf (Host.divf (subf y (broadcastInDim S100000x1 ![] bcast_S_S100000x1 (Host.divf (Host.reduceAdd y (constant S_ .f32 0x00000000#32) reducesTo_S100000x1_S_d0_1 h_S_) (constant S_ .f32 0x47C35000#32)))) (broadcastInDim S100000x1 ![] bcast_S_S100000x1 (addf (Host.sqrt (select (cmpf .ogt (subf (constant S_ .f32 0x47C35000#32) (sitofp .f32 (constantI S_ 32 0#32)) : (⟨S_, .f32⟩ : BufTy).Contents (Elt F)) (constant S_ .f32 0x00000000#32)) (Host.divf (Host.reduceAdd (mulf (subf y (broadcastInDim S100000x1 ![0, 1] bcast_S1x1_S100000x1_0_1 (Host.divf (broadcastInDim S1x1 ![] bcast_S_S1x1 (Host.reduceAdd y (constant S_ .f32 0x00000000#32) reducesTo_S100000x1_S_d0_1 h_S_)) (broadcastInDim S1x1 ![] bcast_S_S1x1 (constant S_ .f32 0x47C35000#32))))) (subf y (broadcastInDim S100000x1 ![0, 1] bcast_S1x1_S100000x1_0_1 (Host.divf (broadcastInDim S1x1 ![] bcast_S_S1x1 (Host.reduceAdd y (constant S_ .f32 0x00000000#32) reducesTo_S100000x1_S_d0_1 h_S_)) (broadcastInDim S1x1 ![] bcast_S_S1x1 (constant S_ .f32 0x47C35000#32)))))) (constant S_ .f32 0x00000000#32) reducesTo_S100000x1_S_d0_1 h_S_) (subf (constant S_ .f32 0x47C35000#32) (sitofp .f32 (constantI S_ 32 0#32)))) (id (constant S_ .f32 0x7FC00000#32)))) (constant S_ .f32 0x322BCC77#32)))))))

/-- The scores. -/
def score (x : Rows F) (p : Column F) : Scores F := squash (raw x p)

/-- The greatest scores, with their rows' numbers. -/
def best (s : Scores F) : (⟨S50000, .f32⟩ : BufTy).Contents (Elt F) × (⟨S50000, .i32⟩ : BufTy).Contents (Elt F) :=
  Host.topK S50000 0 (FloatOps.cmpfTotal .gt) (shapeCast S100000 s shapeCasts_S100000x1_S100000) sliceFits_S100000_S50000

/-- The loss of the scores. -/
def loss (s : Scores F) : (⟨S_, .f32⟩ : BufTy).Contents (Elt F) :=
  Host.divf (Host.reduceAdd (mulf s (subf (broadcastInDim S100000x1 ![] bcast_S_S100000x1 (constant S_ .f32 0x3F800000#32)) s)) (constant S_ .f32 0x00000000#32) reducesTo_S100000x1_S_d0_1 h_S_) (constant S_ .f32 0x47C35000#32)

/-- The rows of the greatest scores, each by its score. -/
def taken (x : Rows F) (s : Scores F) (idx : (⟨S50000, .i32⟩ : BufTy).Contents (Elt F)) : (⟨S50000x128, .f32⟩ : BufTy).Contents (Elt F) :=
  Host.gather gather_S100000x128_S50000x1_S50000x128_1_0_n_n_0_1_1128 (mulf x (broadcastInDim S100000x128 ![0, 1] bcast_S100000x1_S100000x128_0_1 s)) (broadcastInDim S50000x1 ![0] bcast_S50000_S50000x1_0 (select (cmpi .slt idx (broadcastInDim S50000 ![] bcast_S_S50000 (constantI S_ 32 0#32))) (addi idx (broadcastInDim S50000 ![] bcast_S_S50000 (constantI S_ 32 100000#32))) idx))

variable (m : (ℓ : Loc nD τ sig) → Buf (Elt F) ℓ) (c : Dev nD)

set_option maxRecDepth 8192 in
theorem plain_rows : Value.res_main_v28 m c = taken (m ((c.tc : Thread nD τ).loc main_arg0)) (score (m ((c.tc : Thread nD τ).loc main_arg0)) (m ((c.tc : Thread nD τ).loc main_arg1)))
    (best (score (m ((c.tc : Thread nD τ).loc main_arg0)) (m ((c.tc : Thread nD τ).loc main_arg1)))).2 := by
  unfold Value.res_main_v28 taken best score squash raw
  rfl

set_option maxRecDepth 8192 in
theorem plain_loss : Value.res_main_v33 m c = loss (score (m ((c.tc : Thread nD τ).loc main_arg0)) (m ((c.tc : Thread nD τ).loc main_arg1))) := by
  unfold Value.res_main_v33 loss score squash raw
  rfl

end Terms

/-! ## The kernel's arrays -/

section Arrays
open Cert.Whole Cert.Whole.Gen Cert.Proof.RowsHost Cert.Proof.RowsRun Cert.Proof.RowsSetup
open Idealize.ShloMosaic.StableHlo (after)

variable {F : FTy → Type} [BitOps F]

set_option maxRecDepth 8192 in
set_option maxHeartbeats 8000000 in
theorem scored (V : Valuation τ sig (Elt F)) : after scoring V (at' main_v18) = score (V (at' main_arg0)) (V (at' main_arg1)) := by
  simp only [scoring, StableHlo.TRef.binary, StableHlo.TRef.nullary, StableHlo.TRef.ternary, StableHlo.TRef.unary, StableHlo.TRef.toBuf, StableHlo.TRef.ofBuf, cast_eq]
  after_results_simp
  unfold score squash raw
  rfl

theorem chosen_scores (V : Valuation τ sig (Elt F)) : after choosing V (at' main_v18) = V (at' main_v18) := by
  unfold choosing
  after_results_simp

theorem chosen_numbers (V : Valuation τ sig (Elt F)) : after choosing V (at' main_v21)
    = concatenate S50176 0 [⟨S50000, (best (F := F) (V (at' main_v18))).2⟩, ⟨S176, broadcastInDim S176 ![] bcast_S_S176 (constantI S_ 32 0#32)⟩] concatenates_S50000_S176_S50176_d0 := by
  unfold choosing
  after_results_simp
  unfold best
  rfl

theorem chosen_keys (V : Valuation τ sig (Elt F)) : after choosing V (at' main_v25)
    = concatenate S50176 0 [⟨S50000, subi (broadcastInDim S50000 ![] bcast_S_S50000 (constantI S_ 32 1073741823#32)) (bitcastToInt (best (F := F) (V (at' main_v18))).1)⟩,
        ⟨S176, broadcastInDim S176 ![] bcast_S_S176 (constantI S_ 32 0#32)⟩] concatenates_S50000_S176_S50176_d0 := by
  unfold choosing
  after_results_simp
  unfold best
  rfl

theorem lost (V : Valuation τ sig (Elt F)) : after losing V (at' main_v31) = loss (V (at' main_v18)) := by
  unfold losing
  after_results_simp
  unfold loss
  rfl

theorem lost_rows (V : Valuation τ sig (Elt F)) : after losing V (at' main_v26) = V (at' main_v26) := by
  unfold losing
  after_results_simp

variable (m : (ℓ : Loc nD τ sig) → Buf (Elt F) ℓ) (d : Dev nD)

/-- The kernel's scores. -/
def scoresOf : Scores F := score (m (d, at' main_arg0)) (m (d, at' main_arg1))

theorem ready_scores : ready m d (at' main_v18) = scoresOf m d := by
  unfold ready
  rw [chosen_scores, scored]
  rfl

theorem idxOf_eq : idxOf m d = Setup.byNum (n := 50176) (by decide)
    (concatenate S50176 0 [⟨S50000, (best (F := F) (scoresOf m d)).2⟩, ⟨S176, broadcastInDim S176 ![] bcast_S_S176 (constantI S_ 32 0#32)⟩] concatenates_S50000_S176_S50176_d0) := by
  unfold idxOf ready
  rw [chosen_numbers, scored]
  rfl

theorem keysOf_eq : keysOf m d = Setup.byNum (n := 50176) (by decide)
    (concatenate S50176 0 [⟨S50000, subi (broadcastInDim S50000 ![] bcast_S_S50000 (constantI S_ 32 1073741823#32)) (bitcastToInt (best (F := F) (scoresOf m d)).1)⟩,
        ⟨S176, broadcastInDim S176 ![] bcast_S_S176 (constantI S_ 32 0#32)⟩] concatenates_S50000_S176_S50176_d0) := by
  unfold keysOf ready
  rw [chosen_keys, scored]
  rfl

theorem final_loss : final m d (at' main_v31) = loss (scoresOf m d) := by
  unfold final
  rw [lost, called_other m d (r := main_v18) (by decide), ready_scores]

theorem final_rows : final m d (at' main_v26) = oBuf (idxOf m) (keysOf m) (xOf m) d := by
  unfold final
  rw [lost_rows]
  exact called_o m d

end Arrays

end Cert.Proof.RowsScore

end
-- ==== Proof.RowsValue.lean ====
/-
  The kernel's rows are the host's: each of the greatest scores' rows by its score.
-/
module

public import proofs.«01_k».proof.Proof.RowsScore
public import proofs.«01_k».proof.Proof.Value
public import Idealize.ShloMosaic.Lib.Pipeline.Value
public import Idealize.ShloMosaic.Lib.Pointwise.SelectCore

@[expose] public section

set_option synthInstance.maxSize 4096

noncomputable section

namespace Cert.Proof.RowsValue

open Idealize.ShloMosaic Idealize.ShloMosaic.TcCoe Idealize.SL.Sem
open Cert.Plain Cert.Plain.Gen Cert.Proof.Table Cert.Proof.Rows Cert.Proof.RowsScore Cert.Proof.RowsSetup
open Cert.Proof.Words (Arr arr_ext)

/-! ## The host's operations at a place -/

/-- The place of one column that a number names. -/
abbrev up (n : ℕ) (hn : n < 100000) : S100000x1.Idx := spot n 0 hn Nat.one_pos

/-- The rows the host takes, at a place. -/
theorem gather_at {α : Type} (z : S100000x128.Idx → α) (idx : IVec S50000x1 32) (y : S50000x128.Idx) (n : ℕ) (hn : n < 100000)
    (h : min (idx (spot (y 0).val 0 (y 0).isLt Nat.one_pos)).toInt.toNat 99999 = n) :
    Host.gather gather_S100000x128_S50000x1_S50000x128_1_0_n_n_0_1_1128 z idx y = z (spot n (y 1).val hn (y 1).isLt) := by
  unfold Host.gather
  refine congrArg z (grid_ext ?_ ?_)
  · show gather_S100000x128_S50000x1_S50000x128_1_0_n_n_0_1_1128.start y idx 0 + gather_S100000x128_S50000x1_S50000x128_1_0_n_n_0_1_1128.batchCoord y 0
      + gather_S100000x128_S50000x1_S50000x128_1_0_n_n_0_1_1128.offCoord y 0 = n
    rw [GatherDims.batchCoord_eq_zero _ _ _ List.not_mem_nil,
      GatherDims.offCoord_eq_zero _ _ _ (fun h => ((GatherDims.mem_sKept _ _).mp h).1 (List.mem_singleton.mpr rfl))]
    rw [Nat.add_zero, ← h]
    unfold GatherDims.start
    rw [dif_pos (show (0 : Fin 2) ∈ gather_S100000x128_S50000x1_S50000x128_1_0_n_n_0_1_1128.startIndexMap from List.mem_singleton.mpr rfl)]
    have hs : gather_S100000x128_S50000x1_S50000x128_1_0_n_n_0_1_1128.siIdx y ⟨List.idxOf (0 : Fin 2) gather_S100000x128_S50000x1_S50000x128_1_0_n_n_0_1_1128.startIndexMap,
        List.idxOf_lt_length_iff.2 (List.mem_singleton.mpr rfl)⟩ = spot (y 0).val 0 (y 0).isLt Nat.one_pos := by
      funext b
      refine Fin.ext ?_
      match b with
      | ⟨0, _⟩ => rfl
      | ⟨1, _⟩ => rfl
    rw [hs]
    rfl
  · show gather_S100000x128_S50000x1_S50000x128_1_0_n_n_0_1_1128.start y idx 1 + gather_S100000x128_S50000x1_S50000x128_1_0_n_n_0_1_1128.batchCoord y 1
      + gather_S100000x128_S50000x1_S50000x128_1_0_n_n_0_1_1128.offCoord y 1 = (y 1).val
    rw [GatherDims.batchCoord_eq_zero _ _ _ List.not_mem_nil]
    have hs : gather_S100000x128_S50000x1_S50000x128_1_0_n_n_0_1_1128.start y idx 1 = 0 := by
      unfold GatherDims.start
      exact dif_neg (show ¬ (1 : Fin 2) ∈ ([0] : List (Fin 2)) by decide)
    rw [hs, Nat.zero_add]
    unfold GatherDims.offCoord
    rw [dif_pos ((GatherDims.mem_sKept _ _).mpr ⟨show ¬ (1 : Fin 2) ∈ ([0] : List (Fin 2)) by decide, List.not_mem_nil⟩)]
    rfl

/-- A column laid along a row, at a place. -/
theorem row_at (s : Scores Bits) (J : S100000.Idx) (n : ℕ) (hn : n < 100000) (h : (J 0).val = n) :
    shapeCast S100000 s shapeCasts_S100000x1_S100000 J = s (up n hn) := by
  refine shapeCast_apply _ _ _ _ ?_
  rw [Shape.rowMajor_val_two, Shape.rowMajor_val_one]
  show n * 1 + 0 = (J 0).val
  omega

/-- A column along every column, at a place. -/
theorem spread (s : Scores Bits) (n j : ℕ) (hn : n < 100000) (hj : j < 128) :
    broadcastInDim S100000x128 ![0, 1] bcast_S100000x1_S100000x128_0_1 s (spot n j hn hj) = s (up n hn) := by
  refine broadcastInDim_apply _ _ _ _ _ fun a => ?_
  match a with
  | ⟨0, _⟩ => rfl
  | ⟨1, _⟩ => rfl

/-! ## The greatest scores -/

/-- The scores in a row. -/
abbrev line (s : Scores Bits) : Value.Row := shapeCast S100000 s shapeCasts_S100000x1_S100000

/-- Where the host takes a score from. -/
abbrev from' (s : Scores Bits) (i : S50000.Idx) : Fin 100000 := Value.source (line s) i

theorem best_val (s : Scores Bits) (i : S50000.Idx) : (best (F := Bits) s).1 i = s (up (from' s i).val (from' s i).isLt) := by
  exact (Value.top_val (line s) i).trans (row_at s _ _ (from' s i).isLt (Value.along_val (Value.place' i) (from' s i)))

theorem best_num (s : Scores Bits) (i : S50000.Idx) : (best (F := Bits) s).2 i = BitVec.ofNat 32 (from' s i).val :=
  Value.top_num (line s) i

/-! ## Row numbers as words -/

theorem toInt_num {n : ℕ} (h : n < 100000) : (BitVec.ofNat 32 n).toInt = n := by
  rw [BitVec.toInt_eq_toNat_of_msb (by rw [BitVec.msb_eq_false_iff_two_mul_lt, BitVec.toNat_ofNat, Nat.mod_eq_of_lt (by omega)]; omega),
    BitVec.toNat_ofNat, Nat.mod_eq_of_lt (by omega)]

theorem inRange_num {n : ℕ} (h : n < 100000) : (inRange (BitVec.ofNat 32 n)).toNat = n := by
  have hi := toInt_num h
  have h0 : (0#32 : BitVec 32).toInt = 0 := rfl
  have h9 : (99999#32 : BitVec 32).toInt = 99999 := rfl
  have ha : IntOp.maxsi 0#32 (BitVec.ofNat 32 n) = BitVec.ofNat 32 n := by
    unfold IntOp.maxsi
    split
    · rename_i hl
      have := BitVec.slt_iff_toInt_lt.mp hl
      omega
    · rfl
  have hb : IntOp.minsi 99999#32 (BitVec.ofNat 32 n) = BitVec.ofNat 32 n := by
    unfold IntOp.minsi
    split
    · rename_i hl
      have := BitVec.slt_iff_toInt_lt.mp hl
      omega
    · rfl
  unfold inRange
  rw [ha, hb, BitVec.toNat_ofNat, Nat.mod_eq_of_lt (by omega)]

/-- The host keeps a row number that is not negative. -/
theorem kept_num {n : ℕ} (h : n < 100000) (a : BitVec 32) :
    Scalar.select (IntOp.cmpi .slt (BitVec.ofNat 32 n) 0#32) a (BitVec.ofNat 32 n) = BitVec.ofNat 32 n := by
  unfold Scalar.select
  refine if_neg fun hc => ?_
  have := (IntOp.cmpi_slt ..).mp hc
  rw [toInt_num h, show (0#32 : BitVec 32).toInt = 0 from rfl] at this
  omega

/-! ## The rows -/

/-- The number of a place in the result. -/
abbrev nth (y : S50000x128.Idx) : S50000.Idx := fun a => ⟨(y 0).val, by
  obtain rfl : a = 0 := Subsingleton.elim _ _
  exact (y 0).isLt⟩

/-- The host's rows, at a place. -/
theorem taken_at (x : Rows Bits) (s : Scores Bits) (y : S50000x128.Idx) : taken (F := Bits) x s (best s).2 y
    = FloatOps.mulf (F := Bits) (φ := .f32) (x (spot (from' s (nth y)).val (y 1).val (from' s (nth y)).isLt (y 1).isLt)) (s (up (from' s (nth y)).val (from' s (nth y)).isLt)) := by
  unfold taken
  rw [gather_at _ _ y (from' s (nth y)).val (from' s (nth y)).isLt]
  · exact congrArg (FloatOps.mulf (F := Bits) (φ := .f32) _) (spread s _ _ _ _)
  · rw [broadcastInDim_apply (k := nth y) _ _ _ _ (by
      intro a
      obtain rfl : a = 0 := Subsingleton.elim _ _
      rfl)]
    show min (Scalar.select (IntOp.cmpi .slt ((best s).2 (nth y)) 0#32) _ ((best s).2 (nth y)) : BitVec 32).toInt.toNat 99999 = _
    rw [best_num, kept_num (from' s (nth y)).isLt, toInt_num (from' s (nth y)).isLt]
    have := (from' s (nth y)).isLt
    omega

/-- The list of numbers, at a number. -/
theorem listed {α : Type} (a : S50000.Idx → α) (b : (Arr 176).Idx → α) (h : Shape.Concatenates [S50000, Arr 176] (Arr 50176) 0) (y : S50000x128.Idx) :
    Setup.byNum (n := 50176) (by decide) (concatenate (Arr 50176) 0 [⟨S50000, a⟩, ⟨Arr 176, b⟩] h) (y 0).val = a (nth y) := by
  unfold Setup.byNum
  refine concatenate_pair_apply_left (s₁ := S50000) (s₂ := Arr 176) 0 a b h _ rfl (nth y) fun k => ?_
  obtain rfl : k = 0 := Subsingleton.elim _ _
  have hy : (y 0).val < 50000 := (y 0).isLt
  show (y 0).val = (y 0).val % 50176
  exact (Nat.mod_eq_of_lt (by omega)).symm

variable (m : (ℓ : Loc Cert.Whole.nD Cert.Whole.τ Cert.Whole.sig) → Buf (Elt Bits) ℓ) (d : Dev Cert.Whole.nD)

theorem idx_at (y : S50000x128.Idx) : RowsRun.idxOf m d (y 0).val = BitVec.ofNat 32 (from' (scoresOf m d) (nth y)).val := by
  rw [idxOf_eq]
  exact (listed _ _ _ y).trans (best_num _ _)

theorem key_at (y : S50000x128.Idx) : RowsRun.keysOf m d (y 0).val
    = (1073741823#32 - (scoresOf m d (up (from' (scoresOf m d) (nth y)).val (from' (scoresOf m d) (nth y)).isLt) : BitVec 32) : BitVec 32) := by
  rw [keysOf_eq]
  refine (listed _ _ _ y).trans ?_
  show (1073741823#32 - ((best (F := Bits) (scoresOf m d)).1 (nth y) : BitVec 32) : BitVec 32) = _
  rw [best_val]

theorem x_at (n j : ℕ) (hn : n < 100000) (hj : j < 128) : RowsRun.xOf m d n j = m (xLoc d) (spot n j hn hj : (Grid 100000 128).Idx) := by
  unfold RowsRun.xOf
  rw [RowsRun.ready_x]
  exact byPair_eq (a := 100000) (b := 128) (by decide) (by decide) _ (spot n j hn hj)

/-- The kernel's rows are the host's. -/
theorem rows_eq : oBuf (RowsRun.idxOf m) (RowsRun.keysOf m) (RowsRun.xOf m) d = taken (F := Bits) (m (xLoc d)) (scoresOf m d) (best (scoresOf m d)).2 := by
  funext y
  refine Eq.trans ?_ (taken_at (m (xLoc d)) (scoresOf m d) y).symm
  show product (RowsRun.xOf m d) (RowsRun.idxOf m d) (RowsRun.keysOf m d) (y 0).val (y 1).val = _
  unfold product factor
  rw [idx_at, key_at, inRange_num (from' (scoresOf m d) (nth y)).isLt, x_at m d _ _ (from' (scoresOf m d) (nth y)).isLt (y 1).isLt]
  exact congrArg (FloatOps.mulf (F := Bits) (φ := .f32) _) (Value.sub_again 1073741823#32 _)

end Cert.Proof.RowsValue

end
-- ==== Proof.lean ====
module

public import proofs.«01_k».proof.Defs
public import proofs.«01_k».proof.Proof.Gen.Kernel
public import proofs.«01_k».proof.Proof.Gen.Reference
public import proofs.«01_k».proof.Proof.Gen.Whole
public import proofs.«01_k».proof.Proof.Gen.Plain
public import proofs.«01_k».proof.Proof.Gen.Plain.Run
public import proofs.«01_k».proof.Proof.Gen.Whole.Skeleton
public import proofs.«01_k».proof.Proof.Main
public import proofs.«01_k».proof.Proof.Ref
public import proofs.«01_k».proof.Proof.Value
public import proofs.«01_k».proof.Proof.RowsValue
public import Idealize.ShloMosaic.Adequacy
public import Idealize.ShloMosaic.Init

@[expose] public section

noncomputable section

namespace Cert.Proof

open Idealize.ShloMosaic Idealize.SL.Sem

/-- The kernel's frame. -/
theorem frame_k : Cert.quiescent_Kernel := fun m g _ =>
  (θ_run Cert.Kernel.defs _ _).mono (fun _ h => ⟨fun c => (h.1 c).1, h.2⟩) (Main.run_main (F := Bits) m g)

/-- The reference's frame. -/
theorem frame_r : Cert.quiescent_Reference := fun m g _ =>
  (θ_run Cert.Reference.defs _ _).mono (fun r h => ⟨fun c => (h c).2.2, Ref.still r.2⟩) (Ref.run_main (F := Bits) m g)

/-- The kernel's frame, of scores that are small enough. -/
theorem frame_k_small : Cert.quiescent_Kernel_pre_below_two := fun m g _ =>
  (θ_run Cert.Kernel.defs _ _).mono (fun _ h => ⟨fun c => (h.1 c).1, h.2⟩) (Main.run_main (F := Bits) m g)

/-- The reference's frame, of scores that are small enough. -/
theorem frame_r_small : Cert.quiescent_Reference_pre_below_two := fun m g _ =>
  (θ_run Cert.Reference.defs _ _).mono (fun r h => ⟨fun c => (h c).2.2, Ref.still r.2⟩) (Ref.run_main (F := Bits) m g)

/-- The kernel's results are the reference's, bit for bit. -/
theorem bits_equal : Cert.bitexact_Kernel_Reference_pre_below_two := fun m g m' g' hx he =>
  ⟨Main.values (F := Bits) m, Main.numbers (F := Bits) m,
    (θ_run Cert.Kernel.defs _ _).mono (fun _ h c => ⟨(h.1 c).2.1, (h.1 c).2.2, (h.1 c).1⟩) (Main.run_main (F := Bits) m g),
    (θ_run Cert.Reference.defs _ _).mono (fun _ h c => by
      obtain ⟨h0, h1, h2⟩ := h c
      refine ⟨h0.trans ?_, h1.trans ?_, h2⟩
      · rw [he c]; exact (Value.values_eq m c (hx c)).symm
      · rw [he c]; exact (Value.numbers_eq m c (hx c)).symm) (Ref.run_main (F := Bits) m' g')⟩

/-- The whole kernel's frame. -/
theorem frame_w : Cert.quiescent_Whole := fun m g _ =>
  (θ_run Cert.Whole.defs _ _).mono (fun _ h => ⟨fun c =>
    ⟨(h.1 c Cert.Whole.main_arg0).trans (RowsRun.final_x m c), (h.1 c Cert.Whole.main_arg1).trans (RowsRun.final_y m c)⟩, h.2⟩) (RowsRun.run_main (F := Bits) m g)

/-- The whole reference's frame. -/
theorem frame_p : Cert.quiescent_Plain := fun m g _ =>
  (θ_run Cert.Plain.defs _ _).mono (fun r h => ⟨fun c => (h c).2.2, sem_eq_zero_of_no_sems (by decide) r.2⟩) (Cert.Plain.Value.run (F := Bits) m g)

/-- The whole kernel's results are the whole reference's, bit for bit. -/
theorem whole_equal : Cert.bitexact_Whole_Plain := fun m g m' g' _ he =>
  ⟨fun c => RowsRun.final (F := Bits) m c (RowsRun.at' Cert.Whole.main_v26), fun c => RowsRun.final (F := Bits) m c (RowsRun.at' Cert.Whole.main_v31),
    (θ_run Cert.Whole.defs _ _).mono (fun _ h c => ⟨h.1 c Cert.Whole.main_v26, h.1 c Cert.Whole.main_v31,
      (h.1 c Cert.Whole.main_arg0).trans (RowsRun.final_x m c), (h.1 c Cert.Whole.main_arg1).trans (RowsRun.final_y m c)⟩) (RowsRun.run_main (F := Bits) m g),
    (θ_run Cert.Plain.defs _ _).mono (fun _ h c => by
      obtain ⟨h0, h1, h2⟩ := h c
      refine ⟨h0.trans ?_, h1.trans ?_, h2⟩
      · beta_reduce; rw [RowsScore.plain_rows, RowsScore.final_rows, RowsValue.rows_eq, (he c).1, (he c).2]; rfl
      · beta_reduce; rw [RowsScore.plain_loss, RowsScore.final_loss, (he c).1, (he c).2]; rfl) (Cert.Plain.Value.run (F := Bits) m' g')⟩

theorem claim : Cert.Claim :=
  ⟨Cert.Kernel.Gen.facts, Cert.Reference.Gen.facts, Cert.Whole.Gen.facts, Cert.Plain.Gen.facts, Value.facts,
    frame_k, frame_k_small, frame_r, frame_r_small, frame_w, frame_p, bits_equal, whole_equal⟩

end Cert.Proof

end
